-- ==== Defs.lean ====
def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite [hPre_finite : Cert.Pre_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4)) (m ((c.tc : Thread Cert.PoolBwdIdeal.nD Cert.PoolBwdIdeal.τ).loc Cert.PoolBwdIdeal.main_arg5))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_finite [hPre_finite : Cert.Pre_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4)) (m ((c.tc : Thread Cert.PoolBwdRefIdeal.nD Cert.PoolBwdRefIdeal.τ).loc Cert.PoolBwdRefIdeal.main_arg5))) = (fun _ => 1#1)

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaBwdIdeal_finite2 [hPre_finite2 : Cert.Pre_finite2.Facts] (m : (ℓ : Loc Cert.GlaBwdIdeal.nD Cert.GlaBwdIdeal.τ Cert.GlaBwdIdeal.sig) → Buf (Elt Ideal) ℓ) : Prop :=
  ∀ c : Dev Cert.GlaBwdIdeal.nD,
    (Cert.Pre_finite2.fn (F := Ideal) (m ((c.tc : Thread Cert.GlaBwdIdeal.nD Cert.GlaBwdIdeal.τ).loc Cert.GlaBwdIdeal.main_arg0)) (m ((c.tc : Thread Cert.GlaBwdIdeal.nD Cert.GlaBwdIdeal.τ).loc Cert.GlaBwdIdeal.main_arg1)) (m ((c.tc : Thread Cert.GlaBwdIdeal.nD Cert.GlaBwdIdeal.τ).loc Cert.GlaBwdIdeal.main_arg2)) (m ((c.tc : Thread Cert.GlaBwdIdeal.nD Cert.GlaBwdIdeal.τ).loc Cert.GlaBwdIdeal.main_arg3)) (m ((c.tc : Thread Cert.GlaBwdIdeal.nD Cert.GlaBwdIdeal.τ).loc Cert.GlaBwdIdeal.main_arg4)) (m ((c.tc : Thread Cert.GlaBwdIdeal.nD Cert.GlaBwdIdeal.τ).loc Cert.GlaBwdIdeal.main_arg5))) = (fun _ => 1#1)

def Pre_GlaBwdRefIdeal (m : (ℓ : Loc Cert.GlaBwdRefIdeal.nD Cert.GlaBwdRefIdeal.τ Cert.GlaBwdRefIdeal.sig) → Buf (Elt Ideal) ℓ) : Prop :=
  True

def Pre_GlaBwdRefIdeal_finite2 [hPre_finite2 : Cert.Pre_finite2.Facts] (m : (ℓ : Loc Cert.GlaBwdRefIdeal.nD Cert.GlaBwdRefIdeal.τ Cert.GlaBwdRefIdeal.sig) → Buf (Elt Ideal) ℓ) : Prop :=
  ∀ c : Dev Cert.GlaBwdRefIdeal.nD,
    (Cert.Pre_finite2.fn (F := Ideal) (m ((c.tc : Thread Cert.GlaBwdRefIdeal.nD Cert.GlaBwdRefIdeal.τ).loc Cert.GlaBwdRefIdeal.main_arg0)) (m ((c.tc : Thread Cert.GlaBwdRefIdeal.nD Cert.GlaBwdRefIdeal.τ).loc Cert.GlaBwdRefIdeal.main_arg1)) (m ((c.tc : Thread Cert.GlaBwdRefIdeal.nD Cert.GlaBwdRefIdeal.τ).loc Cert.GlaBwdRefIdeal.main_arg2)) (m ((c.tc : Thread Cert.GlaBwdRefIdeal.nD Cert.GlaBwdRefIdeal.τ).loc Cert.GlaBwdRefIdeal.main_arg3)) (m ((c.tc : Thread Cert.GlaBwdRefIdeal.nD Cert.GlaBwdRefIdeal.τ).loc Cert.GlaBwdRefIdeal.main_arg4)) (m ((c.tc : Thread Cert.GlaBwdRefIdeal.nD Cert.GlaBwdRefIdeal.τ).loc Cert.GlaBwdRefIdeal.main_arg5))) = (fun _ => 1#1)

def Pre_PoolInBwd (m : (ℓ : Loc Cert.PoolInBwd.nD Cert.PoolInBwd.τ Cert.PoolInBwd.sig) → Buf (Elt Bits) ℓ) : Prop :=
  True

def Pre_PoolInBwdIdeal (m : (ℓ : Loc Cert.PoolInBwdIdeal.nD Cert.PoolInBwdIdeal.τ Cert.PoolInBwdIdeal.sig) → Buf (Elt Ideal) ℓ) : Prop :=
  True

def Pre_PoolInBwdIdeal_finite3 [hPre_finite3 : Cert.Pre_finite3.Facts] (m : (ℓ : Loc Cert.PoolInBwdIdeal.nD Cert.PoolInBwdIdeal.τ Cert.PoolInBwdIdeal.sig) → Buf (Elt Ideal) ℓ) : Prop :=
  ∀ c : Dev Cert.PoolInBwdIdeal.nD,
    (Cert.Pre_finite3.fn (F := Ideal) (m ((c.tc : Thread Cert.PoolInBwdIdeal.nD Cert.PoolInBwdIdeal.τ).loc Cert.PoolInBwdIdeal.main_arg0)) (m ((c.tc : Thread Cert.PoolInBwdIdeal.nD Cert.PoolInBwdIdeal.τ).loc Cert.PoolInBwdIdeal.main_arg1)) (m ((c.tc : Thread Cert.PoolInBwdIdeal.nD Cert.PoolInBwdIdeal.τ).loc Cert.PoolInBwdIdeal.main_arg2)) (m ((c.tc : Thread Cert.PoolInBwdIdeal.nD Cert.PoolInBwdIdeal.τ).loc Cert.PoolInBwdIdeal.main_arg3)) (m ((c.tc : Thread Cert.PoolInBwdIdeal.nD Cert.PoolInBwdIdeal.τ).loc Cert.PoolInBwdIdeal.main_arg4))) = (fun _ => 1#1)

def Pre_PoolInBwdRefIdeal (m : (ℓ : Loc Cert.PoolInBwdRefIdeal.nD Cert.PoolInBwdRefIdeal.τ Cert.PoolInBwdRefIdeal.sig) → Buf (Elt Ideal) ℓ) : Prop :=
  True

def Pre_PoolInBwdRefIdeal_finite3 [hPre_finite3 : Cert.Pre_finite3.Facts] (m : (ℓ : Loc Cert.PoolInBwdRefIdeal.nD Cert.PoolInBwdRefIdeal.τ Cert.PoolInBwdRefIdeal.sig) → Buf (Elt Ideal) ℓ) : Prop :=
  ∀ c : Dev Cert.PoolInBwdRefIdeal.nD,
    (Cert.Pre_finite3.fn (F := Ideal) (m ((c.tc : Thread Cert.PoolInBwdRefIdeal.nD Cert.PoolInBwdRefIdeal.τ).loc Cert.PoolInBwdRefIdeal.main_arg0)) (m ((c.tc : Thread Cert.PoolInBwdRefIdeal.nD Cert.PoolInBwdRefIdeal.τ).loc Cert.PoolInBwdRefIdeal.main_arg1)) (m ((c.tc : Thread Cert.PoolInBwdRefIdeal.nD Cert.PoolInBwdRefIdeal.τ).loc Cert.PoolInBwdRefIdeal.main_arg2)) (m ((c.tc : Thread Cert.PoolInBwdRefIdeal.nD Cert.PoolInBwdRefIdeal.τ).loc Cert.PoolInBwdRefIdeal.main_arg3)) (m ((c.tc : Thread Cert.PoolInBwdRefIdeal.nD Cert.PoolInBwdRefIdeal.τ).loc Cert.PoolInBwdRefIdeal.main_arg4))) = (fun _ => 1#1)

def Pre_GlaInBwd (m : (ℓ : Loc Cert.GlaInBwd.nD Cert.GlaInBwd.τ Cert.GlaInBwd.sig) → Buf (Elt Bits) ℓ) : Prop :=
  True

def Pre_GlaInBwdIdeal (m : (ℓ : Loc Cert.GlaInBwdIdeal.nD Cert.GlaInBwdIdeal.τ Cert.GlaInBwdIdeal.sig) → Buf (Elt Ideal) ℓ) : Prop :=
  True

def Pre_GlaInBwdIdeal_finite4 [hPre_finite4 : Cert.Pre_finite4.Facts] (m : (ℓ : Loc Cert.GlaInBwdIdeal.nD Cert.GlaInBwdIdeal.τ Cert.GlaInBwdIdeal.sig) → Buf (Elt Ideal) ℓ) : Prop :=
  ∀ c : Dev Cert.GlaInBwdIdeal.nD,
    (Cert.Pre_finite4.fn (F := Ideal) (m ((c.tc : Thread Cert.GlaInBwdIdeal.nD Cert.GlaInBwdIdeal.τ).loc Cert.GlaInBwdIdeal.main_arg0)) (m ((c.tc : Thread Cert.GlaInBwdIdeal.nD Cert.GlaInBwdIdeal.τ).loc Cert.GlaInBwdIdeal.main_arg1)) (m ((c.tc : Thread Cert.GlaInBwdIdeal.nD Cert.GlaInBwdIdeal.τ).loc Cert.GlaInBwdIdeal.main_arg2)) (m ((c.tc : Thread Cert.GlaInBwdIdeal.nD Cert.GlaInBwdIdeal.τ).loc Cert.GlaInBwdIdeal.main_arg3)) (m ((c.tc : Thread Cert.GlaInBwdIdeal.nD Cert.GlaInBwdIdeal.τ).loc Cert.GlaInBwdIdeal.main_arg4))) = (fun _ => 1#1)

def Pre_GlaInBwdRefIdeal (m : (ℓ : Loc Cert.GlaInBwdRefIdeal.nD Cert.GlaInBwdRefIdeal.τ Cert.GlaInBwdRefIdeal.sig) → Buf (Elt Ideal) ℓ) : Prop :=
  True

def Pre_GlaInBwdRefIdeal_finite4 [hPre_finite4 : Cert.Pre_finite4.Facts] (m : (ℓ : Loc Cert.GlaInBwdRefIdeal.nD Cert.GlaInBwdRefIdeal.τ Cert.GlaInBwdRefIdeal.sig) → Buf (Elt Ideal) ℓ) : Prop :=
  ∀ c : Dev Cert.GlaInBwdRefIdeal.nD,
    (Cert.Pre_finite4.fn (F := Ideal) (m ((c.tc : Thread Cert.GlaInBwdRefIdeal.nD Cert.GlaInBwdRefIdeal.τ).loc Cert.GlaInBwdRefIdeal.main_arg0)) (m ((c.tc : Thread Cert.GlaInBwdRefIdeal.nD Cert.GlaInBwdRefIdeal.τ).loc Cert.GlaInBwdRefIdeal.main_arg1)) (m ((c.tc : Thread Cert.GlaInBwdRefIdeal.nD Cert.GlaInBwdRefIdeal.τ).loc Cert.GlaInBwdRefIdeal.main_arg2)) (m ((c.tc : Thread Cert.GlaInBwdRefIdeal.nD Cert.GlaInBwdRefIdeal.τ).loc Cert.GlaInBwdRefIdeal.main_arg3)) (m ((c.tc : Thread Cert.GlaInBwdRefIdeal.nD Cert.GlaInBwdRefIdeal.τ).loc Cert.GlaInBwdRefIdeal.main_arg4))) = (fun _ => 1#1)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4)
      ∧ r.2.mem ((c.tc : Thread Cert.PoolBwd.nD Cert.PoolBwd.τ).loc Cert.PoolBwd.main_arg5) = m ((c.tc : Thread Cert.PoolBwd.nD Cert.PoolBwd.τ).loc Cert.PoolBwd.main_arg5))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
      ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5))
      ∧ r.2.sem = fun _ => 0)

def quiescent_PoolBwdIdeal_pre_finite [hPoolBwdIdeal : Cert.PoolBwdIdeal.Facts] [hPre_finite : Cert.Pre_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
      ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4)
      ∧ r.2.mem ((c.tc : Thread Cert.PoolBwdRefIdeal.nD Cert.PoolBwdRefIdeal.τ).loc Cert.PoolBwdRefIdeal.main_arg5) = m ((c.tc : Thread Cert.PoolBwdRefIdeal.nD Cert.PoolBwdRefIdeal.τ).loc Cert.PoolBwdRefIdeal.main_arg5))
      ∧ r.2.sem = fun _ => 0)

def quiescent_PoolBwdRefIdeal_pre_finite [hPoolBwdRefIdeal : Cert.PoolBwdRefIdeal.Facts] [hPre_finite : Cert.Pre_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4)
      ∧ r.2.mem ((c.tc : Thread Cert.PoolBwdRefIdeal.nD Cert.PoolBwdRefIdeal.τ).loc Cert.PoolBwdRefIdeal.main_arg5) = m ((c.tc : Thread Cert.PoolBwdRefIdeal.nD Cert.PoolBwdRefIdeal.τ).loc Cert.PoolBwdRefIdeal.main_arg5))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3)
      ∧ r.2.mem ((c.tc : Thread Cert.GlaBwd.nD Cert.GlaBwd.τ).loc Cert.GlaBwd.main_arg4) = m ((c.tc : Thread Cert.GlaBwd.nD Cert.GlaBwd.τ).loc Cert.GlaBwd.main_arg4)
      ∧ r.2.mem ((c.tc : Thread Cert.GlaBwd.nD Cert.GlaBwd.τ).loc Cert.GlaBwd.main_arg5) = m ((c.tc : Thread Cert.GlaBwd.nD Cert.GlaBwd.τ).loc Cert.GlaBwd.main_arg5))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5))
      ∧ r.2.sem = fun _ => 0)

def quiescent_GlaBwdIdeal_pre_finite2 [hGlaBwdIdeal : Cert.GlaBwdIdeal.Facts] [hPre_finite2 : Cert.Pre_finite2.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal_finite2 m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5))
      ∧ r.2.sem = fun _ => 0)

def quiescent_GlaBwdRefIdeal [hGlaBwdRefIdeal : Cert.GlaBwdRefIdeal.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3)
      ∧ r.2.mem ((c.tc : Thread Cert.GlaBwdRefIdeal.nD Cert.GlaBwdRefIdeal.τ).loc Cert.GlaBwdRefIdeal.main_arg4) = m ((c.tc : Thread Cert.GlaBwdRefIdeal.nD Cert.GlaBwdRefIdeal.τ).loc Cert.GlaBwdRefIdeal.main_arg4)
      ∧ r.2.mem ((c.tc : Thread Cert.GlaBwdRefIdeal.nD Cert.GlaBwdRefIdeal.τ).loc Cert.GlaBwdRefIdeal.main_arg5) = m ((c.tc : Thread Cert.GlaBwdRefIdeal.nD Cert.GlaBwdRefIdeal.τ).loc Cert.GlaBwdRefIdeal.main_arg5))
      ∧ r.2.sem = fun _ => 0)

def quiescent_GlaBwdRefIdeal_pre_finite2 [hGlaBwdRefIdeal : Cert.GlaBwdRefIdeal.Facts] [hPre_finite2 : Cert.Pre_finite2.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal_finite2 m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3)
      ∧ r.2.mem ((c.tc : Thread Cert.GlaBwdRefIdeal.nD Cert.GlaBwdRefIdeal.τ).loc Cert.GlaBwdRefIdeal.main_arg4) = m ((c.tc : Thread Cert.GlaBwdRefIdeal.nD Cert.GlaBwdRefIdeal.τ).loc Cert.GlaBwdRefIdeal.main_arg4)
      ∧ r.2.mem ((c.tc : Thread Cert.GlaBwdRefIdeal.nD Cert.GlaBwdRefIdeal.τ).loc Cert.GlaBwdRefIdeal.main_arg5) = m ((c.tc : Thread Cert.GlaBwdRefIdeal.nD Cert.GlaBwdRefIdeal.τ).loc Cert.GlaBwdRefIdeal.main_arg5))
      ∧ r.2.sem = fun _ => 0)

def quiescent_PoolInBwd [hPoolInBwd : Cert.PoolInBwd.Facts] : Prop :=
  ∀ (m : (ℓ : Loc Cert.PoolInBwd.nD Cert.PoolInBwd.τ Cert.PoolInBwd.sig) → Buf (Elt Bits) ℓ) (g : Dev Cert.PoolInBwd.nD → PrngReg), Pre_PoolInBwd m →
    θ_run (Cert.PoolInBwd.defs (F := Bits)) (onTc (τ := Cert.PoolInBwd.τ) (Cert.PoolInBwd.main (F := Bits))) ⟨m, fun _ => 0, g⟩ (fun r => (∀ c : Dev Cert.PoolInBwd.nD,
      r.2.mem ((c.tc : Thread Cert.PoolInBwd.nD Cert.PoolInBwd.τ).loc Cert.PoolInBwd.main_arg0) = m ((c.tc : Thread Cert.PoolInBwd.nD Cert.PoolInBwd.τ).loc Cert.PoolInBwd.main_arg0)
      ∧ r.2.mem ((c.tc : Thread Cert.PoolInBwd.nD Cert.PoolInBwd.τ).loc Cert.PoolInBwd.main_arg1) = m ((c.tc : Thread Cert.PoolInBwd.nD Cert.PoolInBwd.τ).loc Cert.PoolInBwd.main_arg1)
      ∧ r.2.mem ((c.tc : Thread Cert.PoolInBwd.nD Cert.PoolInBwd.τ).loc Cert.PoolInBwd.main_arg2) = m ((c.tc : Thread Cert.PoolInBwd.nD Cert.PoolInBwd.τ).loc Cert.PoolInBwd.main_arg2)
      ∧ r.2.mem ((c.tc : Thread Cert.PoolInBwd.nD Cert.PoolInBwd.τ).loc Cert.PoolInBwd.main_arg3) = m ((c.tc : Thread Cert.PoolInBwd.nD Cert.PoolInBwd.τ).loc Cert.PoolInBwd.main_arg3)
      ∧ r.2.mem ((c.tc : Thread Cert.PoolInBwd.nD Cert.PoolInBwd.τ).loc Cert.PoolInBwd.main_arg4) = m ((c.tc : Thread Cert.PoolInBwd.nD Cert.PoolInBwd.τ).loc Cert.PoolInBwd.main_arg4))
      ∧ r.2.sem = fun _ => 0)

def quiescent_PoolInBwdIdeal [hPoolInBwdIdeal : Cert.PoolInBwdIdeal.Facts] : Prop :=
  ∀ (m : (ℓ : Loc Cert.PoolInBwdIdeal.nD Cert.PoolInBwdIdeal.τ Cert.PoolInBwdIdeal.sig) → Buf (Elt Ideal) ℓ) (g : Dev Cert.PoolInBwdIdeal.nD → PrngReg), Pre_PoolInBwdIdeal m →
    θ_run (Cert.PoolInBwdIdeal.defs (F := Ideal)) (onTc (τ := Cert.PoolInBwdIdeal.τ) (Cert.PoolInBwdIdeal.main (F := Ideal))) ⟨m, fun _ => 0, g⟩ (fun r => (∀ c : Dev Cert.PoolInBwdIdeal.nD,
      r.2.mem ((c.tc : Thread Cert.PoolInBwdIdeal.nD Cert.PoolInBwdIdeal.τ).loc Cert.PoolInBwdIdeal.main_arg0) = m ((c.tc : Thread Cert.PoolInBwdIdeal.nD Cert.PoolInBwdIdeal.τ).loc Cert.PoolInBwdIdeal.main_arg0)
      ∧ r.2.mem ((c.tc : Thread Cert.PoolInBwdIdeal.nD Cert.PoolInBwdIdeal.τ).loc Cert.PoolInBwdIdeal.main_arg1) = m ((c.tc : Thread Cert.PoolInBwdIdeal.nD Cert.PoolInBwdIdeal.τ).loc Cert.PoolInBwdIdeal.main_arg1)
      ∧ r.2.mem ((c.tc : Thread Cert.PoolInBwdIdeal.nD Cert.PoolInBwdIdeal.τ).loc Cert.PoolInBwdIdeal.main_arg2) = m ((c.tc : Thread Cert.PoolInBwdIdeal.nD Cert.PoolInBwdIdeal.τ).loc Cert.PoolInBwdIdeal.main_arg2)
      ∧ r.2.mem ((c.tc : Thread Cert.PoolInBwdIdeal.nD Cert.PoolInBwdIdeal.τ).loc Cert.PoolInBwdIdeal.main_arg3) = m ((c.tc : Thread Cert.PoolInBwdIdeal.nD Cert.PoolInBwdIdeal.τ).loc Cert.PoolInBwdIdeal.main_arg3)
      ∧ r.2.mem ((c.tc : Thread Cert.PoolInBwdIdeal.nD Cert.PoolInBwdIdeal.τ).loc Cert.PoolInBwdIdeal.main_arg4) = m ((c.tc : Thread Cert.PoolInBwdIdeal.nD Cert.PoolInBwdIdeal.τ).loc Cert.PoolInBwdIdeal.main_arg4))
      ∧ r.2.sem = fun _ => 0)

def quiescent_PoolInBwdIdeal_pre_finite3 [hPoolInBwdIdeal : Cert.PoolInBwdIdeal.Facts] [hPre_finite3 : Cert.Pre_finite3.Facts] : Prop :=
  ∀ (m : (ℓ : Loc Cert.PoolInBwdIdeal.nD Cert.PoolInBwdIdeal.τ Cert.PoolInBwdIdeal.sig) → Buf (Elt Ideal) ℓ) (g : Dev Cert.PoolInBwdIdeal.nD → PrngReg), Pre_PoolInBwdIdeal_finite3 m →
    θ_run (Cert.PoolInBwdIdeal.defs (F := Ideal)) (onTc (τ := Cert.PoolInBwdIdeal.τ) (Cert.PoolInBwdIdeal.main (F := Ideal))) ⟨m, fun _ => 0, g⟩ (fun r => (∀ c : Dev Cert.PoolInBwdIdeal.nD,
      r.2.mem ((c.tc : Thread Cert.PoolInBwdIdeal.nD Cert.PoolInBwdIdeal.τ).loc Cert.PoolInBwdIdeal.main_arg0) = m ((c.tc : Thread Cert.PoolInBwdIdeal.nD Cert.PoolInBwdIdeal.τ).loc Cert.PoolInBwdIdeal.main_arg0)
      ∧ r.2.mem ((c.tc : Thread Cert.PoolInBwdIdeal.nD Cert.PoolInBwdIdeal.τ).loc Cert.PoolInBwdIdeal.main_arg1) = m ((c.tc : Thread Cert.PoolInBwdIdeal.nD Cert.PoolInBwdIdeal.τ).loc Cert.PoolInBwdIdeal.main_arg1)
      ∧ r.2.mem ((c.tc : Thread Cert.PoolInBwdIdeal.nD Cert.PoolInBwdIdeal.τ).loc Cert.PoolInBwdIdeal.main_arg2) = m ((c.tc : Thread Cert.PoolInBwdIdeal.nD Cert.PoolInBwdIdeal.τ).loc Cert.PoolInBwdIdeal.main_arg2)
      ∧ r.2.mem ((c.tc : Thread Cert.PoolInBwdIdeal.nD Cert.PoolInBwdIdeal.τ).loc Cert.PoolInBwdIdeal.main_arg3) = m ((c.tc : Thread Cert.PoolInBwdIdeal.nD Cert.PoolInBwdIdeal.τ).loc Cert.PoolInBwdIdeal.main_arg3)
      ∧ r.2.mem ((c.tc : Thread Cert.PoolInBwdIdeal.nD Cert.PoolInBwdIdeal.τ).loc Cert.PoolInBwdIdeal.main_arg4) = m ((c.tc : Thread Cert.PoolInBwdIdeal.nD Cert.PoolInBwdIdeal.τ).loc Cert.PoolInBwdIdeal.main_arg4))
      ∧ r.2.sem = fun _ => 0)

def quiescent_PoolInBwdRefIdeal [hPoolInBwdRefIdeal : Cert.PoolInBwdRefIdeal.Facts] : Prop :=
  ∀ (m : (ℓ : Loc Cert.PoolInBwdRefIdeal.nD Cert.PoolInBwdRefIdeal.τ Cert.PoolInBwdRefIdeal.sig) → Buf (Elt Ideal) ℓ) (g : Dev Cert.PoolInBwdRefIdeal.nD → PrngReg), Pre_PoolInBwdRefIdeal m →
    θ_run (Cert.PoolInBwdRefIdeal.defs (F := Ideal)) (onTc (τ := Cert.PoolInBwdRefIdeal.τ) (Cert.PoolInBwdRefIdeal.main (F := Ideal))) ⟨m, fun _ => 0, g⟩ (fun r => (∀ c : Dev Cert.PoolInBwdRefIdeal.nD,
      r.2.mem ((c.tc : Thread Cert.PoolInBwdRefIdeal.nD Cert.PoolInBwdRefIdeal.τ).loc Cert.PoolInBwdRefIdeal.main_arg0) = m ((c.tc : Thread Cert.PoolInBwdRefIdeal.nD Cert.PoolInBwdRefIdeal.τ).loc Cert.PoolInBwdRefIdeal.main_arg0)
      ∧ r.2.mem ((c.tc : Thread Cert.PoolInBwdRefIdeal.nD Cert.PoolInBwdRefIdeal.τ).loc Cert.PoolInBwdRefIdeal.main_arg1) = m ((c.tc : Thread Cert.PoolInBwdRefIdeal.nD Cert.PoolInBwdRefIdeal.τ).loc Cert.PoolInBwdRefIdeal.main_arg1)
      ∧ r.2.mem ((c.tc : Thread Cert.PoolInBwdRefIdeal.nD Cert.PoolInBwdRefIdeal.τ).loc Cert.PoolInBwdRefIdeal.main_arg2) = m ((c.tc : Thread Cert.PoolInBwdRefIdeal.nD Cert.PoolInBwdRefIdeal.τ).loc Cert.PoolInBwdRefIdeal.main_arg2)
      ∧ r.2.mem ((c.tc : Thread Cert.PoolInBwdRefIdeal.nD Cert.PoolInBwdRefIdeal.τ).loc Cert.PoolInBwdRefIdeal.main_arg3) = m ((c.tc : Thread Cert.PoolInBwdRefIdeal.nD Cert.PoolInBwdRefIdeal.τ).loc Cert.PoolInBwdRefIdeal.main_arg3)
      ∧ r.2.mem ((c.tc : Thread Cert.PoolInBwdRefIdeal.nD Cert.PoolInBwdRefIdeal.τ).loc Cert.PoolInBwdRefIdeal.main_arg4) = m ((c.tc : Thread Cert.PoolInBwdRefIdeal.nD Cert.PoolInBwdRefIdeal.τ).loc Cert.PoolInBwdRefIdeal.main_arg4))
      ∧ r.2.sem = fun _ => 0)

def quiescent_PoolInBwdRefIdeal_pre_finite3 [hPoolInBwdRefIdeal : Cert.PoolInBwdRefIdeal.Facts] [hPre_finite3 : Cert.Pre_finite3.Facts] : Prop :=
  ∀ (m : (ℓ : Loc Cert.PoolInBwdRefIdeal.nD Cert.PoolInBwdRefIdeal.τ Cert.PoolInBwdRefIdeal.sig) → Buf (Elt Ideal) ℓ) (g : Dev Cert.PoolInBwdRefIdeal.nD → PrngReg), Pre_PoolInBwdRefIdeal_finite3 m →
    θ_run (Cert.PoolInBwdRefIdeal.defs (F := Ideal)) (onTc (τ := Cert.PoolInBwdRefIdeal.τ) (Cert.PoolInBwdRefIdeal.main (F := Ideal))) ⟨m, fun _ => 0, g⟩ (fun r => (∀ c : Dev Cert.PoolInBwdRefIdeal.nD,
      r.2.mem ((c.tc : Thread Cert.PoolInBwdRefIdeal.nD Cert.PoolInBwdRefIdeal.τ).loc Cert.PoolInBwdRefIdeal.main_arg0) = m ((c.tc : Thread Cert.PoolInBwdRefIdeal.nD Cert.PoolInBwdRefIdeal.τ).loc Cert.PoolInBwdRefIdeal.main_arg0)
      ∧ r.2.mem ((c.tc : Thread Cert.PoolInBwdRefIdeal.nD Cert.PoolInBwdRefIdeal.τ).loc Cert.PoolInBwdRefIdeal.main_arg1) = m ((c.tc : Thread Cert.PoolInBwdRefIdeal.nD Cert.PoolInBwdRefIdeal.τ).loc Cert.PoolInBwdRefIdeal.main_arg1)
      ∧ r.2.mem ((c.tc : Thread Cert.PoolInBwdRefIdeal.nD Cert.PoolInBwdRefIdeal.τ).loc Cert.PoolInBwdRefIdeal.main_arg2) = m ((c.tc : Thread Cert.PoolInBwdRefIdeal.nD Cert.PoolInBwdRefIdeal.τ).loc Cert.PoolInBwdRefIdeal.main_arg2)
      ∧ r.2.mem ((c.tc : Thread Cert.PoolInBwdRefIdeal.nD Cert.PoolInBwdRefIdeal.τ).loc Cert.PoolInBwdRefIdeal.main_arg3) = m ((c.tc : Thread Cert.PoolInBwdRefIdeal.nD Cert.PoolInBwdRefIdeal.τ).loc Cert.PoolInBwdRefIdeal.main_arg3)
      ∧ r.2.mem ((c.tc : Thread Cert.PoolInBwdRefIdeal.nD Cert.PoolInBwdRefIdeal.τ).loc Cert.PoolInBwdRefIdeal.main_arg4) = m ((c.tc : Thread Cert.PoolInBwdRefIdeal.nD Cert.PoolInBwdRefIdeal.τ).loc Cert.PoolInBwdRefIdeal.main_arg4))
      ∧ r.2.sem = fun _ => 0)

def quiescent_GlaInBwd [hGlaInBwd : Cert.GlaInBwd.Facts] : Prop :=
  ∀ (m : (ℓ : Loc Cert.GlaInBwd.nD Cert.GlaInBwd.τ Cert.GlaInBwd.sig) → Buf (Elt Bits) ℓ) (g : Dev Cert.GlaInBwd.nD → PrngReg), Pre_GlaInBwd m →
    θ_run (Cert.GlaInBwd.defs (F := Bits)) (onTc (τ := Cert.GlaInBwd.τ) (Cert.GlaInBwd.main (F := Bits))) ⟨m, fun _ => 0, g⟩ (fun r => (∀ c : Dev Cert.GlaInBwd.nD,
      r.2.mem ((c.tc : Thread Cert.GlaInBwd.nD Cert.GlaInBwd.τ).loc Cert.GlaInBwd.main_arg0) = m ((c.tc : Thread Cert.GlaInBwd.nD Cert.GlaInBwd.τ).loc Cert.GlaInBwd.main_arg0)
      ∧ r.2.mem ((c.tc : Thread Cert.GlaInBwd.nD Cert.GlaInBwd.τ).loc Cert.GlaInBwd.main_arg1) = m ((c.tc : Thread Cert.GlaInBwd.nD Cert.GlaInBwd.τ).loc Cert.GlaInBwd.main_arg1)
      ∧ r.2.mem ((c.tc : Thread Cert.GlaInBwd.nD Cert.GlaInBwd.τ).loc Cert.GlaInBwd.main_arg2) = m ((c.tc : Thread Cert.GlaInBwd.nD Cert.GlaInBwd.τ).loc Cert.GlaInBwd.main_arg2)
      ∧ r.2.mem ((c.tc : Thread Cert.GlaInBwd.nD Cert.GlaInBwd.τ).loc Cert.GlaInBwd.main_arg3) = m ((c.tc : Thread Cert.GlaInBwd.nD Cert.GlaInBwd.τ).loc Cert.GlaInBwd.main_arg3)
      ∧ r.2.mem ((c.tc : Thread Cert.GlaInBwd.nD Cert.GlaInBwd.τ).loc Cert.GlaInBwd.main_arg4) = m ((c.tc : Thread Cert.GlaInBwd.nD Cert.GlaInBwd.τ).loc Cert.GlaInBwd.main_arg4))
      ∧ r.2.sem = fun _ => 0)

def quiescent_GlaInBwdIdeal [hGlaInBwdIdeal : Cert.GlaInBwdIdeal.Facts] : Prop :=
  ∀ (m : (ℓ : Loc Cert.GlaInBwdIdeal.nD Cert.GlaInBwdIdeal.τ Cert.GlaInBwdIdeal.sig) → Buf (Elt Ideal) ℓ) (g : Dev Cert.GlaInBwdIdeal.nD → PrngReg), Pre_GlaInBwdIdeal m →
    θ_run (Cert.GlaInBwdIdeal.defs (F := Ideal)) (onTc (τ := Cert.GlaInBwdIdeal.τ) (Cert.GlaInBwdIdeal.main (F := Ideal))) ⟨m, fun _ => 0, g⟩ (fun r => (∀ c : Dev Cert.GlaInBwdIdeal.nD,
      r.2.mem ((c.tc : Thread Cert.GlaInBwdIdeal.nD Cert.GlaInBwdIdeal.τ).loc Cert.GlaInBwdIdeal.main_arg0) = m ((c.tc : Thread Cert.GlaInBwdIdeal.nD Cert.GlaInBwdIdeal.τ).loc Cert.GlaInBwdIdeal.main_arg0)
      ∧ r.2.mem ((c.tc : Thread Cert.GlaInBwdIdeal.nD Cert.GlaInBwdIdeal.τ).loc Cert.GlaInBwdIdeal.main_arg1) = m ((c.tc : Thread Cert.GlaInBwdIdeal.nD Cert.GlaInBwdIdeal.τ).loc Cert.GlaInBwdIdeal.main_arg1)
      ∧ r.2.mem ((c.tc : Thread Cert.GlaInBwdIdeal.nD Cert.GlaInBwdIdeal.τ).loc Cert.GlaInBwdIdeal.main_arg2) = m ((c.tc : Thread Cert.GlaInBwdIdeal.nD Cert.GlaInBwdIdeal.τ).loc Cert.GlaInBwdIdeal.main_arg2)
      ∧ r.2.mem ((c.tc : Thread Cert.GlaInBwdIdeal.nD Cert.GlaInBwdIdeal.τ).loc Cert.GlaInBwdIdeal.main_arg3) = m ((c.tc : Thread Cert.GlaInBwdIdeal.nD Cert.GlaInBwdIdeal.τ).loc Cert.GlaInBwdIdeal.main_arg3)
      ∧ r.2.mem ((c.tc : Thread Cert.GlaInBwdIdeal.nD Cert.GlaInBwdIdeal.τ).loc Cert.GlaInBwdIdeal.main_arg4) = m ((c.tc : Thread Cert.GlaInBwdIdeal.nD Cert.GlaInBwdIdeal.τ).loc Cert.GlaInBwdIdeal.main_arg4))
      ∧ r.2.sem = fun _ => 0)

def quiescent_GlaInBwdIdeal_pre_finite4 [hGlaInBwdIdeal : Cert.GlaInBwdIdeal.Facts] [hPre_finite4 : Cert.Pre_finite4.Facts] : Prop :=
  ∀ (m : (ℓ : Loc Cert.GlaInBwdIdeal.nD Cert.GlaInBwdIdeal.τ Cert.GlaInBwdIdeal.sig) → Buf (Elt Ideal) ℓ) (g : Dev Cert.GlaInBwdIdeal.nD → PrngReg), Pre_GlaInBwdIdeal_finite4 m →
    θ_run (Cert.GlaInBwdIdeal.defs (F := Ideal)) (onTc (τ := Cert.GlaInBwdIdeal.τ) (Cert.GlaInBwdIdeal.main (F := Ideal))) ⟨m, fun _ => 0, g⟩ (fun r => (∀ c : Dev Cert.GlaInBwdIdeal.nD,
      r.2.mem ((c.tc : Thread Cert.GlaInBwdIdeal.nD Cert.GlaInBwdIdeal.τ).loc Cert.GlaInBwdIdeal.main_arg0) = m ((c.tc : Thread Cert.GlaInBwdIdeal.nD Cert.GlaInBwdIdeal.τ).loc Cert.GlaInBwdIdeal.main_arg0)
      ∧ r.2.mem ((c.tc : Thread Cert.GlaInBwdIdeal.nD Cert.GlaInBwdIdeal.τ).loc Cert.GlaInBwdIdeal.main_arg1) = m ((c.tc : Thread Cert.GlaInBwdIdeal.nD Cert.GlaInBwdIdeal.τ).loc Cert.GlaInBwdIdeal.main_arg1)
      ∧ r.2.mem ((c.tc : Thread Cert.GlaInBwdIdeal.nD Cert.GlaInBwdIdeal.τ).loc Cert.GlaInBwdIdeal.main_arg2) = m ((c.tc : Thread Cert.GlaInBwdIdeal.nD Cert.GlaInBwdIdeal.τ).loc Cert.GlaInBwdIdeal.main_arg2)
      ∧ r.2.mem ((c.tc : Thread Cert.GlaInBwdIdeal.nD Cert.GlaInBwdIdeal.τ).loc Cert.GlaInBwdIdeal.main_arg3) = m ((c.tc : Thread Cert.GlaInBwdIdeal.nD Cert.GlaInBwdIdeal.τ).loc Cert.GlaInBwdIdeal.main_arg3)
      ∧ r.2.mem ((c.tc : Thread Cert.GlaInBwdIdeal.nD Cert.GlaInBwdIdeal.τ).loc Cert.GlaInBwdIdeal.main_arg4) = m ((c.tc : Thread Cert.GlaInBwdIdeal.nD Cert.GlaInBwdIdeal.τ).loc Cert.GlaInBwdIdeal.main_arg4))
      ∧ r.2.sem = fun _ => 0)

def quiescent_GlaInBwdRefIdeal [hGlaInBwdRefIdeal : Cert.GlaInBwdRefIdeal.Facts] : Prop :=
  ∀ (m : (ℓ : Loc Cert.GlaInBwdRefIdeal.nD Cert.GlaInBwdRefIdeal.τ Cert.GlaInBwdRefIdeal.sig) → Buf (Elt Ideal) ℓ) (g : Dev Cert.GlaInBwdRefIdeal.nD → PrngReg), Pre_GlaInBwdRefIdeal m →
    θ_run (Cert.GlaInBwdRefIdeal.defs (F := Ideal)) (onTc (τ := Cert.GlaInBwdRefIdeal.τ) (Cert.GlaInBwdRefIdeal.main (F := Ideal))) ⟨m, fun _ => 0, g⟩ (fun r => (∀ c : Dev Cert.GlaInBwdRefIdeal.nD,
      r.2.mem ((c.tc : Thread Cert.GlaInBwdRefIdeal.nD Cert.GlaInBwdRefIdeal.τ).loc Cert.GlaInBwdRefIdeal.main_arg0) = m ((c.tc : Thread Cert.GlaInBwdRefIdeal.nD Cert.GlaInBwdRefIdeal.τ).loc Cert.GlaInBwdRefIdeal.main_arg0)
      ∧ r.2.mem ((c.tc : Thread Cert.GlaInBwdRefIdeal.nD Cert.GlaInBwdRefIdeal.τ).loc Cert.GlaInBwdRefIdeal.main_arg1) = m ((c.tc : Thread Cert.GlaInBwdRefIdeal.nD Cert.GlaInBwdRefIdeal.τ).loc Cert.GlaInBwdRefIdeal.main_arg1)
      ∧ r.2.mem ((c.tc : Thread Cert.GlaInBwdRefIdeal.nD Cert.GlaInBwdRefIdeal.τ).loc Cert.GlaInBwdRefIdeal.main_arg2) = m ((c.tc : Thread Cert.GlaInBwdRefIdeal.nD Cert.GlaInBwdRefIdeal.τ).loc Cert.GlaInBwdRefIdeal.main_arg2)
      ∧ r.2.mem ((c.tc : Thread Cert.GlaInBwdRefIdeal.nD Cert.GlaInBwdRefIdeal.τ).loc Cert.GlaInBwdRefIdeal.main_arg3) = m ((c.tc : Thread Cert.GlaInBwdRefIdeal.nD Cert.GlaInBwdRefIdeal.τ).loc Cert.GlaInBwdRefIdeal.main_arg3)
      ∧ r.2.mem ((c.tc : Thread Cert.GlaInBwdRefIdeal.nD Cert.GlaInBwdRefIdeal.τ).loc Cert.GlaInBwdRefIdeal.main_arg4) = m ((c.tc : Thread Cert.GlaInBwdRefIdeal.nD Cert.GlaInBwdRefIdeal.τ).loc Cert.GlaInBwdRefIdeal.main_arg4))
      ∧ r.2.sem = fun _ => 0)

def quiescent_GlaInBwdRefIdeal_pre_finite4 [hGlaInBwdRefIdeal : Cert.GlaInBwdRefIdeal.Facts] [hPre_finite4 : Cert.Pre_finite4.Facts] : Prop :=
  ∀ (m : (ℓ : Loc Cert.GlaInBwdRefIdeal.nD Cert.GlaInBwdRefIdeal.τ Cert.GlaInBwdRefIdeal.sig) → Buf (Elt Ideal) ℓ) (g : Dev Cert.GlaInBwdRefIdeal.nD → PrngReg), Pre_GlaInBwdRefIdeal_finite4 m →
    θ_run (Cert.GlaInBwdRefIdeal.defs (F := Ideal)) (onTc (τ := Cert.GlaInBwdRefIdeal.τ) (Cert.GlaInBwdRefIdeal.main (F := Ideal))) ⟨m, fun _ => 0, g⟩ (fun r => (∀ c : Dev Cert.GlaInBwdRefIdeal.nD,
      r.2.mem ((c.tc : Thread Cert.GlaInBwdRefIdeal.nD Cert.GlaInBwdRefIdeal.τ).loc Cert.GlaInBwdRefIdeal.main_arg0) = m ((c.tc : Thread Cert.GlaInBwdRefIdeal.nD Cert.GlaInBwdRefIdeal.τ).loc Cert.GlaInBwdRefIdeal.main_arg0)
      ∧ r.2.mem ((c.tc : Thread Cert.GlaInBwdRefIdeal.nD Cert.GlaInBwdRefIdeal.τ).loc Cert.GlaInBwdRefIdeal.main_arg1) = m ((c.tc : Thread Cert.GlaInBwdRefIdeal.nD Cert.GlaInBwdRefIdeal.τ).loc Cert.GlaInBwdRefIdeal.main_arg1)
      ∧ r.2.mem ((c.tc : Thread Cert.GlaInBwdRefIdeal.nD Cert.GlaInBwdRefIdeal.τ).loc Cert.GlaInBwdRefIdeal.main_arg2) = m ((c.tc : Thread Cert.GlaInBwdRefIdeal.nD Cert.GlaInBwdRefIdeal.τ).loc Cert.GlaInBwdRefIdeal.main_arg2)
      ∧ r.2.mem ((c.tc : Thread Cert.GlaInBwdRefIdeal.nD Cert.GlaInBwdRefIdeal.τ).loc Cert.GlaInBwdRefIdeal.main_arg3) = m ((c.tc : Thread Cert.GlaInBwdRefIdeal.nD Cert.GlaInBwdRefIdeal.τ).loc Cert.GlaInBwdRefIdeal.main_arg3)
      ∧ r.2.mem ((c.tc : Thread Cert.GlaInBwdRefIdeal.nD Cert.GlaInBwdRefIdeal.τ).loc Cert.GlaInBwdRefIdeal.main_arg4) = m ((c.tc : Thread Cert.GlaInBwdRefIdeal.nD Cert.GlaInBwdRefIdeal.τ).loc Cert.GlaInBwdRefIdeal.main_arg4))
      ∧ r.2.sem = fun _ => 0)

def preserves_PoolBwd_PoolBwdIdeal : Prop :=
  True

def algebraic_PoolBwdIdeal_PoolBwdRefIdeal_pre_finite [hPoolBwdIdeal : Cert.PoolBwdIdeal.Facts] [hPoolBwdRefIdeal : Cert.PoolBwdRefIdeal.Facts] [hPre_finite : Cert.Pre_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)
      ∧ m' ((c.tc : Thread Cert.PoolBwdRefIdeal.nD Cert.PoolBwdRefIdeal.τ).loc Cert.PoolBwdRefIdeal.main_arg4) = m ((c.tc : Thread Cert.PoolBwdIdeal.nD Cert.PoolBwdIdeal.τ).loc Cert.PoolBwdIdeal.main_arg4)
      ∧ m' ((c.tc : Thread Cert.PoolBwdRefIdeal.nD Cert.PoolBwdRefIdeal.τ).loc Cert.PoolBwdRefIdeal.main_arg5) = m ((c.tc : Thread Cert.PoolBwdIdeal.nD Cert.PoolBwdIdeal.τ).loc Cert.PoolBwdIdeal.main_arg5)) →
    ∃ (v0 : (c : Dev Cert.PoolBwdIdeal.nD) → Buf (Elt Ideal) ((c.tc : Thread Cert.PoolBwdIdeal.nD Cert.PoolBwdIdeal.τ).loc Cert.PoolBwdIdeal.main_v105_0)) (v1 : (c : Dev Cert.PoolBwdIdeal.nD) → Buf (Elt Ideal) ((c.tc : Thread Cert.PoolBwdIdeal.nD Cert.PoolBwdIdeal.τ).loc Cert.PoolBwdIdeal.main_v105_1)) (v2 : (c : Dev Cert.PoolBwdIdeal.nD) → Buf (Elt Ideal) ((c.tc : Thread Cert.PoolBwdIdeal.nD Cert.PoolBwdIdeal.τ).loc Cert.PoolBwdIdeal.main_v105_2)) (v3 : (c : Dev Cert.PoolBwdIdeal.nD) → Buf (Elt Ideal) ((c.tc : Thread Cert.PoolBwdIdeal.nD Cert.PoolBwdIdeal.τ).loc Cert.PoolBwdIdeal.main_v105_3)) (v4 : (c : Dev Cert.PoolBwdIdeal.nD) → Buf (Elt Ideal) ((c.tc : Thread Cert.PoolBwdIdeal.nD Cert.PoolBwdIdeal.τ).loc Cert.PoolBwdIdeal.main_v105_4)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v105_0) = v0 c
          ∧ r.2.mem ((c.tc : Thread Cert.PoolBwdIdeal.nD Cert.PoolBwdIdeal.τ).loc Cert.PoolBwdIdeal.main_v105_1) = v1 c
          ∧ r.2.mem ((c.tc : Thread Cert.PoolBwdIdeal.nD Cert.PoolBwdIdeal.τ).loc Cert.PoolBwdIdeal.main_v105_2) = v2 c
          ∧ r.2.mem ((c.tc : Thread Cert.PoolBwdIdeal.nD Cert.PoolBwdIdeal.τ).loc Cert.PoolBwdIdeal.main_v105_3) = v3 c
          ∧ r.2.mem ((c.tc : Thread Cert.PoolBwdIdeal.nD Cert.PoolBwdIdeal.τ).loc Cert.PoolBwdIdeal.main_v105_4) = v4 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
          ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v171) = v0 c
          ∧ r.2.mem ((c.tc : Thread Cert.PoolBwdRefIdeal.nD Cert.PoolBwdRefIdeal.τ).loc Cert.PoolBwdRefIdeal.main_v172) = v1 c
          ∧ r.2.mem ((c.tc : Thread Cert.PoolBwdRefIdeal.nD Cert.PoolBwdRefIdeal.τ).loc Cert.PoolBwdRefIdeal.main_v173) = v2 c
          ∧ r.2.mem ((c.tc : Thread Cert.PoolBwdRefIdeal.nD Cert.PoolBwdRefIdeal.τ).loc Cert.PoolBwdRefIdeal.main_v174) = v3 c
          ∧ r.2.mem ((c.tc : Thread Cert.PoolBwdRefIdeal.nD Cert.PoolBwdRefIdeal.τ).loc Cert.PoolBwdRefIdeal.main_v175) = v4 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3)
          ∧ r.2.mem ((c.tc : Thread Cert.PoolBwdRefIdeal.nD Cert.PoolBwdRefIdeal.τ).loc Cert.PoolBwdRefIdeal.main_arg4) = m' ((c.tc : Thread Cert.PoolBwdRefIdeal.nD Cert.PoolBwdRefIdeal.τ).loc Cert.PoolBwdRefIdeal.main_arg4)
          ∧ r.2.mem ((c.tc : Thread Cert.PoolBwdRefIdeal.nD Cert.PoolBwdRefIdeal.τ).loc Cert.PoolBwdRefIdeal.main_arg5) = m' ((c.tc : Thread Cert.PoolBwdRefIdeal.nD Cert.PoolBwdRefIdeal.τ).loc Cert.PoolBwdRefIdeal.main_arg5))

def preserves_GlaBwd_GlaBwdIdeal : Prop :=
  True

def algebraic_GlaBwdIdeal_GlaBwdRefIdeal_pre_finite2 [hGlaBwdIdeal : Cert.GlaBwdIdeal.Facts] [hGlaBwdRefIdeal : Cert.GlaBwdRefIdeal.Facts] [hPre_finite2 : Cert.Pre_finite2.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg)
    (m' : (ℓ : Loc Cert.GlaBwdRefIdeal.nD Cert.GlaBwdRefIdeal.τ Cert.GlaBwdRefIdeal.sig) → Buf (Elt Ideal) ℓ) (g' : Dev Cert.GlaBwdRefIdeal.nD → PrngReg), Pre_GlaBwdIdeal_finite2 m →
    (∀ c : Dev Cert.GlaBwdIdeal.nD,
      m' ((c.tc : Thread Cert.GlaBwdRefIdeal.nD Cert.GlaBwdRefIdeal.τ).loc Cert.GlaBwdRefIdeal.main_arg0) = m ((c.tc : Thread Cert.GlaBwdIdeal.nD Cert.GlaBwdIdeal.τ).loc Cert.GlaBwdIdeal.main_arg0)
      ∧ m' ((c.tc : Thread Cert.GlaBwdRefIdeal.nD Cert.GlaBwdRefIdeal.τ).loc Cert.GlaBwdRefIdeal.main_arg1) = m ((c.tc : Thread Cert.GlaBwdIdeal.nD Cert.GlaBwdIdeal.τ).loc Cert.GlaBwdIdeal.main_arg1)
      ∧ m' ((c.tc : Thread Cert.GlaBwdRefIdeal.nD Cert.GlaBwdRefIdeal.τ).loc Cert.GlaBwdRefIdeal.main_arg2) = m ((c.tc : Thread Cert.GlaBwdIdeal.nD Cert.GlaBwdIdeal.τ).loc Cert.GlaBwdIdeal.main_arg2)
      ∧ m' ((c.tc : Thread Cert.GlaBwdRefIdeal.nD Cert.GlaBwdRefIdeal.τ).loc Cert.GlaBwdRefIdeal.main_arg3) = m ((c.tc : Thread Cert.GlaBwdIdeal.nD Cert.GlaBwdIdeal.τ).loc Cert.GlaBwdIdeal.main_arg3)
      ∧ m' ((c.tc : Thread Cert.GlaBwdRefIdeal.nD Cert.GlaBwdRefIdeal.τ).loc Cert.GlaBwdRefIdeal.main_arg4) = m ((c.tc : Thread Cert.GlaBwdIdeal.nD Cert.GlaBwdIdeal.τ).loc Cert.GlaBwdIdeal.main_arg4)
      ∧ m' ((c.tc : Thread Cert.GlaBwdRefIdeal.nD Cert.GlaBwdRefIdeal.τ).loc Cert.GlaBwdRefIdeal.main_arg5) = m ((c.tc : Thread Cert.GlaBwdIdeal.nD Cert.GlaBwdIdeal.τ).loc Cert.GlaBwdIdeal.main_arg5)) →
    ∃ (v0 : (c : Dev Cert.GlaBwdIdeal.nD) → Buf (Elt Ideal) ((c.tc : Thread Cert.GlaBwdIdeal.nD Cert.GlaBwdIdeal.τ).loc Cert.GlaBwdIdeal.main_v86_0)) (v1 : (c : Dev Cert.GlaBwdIdeal.nD) → Buf (Elt Ideal) ((c.tc : Thread Cert.GlaBwdIdeal.nD Cert.GlaBwdIdeal.τ).loc Cert.GlaBwdIdeal.main_v86_1)) (v2 : (c : Dev Cert.GlaBwdIdeal.nD) → Buf (Elt Ideal) ((c.tc : Thread Cert.GlaBwdIdeal.nD Cert.GlaBwdIdeal.τ).loc Cert.GlaBwdIdeal.main_v86_2)) (v3 : (c : Dev Cert.GlaBwdIdeal.nD) → Buf (Elt Ideal) ((c.tc : Thread Cert.GlaBwdIdeal.nD Cert.GlaBwdIdeal.τ).loc Cert.GlaBwdIdeal.main_v86_3)) (v4 : (c : Dev Cert.GlaBwdIdeal.nD) → Buf (Elt Ideal) ((c.tc : Thread Cert.GlaBwdIdeal.nD Cert.GlaBwdIdeal.τ).loc Cert.GlaBwdIdeal.main_v86_4)),
      θ_run (Cert.GlaBwdIdeal.defs (F := Ideal)) (onTc (τ := Cert.GlaBwdIdeal.τ) (Cert.GlaBwdIdeal.main (F := Ideal))) ⟨m, fun _ => 0, g⟩ (fun r => ∀ c : Dev Cert.GlaBwdIdeal.nD,
          r.2.mem ((c.tc : Thread Cert.GlaBwdIdeal.nD Cert.GlaBwdIdeal.τ).loc Cert.GlaBwdIdeal.main_v86_0) = v0 c
          ∧ r.2.mem ((c.tc : Thread Cert.GlaBwdIdeal.nD Cert.GlaBwdIdeal.τ).loc Cert.GlaBwdIdeal.main_v86_1) = v1 c
          ∧ r.2.mem ((c.tc : Thread Cert.GlaBwdIdeal.nD Cert.GlaBwdIdeal.τ).loc Cert.GlaBwdIdeal.main_v86_2) = v2 c
          ∧ r.2.mem ((c.tc : Thread Cert.GlaBwdIdeal.nD Cert.GlaBwdIdeal.τ).loc Cert.GlaBwdIdeal.main_v86_3) = v3 c
          ∧ r.2.mem ((c.tc : Thread Cert.GlaBwdIdeal.nD Cert.GlaBwdIdeal.τ).loc Cert.GlaBwdIdeal.main_v86_4) = v4 c
          ∧ r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
          ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
          ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
          ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
          ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
          ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5))
      ∧ θ_run (Cert.GlaBwdRefIdeal.defs (F := Ideal)) (onTc (τ := Cert.GlaBwdRefIdeal.τ) (Cert.GlaBwdRefIdeal.main (F := Ideal))) ⟨m', fun _ => 0, g'⟩ (fun r => ∀ c : Dev Cert.GlaBwdRefIdeal.nD,
          r.2.mem ((c.tc : Thread Cert.GlaBwdRefIdeal.nD Cert.GlaBwdRefIdeal.τ).loc Cert.GlaBwdRefIdeal.main_v219) = v0 c
          ∧ r.2.mem ((c.tc : Thread Cert.GlaBwdRefIdeal.nD Cert.GlaBwdRefIdeal.τ).loc Cert.GlaBwdRefIdeal.main_v221) = v1 c
          ∧ r.2.mem ((c.tc : Thread Cert.GlaBwdRefIdeal.nD Cert.GlaBwdRefIdeal.τ).loc Cert.GlaBwdRefIdeal.main_v222) = v2 c
          ∧ r.2.mem ((c.tc : Thread Cert.GlaBwdRefIdeal.nD Cert.GlaBwdRefIdeal.τ).loc Cert.GlaBwdRefIdeal.main_v220) = v3 c
          ∧ r.2.mem ((c.tc : Thread Cert.GlaBwdRefIdeal.nD Cert.GlaBwdRefIdeal.τ).loc Cert.GlaBwdRefIdeal.main_v223) = v4 c
          ∧ r.2.mem ((c.tc : Thread Cert.GlaBwdRefIdeal.nD Cert.GlaBwdRefIdeal.τ).loc Cert.GlaBwdRefIdeal.main_arg0) = m' ((c.tc : Thread Cert.GlaBwdRefIdeal.nD Cert.GlaBwdRefIdeal.τ).loc Cert.GlaBwdRefIdeal.main_arg0)
          ∧ r.2.mem ((c.tc : Thread Cert.GlaBwdRefIdeal.nD Cert.GlaBwdRefIdeal.τ).loc Cert.GlaBwdRefIdeal.main_arg1) = m' ((c.tc : Thread Cert.GlaBwdRefIdeal.nD Cert.GlaBwdRefIdeal.τ).loc Cert.GlaBwdRefIdeal.main_arg1)
          ∧ r.2.mem ((c.tc : Thread Cert.GlaBwdRefIdeal.nD Cert.GlaBwdRefIdeal.τ).loc Cert.GlaBwdRefIdeal.main_arg2) = m' ((c.tc : Thread Cert.GlaBwdRefIdeal.nD Cert.GlaBwdRefIdeal.τ).loc Cert.GlaBwdRefIdeal.main_arg2)
          ∧ r.2.mem ((c.tc : Thread Cert.GlaBwdRefIdeal.nD Cert.GlaBwdRefIdeal.τ).loc Cert.GlaBwdRefIdeal.main_arg3) = m' ((c.tc : Thread Cert.GlaBwdRefIdeal.nD Cert.GlaBwdRefIdeal.τ).loc Cert.GlaBwdRefIdeal.main_arg3)
          ∧ r.2.mem ((c.tc : Thread Cert.GlaBwdRefIdeal.nD Cert.GlaBwdRefIdeal.τ).loc Cert.GlaBwdRefIdeal.main_arg4) = m' ((c.tc : Thread Cert.GlaBwdRefIdeal.nD Cert.GlaBwdRefIdeal.τ).loc Cert.GlaBwdRefIdeal.main_arg4)
          ∧ r.2.mem ((c.tc : Thread Cert.GlaBwdRefIdeal.nD Cert.GlaBwdRefIdeal.τ).loc Cert.GlaBwdRefIdeal.main_arg5) = m' ((c.tc : Thread Cert.GlaBwdRefIdeal.nD Cert.GlaBwdRefIdeal.τ).loc Cert.GlaBwdRefIdeal.main_arg5))

def preserves_PoolInBwd_PoolInBwdIdeal : Prop :=
  True

def algebraic_PoolInBwdIdeal_PoolInBwdRefIdeal_pre_finite3 [hPoolInBwdIdeal : Cert.PoolInBwdIdeal.Facts] [hPoolInBwdRefIdeal : Cert.PoolInBwdRefIdeal.Facts] [hPre_finite3 : Cert.Pre_finite3.Facts] : Prop :=
  ∀ (m : (ℓ : Loc Cert.PoolInBwdIdeal.nD Cert.PoolInBwdIdeal.τ Cert.PoolInBwdIdeal.sig) → Buf (Elt Ideal) ℓ) (g : Dev Cert.PoolInBwdIdeal.nD → PrngReg)
    (m' : (ℓ : Loc Cert.PoolInBwdRefIdeal.nD Cert.PoolInBwdRefIdeal.τ Cert.PoolInBwdRefIdeal.sig) → Buf (Elt Ideal) ℓ) (g' : Dev Cert.PoolInBwdRefIdeal.nD → PrngReg), Pre_PoolInBwdIdeal_finite3 m →
    (∀ c : Dev Cert.PoolInBwdIdeal.nD,
      m' ((c.tc : Thread Cert.PoolInBwdRefIdeal.nD Cert.PoolInBwdRefIdeal.τ).loc Cert.PoolInBwdRefIdeal.main_arg0) = m ((c.tc : Thread Cert.PoolInBwdIdeal.nD Cert.PoolInBwdIdeal.τ).loc Cert.PoolInBwdIdeal.main_arg0)
      ∧ m' ((c.tc : Thread Cert.PoolInBwdRefIdeal.nD Cert.PoolInBwdRefIdeal.τ).loc Cert.PoolInBwdRefIdeal.main_arg1) = m ((c.tc : Thread Cert.PoolInBwdIdeal.nD Cert.PoolInBwdIdeal.τ).loc Cert.PoolInBwdIdeal.main_arg1)
      ∧ m' ((c.tc : Thread Cert.PoolInBwdRefIdeal.nD Cert.PoolInBwdRefIdeal.τ).loc Cert.PoolInBwdRefIdeal.main_arg2) = m ((c.tc : Thread Cert.PoolInBwdIdeal.nD Cert.PoolInBwdIdeal.τ).loc Cert.PoolInBwdIdeal.main_arg2)
      ∧ m' ((c.tc : Thread Cert.PoolInBwdRefIdeal.nD Cert.PoolInBwdRefIdeal.τ).loc Cert.PoolInBwdRefIdeal.main_arg3) = m ((c.tc : Thread Cert.PoolInBwdIdeal.nD Cert.PoolInBwdIdeal.τ).loc Cert.PoolInBwdIdeal.main_arg3)
      ∧ m' ((c.tc : Thread Cert.PoolInBwdRefIdeal.nD Cert.PoolInBwdRefIdeal.τ).loc Cert.PoolInBwdRefIdeal.main_arg4) = m ((c.tc : Thread Cert.PoolInBwdIdeal.nD Cert.PoolInBwdIdeal.τ).loc Cert.PoolInBwdIdeal.main_arg4)) →
    ∃ (v0 : (c : Dev Cert.PoolInBwdIdeal.nD) → Buf (Elt Ideal) ((c.tc : Thread Cert.PoolInBwdIdeal.nD Cert.PoolInBwdIdeal.τ).loc Cert.PoolInBwdIdeal.main_v4_0)) (v1 : (c : Dev Cert.PoolInBwdIdeal.nD) → Buf (Elt Ideal) ((c.tc : Thread Cert.PoolInBwdIdeal.nD Cert.PoolInBwdIdeal.τ).loc Cert.PoolInBwdIdeal.main_v4_1)) (v2 : (c : Dev Cert.PoolInBwdIdeal.nD) → Buf (Elt Ideal) ((c.tc : Thread Cert.PoolInBwdIdeal.nD Cert.PoolInBwdIdeal.τ).loc Cert.PoolInBwdIdeal.main_v4_2)),
      θ_run (Cert.PoolInBwdIdeal.defs (F := Ideal)) (onTc (τ := Cert.PoolInBwdIdeal.τ) (Cert.PoolInBwdIdeal.main (F := Ideal))) ⟨m, fun _ => 0, g⟩ (fun r => ∀ c : Dev Cert.PoolInBwdIdeal.nD,
          r.2.mem ((c.tc : Thread Cert.PoolInBwdIdeal.nD Cert.PoolInBwdIdeal.τ).loc Cert.PoolInBwdIdeal.main_v4_0) = v0 c
          ∧ r.2.mem ((c.tc : Thread Cert.PoolInBwdIdeal.nD Cert.PoolInBwdIdeal.τ).loc Cert.PoolInBwdIdeal.main_v4_1) = v1 c
          ∧ r.2.mem ((c.tc : Thread Cert.PoolInBwdIdeal.nD Cert.PoolInBwdIdeal.τ).loc Cert.PoolInBwdIdeal.main_v4_2) = v2 c
          ∧ r.2.mem ((c.tc : Thread Cert.PoolInBwdIdeal.nD Cert.PoolInBwdIdeal.τ).loc Cert.PoolInBwdIdeal.main_arg0) = m ((c.tc : Thread Cert.PoolInBwdIdeal.nD Cert.PoolInBwdIdeal.τ).loc Cert.PoolInBwdIdeal.main_arg0)
          ∧ r.2.mem ((c.tc : Thread Cert.PoolInBwdIdeal.nD Cert.PoolInBwdIdeal.τ).loc Cert.PoolInBwdIdeal.main_arg1) = m ((c.tc : Thread Cert.PoolInBwdIdeal.nD Cert.PoolInBwdIdeal.τ).loc Cert.PoolInBwdIdeal.main_arg1)
          ∧ r.2.mem ((c.tc : Thread Cert.PoolInBwdIdeal.nD Cert.PoolInBwdIdeal.τ).loc Cert.PoolInBwdIdeal.main_arg2) = m ((c.tc : Thread Cert.PoolInBwdIdeal.nD Cert.PoolInBwdIdeal.τ).loc Cert.PoolInBwdIdeal.main_arg2)
          ∧ r.2.mem ((c.tc : Thread Cert.PoolInBwdIdeal.nD Cert.PoolInBwdIdeal.τ).loc Cert.PoolInBwdIdeal.main_arg3) = m ((c.tc : Thread Cert.PoolInBwdIdeal.nD Cert.PoolInBwdIdeal.τ).loc Cert.PoolInBwdIdeal.main_arg3)
          ∧ r.2.mem ((c.tc : Thread Cert.PoolInBwdIdeal.nD Cert.PoolInBwdIdeal.τ).loc Cert.PoolInBwdIdeal.main_arg4) = m ((c.tc : Thread Cert.PoolInBwdIdeal.nD Cert.PoolInBwdIdeal.τ).loc Cert.PoolInBwdIdeal.main_arg4))
      ∧ θ_run (Cert.PoolInBwdRefIdeal.defs (F := Ideal)) (onTc (τ := Cert.PoolInBwdRefIdeal.τ) (Cert.PoolInBwdRefIdeal.main (F := Ideal))) ⟨m', fun _ => 0, g'⟩ (fun r => ∀ c : Dev Cert.PoolInBwdRefIdeal.nD,
          r.2.mem ((c.tc : Thread Cert.PoolInBwdRefIdeal.nD Cert.PoolInBwdRefIdeal.τ).loc Cert.PoolInBwdRefIdeal.main_v48) = v0 c
          ∧ r.2.mem ((c.tc : Thread Cert.PoolInBwdRefIdeal.nD Cert.PoolInBwdRefIdeal.τ).loc Cert.PoolInBwdRefIdeal.main_v49) = v1 c
          ∧ r.2.mem ((c.tc : Thread Cert.PoolInBwdRefIdeal.nD Cert.PoolInBwdRefIdeal.τ).loc Cert.PoolInBwdRefIdeal.main_v50) = v2 c
          ∧ r.2.mem ((c.tc : Thread Cert.PoolInBwdRefIdeal.nD Cert.PoolInBwdRefIdeal.τ).loc Cert.PoolInBwdRefIdeal.main_arg0) = m' ((c.tc : Thread Cert.PoolInBwdRefIdeal.nD Cert.PoolInBwdRefIdeal.τ).loc Cert.PoolInBwdRefIdeal.main_arg0)
          ∧ r.2.mem ((c.tc : Thread Cert.PoolInBwdRefIdeal.nD Cert.PoolInBwdRefIdeal.τ).loc Cert.PoolInBwdRefIdeal.main_arg1) = m' ((c.tc : Thread Cert.PoolInBwdRefIdeal.nD Cert.PoolInBwdRefIdeal.τ).loc Cert.PoolInBwdRefIdeal.main_arg1)
          ∧ r.2.mem ((c.tc : Thread Cert.PoolInBwdRefIdeal.nD Cert.PoolInBwdRefIdeal.τ).loc Cert.PoolInBwdRefIdeal.main_arg2) = m' ((c.tc : Thread Cert.PoolInBwdRefIdeal.nD Cert.PoolInBwdRefIdeal.τ).loc Cert.PoolInBwdRefIdeal.main_arg2)
          ∧ r.2.mem ((c.tc : Thread Cert.PoolInBwdRefIdeal.nD Cert.PoolInBwdRefIdeal.τ).loc Cert.PoolInBwdRefIdeal.main_arg3) = m' ((c.tc : Thread Cert.PoolInBwdRefIdeal.nD Cert.PoolInBwdRefIdeal.τ).loc Cert.PoolInBwdRefIdeal.main_arg3)
          ∧ r.2.mem ((c.tc : Thread Cert.PoolInBwdRefIdeal.nD Cert.PoolInBwdRefIdeal.τ).loc Cert.PoolInBwdRefIdeal.main_arg4) = m' ((c.tc : Thread Cert.PoolInBwdRefIdeal.nD Cert.PoolInBwdRefIdeal.τ).loc Cert.PoolInBwdRefIdeal.main_arg4))

def preserves_GlaInBwd_GlaInBwdIdeal : Prop :=
  True

def algebraic_GlaInBwdIdeal_GlaInBwdRefIdeal_pre_finite4 [hGlaInBwdIdeal : Cert.GlaInBwdIdeal.Facts] [hGlaInBwdRefIdeal : Cert.GlaInBwdRefIdeal.Facts] [hPre_finite4 : Cert.Pre_finite4.Facts] : Prop :=
  ∀ (m : (ℓ : Loc Cert.GlaInBwdIdeal.nD Cert.GlaInBwdIdeal.τ Cert.GlaInBwdIdeal.sig) → Buf (Elt Ideal) ℓ) (g : Dev Cert.GlaInBwdIdeal.nD → PrngReg)
    (m' : (ℓ : Loc Cert.GlaInBwdRefIdeal.nD Cert.GlaInBwdRefIdeal.τ Cert.GlaInBwdRefIdeal.sig) → Buf (Elt Ideal) ℓ) (g' : Dev Cert.GlaInBwdRefIdeal.nD → PrngReg), Pre_GlaInBwdIdeal_finite4 m →
    (∀ c : Dev Cert.GlaInBwdIdeal.nD,
      m' ((c.tc : Thread Cert.GlaInBwdRefIdeal.nD Cert.GlaInBwdRefIdeal.τ).loc Cert.GlaInBwdRefIdeal.main_arg0) = m ((c.tc : Thread Cert.GlaInBwdIdeal.nD Cert.GlaInBwdIdeal.τ).loc Cert.GlaInBwdIdeal.main_arg0)
      ∧ m' ((c.tc : Thread Cert.GlaInBwdRefIdeal.nD Cert.GlaInBwdRefIdeal.τ).loc Cert.GlaInBwdRefIdeal.main_arg1) = m ((c.tc : Thread Cert.GlaInBwdIdeal.nD Cert.GlaInBwdIdeal.τ).loc Cert.GlaInBwdIdeal.main_arg1)
      ∧ m' ((c.tc : Thread Cert.GlaInBwdRefIdeal.nD Cert.GlaInBwdRefIdeal.τ).loc Cert.GlaInBwdRefIdeal.main_arg2) = m ((c.tc : Thread Cert.GlaInBwdIdeal.nD Cert.GlaInBwdIdeal.τ).loc Cert.GlaInBwdIdeal.main_arg2)
      ∧ m' ((c.tc : Thread Cert.GlaInBwdRefIdeal.nD Cert.GlaInBwdRefIdeal.τ).loc Cert.GlaInBwdRefIdeal.main_arg3) = m ((c.tc : Thread Cert.GlaInBwdIdeal.nD Cert.GlaInBwdIdeal.τ).loc Cert.GlaInBwdIdeal.main_arg3)
      ∧ m' ((c.tc : Thread Cert.GlaInBwdRefIdeal.nD Cert.GlaInBwdRefIdeal.τ).loc Cert.GlaInBwdRefIdeal.main_arg4) = m ((c.tc : Thread Cert.GlaInBwdIdeal.nD Cert.GlaInBwdIdeal.τ).loc Cert.GlaInBwdIdeal.main_arg4)) →
    ∃ (v0 : (c : Dev Cert.GlaInBwdIdeal.nD) → Buf (Elt Ideal) ((c.tc : Thread Cert.GlaInBwdIdeal.nD Cert.GlaInBwdIdeal.τ).loc Cert.GlaInBwdIdeal.main_v6_0)) (v1 : (c : Dev Cert.GlaInBwdIdeal.nD) → Buf (Elt Ideal) ((c.tc : Thread Cert.GlaInBwdIdeal.nD Cert.GlaInBwdIdeal.τ).loc Cert.GlaInBwdIdeal.main_v6_1)) (v2 : (c : Dev Cert.GlaInBwdIdeal.nD) → Buf (Elt Ideal) ((c.tc : Thread Cert.GlaInBwdIdeal.nD Cert.GlaInBwdIdeal.τ).loc Cert.GlaInBwdIdeal.main_v6_2)),
      θ_run (Cert.GlaInBwdIdeal.defs (F := Ideal)) (onTc (τ := Cert.GlaInBwdIdeal.τ) (Cert.GlaInBwdIdeal.main (F := Ideal))) ⟨m, fun _ => 0, g⟩ (fun r => ∀ c : Dev Cert.GlaInBwdIdeal.nD,
          r.2.mem ((c.tc : Thread Cert.GlaInBwdIdeal.nD Cert.GlaInBwdIdeal.τ).loc Cert.GlaInBwdIdeal.main_v6_0) = v0 c
          ∧ r.2.mem ((c.tc : Thread Cert.GlaInBwdIdeal.nD Cert.GlaInBwdIdeal.τ).loc Cert.GlaInBwdIdeal.main_v6_1) = v1 c
          ∧ r.2.mem ((c.tc : Thread Cert.GlaInBwdIdeal.nD Cert.GlaInBwdIdeal.τ).loc Cert.GlaInBwdIdeal.main_v6_2) = v2 c
          ∧ r.2.mem ((c.tc : Thread Cert.GlaInBwdIdeal.nD Cert.GlaInBwdIdeal.τ).loc Cert.GlaInBwdIdeal.main_arg0) = m ((c.tc : Thread Cert.GlaInBwdIdeal.nD Cert.GlaInBwdIdeal.τ).loc Cert.GlaInBwdIdeal.main_arg0)
          ∧ r.2.mem ((c.tc : Thread Cert.GlaInBwdIdeal.nD Cert.GlaInBwdIdeal.τ).loc Cert.GlaInBwdIdeal.main_arg1) = m ((c.tc : Thread Cert.GlaInBwdIdeal.nD Cert.GlaInBwdIdeal.τ).loc Cert.GlaInBwdIdeal.main_arg1)
          ∧ r.2.mem ((c.tc : Thread Cert.GlaInBwdIdeal.nD Cert.GlaInBwdIdeal.τ).loc Cert.GlaInBwdIdeal.main_arg2) = m ((c.tc : Thread Cert.GlaInBwdIdeal.nD Cert.GlaInBwdIdeal.τ).loc Cert.GlaInBwdIdeal.main_arg2)
          ∧ r.2.mem ((c.tc : Thread Cert.GlaInBwdIdeal.nD Cert.GlaInBwdIdeal.τ).loc Cert.GlaInBwdIdeal.main_arg3) = m ((c.tc : Thread Cert.GlaInBwdIdeal.nD Cert.GlaInBwdIdeal.τ).loc Cert.GlaInBwdIdeal.main_arg3)
          ∧ r.2.mem ((c.tc : Thread Cert.GlaInBwdIdeal.nD Cert.GlaInBwdIdeal.τ).loc Cert.GlaInBwdIdeal.main_arg4) = m ((c.tc : Thread Cert.GlaInBwdIdeal.nD Cert.GlaInBwdIdeal.τ).loc Cert.GlaInBwdIdeal.main_arg4))
      ∧ θ_run (Cert.GlaInBwdRefIdeal.defs (F := Ideal)) (onTc (τ := Cert.GlaInBwdRefIdeal.τ) (Cert.GlaInBwdRefIdeal.main (F := Ideal))) ⟨m', fun _ => 0, g'⟩ (fun r => ∀ c : Dev Cert.GlaInBwdRefIdeal.nD,
          r.2.mem ((c.tc : Thread Cert.GlaInBwdRefIdeal.nD Cert.GlaInBwdRefIdeal.τ).loc Cert.GlaInBwdRefIdeal.main_v48) = v0 c
          ∧ r.2.mem ((c.tc : Thread Cert.GlaInBwdRefIdeal.nD Cert.GlaInBwdRefIdeal.τ).loc Cert.GlaInBwdRefIdeal.main_v51) = v1 c
          ∧ r.2.mem ((c.tc : Thread Cert.GlaInBwdRefIdeal.nD Cert.GlaInBwdRefIdeal.τ).loc Cert.GlaInBwdRefIdeal.main_v52) = v2 c
          ∧ r.2.mem ((c.tc : Thread Cert.GlaInBwdRefIdeal.nD Cert.GlaInBwdRefIdeal.τ).loc Cert.GlaInBwdRefIdeal.main_arg0) = m' ((c.tc : Thread Cert.GlaInBwdRefIdeal.nD Cert.GlaInBwdRefIdeal.τ).loc Cert.GlaInBwdRefIdeal.main_arg0)
          ∧ r.2.mem ((c.tc : Thread Cert.GlaInBwdRefIdeal.nD Cert.GlaInBwdRefIdeal.τ).loc Cert.GlaInBwdRefIdeal.main_arg1) = m' ((c.tc : Thread Cert.GlaInBwdRefIdeal.nD Cert.GlaInBwdRefIdeal.τ).loc Cert.GlaInBwdRefIdeal.main_arg1)
          ∧ r.2.mem ((c.tc : Thread Cert.GlaInBwdRefIdeal.nD Cert.GlaInBwdRefIdeal.τ).loc Cert.GlaInBwdRefIdeal.main_arg2) = m' ((c.tc : Thread Cert.GlaInBwdRefIdeal.nD Cert.GlaInBwdRefIdeal.τ).loc Cert.GlaInBwdRefIdeal.main_arg2)
          ∧ r.2.mem ((c.tc : Thread Cert.GlaInBwdRefIdeal.nD Cert.GlaInBwdRefIdeal.τ).loc Cert.GlaInBwdRefIdeal.main_arg3) = m' ((c.tc : Thread Cert.GlaInBwdRefIdeal.nD Cert.GlaInBwdRefIdeal.τ).loc Cert.GlaInBwdRefIdeal.main_arg3)
          ∧ r.2.mem ((c.tc : Thread Cert.GlaInBwdRefIdeal.nD Cert.GlaInBwdRefIdeal.τ).loc Cert.GlaInBwdRefIdeal.main_arg4) = m' ((c.tc : Thread Cert.GlaInBwdRefIdeal.nD Cert.GlaInBwdRefIdeal.τ).loc Cert.GlaInBwdRefIdeal.main_arg4))

def Claim : Prop :=
  ∃ (hPoolBwd : Cert.PoolBwd.Facts) (hPoolBwdIdeal : Cert.PoolBwdIdeal.Facts) (hPoolBwdRefIdeal : Cert.PoolBwdRefIdeal.Facts) (hGlaBwd : Cert.GlaBwd.Facts) (hGlaBwdIdeal : Cert.GlaBwdIdeal.Facts) (hGlaBwdRefIdeal : Cert.GlaBwdRefIdeal.Facts) (hPoolInBwd : Cert.PoolInBwd.Facts) (hPoolInBwdIdeal : Cert.PoolInBwdIdeal.Facts) (hPoolInBwdRefIdeal : Cert.PoolInBwdRefIdeal.Facts) (hGlaInBwd : Cert.GlaInBwd.Facts) (hGlaInBwdIdeal : Cert.GlaInBwdIdeal.Facts) (hGlaInBwdRefIdeal : Cert.GlaInBwdRefIdeal.Facts) (hPre_finite : Cert.Pre_finite.Facts) (hPre_finite2 : Cert.Pre_finite2.Facts) (hPre_finite3 : Cert.Pre_finite3.Facts) (hPre_finite4 : Cert.Pre_finite4.Facts),
    quiescent_PoolBwd (hPoolBwd := hPoolBwd)
    ∧ quiescent_PoolBwdIdeal (hPoolBwdIdeal := hPoolBwdIdeal)
    ∧ quiescent_PoolBwdIdeal_pre_finite (hPoolBwdIdeal := hPoolBwdIdeal) (hPre_finite := hPre_finite)
    ∧ quiescent_PoolBwdRefIdeal (hPoolBwdRefIdeal := hPoolBwdRefIdeal)
    ∧ quiescent_PoolBwdRefIdeal_pre_finite (hPoolBwdRefIdeal := hPoolBwdRefIdeal) (hPre_finite := hPre_finite)
    ∧ quiescent_GlaBwd (hGlaBwd := hGlaBwd)
    ∧ quiescent_GlaBwdIdeal (hGlaBwdIdeal := hGlaBwdIdeal)
    ∧ quiescent_GlaBwdIdeal_pre_finite2 (hGlaBwdIdeal := hGlaBwdIdeal) (hPre_finite2 := hPre_finite2)
    ∧ quiescent_GlaBwdRefIdeal (hGlaBwdRefIdeal := hGlaBwdRefIdeal)
    ∧ quiescent_GlaBwdRefIdeal_pre_finite2 (hGlaBwdRefIdeal := hGlaBwdRefIdeal) (hPre_finite2 := hPre_finite2)
    ∧ quiescent_PoolInBwd (hPoolInBwd := hPoolInBwd)
    ∧ quiescent_PoolInBwdIdeal (hPoolInBwdIdeal := hPoolInBwdIdeal)
    ∧ quiescent_PoolInBwdIdeal_pre_finite3 (hPoolInBwdIdeal := hPoolInBwdIdeal) (hPre_finite3 := hPre_finite3)
    ∧ quiescent_PoolInBwdRefIdeal (hPoolInBwdRefIdeal := hPoolInBwdRefIdeal)
    ∧ quiescent_PoolInBwdRefIdeal_pre_finite3 (hPoolInBwdRefIdeal := hPoolInBwdRefIdeal) (hPre_finite3 := hPre_finite3)
    ∧ quiescent_GlaInBwd (hGlaInBwd := hGlaInBwd)
    ∧ quiescent_GlaInBwdIdeal (hGlaInBwdIdeal := hGlaInBwdIdeal)
    ∧ quiescent_GlaInBwdIdeal_pre_finite4 (hGlaInBwdIdeal := hGlaInBwdIdeal) (hPre_finite4 := hPre_finite4)
    ∧ quiescent_GlaInBwdRefIdeal (hGlaInBwdRefIdeal := hGlaInBwdRefIdeal)
    ∧ quiescent_GlaInBwdRefIdeal_pre_finite4 (hGlaInBwdRefIdeal := hGlaInBwdRefIdeal) (hPre_finite4 := hPre_finite4)
    ∧ preserves_PoolBwd_PoolBwdIdeal
    ∧ algebraic_PoolBwdIdeal_PoolBwdRefIdeal_pre_finite (hPoolBwdIdeal := hPoolBwdIdeal) (hPoolBwdRefIdeal := hPoolBwdRefIdeal) (hPre_finite := hPre_finite)
    ∧ preserves_GlaBwd_GlaBwdIdeal
    ∧ algebraic_GlaBwdIdeal_GlaBwdRefIdeal_pre_finite2 (hGlaBwdIdeal := hGlaBwdIdeal) (hGlaBwdRefIdeal := hGlaBwdRefIdeal) (hPre_finite2 := hPre_finite2)
    ∧ preserves_PoolInBwd_PoolInBwdIdeal
    ∧ algebraic_PoolInBwdIdeal_PoolInBwdRefIdeal_pre_finite3 (hPoolInBwdIdeal := hPoolInBwdIdeal) (hPoolInBwdRefIdeal := hPoolInBwdRefIdeal) (hPre_finite3 := hPre_finite3)
    ∧ preserves_GlaInBwd_GlaInBwdIdeal
    ∧ algebraic_GlaInBwdIdeal_GlaInBwdRefIdeal_pre_finite4 (hGlaInBwdIdeal := hGlaInBwdIdeal) (hGlaInBwdRefIdeal := hGlaInBwdRefIdeal) (hPre_finite4 := hPre_finite4)
-- ==== Pre_finite.lean ====
abbrev S1x4096x2048 : Shape := ⟨3, ![1, 4096, 2048]⟩
abbrev S1x4x256x256 : Shape := ⟨4, ![1, 4, 256, 256]⟩
abbrev S1x4x256 : Shape := ⟨3, ![1, 4, 256]⟩
abbrev S1x1024 : Shape := ⟨2, ![1, 1024]⟩
abbrev S1x1024x1024 : Shape := ⟨3, ![1, 1024, 1024]⟩
abbrev S4096x1024 : Shape := ⟨2, ![4096, 1024]⟩
abbrev S_ : Shape := ⟨0, ![]⟩

class Facts : Prop where
  bcast_S_S1x4096x2048 : S_.BroadcastsInDim S1x4096x2048 (![] : Fin 0 → Fin S1x4096x2048.rank)
  reducesTo_S1x4096x2048_S_d0_1_2 : S1x4096x2048.ReducesTo [0, 1, 2] S_
  h_S_ : 0 < S_.numel
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x4x256 : S_.BroadcastsInDim S1x4x256 (![] : Fin 0 → Fin S1x4x256.rank)
  reducesTo_S1x4x256_S_d0_1_2 : S1x4x256.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1x1024x1024 .f32) (main_arg5 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x1024 .f32 := subf main_arg4 main_arg4
  let main_cst_6 : FVec F S_ .f32 := constant S_ .f32 0x00000000#32
  let main_v20 : FVec F S1x1024x1024 .f32 := broadcastInDim S1x1024x1024 ![] bcast_S_S1x1024x1024 main_cst_6
  let main_v21 : IVec S1x1024x1024 1 := cmpf .oeq main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S4096x1024 .f32 := subf main_arg5 main_arg5
  let main_cst_8 : FVec F S_ .f32 := constant S_ .f32 0x00000000#32
  let main_v25 : FVec F S4096x1024 .f32 := broadcastInDim S4096x1024 ![] bcast_S_S4096x1024 main_cst_8
  let main_v26 : IVec S4096x1024 1 := cmpf .oeq main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S1x4096x2048 .f32) (main_arg1 : FVec F S1x4x256x256 .f32) (main_arg2 : FVec F S1x4x256 .f32) (main_arg3 : FVec F S1x1024 .f32) (main_arg4 : FVec F S1x1024x1024 .f32) (main_arg5 : FVec F S4096x1024 .f32) : IVec S_ 1 :=
  let main_v0 : FVec F S1x4096x2048 .f32 := subf main_arg0 main_arg0
  let main_cst : FVec F S_ .f32 := constant S_ .f32 0x00000000#32
  let main_v1 : FVec F S1x4096x2048 .f32 := broadcastInDim S1x4096x2048 ![] bcast_S_S1x4096x2048 main_cst
  let main_v2 : IVec S1x4096x2048 1 := cmpf .oeq main_v0 main_v1
  let main_c : IVec S_ 1 := constantI S_ 1 1#1
  let main_v3 : IVec S_ 1 := (fun x v => Host.reduce IntOp.andi x v reducesTo_S1x4096x2048_S_d0_1_2 h_S_) main_v2 main_c
  let main_v4 : FVec F S1x4x256x256 .f32 := subf main_arg1 main_arg1
  let main_cst_0 : FVec F S_ .f32 := constant S_ .f32 0x00000000#32
  let main_v5 : FVec F S1x4x256x256 .f32 := broadcastInDim S1x4x256x256 ![] bcast_S_S1x4x256x256 main_cst_0
  let main_v6 : IVec S1x4x256x256 1 := cmpf .oeq main_v4 main_v5
  let main_c_1 : IVec S_ 1 := constantI S_ 1 1#1
  let main_v7 : IVec S_ 1 := (fun x v => Host.reduce IntOp.andi x v reducesTo_S1x4x256x256_S_d0_1_2_3 h_S_) main_v6 main_c_1
  let main_v8 : IVec S_ 1 := andi main_v3 main_v7
  let main_v9 : FVec F S1x4x256 .f32 := subf main_arg2 main_arg2
  let main_cst_2 : FVec F S_ .f32 := constant S_ .f32 0x00000000#32
  let main_v10 : FVec F S1x4x256 .f32 := broadcastInDim S1x4x256 ![] bcast_S_S1x4x256 main_cst_2
  let main_v11 : IVec S1x4x256 1 := cmpf .oeq main_v9 main_v10
  let main_c_3 : IVec S_ 1 := constantI S_ 1 1#1
  let main_v12 : IVec S_ 1 := (fun x v => Host.reduce IntOp.andi x v reducesTo_S1x4x256_S_d0_1_2 h_S_) main_v11 main_c_3
  let main_v13 : IVec S_ 1 := andi main_v8 main_v12
  let main_v14 : FVec F S1x1024 .f32 := subf main_arg3 main_arg3
  let main_cst_4 : FVec F S_ .f32 := constant S_ .f32 0x00000000#32
  let main_v15 : FVec F S1x1024 .f32 := broadcastInDim S1x1024 ![] bcast_S_S1x1024 main_cst_4
  let main_v16 : IVec S1x1024 1 := cmpf .oeq main_v14 main_v15
  fn_part1 (F := F) main_arg4 main_arg5 main_v13 main_v16
-- ==== Pre_finite2.lean ====
abbrev S1x4096x3088 : Shape := ⟨3, ![1, 4096, 3088]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S4096x1024 : Shape := ⟨2, ![4096, 1024]⟩
abbrev S_ : Shape := ⟨0, ![]⟩

class Facts : Prop where
  bcast_S_S1x4096x3088 : S_.BroadcastsInDim S1x4096x3088 (![] : Fin 0 → Fin S1x4096x3088.rank)
  reducesTo_S1x4096x3088_S_d0_1_2 : S1x4096x3088.ReducesTo [0, 1, 2] S_
  h_S_ : 0 < S_.numel
  bcast_S_S1x16x512 : S_.BroadcastsInDim S1x16x512 (![] : Fin 0 → Fin S1x16x512.rank)
  reducesTo_S1x16x512_S_d0_1_2 : S1x16x512.ReducesTo [0, 1, 2] S_
  bcast_S_S1x512 : S_.BroadcastsInDim S1x512 (![] : Fin 0 → Fin S1x512.rank)
  reducesTo_S1x512_S_d0_1 : S1x512.ReducesTo [0, 1] S_
  bcast_S_S1x256 : S_.BroadcastsInDim S1x256 (![] : Fin 0 → Fin S1x256.rank)
  reducesTo_S1x256_S_d0_1 : S1x256.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1x1024x1024 .f32) (main_arg5 : FVec F S4096x1024 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1x1024x1024 .f32 := subf main_arg4 main_arg4
  let main_cst_6 : FVec F S_ .f32 := constant S_ .f32 0x00000000#32
  let main_v20 : FVec F S1x1024x1024 .f32 := broadcastInDim S1x1024x1024 ![] bcast_S_S1x1024x1024 main_cst_6
  let main_v21 : IVec S1x1024x1024 1 := cmpf .oeq main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S4096x1024 .f32 := subf main_arg5 main_arg5
  let main_cst_8 : FVec F S_ .f32 := constant S_ .f32 0x00000000#32
  let main_v25 : FVec F S4096x1024 .f32 := broadcastInDim S4096x1024 ![] bcast_S_S4096x1024 main_cst_8
  let main_v26 : IVec S4096x1024 1 := cmpf .oeq main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S1x4096x3088 .f32) (main_arg1 : FVec F S1x16x512 .f32) (main_arg2 : FVec F S1x512 .f32) (main_arg3 : FVec F S1x256 .f32) (main_arg4 : FVec F S1x1024x1024 .f32) (main_arg5 : FVec F S4096x1024 .f32) : IVec S_ 1 :=
  let main_v0 : FVec F S1x4096x3088 .f32 := subf main_arg0 main_arg0
  let main_cst : FVec F S_ .f32 := constant S_ .f32 0x00000000#32
  let main_v1 : FVec F S1x4096x3088 .f32 := broadcastInDim S1x4096x3088 ![] bcast_S_S1x4096x3088 main_cst
  let main_v2 : IVec S1x4096x3088 1 := cmpf .oeq main_v0 main_v1
  let main_c : IVec S_ 1 := constantI S_ 1 1#1
  let main_v3 : IVec S_ 1 := (fun x v => Host.reduce IntOp.andi x v reducesTo_S1x4096x3088_S_d0_1_2 h_S_) main_v2 main_c
  let main_v4 : FVec F S1x16x512 .f32 := subf main_arg1 main_arg1
  let main_cst_0 : FVec F S_ .f32 := constant S_ .f32 0x00000000#32
  let main_v5 : FVec F S1x16x512 .f32 := broadcastInDim S1x16x512 ![] bcast_S_S1x16x512 main_cst_0
  let main_v6 : IVec S1x16x512 1 := cmpf .oeq main_v4 main_v5
  let main_c_1 : IVec S_ 1 := constantI S_ 1 1#1
  let main_v7 : IVec S_ 1 := (fun x v => Host.reduce IntOp.andi x v reducesTo_S1x16x512_S_d0_1_2 h_S_) main_v6 main_c_1
  let main_v8 : IVec S_ 1 := andi main_v3 main_v7
  let main_v9 : FVec F S1x512 .f32 := subf main_arg2 main_arg2
  let main_cst_2 : FVec F S_ .f32 := constant S_ .f32 0x00000000#32
  let main_v10 : FVec F S1x512 .f32 := broadcastInDim S1x512 ![] bcast_S_S1x512 main_cst_2
  let main_v11 : IVec S1x512 1 := cmpf .oeq main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x256 .f32 := subf main_arg3 main_arg3
  let main_cst_4 : FVec F S_ .f32 := constant S_ .f32 0x00000000#32
  let main_v15 : FVec F S1x256 .f32 := broadcastInDim S1x256 ![] bcast_S_S1x256 main_cst_4
  let main_v16 : IVec S1x256 1 := cmpf .oeq main_v14 main_v15
  fn_part1 (F := F) main_arg4 main_arg5 main_v13 main_v16
-- ==== Pre_finite3.lean ====
abbrev S1x4096x1024 : Shape := ⟨3, ![1, 4096, 1024]⟩
abbrev S2x1024 : Shape := ⟨2, ![2, 1024]⟩
abbrev S1x1024x2048 : Shape := ⟨3, ![1, 1024, 2048]⟩
abbrev S4096x2048 : Shape := ⟨2, ![4096, 2048]⟩
abbrev S4096x1024 : Shape := ⟨2, ![4096, 1024]⟩
abbrev S_ : Shape := ⟨0, ![]⟩

class Facts : Prop where
  bitsLt_bf16_f32 : FTy.bits .bf16 < FTy.bits .f32
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v14 : IVec S_ 1) (main_v15 : FVec F S4096x2048 .f32) (main_v16 : FVec F S4096x2048 .f32) : IVec S_ 1 :=
  let main_v17 : IVec S4096x2048 1 := cmpf .oeq main_v15 main_v16
  let main_c_5 : IVec S_ 1 := constantI S_ 1 1#1
  let main_v18 : IVec S_ 1 := (fun x v => Host.reduce IntOp.andi x v reducesTo_S4096x2048_S_d0_1 h_S_) main_v17 main_c_5
  let main_v19 : IVec S_ 1 := andi main_v14 main_v18
  main_v19

def fn {F : FTy → Type} [FloatOps F] (main_arg0 : FVec F S1x4096x1024 .f32) (main_arg1 : FVec F S2x1024 .f32) (main_arg2 : FVec F S1x1024x2048 .f32) (main_arg3 : FVec F S4096x2048 .bf16) (main_arg4 : FVec F S4096x1024 .f32) : IVec S_ 1 :=
  let main_v0 : FVec F S4096x2048 .f32 := (extf .f32 · bitsLt_bf16_f32) main_arg3
  let main_v1 : FVec F S1x4096x1024 .f32 := subf main_arg0 main_arg0
  let main_cst : FVec F S_ .f32 := constant S_ .f32 0x00000000#32
  let main_v2 : FVec F S1x4096x1024 .f32 := broadcastInDim S1x4096x1024 ![] bcast_S_S1x4096x1024 main_cst
  let main_v3 : IVec S1x4096x1024 1 := cmpf .oeq main_v1 main_v2
  let main_c : IVec S_ 1 := constantI S_ 1 1#1
  let main_v4 : IVec S_ 1 := (fun x v => Host.reduce IntOp.andi x v reducesTo_S1x4096x1024_S_d0_1_2 h_S_) main_v3 main_c
  let main_v5 : FVec F S2x1024 .f32 := subf main_arg1 main_arg1
  let main_cst_0 : FVec F S_ .f32 := constant S_ .f32 0x00000000#32
  let main_v6 : FVec F S2x1024 .f32 := broadcastInDim S2x1024 ![] bcast_S_S2x1024 main_cst_0
  let main_v7 : IVec S2x1024 1 := cmpf .oeq main_v5 main_v6
  let main_c_1 : IVec S_ 1 := constantI S_ 1 1#1
  let main_v8 : IVec S_ 1 := (fun x v => Host.reduce IntOp.andi x v reducesTo_S2x1024_S_d0_1 h_S_) main_v7 main_c_1
  let main_v9 : IVec S_ 1 := andi main_v4 main_v8
  let main_v10 : FVec F S1x1024x2048 .f32 := subf main_arg2 main_arg2
  let main_cst_2 : FVec F S_ .f32 := constant S_ .f32 0x00000000#32
  let main_v11 : FVec F S1x1024x2048 .f32 := broadcastInDim S1x1024x2048 ![] bcast_S_S1x1024x2048 main_cst_2
  let main_v12 : IVec S1x1024x2048 1 := cmpf .oeq main_v10 main_v11
  let main_c_3 : IVec S_ 1 := constantI S_ 1 1#1
  let main_v13 : IVec S_ 1 := (fun x v => Host.reduce IntOp.andi x v reducesTo_S1x1024x2048_S_d0_1_2 h_S_) main_v12 main_c_3
  let main_v14 : IVec S_ 1 := andi main_v9 main_v13
  let main_v15 : FVec F S4096x2048 .f32 := subf main_v0 main_v0
  let main_cst_4 : FVec F S_ .f32 := constant S_ .f32 0x00000000#32
  let main_v16 : FVec F S4096x2048 .f32 := broadcastInDim S4096x2048 ![] bcast_S_S4096x2048 main_cst_4
  fn_part1 (F := F) main_v14 main_v15 main_v16
-- ==== Pre_finite4.lean ====
abbrev S1x4096x1024 : Shape := ⟨3, ![1, 4096, 1024]⟩
abbrev S2x1024 : Shape := ⟨2, ![2, 1024]⟩
abbrev S1x1024x3088 : Shape := ⟨3, ![1, 1024, 3088]⟩
abbrev S4096x3088 : Shape := ⟨2, ![4096, 3088]⟩
abbrev S4096x1024 : Shape := ⟨2, ![4096, 1024]⟩
abbrev S_ : Shape := ⟨0, ![]⟩

class Facts : Prop where
  bitsLt_bf16_f32 : FTy.bits .bf16 < FTy.bits .f32
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024x3088 : S_.BroadcastsInDim S1x1024x3088 (![] : Fin 0 → Fin S1x1024x3088.rank)
  reducesTo_S1x1024x3088_S_d0_1_2 : S1x1024x3088.ReducesTo [0, 1, 2] S_
  bcast_S_S4096x3088 : S_.BroadcastsInDim S4096x3088 (![] : Fin 0 → Fin S4096x3088.rank)
  reducesTo_S4096x3088_S_d0_1 : S4096x3088.ReducesTo [0, 1] S_

variable [Facts]

def fn_part1 {F : FTy → Type} [FloatOps F] (main_v14 : IVec S_ 1) (main_v15 : FVec F S4096x3088 .f32) (main_v16 : FVec F S4096x3088 .f32) : IVec S_ 1 :=
  let main_v17 : IVec S4096x3088 1 := cmpf .oeq main_v15 main_v16
  let main_c_5 : IVec S_ 1 := constantI S_ 1 1#1
  let main_v18 : IVec S_ 1 := (fun x v => Host.reduce IntOp.andi x v reducesTo_S4096x3088_S_d0_1 h_S_) main_v17 main_c_5
  let main_v19 : IVec S_ 1 := andi main_v14 main_v18
  main_v19

def fn {F : FTy → Type} [FloatOps F] (main_arg0 : FVec F S1x4096x1024 .f32) (main_arg1 : FVec F S2x1024 .f32) (main_arg2 : FVec F S1x1024x3088 .f32) (main_arg3 : FVec F S4096x3088 .bf16) (main_arg4 : FVec F S4096x1024 .f32) : IVec S_ 1 :=
  let main_v0 : FVec F S4096x3088 .f32 := (extf .f32 · bitsLt_bf16_f32) main_arg3
  let main_v1 : FVec F S1x4096x1024 .f32 := subf main_arg0 main_arg0
  let main_cst : FVec F S_ .f32 := constant S_ .f32 0x00000000#32
  let main_v2 : FVec F S1x4096x1024 .f32 := broadcastInDim S1x4096x1024 ![] bcast_S_S1x4096x1024 main_cst
  let main_v3 : IVec S1x4096x1024 1 := cmpf .oeq main_v1 main_v2
  let main_c : IVec S_ 1 := constantI S_ 1 1#1
  let main_v4 : IVec S_ 1 := (fun x v => Host.reduce IntOp.andi x v reducesTo_S1x4096x1024_S_d0_1_2 h_S_) main_v3 main_c
  let main_v5 : FVec F S2x1024 .f32 := subf main_arg1 main_arg1
  let main_cst_0 : FVec F S_ .f32 := constant S_ .f32 0x00000000#32
  let main_v6 : FVec F S2x1024 .f32 := broadcastInDim S2x1024 ![] bcast_S_S2x1024 main_cst_0
  let main_v7 : IVec S2x1024 1 := cmpf .oeq main_v5 main_v6
  let main_c_1 : IVec S_ 1 := constantI S_ 1 1#1
  let main_v8 : IVec S_ 1 := (fun x v => Host.reduce IntOp.andi x v reducesTo_S2x1024_S_d0_1 h_S_) main_v7 main_c_1
  let main_v9 : IVec S_ 1 := andi main_v4 main_v8
  let main_v10 : FVec F S1x1024x3088 .f32 := subf main_arg2 main_arg2
  let main_cst_2 : FVec F S_ .f32 := constant S_ .f32 0x00000000#32
  let main_v11 : FVec F S1x1024x3088 .f32 := broadcastInDim S1x1024x3088 ![] bcast_S_S1x1024x3088 main_cst_2
  let main_v12 : IVec S1x1024x3088 1 := cmpf .oeq main_v10 main_v11
  let main_c_3 : IVec S_ 1 := constantI S_ 1 1#1
  let main_v13 : IVec S_ 1 := (fun x v => Host.reduce IntOp.andi x v reducesTo_S1x1024x3088_S_d0_1_2 h_S_) main_v12 main_c_3
  let main_v14 : IVec S_ 1 := andi main_v9 main_v13
  let main_v15 : FVec F S4096x3088 .f32 := subf main_v0 main_v0
  let main_cst_4 : FVec F S_ .f32 := constant S_ .f32 0x00000000#32
  let main_v16 : FVec F S4096x3088 .f32 := broadcastInDim S4096x3088 ![] bcast_S_S4096x3088 main_cst_4
  fn_part1 (F := F) main_v14 main_v15 main_v16
-- ==== PoolBwd.lean ====
abbrev S1x4096x2048 : Shape := ⟨3, ![1, 4096, 2048]⟩
abbrev S1x4x256x256 : Shape := ⟨4, ![1, 4, 256, 256]⟩
abbrev S1x4x256 : Shape := ⟨3, ![1, 4, 256]⟩
abbrev S1x1024 : Shape := ⟨2, ![1, 1024]⟩
abbrev S1x1024x1024 : Shape := ⟨3, ![1, 1024, 1024]⟩
abbrev S4096x1024 : Shape := ⟨2, ![4096, 1024]⟩
abbrev S1x4096x1024 : Shape := ⟨3, ![1, 4096, 1024]⟩
abbrev S1x4096x4x256 : Shape := ⟨4, ![1, 4096, 4, 256]⟩
abbrev S1x4096x1x256 : Shape := ⟨4, ![1, 4096, 1, 256]⟩
abbrev S1x4096x256 : Shape := ⟨3, ![1, 4096, 256]⟩
abbrev S_ : Shape := ⟨0, ![]⟩
abbrev S1x2x256 : Shape := ⟨3, ![1, 2, 256]⟩
abbrev S1x4094x256 : Shape := ⟨3, ![1, 4094, 256]⟩
abbrev S4096 : Shape := ⟨1, ![4096]⟩
abbrev S1x4096x1 : Shape := ⟨3, ![1, 4096, 1]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x256 : Shape := ⟨3, ![4, 256, 256]⟩
abbrev S4x256x1x4096 : Shape := ⟨4, ![4, 256, 1, 4096]⟩
abbrev S4x256 : Shape := ⟨2, ![4, 256]⟩
abbrev S1x1x4x256 : Shape := ⟨4, ![1, 1, 4, 256]⟩
abbrev S1024x1024 : Shape := ⟨2, ![1024, 1024]⟩
abbrev S4096x2048 : Shape := ⟨2, ![4096, 2048]⟩
abbrev S512x1024 : Shape := ⟨2, ![512, 1024]⟩
abbrev S512x2048 : Shape := ⟨2, ![512, 2048]⟩
abbrev S16x1024 : Shape := ⟨2, ![16, 1024]⟩
abbrev S512x256 : Shape := ⟨2, ![512, 256]⟩
abbrev S1024 : Shape := ⟨1, ![1024]⟩
abbrev S512x1 : Shape := ⟨2, ![512, 1]⟩
abbrev S1x256x256 : Shape := ⟨3, ![1, 256, 256]⟩
abbrev S256x256 : Shape := ⟨2, ![256, 256]⟩
abbrev S528x1024 : Shape := ⟨2, ![528, 1024]⟩
abbrev S528x256 : Shape := ⟨2, ![528, 256]⟩

abbrev nBuf : Space → Nat
  | .hbm => 140
  | .vmem => 24
  | .smem => 0
  | _ => 0

abbrev hbmTy0_0 (i : Nat) : BufTy := match i % 128 with
  | 0 => ⟨S1x4096x2048, .f32⟩
  | 1 => ⟨S1x4x256x256, .f32⟩
  | 2 => ⟨S1x4x256, .f32⟩
  | 3 => ⟨S1x1024, .f32⟩
  | 4 => ⟨S1x1024x1024, .f32⟩
  | 5 => ⟨S4096x1024, .f32⟩
  | 6 => ⟨S1x4096x1024, .f32⟩
  | 7 => ⟨S1x4096x1024, .f32⟩
  | 8 => ⟨S1x4096x4x256, .f32⟩
  | 9 => ⟨S1x4096x1x256, .f32⟩
  | 10 => ⟨S1x4096x256, .f32⟩
  | 11 => ⟨S_, .f32⟩
  | 12 => ⟨S_, .f32⟩
  | 13 => ⟨S1x4096x256, .f32⟩
  | 14 => ⟨S_, .f32⟩
  | 15 => ⟨S1x2x256, .f32⟩
  | 16 => ⟨S1x4094x256, .f32⟩
  | 17 => ⟨S1x4096x256, .f32⟩
  | 18 => ⟨S4096, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .f32⟩
  | 26 => ⟨S1x4096x256, .f32⟩
  | 27 => ⟨S1x4096x1, .f32⟩
  | 28 => ⟨S1x4096x256, .f32⟩
  | 29 => ⟨S1x4096x256, .f32⟩
  | 30 => ⟨S1x4096x1x256, .f32⟩
  | 31 => ⟨S1x4096x256, .f32⟩
  | 32 => ⟨S_, .f32⟩
  | 33 => ⟨S_, .f32⟩
  | 34 => ⟨S1x4096x256, .f32⟩
  | 35 => ⟨S_, .f32⟩
  | 36 => ⟨S1x4x256, .f32⟩
  | 37 => ⟨S1x4092x256, .f32⟩
  | 38 => ⟨S1x4096x256, .f32⟩
  | 39 => ⟨S4096, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096, .f32⟩
  | 47 => ⟨S1x4096x256, .f32⟩
  | 48 => ⟨S1x4096x1, .f32⟩
  | 49 => ⟨S1x4096x256, .f32⟩
  | 50 => ⟨S1x4096x256, .f32⟩
  | 51 => ⟨S1x4096x1x256, .f32⟩
  | 52 => ⟨S1x4096x256, .f32⟩
  | 53 => ⟨S_, .f32⟩
  | 54 => ⟨S_, .f32⟩
  | 55 => ⟨S1x4096x256, .f32⟩
  | 56 => ⟨S_, .f32⟩
  | 57 => ⟨S1x8x256, .f32⟩
  | 58 => ⟨S1x4088x256, .f32⟩
  | 59 => ⟨S1x4096x256, .f32⟩
  | 60 => ⟨S4096, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S4096, .f32⟩
  | 68 => ⟨S1x4096x256, .f32⟩
  | 69 => ⟨S1x4096x1, .f32⟩
  | 70 => ⟨S1x4096x256, .f32⟩
  | 71 => ⟨S1x4096x256, .f32⟩
  | 72 => ⟨S1x4096x1x256, .f32⟩
  | 73 => ⟨S1x4096x256, .f32⟩
  | 74 => ⟨S_, .f32⟩
  | 75 => ⟨S_, .f32⟩
  | 76 => ⟨S1x4096x256, .f32⟩
  | 77 => ⟨S_, .f32⟩
  | 78 => ⟨S1x16x256, .f32⟩
  | 79 => ⟨S1x4080x256, .f32⟩
  | 80 => ⟨S1x4096x256, .f32⟩
  | 81 => ⟨S4096, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .f32⟩
  | 89 => ⟨S1x4096x256, .f32⟩
  | 90 => ⟨S1x4096x1, .f32⟩
  | 91 => ⟨S1x4096x256, .f32⟩
  | 92 => ⟨S1x4096x256, .f32⟩
  | 93 => ⟨S1x4096x1x256, .f32⟩
  | 94 => ⟨S1x4096x1x256, .f32⟩
  | 95 => ⟨S1x4096x1x256, .f32⟩
  | 96 => ⟨S1x4096x1x256, .f32⟩
  | 97 => ⟨S1x4096x4x256, .f32⟩
  | 98 => ⟨S1x4096x4x256, .f32⟩
  | 99 => ⟨S4x256x256, .f32⟩
  | 100 => ⟨S4x256x1x4096, .f32⟩
  | 101 => ⟨S1x4096x4x256, .f32⟩
  | 102 => ⟨S4x256, .f32⟩
  | 103 => ⟨S1x1x4x256, .f32⟩
  | 104 => ⟨S1x4096x4x256, .f32⟩
  | 105 => ⟨S1x4096x4x256, .f32⟩
  | 106 => ⟨S4096x1024, .f32⟩
  | 107 => ⟨S4096x1024, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S4096x1024, .f32⟩
  | 117 => ⟨S_, .f32⟩
  | 118 => ⟨S4096x1024, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S1x4096x2048, .f32⟩

abbrev hbmTy0_1 (i : Nat) : BufTy := match i % 128 with
  | 0 => ⟨S4096x1024, .bf16⟩
  | 1 => ⟨S4x256x256, .f32⟩
  | 2 => ⟨S4x256x256, .bf16⟩
  | 3 => ⟨S1024x1024, .f32⟩
  | 4 => ⟨S1024x1024, .bf16⟩
  | 5 => ⟨S4096x1024, .f32⟩
  | 6 => ⟨S4096x1024, .bf16⟩
  | 7 => ⟨S4096x2048, .bf16⟩
  | 8 => ⟨S1024x1024, .bf16⟩
  | 9 => ⟨S4x256x256, .bf16⟩
  | 10 => ⟨S1x1024, .f32⟩
  | 11 => ⟨S1x1024, .f32⟩
  | _ => ⟨S1x4096x2048, .f32⟩

abbrev hbmTy (i : Nat) : BufTy := match i / 128 with
  | 0 => hbmTy0_0 i
  | 1 => hbmTy0_1 i
  | _ => ⟨S1x4096x2048, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S4x256x256, .bf16⟩
  | .local _ .vmem, ⟨13, _⟩ => ⟨S1x1024, .f32⟩
  | .local _ .vmem, ⟨14, _⟩ => ⟨S1024x1024, .bf16⟩
  | .local _ .vmem, ⟨15, _⟩ => ⟨S512x2048, .bf16⟩
  | .local _ .vmem, ⟨16, _⟩ => ⟨S512x2048, .bf16⟩
  | .local _ .vmem, ⟨17, _⟩ => ⟨S1x1024, .f32⟩
  | .local _ .vmem, ⟨18, _⟩ => ⟨S1x1024, .f32⟩
  | .local _ .vmem, ⟨19, _⟩ => ⟨S16x1024, .f32⟩
  | .local _ .vmem, ⟨20, _⟩ => ⟨S1024x1024, .f32⟩
  | .local _ .vmem, ⟨21, _⟩ => ⟨S4x256x256, .f32⟩
  | .local _ .vmem, ⟨22, _⟩ => ⟨S1024x1024, .bf16⟩
  | .local _ .vmem, ⟨23, _⟩ => ⟨S4x256x256, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_call0_cst : Ref sig .tc := ⟨.hbm, 11, rfl⟩
abbrev main_call0_call0_v0 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_call0_cst : Ref sig .tc := ⟨.hbm, 32, rfl⟩
abbrev main_call1_call0_v0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_2 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call2_call0_cst : Ref sig .tc := ⟨.hbm, 53, rfl⟩
abbrev main_call2_call0_v0 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_5 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call3_call0_cst : Ref sig .tc := ⟨.hbm, 74, rfl⟩
abbrev main_call3_call0_v0 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_8 : Ref sig .tc := ⟨.hbm, 82, rfl⟩
abbrev main_v58 : Ref sig .tc := ⟨.hbm, 83, rfl⟩
abbrev main_v59 : Ref sig .tc := ⟨.hbm, 84, rfl⟩
abbrev main_c_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_10 : Ref sig .tc := ⟨.hbm, 110, rfl⟩
abbrev main_v84 : Ref sig .tc := ⟨.hbm, 111, rfl⟩
abbrev main_v85 : Ref sig .tc := ⟨.hbm, 112, rfl⟩
abbrev main_cst_11 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_12 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_13 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105_0 : Ref sig .tc := ⟨.hbm, 135, rfl⟩
abbrev main_v105_1 : Ref sig .tc := ⟨.hbm, 136, rfl⟩
abbrev main_v105_2 : Ref sig .tc := ⟨.hbm, 137, rfl⟩
abbrev main_v105_3 : Ref sig .tc := ⟨.hbm, 138, rfl⟩
abbrev main_v105_4 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PoolBwdRefIdeal.lean ====
abbrev S1x4096x2048 : Shape := ⟨3, ![1, 4096, 2048]⟩
abbrev S1x4x256x256 : Shape := ⟨4, ![1, 4, 256, 256]⟩
abbrev S1x4x256 : Shape := ⟨3, ![1, 4, 256]⟩
abbrev S1x1024 : Shape := ⟨2, ![1, 1024]⟩
abbrev S1x1024x1024 : Shape := ⟨3, ![1, 1024, 1024]⟩
abbrev S4096x1024 : Shape := ⟨2, ![4096, 1024]⟩
abbrev S4x256x256 : Shape := ⟨3, ![4, 256, 256]⟩
abbrev S4x256 : Shape := ⟨2, ![4, 256]⟩
abbrev S1024 : Shape := ⟨1, ![1024]⟩
abbrev S1024x1024 : Shape := ⟨2, ![1024, 1024]⟩
abbrev S1x4096x1024 : Shape := ⟨3, ![1, 4096, 1024]⟩
abbrev S1x4096x4x256 : Shape := ⟨4, ![1, 4096, 4, 256]⟩
abbrev S1x4096x1x256 : Shape := ⟨4, ![1, 4096, 1, 256]⟩
abbrev S1x4096x256 : Shape := ⟨3, ![1, 4096, 256]⟩
abbrev S_ : Shape := ⟨0, ![]⟩
abbrev S1x2x256 : Shape := ⟨3, ![1, 2, 256]⟩
abbrev S1x4094x256 : Shape := ⟨3, ![1, 4094, 256]⟩
abbrev S4096 : Shape := ⟨1, ![4096]⟩
abbrev S1x4096x1 : Shape := ⟨3, ![1, 4096, 1]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x1x4096 : Shape := ⟨4, ![4, 256, 1, 4096]⟩
abbrev S1x1x4x256 : Shape := ⟨4, ![1, 1, 4, 256]⟩
abbrev S1x1x1024 : Shape := ⟨3, ![1, 1, 1024]⟩
abbrev S4x1x4096x256 : Shape := ⟨4, ![4, 1, 4096, 256]⟩
abbrev S4096x2048 : Shape := ⟨2, ![4096, 2048]⟩

abbrev nBuf : Space → Nat
  | .hbm => 241
  | .vmem => 0
  | .smem => 0
  | _ => 0

abbrev hbmTy0_0 (i : Nat) : BufTy := match i % 128 with
  | 0 => ⟨S1x4096x2048, .f32⟩
  | 1 => ⟨S1x4x256x256, .f32⟩
  | 2 => ⟨S1x4x256, .f32⟩
  | 3 => ⟨S1x1024, .f32⟩
  | 4 => ⟨S1x1024x1024, .f32⟩
  | 5 => ⟨S4096x1024, .f32⟩
  | 6 => ⟨S4x256x256, .f32⟩
  | 7 => ⟨S4x256, .f32⟩
  | 8 => ⟨S1024, .f32⟩
  | 9 => ⟨S1024x1024, .f32⟩
  | 10 => ⟨S1x4096x1024, .f32⟩
  | 11 => ⟨S1x4096x1024, .f32⟩
  | 12 => ⟨S1x4096x4x256, .f32⟩
  | 13 => ⟨S1x4096x1x256, .f32⟩
  | 14 => ⟨S1x4096x256, .f32⟩
  | 15 => ⟨S_, .f32⟩
  | 16 => ⟨S_, .f32⟩
  | 17 => ⟨S1x4096x256, .f32⟩
  | 18 => ⟨S_, .f32⟩
  | 19 => ⟨S1x2x256, .f32⟩
  | 20 => ⟨S1x4094x256, .f32⟩
  | 21 => ⟨S1x4096x256, .f32⟩
  | 22 => ⟨S_, .f32⟩
  | 23 => ⟨S1x2x256, .f32⟩
  | 24 => ⟨S4096, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S4096, .f32⟩
  | 32 => ⟨S1x4096x256, .f32⟩
  | 33 => ⟨S1x4096x1, .f32⟩
  | 34 => ⟨S1x4096x256, .f32⟩
  | 35 => ⟨S1x4096x256, .f32⟩
  | 36 => ⟨S1x4096x1x256, .f32⟩
  | 37 => ⟨S1x4096x256, .f32⟩
  | 38 => ⟨S_, .f32⟩
  | 39 => ⟨S_, .f32⟩
  | 40 => ⟨S1x4096x256, .f32⟩
  | 41 => ⟨S_, .f32⟩
  | 42 => ⟨S1x4x256, .f32⟩
  | 43 => ⟨S1x4092x256, .f32⟩
  | 44 => ⟨S1x4096x256, .f32⟩
  | 45 => ⟨S_, .f32⟩
  | 46 => ⟨S1x4x256, .f32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096, .f32⟩
  | 55 => ⟨S1x4096x256, .f32⟩
  | 56 => ⟨S1x4096x1, .f32⟩
  | 57 => ⟨S1x4096x256, .f32⟩
  | 58 => ⟨S1x4096x256, .f32⟩
  | 59 => ⟨S1x4096x1x256, .f32⟩
  | 60 => ⟨S1x4096x256, .f32⟩
  | 61 => ⟨S_, .f32⟩
  | 62 => ⟨S_, .f32⟩
  | 63 => ⟨S1x4096x256, .f32⟩
  | 64 => ⟨S_, .f32⟩
  | 65 => ⟨S1x8x256, .f32⟩
  | 66 => ⟨S1x4088x256, .f32⟩
  | 67 => ⟨S1x4096x256, .f32⟩
  | 68 => ⟨S_, .f32⟩
  | 69 => ⟨S1x8x256, .f32⟩
  | 70 => ⟨S4096, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S4096, .f32⟩
  | 78 => ⟨S1x4096x256, .f32⟩
  | 79 => ⟨S1x4096x1, .f32⟩
  | 80 => ⟨S1x4096x256, .f32⟩
  | 81 => ⟨S1x4096x256, .f32⟩
  | 82 => ⟨S1x4096x1x256, .f32⟩
  | 83 => ⟨S1x4096x256, .f32⟩
  | 84 => ⟨S_, .f32⟩
  | 85 => ⟨S_, .f32⟩
  | 86 => ⟨S1x4096x256, .f32⟩
  | 87 => ⟨S_, .f32⟩
  | 88 => ⟨S1x16x256, .f32⟩
  | 89 => ⟨S1x4080x256, .f32⟩
  | 90 => ⟨S1x4096x256, .f32⟩
  | 91 => ⟨S_, .f32⟩
  | 92 => ⟨S1x16x256, .f32⟩
  | 93 => ⟨S4096, .i32⟩
  | 94 => ⟨S_, .i32⟩
  | 95 => ⟨S4096, .i32⟩
  | 96 => ⟨S4096, .i32⟩
  | 97 => ⟨S_, .i32⟩
  | 98 => ⟨S4096, .i32⟩
  | 99 => ⟨S4096, .i32⟩
  | 100 => ⟨S4096, .f32⟩
  | 101 => ⟨S1x4096x256, .f32⟩
  | 102 => ⟨S1x4096x1, .f32⟩
  | 103 => ⟨S1x4096x256, .f32⟩
  | 104 => ⟨S1x4096x256, .f32⟩
  | 105 => ⟨S1x4096x1x256, .f32⟩
  | 106 => ⟨S1x4096x1x256, .f32⟩
  | 107 => ⟨S1x4096x1x256, .f32⟩
  | 108 => ⟨S1x4096x1x256, .f32⟩
  | 109 => ⟨S1x4096x4x256, .f32⟩
  | 110 => ⟨S1x4096x4x256, .f32⟩
  | 111 => ⟨S4x256x1x4096, .f32⟩
  | 112 => ⟨S1x4096x4x256, .f32⟩
  | 113 => ⟨S1x1x4x256, .f32⟩
  | 114 => ⟨S1x4096x4x256, .f32⟩
  | 115 => ⟨S1x4096x4x256, .f32⟩
  | 116 => ⟨S1x4096x1024, .f32⟩
  | 117 => ⟨S1x1x1024, .f32⟩
  | 118 => ⟨S1x4096x1024, .f32⟩
  | 119 => ⟨S1x4096x1024, .f32⟩
  | 120 => ⟨S1x4096x1024, .f32⟩
  | 121 => ⟨S1x4096x1024, .f32⟩
  | 122 => ⟨S_, .f32⟩
  | 123 => ⟨S1x4096x1024, .f32⟩
  | 124 => ⟨S1x4096x1024, .f32⟩
  | 125 => ⟨S_, .f32⟩
  | 126 => ⟨S1x4096x1024, .f32⟩
  | 127 => ⟨S1x4096x1024, .f32⟩
  | _ => ⟨S1x4096x2048, .f32⟩

abbrev hbmTy0_1 (i : Nat) : BufTy := match i % 128 with
  | 0 => ⟨S_, .f32⟩
  | 1 => ⟨S1x4096x1024, .f32⟩
  | 2 => ⟨S1x4096x1024, .f32⟩
  | 3 => ⟨S1x4096x1024, .f32⟩
  | 4 => ⟨S1x4096x1024, .f32⟩
  | 5 => ⟨S1x4096x1024, .f32⟩
  | 6 => ⟨S1x4096x1024, .f32⟩
  | 7 => ⟨S1x4096x1024, .f32⟩
  | 8 => ⟨S1024x1024, .f32⟩
  | 9 => ⟨S1024x1024, .f32⟩
  | 10 => ⟨S1x4096x1024, .f32⟩
  | 11 => ⟨S1x4096x1024, .f32⟩
  | 12 => ⟨S1x4096x1024, .f32⟩
  | 13 => ⟨S1x4096x1024, .f32⟩
  | 14 => ⟨S1x4096x1024, .f32⟩
  | 15 => ⟨S1x4096x1024, .f32⟩
  | 16 => ⟨S1x4096x1024, .f32⟩
  | 17 => ⟨S1x4096x1024, .f32⟩
  | 18 => ⟨S_, .f32⟩
  | 19 => ⟨S1x1024, .f32⟩
  | 20 => ⟨S1x1x1024, .f32⟩
  | 21 => ⟨S1x4096x1024, .f32⟩
  | 22 => ⟨S1x4096x1024, .f32⟩
  | 23 => ⟨S_, .f32⟩
  | 24 => ⟨S1024, .f32⟩
  | 25 => ⟨S1x4096x4x256, .f32⟩
  | 26 => ⟨S_, .f32⟩
  | 27 => ⟨S1x4x256, .f32⟩
  | 28 => ⟨S1x1x4x256, .f32⟩
  | 29 => ⟨S_, .f32⟩
  | 30 => ⟨S4x256, .f32⟩
  | 31 => ⟨S4x256x1x4096, .f32⟩
  | 32 => ⟨S4x1x4096x256, .f32⟩
  | 33 => ⟨S1x4096x4x256, .f32⟩
  | 34 => ⟨S4x256x256, .f32⟩
  | 35 => ⟨S4x256x256, .f32⟩
  | 36 => ⟨S1x4096x4x256, .f32⟩
  | 37 => ⟨S1x4096x1x256, .f32⟩
  | 38 => ⟨S1x4096x256, .f32⟩
  | 39 => ⟨S1x4096x1x256, .f32⟩
  | 40 => ⟨S1x4096x256, .f32⟩
  | 41 => ⟨S1x4096x1x256, .f32⟩
  | 42 => ⟨S1x4096x256, .f32⟩
  | 43 => ⟨S1x4096x1x256, .f32⟩
  | 44 => ⟨S1x4096x256, .f32⟩
  | 45 => ⟨S1x4096x256, .f32⟩
  | 46 => ⟨S1x4096x256, .f32⟩
  | 47 => ⟨S1x4096x256, .f32⟩
  | 48 => ⟨S1x16x256, .f32⟩
  | 49 => ⟨S1x4080x256, .f32⟩
  | 50 => ⟨S_, .f32⟩
  | 51 => ⟨S1x4096x256, .f32⟩
  | 52 => ⟨S1x4096x256, .f32⟩
  | 53 => ⟨S_, .f32⟩
  | 54 => ⟨S_, .f32⟩
  | 55 => ⟨S1x4096x256, .f32⟩
  | 56 => ⟨S1x4096x1x256, .f32⟩
  | 57 => ⟨S_, .f32⟩
  | 58 => ⟨S1x4096x4x256, .f32⟩
  | 59 => ⟨S1x4096x4x256, .f32⟩
  | 60 => ⟨S1x4096x256, .f32⟩
  | 61 => ⟨S1x4096x256, .f32⟩
  | 62 => ⟨S1x4096x256, .f32⟩
  | 63 => ⟨S1x8x256, .f32⟩
  | 64 => ⟨S1x4088x256, .f32⟩
  | 65 => ⟨S_, .f32⟩
  | 66 => ⟨S1x4096x256, .f32⟩
  | 67 => ⟨S1x4096x256, .f32⟩
  | 68 => ⟨S_, .f32⟩
  | 69 => ⟨S_, .f32⟩
  | 70 => ⟨S1x4096x256, .f32⟩
  | 71 => ⟨S1x4096x1x256, .f32⟩
  | 72 => ⟨S_, .f32⟩
  | 73 => ⟨S1x4096x4x256, .f32⟩
  | 74 => ⟨S1x4096x4x256, .f32⟩
  | 75 => ⟨S1x4096x256, .f32⟩
  | 76 => ⟨S1x4096x256, .f32⟩
  | 77 => ⟨S1x4096x256, .f32⟩
  | 78 => ⟨S1x4x256, .f32⟩
  | 79 => ⟨S1x4092x256, .f32⟩
  | 80 => ⟨S_, .f32⟩
  | 81 => ⟨S1x4096x256, .f32⟩
  | 82 => ⟨S1x4096x256, .f32⟩
  | 83 => ⟨S_, .f32⟩
  | 84 => ⟨S_, .f32⟩
  | 85 => ⟨S1x4096x256, .f32⟩
  | 86 => ⟨S1x4096x1x256, .f32⟩
  | 87 => ⟨S_, .f32⟩
  | 88 => ⟨S1x4096x4x256, .f32⟩
  | 89 => ⟨S1x4096x4x256, .f32⟩
  | 90 => ⟨S1x4096x256, .f32⟩
  | 91 => ⟨S1x4096x256, .f32⟩
  | 92 => ⟨S1x4096x256, .f32⟩
  | 93 => ⟨S1x2x256, .f32⟩
  | 94 => ⟨S1x4094x256, .f32⟩
  | 95 => ⟨S_, .f32⟩
  | 96 => ⟨S1x4096x256, .f32⟩
  | 97 => ⟨S1x4096x256, .f32⟩
  | 98 => ⟨S_, .f32⟩
  | 99 => ⟨S_, .f32⟩
  | 100 => ⟨S1x4096x256, .f32⟩
  | 101 => ⟨S1x4096x1x256, .f32⟩
  | 102 => ⟨S_, .f32⟩
  | 103 => ⟨S1x4096x4x256, .f32⟩
  | 104 => ⟨S1x4096x4x256, .f32⟩
  | 105 => ⟨S1x4096x1024, .f32⟩
  | 106 => ⟨S1x4096x2048, .f32⟩
  | 107 => ⟨S4096x2048, .f32⟩
  | 108 => ⟨S4096x2048, .bf16⟩
  | 109 => ⟨S1024x1024, .bf16⟩
  | 110 => ⟨S4x256x256, .bf16⟩
  | 111 => ⟨S1x1024, .f32⟩
  | 112 => ⟨S1x1024, .f32⟩
  | _ => ⟨S1x4096x2048, .f32⟩

abbrev hbmTy (i : Nat) : BufTy := match i / 128 with
  | 0 => hbmTy0_0 i
  | 1 => hbmTy0_1 i
  | _ => ⟨S1x4096x2048, .f32⟩

abbrev bufTy : (tb : Table) → Fin (tcTables nBuf tb) → BufTy
  | .hbm, ⟨i, _⟩ => hbmTy i
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_call0_cst : Ref sig .tc := ⟨.hbm, 15, rfl⟩
abbrev main_call0_call0_v0 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_call0_cst : Ref sig .tc := ⟨.hbm, 38, rfl⟩
abbrev main_call1_call0_v0 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call2_call0_cst : Ref sig .tc := ⟨.hbm, 61, rfl⟩
abbrev main_call2_call0_v0 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call3_call0_cst : Ref sig .tc := ⟨.hbm, 84, rfl⟩
abbrev main_call3_call0_v0 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call4_v0 : Ref sig .tc := ⟨.hbm, 120, rfl⟩
abbrev main_call4_v1 : Ref sig .tc := ⟨.hbm, 121, rfl⟩
abbrev main_call4_cst : Ref sig .tc := ⟨.hbm, 122, rfl⟩
abbrev main_call4_v2 : Ref sig .tc := ⟨.hbm, 123, rfl⟩
abbrev main_call4_v3 : Ref sig .tc := ⟨.hbm, 124, rfl⟩
abbrev main_call4_cst_0 : Ref sig .tc := ⟨.hbm, 125, rfl⟩
abbrev main_call4_v4 : Ref sig .tc := ⟨.hbm, 126, rfl⟩
abbrev main_v90_2 : Ref sig .tc := ⟨.hbm, 127, rfl⟩
abbrev main_call4_cst_1 : Ref sig .tc := ⟨.hbm, 128, rfl⟩
abbrev main_call4_v6 : Ref sig .tc := ⟨.hbm, 129, rfl⟩
abbrev main_call4_v7 : Ref sig .tc := ⟨.hbm, 130, rfl⟩
abbrev main_v90_1 : Ref sig .tc := ⟨.hbm, 131, rfl⟩
abbrev main_v90_0 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_v99 : Ref sig .tc := ⟨.hbm, 144, rfl⟩
abbrev main_v100 : Ref sig .tc := ⟨.hbm, 145, rfl⟩
abbrev main_cst_14 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_15 : Ref sig .tc := ⟨.hbm, 151, rfl⟩
abbrev main_v105 : Ref sig .tc := ⟨.hbm, 152, rfl⟩
abbrev main_v106 : Ref sig .tc := ⟨.hbm, 153, rfl⟩
abbrev main_cst_16 : Ref sig .tc := ⟨.hbm, 154, rfl⟩
abbrev main_v107 : Ref sig .tc := ⟨.hbm, 155, rfl⟩
abbrev main_v108 : Ref sig .tc := ⟨.hbm, 156, rfl⟩
abbrev main_cst_17 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_18 : Ref sig .tc := ⟨.hbm, 178, rfl⟩
abbrev main_v129 : Ref sig .tc := ⟨.hbm, 179, rfl⟩
abbrev main_v130 : Ref sig .tc := ⟨.hbm, 180, rfl⟩
abbrev main_call6_call0_cst : Ref sig .tc := ⟨.hbm, 181, rfl⟩
abbrev main_call6_call0_v0 : Ref sig .tc := ⟨.hbm, 182, rfl⟩
abbrev main_v131 : Ref sig .tc := ⟨.hbm, 183, rfl⟩
abbrev main_v132 : Ref sig .tc := ⟨.hbm, 184, rfl⟩
abbrev main_cst_19 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_20 : Ref sig .tc := ⟨.hbm, 193, rfl⟩
abbrev main_v140 : Ref sig .tc := ⟨.hbm, 194, rfl⟩
abbrev main_v141 : Ref sig .tc := ⟨.hbm, 195, rfl⟩
abbrev main_call7_call0_cst : Ref sig .tc := ⟨.hbm, 196, rfl⟩
abbrev main_call7_call0_v0 : Ref sig .tc := ⟨.hbm, 197, rfl⟩
abbrev main_v142 : Ref sig .tc := ⟨.hbm, 198, rfl⟩
abbrev main_v143 : Ref sig .tc := ⟨.hbm, 199, rfl⟩
abbrev main_cst_21 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_22 : Ref sig .tc := ⟨.hbm, 208, rfl⟩
abbrev main_v151 : Ref sig .tc := ⟨.hbm, 209, rfl⟩
abbrev main_v152 : Ref sig .tc := ⟨.hbm, 210, rfl⟩
abbrev main_call8_call0_cst : Ref sig .tc := ⟨.hbm, 211, rfl⟩
abbrev main_call8_call0_v0 : Ref sig .tc := ⟨.hbm, 212, rfl⟩
abbrev main_v153 : Ref sig .tc := ⟨.hbm, 213, rfl⟩
abbrev main_v154 : Ref sig .tc := ⟨.hbm, 214, rfl⟩
abbrev main_cst_23 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_24 : Ref sig .tc := ⟨.hbm, 223, rfl⟩
abbrev main_v162 : Ref sig .tc := ⟨.hbm, 224, rfl⟩
abbrev main_v163 : Ref sig .tc := ⟨.hbm, 225, rfl⟩
abbrev main_call9_call0_cst : Ref sig .tc := ⟨.hbm, 226, rfl⟩
abbrev main_call9_call0_v0 : Ref sig .tc := ⟨.hbm, 227, rfl⟩
abbrev main_v164 : Ref sig .tc := ⟨.hbm, 228, rfl⟩
abbrev main_v165 : Ref sig .tc := ⟨.hbm, 229, rfl⟩
abbrev main_cst_25 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩

abbrev nD : Nat := 1
abbrev τ : Topo := Topo.v7x

variable {F : FTy → Type} [FloatOps F]
-- ==== GlaBwd.lean ====
abbrev S1x4096x3088 : Shape := ⟨3, ![1, 4096, 3088]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S4096x1024 : Shape := ⟨2, ![4096, 1024]⟩
abbrev S4096x3088 : Shape := ⟨2, ![4096, 3088]⟩
abbrev S16x512 : Shape := ⟨2, ![16, 512]⟩
abbrev S4096x512 : Shape := ⟨2, ![4096, 512]⟩
abbrev S4096x16 : Shape := ⟨2, ![4096, 16]⟩
abbrev S_ : Shape := ⟨0, ![]⟩
abbrev S64x64x4x128 : Shape := ⟨4, ![64, 64, 4, 128]⟩
abbrev S64x64x4x256 : Shape := ⟨4, ![64, 64, 4, 256]⟩
abbrev S64x1x4x128 : Shape := ⟨4, ![64, 1, 4, 128]⟩
abbrev S64x4x64x64 : Shape := ⟨4, ![64, 4, 64, 64]⟩
abbrev S64x4x256x64 : Shape := ⟨4, ![64, 4, 256, 64]⟩
abbrev S64x4x256x128 : Shape := ⟨4, ![64, 4, 256, 128]⟩
abbrev S64x64x64x4x128 : Shape := ⟨5, ![64, 64, 64, 4, 128]⟩
abbrev S64x4x128 : Shape := ⟨3, ![64, 4, 128]⟩
abbrev S4x128x256x64 : Shape := ⟨4, ![4, 128, 256, 64]⟩
abbrev S4096x112 : Shape := ⟨2, ![4096, 112]⟩
abbrev S4096x4224 : Shape := ⟨2, ![4096, 4224]⟩
abbrev S64x64x4x64 : Shape := ⟨4, ![64, 64, 4, 64]⟩
abbrev S16x4x64x4x1x64 : Shape := ⟨6, ![16, 4, 64, 4, 1, 64]⟩
abbrev S16x4x64x4x4x64 : Shape := ⟨6, ![16, 4, 64, 4, 4, 64]⟩
abbrev S64x1024x128 : Shape := ⟨3, ![64, 1024, 128]⟩
abbrev S128x512 : Shape := ⟨2, ![128, 512]⟩
abbrev S1x1x1x256 : Shape := ⟨4, ![1, 1, 1, 256]⟩
abbrev S1x1x4x256 : Shape := ⟨4, ![1, 1, 4, 256]⟩
abbrev S1x1024 : Shape := ⟨2, ![1, 1024]⟩
abbrev S1024x1024 : Shape := ⟨2, ![1024, 1024]⟩
abbrev S4096x3200 : Shape := ⟨2, ![4096, 3200]⟩
abbrev S256x1024 : Shape := ⟨2, ![256, 1024]⟩
abbrev S256x4224 : Shape := ⟨2, ![256, 4224]⟩
abbrev S4x1024x128 : Shape := ⟨3, ![4, 1024, 128]⟩
abbrev S256x3200 : Shape := ⟨2, ![256, 3200]⟩
abbrev S1024x128 : Shape := ⟨2, ![1024, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S64x1 : Shape := ⟨2, ![64, 1]⟩
abbrev S256x512 : Shape := ⟨2, ![256, 512]⟩
abbrev S64x512 : Shape := ⟨2, ![64, 512]⟩
abbrev S512 : Shape := ⟨1, ![512]⟩
abbrev S1x256x128 : Shape := ⟨3, ![1, 256, 128]⟩
abbrev S64x256 : Shape := ⟨2, ![64, 256]⟩
abbrev S64x128 : Shape := ⟨2, ![64, 128]⟩
abbrev S1x128 : Shape := ⟨2, ![1, 128]⟩
abbrev S128 : Shape := ⟨1, ![128]⟩

abbrev nBuf : Space → Nat
  | .hbm => 123
  | .vmem => 22
  | .smem => 0
  | _ => 0

abbrev bufTy : (tb : Table) → Fin (tcTables nBuf tb) → BufTy
  | .hbm, ⟨0, _⟩ => ⟨S1x4096x3088, .f32⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S1x1024x1024, .f32⟩
  | .hbm, ⟨5, _⟩ => ⟨S4096x1024, .f32⟩
  | .hbm, ⟨6, _⟩ => ⟨S4096x3088, .f32⟩
  | .hbm, ⟨7, _⟩ => ⟨S16x512, .f32⟩
  | .hbm, ⟨8, _⟩ => ⟨S4096x512, .f32⟩
  | .hbm, ⟨9, _⟩ => ⟨S4096x512, .f32⟩
  | .hbm, ⟨10, _⟩ => ⟨S4096x1024, .f32⟩
  | .hbm, ⟨11, _⟩ => ⟨S4096x1024, .f32⟩
  | .hbm, ⟨12, _⟩ => ⟨S4096x16, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .i1⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S64x64x4x128, .f32⟩
  | .hbm, ⟨36, _⟩ => ⟨S_, .f32⟩
  | .hbm, ⟨37, _⟩ => ⟨S64x64x4x128, .f32⟩
  | .hbm, ⟨38, _⟩ => ⟨S64x64x4x128, .f32⟩
  | .hbm, ⟨39, _⟩ => ⟨S64x64x4x128, .f32⟩
  | .hbm, ⟨40, _⟩ => ⟨S64x64x4x256, .f32⟩
  | .hbm, ⟨41, _⟩ => ⟨S64x64x4x128, .f32⟩
  | .hbm, ⟨42, _⟩ => ⟨S_, .f32⟩
  | .hbm, ⟨43, _⟩ => ⟨S_, .f32⟩
  | .hbm, ⟨44, _⟩ => ⟨S64x64x4x128, .f32⟩
  | .hbm, ⟨45, _⟩ => ⟨S64x1x4x128, .f32⟩
  | .hbm, ⟨46, _⟩ => ⟨S64x64x4x128, .f32⟩
  | .hbm, ⟨47, _⟩ => ⟨S64x64x4x128, .f32⟩
  | .hbm, ⟨48, _⟩ => ⟨S64x64x4x128, .f32⟩
  | .hbm, ⟨49, _⟩ => ⟨S64x64x4x128, .f32⟩
  | .hbm, ⟨50, _⟩ => ⟨S64x64x4x128, .f32⟩
  | .hbm, ⟨51, _⟩ => ⟨S64x4x64x64, .f32⟩
  | .hbm, ⟨52, _⟩ => ⟨S64x64x4x128, .f32⟩
  | .hbm, ⟨53, _⟩ => ⟨S64x64x4x128, .f32⟩
  | .hbm, ⟨54, _⟩ => ⟨S64x4x64x64, .f32⟩
  | .hbm, ⟨55, _⟩ => ⟨S64x4x64x64, .i32⟩
  | .hbm, ⟨56, _⟩ => ⟨S64x4x64x64, .i32⟩
  | .hbm, ⟨57, _⟩ => ⟨S64x4x64x64, .i1⟩
  | .hbm, ⟨58, _⟩ => ⟨S64x4x64x64, .f32⟩
  | .hbm, ⟨59, _⟩ => ⟨S64x4x256x64, .f32⟩
  | .hbm, ⟨60, _⟩ => ⟨S64x64x4x256, .f32⟩
  | .hbm, ⟨61, _⟩ => ⟨S64x64x4x128, .f32⟩
  | .hbm, ⟨62, _⟩ => ⟨S64x64x4x128, .f32⟩
  | .hbm, ⟨63, _⟩ => ⟨S64x64x4x128, .f32⟩
  | .hbm, ⟨64, _⟩ => ⟨S64x64x4x128, .f32⟩
  | .hbm, ⟨65, _⟩ => ⟨S64x4x256x128, .f32⟩
  | .hbm, ⟨66, _⟩ => ⟨S64x64x64x4x128, .i32⟩
  | .hbm, ⟨67, _⟩ => ⟨S64x64x64x4x128, .i32⟩
  | .hbm, ⟨68, _⟩ => ⟨S64x64x64x4x128, .i32⟩
  | .hbm, ⟨69, _⟩ => ⟨S64x4x128, .f32⟩
  | .hbm, ⟨70, _⟩ => ⟨S64x64x64x4x128, .f32⟩
  | .hbm, ⟨71, _⟩ => ⟨S64x64x64x4x128, .i1⟩
  | .hbm, ⟨72, _⟩ => ⟨S64x64x64x4x128, .i1⟩
  | .hbm, ⟨73, _⟩ => ⟨S64x64x64x4x128, .i1⟩
  | .hbm, ⟨74, _⟩ => ⟨S_, .f32⟩
  | .hbm, ⟨75, _⟩ => ⟨S64x64x64x4x128, .f32⟩
  | .hbm, ⟨76, _⟩ => ⟨S64x64x64x4x128, .f32⟩
  | .hbm, ⟨77, _⟩ => ⟨S_, .f32⟩
  | .hbm, ⟨78, _⟩ => ⟨S64x64x4x128, .f32⟩
  | .hbm, ⟨79, _⟩ => ⟨S64x64x4x128, .i32⟩
  | .hbm, ⟨80, _⟩ => ⟨S64x64x4x128, .i32⟩
  | .hbm, ⟨81, _⟩ => ⟨S64x64x4x128, .i1⟩
  | .hbm, ⟨82, _⟩ => ⟨S64x64x4x128, .f32⟩
  | .hbm, ⟨83, _⟩ => ⟨S_, .f32⟩
  | .hbm, ⟨84, _⟩ => ⟨S64x64x4x128, .f32⟩
  | .hbm, ⟨85, _⟩ => ⟨S64x64x4x128, .f32⟩
  | .hbm, ⟨86, _⟩ => ⟨S4x128x256x64, .f32⟩
  | .hbm, ⟨87, _⟩ => ⟨S64x4x256x128, .f32⟩
  | .hbm, ⟨88, _⟩ => ⟨S64x4x256x64, .f32⟩
  | .hbm, ⟨89, _⟩ => ⟨S64x64x4x256, .f32⟩
  | .hbm, ⟨90, _⟩ => ⟨S64x64x4x256, .f32⟩
  | .hbm, ⟨91, _⟩ => ⟨S4096x1024, .f32⟩
  | .hbm, ⟨92, _⟩ => ⟨S_, .f32⟩
  | .hbm, ⟨93, _⟩ => ⟨S4096x112, .f32⟩
  | .hbm, ⟨94, _⟩ => ⟨S4096x512, .f32⟩
  | .hbm, ⟨95, _⟩ => ⟨S4096x4224, .f32⟩
  | .hbm, ⟨96, _⟩ => ⟨S64x64x4x64, .f32⟩
  | .hbm, ⟨97, _⟩ => ⟨S16x4x64x4x1x64, .f32⟩
  | .hbm, ⟨98, _⟩ => ⟨S16x4x64x4x4x64, .i32⟩
  | .hbm, ⟨99, _⟩ => ⟨S16x4x64x4x4x64, .i32⟩
  | .hbm, ⟨100, _⟩ => ⟨S16x4x64x4x4x64, .i1⟩
  | .hbm, ⟨101, _⟩ => ⟨S16x4x64x4x4x64, .f32⟩
  | .hbm, ⟨102, _⟩ => ⟨S_, .f32⟩
  | .hbm, ⟨103, _⟩ => ⟨S16x4x64x4x4x64, .f32⟩
  | .hbm, ⟨104, _⟩ => ⟨S16x4x64x4x4x64, .f32⟩
  | .hbm, ⟨105, _⟩ => ⟨S64x1024x128, .f32⟩
  | .hbm, ⟨106, _⟩ => ⟨S4096x1024, .f32⟩
  | .hbm, ⟨107, _⟩ => ⟨S4096x1024, .bf16⟩
  | .hbm, ⟨108, _⟩ => ⟨S16x512, .f32⟩
  | .hbm, ⟨109, _⟩ => ⟨S16x512, .bf16⟩
  | .hbm, ⟨110, _⟩ => ⟨S_, .i32⟩
  | .hbm, ⟨111, _⟩ => ⟨S_, .bf16⟩
  | .hbm, ⟨112, _⟩ => ⟨S128x512, .bf16⟩
  | .hbm, ⟨113, _⟩ => ⟨S1x1x1x256, .f32⟩
  | .hbm, ⟨114, _⟩ => ⟨S1x1x4x256, .f32⟩
  | .hbm, ⟨115, _⟩ => ⟨S1x1024, .f32⟩
  | .hbm, ⟨116, _⟩ => ⟨S1024x1024, .f32⟩
  | .hbm, ⟨117, _⟩ => ⟨S1024x1024, .bf16⟩
  | .hbm, ⟨118, _⟩ => ⟨S4096x3200, .bf16⟩
  | .hbm, ⟨119, _⟩ => ⟨S1024x1024, .bf16⟩
  | .hbm, ⟨120, _⟩ => ⟨S1x1024, .f32⟩
  | .hbm, ⟨121, _⟩ => ⟨S128x512, .f32⟩
  | .hbm, ⟨122, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x4224, .f32⟩
  | .local _ .vmem, ⟨3, _⟩ => ⟨S256x4224, .f32⟩
  | .local _ .vmem, ⟨4, _⟩ => ⟨S256x1024, .f32⟩
  | .local _ .vmem, ⟨5, _⟩ => ⟨S256x1024, .f32⟩
  | .local _ .vmem, ⟨6, _⟩ => ⟨S4x1024x128, .f32⟩
  | .local _ .vmem, ⟨7, _⟩ => ⟨S4x1024x128, .f32⟩
  | .local _ .vmem, ⟨8, _⟩ => ⟨S256x1024, .bf16⟩
  | .local _ .vmem, ⟨9, _⟩ => ⟨S256x1024, .bf16⟩
  | .local _ .vmem, ⟨10, _⟩ => ⟨S128x512, .bf16⟩
  | .local _ .vmem, ⟨11, _⟩ => ⟨S1x512, .f32⟩
  | .local _ .vmem, ⟨12, _⟩ => ⟨S1x1024, .f32⟩
  | .local _ .vmem, ⟨13, _⟩ => ⟨S1024x1024, .bf16⟩
  | .local _ .vmem, ⟨14, _⟩ => ⟨S256x3200, .bf16⟩
  | .local _ .vmem, ⟨15, _⟩ => ⟨S256x3200, .bf16⟩
  | .local _ .vmem, ⟨16, _⟩ => ⟨S1x1024, .f32⟩
  | .local _ .vmem, ⟨17, _⟩ => ⟨S128x512, .f32⟩
  | .local _ .vmem, ⟨18, _⟩ => ⟨S1x512, .f32⟩
  | .local _ .vmem, ⟨19, _⟩ => ⟨S1024x128, .f32⟩
  | .local _ .vmem, ⟨20, _⟩ => ⟨S1024x1024, .f32⟩
  | .local _ .vmem, ⟨21, _⟩ => ⟨S1024x1024, .bf16⟩
  | _, _ => ⟨S1x4096x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call1_call0_cst : Ref sig .tc := ⟨.hbm, 42, rfl⟩
abbrev main_call1_call0_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_1 : Ref sig .tc := ⟨.hbm, 74, rfl⟩
abbrev main_v49 : Ref sig .tc := ⟨.hbm, 75, rfl⟩
abbrev main_v50 : Ref sig .tc := ⟨.hbm, 76, rfl⟩
abbrev main_cst_2 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_3 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_4 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_5 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86_0 : Ref sig .tc := ⟨.hbm, 118, rfl⟩
abbrev main_v86_1 : Ref sig .tc := ⟨.hbm, 119, rfl⟩
abbrev main_v86_2 : Ref sig .tc := ⟨.hbm, 120, rfl⟩
abbrev main_v86_3 : Ref sig .tc := ⟨.hbm, 121, rfl⟩
abbrev main_v86_4 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3200 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GlaBwdRefIdeal.lean ====
abbrev S1x4096x3088 : Shape := ⟨3, ![1, 4096, 3088]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S4096x1024 : Shape := ⟨2, ![4096, 1024]⟩
abbrev S256 : Shape := ⟨1, ![256]⟩
abbrev S1x1x1x256 : Shape := ⟨4, ![1, 1, 1, 256]⟩
abbrev S4x1x1x256 : Shape := ⟨4, ![4, 1, 1, 256]⟩
abbrev S4x256 : Shape := ⟨2, ![4, 256]⟩
abbrev S16x512 : Shape := ⟨2, ![16, 512]⟩
abbrev S512 : Shape := ⟨1, ![512]⟩
abbrev S1024x1024 : Shape := ⟨2, ![1024, 1024]⟩
abbrev S1x4096x512 : Shape := ⟨3, ![1, 4096, 512]⟩
abbrev S1x4096x1024 : Shape := ⟨3, ![1, 4096, 1024]⟩
abbrev S1x4096x16 : Shape := ⟨3, ![1, 4096, 16]⟩
abbrev S1x1x512 : Shape := ⟨3, ![1, 1, 512]⟩
abbrev S_ : Shape := ⟨0, ![]⟩
abbrev S1x64x64x4x128 : Shape := ⟨5, ![1, 64, 64, 4, 128]⟩
abbrev S1x64x64x4x256 : Shape := ⟨5, ![1, 64, 64, 4, 256]⟩
abbrev S1x64x1x4x128 : Shape := ⟨5, ![1, 64, 1, 4, 128]⟩
abbrev S1x64x4x64x64 : Shape := ⟨5, ![1, 64, 4, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x4x256x64 : Shape := ⟨5, ![1, 64, 4, 256, 64]⟩
abbrev S1x64x4x128x256 : Shape := ⟨5, ![1, 64, 4, 128, 256]⟩
abbrev S1x64x4x128 : Shape := ⟨4, ![1, 64, 4, 128]⟩
abbrev S64x1x1 : Shape := ⟨3, ![64, 1, 1]⟩
abbrev S1x64x1 : Shape := ⟨3, ![1, 64, 1]⟩
abbrev S1x1x64 : Shape := ⟨3, ![1, 1, 64]⟩
abbrev S1x64x64 : Shape := ⟨3, ![1, 64, 64]⟩
abbrev S64x1x64 : Shape := ⟨3, ![64, 1, 64]⟩
abbrev S64x64x64 : Shape := ⟨3, ![64, 64, 64]⟩
abbrev S1x64x64x64x1x1 : Shape := ⟨6, ![1, 64, 64, 64, 1, 1]⟩
abbrev S1x1x1x64x4x128 : Shape := ⟨6, ![1, 1, 1, 64, 4, 128]⟩
abbrev S1x64x64x64x4x128 : Shape := ⟨6, ![1, 64, 64, 64, 4, 128]⟩
abbrev S1x64x64x1x1 : Shape := ⟨5, ![1, 64, 64, 1, 1]⟩
abbrev S1x4x128x256x64 : Shape := ⟨5, ![1, 4, 128, 256, 64]⟩
abbrev S1x4096x4x256 : Shape := ⟨4, ![1, 4096, 4, 256]⟩
abbrev S1x4096x4 : Shape := ⟨3, ![1, 4096, 4]⟩
abbrev S1x4096x4x1 : Shape := ⟨4, ![1, 4096, 4, 1]⟩
abbrev S1x1x4x256 : Shape := ⟨4, ![1, 1, 4, 256]⟩
abbrev S1x4x256 : Shape := ⟨3, ![1, 4, 256]⟩
abbrev S4096x4 : Shape := ⟨2, ![4096, 4]⟩
abbrev S1x64x4x64x128 : Shape := ⟨5, ![1, 64, 4, 64, 128]⟩
abbrev S1x64x4x256x128 : Shape := ⟨5, ![1, 64, 4, 256, 128]⟩
abbrev S1x4x128x64x64 : Shape := ⟨5, ![1, 4, 128, 64, 64]⟩
abbrev S64x4x128 : Shape := ⟨3, ![64, 4, 128]⟩
abbrev S1x64x4x128x64 : Shape := ⟨5, ![1, 64, 4, 128, 64]⟩
abbrev S512x16 : Shape := ⟨2, ![512, 16]⟩
abbrev S4096x3088 : Shape := ⟨2, ![4096, 3088]⟩
abbrev S4096x3200 : Shape := ⟨2, ![4096, 3200]⟩
abbrev S128x512 : Shape := ⟨2, ![128, 512]⟩
abbrev S1x1024 : Shape := ⟨2, ![1, 1024]⟩

abbrev nBuf : Space → Nat
  | .hbm => 345
  | .vmem => 0
  | .smem => 0
  | _ => 0

abbrev hbmTy0_0 (i : Nat) : BufTy := match i % 128 with
  | 0 => ⟨S1x4096x3088, .f32⟩
  | 1 => ⟨S1x16x512, .f32⟩
  | 2 => ⟨S1x512, .f32⟩
  | 3 => ⟨S1x256, .f32⟩
  | 4 => ⟨S1x1024x1024, .f32⟩
  | 5 => ⟨S4096x1024, .f32⟩
  | 6 => ⟨S256, .f32⟩
  | 7 => ⟨S1x256, .f32⟩
  | 8 => ⟨S1x1x1x256, .f32⟩
  | 9 => ⟨S4x1x1x256, .f32⟩
  | 10 => ⟨S4x256, .f32⟩
  | 11 => ⟨S16x512, .f32⟩
  | 12 => ⟨S512, .f32⟩
  | 13 => ⟨S1024x1024, .f32⟩
  | 14 => ⟨S1x4096x512, .f32⟩
  | 15 => ⟨S1x4096x512, .f32⟩
  | 16 => ⟨S1x4096x1024, .f32⟩
  | 17 => ⟨S1x4096x1024, .f32⟩
  | 18 => ⟨S1x4096x16, .f32⟩
  | 19 => ⟨S1x4096x512, .f32⟩
  | 20 => ⟨S1x1x512, .f32⟩
  | 21 => ⟨S1x4096x512, .f32⟩
  | 22 => ⟨S1x4096x512, .f32⟩
  | 23 => ⟨S1x4096x512, .f32⟩
  | 24 => ⟨S_, .f32⟩
  | 25 => ⟨S1x4096x512, .f32⟩
  | 26 => ⟨S1x4096x512, .f32⟩
  | 27 => ⟨S1x4096x512, .f32⟩
  | 28 => ⟨S1x4096x512, .f32⟩
  | 29 => ⟨S1x4096x512, .i1⟩
  | 30 => ⟨S1x4096x512, .f32⟩
  | 31 => ⟨S1x4096x512, .f32⟩
  | 32 => ⟨S1x4096x512, .f32⟩
  | 33 => ⟨S1x4096x512, .f32⟩
  | 34 => ⟨S1x4096x512, .f32⟩
  | 35 => ⟨S1x4096x512, .f32⟩
  | 36 => ⟨S1x4096x512, .f32⟩
  | 37 => ⟨S1x4096x512, .f32⟩
  | 38 => ⟨S_, .f32⟩
  | 39 => ⟨S1x4096x512, .f32⟩
  | 40 => ⟨S1x4096x512, .i1⟩
  | 41 => ⟨S_, .f32⟩
  | 42 => ⟨S1x4096x512, .f32⟩
  | 43 => ⟨S1x4096x512, .f32⟩
  | 44 => ⟨S_, .f32⟩
  | 45 => ⟨S1x4096x512, .f32⟩
  | 46 => ⟨S1x4096x512, .i1⟩
  | 47 => ⟨S_, .f32⟩
  | 48 => ⟨S1x4096x512, .f32⟩
  | 49 => ⟨S1x4096x512, .f32⟩
  | 50 => ⟨S1x4096x512, .f32⟩
  | 51 => ⟨S1x4096x512, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S1x4096x512, .f32⟩
  | 60 => ⟨S1x4096x512, .i1⟩
  | 61 => ⟨S_, .f32⟩
  | 62 => ⟨S1x4096x512, .f32⟩
  | 63 => ⟨S1x4096x512, .f32⟩
  | 64 => ⟨S1x4096x512, .f32⟩
  | 65 => ⟨S1x4096x512, .f32⟩
  | 66 => ⟨S1x4096x512, .f32⟩
  | 67 => ⟨S_, .f32⟩
  | 68 => ⟨S1x4096x512, .f32⟩
  | 69 => ⟨S1x4096x512, .f32⟩
  | 70 => ⟨S1x4096x512, .f32⟩
  | 71 => ⟨S_, .f32⟩
  | 72 => ⟨S1x4096x512, .f32⟩
  | 73 => ⟨S1x4096x512, .f32⟩
  | 74 => ⟨S1x64x64x4x128, .f32⟩
  | 75 => ⟨S_, .f32⟩
  | 76 => ⟨S1x64x64x4x128, .f32⟩
  | 77 => ⟨S1x64x64x4x128, .f32⟩
  | 78 => ⟨S1x64x64x4x128, .f32⟩
  | 79 => ⟨S1x64x64x4x256, .f32⟩
  | 80 => ⟨S1x64x64x4x128, .f32⟩
  | 81 => ⟨S_, .f32⟩
  | 82 => ⟨S_, .f32⟩
  | 83 => ⟨S1x64x64x4x128, .f32⟩
  | 84 => ⟨S1x64x1x4x128, .f32⟩
  | 85 => ⟨S1x64x64x4x128, .f32⟩
  | 86 => ⟨S1x64x64x4x128, .f32⟩
  | 87 => ⟨S1x64x64x4x128, .f32⟩
  | 88 => ⟨S1x64x64x4x128, .f32⟩
  | 89 => ⟨S1x64x64x4x128, .f32⟩
  | 90 => ⟨S1x64x4x64x64, .f32⟩
  | 91 => ⟨S1x64x64x4x128, .f32⟩
  | 92 => ⟨S1x64x64x4x128, .f32⟩
  | 93 => ⟨S1x64x4x64x64, .f32⟩
  | 94 => ⟨S64, .i32⟩
  | 95 => ⟨S64x1, .i32⟩
  | 96 => ⟨S1x64, .i32⟩
  | 97 => ⟨S64x64, .i32⟩
  | 98 => ⟨S64x64, .i32⟩
  | 99 => ⟨S64x64, .i1⟩
  | 100 => ⟨S1x64x4x64x64, .i1⟩
  | 101 => ⟨S1x64x4x64x64, .f32⟩
  | 102 => ⟨S1x64x4x256x64, .f32⟩
  | 103 => ⟨S1x64x64x4x256, .f32⟩
  | 104 => ⟨S1x64x64x4x128, .f32⟩
  | 105 => ⟨S1x64x64x4x128, .f32⟩
  | 106 => ⟨S1x64x64x4x128, .f32⟩
  | 107 => ⟨S1x64x64x4x128, .f32⟩
  | 108 => ⟨S1x64x64x4x128, .f32⟩
  | 109 => ⟨S1x64x4x128x256, .f32⟩
  | 110 => ⟨S1x64x4x128, .f32⟩
  | 111 => ⟨S64, .i32⟩
  | 112 => ⟨S64x1x1, .i32⟩
  | 113 => ⟨S1x64x1, .i32⟩
  | 114 => ⟨S1x1x64, .i32⟩
  | 115 => ⟨S1x64x64, .i32⟩
  | 116 => ⟨S1x64x64, .i32⟩
  | 117 => ⟨S1x64x64, .i1⟩
  | 118 => ⟨S64x1x64, .i32⟩
  | 119 => ⟨S64x1x64, .i32⟩
  | 120 => ⟨S64x1x64, .i1⟩
  | 121 => ⟨S64x64x64, .i1⟩
  | 122 => ⟨S64x64x64, .i1⟩
  | 123 => ⟨S64x64x64, .i1⟩
  | 124 => ⟨S1x64x64x64x1x1, .i1⟩
  | 125 => ⟨S1x1x1x64x4x128, .f32⟩
  | 126 => ⟨S_, .f32⟩
  | 127 => ⟨S_, .f32⟩
  | _ => ⟨S1x4096x3088, .f32⟩

abbrev hbmTy0_1 (i : Nat) : BufTy := match i % 128 with
  | 0 => ⟨S1x64x64x64x4x128, .i1⟩
  | 1 => ⟨S1x64x64x64x4x128, .f32⟩
  | 2 => ⟨S1x64x64x64x4x128, .f32⟩
  | 3 => ⟨S1x64x64x64x4x128, .f32⟩
  | 4 => ⟨S_, .f32⟩
  | 5 => ⟨S1x64x64x64x4x128, .f32⟩
  | 6 => ⟨S_, .f32⟩
  | 7 => ⟨S1x64x64x4x128, .f32⟩
  | 8 => ⟨S64x1, .i32⟩
  | 9 => ⟨S1x64, .i32⟩
  | 10 => ⟨S64x64, .i32⟩
  | 11 => ⟨S64x64, .i32⟩
  | 12 => ⟨S64x64, .i1⟩
  | 13 => ⟨S1x64x64x1x1, .i1⟩
  | 14 => ⟨S1x64x64x4x128, .f32⟩
  | 15 => ⟨S_, .f32⟩
  | 16 => ⟨S_, .f32⟩
  | 17 => ⟨S1x64x64x4x128, .i1⟩
  | 18 => ⟨S1x64x64x4x128, .f32⟩
  | 19 => ⟨S1x64x64x4x128, .f32⟩
  | 20 => ⟨S_, .f32⟩
  | 21 => ⟨S1x64x64x4x128, .f32⟩
  | 22 => ⟨S1x4x128x256x64, .f32⟩
  | 23 => ⟨S1x64x4x128x256, .f32⟩
  | 24 => ⟨S1x64x4x256x64, .f32⟩
  | 25 => ⟨S1x64x64x4x256, .f32⟩
  | 26 => ⟨S1x64x64x4x256, .f32⟩
  | 27 => ⟨S1x4096x4x256, .f32⟩
  | 28 => ⟨S1x4096x4x256, .f32⟩
  | 29 => ⟨S_, .f32⟩
  | 30 => ⟨S1x4096x4, .f32⟩
  | 31 => ⟨S1x4096x4x1, .f32⟩
  | 32 => ⟨S_, .f32⟩
  | 33 => ⟨S1x4096x4x1, .f32⟩
  | 34 => ⟨S1x4096x4x1, .f32⟩
  | 35 => ⟨S_, .f32⟩
  | 36 => ⟨S1x4096x4x1, .f32⟩
  | 37 => ⟨S1x4096x4x1, .f32⟩
  | 38 => ⟨S1x4096x4x1, .f32⟩
  | 39 => ⟨S1x4096x4x1, .f32⟩
  | 40 => ⟨S_, .f32⟩
  | 41 => ⟨S1x4096x4x1, .f32⟩
  | 42 => ⟨S1x4096x4x1, .f32⟩
  | 43 => ⟨S1x4096x4x256, .f32⟩
  | 44 => ⟨S1x4096x4x256, .f32⟩
  | 45 => ⟨S1x1x4x256, .f32⟩
  | 46 => ⟨S1x4096x4x256, .f32⟩
  | 47 => ⟨S1x4096x4x256, .f32⟩
  | 48 => ⟨S1x4096x1024, .f32⟩
  | 49 => ⟨S1x4096x1024, .f32⟩
  | 50 => ⟨S1x4096x1024, .f32⟩
  | 51 => ⟨S_, .f32⟩
  | 52 => ⟨S1x4096x1024, .f32⟩
  | 53 => ⟨S1x4096x1024, .f32⟩
  | 54 => ⟨S_, .f32⟩
  | 55 => ⟨S1x4096x1024, .f32⟩
  | 56 => ⟨S1x4096x1024, .f32⟩
  | 57 => ⟨S_, .f32⟩
  | 58 => ⟨S1x4096x1024, .f32⟩
  | 59 => ⟨S1x4096x1024, .f32⟩
  | 60 => ⟨S1x4096x1024, .f32⟩
  | 61 => ⟨S1x4096x1024, .f32⟩
  | 62 => ⟨S1x4096x1024, .f32⟩
  | 63 => ⟨S1x4096x1024, .f32⟩
  | 64 => ⟨S1x4096x1024, .f32⟩
  | 65 => ⟨S1024x1024, .f32⟩
  | 66 => ⟨S1024x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x4x256, .f32⟩
  | 75 => ⟨S1x4096x4x256, .f32⟩
  | 76 => ⟨S_, .f32⟩
  | 77 => ⟨S1x4x256, .f32⟩
  | 78 => ⟨S1x1x4x256, .f32⟩
  | 79 => ⟨S1x4096x4x256, .f32⟩
  | 80 => ⟨S1x4096x4x256, .f32⟩
  | 81 => ⟨S_, .f32⟩
  | 82 => ⟨S4x256, .f32⟩
  | 83 => ⟨S1x4096x4x256, .f32⟩
  | 84 => ⟨S_, .f32⟩
  | 85 => ⟨S1x4096x4, .f32⟩
  | 86 => ⟨S1x4096x4x1, .f32⟩
  | 87 => ⟨S1x4096x4x256, .f32⟩
  | 88 => ⟨S1x4096x4x256, .f32⟩
  | 89 => ⟨S1x4096x4x1, .f32⟩
  | 90 => ⟨S_, .f32⟩
  | 91 => ⟨S1x4096x4x1, .f32⟩
  | 92 => ⟨S1x4096x4x1, .f32⟩
  | 93 => ⟨S_, .f32⟩
  | 94 => ⟨S4096x4, .f32⟩
  | 95 => ⟨S1x4096x4, .f32⟩
  | 96 => ⟨S1x4096x4x256, .f32⟩
  | 97 => ⟨S1x4096x4x256, .f32⟩
  | 98 => ⟨S1x4096x4x256, .f32⟩
  | 99 => ⟨S1x4096x4x256, .f32⟩
  | 100 => ⟨S1x4096x4x256, .f32⟩
  | 101 => ⟨S1x64x64x4x256, .f32⟩
  | 102 => ⟨S1x64x4x256x64, .f32⟩
  | 103 => ⟨S1x64x4x64x128, .f32⟩
  | 104 => ⟨S1x64x64x4x128, .f32⟩
  | 105 => ⟨S1x64x4x256x128, .f32⟩
  | 106 => ⟨S1x64x4x128x256, .f32⟩
  | 107 => ⟨S1x4x128x256x64, .f32⟩
  | 108 => ⟨S1x4x128x64x64, .f32⟩
  | 109 => ⟨S1x64x64x4x128, .f32⟩
  | 110 => ⟨S1x4x128x256x64, .f32⟩
  | 111 => ⟨S1x64x4x128x256, .f32⟩
  | 112 => ⟨S_, .f32⟩
  | 113 => ⟨S1x64x64x4x128, .f32⟩
  | 114 => ⟨S1x64x64x4x128, .f32⟩
  | 115 => ⟨S1x64x64x4x128, .f32⟩
  | 116 => ⟨S1x64x64x64x4x128, .f32⟩
  | 117 => ⟨S_, .f32⟩
  | 118 => ⟨S1x64x64x64x4x128, .f32⟩
  | 119 => ⟨S1x64x64x64x4x128, .f32⟩
  | 120 => ⟨S_, .f32⟩
  | 121 => ⟨S64x4x128, .f32⟩
  | 122 => ⟨S1x1x1x64x4x128, .f32⟩
  | 123 => ⟨S_, .f32⟩
  | 124 => ⟨S64x4x128, .f32⟩
  | 125 => ⟨S1x64x4x128, .f32⟩
  | 126 => ⟨S1x64x1x4x128, .f32⟩
  | 127 => ⟨S1x64x4x256x64, .f32⟩
  | _ => ⟨S1x4096x3088, .f32⟩

abbrev hbmTy0_2 (i : Nat) : BufTy := match i % 128 with
  | 0 => ⟨S1x64x64x4x256, .f32⟩
  | 1 => ⟨S1x64x4x128x64, .f32⟩
  | 2 => ⟨S1x64x64x4x128, .f32⟩
  | 3 => ⟨S1x64x64x4x128, .f32⟩
  | 4 => ⟨S1x64x64x4x128, .f32⟩
  | 5 => ⟨S1x64x64x4x128, .f32⟩
  | 6 => ⟨S_, .f32⟩
  | 7 => ⟨S1x64x4x128, .f32⟩
  | 8 => ⟨S1x64x1x4x128, .f32⟩
  | 9 => ⟨S1x64x64x4x128, .f32⟩
  | 10 => ⟨S1x64x1x4x128, .f32⟩
  | 11 => ⟨S1x64x64x4x128, .f32⟩
  | 12 => ⟨S1x64x64x4x128, .f32⟩
  | 13 => ⟨S1x64x4x256x64, .f32⟩
  | 14 => ⟨S1x64x4x64x64, .f32⟩
  | 15 => ⟨S1x64x4x256x64, .f32⟩
  | 16 => ⟨S1x64x64x4x256, .f32⟩
  | 17 => ⟨S1x64x64x4x256, .f32⟩
  | 18 => ⟨S_, .f32⟩
  | 19 => ⟨S1x64x4x64x64, .f32⟩
  | 20 => ⟨S1x64x4x64x64, .f32⟩
  | 21 => ⟨S1x64x4x64x64, .f32⟩
  | 22 => ⟨S1x64x4x64x128, .f32⟩
  | 23 => ⟨S1x64x64x4x128, .f32⟩
  | 24 => ⟨S1x64x4x64x128, .f32⟩
  | 25 => ⟨S1x64x64x4x128, .f32⟩
  | 26 => ⟨S1x64x64x4x128, .f32⟩
  | 27 => ⟨S1x64x64x4x128, .f32⟩
  | 28 => ⟨S1x64x64x4x128, .f32⟩
  | 29 => ⟨S1x64x64x4x128, .f32⟩
  | 30 => ⟨S1x64x64x4x128, .f32⟩
  | 31 => ⟨S1x64x64x4x128, .f32⟩
  | 32 => ⟨S1x64x64x4x128, .f32⟩
  | 33 => ⟨S1x64x4x64x128, .f32⟩
  | 34 => ⟨S1x64x64x4x128, .f32⟩
  | 35 => ⟨S1x64x4x64x128, .f32⟩
  | 36 => ⟨S1x64x64x4x128, .f32⟩
  | 37 => ⟨S1x64x64x4x128, .f32⟩
  | 38 => ⟨S1x64x64x4x128, .f32⟩
  | 39 => ⟨S1x64x64x4x128, .f32⟩
  | 40 => ⟨S1x64x64x4x128, .f32⟩
  | 41 => ⟨S1x64x64x4x128, .f32⟩
  | 42 => ⟨S1x64x64x4x128, .f32⟩
  | 43 => ⟨S1x64x64x4x128, .f32⟩
  | 44 => ⟨S1x64x64x4x128, .f32⟩
  | 45 => ⟨S1x64x64x4x128, .f32⟩
  | 46 => ⟨S1x64x64x4x128, .f32⟩
  | 47 => ⟨S1x64x64x4x128, .f32⟩
  | 48 => ⟨S1x64x64x4x128, .f32⟩
  | 49 => ⟨S1x64x64x4x128, .f32⟩
  | 50 => ⟨S_, .f32⟩
  | 51 => ⟨S1x64x64x4x128, .f32⟩
  | 52 => ⟨S1x64x64x4x128, .f32⟩
  | 53 => ⟨S_, .f32⟩
  | 54 => ⟨S_, .f32⟩
  | 55 => ⟨S1x64x64x4x128, .f32⟩
  | 56 => ⟨S1x4096x512, .f32⟩
  | 57 => ⟨S1x4096x1024, .f32⟩
  | 58 => ⟨S1x4096x512, .f32⟩
  | 59 => ⟨S_, .f32⟩
  | 60 => ⟨S1x64x64x4x128, .f32⟩
  | 61 => ⟨S1x64x64x4x128, .f32⟩
  | 62 => ⟨S1x4096x512, .f32⟩
  | 63 => ⟨S_, .f32⟩
  | 64 => ⟨S1x4096x512, .f32⟩
  | 65 => ⟨S1x4096x512, .f32⟩
  | 66 => ⟨S1x4096x512, .f32⟩
  | 67 => ⟨S1x4096x512, .f32⟩
  | 68 => ⟨S1x4096x512, .f32⟩
  | 69 => ⟨S_, .f32⟩
  | 70 => ⟨S1x512, .f32⟩
  | 71 => ⟨S1x1x512, .f32⟩
  | 72 => ⟨S_, .f32⟩
  | 73 => ⟨S512, .f32⟩
  | 74 => ⟨S512x16, .f32⟩
  | 75 => ⟨S16x512, .f32⟩
  | 76 => ⟨S1x4096x16, .f32⟩
  | 77 => ⟨S1x4096x3088, .f32⟩
  | 78 => ⟨S4096x3088, .f32⟩
  | 79 => ⟨S4096x3088, .bf16⟩
  | 80 => ⟨S_, .i32⟩
  | 81 => ⟨S_, .bf16⟩
  | 82 => ⟨S4096x3200, .bf16⟩
  | 83 => ⟨S_, .i32⟩
  | 84 => ⟨S_, .f32⟩
  | 85 => ⟨S128x512, .f32⟩
  | 86 => ⟨S1024x1024, .bf16⟩
  | 87 => ⟨S1x1024, .f32⟩
  | 88 => ⟨S1x512, .f32⟩
  | _ => ⟨S1x4096x3088, .f32⟩

abbrev hbmTy (i : Nat) : BufTy := match i / 128 with
  | 0 => hbmTy0_0 i
  | 1 => hbmTy0_1 i
  | 2 => hbmTy0_2 i
  | _ => ⟨S1x4096x3088, .f32⟩

abbrev bufTy : (tb : Table) → Fin (tcTables nBuf tb) → BufTy
  | .hbm, ⟨i, _⟩ => hbmTy i
  | _, _ => ⟨S1x4096x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v17_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v17_2 : Ref sig .tc := ⟨.hbm, 69, rfl⟩
abbrev main_v17_0 : Ref sig .tc := ⟨.hbm, 70, rfl⟩
abbrev main_cst : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_cst_0 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_call1_call0_cst : Ref sig .tc := ⟨.hbm, 81, rfl⟩
abbrev main_call1_call0_v0 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43_1 : Ref sig .tc := ⟨.hbm, 100, rfl⟩
abbrev main_v43_0 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_1 : Ref sig .tc := ⟨.hbm, 126, rfl⟩
abbrev main_call3_v0 : Ref sig .tc := ⟨.hbm, 127, rfl⟩
abbrev main_v68_1 : Ref sig .tc := ⟨.hbm, 128, rfl⟩
abbrev main_call3_v2 : Ref sig .tc := ⟨.hbm, 129, rfl⟩
abbrev main_call3_v3 : Ref sig .tc := ⟨.hbm, 130, rfl⟩
abbrev main_v68_0 : Ref sig .tc := ⟨.hbm, 131, rfl⟩
abbrev main_call3_cst : Ref sig .tc := ⟨.hbm, 132, rfl⟩
abbrev main_v68_2 : Ref sig .tc := ⟨.hbm, 133, rfl⟩
abbrev main_cst_2 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_cst_3 : Ref sig .tc := ⟨.hbm, 143, rfl⟩
abbrev main_call4_v0 : Ref sig .tc := ⟨.hbm, 144, rfl⟩
abbrev main_v77_1 : Ref sig .tc := ⟨.hbm, 145, rfl⟩
abbrev main_call4_v2 : Ref sig .tc := ⟨.hbm, 146, rfl⟩
abbrev main_v77_0 : Ref sig .tc := ⟨.hbm, 147, rfl⟩
abbrev main_call4_cst : Ref sig .tc := ⟨.hbm, 148, rfl⟩
abbrev main_v77_2 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_cst_4 : Ref sig .tc := ⟨.hbm, 157, rfl⟩
abbrev main_v85 : Ref sig .tc := ⟨.hbm, 158, rfl⟩
abbrev main_v86 : Ref sig .tc := ⟨.hbm, 159, rfl⟩
abbrev main_cst_5 : Ref sig .tc := ⟨.hbm, 160, rfl⟩
abbrev main_v87 : Ref sig .tc := ⟨.hbm, 161, rfl⟩
abbrev main_v88 : Ref sig .tc := ⟨.hbm, 162, rfl⟩
abbrev main_cst_6 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_cst_7 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_call5_v0 : Ref sig .tc := ⟨.hbm, 177, rfl⟩
abbrev main_call5_v1 : Ref sig .tc := ⟨.hbm, 178, rfl⟩
abbrev main_call5_cst : Ref sig .tc := ⟨.hbm, 179, rfl⟩
abbrev main_call5_v2 : Ref sig .tc := ⟨.hbm, 180, rfl⟩
abbrev main_call5_v3 : Ref sig .tc := ⟨.hbm, 181, rfl⟩
abbrev main_call5_cst_0 : Ref sig .tc := ⟨.hbm, 182, rfl⟩
abbrev main_call5_v4 : Ref sig .tc := ⟨.hbm, 183, rfl⟩
abbrev main_v101_2 : Ref sig .tc := ⟨.hbm, 184, rfl⟩
abbrev main_call5_cst_1 : Ref sig .tc := ⟨.hbm, 185, rfl⟩
abbrev main_call5_v6 : Ref sig .tc := ⟨.hbm, 186, rfl⟩
abbrev main_call5_v7 : Ref sig .tc := ⟨.hbm, 187, rfl⟩
abbrev main_v101_1 : Ref sig .tc := ⟨.hbm, 188, rfl⟩
abbrev main_v101_0 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_call6_v0 : Ref sig .tc := ⟨.hbm, 198, rfl⟩
abbrev main_call6_v1 : Ref sig .tc := ⟨.hbm, 199, rfl⟩
abbrev main_call6_v2 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_cst_8 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_cst_9 : Ref sig .tc := ⟨.hbm, 209, rfl⟩
abbrev main_v117 : Ref sig .tc := ⟨.hbm, 210, rfl⟩
abbrev main_v118 : Ref sig .tc := ⟨.hbm, 211, rfl⟩
abbrev main_cst_10 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_cst_11 : Ref sig .tc := ⟨.hbm, 218, rfl⟩
abbrev main_v124 : Ref sig .tc := ⟨.hbm, 219, rfl⟩
abbrev main_v125 : Ref sig .tc := ⟨.hbm, 220, rfl⟩
abbrev main_cst_12 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_call7_cst : Ref sig .tc := ⟨.hbm, 240, rfl⟩
abbrev main_call7_v0 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_call8_cst : Ref sig .tc := ⟨.hbm, 245, rfl⟩
abbrev main_call8_v0 : Ref sig .tc := ⟨.hbm, 246, rfl⟩
abbrev main_call8_v1 : Ref sig .tc := ⟨.hbm, 247, rfl⟩
abbrev main_call8_cst_0 : Ref sig .tc := ⟨.hbm, 248, rfl⟩
abbrev main_call8_v2 : Ref sig .tc := ⟨.hbm, 249, rfl⟩
abbrev main_v147 : Ref sig .tc := ⟨.hbm, 250, rfl⟩
abbrev main_cst_13 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_cst_14 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_call9_cst : Ref sig .tc := ⟨.hbm, 274, rfl⟩
abbrev main_call9_v0 : Ref sig .tc := ⟨.hbm, 275, rfl⟩
abbrev main_v169_1 : Ref sig .tc := ⟨.hbm, 276, rfl⟩
abbrev main_v169_0 : Ref sig .tc := ⟨.hbm, 277, rfl⟩
abbrev main_v170 : Ref sig .tc := ⟨.hbm, 278, rfl⟩
abbrev main_v171 : Ref sig .tc := ⟨.hbm, 279, rfl⟩
abbrev main_v172 : Ref sig .tc := ⟨.hbm, 280, rfl⟩
abbrev main_v173 : Ref sig .tc := ⟨.hbm, 281, rfl⟩
abbrev main_v174 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_v178 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_cst_15 : Ref sig .tc := ⟨.hbm, 306, rfl⟩
abbrev main_v198 : Ref sig .tc := ⟨.hbm, 307, rfl⟩
abbrev main_v199 : Ref sig .tc := ⟨.hbm, 308, rfl⟩
abbrev main_call10_call0_cst : Ref sig .tc := ⟨.hbm, 309, rfl⟩
abbrev main_call10_call0_v0 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_v203 : Ref sig .tc := ⟨.hbm, 314, rfl⟩
abbrev main_cst_16 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_cst_17 : Ref sig .tc := ⟨.hbm, 319, rfl⟩
abbrev main_v207 : Ref sig .tc := ⟨.hbm, 320, rfl⟩
abbrev main_v208 : Ref sig .tc := ⟨.hbm, 321, rfl⟩
abbrev main_call11_v0 : Ref sig .tc := ⟨.hbm, 322, rfl⟩
abbrev main_call11_v1 : Ref sig .tc := ⟨.hbm, 323, rfl⟩
abbrev main_v209 : Ref sig .tc := ⟨.hbm, 324, rfl⟩
abbrev main_cst_18 : Ref sig .tc := ⟨.hbm, 325, rfl⟩
abbrev main_v210 : Ref sig .tc := ⟨.hbm, 326, rfl⟩
abbrev main_v211 : Ref sig .tc := ⟨.hbm, 327, rfl⟩
abbrev main_cst_19 : Ref sig .tc := ⟨.hbm, 328, rfl⟩
abbrev main_v212 : Ref sig .tc := ⟨.hbm, 329, rfl⟩
abbrev main_v213 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_c : Ref sig .tc := ⟨.hbm, 336, rfl⟩
abbrev main_call12_v0 : Ref sig .tc := ⟨.hbm, 337, rfl⟩
abbrev main_v219 : Ref sig .tc := ⟨.hbm, 338, rfl⟩
abbrev main_c_20 : Ref sig .tc := ⟨.hbm, 339, rfl⟩
abbrev main_call13_v0 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩

abbrev nD : Nat := 1
abbrev τ : Topo := Topo.v7x

variable {F : FTy → Type} [FloatOps F]
-- ==== PoolInBwd.lean ====
abbrev S1x4096x1024 : Shape := ⟨3, ![1, 4096, 1024]⟩
abbrev S2x1024 : Shape := ⟨2, ![2, 1024]⟩
abbrev S1x1024x2048 : Shape := ⟨3, ![1, 1024, 2048]⟩
abbrev S4096x2048 : Shape := ⟨2, ![4096, 2048]⟩
abbrev S4096x1024 : Shape := ⟨2, ![4096, 1024]⟩
abbrev S1x1024 : Shape := ⟨2, ![1, 1024]⟩
abbrev S1024x2048 : Shape := ⟨2, ![1024, 2048]⟩
abbrev S512x2048 : Shape := ⟨2, ![512, 2048]⟩
abbrev S512x1024 : Shape := ⟨2, ![512, 1024]⟩
abbrev S4 : Shape := ⟨1, ![4]⟩
abbrev S512 : Shape := ⟨1, ![512]⟩
abbrev S512x1 : Shape := ⟨2, ![512, 1]⟩
abbrev S1024 : Shape := ⟨1, ![1024]⟩
abbrev S256x2048 : Shape := ⟨2, ![256, 2048]⟩
abbrev S1 : Shape := ⟨1, ![1]⟩
abbrev S_ : Shape := ⟨0, ![]⟩

abbrev nBuf : Space → Nat
  | .hbm => 12
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S2x1024, .f32⟩
  | .hbm, ⟨2, _⟩ => ⟨S1x1024x2048, .f32⟩
  | .hbm, ⟨3, _⟩ => ⟨S4096x2048, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024x2048, .f32⟩
  | .hbm, ⟨8, _⟩ => ⟨S1024x2048, .bf16⟩
  | .hbm, ⟨9, _⟩ => ⟨S4096x1024, .f32⟩
  | .hbm, ⟨10, _⟩ => ⟨S1024x2048, .bf16⟩
  | .hbm, ⟨11, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x2048, .f32⟩
  | .local _ .vmem, ⟨12, _⟩ => ⟨S1024x2048, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolInBwdRefIdeal.lean ====
abbrev S1x4096x1024 : Shape := ⟨3, ![1, 4096, 1024]⟩
abbrev S2x1024 : Shape := ⟨2, ![2, 1024]⟩
abbrev S1x1024x2048 : Shape := ⟨3, ![1, 1024, 2048]⟩
abbrev S4096x2048 : Shape := ⟨2, ![4096, 2048]⟩
abbrev S4096x1024 : Shape := ⟨2, ![4096, 1024]⟩
abbrev S1x1024 : Shape := ⟨2, ![1, 1024]⟩
abbrev S1024 : Shape := ⟨1, ![1024]⟩
abbrev S1024x2048 : Shape := ⟨2, ![1024, 2048]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x2048 : Shape := ⟨3, ![1, 4096, 2048]⟩
abbrev S2048x1024 : Shape := ⟨2, ![2048, 1024]⟩
abbrev S4096 : Shape := ⟨1, ![4096]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S2x1024, .f32⟩
  | .hbm, ⟨2, _⟩ => ⟨S1x1024x2048, .f32⟩
  | .hbm, ⟨3, _⟩ => ⟨S4096x2048, .bf16⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1024x2048, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x1024, .f32⟩
  | .hbm, ⟨24, _⟩ => ⟨S1x4096x1024, .f32⟩
  | .hbm, ⟨25, _⟩ => ⟨S1x1x1024, .f32⟩
  | .hbm, ⟨26, _⟩ => ⟨S1x4096x1024, .f32⟩
  | .hbm, ⟨27, _⟩ => ⟨S1x4096x1024, .f32⟩
  | .hbm, ⟨28, _⟩ => ⟨S1x4096x2048, .f32⟩
  | .hbm, ⟨29, _⟩ => ⟨S4096x2048, .f32⟩
  | .hbm, ⟨30, _⟩ => ⟨S1x4096x2048, .f32⟩
  | .hbm, ⟨31, _⟩ => ⟨S1x4096x1024, .f32⟩
  | .hbm, ⟨32, _⟩ => ⟨S2048x1024, .f32⟩
  | .hbm, ⟨33, _⟩ => ⟨S1024x2048, .f32⟩
  | .hbm, ⟨34, _⟩ => ⟨S1x4096x1024, .f32⟩
  | .hbm, ⟨35, _⟩ => ⟨S1x4096x1024, .f32⟩
  | .hbm, ⟨36, _⟩ => ⟨S_, .f32⟩
  | .hbm, ⟨37, _⟩ => ⟨S1x1024, .f32⟩
  | .hbm, ⟨38, _⟩ => ⟨S1x1x1024, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1024, .f32⟩
  | .hbm, ⟨43, _⟩ => ⟨S1x4096x1024, .f32⟩
  | .hbm, ⟨44, _⟩ => ⟨S_, .f32⟩
  | .hbm, ⟨45, _⟩ => ⟨S1x4096, .f32⟩
  | .hbm, ⟨46, _⟩ => ⟨S1x4096x1, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1, .f32⟩
  | .hbm, ⟨51, _⟩ => ⟨S_, .f32⟩
  | .hbm, ⟨52, _⟩ => ⟨S1x4096x1, .f32⟩
  | .hbm, ⟨53, _⟩ => ⟨S1x4096x1, .f32⟩
  | .hbm, ⟨54, _⟩ => ⟨S_, .f32⟩
  | .hbm, ⟨55, _⟩ => ⟨S4096, .f32⟩
  | .hbm, ⟨56, _⟩ => ⟨S1x4096, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S4096x1024, .f32⟩
  | .hbm, ⟨63, _⟩ => ⟨S1024x2048, .bf16⟩
  | .hbm, ⟨64, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== GlaInBwd.lean ====
abbrev S1x4096x1024 : Shape := ⟨3, ![1, 4096, 1024]⟩
abbrev S2x1024 : Shape := ⟨2, ![2, 1024]⟩
abbrev S1x1024x3088 : Shape := ⟨3, ![1, 1024, 3088]⟩
abbrev S4096x3088 : Shape := ⟨2, ![4096, 3088]⟩
abbrev S4096x1024 : Shape := ⟨2, ![4096, 1024]⟩
abbrev S_ : Shape := ⟨0, ![]⟩
abbrev S4096x3200 : Shape := ⟨2, ![4096, 3200]⟩
abbrev S1x1024 : Shape := ⟨2, ![1, 1024]⟩
abbrev S1024x3088 : Shape := ⟨2, ![1024, 3088]⟩
abbrev S3088x1024 : Shape := ⟨2, ![3088, 1024]⟩
abbrev S24704x128 : Shape := ⟨2, ![24704, 128]⟩
abbrev S512x3200 : Shape := ⟨2, ![512, 3200]⟩
abbrev S512x1024 : Shape := ⟨2, ![512, 1024]⟩
abbrev S3200x1024 : Shape := ⟨2, ![3200, 1024]⟩
abbrev S6208x128 : Shape := ⟨2, ![6208, 128]⟩
abbrev S4 : Shape := ⟨1, ![4]⟩
abbrev S512x3072 : Shape := ⟨2, ![512, 3072]⟩
abbrev S3072x1024 : Shape := ⟨2, ![3072, 1024]⟩
abbrev S512x128 : Shape := ⟨2, ![512, 128]⟩
abbrev S16x1024 : Shape := ⟨2, ![16, 1024]⟩
abbrev S112x1024 : Shape := ⟨2, ![112, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩
abbrev S776x128 : Shape := ⟨2, ![776, 128]⟩
abbrev S1 : Shape := ⟨1, ![1]⟩
abbrev S760x128 : Shape := ⟨2, ![760, 128]⟩
abbrev S6080x128 : Shape := ⟨2, ![6080, 128]⟩

abbrev nBuf : Space → Nat
  | .hbm => 16
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S2x1024, .f32⟩
  | .hbm, ⟨2, _⟩ => ⟨S1x1024x3088, .f32⟩
  | .hbm, ⟨3, _⟩ => ⟨S4096x3088, .bf16⟩
  | .hbm, ⟨4, _⟩ => ⟨S4096x1024, .f32⟩
  | .hbm, ⟨5, _⟩ => ⟨S_, .i32⟩
  | .hbm, ⟨6, _⟩ => ⟨S_, .bf16⟩
  | .hbm, ⟨7, _⟩ => ⟨S4096x3200, .bf16⟩
  | .hbm, ⟨8, _⟩ => ⟨S4096x1024, .f32⟩
  | .hbm, ⟨9, _⟩ => ⟨S1x1024, .f32⟩
  | .hbm, ⟨10, _⟩ => ⟨S1024x3088, .f32⟩
  | .hbm, ⟨11, _⟩ => ⟨S3088x1024, .f32⟩
  | .hbm, ⟨12, _⟩ => ⟨S3088x1024, .bf16⟩
  | .hbm, ⟨13, _⟩ => ⟨S4096x1024, .f32⟩
  | .hbm, ⟨14, _⟩ => ⟨S24704x128, .bf16⟩
  | .hbm, ⟨15, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S3088x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S3200x1024, .f32⟩
  | .local _ .vmem, ⟨12, _⟩ => ⟨S24704x128, .bf16⟩
  | .local _ .vmem, ⟨13, _⟩ => ⟨S6208x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3088x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GlaInBwdRefIdeal.lean ====
abbrev S1x4096x1024 : Shape := ⟨3, ![1, 4096, 1024]⟩
abbrev S2x1024 : Shape := ⟨2, ![2, 1024]⟩
abbrev S1x1024x3088 : Shape := ⟨3, ![1, 1024, 3088]⟩
abbrev S4096x3088 : Shape := ⟨2, ![4096, 3088]⟩
abbrev S4096x1024 : Shape := ⟨2, ![4096, 1024]⟩
abbrev S1x1024 : Shape := ⟨2, ![1, 1024]⟩
abbrev S1024 : Shape := ⟨1, ![1024]⟩
abbrev S1024x3088 : Shape := ⟨2, ![1024, 3088]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x3088 : Shape := ⟨3, ![1, 4096, 3088]⟩
abbrev S3088x1024 : Shape := ⟨2, ![3088, 1024]⟩
abbrev S4096 : Shape := ⟨1, ![4096]⟩
abbrev S24704x128 : Shape := ⟨2, ![24704, 128]⟩

abbrev nBuf : Space → Nat
  | .hbm => 67
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S2x1024, .f32⟩
  | .hbm, ⟨2, _⟩ => ⟨S1x1024x3088, .f32⟩
  | .hbm, ⟨3, _⟩ => ⟨S4096x3088, .bf16⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S1024x3088, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S_, .f32⟩
  | .hbm, ⟨21, _⟩ => ⟨S1x4096x1, .f32⟩
  | .hbm, ⟨22, _⟩ => ⟨S1x4096x1, .f32⟩
  | .hbm, ⟨23, _⟩ => ⟨S1x4096x1024, .f32⟩
  | .hbm, ⟨24, _⟩ => ⟨S1x4096x1024, .f32⟩
  | .hbm, ⟨25, _⟩ => ⟨S1x1x1024, .f32⟩
  | .hbm, ⟨26, _⟩ => ⟨S1x4096x1024, .f32⟩
  | .hbm, ⟨27, _⟩ => ⟨S1x4096x1024, .f32⟩
  | .hbm, ⟨28, _⟩ => ⟨S1x4096x3088, .f32⟩
  | .hbm, ⟨29, _⟩ => ⟨S4096x3088, .f32⟩
  | .hbm, ⟨30, _⟩ => ⟨S1x4096x3088, .f32⟩
  | .hbm, ⟨31, _⟩ => ⟨S1x4096x1024, .f32⟩
  | .hbm, ⟨32, _⟩ => ⟨S3088x1024, .f32⟩
  | .hbm, ⟨33, _⟩ => ⟨S1024x3088, .f32⟩
  | .hbm, ⟨34, _⟩ => ⟨S1x4096x1024, .f32⟩
  | .hbm, ⟨35, _⟩ => ⟨S1x4096x1024, .f32⟩
  | .hbm, ⟨36, _⟩ => ⟨S_, .f32⟩
  | .hbm, ⟨37, _⟩ => ⟨S1x1024, .f32⟩
  | .hbm, ⟨38, _⟩ => ⟨S1x1x1024, .f32⟩
  | .hbm, ⟨39, _⟩ => ⟨S1x4096x1024, .f32⟩
  | .hbm, ⟨40, _⟩ => ⟨S1x4096x1024, .f32⟩
  | .hbm, ⟨41, _⟩ => ⟨S_, .f32⟩
  | .hbm, ⟨42, _⟩ => ⟨S1024, .f32⟩
  | .hbm, ⟨43, _⟩ => ⟨S1x4096x1024, .f32⟩
  | .hbm, ⟨44, _⟩ => ⟨S_, .f32⟩
  | .hbm, ⟨45, _⟩ => ⟨S1x4096, .f32⟩
  | .hbm, ⟨46, _⟩ => ⟨S1x4096x1, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S1x4096x1, .f32⟩
  | .hbm, ⟨51, _⟩ => ⟨S_, .f32⟩
  | .hbm, ⟨52, _⟩ => ⟨S1x4096x1, .f32⟩
  | .hbm, ⟨53, _⟩ => ⟨S1x4096x1, .f32⟩
  | .hbm, ⟨54, _⟩ => ⟨S_, .f32⟩
  | .hbm, ⟨55, _⟩ => ⟨S4096, .f32⟩
  | .hbm, ⟨56, _⟩ => ⟨S1x4096, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S4096x1024, .f32⟩
  | .hbm, ⟨63, _⟩ => ⟨S1024x3088, .bf16⟩
  | .hbm, ⟨64, _⟩ => ⟨S3088x1024, .bf16⟩
  | .hbm, ⟨65, _⟩ => ⟨S24704x128, .bf16⟩
  | .hbm, ⟨66, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Proof.RevSum.lean ====
module

public import proofs.«01_k».proof.Proof.Gen.PoolBwdRefIdeal.Read
public import Idealize.ShloMosaic.Lib.Pointwise

/-!
# The running sum that the reference's gradient takes from the end

The derivative of a running sum is a running sum taken from the other end: a window sum over the padded rows. This
module reads it at a row (`fromEnd_at`), and shows what it is of a difference of two rows `window` apart, as the
derivative of a trailing mean has it: the sum of `window` rows (`fromEnd_diff`). Both need the rows to be numbers, not
infinities, for the second alone.
-/

@[expose] public section

noncomputable section

namespace Cert.PoolBwdRefIdeal.RevSum

open Idealize.ShloMosaic Idealize.ShloMosaic.TcCoe Cert.PoolBwdRefIdeal Cert.PoolBwdRefIdeal.Gen
open scoped BigOperators

/-- An ideal value that is a number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  rw [sub_eq_add_neg]; exact hx.add hy.neg

theorem IsReal.div {x : EReal} {r : ℝ} (hx : IsReal x) (hr : r ≠ 0) : IsReal (Ideal.div x r) := by
  rw [Ideal.div_coe hr]; exact hx.mul ⟨_, rfl⟩

theorem IsReal.zero : IsReal 0 := ⟨0, rfl⟩

/-- A sum of numbers is the number that sums them. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) {f : ι → EReal} (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self _ _)).add (ih fun i hi => h i (Finset.mem_insert_of_mem hi))

/-- A left fold of additions is its start plus the sum. -/
theorem foldl_add (N : ℕ) (f : Fin N → EReal) (v : EReal) : (List.finRange N).foldl (fun r n => r + f n) v = v + ∑ n, f n := by
  have h : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [h, Fin.sum_univ_def]

/-- A window sum at an index: its start, and over the window's positions the operand's element there, or the start outside. -/
theorem windowAdd_eq {s t u : Shape} (window strides lo hi : Fin s.rank → ℕ) (X : FVec Ideal s .f32) (v : u.Idx → Ideal .f32)
    (h : s.ReduceWindows window strides lo hi t) (hu : 0 < u.numel) (j : t.Idx) :
    (Host.reduceWindowAdd (F := Ideal) window strides lo hi X v h hu j : EReal)
      = v (Shape.Idx.first hu) + ∑ i : (⟨s.rank, window⟩ : Shape).Idx,
          if hin : ∀ a, lo a ≤ (j (a.cast h.1.symm)).val * strides a + (i a).val
              ∧ (j (a.cast h.1.symm)).val * strides a + (i a).val - lo a < s.size a then
            (X (fun a => ⟨(j (a.cast h.1.symm)).val * strides a + (i a).val - lo a, (hin a).2⟩) : EReal)
          else v (Shape.Idx.first hu) := by
  rw [← Equiv.sum_comp (Shape.rowMajor ⟨s.rank, window⟩).symm]
  show (Ideal.hostReduceWindowAdd window strides lo hi h X (v (Shape.Idx.first hu)) j : EReal) = _
  unfold Ideal.hostReduceWindowAdd Host.reduceWindow
  dsimp only
  rw [foldl_add]
  exact congrArg _ (Finset.sum_congr rfl fun n _ => dite_congr rfl (fun _ => rfl) fun _ => rfl)

/-- The window's positions are its rows. -/
def winRows : Fin 4096 ≃ (⟨3, ![1, 4096, 1]⟩ : Shape).Idx where
  toFun k := ix3 0 k 0
  invFun i := i 1
  left_inv k := rfl
  right_inv i := funext fun a => match a with
    | ⟨0, _⟩ => Fin.ext (by have h : (i 0).val < 1 := (i 0).isLt; show 0 = (i 0).val; omega)
    | ⟨1, _⟩ => rfl
    | ⟨2, _⟩ => Fin.ext (by have h : (i 2).val < 1 := (i 2).isLt; show 0 = (i 2).val; omega)

/-- The running sum from the end at row `t`: the rows from `t` on. -/
theorem fromEnd_at (X : FVec Ideal S1x4096x256 .f32) (v : S_.Idx → Ideal .f32) (hv : v (Shape.Idx.first h_S_) = (0 : EReal))
    (t : Fin 4096) (e : Fin 256) :
    Host.reduceWindowAdd (F := Ideal) ![1, 4096, 1] ![1, 1, 1] ![0, 0, 0] ![0, 4095, 0] X v
        reduceWindows_S1x4096x256_S1x4096x256_w1s1p0_0_w4096s1p0_4095_w1s1p0_0 h_S_ (ix3 0 t e)
      = ∑ k : Fin 4096, if h : t.val + k.val < 4096 then (X (ix3 0 ⟨t.val + k.val, h⟩ e) : EReal) else 0 := by
  rw [windowAdd_eq, hv, zero_add, ← Equiv.sum_comp winRows]
  refine Finset.sum_congr rfl fun k _ => ?_
  by_cases h : t.val + k.val < 4096
  · rw [dif_pos h, dif_pos]
    · exact congrArg X (funext fun a => Fin.ext (by match a with | ⟨0, _⟩ => rfl | ⟨1, _⟩ => show t.val * 1 + k.val - 0 = t.val + k.val; omega | ⟨2, _⟩ => show e.val * 1 + 0 - 0 = e.val; omega))
    · intro a
      match a with
      | ⟨0, _⟩ => exact ⟨Nat.zero_le _, by show 0 * 1 + 0 - 0 < 1; omega⟩
      | ⟨1, _⟩ => exact ⟨Nat.zero_le _, by show t.val * 1 + k.val - 0 < 4096; omega⟩
      | ⟨2, _⟩ => exact ⟨Nat.zero_le _, by have := e.isLt; show e.val * 1 + 0 - 0 < 256; omega⟩
  · rw [dif_neg h, dif_neg]
    intro hin
    have h1 := (hin 1).2
    change t.val * 1 + k.val - 0 < 4096 at h1
    omega

/-- A window sum of numbers, from a number, is a number. -/
theorem windowAdd_isReal {s t u : Shape} (window strides lo hi : Fin s.rank → ℕ) (X : FVec Ideal s .f32) (v : u.Idx → Ideal .f32)
    (h : s.ReduceWindows window strides lo hi t) (hu : 0 < u.numel) (hX : ∀ i, IsReal (X i)) (hv : ∀ i, IsReal (v i)) (j : t.Idx) :
    IsReal (Host.reduceWindowAdd (F := Ideal) window strides lo hi X v h hu j) := by
  rw [windowAdd_eq]
  refine (hv _).add (IsReal.sum _ fun n _ => ?_)
  split
  · exact hX _
  · exact hv _

/-- Of the differences of rows `w` apart, the sum from row `t` on is the sum of the `w` rows from `t`. -/
theorem telescope (w : ℕ) (R : ℕ → ℝ) (hR : ∀ n, 4096 ≤ n → R n = 0) (t : ℕ) :
    ∑ k ∈ Finset.range 4096, (R (t + k) - R (t + k + w)) = ∑ i ∈ Finset.range w, R (t + i) := by
  have h : ∀ N, ∑ k ∈ Finset.range N, (R (t + k) - R (t + k + w))
      = ∑ i ∈ Finset.range w, R (t + i) - ∑ i ∈ Finset.range w, R (t + N + i) := by
    intro N
    induction N with
    | zero => simp
    | succ N ih =>
      have e1 := Finset.sum_range_succ (fun i => R (t + N + i)) w
      have e2 := Finset.sum_range_succ' (fun i => R (t + N + i)) w
      have e3 : ∑ i ∈ Finset.range w, R (t + N + (i + 1)) = ∑ i ∈ Finset.range w, R (t + (N + 1) + i) :=
        Finset.sum_congr rfl fun i _ => congrArg R (by omega)
      rw [Finset.sum_range_succ, ih]
      simp only [Nat.add_zero] at e2
      linarith
  rw [h 4096, Finset.sum_eq_zero (s := Finset.range w) (f := fun i => R (t + 4096 + i)) fun i _ => hR _ (by omega), sub_zero]

/-- The gradient of a trailing sum: where `S` is `Q` less its row `w` further on (nothing past the end), the running sum of
    `S` from the end is the sum of the `w` rows of `Q` from there. -/
theorem fromEnd_diff (w : ℕ) (S Q : FVec Ideal S1x4096x256 .f32) (v : S_.Idx → Ideal .f32) (hv : v (Shape.Idx.first h_S_) = (0 : EReal))
    (hQ : ∀ (t : Fin 4096) (e : Fin 256), IsReal (Q (ix3 0 t e)))
    (hS : ∀ (t : Fin 4096) (e : Fin 256), (S (ix3 0 t e) : EReal) = Q (ix3 0 t e) + if h : t.val + w < 4096 then -(Q (ix3 0 ⟨t.val + w, h⟩ e) : EReal) else 0)
    (t : Fin 4096) (e : Fin 256) :
    Host.reduceWindowAdd (F := Ideal) ![1, 4096, 1] ![1, 1, 1] ![0, 0, 0] ![0, 4095, 0] S v
        reduceWindows_S1x4096x256_S1x4096x256_w1s1p0_0_w4096s1p0_4095_w1s1p0_0 h_S_ (ix3 0 t e)
      = ∑ i ∈ Finset.range w, if h : t.val + i < 4096 then (Q (ix3 0 ⟨t.val + i, h⟩ e) : EReal) else 0 := by
  choose q hq using hQ
  let R : ℕ → ℝ := fun n => if h : n < 4096 then q ⟨n, h⟩ e else 0
  have hR : ∀ n, (if h : n < 4096 then (Q (ix3 0 ⟨n, h⟩ e) : EReal) else 0) = (R n : EReal) := by
    intro n
    by_cases h : n < 4096
    · simp only [R, dif_pos h, hq]
    · simp only [R, dif_neg h, EReal.coe_zero]
  rw [fromEnd_at S v hv t e]
  have hk : ∀ k : Fin 4096, (if h : t.val + k.val < 4096 then (S (ix3 0 ⟨t.val + k.val, h⟩ e) : EReal) else 0)
      = ((R (t.val + k.val) - R (t.val + k.val + w) : ℝ) : EReal) := by
    intro k
    by_cases h : t.val + k.val < 4096
    · rw [dif_pos h, hS, EReal.coe_sub, sub_eq_add_neg, ← hR, ← hR, dif_pos h]
      by_cases h' : t.val + k.val + w < 4096
      · rw [dif_pos h', dif_pos h']
      · rw [dif_neg h', dif_neg h', neg_zero]
    · rw [dif_neg h]
      simp only [R, dif_neg h, dif_neg (show ¬ t.val + k.val + w < 4096 by omega), sub_zero, EReal.coe_zero]
  simp only [hk, hR]
  rw [← coe_sum, ← coe_sum, Fin.sum_univ_eq_sum_range (fun k => R (t.val + k) - R (t.val + k + w)) 4096]
  exact congrArg _ (telescope w R (fun n hn => dif_neg (by omega)) t.val)

end Cert.PoolBwdRefIdeal.RevSum
-- ==== Proof.Step.lean ====
/-
  What one grid point of the pooling backward leaves, as functions of the blocks it reads.  The generated frame names the contents of every
  output buffer and carried scratch after a point by the stores of the body's run; here each is given as one term over the input blocks and
  the accumulators the point before left (`point`), the same term for the first point (from zeros), the middle points and the last one.
-/
module

public import proofs.«01_k».proof.Proof.Gen.PoolBwdIdeal.Value
public import Idealize.ShloMosaic.Lib.Pipeline.ReadBack

@[expose] public section

set_option maxRecDepth 16384

noncomputable section

namespace Cert.PoolBwdIdeal.Step

open Idealize.ShloMosaic Idealize.ShloMosaic.TcCoe Idealize.ShloMosaic.Tactic
open Idealize.SL Idealize.SL.RA Idealize.SL.BI Idealize.SL.Sem
open Cert.PoolBwdIdeal.Gen

variable {F : FTy → Type} [FloatOps F]

/-- The mixing weight of one group, as the body loads it. -/
abbrev gw0 (x6 : Vec F S4x256x256 .bf16) : Vec F S1x256x256 .bf16 := View.ld x6 (Rect.unit ![0, 0, 0] ![1, 256, 256] inb_S4x256x256_S1x256x256_0_0_0)
@[inherit_doc gw0] abbrev gw1 (x6 : Vec F S4x256x256 .bf16) : Vec F S1x256x256 .bf16 := View.ld x6 (Rect.unit ![1, 0, 0] ![1, 256, 256] inb_S4x256x256_S1x256x256_1_0_0)
@[inherit_doc gw0] abbrev gw2 (x6 : Vec F S4x256x256 .bf16) : Vec F S1x256x256 .bf16 := View.ld x6 (Rect.unit ![2, 0, 0] ![1, 256, 256] inb_S4x256x256_S1x256x256_2_0_0)
@[inherit_doc gw0] abbrev gw3 (x6 : Vec F S4x256x256 .bf16) : Vec F S1x256x256 .bf16 := View.ld x6 (Rect.unit ![3, 0, 0] ![1, 256, 256] inb_S4x256x256_S1x256x256_3_0_0)

/-- The cotangent of the mixed groups: `dh · out_wᵀ · scale · silu`. -/
def dmix (x0 x2 : Vec F S512x1024 .f32) (x7 : Vec F S1x1024 .f32) (x8 : Vec F S1024x1024 .bf16) : FVec F S512x1024 .f32 :=
  k0_pay18 (k0_pay9 x2) (k0_pay17 x7 x0 x8)

variable (v : BitVec 32) (x0 : Vec F S512x1024 .f32) (x1 : Vec F S512x1024 .bf16) (x2 x3 : Vec F S512x1024 .f32) (x4 : Vec F S512x1024 .bf16)
  (x5 : Vec F S512x1024 .f32) (x6 : Vec F S4x256x256 .bf16) (x7 : Vec F S1x1024 .f32) (x8 : Vec F S1024x1024 .bf16)
  (z10 z11 : Vec F S1x1024 .f32) (s0 : Vec F S16x1024 .f32) (s1 : Vec F S1024x1024 .f32) (s2 : Vec F S4x256x256 .f32)

/-- The block of `dp` the point writes (`s0`: the first rows of the later block's scaled cotangent). -/
def dpOf : FVec F S512x2048 .bf16 :=
  let dm := dmix x0 x2 x7 x8
  let c0 := k0_pay24 v
  let c1 := k0_pay26 (k0_pay25 v)
  let c2 := k0_pay27 (k0_pay23 v)
  let c3 := k0_pay28 (k0_pay23 v)
  let a0 := k0_pay32 dm c0 (gw0 x6)
  let a1 := k0_pay37 c1 (k0_pay33 dm) (gw1 x6)
  let a2 := k0_pay41 dm c2 (gw2 x6)
  let d3 := k0_pay42 dm
  k0_pay1 (k0_pay21 x7 (k0_pay16 x0 x8) x5 x3) (k0_pay44 d3 (gw3 x6)) (k0_pay47 c3 a0 a1 a2 d3 (gw3 x6) s0)
    (k0_pay49 c3 (k0_pay31 dm (gw0 x6)) a0 a1 a2 d3 (gw3 x6) s0)
    (k0_pay50 c3 a0 (k0_pay36 (k0_pay33 dm) (gw1 x6)) a1 a2 d3 (gw3 x6) s0)
    (k0_pay51 c3 a0 a1 (k0_pay40 dm (gw2 x6)) a2 d3 (gw3 x6) s0)

/-- The first rows of the point's scaled cotangent, kept for the block before. -/
def carryOf : FVec F S16x1024 .f32 :=
  let dm := dmix x0 x2 x7 x8
  k0_pay48 (k0_pay28 (k0_pay23 v)) (k0_pay32 dm (k0_pay24 v) (gw0 x6)) (k0_pay37 (k0_pay26 (k0_pay25 v)) (k0_pay33 dm) (gw1 x6))
    (k0_pay41 dm (k0_pay27 (k0_pay23 v)) (gw2 x6)) (k0_pay42 dm) (gw3 x6)

/-- The four groups of the mixing weight's gradient, each added to what its accumulator held (last store first). -/
def dgwPieces : List (View.Piece (Elt F) S4x256x256 .f32) :=
  [⟨Rect.unit ![3, 0, 0] ![1, 256, 256] inb_S4x256x256_S1x256x256_3_0_0,
      k0_pay43 (k0_pay13 (View.ld x4 (Rect.unit ![0, 768] ![512, 256] inb_S512x1024_S512x256_0_768))) (dmix x0 x2 x7 x8)
        (View.ld s2 (Rect.unit ![3, 0, 0] ![1, 256, 256] inb_S4x256x256_S1x256x256_3_0_0))⟩,
    ⟨Rect.unit ![2, 0, 0] ![1, 256, 256] inb_S4x256x256_S1x256x256_2_0_0,
      k0_pay39 (k0_pay12 (View.ld x4 (Rect.unit ![0, 512] ![512, 256] inb_S512x1024_S512x256_0_512))) (dmix x0 x2 x7 x8)
        (View.ld s2 (Rect.unit ![2, 0, 0] ![1, 256, 256] inb_S4x256x256_S1x256x256_2_0_0))⟩,
    ⟨Rect.unit ![1, 0, 0] ![1, 256, 256] inb_S4x256x256_S1x256x256_1_0_0,
      k0_pay35 (k0_pay34 (k0_pay11 (View.ld x4 (Rect.unit ![0, 256] ![512, 256] inb_S512x1024_S512x256_0_256))) (dmix x0 x2 x7 x8)
        (View.ld s2 (Rect.unit ![1, 0, 0] ![1, 256, 256] inb_S4x256x256_S1x256x256_1_0_0)))⟩,
    ⟨Rect.unit ![0, 0, 0] ![1, 256, 256] inb_S4x256x256_S1x256x256_0_0_0,
      k0_pay30 (k0_pay10 (View.ld x4 (Rect.unit ![0, 0] ![512, 256] inb_S512x1024_S512x256_0_0))) (dmix x0 x2 x7 x8)
        (View.ld s2 (Rect.unit ![0, 0, 0] ![1, 256, 256] inb_S4x256x256_S1x256x256_0_0_0))⟩]

/-- What a point leaves: the block of `dp`, the sums of the bias and scale gradients so far, the carried rows, and the sums of the two
    weight gradients so far. -/
def point : Vec F S512x2048 .bf16 × Vec F S1x1024 .f32 × Vec F S1x1024 .f32 × Vec F S16x1024 .f32 × Vec F S1024x1024 .f32 × Vec F S4x256x256 .f32 :=
  (dpOf v x0 x2 x3 x5 x6 x7 x8 s0, k0_pay22 (k0_pay9 x2) (k0_pay17 x7 x0 x8) z10, k0_pay20 (k0_pay9 x2) (k0_pay16 x0 x8) x5 z11,
    carryOf v x0 x2 x6 x7 x8, k0_pay15 x0 s1 x1, View.canon (dgwPieces x0 x2 x4 x7 x8 s2))

/-- Later stores that hold an index decide what is there, whatever was stored before them. -/
theorem canon_append_of_mem {S : Shape} {e : EltTy} : ∀ (L L' : List (View.Piece (Elt F) S e)) (y : S.Idx),
    (∃ p ∈ L, y ∈ p.1.set) → View.canon (L ++ L') y = View.canon L y
  | [], _, _, h => by obtain ⟨p, hp, _⟩ := h; exact absurd hp List.not_mem_nil
  | p :: L, L', y, h => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine canon_append_of_mem L L' y ?_
      obtain ⟨q, hq, hyq⟩ := h
      rcases List.mem_cons.mp hq with rfl | hq'
      · exact absurd hyq hm
      · exact ⟨q, hq', hyq⟩

theorem dgwPieces_cover (y : S4x256x256.Idx) : ∃ p ∈ dgwPieces x0 x2 x4 x7 x8 s2, y ∈ p.1.set :=
  View.cover_of_tiledL (dgwPieces x0 x2 x4 x7 x8 s2) S1x256x256.size (by sl_kernel_rfl) y

theorem hz2 : (![0, 0] : Fin 2 → Nat) = fun _ => 0 := funext fun a => by fin_cases a <;> rfl
theorem hz3 : (![0, 0, 0] : Fin 3 → Nat) = fun _ => 0 := funext fun a => by fin_cases a <;> rfl

section CaseB

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S512x2048 .bf16) (harg10 : arg10.IsWhole) (arg13 : Memref sig .tc .vmem S1x1024 .f32) (harg13 : arg13.IsWhole) (arg14 : Memref sig .tc .vmem S1x1024 .f32) (harg14 : arg14.IsWhole) (arg15 : Memref sig .tc .vmem S16x1024 .f32) (harg15 : arg15.IsWhole) (arg16 : Memref sig .tc .vmem S1024x1024 .f32) (harg16 : arg16.IsWhole) (arg17 : Memref sig .tc .vmem S4x256x256 .f32) (harg17 : arg17.IsWhole) (arg18 : Memref sig .tc .vmem S1024x1024 .bf16) (harg18 : arg18.IsWhole) (arg19 : Memref sig .tc .vmem S4x256x256 .bf16) (harg19 : arg19.IsWhole) (hc0 : ¬cond0_0 i) (hc1 : ¬cond0_1 i)
  (x0 : Vec F S512x1024 .f32) (x1 : Vec F S512x1024 .bf16) (x2 : Vec F S512x1024 .f32) (x3 : Vec F S512x1024 .f32) (x4 : Vec F S512x1024 .bf16) (x5 : Vec F S512x1024 .f32) (x6 : Vec F S4x256x256 .bf16) (x7 : Vec F S1x1024 .f32) (x8 : Vec F S1024x1024 .bf16) (xo10 : Vec F S1x1024 .f32) (xo11 : Vec F S1x1024 .f32) (xs0 : Vec F S16x1024 .f32) (xs1 : Vec F S1024x1024 .f32) (xs2 : Vec F S4x256x256 .f32)

theorem out0_B_9_eq : out0_B_9 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = dpOf (Scalar.subi (7#32) (BitVec.ofNat 32 ↑(i 0))) x0 x2 x3 x5 x6 x7 x8 xs0 := by
  unfold out0_B_9; rw [View.read_writes_eq_canon _ _ _ (by exact fun _ => cover0_B_9 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S512x2048) hz2]
  rfl

theorem out0_B_10_eq : out0_B_10 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = k0_pay22 (k0_pay9 x2) (k0_pay17 x7 x0 x8) xo10 := by
  unfold out0_B_10; rw [View.read_writes_eq_canon _ _ _ (by exact fun _ => cover0_B_10 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S1x1024) hz2]

theorem out0_B_11_eq : out0_B_11 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = k0_pay20 (k0_pay9 x2) (k0_pay16 x0 x8) x5 xo11 := by
  unfold out0_B_11; rw [View.read_writes_eq_canon _ _ _ (by exact fun _ => cover0_B_11 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S1x1024) hz2]

theorem sout0_B_0_eq : sout0_B_0 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = carryOf (Scalar.subi (7#32) (BitVec.ofNat 32 ↑(i 0))) x0 x2 x6 x7 x8 := by
  unfold sout0_B_0; rw [View.read_writes_eq_canon _ _ _ (by exact fun _ => scover0_B_0 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S16x1024) hz2]
  rfl

theorem sout0_B_1_eq : sout0_B_1 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = k0_pay15 x0 xs1 x1 := by
  unfold sout0_B_1; rw [View.read_writes_eq_canon _ _ _ (by exact fun _ => scover0_B_1 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S1024x1024) hz2]

theorem sout0_B_2_eq : sout0_B_2 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = View.canon (dgwPieces x0 x2 x4 x7 x8 xs2) := by
  unfold sout0_B_2; rw [View.read_writes_eq_canon _ _ _ (by exact fun _ => scover0_B_2 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rfl

/-- A middle point. -/
theorem caseB :
    (out0_B_9 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      out0_B_10 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      out0_B_11 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      sout0_B_0 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      sout0_B_1 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      sout0_B_2 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2) = point (Scalar.subi (7#32) (BitVec.ofNat 32 ↑(i 0))) x0 x1 x2 x3 x4 x5 x6 x7 x8 xo10 xo11 xs0 xs1 xs2 := by
  rw [out0_B_9_eq, out0_B_10_eq, out0_B_11_eq, sout0_B_0_eq, sout0_B_1_eq, sout0_B_2_eq]
  rfl

end CaseB

section CaseC

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S512x2048 .bf16) (harg10 : arg10.IsWhole) (arg13 : Memref sig .tc .vmem S1x1024 .f32) (harg13 : arg13.IsWhole) (arg14 : Memref sig .tc .vmem S1x1024 .f32) (harg14 : arg14.IsWhole) (arg15 : Memref sig .tc .vmem S16x1024 .f32) (harg15 : arg15.IsWhole) (arg16 : Memref sig .tc .vmem S1024x1024 .f32) (harg16 : arg16.IsWhole) (arg17 : Memref sig .tc .vmem S4x256x256 .f32) (harg17 : arg17.IsWhole) (arg18 : Memref sig .tc .vmem S1024x1024 .bf16) (harg18 : arg18.IsWhole) (arg19 : Memref sig .tc .vmem S4x256x256 .bf16) (harg19 : arg19.IsWhole) (hc0 : ¬cond0_0 i) (hc1 : cond0_1 i)
  (x0 : Vec F S512x1024 .f32) (x1 : Vec F S512x1024 .bf16) (x2 : Vec F S512x1024 .f32) (x3 : Vec F S512x1024 .f32) (x4 : Vec F S512x1024 .bf16) (x5 : Vec F S512x1024 .f32) (x6 : Vec F S4x256x256 .bf16) (x7 : Vec F S1x1024 .f32) (x8 : Vec F S1024x1024 .bf16) (xo10 : Vec F S1x1024 .f32) (xo11 : Vec F S1x1024 .f32) (xs0 : Vec F S16x1024 .f32) (xs1 : Vec F S1024x1024 .f32) (xs2 : Vec F S4x256x256 .f32)

theorem out0_C_9_eq : out0_C_9 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = dpOf (Scalar.subi (7#32) (BitVec.ofNat 32 ↑(i 0))) x0 x2 x3 x5 x6 x7 x8 xs0 := by
  unfold out0_C_9; rw [View.read_writes_eq_canon _ _ _ (by exact fun _ => cover0_C_9 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S512x2048) hz2]
  rfl

theorem out0_C_10_eq : out0_C_10 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = k0_pay22 (k0_pay9 x2) (k0_pay17 x7 x0 x8) xo10 := by
  unfold out0_C_10; rw [View.read_writes_eq_canon _ _ _ (by exact fun _ => cover0_C_10 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S1x1024) hz2]

theorem out0_C_11_eq : out0_C_11 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = k0_pay20 (k0_pay9 x2) (k0_pay16 x0 x8) x5 xo11 := by
  unfold out0_C_11; rw [View.read_writes_eq_canon _ _ _ (by exact fun _ => cover0_C_11 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S1x1024) hz2]

theorem sout0_C_0_eq : sout0_C_0 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = carryOf (Scalar.subi (7#32) (BitVec.ofNat 32 ↑(i 0))) x0 x2 x6 x7 x8 := by
  unfold sout0_C_0; rw [View.read_writes_eq_canon _ _ _ (by exact fun _ => scover0_C_0 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S16x1024) hz2]
  rfl

theorem sout0_C_1_eq : sout0_C_1 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = k0_pay15 x0 xs1 x1 := by
  unfold sout0_C_1; rw [View.read_writes_eq_canon _ _ _ (by exact fun _ => scover0_C_1 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rw [View.canon_unit_zero (S := S1024x1024) hz2]

theorem sout0_C_2_eq : sout0_C_2 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2
    = View.canon (dgwPieces x0 x2 x4 x7 x8 xs2) := by
  unfold sout0_C_2; rw [View.read_writes_eq_canon _ _ _ (by exact fun _ => scover0_C_2 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
    View.ld_unit_zero (S := S1024x1024) hz2, View.ld_unit_zero (S := S1x1024) hz2, View.ld_unit_zero (S := S16x1024) hz2]
  rfl

/-- The last point. -/
theorem caseC :
    (out0_C_9 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      out0_C_10 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      out0_C_11 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      sout0_C_0 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      sout0_C_1 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2,
      sout0_C_2 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8 xo10 xo11 xs0 xs1 xs2) = point (Scalar.subi (7#32) (BitVec.ofNat 32 ↑(i 0))) x0 x1 x2 x3 x4 x5 x6 x7 x8 xo10 xo11 xs0 xs1 xs2 := by
  rw [out0_C_9_eq, out0_C_10_eq, out0_C_11_eq, sout0_C_0_eq, sout0_C_1_eq, sout0_C_2_eq]
  rfl

end CaseC

section CaseA

variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S512x2048 .bf16) (harg10 : arg10.IsWhole) (arg13 : Memref sig .tc .vmem S1x1024 .f32) (harg13 : arg13.IsWhole) (arg14 : Memref sig .tc .vmem S1x1024 .f32) (harg14 : arg14.IsWhole) (arg15 : Memref sig .tc .vmem S16x1024 .f32) (harg15 : arg15.IsWhole) (arg16 : Memref sig .tc .vmem S1024x1024 .f32) (harg16 : arg16.IsWhole) (arg17 : Memref sig .tc .vmem S4x256x256 .f32) (harg17 : arg17.IsWhole) (arg18 : Memref sig .tc .vmem S1024x1024 .bf16) (harg18 : arg18.IsWhole) (arg19 : Memref sig .tc .vmem S4x256x256 .bf16) (harg19 : arg19.IsWhole) (hc0 : cond0_0 i) (hc1 : ¬cond0_1 i)
  (x0 : Vec F S512x1024 .f32) (x1 : Vec F S512x1024 .bf16) (x2 : Vec F S512x1024 .f32) (x3 : Vec F S512x1024 .f32) (x4 : Vec F S512x1024 .bf16) (x5 : Vec F S512x1024 .f32) (x6 : Vec F S4x256x256 .bf16) (x7 : Vec F S1x1024 .f32) (x8 : Vec F S1024x1024 .bf16)

theorem out0_A_9_eq : out0_A_9 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8
    = dpOf (Scalar.subi (7#32) (BitVec.ofNat 32 ↑(i 0))) x0 x2 x3 x5 x6 x7 x8 k0_pay4 := by
  unfold out0_A_9; rw [View.read_writes_eq_canon _ _ _ (by exact fun _ => cover0_A_9 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2,
    View.ld_unit_zero (S := S1024x1024) hz2, View.ld_unit_zero (S := S1x1024) hz2, View.ld_unit_zero (S := S16x1024) hz2]
  rw [View.readCov_unit_zero (S := S16x1024) _ hz2]
  rw [View.canon_cons_unit_zero (S := S512x2048) hz2]
  rfl

theorem out0_A_10_eq : out0_A_10 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8
    = k0_pay22 (k0_pay9 x2) (k0_pay17 x7 x0 x8) k0_pay7 := by
  unfold out0_A_10; rw [View.read_writes_eq_canon _ _ _ (by exact fun _ => cover0_A_10 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2,
    View.ld_unit_zero (S := S1024x1024) hz2, View.ld_unit_zero (S := S1x1024) hz2, View.ld_unit_zero (S := S16x1024) hz2]
  rw [View.readCov_unit_zero (S := S1x1024) _ hz2]
  rw [View.canon_cons_unit_zero (S := S1x1024) hz2]

theorem out0_A_11_eq : out0_A_11 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8
    = k0_pay20 (k0_pay9 x2) (k0_pay16 x0 x8) x5 k0_pay8 := by
  unfold out0_A_11; rw [View.read_writes_eq_canon _ _ _ (by exact fun _ => cover0_A_11 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2,
    View.ld_unit_zero (S := S1024x1024) hz2, View.ld_unit_zero (S := S1x1024) hz2, View.ld_unit_zero (S := S16x1024) hz2]
  rw [View.readCov_unit_zero (S := S1x1024) _ hz2]
  rw [View.canon_cons_unit_zero (S := S1x1024) hz2]

theorem sout0_A_0_eq : sout0_A_0 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8
    = carryOf (Scalar.subi (7#32) (BitVec.ofNat 32 ↑(i 0))) x0 x2 x6 x7 x8 := by
  unfold sout0_A_0; rw [View.read_writes_eq_canon _ _ _ (by exact fun _ => scover0_A_0 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2,
    View.ld_unit_zero (S := S1024x1024) hz2, View.ld_unit_zero (S := S1x1024) hz2, View.ld_unit_zero (S := S16x1024) hz2]
  rw [View.canon_cons_unit_zero (S := S16x1024) hz2]
  rfl

theorem sout0_A_1_eq : sout0_A_1 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8
    = k0_pay15 x0 k0_pay5 x1 := by
  unfold sout0_A_1; rw [View.read_writes_eq_canon _ _ _ (by exact fun _ => scover0_A_1 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2,
    View.ld_unit_zero (S := S1024x1024) hz2, View.ld_unit_zero (S := S1x1024) hz2, View.ld_unit_zero (S := S16x1024) hz2]
  rw [View.readCov_unit_zero (S := S1024x1024) _ hz2]
  rw [View.canon_cons_unit_zero (S := S1024x1024) hz2]

theorem sout0_A_2_eq : sout0_A_2 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8
    = View.canon (dgwPieces x0 x2 x4 x7 x8 k0_pay6) := by
  unfold sout0_A_2; rw [View.read_writes_eq_canon _ _ _ (by exact fun _ => scover0_A_2 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S512x1024) hz2,
    View.ld_unit_zero (S := S1024x1024) hz2, View.ld_unit_zero (S := S1x1024) hz2]
  repeat first
    | rw [View.readCov_skip _ _ _ _ _ (by decide)]
    | rw [View.readCov_fill (s := S4x256x256) _ _ _ _ _ (congrFun hz3)]
  funext y
  exact canon_append_of_mem (dgwPieces x0 x2 x4 x7 x8 k0_pay6) _ y (dgwPieces_cover x0 x2 x4 x7 x8 k0_pay6 y)

/-- The first point, from zeros. -/
theorem caseA :
    (out0_A_9 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8,
      out0_A_10 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8,
      out0_A_11 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8,
      sout0_A_0 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8,
      sout0_A_1 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8,
      sout0_A_2 c i arg1 harg1 arg2 harg2 arg3 harg3 arg4 harg4 arg5 harg5 arg6 harg6 arg7 harg7 arg8 harg8 arg9 harg9 arg10 harg10 arg13 harg13 arg14 harg14 arg15 harg15 arg16 harg16 arg17 harg17 arg18 harg18 arg19 harg19 hc0 hc1 x0 x1 x2 x3 x4 x5 x6 x7 x8) = point (Scalar.subi (7#32) (BitVec.ofNat 32 ↑(i 0))) x0 x1 x2 x3 x4 x5 x6 x7 x8 k0_pay7 k0_pay8 k0_pay4 k0_pay5 k0_pay6 := by
  rw [out0_A_9_eq, out0_A_10_eq, out0_A_11_eq, sout0_A_0_eq, sout0_A_1_eq, sout0_A_2_eq]
  rfl

end CaseA

end Cert.PoolBwdIdeal.Step

end
-- ==== Proof.Block.lean ====
/-
  One grid point of the pooling backward, read at an index.  Over exact arithmetic each of the six values a point leaves (`point`) is a sum or
  a product of elements of the blocks it reads: the cotangent `dy = dh · out_wᵀ`, the cotangent of the mixed groups `dm = dy · scale · silu`,
  the four groups' cotangent `dm · gwᵀ` of the pooled rows, divided by the number of rows each mean takes, and the sum of 2, 4, 8 or 16
  following rows of that.  The rotate-and-add ladder of the body is read once, for any doubling (`RowSum.step`).
-/
module

public import proofs.«01_k».proof.Proof.Step
public import Idealize.ShloMosaic.Lib.Pointwise
public import Idealize.ShloMosaic.Lib.Tactic.WordOmega
public import Idealize.ShloMosaic.Lib.Pipeline.ValueKit.Tiles

@[expose] public section

set_option maxRecDepth 16384

noncomputable section

namespace Cert.PoolBwdIdeal.Step

open Idealize.ShloMosaic Idealize.ShloMosaic.TcCoe
open Cert.PoolBwdIdeal.Gen

variable (x0 : Vec Ideal S512x1024 .f32) (x1 : Vec Ideal S512x1024 .bf16) (x2 x3 : Vec Ideal S512x1024 .f32) (x4 : Vec Ideal S512x1024 .bf16)
  (x5 : Vec Ideal S512x1024 .f32) (x6 : Vec Ideal S4x256x256 .bf16) (x7 : Vec Ideal S1x1024 .f32) (x8 : Vec Ideal S1024x1024 .bf16)
  (s0 : Vec Ideal S16x1024 .f32)

/-- The cotangent of the gated rows. -/
def dyB (r : Fin 512) (l : Fin 1024) : EReal := ∑ k : Fin 1024, x0 (ix2 r k) * x8 (ix2 l k)
/-- The cotangent of the mixed groups. -/
def dmB (r : Fin 512) (l : Fin 1024) : EReal := dyB x0 x8 r l * x7 (ix2 0 l) * x2 (ix2 r l)

/-- The group of a channel. -/
def grp (j : Fin 1024) : Fin 4 := ⟨j.val / 256, by omega⟩
/-- The place of a channel in its group. -/
def chn (j : Fin 1024) : Fin 256 := ⟨j.val % 256, by omega⟩
/-- The channel at a place of a group. -/
def col (g : Fin 4) (d : Fin 256) : Fin 1024 := ⟨256 * g.val + d.val, by omega⟩
/-- The rows the mean of a channel's group takes. -/
def wid (j : Fin 1024) : Nat := 2 ^ (j.val / 256 + 1)

/-- The number of rows the mean of width `w` takes at row `n`. -/
def cnt (n w : Nat) : EReal := (((min (n + 1) w : ℕ) : ℝ) : EReal)

/-- The cotangent of the pooled rows, of any cotangent `dm` of the mixed groups. -/
def dpgB (dm : Fin 512 → Fin 1024 → EReal) (r : Fin 512) (j : Fin 1024) : EReal :=
  ∑ d : Fin 256, dm r (col (grp j) d) * x6 (ix3 (grp j) (chn j) d)

/-- … divided by the number of rows of the mean, at the rows of block `q`. -/
def scB (dm : Fin 512 → Fin 1024 → EReal) (q : Nat) (r : Fin 512) (j : Fin 1024) : EReal :=
  dpgB x6 dm r j * Ideal.div 1 (cnt (q * 512 + r.val) (wid j))

theorem pay16_apply (r : Fin 512) (l : Fin 1024) : k0_pay16 x0 x8 (ix2 r l) = dyB x0 x8 r l := by
  pointwise [k0_pay16, k0_pay14, dyB]

theorem dmix_apply (r : Fin 512) (l : Fin 1024) : dmix x0 x2 x7 x8 (ix2 r l) = dmB x0 x2 x7 x8 r l := by
  pointwise [dmix, k0_pay18, k0_pay9, k0_pay17, pay16_apply, dmB]

theorem pay15_apply (s1 : Vec Ideal S1024x1024 .f32) (a b : Fin 1024) :
    k0_pay15 x0 s1 x1 (ix2 a b) = s1 (ix2 a b) + ∑ k : Fin 512, x1 (ix2 k a) * x0 (ix2 k b) := by
  pointwise [k0_pay15, k0_pay14]

theorem pay20_apply (z : Vec Ideal S1x1024 .f32) (l : Fin 1024) :
    k0_pay20 (k0_pay9 x2) (k0_pay16 x0 x8) x5 z (ix2 0 l) = z (ix2 0 l) + ∑ k : Fin 512, dyB x0 x8 k l * x5 (ix2 k l) * x2 (ix2 k l) := by
  pointwise [k0_pay20, k0_pay19, k0_pay9, pay16_apply]

theorem pay22_apply (z : Vec Ideal S1x1024 .f32) (l : Fin 1024) :
    k0_pay22 (k0_pay9 x2) (k0_pay17 x7 x0 x8) z (ix2 0 l) = z (ix2 0 l) + ∑ k : Fin 512, dmB x0 x2 x7 x8 k l := by
  pointwise [k0_pay22, k0_pay18, k0_pay17, k0_pay9, pay16_apply, dmB]

theorem pay21_apply (r : Fin 512) (l : Fin 1024) :
    k0_pay21 x7 (k0_pay16 x0 x8) x5 x3 (ix2 r l) = dyB x0 x8 r l * x5 (ix2 r l) * x7 (ix2 0 l) * x3 (ix2 r l) := by
  pointwise [k0_pay21, k0_pay19, pay16_apply]

theorem cnt_word (q r w : Nat) (hq : q < 8) (hr : r < 512) (hw : w ≤ 16) :
    (FloatOps.sitofp FTy.f32 (IntOp.minsi (IntOp.addi (IntOp.addi (Scalar.muli (BitVec.ofNat 32 q) 512#32) (BitVec.ofNat 32 r)) 1#32)
      (BitVec.ofNat 32 w)) : Ideal .f32) = cnt (q * 512 + r) w := by
  have h0 : IntOp.addi (IntOp.addi (Scalar.muli (BitVec.ofNat 32 q) 512#32) (BitVec.ofNat 32 r)) 1#32 = BitVec.ofNat 32 (q * 512 + r + 1) := by
    apply BitVec.eq_of_toNat_eq
    simp only [IntOp.addi, Scalar.muli, IntOp.muli, BitVec.toNat_add, BitVec.toNat_mul, BitVec.toNat_ofNat]
    omega
  rw [h0]
  have h1 : (IntOp.minsi (BitVec.ofNat 32 (q * 512 + r + 1)) (BitVec.ofNat 32 w)).toInt = ((min (q * 512 + r + 1) w : ℕ) : ℤ) := by
    have ha : (BitVec.ofNat 32 (q * 512 + r + 1)).toInt = ((q * 512 + r + 1 : ℕ) : ℤ) := by
      rw [BitVec.toInt_eq_toNat_cond, BitVec.toNat_ofNat]; omega
    have hb : (BitVec.ofNat 32 w).toInt = (w : ℤ) := by
      rw [BitVec.toInt_eq_toNat_cond, BitVec.toNat_ofNat]; omega
    unfold IntOp.minsi
    rw [BitVec.slt_eq_decide, ha, hb]
    split <;> rename_i h <;> simp only [decide_eq_true_eq] at h <;> first | rw [ha] | rw [hb]
    all_goals push_cast at h ⊢; omega
  show (((IntOp.minsi _ _).toInt : ℝ) : EReal) = _
  rw [h1, cnt, Int.cast_natCast]

/-- The four groups of scaled cotangents side by side. -/
theorem pay45_apply (dm : FVec Ideal S512x1024 .f32) (q : Nat) (hq : q < 8) (r : Fin 512) (j : Fin 1024) :
    k0_pay45 (k0_pay28 (k0_pay23 (BitVec.ofNat 32 q))) (k0_pay32 dm (k0_pay24 (BitVec.ofNat 32 q)) (gw0 x6))
      (k0_pay37 (k0_pay26 (k0_pay25 (BitVec.ofNat 32 q))) (k0_pay33 dm) (gw1 x6))
      (k0_pay41 dm (k0_pay27 (k0_pay23 (BitVec.ofNat 32 q))) (gw2 x6)) (k0_pay42 dm) (gw3 x6) (ix2 r j)
      = scB x6 (fun r l => dm (ix2 r l)) q r j := by
  pointwise [k0_pay45, k0_pay44, k0_pay42, k0_pay41, k0_pay40, k0_pay38, k0_pay37, k0_pay36, k0_pay33, k0_pay32, k0_pay31, k0_pay29, k0_pay28,
    k0_pay27, k0_pay26, k0_pay25, k0_pay24, k0_pay23, gw0, gw1, gw2, gw3]
  rw [cnt_word q r.val 2 hq r.isLt (by omega), cnt_word q r.val 4 hq r.isLt (by omega), cnt_word q r.val 8 hq r.isLt (by omega),
    cnt_word q r.val 16 hq r.isLt (by omega)]
  have key : ∀ (g : Fin 4) (w : Nat) (e : Fin 256) (cl : Fin 256 → Fin 1024), j.val / 256 = g.val → j.val % 256 = e.val →
      (∀ d, (cl d).val = 256 * g.val + d.val) → w = 2 ^ (g.val + 1) →
      (∑ d : Fin 256, dm (ix2 r (cl d)) * x6 (ix3 g e d)) * Ideal.div 1 (cnt (q * 512 + r.val) w)
        = scB x6 (fun r l => dm (ix2 r l)) q r j := by
    intro g w e cl hg he hcl hw
    have h1 : grp j = g := Fin.ext hg
    have h2 : chn j = e := Fin.ext he
    have h3 : ∀ d, cl d = col g d := fun d => Fin.ext (hcl d)
    simp only [scB, dpgB, wid, h1, h2, h3, hg, hw]
  have hj := j.isLt
  split
  · exact key 0 2 ⟨j.val, by omega⟩ (fun d => ⟨d.val, by omega⟩) (by simp; omega) (by simp; omega) (by simp) rfl
  split
  · exact key 1 4 ⟨j.val - 256, by omega⟩ (fun d => ⟨256 + d.val, by omega⟩) (by simp; omega) (by simp; omega) (by simp) rfl
  split
  · exact key 2 8 ⟨j.val - 256 - 256, by omega⟩ (fun d => ⟨512 + d.val, by omega⟩) (by simp; omega) (by simp; omega) (by simp) rfl
  · exact key 3 16 ⟨j.val - 256 - 256 - 256, by omega⟩ (fun d => ⟨768 + d.val, by omega⟩) (by simp; omega) (by simp; omega) (by simp) rfl

/-- The scaled rows of a block followed by the 16 rows carried from the later block. -/
def rowsB (dm : Fin 512 → Fin 1024 → EReal) (q : Nat) (n : Nat) (j : Fin 1024) : EReal :=
  if h : n < 512 then scB x6 dm q ⟨n, h⟩ j else if h' : n - 512 < 16 then s0 (ix2 ⟨n - 512, h'⟩ j) else 0

/-- `y` holds at each row the sum of `n` following rows of `f`, as far as the rows go. -/
def RowSum (f : Nat → Fin 256 → EReal) (n : Nat) (y : FVec Ideal S528x256 .f32) : Prop :=
  ∀ (r : Nat) (h : r + n ≤ 528) (h' : r < 528) (e : Fin 256), y (ix2 ⟨r, h'⟩ e) = ∑ i ∈ Finset.range n, f (r + i) e

/-- Adding the rows `n` further down doubles the number of rows summed. -/
theorem RowSum.step {f : Nat → Fin 256 → EReal} {n : Nat} {y : FVec Ideal S528x256 .f32} (h : RowSum f n y) (hn : 0 < n) (b : BitVec 32)
    (hb : b.toNat + n = 528) : RowSum f (2 * n) (addf y (dynamicRotate 0 b none y rotates_S528x256_d0)) := by
  intro r hr h' e
  have hrot : dynamicRotate 0 b none y rotates_S528x256_d0 (ix2 ⟨r, h'⟩ e) = y (ix2 ⟨r + n, by omega⟩ e) := by
    rw [Pointwise.dynamicRotate_apply]
    congr 1
    funext a
    fin_cases a
    · refine Fin.ext ?_
      show (r + 528 - (b.toNat + 0) % 528) % 528 = r + n
      omega
    · rfl
  show y _ + dynamicRotate 0 b none y rotates_S528x256_d0 _ = _
  rw [hrot, h r (by omega) h' e, h (r + n) (by omega) (by omega) e, two_mul, Finset.sum_range_add]
  simp only [add_assoc]

/-- The first 512 rows of a row sum. -/
theorem RowSum.first {f : Nat → Fin 256 → EReal} {n : Nat} {y : FVec Ideal S528x256 .f32} (h : RowSum f n y) (hn : n ≤ 16) (r : Fin 512)
    (e : Fin 256) : extractStridedSlice S512x256 ![0, 0] y slices_S528x256_o0_0_S512x256 (ix2 r e) = ∑ i ∈ Finset.range n, f (r.val + i) e := by
  rw [← h r.val (by omega) (by omega) e]
  pointwise

variable (dm : FVec Ideal S512x1024 .f32)

/-- The block's scaled rows over the carried ones, at an index. -/
theorem pay46_apply (q : Nat) (hq : q < 8) (n : Fin 528) (j : Fin 1024) :
    k0_pay46 (k0_pay28 (k0_pay23 (BitVec.ofNat 32 q))) (k0_pay32 dm (k0_pay24 (BitVec.ofNat 32 q)) (gw0 x6))
      (k0_pay37 (k0_pay26 (k0_pay25 (BitVec.ofNat 32 q))) (k0_pay33 dm) (gw1 x6))
      (k0_pay41 dm (k0_pay27 (k0_pay23 (BitVec.ofNat 32 q))) (gw2 x6)) (k0_pay42 dm) (gw3 x6) s0 (ix2 n j)
      = rowsB x6 s0 (fun r l => dm (ix2 r l)) q n.val j := by
  pointwise [k0_pay46, rowsB, pay45_apply x6 dm q hq]
  have hn := n.isLt
  split
  · rfl
  · rw [dif_pos (by omega)]

/-- A column slice of it starts the ladder. -/
theorem RowSum.base (g : Fin 4) (X : FVec Ideal S528x1024 .f32) (f : Nat → Fin 1024 → EReal) (hX : ∀ n j, X (ix2 n j) = f n.val j)
    (y : FVec Ideal S528x256 .f32) (hy : ∀ n e, y (ix2 n e) = X (ix2 n (col g e))) : RowSum (fun n e => f n (col g e)) 1 y := by
  intro r h h' e
  rw [hy, hX, Finset.sum_range_one]
  rfl

variable (q : Nat) (hq : q < 8)

include hq in
theorem carryOf_apply (r : Fin 16) (j : Fin 1024) :
    carryOf (BitVec.ofNat 32 q) x0 x2 x6 x7 x8 (ix2 r j) = scB x6 (dmB x0 x2 x7 x8) q ⟨r.val, by omega⟩ j := by
  have h := pay45_apply x6 (dmix x0 x2 x7 x8) q hq ⟨r.val, by omega⟩ j
  simp only [dmix_apply] at h
  rw [← h]
  unfold carryOf
  pointwise [k0_pay48]

/-- One group's columns of the result: the sum of the following rows, less the cotangent itself. -/
def chanVal (dm : Fin 512 → Fin 1024 → EReal) (q : Nat) (r : Fin 512) (j : Fin 1024) : EReal :=
  (∑ i ∈ Finset.range (wid j), rowsB x6 s0 dm q (r.val + i) j) - dpgB x6 dm r j

theorem grp_col (g : Fin 4) (e : Fin 256) : grp (col g e) = g := Fin.ext (by show (256 * g.val + e.val) / 256 = g.val; omega)
theorem chn_col (g : Fin 4) (e : Fin 256) : chn (col g e) = e := Fin.ext (by show (256 * g.val + e.val) % 256 = e.val; omega)
theorem wid_col (g : Fin 4) (e : Fin 256) : wid (col g e) = 2 ^ (g.val + 1) := by
  show 2 ^ ((256 * g.val + e.val) / 256 + 1) = _
  rw [show (256 * g.val + e.val) / 256 = g.val by omega]

/-- The end of a group's ladder: the first rows of a row sum, less that group's cotangent. -/
theorem ladder_end (g : Fin 4) (q : Nat) (dmf : Fin 512 → Fin 1024 → EReal) (y : FVec Ideal S528x256 .f32)
    (h : RowSum (fun n e => rowsB x6 s0 dmf q n (col g e)) (2 ^ (g.val + 1)) y) (z : FVec Ideal S512x256 .f32)
    (r : Fin 512) (e : Fin 256) (j : Fin 1024) (hj : col g e = j) (hz : z (ix2 r e) = ∑ d : Fin 256, dmf r (col g d) * x6 (ix3 g e d)) :
    subf (extractStridedSlice S512x256 ![0, 0] y slices_S528x256_o0_0_S512x256) z (ix2 r e) = chanVal x6 s0 dmf q r j := by
  subst hj
  have hw : 2 ^ (g.val + 1) ≤ 16 := by
    have := g.isLt
    calc 2 ^ (g.val + 1) ≤ 2 ^ 4 := Nat.pow_le_pow_right (by omega) (by omega)
      _ = 16 := rfl
  show extractStridedSlice S512x256 ![0, 0] y slices_S528x256_o0_0_S512x256 (ix2 r e) - z (ix2 r e) = _
  rw [h.first hw r e, hz, chanVal, wid_col, dpgB, grp_col, chn_col]

include hq in
/-- The channel sums of the block, one group at a time: `2, 4, 8, 16` following rows. -/
theorem dpOf_apply_pool (r : Fin 512) (j : Fin 1024) :
    dpOf (BitVec.ofNat 32 q) x0 x2 x3 x5 x6 x7 x8 s0 (ix2 r ⟨j.val, by omega⟩) = chanVal x6 s0 (dmB x0 x2 x7 x8) q r j := by
  have hj := j.isLt
  have hX := pay46_apply x6 s0 (dmix x0 x2 x7 x8) q hq
  simp only [dmix_apply] at hX
  unfold dpOf
  pointwise [k0_pay1]
  have key : ∀ (g : Fin 4) (e : Fin 256), j.val = 256 * g.val + e.val → col g e = j := fun g e h => Fin.ext h.symm
  split
  · have hk := key 0 ⟨j.val, by omega⟩ (by simp)
    refine ladder_end x6 s0 0 q _ _ ((RowSum.base 0 _ _ hX _ fun n e => ?_).step (by norm_num) 527#32 (by decide)) _ r _ j hk ?_
    · pointwise [col]
    · pointwise [k0_pay31, k0_pay29, gw0, dmix_apply, col]
  split
  · have hk := key 1 ⟨j.val - 256, by omega⟩ (by simp; omega)
    refine ladder_end x6 s0 1 q _ _ (((RowSum.base 1 _ _ hX _ fun n e => ?_).step (by norm_num) 527#32 (by decide)).step (by norm_num) 526#32
      (by decide)) _ r _ j hk ?_
    · pointwise [col]
    · pointwise [k0_pay36, k0_pay33, gw1, dmix_apply, col]
  split
  · have hk := key 2 ⟨j.val - 256 - 256, by omega⟩ (by simp; omega)
    refine ladder_end x6 s0 2 q _ _ ((((RowSum.base 2 _ _ hX _ fun n e => ?_).step (by norm_num) 527#32 (by decide)).step (by norm_num) 526#32
      (by decide)).step (by norm_num) 524#32 (by decide)) _ r _ j hk ?_
    · pointwise [col]
    · pointwise [k0_pay40, k0_pay38, gw2, dmix_apply, col]
  · have hk := key 3 ⟨j.val - 256 - 256 - 256, by omega⟩ (by simp; omega)
    refine ladder_end x6 s0 3 q _ _ (((((RowSum.base 3 _ _ hX _ fun n e => ?_).step (by norm_num) 527#32 (by decide)).step (by norm_num) 526#32
      (by decide)).step (by norm_num) 524#32 (by decide)).step (by norm_num) 520#32 (by decide)) _ r _ j hk ?_
    · pointwise [col]
    · pointwise [k0_pay44, k0_pay42, gw3, dmix_apply, col]

theorem dpOf_apply_gate (r : Fin 512) (j : Fin 1024) :
    dpOf (BitVec.ofNat 32 q) x0 x2 x3 x5 x6 x7 x8 s0 (ix2 r ⟨1024 + j.val, by omega⟩)
      = dyB x0 x8 r j * x5 (ix2 r j) * x7 (ix2 0 j) * x3 (ix2 r j) := by
  unfold dpOf
  pointwise [k0_pay1, pay21_apply]

theorem dgw_apply (s2 : Vec Ideal S4x256x256 .f32) (g : Fin 4) (a b : Fin 256) :
    View.canon (dgwPieces x0 x2 x4 x7 x8 s2) (ix3 g a b)
      = s2 (ix3 g a b) + ∑ k : Fin 512, x4 (ix2 k (col g a)) * dmB x0 x2 x7 x8 k (col g b) := by
  refine View.canon_eq_of_allAt _ _ _ (dgwPieces_cover x0 x2 x4 x7 x8 s2 _) ?_
  unfold dgwPieces
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    intro x hx
    have h0 := hx 0
    obtain rfl : a = x 1 := Fin.ext ((hx 1).trans (Nat.zero_add _))
    obtain rfl : b = x 2 := Fin.ext ((hx 2).trans (Nat.zero_add _))
    have hz : (x 0).val = 0 := Nat.lt_one_iff.mp (x 0).isLt
    rw [hz] at h0
    obtain rfl := Fin.ext (b := (⟨_, by decide⟩ : Fin 4)) h0
    pointwise [k0_pay43, k0_pay42, k0_pay39, k0_pay38, k0_pay35, k0_pay34, k0_pay33, k0_pay30, k0_pay29, k0_pay13, k0_pay12, k0_pay11, k0_pay10,
      dmix_apply, col]
    try rfl

end Cert.PoolBwdIdeal.Step
-- ==== Proof.LastPoint.lean ====
/-
  The last grid point of the pooling backward, with what its two copies out leave named: after the body the two weight gradients in HBM
  hold the rounded accumulators.  (The generated run of this case says of the two arrays only that they are still held.)
-/
module

public import proofs.«01_k».proof.Proof.Step

@[expose] public section

set_option maxRecDepth 16384

noncomputable section

namespace Cert.PoolBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.PoolBwdIdeal.Gen

variable {F : FTy → Type} [FloatOps F]

local notation "𝕄" => MT nD τ sig Unit (Elt F) ℕ (Pipeline.UD sig nD τ) ℕ

/-- The values the point leaves (`point`), with the grid coordinate read. -/
abbrev lastVals (i : grid0.Coords) (x0 : Vec F S512x1024 .f32) (x1 : Vec F S512x1024 .bf16) (x2 x3 : Vec F S512x1024 .f32)
    (x4 : Vec F S512x1024 .bf16) (x5 : Vec F S512x1024 .f32) (x6 : Vec F S4x256x256 .bf16) (x7 : Vec F S1x1024 .f32)
    (x8 : Vec F S1024x1024 .bf16) (z10 z11 : Vec F S1x1024 .f32) (s0 : Vec F S16x1024 .f32) (s1 : Vec F S1024x1024 .f32)
    (s2 : Vec F S4x256x256 .f32) :=
  point (Scalar.subi (7#32) (BitVec.ofNat 32 ↑(i 0))) x0 x1 x2 x3 x4 x5 x6 x7 x8 z10 z11 s0 s1 s2

/-- A read of what covering stores left is the canonical contents, which an equation names. -/
theorem read_eq {sp : Space} {S : Shape} {e : EltTy} (v : View sig .tc sp S e) (f) (L : List (View.Piece (Elt F) S e)) (size : Fin S.rank → ℕ)
    (hc : ∀ y, ∃ p ∈ L, y ∈ p.1.set) (X : Vec F S e) (h : View.canon L = X) : v.read (Elt F) (v.writes (Elt F) f L) = X := by
  rw [View.read_writes_eq_canon _ _ _ hc]; exact h

theorem hb_of (c : Dev nD) {sp : Space} {S : Shape} {e : EltTy} {M : Memref sig .tc sp S e} {f g : HbBuf0 (F := F) c M} (h : f = g) :
    (hbPt0 c M f : sProp 𝕄) ⊢ hbPt0 c M g := by
  rw [h]

set_option maxHeartbeats 1600000 in
/-- The body at the last point, on whole buffers. -/
theorem last_run (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S512x2048 .bf16) (harg10 : arg10.IsWhole) (arg13 : Memref sig .tc .vmem S1x1024 .f32) (harg13 : arg13.IsWhole) (arg14 : Memref sig .tc .vmem S1x1024 .f32) (harg14 : arg14.IsWhole) (arg15 : Memref sig .tc .vmem S16x1024 .f32) (harg15 : arg15.IsWhole) (arg16 : Memref sig .tc .vmem S1024x1024 .f32) (harg16 : arg16.IsWhole) (arg17 : Memref sig .tc .vmem S4x256x256 .f32) (harg17 : arg17.IsWhole) (arg18 : Memref sig .tc .vmem S1024x1024 .bf16) (harg18 : arg18.IsWhole) (arg19 : Memref sig .tc .vmem S4x256x256 .bf16) (harg19 : arg19.IsWhole) (hc0 : ¬cond0_0 i) (hc1 : cond0_1 i)
    (x0 : Vec F S512x1024 .f32) (x1 : Vec F S512x1024 .bf16) (x2 : Vec F S512x1024 .f32) (x3 : Vec F S512x1024 .f32) (x4 : Vec F S512x1024 .bf16) (x5 : Vec F S512x1024 .f32) (x6 : Vec F S4x256x256 .bf16) (x7 : Vec F S1x1024 .f32) (x8 : Vec F S1024x1024 .bf16) (xo10 : Vec F S1x1024 .f32) (xo11 : Vec F S1x1024 .f32) (xs0 : Vec F S16x1024 .f32) (xs1 : Vec F S1024x1024 .f32) (xs2 : Vec F S4x256x256 .f32)
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ owns (c : Thread nD τ) arg13 fullShare xo10 ∗ owns (c : Thread nD τ) arg14 fullShare xo11 ∗ owns (c : Thread nD τ) arg15 fullShare xs0 ∗ owns (c : Thread nD τ) arg16 fullShare xs1 ∗ owns (c : Thread nD τ) arg17 fullShare xs2
        ∗ (∃ d, owns (c : Thread nD τ) arg18 fullShare d) ∗ (∃ d, owns (c : Thread nD τ) arg19 fullShare d) ∗ semVal ((c : Thread nD τ), SemLoc.dma 19) 0 ∗ semVal ((c : Thread nD τ), SemLoc.dma 20) 0
        ∗ (∃ f, hbPt0 c hbM0_0 f) ∗ (∃ f, hbPt0 c hbM0_1 f) ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
          ∗ owns (c : Thread nD τ) arg10 fullShare (lastVals i x0 x1 x2 x3 x4 x5 x6 x7 x8 xo10 xo11 xs0 xs1 xs2).1
          ∗ owns (c : Thread nD τ) arg13 fullShare (lastVals i x0 x1 x2 x3 x4 x5 x6 x7 x8 xo10 xo11 xs0 xs1 xs2).2.1
          ∗ owns (c : Thread nD τ) arg14 fullShare (lastVals i x0 x1 x2 x3 x4 x5 x6 x7 x8 xo10 xo11 xs0 xs1 xs2).2.2.1
          ∗ owns (c : Thread nD τ) arg15 fullShare (lastVals i x0 x1 x2 x3 x4 x5 x6 x7 x8 xo10 xo11 xs0 xs1 xs2).2.2.2.1
          ∗ owns (c : Thread nD τ) arg16 fullShare (lastVals i x0 x1 x2 x3 x4 x5 x6 x7 x8 xo10 xo11 xs0 xs1 xs2).2.2.2.2.1
          ∗ owns (c : Thread nD τ) arg17 fullShare (lastVals i x0 x1 x2 x3 x4 x5 x6 x7 x8 xo10 xo11 xs0 xs1 xs2).2.2.2.2.2
          ∗ (∃ d, owns (c : Thread nD τ) arg18 fullShare d) ∗ (∃ d, owns (c : Thread nD τ) arg19 fullShare d) ∗ semVal ((c : Thread nD τ), SemLoc.dma 19) 0 ∗ semVal ((c : Thread nD τ), SemLoc.dma 20) 0
          ∗ hbPt0 c hbM0_0 (k0_pay2 (lastVals i x0 x1 x2 x3 x4 x5 x6 x7 x8 xo10 xo11 xs0 xs1 xs2).2.2.2.2.1)
          ∗ hbPt0 c hbM0_1 (k0_pay3 (lastVals i x0 x1 x2 x3 x4 x5 x6 x7 x8 xo10 xo11 xs0 xs1 xs2).2.2.2.2.2)
          ∗ (∃ W', owes (c : Thread nD τ) 0 W')) -∗ K ⟨⟩))
      ⊢ wp frame (wpE (defs₀ (F := F)) Variants.none c none) Set.univ (cc0_pool_bwd i arg1 harg1 arg2 harg2 arg3 harg3 arg4 harg4 arg5 harg5 arg6 harg6 arg7 harg7 arg8 harg8 arg9 harg9 arg10 harg10 (Memref.whole main_v105_1) (Memref.isWhole_whole _) (Memref.whole main_v105_2) (Memref.isWhole_whole _)
          arg13 harg13 arg14 harg14 arg15 harg15 arg16 harg16 arg17 harg17 arg18 harg18 arg19 harg19 cc0_scoped0 cc0_scoped1) K := by
  simp only [cc0_pool_bwd_eq_skeleton]; unfold cc0_pool_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, ⟨%f10, %hf10, H10⟩, ⟨%f11, %hf11, H11⟩, ⟨%fs0, %hfs0, HS0⟩,
    ⟨%fs1, %hfs1, HS1⟩, ⟨%fs2, %hfs2, HS2⟩, ⟨%ds3, %fs3, -, HS3⟩, ⟨%ds4, %fs4, -, HS4⟩, Hq0, Hq1, ⟨%fw0, Hh0⟩, ⟨%fw1, Hh1⟩, HW, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg13.eq_unread hf10
  obtain rfl := harg14.eq_unread hf11
  obtain rfl := harg15.eq_unread hfs0
  obtain rfl := harg16.eq_unread hfs1
  obtain rfl := harg17.eq_unread hfs2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; sl_unfold_words
    refine read_eq (F := F) (S := S512x2048) _ _ _ S512x2048.size (View.cover_of_tiledL (s := S512x2048) _ S512x2048.size (by sl_kernel_rfl)) _ ?_
    simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
      View.ld_unit_zero (S := S1024x1024) hz2, View.ld_unit_zero (S := S1x1024) hz2, View.ld_unit_zero (S := S16x1024) hz2]; rw [View.canon_unit_zero (S := S512x2048) hz2]; rfl
  isplitl [H10]
  · iexists _; isplitr; swap; · iexact H10
    ipureintro; sl_unfold_words
    refine read_eq (F := F) (S := S1x1024) _ _ _ S1x1024.size (View.cover_of_tiledL (s := S1x1024) _ S1x1024.size (by sl_kernel_rfl)) _ ?_
    simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
      View.ld_unit_zero (S := S1024x1024) hz2, View.ld_unit_zero (S := S1x1024) hz2, View.ld_unit_zero (S := S16x1024) hz2]; rw [View.canon_unit_zero (S := S1x1024) hz2]; rfl
  isplitl [H11]
  · iexists _; isplitr; swap; · iexact H11
    ipureintro; sl_unfold_words
    refine read_eq (F := F) (S := S1x1024) _ _ _ S1x1024.size (View.cover_of_tiledL (s := S1x1024) _ S1x1024.size (by sl_kernel_rfl)) _ ?_
    simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
      View.ld_unit_zero (S := S1024x1024) hz2, View.ld_unit_zero (S := S1x1024) hz2, View.ld_unit_zero (S := S16x1024) hz2]; rw [View.canon_unit_zero (S := S1x1024) hz2]; rfl
  isplitl [HS0]
  · iexists _; isplitr; swap; · iexact HS0
    ipureintro; sl_unfold_words
    refine read_eq (F := F) (S := S16x1024) _ _ _ S16x1024.size (View.cover_of_tiledL (s := S16x1024) _ S16x1024.size (by sl_kernel_rfl)) _ ?_
    simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
      View.ld_unit_zero (S := S1024x1024) hz2, View.ld_unit_zero (S := S1x1024) hz2, View.ld_unit_zero (S := S16x1024) hz2]; rw [View.canon_unit_zero (S := S16x1024) hz2]; rfl
  isplitl [HS1]
  · iexists _; isplitr; swap; · iexact HS1
    ipureintro; sl_unfold_words
    refine read_eq (F := F) (S := S1024x1024) _ _ _ S1024x1024.size (View.cover_of_tiledL (s := S1024x1024) _ S1024x1024.size (by sl_kernel_rfl)) _ ?_
    simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
      View.ld_unit_zero (S := S1024x1024) hz2, View.ld_unit_zero (S := S1x1024) hz2, View.ld_unit_zero (S := S16x1024) hz2]; rw [View.canon_unit_zero (S := S1024x1024) hz2]; rfl
  isplitl [HS2]
  · iexists _; isplitr; swap; · iexact HS2
    ipureintro; sl_unfold_words
    refine read_eq (F := F) (S := S4x256x256) _ _ _ S1x256x256.size (View.cover_of_tiledL (s := S4x256x256) _ S1x256x256.size (by sl_kernel_rfl)) _ ?_
    simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
      View.ld_unit_zero (S := S1024x1024) hz2, View.ld_unit_zero (S := S1x1024) hz2, View.ld_unit_zero (S := S16x1024) hz2]; rfl
  isplitl [HS3]
  · iexists _, _; isplitr; swap; · iexact HS3
    ipureintro; rfl
  isplitl [HS4]
  · iexists _, _; isplitr; swap; · iexact HS4
    ipureintro; rfl
  isplitl [Hq0]; · iexact Hq0
  isplitl [Hq1]; · iexact Hq1
  isplitl [Hh0]
  · rw [show k0_pay2 (lastVals i x0 x1 x2 x3 x4 x5 x6 x7 x8 xo10 xo11 xs0 xs1 xs2).2.2.2.2.1 = View.write (Elt F) (Memref.whole main_v105_1).view fw0 ?w0 Finset.univ from ?h0]
    · iexact Hh0
    case h0 =>
      erw [View.write_whole_univ]
      sl_unfold_words
      symm
      refine read_eq (F := F) (S := S1024x1024) _ _ _ S1024x1024.size (View.cover_of_tiledL (s := S1024x1024) _ S1024x1024.size (by sl_kernel_rfl)) _ ?_
      simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
        View.ld_unit_zero (S := S1024x1024) hz2, View.ld_unit_zero (S := S1x1024) hz2, View.ld_unit_zero (S := S16x1024) hz2]
      rw [View.readCov_unit_zero (S := S1024x1024) _ hz2, View.canon_unit_zero (S := S1024x1024) hz2]; rfl
  isplitl [Hh1]
  · rw [show k0_pay3 (lastVals i x0 x1 x2 x3 x4 x5 x6 x7 x8 xo10 xo11 xs0 xs1 xs2).2.2.2.2.2 = View.write (Elt F) (Memref.whole main_v105_2).view fw1 ?w1 Finset.univ from ?h1]
    · iexact Hh1
    case h1 =>
      erw [View.write_whole_univ]
      sl_unfold_words
      symm
      refine read_eq (F := F) (S := S4x256x256) _ _ _ S4x256x256.size (View.cover_of_tiledL (s := S4x256x256) _ S4x256x256.size (by sl_kernel_rfl)) _ ?_
      simp only [View.readAt_eq_ld, harg1.read_unread, harg2.read_unread, harg3.read_unread, harg4.read_unread, harg5.read_unread, harg6.read_unread, harg7.read_unread, harg8.read_unread, harg9.read_unread, harg13.read_unread, harg14.read_unread, harg15.read_unread, harg16.read_unread, harg17.read_unread, View.ld_unit_zero (S := S512x1024) hz2,
        View.ld_unit_zero (S := S1024x1024) hz2, View.ld_unit_zero (S := S1x1024) hz2, View.ld_unit_zero (S := S16x1024) hz2]
      rw [View.canon_unit_zero (S := S4x256x256) hz3]
      refine congrArg k0_pay3 ?_
      rw [View.readCov_eq_canon_ld _ _ _ (View.cover_of_tiledL (s := S4x256x256) _ S1x256x256.size (by sl_kernel_rfl)), View.ld_unit_zero (S := S4x256x256) hz3]
      rfl
  iexists _; iexact HW

end Cert.PoolBwdIdeal.Step

end
-- ==== Proof.Named.lean ====
/-
  The run of the pooling backward with all five results named: the three the pipeline writes back, and the two weight gradients the
  last grid point copies out itself.
-/
module

public import proofs.«01_k».proof.Proof.LastPoint
public import proofs.«01_k».proof.Proof.Gen.PoolBwdIdeal.Value
public import Idealize.ShloMosaic.Lib.Pipeline.FrameValue

@[expose] public section

set_option maxRecDepth 16384

noncomputable section

namespace Cert.PoolBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.PoolBwdIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a point leaves is `point` -/

theorem outs_first (c : Dev nD) (t : Fin cfg0.N) (h0 : t.val % 8 = 0) (h1 : ¬t.val % 8 = 7) :
    outsAt0 m c t.val t.isLt = lastVals (grid0.coords t) (iblk m c 0 t) (iblk m c 1 t) (iblk m c 2 t) (iblk m c 3 t) (iblk m c 4 t) (iblk m c 5 t) (iblk m c 6 t) (iblk m c 7 t) (iblk m c 8 t) k0_pay7 k0_pay8 k0_pay4 k0_pay5 k0_pay6 :=
  (outsAt0_A m c t h0 h1).trans (caseA ..)

theorem outs_mid (c : Dev nD) (t : Fin cfg0.N) (h0 : ¬t.val % 8 = 0) (h1 : ¬t.val % 8 = 7) :
    outsAt0 m c t.val t.isLt = lastVals (grid0.coords t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 :=
  (outsAt0_B m c t h0 h1).trans (caseB ..)

theorem outs_last (c : Dev nD) (t : Fin cfg0.N) (h0 : ¬t.val % 8 = 0) (h1 : t.val % 8 = 7) :
    outsAt0 m c t.val t.isLt = lastVals (grid0.coords t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 :=
  (outsAt0_C m c t h0 h1).trans (caseC ..)

/-! ## The invariant with the two arrays named after the last point -/

theorem lt_N : 7 < cfg0.N := lt_of_lt_of_eq (by omega : 7 < 8) (show cfg0.N = 8 from N_0).symm

/-- After the last point: the invariant, and the two arrays the body wrote at the rounded accumulators. -/
def PhiEnd (c : Dev nD) : sProp 𝕄 :=
  iprop(iprop(owns (c : Thread nD τ) scM0_0 fullShare ((outsAt0 m c 7 lt_N).2.2.2.1) ∗ owns (c : Thread nD τ) scM0_1 fullShare ((outsAt0 m c 7 lt_N).2.2.2.2.1) ∗ owns (c : Thread nD τ) scM0_2 fullShare ((outsAt0 m c 7 lt_N).2.2.2.2.2) ∗ (∃ d, owns (c : Thread nD τ) scM0_3 fullShare d) ∗ (∃ d, owns (c : Thread nD τ) scM0_4 fullShare d)) ∗ (∃ r, prngReg c r)
    ∗ iprop(semVal ((c : Thread nD τ), SemLoc.dma 19) 0 ∗ semVal ((c : Thread nD τ), SemLoc.dma 20) 0) ∗ iprop(emp)
    ∗ iprop(hbPt0 c hbM0_0 (k0_pay2 (outsAt0 m c 7 lt_N).2.2.2.2.1) ∗ hbPt0 c hbM0_1 (k0_pay3 (outsAt0 m c 7 lt_N).2.2.2.2.2)))

/-- The invariant before position `n`: the generated one before the end. -/
def PhiN (c : Dev nD) (n : ℕ) (h : n ≤ cfg0.N) : sProp 𝕄 := if n = 8 then PhiEnd m c else PhiS m c n h

/-- The generated proof data, with this invariant. -/
def datsN (_ : Fin 1) (c : Dev nD) : Dat τ (Elt F) Unit ℕ (Pipeline.UD sig nD τ) ℕ cfg0 c :=
  { dats m 0 c with Φ := fun t => PhiN m c t.val (Nat.le_of_lt_succ t.isLt) }

theorem A_eqN (c : Dev nD) (w : Fin cfg0.W) : (datsN m 0 c).A w = V m c (Pipeline.arrRef spec0 w) := A_eq m c w

theorem before_eq (c : Dev nD) (w : Fin cfg0.W) (t : Fin cfg0.N) (d) : (datsN m 0 c).before w t d = (dats m 0 c).before w t d := by
  unfold Dat.before Dat.found Dat.kept; rfl

theorem after_eq (c : Dev nD) (w : Fin cfg0.W) (t : Fin cfg0.N) : (datsN m 0 c).after w t = (dats m 0 c).after w t := rfl

theorem Phi_castSucc (c : Dev nD) (t : Fin cfg0.N) : (datsN m 0 c).Φ t.castSucc = (dats m 0 c).Φ t.castSucc := by
  have hN : t.val < 8 := lt_of_lt_of_eq t.isLt (show cfg0.N = 8 from N_0)
  show PhiN m c t.val _ = _
  unfold PhiN; rw [if_neg (by omega)]; rfl

theorem Phi_succ (c : Dev nD) (t : Fin cfg0.N) (h : ¬ t.val = 7) : (datsN m 0 c).Φ t.succ = (dats m 0 c).Φ t.succ := by
  show PhiN m c (t.val + 1) _ = _
  unfold PhiN; rw [if_neg (by omega)]; rfl

theorem Phi_end (c : Dev nD) (t : Fin cfg0.N) (h : t.val = 7) : (datsN m 0 c).Φ t.succ = PhiEnd m c := by
  show PhiN m c (t.val + 1) _ = _
  unfold PhiN; rw [if_pos (by omega)]

/-- What the body returns at the last point. -/
def endPost (c : Dev nD) (t : Fin cfg0.N) : sProp 𝕄 :=
  iprop(PhiEnd m c ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 3200000 in
/-- The body at the last point. -/
theorem sound_last (c : Dev nD) (t : Fin cfg0.N) (ht : t.val = 7) :
    bodyPre m c t ⊢ wp frame (wpE (defs₀ (F := F)) Variants.none c none) Set.univ (bodyAt0 t) (fun _ => endPost m c t) := by
  have h0 : ¬t.val % 8 = 0 := by omega
  have h1 : t.val % 8 = 7 := by omega
  have hz : t.val ≠ 0 := by omega
  have e7 : outsAt0 m c 7 lt_N = lastVals (grid0.coords t) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
    rw [← outs_last m c t h0 h1]; congr 1; exact ht.symm
  unfold bodyPre endPost bodyAt0 PhiEnd
  simp only [before0_0, before0_1, before0_2, before0_3, before0_4, before0_5, before0_6, before0_7, before0_8]
  rw [after0_0, after0_1, after0_2, after0_3, after0_4, after0_5, after0_6, after0_7, after0_8, after0_9, after0_10, after0_11]
  unfold Dat.owesAt Pipeline.owesWithin
  rw [show (dats m 0 c).owed t.castSucc = 0 from rfl, show (dats m 0 c).owed t.succ = 0 from rfl]
  rw [PhiS_castSucc m c t, PhiS_pos m c _ _ hz]
  simp only [before0_10_C m c t h0 h1, before0_11_C m c t h0 h1]
  rw [outs_last m c t h0 h1, e7]
  iintro ⟨⟨⟨HS0, HS1, HS2, HS3, HS4⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (last_run c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, H9, H10, H11, HS0, HS1, HS2, HS3, HS4, Hq0, Hq1, Hh0, Hh1, ⟨%W', HW'⟩⟩
  isplitl [HS0 HS1 HS2 HS3 HS4 Hg Hq0 Hq1 Hh0 Hh1]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1]
    · isplitl [Hq0]; · iexact Hq0
      iexact Hq1
    isplitr; · iempintro
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem owes_eq (c : Dev nD) (t : Fin (cfg0.N + 1)) : (datsN m 0 c).owesAt () t = (dats m 0 c).owesAt () t := rfl

set_option maxHeartbeats 3200000 in
/-- The body obligation for the data with this invariant. -/
theorem body_obligationN (c : Dev nD) : BodyObligation (datsN (F := F) m 0 c) (defs₀ (F := F)) Variants.none () Set.univ := fun t => by
  rw [bigSep_W0, bigSep_W0, defs₀_row, Phi_castSucc]
  simp only [before_eq, after_eq]
  by_cases h : t.val = 7
  · rw [Phi_end m c t h]
    exact triple_restated (sound_last m c t h) rfl .rfl fun _ => .rfl
  · rw [Phi_succ m c t h]
    exact triple_restated (sound_body m c t) rfl .rfl fun _ => .rfl

/-- The contents of the buffers after the region, the two named ones included. -/
def GN (c : Dev nD) : (b : Ref sig .tc) → Buf (Elt F) ((c.tc : Thread nD τ).loc b) :=
  Function.update (Function.update (V m c) main_v105_1 (k0_pay2 (outsAt0 m c 7 lt_N).2.2.2.2.1)) main_v105_2 (k0_pay3 (outsAt0 m c 7 lt_N).2.2.2.2.2)

theorem routed_eq (c : Dev nD) :
    (Pipeline.routed R0 c (GN m c) : sProp 𝕄)
      = iprop(hbPt0 c hbM0_0 (k0_pay2 (outsAt0 m c 7 lt_N).2.2.2.2.1) ∗ hbPt0 c hbM0_1 (k0_pay3 (outsAt0 m c 7 lt_N).2.2.2.2.2)) := by
  unfold Pipeline.routed; rw [BI.bigSep_eq_bigSepL_of_eq [main_v105_1, main_v105_2] (by decide) (by decide)]
  simp only [BI.bigSepL_cons_cons, BI.bigSepL_singleton, GN, Function.update_self,
    Function.update_of_ne (show main_v105_1 ≠ main_v105_2 by decide)]
  rfl

theorem hinN (c : Dev nD) : Pipeline.ΦDRG osem0 spec0 H0 R0 (V m) (V m) c ⊢ (datsN m 0 c).Φ 0 := by
  refine (Pipeline.ΦDRG_ΦDR osem0 spec0 H0 R0 (V m) (V m) c).trans ((hin m c).trans ?_)
  rw [show (datsN m 0 c).Φ 0 = (dats m 0 c).Φ 0 from by show PhiN m c 0 (Nat.zero_le _) = _; unfold PhiN; rw [if_neg (by omega)]; rfl]

theorem houtN (c : Dev nD) : (datsN m 0 c).Φ (Fin.last cfg0.N) ⊢ Pipeline.ΦDRG osem0 spec0 H0 R0 (V m) (GN m) c := by
  have e : (datsN m 0 c).Φ (Fin.last cfg0.N) = PhiEnd m c := by
    show PhiN m c (Fin.last cfg0.N).val (le_of_eq (Fin.val_last _)) = _
    unfold PhiN; rw [if_pos (by rw [Fin.val_last]; exact N_0)]
  rw [e, Pipeline.ΦDRG_eq, scopedRest0_eq, ownSems00_eq, hbmPts0_eq, routed_eq]
  unfold PhiEnd
  simp only [scM0_0, scM0_1, scM0_2, scM0_3, scM0_4, owns_whole]
  iintro ⟨⟨HS0, HS1, HS2, HS3, HS4⟩, Hg, ⟨Hq0, Hq1⟩, He, ⟨Hh0, Hh1⟩⟩
  isplitl [HS0 HS1 HS2 HS3 HS4]
  · isplitl [HS0]
    · iexists _; iexact HS0
    isplitl [HS1]
    · iexists _; iexact HS1
    isplitl [HS2]
    · iexists _; iexact HS2
    isplitl [HS3]
    · iexact HS3
    iexact HS4
  isplitl [Hg]; · iexact Hg
  isplitl [Hq0 Hq1]
  · isplitl [Hq0]; · iexact Hq0
    iexact Hq1
  isplitl [He]; · iexact He
  isplitl [Hh0]; · iexact Hh0
  iexact Hh1

set_option backward.isDefEq.respectTransparency.types false in
/-- The launch, with every array after the run named. -/
theorem run_named : θ_run defs (onTc (τ := τ) (main (F := F))) (s₀ m ρ)
    (fun r => (Pipeline.FramePostRG cfgs (datsN m) 0 R0 (V m) (GN m)) r ∧ r.2.sem = fun _ => 0) :=
  Pipeline.θ_run_frame_dmaRG (Q' := _) cfgs (datsN m) (0 : Fin 1) launch0 osem0 defs₀ Variants.none ownSemFacts0 H0 R0 H0_sub R0_sub m ρ main
    (hbody := fun c => (body_obligationN m c).loose) (hshare := fun c => (datsN m 0 c).share_full fun _ => rfl)
    (howed := fun _ _ => rfl) (V := V m) (hmain := hmain m Variants.none) (hA := A_eqN m) (G := GN m)
    (hin := hinN m) (hout := houtN m)

theorem arr_eq (c : Dev nD) (w : Fin cfg0.W) : (datsN m 0 c).arrAt w cfg0.N = (dats m 0 c).arrAt w cfg0.N := rfl

/-- The five results after the run, and the arguments unchanged. -/
theorem run_results : θ_run defs (onTc (τ := τ) (main (F := F))) ⟨m, fun _ => 0, ρ⟩ fun r => ∀ c : Dev nD,
      r.2.mem ((c : Thread nD τ).loc main_v105_0) = (dats m 0 c).arrAt 9 cfg0.N
      ∧ r.2.mem ((c : Thread nD τ).loc main_v105_1) = k0_pay2 (outsAt0 m c 7 lt_N).2.2.2.2.1
      ∧ r.2.mem ((c : Thread nD τ).loc main_v105_2) = k0_pay3 (outsAt0 m c 7 lt_N).2.2.2.2.2
      ∧ r.2.mem ((c : Thread nD τ).loc main_v105_3) = (dats m 0 c).arrAt 10 cfg0.N
      ∧ r.2.mem ((c : Thread nD τ).loc main_v105_4) = (dats m 0 c).arrAt 11 cfg0.N :=
  (θ_run defs _ _).mono (fun r h c => ⟨((h.1.toR c).1 9).trans (arr_eq m c 9),
      (h.1.written c (b := main_v105_1) (by decide)).trans (by unfold GN; rw [Function.update_of_ne (by decide), Function.update_self]),
      (h.1.written c (b := main_v105_2) (by decide)).trans (by unfold GN; rw [Function.update_self]),
      ((h.1.toR c).1 10).trans (arr_eq m c 10), ((h.1.toR c).1 11).trans (arr_eq m c 11)⟩)
    (run_named m ρ)

end Cert.PoolBwdIdeal.Step

end
-- ==== Proof.Sweep.lean ====
/-
  What the five arrays of the pooling backward hold after the run, over exact arithmetic, in terms of the nine arrays the region finds.  Grid
  point `t` handles the rows of block `7 - t`; what it carries to the next point are the first sixteen of its scaled cotangent rows, the rows
  that follow the next block.
-/
module

public import proofs.«01_k».proof.Proof.Block
public import proofs.«01_k».proof.Proof.Named
public import Idealize.ShloMosaic.Lib.Pipeline.ValueKit

@[expose] public section

set_option maxRecDepth 16384

noncomputable section

namespace Cert.PoolBwdIdeal.Step

open Idealize.ShloMosaic Idealize.ShloMosaic.TcCoe
open Cert.PoolBwdIdeal.Gen

/-! ## The arrays as sums -/

section Arrays
variable (A0 : Vec Ideal S4096x1024 .f32) (A1 : Vec Ideal S4096x1024 .bf16) (A2 A3 : Vec Ideal S4096x1024 .f32)
  (A4 : Vec Ideal S4096x1024 .bf16) (A5 : Vec Ideal S4096x1024 .f32) (A6 : Vec Ideal S4x256x256 .bf16) (A7 : Vec Ideal S1x1024 .f32)
  (A8 : Vec Ideal S1024x1024 .bf16)

/-- The cotangent of the gated rows. -/
def dyA (n : Fin 4096) (l : Fin 1024) : EReal := ∑ k : Fin 1024, A0 (ix2 n k) * A8 (ix2 l k)
/-- The cotangent of the mixed groups. -/
def dmA (n : Fin 4096) (l : Fin 1024) : EReal := dyA A0 A8 n l * A7 (ix2 0 l) * A2 (ix2 n l)
/-- The cotangent of the pooled rows, of any cotangent `dm` of the mixed groups. -/
def dpgA (dm : Fin 4096 → Fin 1024 → EReal) (n : Fin 4096) (j : Fin 1024) : EReal :=
  ∑ d : Fin 256, dm n (col (grp j) d) * A6 (ix3 (grp j) (chn j) d)
/-- … divided by the number of rows of the mean; zero beyond the end. -/
def scA (dm : Fin 4096 → Fin 1024 → EReal) (n : Nat) (j : Fin 1024) : EReal :=
  if h : n < 4096 then dpgA A6 dm ⟨n, h⟩ j * Ideal.div 1 (cnt n (wid j)) else 0
/-- The channels' half of the input's gradient. -/
def chanA (dm : Fin 4096 → Fin 1024 → EReal) (n : Fin 4096) (j : Fin 1024) : EReal :=
  (∑ i ∈ Finset.range (wid j), scA A6 dm (n.val + i) j) - dpgA A6 dm n j

/-- The input's gradient: the channels, then the gates. -/
def dpA : Vec Ideal S4096x2048 .bf16 := fun i =>
  if h : (i 1).val < 1024 then chanA A6 (dmA A0 A2 A7 A8) (i 0) ⟨(i 1).val, h⟩
  else dyA A0 A8 (i 0) ⟨(i 1).val - 1024, by have := (i 1).isLt; simp at this; omega⟩
    * A5 (ix2 (i 0) ⟨(i 1).val - 1024, by have := (i 1).isLt; simp at this; omega⟩) * A7 (ix2 0 ⟨(i 1).val - 1024, by have := (i 1).isLt; simp at this; omega⟩)
    * A3 (ix2 (i 0) ⟨(i 1).val - 1024, by have := (i 1).isLt; simp at this; omega⟩)
/-- The output weight's gradient. -/
def dwoA : Vec Ideal S1024x1024 .f32 := fun i => ∑ n : Fin 4096, A1 (ix2 n (i 0)) * A0 (ix2 n (i 1))
/-- The mixing weight's gradient. -/
def dgwA : Vec Ideal S4x256x256 .f32 := fun i =>
  ∑ n : Fin 4096, A4 (ix2 n (col (i 0) (i 1))) * dmA A0 A2 A7 A8 n (col (i 0) (i 2))
/-- The bias's gradient. -/
def dgbA : Vec Ideal S1x1024 .f32 := fun i => ∑ n : Fin 4096, dmA A0 A2 A7 A8 n (i 1)
/-- The scale's gradient. -/
def dscA : Vec Ideal S1x1024 .f32 := fun i => ∑ n : Fin 4096, dyA A0 A8 n (i 1) * A5 (ix2 n (i 1)) * A2 (ix2 n (i 1))
end Arrays

/-! ## The blocks a point reads -/

variable (m : (ℓ : Loc nD τ sig) → Buf (Elt Ideal) ℓ) (c : Dev nD)

/-- Row `r` of the block point `t` handles. -/
def rowOf (t : Fin cfg0.N) (r : Fin 512) : Fin 4096 := ⟨(7 - t.val) * 512 + r.val, by omega⟩

theorem idx_moving : ∀ t : Fin cfg0.N, win0_0.index t = ![7 - t.val, 0] ∧ win0_1.index t = ![7 - t.val, 0] ∧ win0_2.index t = ![7 - t.val, 0]
    ∧ win0_3.index t = ![7 - t.val, 0] ∧ win0_4.index t = ![7 - t.val, 0] ∧ win0_5.index t = ![7 - t.val, 0] ∧ win0_9.index t = ![7 - t.val, 0] :=
  (by decide +kernel : ∀ t : Fin grid0.N, win0_0.index t = ![7 - t.val, 0] ∧ win0_1.index t = ![7 - t.val, 0] ∧ win0_2.index t = ![7 - t.val, 0]
    ∧ win0_3.index t = ![7 - t.val, 0] ∧ win0_4.index t = ![7 - t.val, 0] ∧ win0_5.index t = ![7 - t.val, 0] ∧ win0_9.index t = ![7 - t.val, 0])
theorem idx_fixed : ∀ t : Fin cfg0.N, win0_6.index t = ![0, 0, 0] ∧ win0_7.index t = ![0, 0] ∧ win0_8.index t = ![0, 0] :=
  (by decide +kernel : ∀ t : Fin grid0.N, win0_6.index t = ![0, 0, 0] ∧ win0_7.index t = ![0, 0] ∧ win0_8.index t = ![0, 0])
theorem block_word : ∀ t : Fin cfg0.N, Scalar.subi (7#32) (BitVec.ofNat 32 ↑(grid0.coords t 0)) = BitVec.ofNat 32 (7 - t.val) :=
  (by decide +kernel : ∀ t : Fin grid0.N, Scalar.subi (7#32) (BitVec.ofNat 32 ↑(grid0.coords t 0)) = BitVec.ofNat 32 (7 - t.val))

theorem blk0 (t : Fin cfg0.N) (r : Fin 512) (l : Fin 1024) : iblk m c 0 t (ix2 r l) = V m c main_arg5 (ix2 (rowOf t r) l) := by
  have e := (idx_moving t).1
  blk_ext [iblk, rowOf, e]
theorem blk1 (t : Fin cfg0.N) (r : Fin 512) (l : Fin 1024) : iblk m c 1 t (ix2 r l) = V m c main_v98 (ix2 (rowOf t r) l) := by
  have e := (idx_moving t).2.1
  blk_ext [iblk, rowOf, e]
theorem blk2 (t : Fin cfg0.N) (r : Fin 512) (l : Fin 1024) : iblk m c 2 t (ix2 r l) = V m c main_v88 (ix2 (rowOf t r) l) := by
  have e := (idx_moving t).2.2.1
  blk_ext [iblk, rowOf, e]
theorem blk3 (t : Fin cfg0.N) (r : Fin 512) (l : Fin 1024) : iblk m c 3 t (ix2 r l) = V m c main_v94 (ix2 (rowOf t r) l) := by
  have e := (idx_moving t).2.2.2.1
  blk_ext [iblk, rowOf, e]
theorem blk4 (t : Fin cfg0.N) (r : Fin 512) (l : Fin 1024) : iblk m c 4 t (ix2 r l) = V m c main_v104 (ix2 (rowOf t r) l) := by
  have e := (idx_moving t).2.2.2.2.1
  blk_ext [iblk, rowOf, e]
theorem blk5 (t : Fin cfg0.N) (r : Fin 512) (l : Fin 1024) : iblk m c 5 t (ix2 r l) = V m c main_v80 (ix2 (rowOf t r) l) := by
  have e := (idx_moving t).2.2.2.2.2.1
  blk_ext [iblk, rowOf, e]
theorem blk6 (t : Fin cfg0.N) (g : Fin 4) (a b : Fin 256) : iblk m c 6 t (ix3 g a b) = V m c main_v100 (ix3 g a b) := by
  have e := (idx_fixed t).1
  blk_ext [iblk, e]
theorem blk7 (t : Fin cfg0.N) (a : Fin 1) (l : Fin 1024) : iblk m c 7 t (ix2 a l) = V m c main_arg3 (ix2 a l) := by
  have e := (idx_fixed t).2.1
  blk_ext [iblk, e]
theorem blk8 (t : Fin cfg0.N) (a l : Fin 1024) : iblk m c 8 t (ix2 a l) = V m c main_v102 (ix2 a l) := by
  have e := (idx_fixed t).2.2
  blk_ext [iblk, e]

/-- The region's arrays, as the lemmas below name them. -/
abbrev dmV : Fin 4096 → Fin 1024 → EReal := dmA (V m c main_arg5) (V m c main_v88) (V m c main_arg3) (V m c main_v102)

theorem dy_blk (t : Fin cfg0.N) (r : Fin 512) (l : Fin 1024) :
    dyB (iblk m c 0 t) (iblk m c 8 t) r l = dyA (V m c main_arg5) (V m c main_v102) (rowOf t r) l :=
  Finset.sum_congr rfl fun k _ => congrArg₂ (· * ·) (blk0 m c t r k) (blk8 m c t l k)
theorem dm_blk (t : Fin cfg0.N) (r : Fin 512) (l : Fin 1024) :
    dmB (iblk m c 0 t) (iblk m c 2 t) (iblk m c 7 t) (iblk m c 8 t) r l = dmV m c (rowOf t r) l := by
  unfold dmB dmV dmA; rw [dy_blk, blk7, blk2]
theorem dpg_blk (t : Fin cfg0.N) (r : Fin 512) (j : Fin 1024) :
    dpgB (iblk m c 6 t) (dmB (iblk m c 0 t) (iblk m c 2 t) (iblk m c 7 t) (iblk m c 8 t)) r j = dpgA (V m c main_v100) (dmV m c) (rowOf t r) j :=
  Finset.sum_congr rfl fun d _ => congrArg₂ (· * ·) (dm_blk m c t r _) (blk6 m c t _ _ _)
/-- The scaled rows, as the region's arrays give them. -/
abbrev scV : Nat → Fin 1024 → EReal := scA (V m c main_v100) (dmV m c)
theorem sc_blk (t : Fin cfg0.N) (r : Fin 512) (j : Fin 1024) :
    scB (iblk m c 6 t) (dmB (iblk m c 0 t) (iblk m c 2 t) (iblk m c 7 t) (iblk m c 8 t)) (7 - t.val) r j = scV m c ((7 - t.val) * 512 + r.val) j := by
  unfold scB scV scA; rw [dpg_blk, dif_pos (by omega)]; rfl

/-! ## The carried rows -/

theorem lt8 (t : Fin cfg0.N) : t.val < 8 := lt_of_lt_of_eq t.isLt (show cfg0.N = 8 from N_0)

/-- A point's six values, whatever the point before left, with the carried rows right. -/
theorem outs_eq (t : Fin cfg0.N) : ∃ z10 z11 s0 s1 s2, outsAt0 m c t.val t.isLt = lastVals (grid0.coords t) (iblk m c 0 t) (iblk m c 1 t)
      (iblk m c 2 t) (iblk m c 3 t) (iblk m c 4 t) (iblk m c 5 t) (iblk m c 6 t) (iblk m c 7 t) (iblk m c 8 t) z10 z11 s0 s1 s2
    ∧ ((t.val = 0 ∧ z10 = k0_pay7 (F := Ideal) ∧ z11 = k0_pay8 (F := Ideal) ∧ s0 = k0_pay4 (F := Ideal) ∧ s1 = k0_pay5 (F := Ideal) ∧ s2 = k0_pay6 (F := Ideal))
      ∨ (t.val ≠ 0 ∧ ∀ h : t.val - 1 < cfg0.N, z10 = (outsAt0 m c (t.val - 1) h).2.1 ∧ z11 = (outsAt0 m c (t.val - 1) h).2.2.1
        ∧ s0 = (outsAt0 m c (t.val - 1) h).2.2.2.1 ∧ s1 = (outsAt0 m c (t.val - 1) h).2.2.2.2.1 ∧ s2 = (outsAt0 m c (t.val - 1) h).2.2.2.2.2)) := by
  have := lt8 t
  by_cases h0 : t.val % 8 = 0
  · exact ⟨_, _, _, _, _, outs_first m c t h0 (by omega), Or.inl ⟨by omega, rfl, rfl, rfl, rfl, rfl⟩⟩
  · by_cases h1 : t.val % 8 = 7
    · exact ⟨_, _, _, _, _, outs_last m c t h0 h1, Or.inr ⟨by omega, fun _ => ⟨rfl, rfl, rfl, rfl, rfl⟩⟩⟩
    · exact ⟨_, _, _, _, _, outs_mid m c t h0 h1, Or.inr ⟨by omega, fun _ => ⟨rfl, rfl, rfl, rfl, rfl⟩⟩⟩

theorem carry_at (t : Fin cfg0.N) (r : Fin 16) (j : Fin 1024) :
    (outsAt0 m c t.val t.isLt).2.2.2.1 (ix2 r j) = scV m c ((7 - t.val) * 512 + r.val) j := by
  obtain ⟨z10, z11, s0, s1, s2, e, -⟩ := outs_eq m c t
  rw [e]
  show carryOf _ _ _ _ _ _ (ix2 r j) = _
  rw [block_word, carryOf_apply _ _ _ _ _ _ (by omega)]
  exact sc_blk m c t ⟨r.val, by omega⟩ j

/-- The rows that follow the block, as the point finds them. -/
theorem outs_carried (t : Fin cfg0.N) : ∃ z10 z11 s0 s1 s2, outsAt0 m c t.val t.isLt = lastVals (grid0.coords t) (iblk m c 0 t) (iblk m c 1 t)
      (iblk m c 2 t) (iblk m c 3 t) (iblk m c 4 t) (iblk m c 5 t) (iblk m c 6 t) (iblk m c 7 t) (iblk m c 8 t) z10 z11 s0 s1 s2
    ∧ ∀ (r : Fin 16) (j : Fin 1024), s0 (ix2 r j) = scV m c ((7 - t.val) * 512 + 512 + r.val) j := by
  obtain ⟨z10, z11, s0, s1, s2, e, h⟩ := outs_eq m c t
  refine ⟨z10, z11, s0, s1, s2, e, fun r j => ?_⟩
  have := lt8 t
  rcases h with ⟨h0, -, -, rfl, -⟩ | ⟨h0, h⟩
  · unfold scV scA; rw [dif_neg (by omega)]
    pointwise [k0_pay4]
  · rw [(h (lt_of_le_of_lt (Nat.sub_le _ _) t.isLt)).2.2.1]
    have := carry_at m c ⟨t.val - 1, lt_of_le_of_lt (Nat.sub_le _ _) t.isLt⟩ r j
    rw [this]; congr 1; dsimp only; omega

theorem rows_blk (t : Fin cfg0.N) (s0 : Vec Ideal S16x1024 .f32) (hs : ∀ (r : Fin 16) (j : Fin 1024), s0 (ix2 r j) = scV m c ((7 - t.val) * 512 + 512 + r.val) j)
    (n : Nat) (hn : n < 528) (j : Fin 1024) :
    rowsB (iblk m c 6 t) s0 (dmB (iblk m c 0 t) (iblk m c 2 t) (iblk m c 7 t) (iblk m c 8 t)) (7 - t.val) n j = scV m c ((7 - t.val) * 512 + n) j := by
  unfold rowsB
  split
  · exact sc_blk m c t _ j
  · split
    · rw [hs]; congr 1; dsimp only; omega
    · omega

theorem wid_le (j : Fin 1024) : wid j ≤ 16 := by
  unfold wid
  calc 2 ^ (j.val / 256 + 1) ≤ 2 ^ 4 := Nat.pow_le_pow_right (by omega) (by omega)
    _ = 16 := rfl

/-! ## The input's gradient -/

/-- The input's gradient, of the region's arrays. -/
abbrev dpV : Vec Ideal S4096x2048 .bf16 :=
  dpA (V m c main_arg5) (V m c main_v88) (V m c main_v94) (V m c main_v80) (V m c main_v100) (V m c main_arg3) (V m c main_v102)

theorem dp_point (t : Fin cfg0.N) (r : Fin 512) (j : Fin 2048) : (outsAt0 m c t.val t.isLt).1 (ix2 r j) = dpV m c (ix2 (rowOf t r) j) := by
  obtain ⟨z10, z11, s0, s1, s2, e, hs⟩ := outs_carried m c t
  rw [e]
  show dpOf _ _ _ _ _ _ _ _ _ (ix2 r j) = _
  rw [block_word]
  have hj := j.isLt
  by_cases h : j.val < 1024
  · have e1 := dpOf_apply_pool (iblk m c 0 t) (iblk m c 2 t) (iblk m c 3 t) (iblk m c 5 t) (iblk m c 6 t) (iblk m c 7 t) (iblk m c 8 t) s0 (7 - t.val)
      (by omega) r ⟨j.val, h⟩
    have e2 : dpV m c (ix2 (rowOf t r) j) = chanA (V m c main_v100) (dmV m c) (rowOf t r) ⟨j.val, h⟩ := dif_pos h
    rw [e2]
    refine e1.trans ?_
    unfold chanVal chanA
    rw [dpg_blk]
    congr 1
    refine Finset.sum_congr rfl fun i hi => ?_
    have := wid_le ⟨j.val, h⟩
    rw [rows_blk m c t s0 hs _ (by have := Finset.mem_range.mp hi; omega)]
    congr 1; unfold rowOf; dsimp only; omega
  · have e1 := dpOf_apply_gate (iblk m c 0 t) (iblk m c 2 t) (iblk m c 3 t) (iblk m c 5 t) (iblk m c 6 t) (iblk m c 7 t) (iblk m c 8 t) s0 (7 - t.val) r ⟨j.val - 1024, by omega⟩
    rw [dy_blk, blk5, blk7, blk3] at e1
    have e2 : dpV m c (ix2 (rowOf t r) j) = dyA (V m c main_arg5) (V m c main_v102) (rowOf t r) ⟨j.val - 1024, by omega⟩
      * V m c main_v80 (ix2 (rowOf t r) ⟨j.val - 1024, by omega⟩) * V m c main_arg3 (ix2 0 ⟨j.val - 1024, by omega⟩)
      * V m c main_v94 (ix2 (rowOf t r) ⟨j.val - 1024, by omega⟩) := dif_neg h
    have e3 : (⟨1024 + (j.val - 1024), by omega⟩ : Fin 2048) = j := Fin.ext (by show 1024 + (j.val - 1024) = j.val; omega)
    rw [e2, ← e1]
    exact congrArg (fun k => dpOf _ _ _ _ _ _ _ _ _ (ix2 r k)) e3.symm

theorem arr9 : (dats m 0 c).arrAt 9 cfg0.N = dpV m c := by
  refine (dats m 0 c).arrAt_eq_of_covers 9 _ (by decide +kernel) fun t hf y => ?_
  rw [after0_9]
  have e := (idx_moving t).2.2.2.2.2.2
  refine Eq.trans (congrArg (outsAt0 m c t.val t.isLt).1 ?_) ((dp_point m c t ⟨(y 0).val, (y 0).isLt⟩ ⟨(y 1).val, (y 1).isLt⟩).trans
    (congrArg (dpV m c) ?_))
  · blk_ext []
  · blk_ext [rowOf, e]

/-! ## The sums over the points -/

/-- A value reset at the first point and added to at every other is, after the last, the sum over all rows. -/
theorem sum_points (f : Fin cfg0.N → EReal) (term : Fin 4096 → EReal)
    (h0 : ∀ t : Fin cfg0.N, t.val = 0 → f t = ∑ r : Fin 512, term (rowOf t r))
    (hs : ∀ (t : Fin cfg0.N) (h : t.val - 1 < cfg0.N), t.val ≠ 0 → f t = f ⟨t.val - 1, h⟩ + ∑ r : Fin 512, term (rowOf t r))
    (t : Fin cfg0.N) (ht : t.val = 7) : f t = ∑ n : Fin 4096, term n := by
  let g : Nat → EReal := fun k => if h : k < cfg0.N then ∑ r : Fin 512, term (rowOf ⟨k, h⟩ r) else 0
  have hg : ∀ (k : Nat) (h : k < cfg0.N), g k = ∑ r : Fin 512, term (rowOf ⟨k, h⟩ r) := fun k h => dif_pos h
  have key : ∀ (n : Nat) (hn : n < cfg0.N), f ⟨n, hn⟩ = ∑ k ∈ Finset.range (n + 1), g k := by
    intro n
    induction n with
    | zero => intro hn; rw [h0 _ rfl, Finset.sum_range_one]; exact (hg _ hn).symm
    | succ n ih =>
      intro hn
      rw [hs ⟨n + 1, hn⟩ (Nat.lt_of_succ_lt hn) (Nat.succ_ne_zero n), Finset.sum_range_succ, ← ih (Nat.lt_of_succ_lt hn)]
      exact congrArg _ (hg _ hn).symm
  have hk := key t.val t.isLt
  rw [Fin.eta, ht] at hk
  rw [hk, Finset.sum_range g]
  let eqv : Fin 8 × Fin 512 ≃ Fin 4096 := finProdFinEquiv.trans (finCongr (by norm_num))
  have e : ∀ k : Fin 8, g k.val = ∑ r : Fin 512, term (eqv (k.rev, r)) := by
    intro k
    refine (hg _ (lt_of_lt_of_eq k.isLt (show cfg0.N = 8 from N_0).symm)).trans (Finset.sum_congr rfl fun r _ => congrArg term (Fin.ext ?_))
    have := k.isLt
    show (7 - k.val) * 512 + r.val = r.val + 512 * (8 - (k.val + 1))
    omega
  rw [Finset.sum_congr rfl fun k _ => e k]
  refine (Equiv.sum_comp Fin.revPerm fun k : Fin 8 => ∑ r : Fin 512, term (eqv (k, r))).trans ?_
  exact (Fintype.sum_prod_type fun p : Fin 8 × Fin 512 => term (eqv p)).symm.trans (Equiv.sum_comp eqv term)

/-- One accumulated value over the points: zero at first, and each point adds its rows' terms. -/
theorem sum_outs (X : Vec Ideal S1x1024 .f32 → Vec Ideal S1x1024 .f32 → Vec Ideal S1024x1024 .f32 → Vec Ideal S4x256x256 .f32 → EReal)
    (term : Fin 4096 → EReal)
    (h0 : X (k0_pay7 (F := Ideal)) (k0_pay8 (F := Ideal)) (k0_pay5 (F := Ideal)) (k0_pay6 (F := Ideal)) = 0)
    (hs : ∀ (t : Fin cfg0.N) z10 z11 s1 s2, X (k0_pay22 (k0_pay9 (iblk m c 2 t)) (k0_pay17 (iblk m c 7 t) (iblk m c 0 t) (iblk m c 8 t)) z10)
        (k0_pay20 (k0_pay9 (iblk m c 2 t)) (k0_pay16 (iblk m c 0 t) (iblk m c 8 t)) (iblk m c 5 t) z11) (k0_pay15 (iblk m c 0 t) s1 (iblk m c 1 t))
        (View.canon (dgwPieces (iblk m c 0 t) (iblk m c 2 t) (iblk m c 4 t) (iblk m c 7 t) (iblk m c 8 t) s2))
      = X z10 z11 s1 s2 + ∑ r : Fin 512, term (rowOf t r)) (t : Fin cfg0.N) (ht : t.val = 7) :
    X (outsAt0 m c t.val t.isLt).2.1 (outsAt0 m c t.val t.isLt).2.2.1 (outsAt0 m c t.val t.isLt).2.2.2.2.1 (outsAt0 m c t.val t.isLt).2.2.2.2.2
      = ∑ n : Fin 4096, term n := by
  refine sum_points (fun t => X (outsAt0 m c t.val t.isLt).2.1 (outsAt0 m c t.val t.isLt).2.2.1 (outsAt0 m c t.val t.isLt).2.2.2.2.1
    (outsAt0 m c t.val t.isLt).2.2.2.2.2) term (fun t h => ?_) (fun t h hn => ?_) t ht
  · obtain ⟨z10, z11, s0, s1, s2, e, h'⟩ := outs_eq m c t
    rw [e]
    unfold lastVals point; dsimp only; rw [hs t z10 z11 s1 s2]
    rcases h' with ⟨-, rfl, rfl, rfl, rfl, rfl⟩ | ⟨h', -⟩
    · rw [h0, zero_add]
    · exact absurd h h'
  · obtain ⟨z10, z11, s0, s1, s2, e, h'⟩ := outs_eq m c t
    rw [e]
    unfold lastVals point; dsimp only; rw [hs t z10 z11 s1 s2]
    rcases h' with ⟨h', -⟩ | ⟨-, h'⟩
    · exact absurd h' hn
    · obtain ⟨rfl, rfl, rfl, rfl, rfl⟩ := h' h
      rfl

variable (t : Fin cfg0.N) (ht : t.val = 7)
include ht

theorem sum10 (l : Fin 1024) : (outsAt0 m c t.val t.isLt).2.1 (ix2 0 l) = ∑ n : Fin 4096, dmV m c n l :=
  sum_outs m c (fun z _ _ _ => z (ix2 0 l)) (fun n => dmV m c n l) (by pointwise [k0_pay7]) (fun t z10 z11 s1 s2 =>
    (pay22_apply _ _ _ _ z10 l).trans (congrArg _ (Finset.sum_congr rfl fun r _ => dm_blk m c t r l))) t ht

theorem sum11 (l : Fin 1024) : (outsAt0 m c t.val t.isLt).2.2.1 (ix2 0 l)
    = dscA (V m c main_arg5) (V m c main_v88) (V m c main_v80) (V m c main_v102) (ix2 0 l) :=
  sum_outs m c (fun _ z _ _ => z (ix2 0 l)) _ (by pointwise [k0_pay8]) (fun t z10 z11 s1 s2 =>
    (pay20_apply _ _ _ _ z11 l).trans (congrArg _ (Finset.sum_congr rfl fun r _ => by rw [dy_blk, blk5, blk2]; rfl))) t ht

theorem sum_dwo (a b : Fin 1024) : (outsAt0 m c t.val t.isLt).2.2.2.2.1 (ix2 a b) = dwoA (V m c main_arg5) (V m c main_v98) (ix2 a b) :=
  sum_outs m c (fun _ _ z _ => z (ix2 a b)) _ (by pointwise [k0_pay5]) (fun t z10 z11 s1 s2 =>
    (pay15_apply _ _ s1 a b).trans (congrArg _ (Finset.sum_congr rfl fun r _ => by rw [blk0, blk1]; rfl))) t ht

theorem sum_dgw (g : Fin 4) (a b : Fin 256) : (outsAt0 m c t.val t.isLt).2.2.2.2.2 (ix3 g a b)
    = dgwA (V m c main_arg5) (V m c main_v88) (V m c main_v104) (V m c main_arg3) (V m c main_v102) (ix3 g a b) :=
  sum_outs m c (fun _ _ _ z => z (ix3 g a b)) _ (by pointwise [k0_pay6]) (fun t z10 z11 s1 s2 =>
    (dgw_apply _ _ _ _ _ s2 g a b).trans (congrArg _ (Finset.sum_congr rfl fun r _ => by rw [dm_blk, blk4]; rfl))) t ht

omit ht

/-! ## The run -/

theorem arr10 : (dats m 0 c).arrAt 10 cfg0.N = dgbA (V m c main_arg5) (V m c main_v88) (V m c main_arg3) (V m c main_v102) := by
  refine (dats m 0 c).arrAt_eq_of_after_last 10 t0_7 (by decide +kernel) _ fun j => ?_
  rw [after0_10]
  refine Eq.trans (congrArg (outsAt0 m c t0_7.val t0_7.isLt).2.1 ?_) ((sum10 m c t0_7 rfl ⟨(j 1).val, (j 1).isLt⟩).trans ?_)
  · blk_ext []
  · refine Finset.sum_congr rfl fun n _ => congrArg (dmV m c n) ?_
    blk_simp; rfl

theorem arr11 : (dats m 0 c).arrAt 11 cfg0.N = dscA (V m c main_arg5) (V m c main_v88) (V m c main_v80) (V m c main_v102) := by
  refine (dats m 0 c).arrAt_eq_of_after_last 11 t0_7 (by decide +kernel) _ fun j => ?_
  rw [after0_11]
  refine Eq.trans (congrArg (outsAt0 m c t0_7.val t0_7.isLt).2.2.1 ?_) ((sum11 m c t0_7 rfl ⟨(j 1).val, (j 1).isLt⟩).trans (congrArg (dscA (V m c main_arg5) (V m c main_v88) (V m c main_v80) (V m c main_v102)) ?_))
  · blk_ext []
  · blk_ext []

theorem end_dwo : k0_pay2 (outsAt0 m c 7 lt_N).2.2.2.2.1 = dwoA (V m c main_arg5) (V m c main_v98) := by
  funext i
  idx_vars i
  pointwise [k0_pay2]
  exact sum_dwo m c t0_7 rfl i0 i1

theorem end_dgw : k0_pay3 (outsAt0 m c 7 lt_N).2.2.2.2.2 = dgwA (V m c main_arg5) (V m c main_v88) (V m c main_v104) (V m c main_arg3) (V m c main_v102) := by
  funext i
  idx_vars i
  pointwise [k0_pay3]
  exact sum_dgw m c t0_7 rfl i0 i1 i2

variable (ρ : Dev nD → PrngReg)

/-- The run, its five results as sums over the arrays the region finds. -/
theorem run_sums : θ_run defs (onTc (τ := τ) (main (F := Ideal))) ⟨m, fun _ => 0, ρ⟩ fun r => ∀ c : Dev nD,
      r.2.mem ((c : Thread nD τ).loc main_v105_0) = dpV m c
      ∧ r.2.mem ((c : Thread nD τ).loc main_v105_1) = dwoA (V m c main_arg5) (V m c main_v98)
      ∧ r.2.mem ((c : Thread nD τ).loc main_v105_2)
        = dgwA (V m c main_arg5) (V m c main_v88) (V m c main_v104) (V m c main_arg3) (V m c main_v102)
      ∧ r.2.mem ((c : Thread nD τ).loc main_v105_3) = dgbA (V m c main_arg5) (V m c main_v88) (V m c main_arg3) (V m c main_v102)
      ∧ r.2.mem ((c : Thread nD τ).loc main_v105_4) = dscA (V m c main_arg5) (V m c main_v88) (V m c main_v80) (V m c main_v102) :=
  (θ_run defs _ _).mono (fun r h c => ⟨(h c).1.trans (arr9 m c), (h c).2.1.trans (end_dwo m c), (h c).2.2.1.trans (end_dgw m c),
    (h c).2.2.2.1.trans (arr10 m c), (h c).2.2.2.2.trans (arr11 m c)⟩) (run_results m ρ)

end Cert.PoolBwdIdeal.Step

end
-- ==== Proof.Entry.lean ====
/-
  What the region of the pooling backward finds in its arrays, over exact arithmetic: the host lines before it are the forward pass, written with
  the operations of the reference, so the pooled rows and the mixed groups are the reference's own; the other arrays are read at an index.
-/
module

public import proofs.«01_k».proof.Proof.Sweep
public import proofs.«01_k».proof.Proof.Gen.PoolBwdRefIdeal.Read
public import Idealize.ShloMosaic.Lib.StableHlo.ReadAt

@[expose] public section

set_option maxRecDepth 16384

noncomputable section

namespace Cert.PoolBwdIdeal.Step

open Idealize.ShloMosaic Idealize.ShloMosaic.TcCoe
open Cert.PoolBwdIdeal.Gen
open Cert.PoolBwdRefIdeal.Read

/-! ## The forward pass, of the arguments -/

section Forward
variable (a0 : Vec Ideal S1x4096x2048 .f32) (a1 : Vec Ideal S1x4x256x256 .f32) (a2 : Vec Ideal S1x4x256 .f32)

/-- The gates. -/
def gate (n : Fin 4096) (l : Fin 1024) : EReal := a0 (ix3 0 n ⟨1024 + l.val, by omega⟩)
/-- Their logistic function. -/
def sgm (n : Fin 4096) (l : Fin 1024) : EReal := Ideal.div 1 (1 + Ideal.exp (-gate a0 n l))
/-- Their `silu`. -/
def sil (n : Fin 4096) (l : Fin 1024) : EReal := gate a0 n l * sgm a0 n l
/-- The pooled rows: the trailing means less the rows themselves. -/
def pooled (n : Fin 4096) (l : Fin 1024) : EReal := val_main_v80 (F := Ideal) a0 (ix4 0 n (grp l) (chn l))
/-- The mixed groups. -/
def mixed (n : Fin 4096) (l : Fin 1024) : EReal := val_main_v85 (F := Ideal) a0 a1 a2 (ix4 0 n (grp l) (chn l))
end Forward

variable (m : (ℓ : Loc nD τ sig) → Buf (Elt Ideal) ℓ) (c : Dev nD)

/-! The six arguments, as launched. -/
abbrev a0V : Vec Ideal S1x4096x2048 .f32 := m ((c : Thread nD τ).loc main_arg0)
abbrev a1V : Vec Ideal S1x4x256x256 .f32 := m ((c : Thread nD τ).loc main_arg1)
abbrev a2V : Vec Ideal S1x4x256 .f32 := m ((c : Thread nD τ).loc main_arg2)
abbrev a3V : Vec Ideal S1x1024 .f32 := m ((c : Thread nD τ).loc main_arg3)
abbrev a4V : Vec Ideal S1x1024x1024 .f32 := m ((c : Thread nD τ).loc main_arg4)
abbrev a5V : Vec Ideal S4096x1024 .f32 := m ((c : Thread nD τ).loc main_arg5)

set_option maxHeartbeats 3200000 in
theorem v72_eq : V m c main_v72 = val_main_v80 (F := Ideal) (a0V m c) := by
  unfold V
  unfold_abbrev_sides
  after_reads_simp
  rfl

set_option maxHeartbeats 3200000 in
theorem v79_eq : V m c main_v79 = val_main_v85 (F := Ideal) (a0V m c) (a1V m c) (a2V m c) := by
  unfold V
  unfold_abbrev_sides
  after_reads_simp
  rfl

theorem v80_eq : V m c main_v80 = shapeCast S4096x1024 (V m c main_v79 : Vec Ideal S1x4096x4x256 .f32) shapeCasts_S1x4096x4x256_S4096x1024 := by
  unfold V
  unfold_abbrev_sides
  after_reads_simp
  rfl

theorem v104_eq : (V m c main_v104 : Vec Ideal S4096x1024 .bf16) = truncf (F := Ideal) .bf16 (shapeCast S4096x1024 (V m c main_v72 : Vec Ideal S1x4096x4x256 .f32) shapeCasts_S1x4096x4x256_S4096x1024) bitsLt_bf16_f32 := by
  unfold V
  unfold_abbrev_sides
  after_reads_simp
  rfl

theorem v98_eq : (V m c main_v98 : Vec Ideal S4096x1024 .bf16) = truncf (F := Ideal) .bf16 (mulf (F := Ideal) (φ := .f32) (s := S4096x1024) (mulf (F := Ideal) (φ := .f32) (s := S4096x1024) (V m c main_v80)
      (broadcastInDim S4096x1024 ![0, 1] bcast_S1x1024_S4096x1024_0_1 (a3V m c))) (V m c main_v88)) bitsLt_bf16_f32 := by
  unfold V
  unfold_abbrev_sides
  after_reads_simp

theorem v88_at (n : Fin 4096) (l : Fin 1024) : (V m c main_v88 : Vec Ideal S4096x1024 .f32) (ix2 n l) = sil (a0V m c) n l := by
  unfold V
  after_reads_at
  rfl

theorem v94_at (n : Fin 4096) (l : Fin 1024) : (V m c main_v94 : Vec Ideal S4096x1024 .f32) (ix2 n l) = sgm (a0V m c) n l * (1 + gate (a0V m c) n l * (1 - sgm (a0V m c) n l)) := by
  unfold V
  after_reads_at
  rfl

theorem v100_at (g : Fin 4) (a b : Fin 256) : V m c main_v100 (ix3 g a b) = (a1V m c) (ix4 0 g a b) := by
  unfold V
  after_reads_at

theorem v102_at (a b : Fin 1024) : V m c main_v102 (ix2 a b) = (a4V m c) (ix3 0 a b) := by
  unfold V
  after_reads_at

/-- The groups side by side, at a row and a channel. -/
theorem flat_at (X : Vec Ideal S1x4096x4x256 .f32) (n : Fin 4096) (l : Fin 1024) :
    shapeCast S4096x1024 X shapeCasts_S1x4096x4x256_S4096x1024 (ix2 n l) = X (ix4 0 n (grp l) (chn l)) := by
  pointwise [grp, chn]

theorem v80_at (n : Fin 4096) (l : Fin 1024) : (V m c main_v80 : Vec Ideal S4096x1024 .f32) (ix2 n l) = mixed (a0V m c) (a1V m c) (a2V m c) n l := by
  rw [v80_eq, v79_eq]
  exact flat_at _ n l

theorem v104_at (n : Fin 4096) (l : Fin 1024) : (V m c main_v104 : Vec Ideal S4096x1024 .bf16) (ix2 n l) = pooled (a0V m c) n l := by
  rw [v104_eq, v72_eq]
  exact flat_at (val_main_v80 (F := Ideal) (a0V m c)) n l

theorem v98_at (n : Fin 4096) (l : Fin 1024) : (V m c main_v98 : Vec Ideal S4096x1024 .bf16) (ix2 n l) = mixed (a0V m c) (a1V m c) (a2V m c) n l * (a3V m c) (ix2 0 l) * sil (a0V m c) n l := by
  rw [← v88_at, ← v80_at, v98_eq]
  pointwise

end Cert.PoolBwdIdeal.Step

end
-- ==== Proof.RefValue.lean ====
/-
  The reference of the pooling backward at an index: its five results in the words of Entry.lean (the gates and their logistic function, the pooled
  rows and the mixed groups) and of the arguments. The gradient through a trailing mean is, in the reference, a running sum from the end of
  differences; where the values are numbers it is the sum of the window's rows (RevSum.lean).
-/
module

public import proofs.«01_k».proof.Proof.RevSum
public import proofs.«01_k».proof.Proof.Entry

@[expose] public section

noncomputable section

namespace Cert.PoolBwdRefIdeal.RefValue

open Idealize.ShloMosaic Idealize.ShloMosaic.TcCoe Cert.PoolBwdRefIdeal Cert.PoolBwdRefIdeal.Gen
open Cert.PoolBwdRefIdeal.Read Cert.PoolBwdRefIdeal.RevSum
open Cert.PoolBwdIdeal.Step (grp chn col wid cnt gate sgm sil pooled mixed)
open scoped BigOperators

/-! ## The operations that read no single element, over any operands -/

/-- The word of a row's count: the rows so far, the window at most. -/
theorem cnt_word (n w : ℕ) (hn : n < 4096) (hw : w ≤ 16) :
    (FloatOps.sitofp FTy.f32 (IntOp.minsi (IntOp.addi 1#32 (BitVec.ofNat 32 n)) (BitVec.ofNat 32 w)) : Ideal .f32) = cnt n w := by
  have e := Cert.PoolBwdIdeal.Step.cnt_word (n / 512) (n % 512) w (by omega) (by omega) hw
  rw [show n / 512 * 512 + n % 512 = n from by omega] at e
  rw [← e]
  congr 2
  apply BitVec.eq_of_toNat_eq
  simp only [IntOp.addi, Scalar.muli, IntOp.muli, BitVec.toNat_add, BitVec.toNat_mul, BitVec.toNat_ofNat]
  omega

/-- The counts of a window. -/
abbrev counts (w : ℕ) : FVec Ideal S1x4096x1 .f32 :=
  broadcastInDim S1x4096x1 ![1] bcast_S4096_S1x4096x1_1 (sitofp (F := Ideal) .f32 (minsi (addi (broadcastInDim S4096 ![] bcast_S_S4096 (constantI S_ 32 1#32))
    (iotaInDim S4096 32 0)) (broadcastInDim S4096 ![] bcast_S_S4096 (constantI S_ 32 (BitVec.ofNat 32 w)))))

theorem counts_at (w : ℕ) (hw : w ≤ 16) (n : Fin 4096) : (counts w (ix3 0 n 0) : EReal) = cnt n.val w := by
  rw [← cnt_word n.val w n.isLt hw]
  pointwise [counts]

/-- A group's cotangent over its counts. -/
abbrev shares (g : ℕ) (h : S1x4096x4x256.Slices ![0, 0, g, 0] S1x4096x1x256) (D : FVec Ideal S1x4096x4x256 .f32) (C : FVec Ideal S1x4096x1 .f32) :
    FVec Ideal S1x4096x256 .f32 :=
  Host.divf (shapeCast S1x4096x256 (extractStridedSlice S1x4096x1x256 ![0, 0, g, 0] D h) shapeCasts_S1x4096x1x256_S1x4096x256)
    (broadcastInDim S1x4096x256 ![0, 1, 2] bcast_S1x4096x1_S1x4096x256_0_1_2 C)

theorem shares0 (D : FVec Ideal S1x4096x4x256 .f32) (C : FVec Ideal S1x4096x1 .f32) (t : Fin 4096) (e : Fin 256) :
    (shares 0 slices_S1x4096x4x256_S1x4096x1x256_0_0_0_0 D C (ix3 0 t e) : EReal) = Ideal.div (D (ix4 0 t 0 e)) (C (ix3 0 t 0)) := by
  pointwise [shares]
theorem shares1 (D : FVec Ideal S1x4096x4x256 .f32) (C : FVec Ideal S1x4096x1 .f32) (t : Fin 4096) (e : Fin 256) :
    (shares 1 slices_S1x4096x4x256_S1x4096x1x256_0_0_1_0 D C (ix3 0 t e) : EReal) = Ideal.div (D (ix4 0 t 1 e)) (C (ix3 0 t 0)) := by
  pointwise [shares]
theorem shares2 (D : FVec Ideal S1x4096x4x256 .f32) (C : FVec Ideal S1x4096x1 .f32) (t : Fin 4096) (e : Fin 256) :
    (shares 2 slices_S1x4096x4x256_S1x4096x1x256_0_0_2_0 D C (ix3 0 t e) : EReal) = Ideal.div (D (ix4 0 t 2 e)) (C (ix3 0 t 0)) := by
  pointwise [shares]
theorem shares3 (D : FVec Ideal S1x4096x4x256 .f32) (C : FVec Ideal S1x4096x1 .f32) (t : Fin 4096) (e : Fin 256) :
    (shares 3 slices_S1x4096x4x256_S1x4096x1x256_0_0_3_0 D C (ix3 0 t e) : EReal) = Ideal.div (D (ix4 0 t 3 e)) (C (ix3 0 t 0)) := by
  pointwise [shares]

/-- The one zero of the reference's constants. -/
abbrev zero0 : FVec Ideal S_ .f32 := constant (F := Ideal) S_ .f32 0x00000000#32

/-- An array less itself `w` rows further on, at a row. -/
abbrev Diff (w : ℕ) (S Q : FVec Ideal S1x4096x256 .f32) : Prop := ∀ (t : Fin 4096) (e : Fin 256),
  (S (ix3 0 t e) : EReal) = Q (ix3 0 t e) + if h : t.val + w < 4096 then -(Q (ix3 0 ⟨t.val + w, h⟩ e) : EReal) else 0

/-- A row the other way round. -/
theorem diff_end (w : ℕ) (Q : FVec Ideal S1x4096x256 .f32) (t : Fin 4096) (e : Fin 256) (h : t.val < 4096 - w → w + t.val < 4096) (hw : w ≤ 4096) :
    (Q (ix3 0 t e) + (if h' : t.val < 4096 - w then -(Q (ix3 0 ⟨w + t.val, h h'⟩ e) : EReal) else 0) : EReal)
      = Q (ix3 0 t e) + if h : t.val + w < 4096 then -(Q (ix3 0 ⟨t.val + w, h⟩ e) : EReal) else 0 := by
  refine congrArg _ (dite_congr (propext (by omega)) (fun h => ?_) fun _ => rfl)
  exact congrArg (fun k => -(Q (ix3 0 k e) : EReal)) (Fin.ext (Nat.add_comm _ _))

theorem diff16 (Q : FVec Ideal S1x4096x256 .f32) : Diff 16 (addf Q (pad S1x4096x256 ![0, 0, 0] ![0, 16, 0] ![0, 0, 0]
    (extractStridedSlice S1x4080x256 ![0, 16, 0] (Host.negf Q) slices_S1x4096x256_S1x4080x256_0_16_0) zero0 pads_S1x4080x256_S1x4096x256_000_0160_000 h_S_)) Q := by
  intro t e
  rw [← diff_end 16 Q t e (by omega) (by omega)]
  pointwise
theorem diff8 (Q : FVec Ideal S1x4096x256 .f32) : Diff 8 (addf Q (pad S1x4096x256 ![0, 0, 0] ![0, 8, 0] ![0, 0, 0]
    (extractStridedSlice S1x4088x256 ![0, 8, 0] (Host.negf Q) slices_S1x4096x256_S1x4088x256_0_8_0) zero0 pads_S1x4088x256_S1x4096x256_000_080_000 h_S_)) Q := by
  intro t e
  rw [← diff_end 8 Q t e (by omega) (by omega)]
  pointwise
theorem diff4 (Q : FVec Ideal S1x4096x256 .f32) : Diff 4 (addf Q (pad S1x4096x256 ![0, 0, 0] ![0, 4, 0] ![0, 0, 0]
    (extractStridedSlice S1x4092x256 ![0, 4, 0] (Host.negf Q) slices_S1x4096x256_S1x4092x256_0_4_0) zero0 pads_S1x4092x256_S1x4096x256_000_040_000 h_S_)) Q := by
  intro t e
  rw [← diff_end 4 Q t e (by omega) (by omega)]
  pointwise
theorem diff2 (Q : FVec Ideal S1x4096x256 .f32) : Diff 2 (addf Q (pad S1x4096x256 ![0, 0, 0] ![0, 2, 0] ![0, 0, 0]
    (extractStridedSlice S1x4094x256 ![0, 2, 0] (Host.negf Q) slices_S1x4096x256_S1x4094x256_0_2_0) zero0 pads_S1x4094x256_S1x4096x256_000_020_000 h_S_)) Q := by
  intro t e
  rw [← diff_end 2 Q t e (by omega) (by omega)]
  pointwise

/-- The running sum from the end. -/
abbrev fromEnd (S : FVec Ideal S1x4096x256 .f32) : FVec Ideal S1x4096x256 .f32 :=
  Host.reduceWindowAdd (F := Ideal) ![1, 4096, 1] ![1, 1, 1] ![0, 0, 0] ![0, 4095, 0] S (broadcastInDim S_ ![] bcast_S_S_ zero0)
    reduceWindows_S1x4096x256_S1x4096x256_w1s1p0_0_w4096s1p0_4095_w1s1p0_0 h_S_

theorem zero_first : (broadcastInDim S_ ![] bcast_S_S_ zero0 (Shape.Idx.first h_S_) : EReal) = 0 := by
  generalize Shape.Idx.first h_S_ = i
  pointwise

/-- A group's gradient in its place among the four, zero in the others. -/
theorem place0 (X : FVec Ideal S1x4096x256 .f32) (t : Fin 4096) (g : Fin 4) (e : Fin 256) :
    (pad S1x4096x4x256 ![0, 0, 0, 0] ![0, 0, 3, 0] ![0, 0, 0, 0] (broadcastInDim S1x4096x1x256 ![0, 1, 3] bcast_S1x4096x256_S1x4096x1x256_0_1_3 X)
        zero0 pads_S1x4096x1x256_S1x4096x4x256_000_000_030_000 h_S_ (ix4 0 t g e) : EReal) = if g = 0 then (X (ix3 0 t e) : EReal) else 0 := by
  pointwise
  exact dite_congr (propext (by omega)) (fun _ => rfl) fun _ => rfl
theorem place1 (X : FVec Ideal S1x4096x256 .f32) (t : Fin 4096) (g : Fin 4) (e : Fin 256) :
    (pad S1x4096x4x256 ![0, 0, 1, 0] ![0, 0, 2, 0] ![0, 0, 0, 0] (broadcastInDim S1x4096x1x256 ![0, 1, 3] bcast_S1x4096x256_S1x4096x1x256_0_1_3 X)
        zero0 pads_S1x4096x1x256_S1x4096x4x256_000_000_120_000 h_S_ (ix4 0 t g e) : EReal) = if g = 1 then (X (ix3 0 t e) : EReal) else 0 := by
  pointwise
  exact dite_congr (propext (by omega)) (fun _ => rfl) fun _ => rfl
theorem place2 (X : FVec Ideal S1x4096x256 .f32) (t : Fin 4096) (g : Fin 4) (e : Fin 256) :
    (pad S1x4096x4x256 ![0, 0, 2, 0] ![0, 0, 1, 0] ![0, 0, 0, 0] (broadcastInDim S1x4096x1x256 ![0, 1, 3] bcast_S1x4096x256_S1x4096x1x256_0_1_3 X)
        zero0 pads_S1x4096x1x256_S1x4096x4x256_000_000_210_000 h_S_ (ix4 0 t g e) : EReal) = if g = 2 then (X (ix3 0 t e) : EReal) else 0 := by
  pointwise
  exact dite_congr (propext (by omega)) (fun _ => rfl) fun _ => rfl
theorem place3 (X : FVec Ideal S1x4096x256 .f32) (t : Fin 4096) (g : Fin 4) (e : Fin 256) :
    (pad S1x4096x4x256 ![0, 0, 3, 0] ![0, 0, 0, 0] ![0, 0, 0, 0] (broadcastInDim S1x4096x1x256 ![0, 1, 3] bcast_S1x4096x256_S1x4096x1x256_0_1_3 X)
        zero0 pads_S1x4096x1x256_S1x4096x4x256_000_000_300_000 h_S_ (ix4 0 t g e) : EReal) = if g = 3 then (X (ix3 0 t e) : EReal) else 0 := by
  pointwise
  exact dite_congr (propext (by omega)) (fun _ => rfl) fun _ => rfl

/-- A sum over leading axes of size one is the element. -/
theorem unitSum2 (Y : FVec Ideal S1x1x1024 .f32) (l : Fin 1024) :
    Ideal.hostReduceAdd reducesTo_S1x1x1024_S1024_d0_1 Y 0 (ix1 l) = Y (ix3 0 0 l) := by
  unfold Ideal.hostReduceAdd
  rw [zero_add]
  refine Finset.sum_eq_single_of_mem (ix3 0 0 l) (Finset.mem_filter.2 ⟨Finset.mem_univ _, ?_⟩) fun i hi hne => ?_
  · exact funext fun a => match a with | ⟨0, _⟩ => rfl
  · refine absurd ?_ hne
    have h2 : i 2 = l := congrFun (Finset.mem_filter.1 hi).2 0
    exact funext fun a => match a with
      | ⟨0, _⟩ => Fin.ext (by have h : (i 0).val < 1 := (i 0).isLt; show (i 0).val = 0; omega)
      | ⟨1, _⟩ => Fin.ext (by have h : (i 1).val < 1 := (i 1).isLt; show (i 1).val = 0; omega)
      | ⟨2, _⟩ => h2
theorem unitSum22 (Y : FVec Ideal S1x1x4x256 .f32) (g : Fin 4) (e : Fin 256) :
    Ideal.hostReduceAdd reducesTo_S1x1x4x256_S4x256_d0_1 Y 0 (ix2 g e) = Y (ix4 0 0 g e) := by
  unfold Ideal.hostReduceAdd
  rw [zero_add]
  refine Finset.sum_eq_single_of_mem (ix4 0 0 g e) (Finset.mem_filter.2 ⟨Finset.mem_univ _, ?_⟩) fun i hi hne => ?_
  · exact funext fun a => match a with | ⟨0, _⟩ => rfl | ⟨1, _⟩ => rfl
  · refine absurd ?_ hne
    have h2 : i 2 = g := congrFun (Finset.mem_filter.1 hi).2 0
    have h3 : i 3 = e := congrFun (Finset.mem_filter.1 hi).2 1
    exact funext fun a => match a with
      | ⟨0, _⟩ => Fin.ext (by have h : (i 0).val < 1 := (i 0).isLt; show (i 0).val = 0; omega)
      | ⟨1, _⟩ => Fin.ext (by have h : (i 1).val < 1 := (i 1).isLt; show (i 1).val = 0; omega)
      | ⟨2, _⟩ => h2
      | ⟨3, _⟩ => h3

end Cert.PoolBwdRefIdeal.RefValue

end
-- ==== Proof.RefResults.lean ====
/-
  The reference of the pooling backward, its results at an index: the product's cotangent, the gradients of the scale, the bias, the weights and the
  gates, and the gradient through the pooling (`chan_at`).
-/
module

public import proofs.«01_k».proof.Proof.RefValue

@[expose] public section

noncomputable section

namespace Cert.PoolBwdRefIdeal.RefValue

open Idealize.ShloMosaic Idealize.ShloMosaic.TcCoe Cert.PoolBwdRefIdeal Cert.PoolBwdRefIdeal.Gen
open Cert.PoolBwdRefIdeal.Read Cert.PoolBwdRefIdeal.RevSum
open Cert.PoolBwdIdeal.Step (grp chn col wid cnt gate sgm sil pooled mixed)
open scoped BigOperators

variable (a0 : Vec Ideal S1x4096x2048 .f32) (a1 : Vec Ideal S1x4x256x256 .f32) (a2 : Vec Ideal S1x4x256 .f32)
  (a3 : Vec Ideal S1x1024 .f32) (a4 : Vec Ideal S1x1024x1024 .f32) (a5 : Vec Ideal S4096x1024 .f32)

/-! ## The words of the equation -/

/-- The cotangent of the gated rows. -/
def dyT (n : Fin 4096) (l : Fin 1024) : EReal := ∑ k : Fin 1024, a5 (ix2 n k) * a4 (ix3 0 l k)
/-- The cotangent of the mixed groups. -/
def dmT (n : Fin 4096) (l : Fin 1024) : EReal := dyT a4 a5 n l * a3 (ix2 0 l) * sil a0 n l
/-- The cotangent of the pooled rows. -/
def dpgT (n : Fin 4096) (g : Fin 4) (e : Fin 256) : EReal := ∑ d : Fin 256, dmT a0 a3 a4 a5 n (col g d) * a1 (ix4 0 g e d)

/-! ## The forward pass -/

theorem sgm_ref (n : Fin 4096) (l : Fin 1024) : val_main_v90_2 (F := Ideal) a0 (ix3 0 n l) = sgm a0 n l := by
  pointwise [val_main_v90_2, val_main_call4_v4, val_main_call4_cst_0, val_main_call4_v3, val_main_call4_v2, val_main_call4_cst, val_main_call4_v1, val_main_call4_v0, val_main_v5, sgm, gate]

theorem gate_ref (n : Fin 4096) (l : Fin 1024) : val_main_v5 (F := Ideal) a0 (ix3 0 n l) = gate a0 n l := by
  pointwise [val_main_v5, gate]

theorem cosgm_ref (n : Fin 4096) (l : Fin 1024) : val_main_v90_1 (F := Ideal) a0 (ix3 0 n l) = sgm a0 n l * (1 - sgm a0 n l) := by
  rw [← sgm_ref]
  unfold val_main_v90_1 val_main_call4_v7
  generalize val_main_v90_2 (F := Ideal) a0 = Y
  pointwise [val_main_call4_v6, val_main_call4_cst_1]

theorem sil_ref (n : Fin 4096) (l : Fin 1024) : val_main_v90_0 (F := Ideal) a0 (ix3 0 n l) = sil a0 n l := by
  rw [sil, ← sgm_ref, ← gate_ref]
  rfl

theorem mixed_ref (n : Fin 4096) (l : Fin 1024) : val_main_v86 (F := Ideal) a0 a1 a2 (ix3 0 n l) = mixed a0 a1 a2 n l := by
  unfold val_main_v86 mixed
  generalize val_main_v85 (F := Ideal) a0 a1 a2 = X
  pointwise [grp, chn]

/-! ## The cotangents -/

theorem dy_ref (n : Fin 4096) (l : Fin 1024) : val_main_v96 (F := Ideal) a4 a5 (ix3 0 n l) = dyT a4 a5 n l := by
  pointwise [val_main_v96, val_main_v93, val_main_v3, dyT]

theorem dm_ref (n : Fin 4096) (l : Fin 1024) : val_main_v104 (F := Ideal) a0 a3 a4 a5 (ix3 0 n l) = dmT a0 a3 a4 a5 n l := by
  rw [dmT, mul_right_comm, ← dy_ref, ← sil_ref]
  unfold val_main_v104 val_main_v98
  generalize val_main_v96 (F := Ideal) a4 a5 = X
  generalize val_main_v90_0 (F := Ideal) a0 = Y
  pointwise [val_main_v103, val_main_v87, val_main_v2]

theorem dm_group (n : Fin 4096) (g : Fin 4) (e : Fin 256) : val_main_v106 (F := Ideal) a0 a3 a4 a5 (ix4 0 n g e) = dmT a0 a3 a4 a5 n (col g e) := by
  rw [← dm_ref]
  unfold val_main_v106
  generalize val_main_v104 (F := Ideal) a0 a3 a4 a5 = X
  pointwise [col]
  exact congrArg (fun k => X (ix3 0 n k)) (Fin.ext (by show g.val * 256 + e.val = 256 * g.val + e.val; omega))

theorem dpg_ref (n : Fin 4096) (g : Fin 4) (e : Fin 256) : val_main_v112 (F := Ideal) a0 a1 a3 a4 a5 (ix4 0 n g e) = dpgT a0 a1 a3 a4 a5 n g e := by
  unfold dpgT
  simp only [← dm_group]
  unfold val_main_v112 val_main_v111 val_main_v110
  generalize val_main_v106 (F := Ideal) a0 a3 a4 a5 = X
  pointwise [val_main_v0]

/-! ## The results that are sums over the rows -/

theorem dwout_ref (l k : Fin 1024) : val_main_v172 (F := Ideal) a0 a1 a2 a3 a5 (ix2 l k)
    = ∑ n : Fin 4096, mixed a0 a1 a2 n l * a3 (ix2 0 l) * sil a0 n l * a5 (ix2 n k) := by
  simp only [← mixed_ref, ← sil_ref]
  unfold val_main_v172 val_main_v95 val_main_v94 val_main_v91 val_main_v89
  generalize val_main_v86 (F := Ideal) a0 a1 a2 = X
  generalize val_main_v90_0 (F := Ideal) a0 = Y
  pointwise [val_main_v93, val_main_v88, val_main_v87, val_main_v2]
  simp only [mul_comm, Fin.sum_univ_one]

theorem dgw_ref (g : Fin 4) (a b : Fin 256) : val_main_v173 (F := Ideal) a0 a3 a4 a5 (ix3 g a b)
    = ∑ n : Fin 4096, pooled a0 n (col g a) * dmT a0 a3 a4 a5 n (col g b) := by
  simp only [← dm_group, pooled, Cert.PoolBwdIdeal.Step.grp_col, Cert.PoolBwdIdeal.Step.chn_col]
  unfold val_main_v173 val_main_v114 val_main_v113 val_main_v110
  generalize val_main_v106 (F := Ideal) a0 a3 a4 a5 = X
  generalize val_main_v80 (F := Ideal) a0 = Y
  pointwise
  simp only [mul_comm, Fin.sum_univ_one]

theorem col_grp_chn (j : Fin 1024) : col (grp j) (chn j) = j := Fin.ext (by show 256 * (j.val / 256) + j.val % 256 = j.val; omega)

theorem dgb_ref (j : Fin 1024) : val_main_v174 (F := Ideal) a0 a3 a4 a5 (ix2 0 j) = ∑ n : Fin 4096, dmT a0 a3 a4 a5 n j := by
  have e : ∀ n, dmT a0 a3 a4 a5 n j = val_main_v106 (F := Ideal) a0 a3 a4 a5 (ix4 0 n (grp j) (chn j)) := fun n => by
    rw [dm_group, col_grp_chn]
  simp only [e]
  unfold val_main_v174 val_main_v109 val_main_v108 val_main_v107
  generalize val_main_v106 (F := Ideal) a0 a3 a4 a5 = X
  pointwise [val_main_cst_17, val_main_cst_16, grp, chn]
  rw [unitSum22]
  pointwise

theorem dsc_ref (l : Fin 1024) : val_main_v175 (F := Ideal) a0 a1 a2 a4 a5 (ix2 0 l) = ∑ n : Fin 4096, mixed a0 a1 a2 n l * (dyT a4 a5 n l * sil a0 n l) := by
  simp only [← mixed_ref, ← sil_ref, ← dy_ref]
  unfold val_main_v175 val_main_v105 val_main_v102 val_main_v101 val_main_v100 val_main_v98
  generalize val_main_v86 (F := Ideal) a0 a1 a2 = X
  generalize val_main_v90_0 (F := Ideal) a0 = Y
  generalize val_main_v96 (F := Ideal) a4 a5 = Z
  pointwise [val_main_cst_15, val_main_cst_14]
  rw [unitSum2]
  pointwise

/-! ## The gradient of the rows -/

theorem dgate_ref (n : Fin 4096) (l : Fin 1024) : val_main_v99 (F := Ideal) a0 a1 a2 a3 a4 a5 (ix3 0 n l)
    = mixed a0 a1 a2 n l * a3 (ix2 0 l) * dyT a4 a5 n l * sgm a0 n l
      + gate a0 n l * (mixed a0 a1 a2 n l * a3 (ix2 0 l) * dyT a4 a5 n l) * (sgm a0 n l * (1 - sgm a0 n l)) := by
  rw [← cosgm_ref]
  simp only [← mixed_ref, ← sgm_ref, ← gate_ref, ← dy_ref]
  unfold val_main_v99 val_main_call5_v1 val_main_call5_v2 val_main_call5_v0 val_main_v97 val_main_v89
  generalize val_main_v86 (F := Ideal) a0 a1 a2 = X
  generalize val_main_v90_1 (F := Ideal) a0 = Y
  generalize val_main_v90_2 (F := Ideal) a0 = Y'
  generalize val_main_v96 (F := Ideal) a4 a5 = Z
  generalize val_main_v5 (F := Ideal) a0 = Z'
  pointwise [val_main_v88, val_main_v87, val_main_v2]

theorem dp_split (n : Fin 4096) (j : Fin 2048) : val_main_v171 (F := Ideal) a0 a1 a2 a3 a4 a5 (ix2 n j)
    = if h : j.val < 1024 then val_main_v167 (F := Ideal) a0 a1 a3 a4 a5 (ix4 0 n (grp ⟨j.val, h⟩) (chn ⟨j.val, h⟩))
      else val_main_v99 (F := Ideal) a0 a1 a2 a3 a4 a5 (ix3 0 n ⟨j.val - 1024, by omega⟩) := by
  unfold val_main_v171 val_main_v170 val_main_v169 val_main_v168
  generalize val_main_v167 (F := Ideal) a0 a1 a3 a4 a5 = X
  generalize val_main_v99 (F := Ideal) a0 a1 a2 a3 a4 a5 = Y
  pointwise [grp, chn]

/-- A group's share of a row. -/
def share (D : FVec Ideal S1x4096x4x256 .f32) (g : Fin 4) (e : Fin 256) (n : ℕ) : EReal :=
  if h : n < 4096 then Ideal.div (D (ix4 0 ⟨n, h⟩ g e)) (cnt n (2 ^ (g.val + 1))) else 0

/-- A group's running sum of differences is the sum of the window's rows, where the values are numbers. -/
theorem group_at (w : ℕ) (g : Fin 4) (hg : 2 ^ (g.val + 1) = w) (hw : w ≤ 16) (D : FVec Ideal S1x4096x4x256 .f32) (S Q : FVec Ideal S1x4096x256 .f32) (hS : Diff w S Q)
    (hQ : ∀ t e, (Q (ix3 0 t e) : EReal) = Ideal.div (D (ix4 0 t g e)) (counts w (ix3 0 t 0))) (hD : ∀ t e, IsReal (Q (ix3 0 t e))) (t : Fin 4096) (e : Fin 256) :
    (fromEnd S (ix3 0 t e) : EReal) = ∑ i ∈ Finset.range w, share D g e (t.val + i) := by
  subst hg
  refine (fromEnd_diff _ S Q _ zero_first hD hS t e).trans (Finset.sum_congr rfl fun i _ => ?_)
  unfold share
  refine dite_congr rfl (fun h => ?_) fun _ => rfl
  rw [hQ, counts_at _ hw]

/-! A group's part of the gradient, over any cotangent of the pooled rows. -/
def part0 (D : FVec Ideal S1x4096x4x256 .f32) : FVec Ideal S1x4096x4x256 .f32 :=
  let Q := shares 0 slices_S1x4096x4x256_S1x4096x1x256_0_0_0_0 D (counts 2)
  pad S1x4096x4x256 ![0, 0, 0, 0] ![0, 0, 3, 0] ![0, 0, 0, 0] (broadcastInDim S1x4096x1x256 ![0, 1, 3] bcast_S1x4096x256_S1x4096x1x256_0_1_3 (fromEnd
    (addf Q (pad S1x4096x256 ![0, 0, 0] ![0, 2, 0] ![0, 0, 0] (extractStridedSlice S1x4094x256 ![0, 2, 0] (Host.negf Q) slices_S1x4096x256_S1x4094x256_0_2_0)
      zero0 pads_S1x4094x256_S1x4096x256_000_020_000 h_S_)))) zero0 pads_S1x4096x1x256_S1x4096x4x256_000_000_030_000 h_S_
def part1 (D : FVec Ideal S1x4096x4x256 .f32) : FVec Ideal S1x4096x4x256 .f32 :=
  let Q := shares 1 slices_S1x4096x4x256_S1x4096x1x256_0_0_1_0 D (counts 4)
  pad S1x4096x4x256 ![0, 0, 1, 0] ![0, 0, 2, 0] ![0, 0, 0, 0] (broadcastInDim S1x4096x1x256 ![0, 1, 3] bcast_S1x4096x256_S1x4096x1x256_0_1_3 (fromEnd
    (addf Q (pad S1x4096x256 ![0, 0, 0] ![0, 4, 0] ![0, 0, 0] (extractStridedSlice S1x4092x256 ![0, 4, 0] (Host.negf Q) slices_S1x4096x256_S1x4092x256_0_4_0)
      zero0 pads_S1x4092x256_S1x4096x256_000_040_000 h_S_)))) zero0 pads_S1x4096x1x256_S1x4096x4x256_000_000_120_000 h_S_
def part2 (D : FVec Ideal S1x4096x4x256 .f32) : FVec Ideal S1x4096x4x256 .f32 :=
  let Q := shares 2 slices_S1x4096x4x256_S1x4096x1x256_0_0_2_0 D (counts 8)
  pad S1x4096x4x256 ![0, 0, 2, 0] ![0, 0, 1, 0] ![0, 0, 0, 0] (broadcastInDim S1x4096x1x256 ![0, 1, 3] bcast_S1x4096x256_S1x4096x1x256_0_1_3 (fromEnd
    (addf Q (pad S1x4096x256 ![0, 0, 0] ![0, 8, 0] ![0, 0, 0] (extractStridedSlice S1x4088x256 ![0, 8, 0] (Host.negf Q) slices_S1x4096x256_S1x4088x256_0_8_0)
      zero0 pads_S1x4088x256_S1x4096x256_000_080_000 h_S_)))) zero0 pads_S1x4096x1x256_S1x4096x4x256_000_000_210_000 h_S_
def part3 (D : FVec Ideal S1x4096x4x256 .f32) : FVec Ideal S1x4096x4x256 .f32 :=
  let Q := shares 3 slices_S1x4096x4x256_S1x4096x1x256_0_0_3_0 D (counts 16)
  pad S1x4096x4x256 ![0, 0, 3, 0] ![0, 0, 0, 0] ![0, 0, 0, 0] (broadcastInDim S1x4096x1x256 ![0, 1, 3] bcast_S1x4096x256_S1x4096x1x256_0_1_3 (fromEnd
    (addf Q (pad S1x4096x256 ![0, 0, 0] ![0, 16, 0] ![0, 0, 0] (extractStridedSlice S1x4080x256 ![0, 16, 0] (Host.negf Q) slices_S1x4096x256_S1x4080x256_0_16_0)
      zero0 pads_S1x4080x256_S1x4096x256_000_0160_000 h_S_)))) zero0 pads_S1x4096x1x256_S1x4096x4x256_000_000_300_000 h_S_

variable (D : FVec Ideal S1x4096x4x256 .f32) (hD : ∀ (g : Fin 4) (e : Fin 256) (t : Fin 4096), IsReal (share D g e t.val))

include hD in
theorem shares_real (g : Fin 4) (w : ℕ) (hg : 2 ^ (g.val + 1) = w) (hw : w ≤ 16) (Q : FVec Ideal S1x4096x256 .f32)
    (hQ : ∀ t e, (Q (ix3 0 t e) : EReal) = Ideal.div (D (ix4 0 t g e)) (counts w (ix3 0 t 0))) (t : Fin 4096) (e : Fin 256) : IsReal (Q (ix3 0 t e)) := by
  have h := hD g e t
  rw [share, dif_pos t.isLt, hg] at h
  rw [hQ, counts_at w hw]
  exact h

include hD in
theorem part0_at (t : Fin 4096) (g : Fin 4) (e : Fin 256) :
    (part0 D (ix4 0 t g e) : EReal) = if g = 0 then ∑ i ∈ Finset.range 2, share D 0 e (t.val + i) else 0 := by
  refine (place0 _ t g e).trans (if_congr Iff.rfl ?_ rfl)
  exact group_at 2 0 rfl (by omega) D _ _ (diff2 _) (fun t e => shares0 D _ t e) (shares_real D hD 0 2 rfl (by omega) _ fun t e => shares0 D _ t e) t e
include hD in
theorem part1_at (t : Fin 4096) (g : Fin 4) (e : Fin 256) :
    (part1 D (ix4 0 t g e) : EReal) = if g = 1 then ∑ i ∈ Finset.range 4, share D 1 e (t.val + i) else 0 := by
  refine (place1 _ t g e).trans (if_congr Iff.rfl ?_ rfl)
  exact group_at 4 1 rfl (by omega) D _ _ (diff4 _) (fun t e => shares1 D _ t e) (shares_real D hD 1 4 rfl (by omega) _ fun t e => shares1 D _ t e) t e
include hD in
theorem part2_at (t : Fin 4096) (g : Fin 4) (e : Fin 256) :
    (part2 D (ix4 0 t g e) : EReal) = if g = 2 then ∑ i ∈ Finset.range 8, share D 2 e (t.val + i) else 0 := by
  refine (place2 _ t g e).trans (if_congr Iff.rfl ?_ rfl)
  exact group_at 8 2 rfl (by omega) D _ _ (diff8 _) (fun t e => shares2 D _ t e) (shares_real D hD 2 8 rfl (by omega) _ fun t e => shares2 D _ t e) t e
include hD in
theorem part3_at (t : Fin 4096) (g : Fin 4) (e : Fin 256) :
    (part3 D (ix4 0 t g e) : EReal) = if g = 3 then ∑ i ∈ Finset.range 16, share D 3 e (t.val + i) else 0 := by
  refine (place3 _ t g e).trans (if_congr Iff.rfl ?_ rfl)
  exact group_at 16 3 rfl (by omega) D _ _ (diff16 _) (fun t e => shares3 D _ t e) (shares_real D hD 3 16 rfl (by omega) _ fun t e => shares3 D _ t e) t e

include hD in
/-- The four parts and the rows themselves. -/
theorem parts_at (t : Fin 4096) (g : Fin 4) (e : Fin 256) :
    (addf (addf (addf (addf (Host.negf D) (part3 D)) (part2 D)) (part1 D)) (part0 D) (ix4 0 t g e) : EReal)
      = -(D (ix4 0 t g e) : EReal) + ∑ i ∈ Finset.range (2 ^ (g.val + 1)), share D g e (t.val + i) := by
  show (((-(D (ix4 0 t g e) : EReal) + part3 D (ix4 0 t g e)) + part2 D (ix4 0 t g e)) + part1 D (ix4 0 t g e)) + part0 D (ix4 0 t g e) = _
  rw [part0_at D hD, part1_at D hD, part2_at D hD, part3_at D hD]
  match g with
  | 0 => simp
  | 1 => simp
  | 2 => simp
  | 3 => simp

/-- The gradient through the pooling, where the shares are numbers. -/
theorem chan_ref (hD : ∀ (g : Fin 4) (e : Fin 256) (t : Fin 4096), IsReal (share (val_main_v112 (F := Ideal) a0 a1 a3 a4 a5) g e t.val))
    (t : Fin 4096) (g : Fin 4) (e : Fin 256) : val_main_v167 (F := Ideal) a0 a1 a3 a4 a5 (ix4 0 t g e)
      = -(val_main_v112 (F := Ideal) a0 a1 a3 a4 a5 (ix4 0 t g e) : EReal)
        + ∑ i ∈ Finset.range (2 ^ (g.val + 1)), share (val_main_v112 (F := Ideal) a0 a1 a3 a4 a5) g e (t.val + i) :=
  parts_at (val_main_v112 (F := Ideal) a0 a1 a3 a4 a5) hD t g e

end Cert.PoolBwdRefIdeal.RefValue

end
-- ==== Proof.Finite.lean ====
/-
  What is a number where the arguments are: the logistic function of the gates, the counts, the pooled rows, the mixed groups, and the cotangents.
  The pooling's differences and the gate's derivative need it, for over extended reals `x (a + b)` is `x a + x b`, and `x - x` is zero, only of numbers.
-/
module

public import proofs.«01_k».proof.Proof.RefResults
public import proofs.«01_k».proof.Proof.Gen.Pre_finite
public import Idealize.ShloMosaic.Lib.ReduceAll
public import Idealize.ShloMosaic.Lib.Affine

@[expose] public section

noncomputable section

namespace Cert.PoolBwdRefIdeal.RefValue

open Idealize.ShloMosaic Idealize.ShloMosaic.TcCoe Cert.PoolBwdRefIdeal Cert.PoolBwdRefIdeal.Gen
open Cert.PoolBwdRefIdeal.Read Cert.PoolBwdRefIdeal.RevSum
open Cert.PoolBwdIdeal.Step (grp chn col wid cnt gate sgm sil pooled mixed)
open scoped BigOperators

/-- The word of the constants is zero. -/
theorem zeroWord (k : S_.Idx) : (constant (F := Ideal) S_ .f32 0x00000000#32 k : EReal) = 0 := by
  pointwise

/-! ## The precondition -/

/-- Only a number is equal to itself less itself plus zero. -/
theorem real_of_sub {x : EReal} (h : x - x = 0) : IsReal x := by
  induction x with
  | bot => exact absurd h (by decide)
  | top => exact absurd h (by decide)
  | coe r => exact ⟨r, rfl⟩

/-- The precondition's test of one array. -/
theorem real_of_test {s : Shape} (X : FVec Ideal s .f32) (hb : (⟨0, ![]⟩ : Shape).BroadcastsInDim s ![])
    (i : s.Idx) (h : cmpf .oeq (subf X X) (broadcastInDim s ![] hb (constant (F := Ideal) ⟨0, ![]⟩ .f32 0x00000000#32)) i = 1#1) : IsReal (X i) := by
  refine real_of_sub ?_
  have h0 : (constant (F := Ideal) ⟨0, ![]⟩ .f32 0x00000000#32 : FVec Ideal ⟨0, ![]⟩ .f32) = fun _ => (0 : EReal) := by
    funext k; exact zeroWord k
  rw [h0] at h
  change BitVec.ofBool (decide ((X i : EReal) - X i = 0)) = 1#1 at h
  by_contra hn
  rw [decide_eq_false hn] at h
  exact absurd h (by decide)

/-- Arrays that pass the precondition hold numbers. -/
theorem reals_of_pre (a0 : Vec Ideal S1x4096x2048 .f32) (a1 : Vec Ideal S1x4x256x256 .f32) (a2 : Vec Ideal S1x4x256 .f32)
    (a3 : Vec Ideal S1x1024 .f32) (a4 : Vec Ideal S1x1024x1024 .f32) (a5 : Vec Ideal S4096x1024 .f32)
    (h : Cert.Pre_finite.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have e := congrFun h (Shape.Idx.first Cert.Pre_finite.Facts.h_S_)
  dsimp only [Cert.Pre_finite.fn, Cert.Pre_finite.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_test a0 _ i (Host.reduce_andi_all _ _ _ _ _ e0 i), fun i => real_of_test a1 _ i (Host.reduce_andi_all _ _ _ _ _ e1 i),
    fun i => real_of_test a2 _ i (Host.reduce_andi_all _ _ _ _ _ e2 i), fun i => real_of_test a3 _ i (Host.reduce_andi_all _ _ _ _ _ e3 i),
    fun i => real_of_test a4 _ i (Host.reduce_andi_all _ _ _ _ _ e4 i), fun i => real_of_test a5 _ i (Host.reduce_andi_all _ _ _ _ _ e5 i)⟩

/-! ## The parts -/

/-- A count is a number, at least one. -/
theorem cnt_ne (n w : ℕ) (hw : 0 < w) : (((min (n + 1) w : ℕ) : ℝ)) ≠ 0 := by
  have : 0 < min (n + 1) w := by omega
  exact_mod_cast this.ne'

theorem real_div_cnt {x : EReal} (hx : IsReal x) (n w : ℕ) (hw : 0 < w) : IsReal (Ideal.div x (cnt n w)) := hx.div (cnt_ne n w hw)

/-- A share as a product with the count's reciprocal. -/
theorem div_cnt (x : EReal) (n w : ℕ) (hw : 0 < w) : Ideal.div x (cnt n w) = x * Ideal.div 1 (cnt n w) := by
  rw [cnt, Ideal.div_coe (cnt_ne n w hw), Ideal.div_coe (cnt_ne n w hw), one_mul]

theorem sgm_real (a0 : Vec Ideal S1x4096x2048 .f32) (h0 : ∀ i, IsReal (a0 i)) (n : Fin 4096) (l : Fin 1024) : IsReal (sgm a0 n l) := by
  obtain ⟨r, hr⟩ := h0 (ix3 0 n ⟨1024 + l.val, by omega⟩)
  have e : sgm a0 n l = Ideal.div 1 ((1 + Real.exp (-r) : ℝ) : EReal) := by
    unfold sgm gate
    rw [hr, ← EReal.coe_neg, Ideal.exp_coe, EReal.coe_add, EReal.coe_one]
  rw [e]
  exact IsReal.div ⟨1, EReal.coe_one.symm⟩ (by have := Real.exp_pos (-r); linarith)

theorem sil_real (a0 : Vec Ideal S1x4096x2048 .f32) (h0 : ∀ i, IsReal (a0 i)) (n : Fin 4096) (l : Fin 1024) : IsReal (sil a0 n l) :=
  (h0 _).mul (sgm_real a0 h0 n l)

/-! A trailing mean of numbers is numbers: the difference of two running sums over a count. -/

abbrev Real3 (X : FVec Ideal S1x4096x256 .f32) : Prop := ∀ (t : Fin 4096) (e : Fin 256), IsReal (X (ix3 0 t e))

theorem mean_real (w : ℕ) (hw : w ≤ 16) (hw' : 0 < w) (X M : FVec Ideal S1x4096x256 .f32) (hX : Real3 X)
    (hM : ∀ t e, (M (ix3 0 t e) : EReal) = Ideal.div ((X (ix3 0 t e) : EReal) - if h : t.val < w then 0 else X (ix3 0 ⟨t.val - w, by omega⟩ e)) (counts w (ix3 0 t 0))) :
    Real3 M := by
  intro t e
  rw [hM, counts_at w hw]
  refine real_div_cnt ((hX t e).sub ?_) _ _ hw'
  split
  · exact IsReal.zero
  · exact hX _ e

theorem mean2_at (X : FVec Ideal S1x4096x256 .f32) (C : FVec Ideal S1x4096x1 .f32) (t : Fin 4096) (e : Fin 256) :
    (Host.divf (subf X (concatenate S1x4096x256 1 [⟨S1x2x256, (broadcastInDim S1x2x256 ![] bcast_S_S1x2x256 zero0)⟩,
        ⟨S1x4094x256, (extractStridedSlice S1x4094x256 ![0, 0, 0] X slices_S1x4096x256_S1x4094x256_0_0_0)⟩] concatenates_S1x2x256_S1x4094x256_S1x4096x256_d1))
      (broadcastInDim S1x4096x256 ![0, 1, 2] bcast_S1x4096x1_S1x4096x256_0_1_2 C) (ix3 0 t e) : EReal)
      = Ideal.div ((X (ix3 0 t e) : EReal) - if h : t.val < 2 then 0 else X (ix3 0 ⟨t.val - 2, by omega⟩ e)) (C (ix3 0 t 0)) := by
  pointwise
theorem mean4_at (X : FVec Ideal S1x4096x256 .f32) (C : FVec Ideal S1x4096x1 .f32) (t : Fin 4096) (e : Fin 256) :
    (Host.divf (subf X (concatenate S1x4096x256 1 [⟨S1x4x256, (broadcastInDim S1x4x256 ![] bcast_S_S1x4x256 zero0)⟩,
        ⟨S1x4092x256, (extractStridedSlice S1x4092x256 ![0, 0, 0] X slices_S1x4096x256_S1x4092x256_0_0_0)⟩] concatenates_S1x4x256_S1x4092x256_S1x4096x256_d1))
      (broadcastInDim S1x4096x256 ![0, 1, 2] bcast_S1x4096x1_S1x4096x256_0_1_2 C) (ix3 0 t e) : EReal)
      = Ideal.div ((X (ix3 0 t e) : EReal) - if h : t.val < 4 then 0 else X (ix3 0 ⟨t.val - 4, by omega⟩ e)) (C (ix3 0 t 0)) := by
  pointwise
theorem mean8_at (X : FVec Ideal S1x4096x256 .f32) (C : FVec Ideal S1x4096x1 .f32) (t : Fin 4096) (e : Fin 256) :
    (Host.divf (subf X (concatenate S1x4096x256 1 [⟨S1x8x256, (broadcastInDim S1x8x256 ![] bcast_S_S1x8x256 zero0)⟩,
        ⟨S1x4088x256, (extractStridedSlice S1x4088x256 ![0, 0, 0] X slices_S1x4096x256_S1x4088x256_0_0_0)⟩] concatenates_S1x8x256_S1x4088x256_S1x4096x256_d1))
      (broadcastInDim S1x4096x256 ![0, 1, 2] bcast_S1x4096x1_S1x4096x256_0_1_2 C) (ix3 0 t e) : EReal)
      = Ideal.div ((X (ix3 0 t e) : EReal) - if h : t.val < 8 then 0 else X (ix3 0 ⟨t.val - 8, by omega⟩ e)) (C (ix3 0 t 0)) := by
  pointwise
theorem mean16_at (X : FVec Ideal S1x4096x256 .f32) (C : FVec Ideal S1x4096x1 .f32) (t : Fin 4096) (e : Fin 256) :
    (Host.divf (subf X (concatenate S1x4096x256 1 [⟨S1x16x256, (broadcastInDim S1x16x256 ![] bcast_S_S1x16x256 zero0)⟩,
        ⟨S1x4080x256, (extractStridedSlice S1x4080x256 ![0, 0, 0] X slices_S1x4096x256_S1x4080x256_0_0_0)⟩] concatenates_S1x16x256_S1x4080x256_S1x4096x256_d1))
      (broadcastInDim S1x4096x256 ![0, 1, 2] bcast_S1x4096x1_S1x4096x256_0_1_2 C) (ix3 0 t e) : EReal)
      = Ideal.div ((X (ix3 0 t e) : EReal) - if h : t.val < 16 then 0 else X (ix3 0 ⟨t.val - 16, by omega⟩ e)) (C (ix3 0 t 0)) := by
  pointwise

section
variable (a0 : Vec Ideal S1x4096x2048 .f32) (h0 : ∀ i, IsReal (a0 i))
include h0

theorem mean2_real : Real3 (val_main_v23 (F := Ideal) a0) := by
  refine mean_real 2 (by omega) (by omega) (val_main_v9 (F := Ideal) a0) _ (fun t e => ?_) (mean2_at _ _)
  refine windowAdd_isReal _ _ _ _ _ _ _ _ (fun i => ?_) (fun i => ?_) _
  · rw [val_main_v8_apply, val_main_v7_apply, val_main_v6_apply, val_main_v4_apply]
    exact h0 _
  · rw [val_main_call0_call0_v0_apply]
    exact ⟨0, zeroWord _⟩

theorem mean4_real : Real3 (val_main_v40 (F := Ideal) a0) := by
  refine mean_real 4 (by omega) (by omega) (val_main_v26 (F := Ideal) a0) _ (fun t e => ?_) (mean4_at _ _)
  refine windowAdd_isReal _ _ _ _ _ _ _ _ (fun i => ?_) (fun i => ?_) _
  · rw [val_main_v25_apply, val_main_v24_apply, val_main_v6_apply, val_main_v4_apply]
    exact h0 _
  · rw [val_main_call1_call0_v0_apply]
    exact ⟨0, zeroWord _⟩

theorem mean8_real : Real3 (val_main_v57 (F := Ideal) a0) := by
  refine mean_real 8 (by omega) (by omega) (val_main_v43 (F := Ideal) a0) _ (fun t e => ?_) (mean8_at _ _)
  refine windowAdd_isReal _ _ _ _ _ _ _ _ (fun i => ?_) (fun i => ?_) _
  · rw [val_main_v42_apply, val_main_v41_apply, val_main_v6_apply, val_main_v4_apply]
    exact h0 _
  · rw [val_main_call2_call0_v0_apply]
    exact ⟨0, zeroWord _⟩

theorem mean16_real : Real3 (val_main_v74 (F := Ideal) a0) := by
  refine mean_real 16 (by omega) (by omega) (val_main_v60 (F := Ideal) a0) _ (fun t e => ?_) (mean16_at _ _)
  refine windowAdd_isReal _ _ _ _ _ _ _ _ (fun i => ?_) (fun i => ?_) _
  · rw [val_main_v59_apply, val_main_v58_apply, val_main_v6_apply, val_main_v4_apply]
    exact h0 _
  · rw [val_main_call3_call0_v0_apply]
    exact ⟨0, zeroWord _⟩

omit h0 in
theorem ix4_eta (i : S1x4096x4x256.Idx) : i = ix4 0 (i 1) (i 2) (i 3) := funext fun a => match a with
  | ⟨0, _⟩ => Fin.ext (by have h : (i 0).val < 1 := (i 0).isLt; show (i 0).val = 0; omega)
  | ⟨1, _⟩ => rfl
  | ⟨2, _⟩ => rfl
  | ⟨3, _⟩ => rfl

omit h0 in
/-- Four groups side by side are numbers where each is. -/
theorem groups_real (Y0 Y1 Y2 Y3 : FVec Ideal S1x4096x256 .f32) (h0 : Real3 Y0) (h1 : Real3 Y1) (h2 : Real3 Y2) (h3 : Real3 Y3)
    (n : Fin 4096) (g : Fin 4) (e : Fin 256) :
    IsReal ((concatenate S1x4096x4x256 2 [⟨S1x4096x1x256, ((broadcastInDim S1x4096x1x256 ![0, 1, 3] bcast_S1x4096x256_S1x4096x1x256_0_1_3 Y0) : Vec Ideal S1x4096x1x256 .f32)⟩,
      ⟨S1x4096x1x256, ((broadcastInDim S1x4096x1x256 ![0, 1, 3] bcast_S1x4096x256_S1x4096x1x256_0_1_3 Y1) : Vec Ideal S1x4096x1x256 .f32)⟩,
      ⟨S1x4096x1x256, ((broadcastInDim S1x4096x1x256 ![0, 1, 3] bcast_S1x4096x256_S1x4096x1x256_0_1_3 Y2) : Vec Ideal S1x4096x1x256 .f32)⟩,
      ⟨S1x4096x1x256, ((broadcastInDim S1x4096x1x256 ![0, 1, 3] bcast_S1x4096x256_S1x4096x1x256_0_1_3 Y3) : Vec Ideal S1x4096x1x256 .f32)⟩]
      concatenates_S1x4096x1x256_S1x4096x1x256_S1x4096x1x256_S1x4096x1x256_S1x4096x4x256_d2 : Vec Ideal S1x4096x4x256 .f32) (ix4 0 n g e)) := by
  pointwise
  split
  · exact h0 _ _
  · split
    · exact h1 _ _
    · split
      · exact h2 _ _
      · exact h3 _ _

/-- The pooled rows are numbers. -/
theorem pooled_real (i : S1x4096x4x256.Idx) : IsReal (val_main_v80 (F := Ideal) a0 i) := by
  rw [val_main_v80_apply]
  refine IsReal.sub ?_ ?_
  · rw [ix4_eta i]
    exact groups_real _ _ _ _ (mean2_real a0 h0) (mean4_real a0 h0) (mean8_real a0 h0) (mean16_real a0 h0) _ _ _
  · rw [val_main_v6_apply, val_main_v4_apply]
    exact h0 _

/-- The mixed groups are numbers. -/
theorem mixed_real (a1 : Vec Ideal S1x4x256x256 .f32) (a2 : Vec Ideal S1x4x256 .f32) (h1 : ∀ i, IsReal (a1 i)) (h2 : ∀ i, IsReal (a2 i))
    (n : Fin 4096) (l : Fin 1024) : IsReal (mixed a0 a1 a2 n l) := by
  unfold mixed
  rw [val_main_v85_apply]
  refine IsReal.add ?_ ?_
  · rw [val_main_v82_apply, val_main_v81_apply]
    refine IsReal.sum _ fun k _ => IsReal.mul ?_ (pooled_real a0 h0 _)
    rw [val_main_v0_apply]
    exact h1 _
  · rw [val_main_v84_apply, val_main_v83_apply, val_main_v1_apply]
    exact h2 _

end

/-! ## The cotangents -/

section
variable (a0 : Vec Ideal S1x4096x2048 .f32) (a1 : Vec Ideal S1x4x256x256 .f32)
  (a3 : Vec Ideal S1x1024 .f32) (a4 : Vec Ideal S1x1024x1024 .f32) (a5 : Vec Ideal S4096x1024 .f32)
  (h0 : ∀ i, IsReal (a0 i)) (h1 : ∀ i, IsReal (a1 i)) (h3 : ∀ i, IsReal (a3 i)) (h4 : ∀ i, IsReal (a4 i)) (h5 : ∀ i, IsReal (a5 i))

include h4 h5 in
theorem dyT_real (n : Fin 4096) (l : Fin 1024) : IsReal (dyT a4 a5 n l) := IsReal.sum _ fun k _ => (h5 _).mul (h4 _)

include h0 h3 h4 h5 in
theorem dmT_real (n : Fin 4096) (l : Fin 1024) : IsReal (dmT a0 a3 a4 a5 n l) :=
  ((dyT_real a4 a5 h4 h5 n l).mul (h3 _)).mul (sil_real a0 h0 n l)

include h0 h1 h3 h4 h5 in
theorem dpgT_real (n : Fin 4096) (g : Fin 4) (e : Fin 256) : IsReal (dpgT a0 a1 a3 a4 a5 n g e) :=
  IsReal.sum _ fun d _ => (dmT_real a0 a3 a4 a5 h0 h3 h4 h5 n _).mul (h1 _)

include h0 h1 h3 h4 h5 in
theorem share_real (g : Fin 4) (e : Fin 256) (t : Fin 4096) : IsReal (share (val_main_v112 (F := Ideal) a0 a1 a3 a4 a5) g e t.val) := by
  rw [share, dif_pos t.isLt, dpg_ref]
  exact real_div_cnt (dpgT_real a0 a1 a3 a4 a5 h0 h1 h3 h4 h5 _ g e) _ _ (by positivity)

end

end Cert.PoolBwdRefIdeal.RefValue

end
-- ==== Proof.Equation.lean ====
/-
  The equation: where the arguments are numbers, the kernel's five sums are the reference's five results.
-/
module

public import proofs.«01_k».proof.Proof.Finite

@[expose] public section

noncomputable section

namespace Cert.PoolBwdIdeal.Step

open Idealize.ShloMosaic Idealize.ShloMosaic.TcCoe
open Cert.PoolBwdIdeal.Gen
open Cert.PoolBwdRefIdeal.Read Cert.PoolBwdRefIdeal.RefValue Cert.PoolBwdRefIdeal.RevSum
open scoped BigOperators

variable (m : (ℓ : Loc nD τ sig) → Buf (Elt Ideal) ℓ) (c : Dev nD)

/-! ## The kernel's sums, of the arguments -/

theorem k_dy (n : Fin 4096) (l : Fin 1024) : dyA (V m c main_arg5) (V m c main_v102) n l = dyT (a4V m c) (a5V m c) n l :=
  Finset.sum_congr rfl fun k _ => by rw [v102_at, V_main_arg5]

theorem k_dm (n : Fin 4096) (l : Fin 1024) : dmV m c n l = dmT (a0V m c) (a3V m c) (a4V m c) (a5V m c) n l := by
  unfold dmV dmA dmT
  rw [k_dy, V_main_arg3, v88_at]

theorem k_dpg (n : Fin 4096) (j : Fin 1024) : dpgA (V m c main_v100) (dmV m c) n j
    = val_main_v112 (F := Ideal) (a0V m c) (a1V m c) (a3V m c) (a4V m c) (a5V m c) (ix4 0 n (grp j) (chn j)) := by
  rw [dpg_ref]
  exact Finset.sum_congr rfl fun d _ => by rw [k_dm, v100_at]

theorem k_share (n : ℕ) (j : Fin 1024) : scV m c n j
    = share (val_main_v112 (F := Ideal) (a0V m c) (a1V m c) (a3V m c) (a4V m c) (a5V m c)) (grp j) (chn j) n := by
  unfold scV scA share
  refine dite_congr rfl (fun h => ?_) fun _ => rfl
  rw [k_dpg]
  exact (div_cnt _ n _ (Nat.two_pow_pos _)).symm

theorem k_chan (n : Fin 4096) (j : Fin 1024)
    (h : ∀ (g : Fin 4) (e : Fin 256) (t : Fin 4096), IsReal (share (val_main_v112 (F := Ideal) (a0V m c) (a1V m c) (a3V m c) (a4V m c) (a5V m c)) g e t.val)) :
    chanA (V m c main_v100) (dmV m c) n j
      = val_main_v167 (F := Ideal) (a0V m c) (a1V m c) (a3V m c) (a4V m c) (a5V m c) (ix4 0 n (grp j) (chn j)) := by
  rw [chan_ref _ _ _ _ _ h]
  unfold chanA
  rw [k_dpg, sub_eq_add_neg, add_comm]
  exact congrArg _ (Finset.sum_congr rfl fun i _ => k_share m c _ j)

/-- The gate's derivative, its factor written out, of numbers. -/
theorem gate_eq {x g s : EReal} (hx : IsReal x) (hg : IsReal g) (hs : IsReal s) :
    x * (s * (1 + g * (1 - s))) = x * s + g * x * (s * (1 - s)) := by
  obtain ⟨x, rfl⟩ := hx; obtain ⟨g, rfl⟩ := hg; obtain ⟨s, rfl⟩ := hs
  rw [← EReal.coe_one]
  simp only [← EReal.coe_mul, ← EReal.coe_add, ← EReal.coe_sub]
  exact congrArg _ (by ring)

variable (h0 : ∀ i, IsReal (a0V m c i)) (h1 : ∀ i, IsReal (a1V m c i)) (h2 : ∀ i, IsReal (a2V m c i))
  (h3 : ∀ i, IsReal (a3V m c i)) (h4 : ∀ i, IsReal (a4V m c i)) (h5 : ∀ i, IsReal (a5V m c i))

include h0 h1 h2 h3 h4 h5 in
theorem eq_dp : dpV m c = val_main_v171 (F := Ideal) (a0V m c) (a1V m c) (a2V m c) (a3V m c) (a4V m c) (a5V m c) := by
  funext i
  obtain ⟨n, j, rfl⟩ : ∃ n j, i = ix2 n j := ⟨i 0, i 1, funext fun a => match a with | ⟨0, _⟩ => rfl | ⟨1, _⟩ => rfl⟩
  rw [dp_split]
  refine dite_congr rfl (fun h => ?_) fun h => ?_
  · exact k_chan m c n ⟨j.val, h⟩ (share_real _ _ _ _ _ h0 h1 h3 h4 h5)
  · rw [dgate_ref]
    show dyA (V m c main_arg5) (V m c main_v102) n ⟨j.val - 1024, _⟩ * V m c main_v80 (ix2 n ⟨j.val - 1024, _⟩) * V m c main_arg3 (ix2 0 ⟨j.val - 1024, _⟩)
      * V m c main_v94 (ix2 n ⟨j.val - 1024, _⟩) = _
    rw [k_dy, v80_at, v94_at, V_main_arg3]
    refine (congrArg (· * _) ?_).trans (gate_eq (((mixed_real _ h0 _ _ h1 h2 n _).mul (h3 _)).mul (dyT_real _ _ h4 h5 n _)) (h0 _) (sgm_real _ h0 n _))
    rw [mul_assoc, mul_comm]

theorem eq_dwo : (dwoA (V m c main_arg5) (V m c main_v98) : Vec Ideal S1024x1024 .f32)
    = val_main_v172 (F := Ideal) (a0V m c) (a1V m c) (a2V m c) (a3V m c) (a5V m c) := by
  funext i
  obtain ⟨l, k, rfl⟩ : ∃ n j, i = ix2 n j := ⟨i 0, i 1, funext fun a => match a with | ⟨0, _⟩ => rfl | ⟨1, _⟩ => rfl⟩
  rw [dwout_ref]
  exact Finset.sum_congr rfl fun n _ => congrArg₂ (fun x y : EReal => x * y) (v98_at m c n l) (congrFun (V_main_arg5 m c) (ix2 n k))

theorem eq_dgw : (dgwA (V m c main_arg5) (V m c main_v88) (V m c main_v104) (V m c main_arg3) (V m c main_v102) : Vec Ideal S4x256x256 .f32)
    = val_main_v173 (F := Ideal) (a0V m c) (a3V m c) (a4V m c) (a5V m c) := by
  funext i
  obtain ⟨g, a, b, rfl⟩ : ∃ n j k, i = ix3 n j k := ⟨i 0, i 1, i 2, funext fun a => match a with | ⟨0, _⟩ => rfl | ⟨1, _⟩ => rfl | ⟨2, _⟩ => rfl⟩
  rw [dgw_ref]
  exact Finset.sum_congr rfl fun n _ => congrArg₂ (fun x y : EReal => x * y) (v104_at m c n (col g a)) (k_dm m c n (col g b))

theorem eq_dgb : (dgbA (V m c main_arg5) (V m c main_v88) (V m c main_arg3) (V m c main_v102) : Vec Ideal S1x1024 .f32)
    = val_main_v174 (F := Ideal) (a0V m c) (a3V m c) (a4V m c) (a5V m c) := by
  funext i
  obtain ⟨j, rfl⟩ : ∃ j, i = ix2 0 j := ⟨i 1, funext fun a => match a with
    | ⟨0, _⟩ => Fin.ext (by have h : (i 0).val < 1 := (i 0).isLt; show (i 0).val = 0; omega) | ⟨1, _⟩ => rfl⟩
  rw [dgb_ref]
  exact Finset.sum_congr rfl fun n _ => k_dm m c n j

theorem eq_dsc : (dscA (V m c main_arg5) (V m c main_v88) (V m c main_v80) (V m c main_v102) : Vec Ideal S1x1024 .f32)
    = val_main_v175 (F := Ideal) (a0V m c) (a1V m c) (a2V m c) (a4V m c) (a5V m c) := by
  funext i
  obtain ⟨j, rfl⟩ : ∃ j, i = ix2 0 j := ⟨i 1, funext fun a => match a with
    | ⟨0, _⟩ => Fin.ext (by have h : (i 0).val < 1 := (i 0).isLt; show (i 0).val = 0; omega) | ⟨1, _⟩ => rfl⟩
  rw [dsc_ref]
  exact Finset.sum_congr rfl fun n _ => by
    show dyA (V m c main_arg5) (V m c main_v102) n j * (V m c main_v80 : Vec Ideal S4096x1024 .f32) (ix2 n j) * (V m c main_v88 : Vec Ideal S4096x1024 .f32) (ix2 n j) = _
    rw [k_dy, v80_at, v88_at, mul_right_comm, mul_comm]

end Cert.PoolBwdIdeal.Step

end
-- ==== Proof.GlaHead.lean ====
/-
  One head of one row tile of the gated linear attention's backward, as functions of the arrays the body holds: the derivative through the
  head norm, the five products with the masked score gradient, and the walk over the tile's four chunks from the last to the first that
  carries the gradient of the recurrent state.  Everything is written once, for any head `h` and chunk `j`.
-/
module

public import proofs.«01_k».proof.Proof.Gen.GlaBwdIdeal.Value
public import Idealize.ShloMosaic.Lib.Pipeline.ReadBack

@[expose] public section

set_option maxRecDepth 16384

noncomputable section

namespace Cert.GlaBwdIdeal.Head

open Idealize.ShloMosaic Idealize.ShloMosaic.TcCoe Idealize.ShloMosaic.Tactic
open Idealize.SL Idealize.SL.RA Idealize.SL.BI Idealize.SL.Sem
open Cert.GlaBwdIdeal.Gen

variable {F : FTy → Type} [FloatOps F]

theorem sl_k (h : Fin 4) : S256x512.Slices ![0, 128 * h.val] S256x128 := by revert h; decide
theorem sl_v (h : Fin 4) : S256x1024.Slices ![0, 256 * h.val] S256x256 := by revert h; decide
theorem sl_1v (h : Fin 4) : S1x1024.Slices ![0, 256 * h.val] S1x256 := by revert h; decide
theorem sl_1k (h : Fin 4) : S1x512.Slices ![0, 128 * h.val] S1x128 := by revert h; decide
theorem sl_rk (j h : Fin 4) : S256x512.Slices ![64 * j.val, 128 * h.val] S64x128 := by revert j h; decide
theorem sl_rv (j h : Fin 4) : S256x1024.Slices ![64 * j.val, 256 * h.val] S64x256 := by revert j h; decide
theorem sl_r256 (j : Fin 4) : S256x256.Slices ![64 * j.val, 0] S64x256 := by revert j; decide
theorem sl_r128 (j : Fin 4) : S256x128.Slices ![64 * j.val, 0] S64x128 := by revert j; decide
theorem sl_c (j : Fin 4) : S256x512.Slices ![64 * j.val, 0] S64x512 := by revert j; decide

/-! ## The head norm -/

section Norm
variable (h : Fin 4) (o don : FVec F S256x1024 .f32) (hw : FVec F S1x1024 .f32)

/-- The head's columns. -/
def vcols : FVec F S256x256 .f32 := extractStridedSlice S256x256 ![0, 256 * h.val] o (sl_v h)
/-- The reciprocal root mean square of each row. -/
def rstd : FVec F S256x1 .f32 :=
  rsqrt (addf (divf (shapeCast S256x1 (multiReduction .add [1] S256 (mulf (vcols h o) (vcols h o)) 0x00000000#32 reduces_S256x256_S256 (.inl rfl) rfl)
    shapeCasts_S256_S256x1) (broadcast S256x1 (Scalar.ofBits .f32 0x43800000#32))) (broadcast S256x1 (Scalar.ofBits .f32 0x358637BD#32)))
/-- The normalised rows. -/
def xhat : FVec F S256x256 .f32 := mulf (vcols h o) (broadcastTo S256x256 (rstd h o) broadcasts_S256x1_S256x256)
/-- … scaled by the norm's weight. -/
def onOf : FVec F S256x256 .f32 :=
  mulf (xhat h o) (broadcastTo S256x256 (extractStridedSlice S1x256 ![0, 256 * h.val] hw (sl_1v h)) broadcasts_S1x256_S256x256)
/-- The weight's gradient over the tile's rows. -/
def dhwOf : FVec F S1x256 .f32 :=
  shapeCast S1x256 (multiReduction .add [0] S256 (mulf (vcols h don) (xhat h o)) 0x00000000#32 reduces_S256x256_S256_2 (.inl rfl) rfl)
    shapeCasts_S256_S1x256
/-- The cotangent of the normalised rows. -/
def dxhat : FVec F S256x256 .f32 :=
  mulf (vcols h don) (broadcastTo S256x256 (extractStridedSlice S1x256 ![0, 256 * h.val] hw (sl_1v h)) broadcasts_S1x256_S256x256)
/-- The cotangent of the head's output. -/
def doOf : FVec F S256x256 .bf16 :=
  truncf .bf16 (mulf (broadcastTo S256x256 (rstd h o) broadcasts_S256x1_S256x256) (subf (dxhat h don hw) (mulf (xhat h o)
    (broadcastTo S256x256 (divf (shapeCast S256x1 (multiReduction .add [1] S256 (mulf (dxhat h don hw) (xhat h o)) 0x00000000#32
      reduces_S256x256_S256 (.inl rfl) rfl) shapeCasts_S256_S256x1) (broadcast S256x1 (Scalar.ofBits .f32 0x43800000#32)))
      broadcasts_S256x1_S256x256)))) bitsLt_bf16_f32
end Norm

/-! ## The decays -/

section Decay
variable (j h : Fin 4) (c : FVec F S256x512 .f32)

/-- The last row of the chunk. -/
def isLast : IVec S64x1 1 := cmpi .eq (iota .tc S64x1 32 [0] iota_S64x1_d0_w32) (broadcast S64x1 63#32)
/-- The chunk's whole log decay. -/
def lastOf : FVec F S1x512 .f32 :=
  shapeCast S1x512 (multiReduction .add [0] S512 (select (broadcastTo S64x512 (shapeCast S64x1 isLast shapeCasts_S64x1_S64x1) broadcasts_S64x1_S64x512)
    (extractStridedSlice S64x512 ![64 * j.val, 0] c (sl_c j)) (broadcast S64x512 (Scalar.ofBits .f32 0x00000000#32))) 0x00000000#32
    reduces_S64x512_S512 (.inl rfl) rfl) shapeCasts_S512_S1x512
/-- … on each of its rows. -/
def lastRows : FVec F S64x512 .f32 := broadcastTo S64x512 (shapeCast S1x512 (lastOf j c) shapeCasts_S1x512_S1x512) broadcasts_S1x512_S64x512
def ePos : FVec F S256x512 .f32 := exp c
def eNeg : FVec F S256x512 .f32 := exp (subf (broadcast S256x512 (Scalar.ofBits .f32 0x00000000#32)) c)
/-- The decay from a row to its chunk's end. -/
def eRest : FVec F S256x512 .f32 :=
  exp (subf (concatenate S256x512 0 [⟨S64x512, lastRows 0 c⟩, ⟨S64x512, lastRows 1 c⟩, ⟨S64x512, lastRows 2 c⟩, ⟨S64x512, lastRows 3 c⟩]
    concatenates_S64x512_S64x512_S64x512_S64x512_S256x512_d0) c)
/-- The head's whole decay over the chunk. -/
def decay : FVec F S1x128 .f32 := exp (extractStridedSlice S1x128 ![0, 128 * h.val] (lastOf j c) (sl_1k h))
end Decay

/-! ## One head of the tile -/

section Tile
variable (h : Fin 4) (q k c : FVec F S256x512 .f32) (v : FVec F S256x1024 .f32) (d : FVec F S256x256 .bf16)

def kcols {e : FTy} (x : FVec F S256x512 e) : FVec F S256x128 e := extractStridedSlice S256x128 ![0, 128 * h.val] x (sl_k h)
def aB : FVec F S256x512 .bf16 := truncf .bf16 (mulf q (ePos c)) bitsLt_bf16_f32
def bB : FVec F S256x512 .bf16 := truncf .bf16 (mulf k (eNeg c)) bitsLt_bf16_f32
def cnB : FVec F S256x512 .bf16 := truncf .bf16 (mulf q (eNeg c)) bitsLt_bf16_f32
def dpB : FVec F S256x512 .bf16 := truncf .bf16 (mulf k (ePos c)) bitsLt_bf16_f32
def kdB : FVec F S256x512 .bf16 := truncf .bf16 (mulf k (eRest c)) bitsLt_bf16_f32
def vB : FVec F S256x1024 .bf16 := truncf .bf16 v bitsLt_bf16_f32

/-- Two rows of the same chunk. -/
def same : IVec S256x256 1 :=
  cmpi .slt (xori (iota .tc S256x256 32 [0] iota_S256x256_d0_w32) (iota .tc S256x256 32 [1] iota_S256x256_d1_w32)) (broadcast S256x256 64#32)
def lower : IVec S256x256 1 := andi same (cmpi .sge (iota .tc S256x256 32 [0] iota_S256x256_d0_w32) (iota .tc S256x256 32 [1] iota_S256x256_d1_w32))
def upper : IVec S256x256 1 := andi same (cmpi .slt (iota .tc S256x256 32 [0] iota_S256x256_d0_w32) (iota .tc S256x256 32 [1] iota_S256x256_d1_w32))

/-- The gradient of the scores. -/
def dscores : FVec F S256x256 .f32 :=
  matmul dot_S256x256_S256x256_S256x256_1_1_0_0_n_n none d (extractStridedSlice S256x256 ![0, 256 * h.val] (vB v) (sl_v h)) (constant S256x256 .f32 0x00000000#32)
def dfwd : FVec F S256x256 .bf16 := truncf .bf16 (select lower (dscores h v d) (broadcast S256x256 (Scalar.ofBits .f32 0x00000000#32))) bitsLt_bf16_f32
def dbwd : FVec F S256x256 .bf16 := truncf .bf16 (select upper (dscores h v d) (broadcast S256x256 (Scalar.ofBits .f32 0x00000000#32))) bitsLt_bf16_f32
def dvIn (sc : FVec F S256x256 .bf16) : FVec F S256x256 .f32 :=
  matmul dot_S256x256_S256x256_S256x256_0_0_1_1_n_n none (shapeCast S256x256 sc shapeCasts_S256x256_S256x256) d (constant S256x256 .f32 0x00000000#32)
def daIn : FVec F S256x128 .f32 :=
  matmul dot_S256x256_S256x128_S256x128_1_0_0_1_n_n none (dfwd h v d) (kcols h (bB k c)) (constant S256x128 .f32 0x00000000#32)
def dbOf : FVec F S256x128 .f32 :=
  matmul dot_S256x256_S256x128_S256x128_0_0_1_1_n_n none (dfwd h v d) (kcols h (aB q c)) (constant S256x128 .f32 0x00000000#32)
def dcnOf : FVec F S256x128 .f32 :=
  matmul dot_S256x256_S256x128_S256x128_1_0_0_1_n_n none (dbwd h v d) (kcols h (dpB k c)) (constant S256x128 .f32 0x00000000#32)
def ddpOf : FVec F S256x128 .f32 :=
  matmul dot_S256x256_S256x128_S256x128_0_0_1_1_n_n none (dbwd h v d) (kcols h (cnB q c)) (constant S256x128 .f32 0x00000000#32)

/-! ### One chunk -/

variable (j : Fin 4) (sc : FVec F S256x256 .bf16) (st : FVec F S1x256x128 .f32) (ds : FVec F S256x128 .f32)

def doRows : FVec F S64x256 .bf16 := extractStridedSlice S64x256 ![64 * j.val, 0] d (sl_r256 j)
def stOf : FVec F S256x128 .f32 := shapeCast S256x128 st shapeCasts_S1x256x128_S256x128
/-- The rows of `dv`. -/
def dvRows : FVec F S64x256 .f32 :=
  addf (extractStridedSlice S64x256 ![64 * j.val, 0] (dvIn d sc) (sl_r256 j))
    (matmul dot_S64x128_S256x128_S64x256_1_1_0_0_n_n none (extractStridedSlice S64x128 ![64 * j.val, 128 * h.val] (kdB k c) (sl_rk j h))
      (truncf .bf16 ds bitsLt_bf16_f32) (constant S64x256 .f32 0x00000000#32))
/-- The rows of the gradient of the decayed queries. -/
def daRows : FVec F S64x128 .f32 :=
  addf (extractStridedSlice S64x128 ![64 * j.val, 0] (daIn h k c v d) (sl_r128 j))
    (matmul dot_S64x256_S256x128_S64x128_1_0_0_1_n_n none (doRows d j) (truncf .bf16 (stOf st) bitsLt_bf16_f32) (constant S64x128 .f32 0x00000000#32))
/-- The rows of the gradient of the keys the state takes in. -/
def dkdRows : FVec F S64x128 .f32 :=
  mulf (matmul dot_S64x256_S256x128_S64x128_1_0_0_1_n_n none (extractStridedSlice S64x256 ![64 * j.val, 256 * h.val] (vB v) (sl_rv j h))
    (truncf .bf16 ds bitsLt_bf16_f32) (constant S64x128 .f32 0x00000000#32))
    (extractStridedSlice S64x128 ![64 * j.val, 128 * h.val] (eRest c) (sl_rk j h))
/-- What the chunk's whole log decay gets, on the chunk's last row. -/
def dclRows : FVec F S64x128 .f32 :=
  select (broadcastTo S64x128 (shapeCast S64x1 isLast shapeCasts_S64x1_S64x1) broadcasts_S64x1_S64x128)
    (broadcastTo S64x128 (shapeCast S1x128 (addf
      (shapeCast S1x128 (multiReduction .add [0] S128 (mulf (dkdRows h c v j ds) (extractStridedSlice S64x128 ![64 * j.val, 128 * h.val] k (sl_rk j h)))
        0x00000000#32 reduces_S64x128_S128 (.inl rfl) rfl) shapeCasts_S128_S1x128)
      (mulf (decay j h c) (shapeCast S1x128 (multiReduction .add [0] S128 (mulf (stOf st) ds) 0x00000000#32 reduces_S256x128_S128 (.inl rfl) rfl)
        shapeCasts_S128_S1x128))) shapeCasts_S1x128_S1x128) broadcasts_S1x128_S64x128)
    (broadcast S64x128 (Scalar.ofBits .f32 0x00000000#32))
/-- The gradient of the state before the chunk, from the one after it. -/
def dsNext : FVec F S256x128 .f32 :=
  addf (matmul dot_S64x256_S64x128_S256x128_0_0_1_1_n_n none (doRows d j) (extractStridedSlice S64x128 ![64 * j.val, 128 * h.val] (aB q c) (sl_rk j h))
    (constant S256x128 .f32 0x00000000#32)) (mulf ds (broadcastTo S256x128 (decay j h c) broadcasts_S1x128_S256x128))

/-! ### The four chunks -/

/-- The gradient of the state after chunk `3`, `2`, `1`, `0`, and before chunk `0`. -/
def ds2 : FVec F S256x128 .f32 := dsNext h q c d 3 ds
def ds1 : FVec F S256x128 .f32 := dsNext h q c d 2 (ds2 h q c d ds)
def ds0 : FVec F S256x128 .f32 := dsNext h q c d 1 (ds1 h q c d ds)
def dsOut : FVec F S256x128 .f32 := dsNext h q c d 0 (ds0 h q c d ds)

variable (st0 st1 st2 st3 : FVec F S1x256x128 .f32)

def cat256 (x0 x1 x2 x3 : FVec F S64x256 .f32) : FVec F S256x256 .f32 :=
  concatenate S256x256 0 [⟨S64x256, x0⟩, ⟨S64x256, x1⟩, ⟨S64x256, x2⟩, ⟨S64x256, x3⟩] concatenates_S64x256_S64x256_S64x256_S64x256_S256x256_d0
def cat128 (x0 x1 x2 x3 : FVec F S64x128 .f32) : FVec F S256x128 .f32 :=
  concatenate S256x128 0 [⟨S64x128, x0⟩, ⟨S64x128, x1⟩, ⟨S64x128, x2⟩, ⟨S64x128, x3⟩] concatenates_S64x128_S64x128_S64x128_S64x128_S256x128_d0

def dvOf : FVec F S256x256 .bf16 :=
  truncf .bf16 (cat256 (dvRows h k c d 0 sc (ds0 h q c d ds)) (dvRows h k c d 1 sc (ds1 h q c d ds)) (dvRows h k c d 2 sc (ds2 h q c d ds))
    (dvRows h k c d 3 sc ds)) bitsLt_bf16_f32
def daOf : FVec F S256x128 .f32 :=
  cat128 (daRows h k c v d 0 st0) (daRows h k c v d 1 st1) (daRows h k c v d 2 st2) (daRows h k c v d 3 st3)
def dkdOf : FVec F S256x128 .f32 :=
  cat128 (dkdRows h c v 0 (ds0 h q c d ds)) (dkdRows h c v 1 (ds1 h q c d ds)) (dkdRows h c v 2 (ds2 h q c d ds)) (dkdRows h c v 3 ds)
def dclOf : FVec F S256x128 .f32 :=
  cat128 (dclRows h k c v 0 st0 (ds0 h q c d ds)) (dclRows h k c v 1 st1 (ds1 h q c d ds)) (dclRows h k c v 2 st2 (ds2 h q c d ds))
    (dclRows h k c v 3 st3 ds)
def qUp : FVec F S256x128 .f32 := mulf (daOf h k c v d st0 st1 st2 st3) (kcols h (ePos c))
def qDown : FVec F S256x128 .f32 := mulf (dcnOf h k c v d) (kcols h (eNeg c))
def kUp : FVec F S256x128 .f32 := mulf (ddpOf h q c v d) (kcols h (ePos c))
def kDown : FVec F S256x128 .f32 := addf (mulf (dbOf h q c v d) (kcols h (eNeg c))) (dkdOf h q c v d ds)
def dqOf : FVec F S256x128 .bf16 :=
  truncf .bf16 (mulf (broadcast S256x128 (Scalar.ofBits .f32 0x3DB504F3#32)) (addf (qUp h k c v d st0 st1 st2 st3) (qDown h k c v d))) bitsLt_bf16_f32
def dkOf : FVec F S256x128 .bf16 := truncf .bf16 (addf (kUp h q c v d) (kDown h q c v d ds)) bitsLt_bf16_f32
/-- The gradient of the log decay inside the chunks. -/
def dcOf : FVec F S256x128 .f32 :=
  addf (addf (mulf (kcols h q) (subf (qUp h k c v d st0 st1 st2 st3) (qDown h k c v d)))
    (mulf (kcols h k) (subf (kUp h q c v d) (kDown h q c v d ds)))) (dclOf h q k c v d ds st0 st1 st2 st3)

end Tile

end Cert.GlaBwdIdeal.Head
-- ==== Proof.GlaModel.lean ====
/-
  The gradients of the gated linear attention over the reals.  One chunk of one head first: 64 rows of queries, keys, log decays and values,
  the state before the chunk and the gradient of the state after it.  Then the whole layer, row by row.
-/
module

public import Idealize.ShloMosaic.Lib.Pointwise

@[expose] public section

noncomputable section

namespace Cert.Gla

open scoped BigOperators

/-! ## Positions -/

/-- A row of a tile of four chunks. -/
def rw (j : Fin 4) (t : Fin 64) : Fin 256 := ⟨64 * j.val + t.val, by omega⟩
/-- A row of the sequence. -/
def row (n t : Fin 64) : Fin 4096 := ⟨64 * n.val + t.val, by omega⟩
/-- A column of a head's keys. -/
def kcol (h : Fin 4) (e : Fin 128) : Fin 512 := ⟨128 * h.val + e.val, by omega⟩
/-- A column of a head's values. -/
def vcol (h : Fin 4) (w : Fin 256) : Fin 1024 := ⟨256 * h.val + w.val, by omega⟩

/-! ## One chunk of one head -/

/-- The scale of the queries, as the word written for it. -/
def scale : ℝ := 11863283 / 134217728

section Chunk
variable (q k c : Fin 64 → Fin 128 → ℝ) (v d : Fin 64 → Fin 256 → ℝ) (st g : Fin 256 → Fin 128 → ℝ)

def cA (t : Fin 64) (e : Fin 128) : ℝ := q t e * Real.exp (c t e)
def cB (t : Fin 64) (e : Fin 128) : ℝ := k t e * Real.exp (-c t e)
def cCN (t : Fin 64) (e : Fin 128) : ℝ := q t e * Real.exp (-c t e)
def cDP (t : Fin 64) (e : Fin 128) : ℝ := k t e * Real.exp (c t e)
/-- The keys as the state takes them in. -/
def cKD (t : Fin 64) (e : Fin 128) : ℝ := k t e * Real.exp (c 63 e - c t e)
/-- The scores, those of later rows with the decay the other way. -/
def cSC (t s : Fin 64) : ℝ := if s ≤ t then ∑ e, cA q c t e * cB k c s e else ∑ e, cCN q c t e * cDP k c s e
/-- What the chunk adds to the state. -/
def cAdd (w : Fin 256) (e : Fin 128) : ℝ := ∑ t, v t w * cKD k c t e
/-- The gradient of the scores. -/
def cDS (t s : Fin 64) : ℝ := ∑ w, d t w * v s w
def cDV (s : Fin 64) (w : Fin 256) : ℝ := ∑ t, cSC q k c t s * d t w + ∑ e, cKD k c s e * g w e
def cDA (t : Fin 64) (e : Fin 128) : ℝ := ∑ s, (if s ≤ t then cDS v d t s else 0) * cB k c s e + ∑ w, d t w * st w e
def cDB (s : Fin 64) (e : Fin 128) : ℝ := ∑ t, (if s ≤ t then cDS v d t s else 0) * cA q c t e
def cDCN (t : Fin 64) (e : Fin 128) : ℝ := ∑ s, (if t < s then cDS v d t s else 0) * cDP k c s e
def cDDP (s : Fin 64) (e : Fin 128) : ℝ := ∑ t, (if t < s then cDS v d t s else 0) * cCN q c t e
def cDKD (s : Fin 64) (e : Fin 128) : ℝ := (∑ w, v s w * g w e) * Real.exp (c 63 e - c s e)
/-- The gradient of the chunk's whole log decay. -/
def cDCL (e : Fin 128) : ℝ := ∑ s, cDKD c v g s e * k s e + Real.exp (c 63 e) * ∑ w, st w e * g w e
/-- What the chunk's outputs give the state before it. -/
def cIn (w : Fin 256) (e : Fin 128) : ℝ := ∑ t, d t w * cA q c t e
/-- The gradient of the state before the chunk. -/
def cG (w : Fin 256) (e : Fin 128) : ℝ := cIn q c d w e + g w e * Real.exp (c 63 e)
def cDQ (t : Fin 64) (e : Fin 128) : ℝ := scale * (cDA k c v d st t e * Real.exp (c t e) + cDCN k c v d t e * Real.exp (-c t e))
def cDK (t : Fin 64) (e : Fin 128) : ℝ := cDDP q c v d t e * Real.exp (c t e) + (cDB q c v d t e * Real.exp (-c t e) + cDKD c v g t e)
/-- The gradient of the log decay up to a row. -/
def cDC (t : Fin 64) (e : Fin 128) : ℝ :=
  q t e * (cDA k c v d st t e * Real.exp (c t e) - cDCN k c v d t e * Real.exp (-c t e))
    + k t e * (cDDP q c v d t e * Real.exp (c t e) - (cDB q c v d t e * Real.exp (-c t e) + cDKD c v g t e))
    + if t = 63 then cDCL k c v st g e else 0
end Chunk

/-! ## The layer -/

/-- The layer's inputs. -/
structure Args where
  p : Fin 4096 → Fin 3088 → ℝ
  gw : Fin 16 → Fin 512 → ℝ
  gb : Fin 512 → ℝ
  hw : Fin 256 → ℝ
  ow : Fin 1024 → Fin 1024 → ℝ
  dh : Fin 4096 → Fin 1024 → ℝ

variable (x : Args)

def sgm (y : ℝ) : ℝ := (1 + Real.exp (-y))⁻¹

/-- The decay's logit. -/
def Z (r : Fin 4096) (l : Fin 512) : ℝ := ∑ i : Fin 16, x.p r ⟨3072 + i.val, by omega⟩ * x.gw i l + x.gb l
/-- A row's log decay. -/
def LD (r : Fin 4096) (l : Fin 512) : ℝ := -(Real.log (1 + Real.exp (-Z x r l)) / 16)
def Q (n : Fin 64) (h : Fin 4) (t : Fin 64) (e : Fin 128) : ℝ := x.p (row n t) ⟨128 * h.val + e.val, by omega⟩ * scale
def K (n : Fin 64) (h : Fin 4) (t : Fin 64) (e : Fin 128) : ℝ := x.p (row n t) ⟨512 + (128 * h.val + e.val), by omega⟩
def V (n : Fin 64) (h : Fin 4) (t : Fin 64) (w : Fin 256) : ℝ := x.p (row n t) ⟨1024 + (256 * h.val + w.val), by omega⟩
/-- The log decay from the chunk's start. -/
def C (n : Fin 64) (h : Fin 4) (t : Fin 64) (e : Fin 128) : ℝ := ∑ s : Fin 64, if s ≤ t then LD x (row n s) (kcol h e) else 0
/-- What is kept of chunk `m`'s contribution before chunk `n`. -/
def kept (n m : Fin 64) (h : Fin 4) (e : Fin 128) : ℝ :=
  if m < n then Real.exp (∑ j : Fin 64, if m < j ∧ j < n then C x j h 63 e else 0) else 0
/-- The state before a chunk. -/
def ST (n : Fin 64) (h : Fin 4) (w : Fin 256) (e : Fin 128) : ℝ := ∑ m, kept x n m h e * cAdd (K x m h) (C x m h) (V x m h) w e
/-- The attention's output. -/
def O (n : Fin 64) (h : Fin 4) (t : Fin 64) (w : Fin 256) : ℝ :=
  ∑ s, cSC (Q x n h) (K x n h) (C x n h) t s * V x n h s w + ∑ e, cA (Q x n h) (C x n h) t e * ST x n h w e
/-- The mean square of a head's output row, with the norm's offset. -/
def ms (n : Fin 64) (h : Fin 4) (t : Fin 64) : ℝ := (∑ w, O x n h t w * O x n h t w) / 256 + 8796093 / 8796093022208
def rs (n : Fin 64) (h : Fin 4) (t : Fin 64) : ℝ := (Real.sqrt (ms x n h t))⁻¹
def XH (n : Fin 64) (h : Fin 4) (t : Fin 64) (w : Fin 256) : ℝ := O x n h t w * rs x n h t
def gate (r : Fin 4096) (l : Fin 1024) : ℝ := x.p r ⟨2048 + l.val, by omega⟩
def DY (r : Fin 4096) (l : Fin 1024) : ℝ := ∑ i, x.dh r i * x.ow l i
/-- The cotangent of the scaled norm. -/
def DON (r : Fin 4096) (l : Fin 1024) : ℝ := DY x r l * (gate x r l * sgm (gate x r l))
def DO (n : Fin 64) (h : Fin 4) (t : Fin 64) (w : Fin 256) : ℝ :=
  rs x n h t * (DON x (row n t) (vcol h w) * x.hw w
    - XH x n h t w * ((∑ u, DON x (row n t) (vcol h u) * x.hw u * XH x n h t u) / 256))
/-- The gradient of the state after a chunk. -/
def G (n : Fin 64) (h : Fin 4) (w : Fin 256) (e : Fin 128) : ℝ := ∑ m, kept x m n h e * cIn (Q x m h) (C x m h) (DO x m h) w e

def DQ (n : Fin 64) (h : Fin 4) : Fin 64 → Fin 128 → ℝ := cDQ (K x n h) (C x n h) (V x n h) (DO x n h) (ST x n h)
def DK (n : Fin 64) (h : Fin 4) : Fin 64 → Fin 128 → ℝ := cDK (Q x n h) (C x n h) (V x n h) (DO x n h) (G x n h)
def DV (n : Fin 64) (h : Fin 4) : Fin 64 → Fin 256 → ℝ := cDV (Q x n h) (K x n h) (C x n h) (DO x n h) (G x n h)
def DC (n : Fin 64) (h : Fin 4) : Fin 64 → Fin 128 → ℝ := cDC (Q x n h) (K x n h) (C x n h) (V x n h) (DO x n h) (ST x n h) (G x n h)
/-- The gradient of the decay's logit. -/
def DZ (n : Fin 64) (h : Fin 4) (t : Fin 64) (e : Fin 128) : ℝ :=
  (∑ s, if t ≤ s then DC x n h s e else 0) / 16 * (1 - sgm (Z x (row n t) (kcol h e)))

/-! ## The recurrence of the state's gradient -/

theorem kept_last (m : Fin 64) (h : Fin 4) (e : Fin 128) : kept x m 63 h e = 0 := if_neg (by omega)

theorem G_last (h : Fin 4) (w : Fin 256) (e : Fin 128) : G x 63 h w e = 0 := by
  unfold G; exact Finset.sum_eq_zero fun m _ => by rw [kept_last, zero_mul]

/-- The gradient of the state after a chunk, from the chunk after it. -/
theorem G_step (n n' : Fin 64) (hn : n'.val = n.val + 1) (h : Fin 4) (w : Fin 256) (e : Fin 128) :
    G x n h w e = cG (Q x n' h) (C x n' h) (DO x n' h) (G x n' h) w e := by
  have hk : ∀ m, kept x m n h e = (if m = n' then 1 else 0) + kept x m n' h e * Real.exp (C x n' h 63 e) := by
    intro m
    unfold kept
    by_cases h1 : m = n'
    · subst h1
      rw [if_pos (show n < m by omega), if_pos rfl, if_neg (lt_irrefl m), zero_mul, add_zero]
      rw [Finset.sum_eq_zero, Real.exp_zero]
      intro j _; exact if_neg (by omega)
    · by_cases h2 : n < m
      · rw [if_pos h2, if_neg h1, if_pos (show n' < m by omega), zero_add, ← Real.exp_add]
        congr 1
        rw [← Finset.sum_erase_add _ _ (Finset.mem_univ n')]
        rw [if_pos (show n < n' ∧ n' < m by omega)]
        congr 1
        rw [← Finset.sum_erase_add Finset.univ (fun j : Fin 64 => if n' < j ∧ j < m then C x j h 63 e else 0) (Finset.mem_univ n')]
        rw [if_neg (show ¬(n' < n' ∧ n' < m) by omega), add_zero]
        refine Finset.sum_congr rfl fun j hj => ?_
        have hj' : j ≠ n' := Finset.ne_of_mem_erase hj
        exact if_congr (by omega) rfl rfl
      · rw [if_neg h2, if_neg h1, if_neg (show ¬ n' < m by omega), zero_add, zero_mul]
  unfold G cG
  simp only [hk, add_mul, Finset.sum_add_distrib, ite_mul, one_mul, zero_mul, Finset.sum_ite_eq', Finset.mem_univ, if_true, Finset.sum_mul]
  congr 1
  exact Finset.sum_congr rfl fun m _ => by ring

end Cert.Gla
-- ==== Proof.GlaBase.lean ====
/-
  Small facts for reading the gated linear attention's backward over exact arithmetic: reals among the extended reals, rows of a tile by chunk,
  and the masks of a tile.
-/
module

public import proofs.«01_k».proof.Proof.GlaHead
public import proofs.«01_k».proof.Proof.GlaModel
public import Idealize.ShloMosaic.Lib.Pointwise

@[expose] public section

set_option maxRecDepth 16384

noncomputable section

namespace Cert.GlaBwdIdeal.Head

open Idealize.ShloMosaic Idealize.ShloMosaic.TcCoe Idealize.ShloMosaic.Tactic
open Cert.GlaBwdIdeal.Gen
open Cert.Gla

/-! ## Reals inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (P : Prop) [Decidable P] (a b : ℝ) : ((if P then a else b : ℝ) : EReal) = if P then (a : EReal) else (b : EReal) := by
  split <;> rfl

theorem select_ite {α : Type} (P : Prop) [Decidable P] (a b : α) : Scalar.select (if P then 1#1 else 0#1) a b = if P then a else b := by
  split <;> rfl

/-! ## Comparisons of small numbers -/

theorem bool_word (P : Prop) [Decidable P] : BitVec.ofBool (decide P) = if P then 1#1 else 0#1 := by
  split <;> rename_i h <;> simp [h]

theorem ge_word (a b : ℕ) (ha : a < 2 ^ 31) (hb : b < 2 ^ 31) :
    IntOp.cmpi .sge (BitVec.ofNat 32 a) (BitVec.ofNat 32 b) = if b ≤ a then 1#1 else 0#1 :=
  (WordCmp.cmpi_sge_ofNat ha hb).trans (bool_word _)
theorem lt_word (a b : ℕ) (ha : a < 2 ^ 31) (hb : b < 2 ^ 31) :
    IntOp.cmpi .slt (BitVec.ofNat 32 a) (BitVec.ofNat 32 b) = if a < b then 1#1 else 0#1 :=
  (WordCmp.cmpi_slt_ofNat ha hb).trans (bool_word _)
theorem gt_word (a b : ℕ) (ha : a < 2 ^ 31) (hb : b < 2 ^ 31) :
    IntOp.cmpi .sgt (BitVec.ofNat 32 a) (BitVec.ofNat 32 b) = if b < a then 1#1 else 0#1 :=
  (WordCmp.cmpi_sgt_ofNat ha hb).trans (bool_word _)
theorem eq_word (a b : ℕ) (ha : a < 2 ^ 31) (hb : b < 2 ^ 31) :
    IntOp.cmpi .eq (BitVec.ofNat 32 a) (BitVec.ofNat 32 b) = if a = b then 1#1 else 0#1 := by
  have h : IntOp.cmpi .eq (BitVec.ofNat 32 a) (BitVec.ofNat 32 b) = BitVec.ofBool (decide (BitVec.ofNat 32 a = BitVec.ofNat 32 b)) := rfl
  rw [h, bool_word]
  refine if_congr ⟨fun q => ?_, fun q => by rw [q]⟩ rfl rfl
  have := congrArg BitVec.toNat q
  rw [BitVec.toNat_ofNat, BitVec.toNat_ofNat] at this
  omega

/-! ## Indices -/

theorem kcol_mk (h : Fin 4) (e : Fin 128) (p : 128 * h.val + e.val < 512) : (⟨128 * h.val + e.val, p⟩ : Fin 512) = kcol h e := rfl
theorem vcol_mk (h : Fin 4) (w : Fin 256) (p : 256 * h.val + w.val < 1024) : (⟨256 * h.val + w.val, p⟩ : Fin 1024) = vcol h w := rfl
theorem rw_mk (j : Fin 4) (t : Fin 64) (p : 64 * j.val + t.val < 256) : (⟨64 * j.val + t.val, p⟩ : Fin 256) = rw j t := rfl

/-- A sum over a tile's rows, chunk by chunk. -/
theorem sum_rows {M : Type*} [AddCommMonoid M] (f : Fin 256 → M) : ∑ i, f i = ∑ j : Fin 4, ∑ t : Fin 64, f (rw j t) := by
  rw [← Fintype.sum_prod_type']
  refine (Fintype.sum_equiv (finProdFinEquiv (m := 4) (n := 64)) _ _ fun p => ?_).symm
  congr 1
  exact Fin.ext (by simp [rw, finProdFinEquiv]; omega)

/-- Rows of one chunk are those whose numbers differ below 64 only. -/
theorem same_at : ∀ (j : Fin 4) (t : Fin 64) (j' : Fin 4) (s : Fin 64),
    IntOp.cmpi .slt (IntOp.xori (BitVec.ofNat 32 (rw j t).val) (BitVec.ofNat 32 (rw j' s).val)) 64#32 = if j = j' then 1#1 else 0#1 := by
  decide +kernel

theorem same_eq (j : Fin 4) (t : Fin 64) (j' : Fin 4) (s : Fin 64) : same (ix2 (rw j t) (rw j' s)) = if j = j' then 1#1 else 0#1 := by
  pointwise [same]
  exact same_at j t j' s

theorem lower_eq (j : Fin 4) (t : Fin 64) (j' : Fin 4) (s : Fin 64) :
    lower (ix2 (rw j t) (rw j' s)) = if j = j' ∧ s ≤ t then 1#1 else 0#1 := by
  have h : lower (ix2 (rw j t) (rw j' s)) = IntOp.andi (same (ix2 (rw j t) (rw j' s)))
      (IntOp.cmpi .sge (BitVec.ofNat 32 (rw j t).val) (BitVec.ofNat 32 (rw j' s).val)) := by
    pointwise [lower]
  rw [h, same_eq]
  have e : IntOp.cmpi .sge (BitVec.ofNat 32 (rw j t).val) (BitVec.ofNat 32 (rw j' s).val) = if (rw j' s).val ≤ (rw j t).val then 1#1 else 0#1 := by
    exact ge_word _ _ (by omega) (by omega)
  rw [e]
  by_cases hj : j = j'
  · subst hj
    by_cases hs : s ≤ t
    · rw [if_pos rfl, if_pos (by simp only [rw]; omega), if_pos ⟨rfl, hs⟩]; rfl
    · rw [if_pos rfl, if_neg (by simp only [rw]; omega), if_neg (show ¬(j = j ∧ s ≤ t) from fun q => hs q.2)]; rfl
  · rw [if_neg hj, if_neg (show ¬(j = j' ∧ s ≤ t) from fun q => hj q.1)]
    split <;> rfl

theorem upper_eq (j : Fin 4) (t : Fin 64) (j' : Fin 4) (s : Fin 64) :
    upper (ix2 (rw j t) (rw j' s)) = if j = j' ∧ t < s then 1#1 else 0#1 := by
  have h : upper (ix2 (rw j t) (rw j' s)) = IntOp.andi (same (ix2 (rw j t) (rw j' s)))
      (IntOp.cmpi .slt (BitVec.ofNat 32 (rw j t).val) (BitVec.ofNat 32 (rw j' s).val)) := by
    pointwise [upper]
  rw [h, same_eq, lt_word _ _ (by omega) (by omega)]
  by_cases hj : j = j'
  · subst hj
    by_cases hs : t < s
    · rw [if_pos rfl, if_pos (by simp only [rw]; omega), if_pos ⟨rfl, hs⟩]; rfl
    · rw [if_pos rfl, if_neg (by simp only [rw]; omega), if_neg (show ¬(j = j ∧ t < s) from fun q => hs q.2)]; rfl
  · rw [if_neg hj, if_neg (show ¬(j = j' ∧ t < s) from fun q => hj q.1)]
    split <;> rfl

/-- The one term of a chunk out of a masked sum over a tile. -/
theorem sum_one (j : Fin 4) (f : Fin 4 → Fin 64 → ℝ) (h : ∀ i, i ≠ j → ∀ t, f i t = 0) : ∑ i, ∑ t, f i t = ∑ t, f j t :=
  Finset.sum_eq_single j (fun i _ hi => Finset.sum_eq_zero fun t _ => h i hi t) (fun q => absurd (Finset.mem_univ j) q)

end Cert.GlaBwdIdeal.Head
-- ==== Proof.GlaEntry.lean ====
/-
  What the host lines before the region leave in their arrays, over exact arithmetic, one equation for each group of lines: an array as the
  operations written on the arrays before it.
-/
module

public import proofs.«01_k».proof.Proof.GlaBase
public import proofs.«01_k».proof.Proof.Gen.GlaBwdIdeal.Value
public import Idealize.ShloMosaic.Lib.StableHlo.ReadAt

@[expose] public section

set_option maxRecDepth 16384
set_option maxHeartbeats 4000000

noncomputable section

namespace Cert.GlaBwdIdeal.Entry

open Idealize.ShloMosaic Idealize.ShloMosaic.TcCoe
open Cert.GlaBwdIdeal.Gen

abbrev ℐ := Idealize.ShloMosaic.Ideal

variable (m : (ℓ : Loc nD τ sig) → Buf (Elt ℐ) ℓ) (c : Dev nD)

/-! The six arguments, as launched. -/
abbrev a0V : Vec ℐ S1x4096x3088 .f32 := m ((c : Thread nD τ).loc main_arg0)
abbrev a1V : Vec ℐ S1x16x512 .f32 := m ((c : Thread nD τ).loc main_arg1)
abbrev a2V : Vec ℐ S1x512 .f32 := m ((c : Thread nD τ).loc main_arg2)
abbrev a3V : Vec ℐ S1x256 .f32 := m ((c : Thread nD τ).loc main_arg3)
abbrev a4V : Vec ℐ S1x1024x1024 .f32 := m ((c : Thread nD τ).loc main_arg4)
abbrev a5V : Vec ℐ S4096x1024 .f32 := m ((c : Thread nD τ).loc main_arg5)

/-! ## The host functions, written on arrays -/

section Functions
variable (z : Vec ℐ S4096x512 .f32) (q k cum : Vec ℐ S64x64x4x128 .f32) (v : Vec ℐ S64x64x4x256 .f32)

/-- The logarithm of the logistic function. -/
def logSig : Vec ℐ S4096x512 .f32 :=
  let zero : Vec ℐ S4096x512 .f32 := broadcastInDim S4096x512 ![] bcast_S_S4096x512 (constant (F := ℐ) S_ .f32 0x00000000#32)
  let y : Vec ℐ S4096x512 .f32 := Host.negf (F := ℐ) (φ := .f32) z
  let d : Vec ℐ S4096x512 .f32 := subf (F := ℐ) (φ := .f32) y zero
  Host.negf (F := ℐ) (φ := .f32) (select (cmpf (F := ℐ) (φ := .f32) .une d d) (addf (F := ℐ) (φ := .f32) y zero)
    (addf (F := ℐ) (φ := .f32) (maximumf (F := ℐ) (φ := .f32) y zero)
      (Host.log1p (F := ℐ) (φ := .f32) (Host.exp (F := ℐ) (φ := .f32) (Host.negf (F := ℐ) (φ := .f32) (Host.absf (F := ℐ) (φ := .f32) d))))))
end Functions

theorem v10_eq : V m c main_v10 = logSig (V m c main_v9) := by
  unfold V
  unfold_abbrev_sides
  after_reads_simp
  rfl

/-! ## The lines, each group as operations on the arrays before it -/

/-- A float array of one shape, added or multiplied elementwise. -/
abbrev add (s : Shape) (x y : Vec ℐ s .f32) : Vec ℐ s .f32 := addf (F := ℐ) (φ := .f32) (s := s) x y
abbrev mul (s : Shape) (x y : Vec ℐ s .f32) : Vec ℐ s .f32 := mulf (F := ℐ) (φ := .f32) (s := s) x y
abbrev expo (s : Shape) (x : Vec ℐ s .f32) : Vec ℐ s .f32 := Host.exp (F := ℐ) (φ := .f32) (s := s) x
abbrev neg (s : Shape) (x : Vec ℐ s .f32) : Vec ℐ s .f32 := Host.negf (F := ℐ) (φ := .f32) (s := s) x
abbrev KS := S64x64x4x128
abbrev VS := S64x64x4x256
abbrev word (s : Shape) (x : Vec ℐ s .f32) : Vec ℐ s .f32 := x

theorem v19_eq : V m c main_v19 = Host.reduceWindowAdd (F := ℐ) ![1, 64, 1, 1] ![1, 1, 1, 1] ![0, 63, 0, 0] ![0, 0, 0, 0]
    (V m c main_v18 : Vec ℐ S64x64x4x128 .f32) (broadcastInDim S_ ![] bcast_S_S_ (constant (F := ℐ) S_ .f32 0x00000000#32))
    reduceWindows_S64x64x4x128_S64x64x4x128_w1s1p0_0_w64s1p63_0_w1s1p0_0_w1s1p0_0 h_S_ := rfl
theorem v24_eq : V m c main_v24 = mul KS (V m c main_v15) (expo KS (V m c main_v19)) := rfl
theorem v25_eq : V m c main_v25 = mul KS (V m c main_v16) (expo KS (neg KS (V m c main_v19))) := rfl
theorem v27_eq : V m c main_v27 = mul KS (V m c main_v15) (expo KS (neg KS (V m c main_v19))) := rfl
theorem v28_eq : V m c main_v28 = mul KS (V m c main_v16) (expo KS (V m c main_v19)) := rfl
theorem v26_eq : V m c main_v26 = Host.dotGeneral (F := ℐ) (φ₁ := .f32) (φ₂ := .f32) dot_S64x64x4x128_S64x64x4x128_S64x4x64x64_3_3_1_1_02_02 none (V m c main_v24 : Vec ℐ KS .f32) (V m c main_v25 : Vec ℐ KS .f32) := rfl
theorem v29_eq : V m c main_v29 = Host.dotGeneral (F := ℐ) (φ₁ := .f32) (φ₂ := .f32) dot_S64x64x4x128_S64x64x4x128_S64x4x64x64_3_3_1_1_02_02 none (V m c main_v27 : Vec ℐ KS .f32) (V m c main_v28 : Vec ℐ KS .f32) := rfl
theorem v33_eq : V m c main_v33 = select (s := S64x4x64x64) (cmpi (s := S64x4x64x64) .sge (iotaInDim S64x4x64x64 32 2) (iotaInDim S64x4x64x64 32 3))
    (V m c main_v26 : Vec ℐ S64x4x64x64 .f32) (V m c main_v29 : Vec ℐ S64x4x64x64 .f32) := rfl
theorem v34_eq : V m c main_v34 = Host.dotGeneral (F := ℐ) (φ₁ := .f32) (φ₂ := .f32) dot_S64x64x4x256_S64x4x64x64_S64x4x256x64_1_3_3_2_02_01 none (V m c main_v17 : Vec ℐ VS .f32) (V m c main_v33 : Vec ℐ S64x4x64x64 .f32) := rfl
theorem v39_eq : V m c main_v39 = mul KS (V m c main_v16) (expo KS (subf (F := ℐ) (φ := .f32) (s := KS)
    (broadcastInDim KS ![0, 1, 2, 3] bcast_S64x1x4x128_S64x64x4x128_0_1_2_3 (V m c main_v20 : Vec ℐ S64x1x4x128 .f32)) (V m c main_v19 : Vec ℐ KS .f32))) := rfl
theorem v20_eq : V m c main_v20 = extractStridedSlice S64x1x4x128 ![0, 63, 0, 0] (V m c main_v19 : Vec ℐ KS .f32) slices_S64x64x4x128_S64x1x4x128_0_63_0_0 := rfl
theorem v40_eq : V m c main_v40 = Host.dotGeneral (F := ℐ) (φ₁ := .f32) (φ₂ := .f32) dot_S64x64x4x256_S64x64x4x128_S64x4x256x128_1_1_3_3_02_02 none (V m c main_v17 : Vec ℐ VS .f32) (V m c main_v39 : Vec ℐ KS .f32) := rfl
theorem v50_eq : V m c main_v50 = select (s := S64x64x64x4x128)
    (andi (s := S64x64x64x4x128) (cmpi (s := S64x64x64x4x128) .slt (iotaInDim S64x64x64x4x128 32 1) (iotaInDim S64x64x64x4x128 32 2))
      (cmpi (s := S64x64x64x4x128) .slt (iotaInDim S64x64x64x4x128 32 2) (iotaInDim S64x64x64x4x128 32 0)))
    (broadcastInDim S64x64x64x4x128 ![2, 3, 4] bcast_S64x4x128_S64x64x64x4x128_2_3_4 (shapeCast S64x4x128 (V m c main_v20 : Vec ℐ S64x1x4x128 .f32) shapeCasts_S64x1x4x128_S64x4x128))
    (broadcastInDim S64x64x64x4x128 ![] bcast_S_S64x64x64x4x128 (constant (F := ℐ) S_ .f32 0x00000000#32)) := rfl
theorem v51_eq : V m c main_v51 = Host.reduceAdd (F := ℐ) (φ := .f32) (V m c main_v50 : Vec ℐ S64x64x64x4x128 .f32) (constant (F := ℐ) S_ .f32 0x00000000#32) reducesTo_S64x64x64x4x128_S64x64x4x128_d2 h_S_ := rfl
theorem v57_eq : V m c main_v57 = select (s := KS) (cmpi (s := KS) .sgt (iotaInDim KS 32 0) (iotaInDim KS 32 1))
    (expo KS (V m c main_v51)) (broadcastInDim KS ![] bcast_S_S64x64x4x128 (constant (F := ℐ) S_ .f32 0x00000000#32)) := rfl
theorem v59_eq : V m c main_v59 = transpose S64x4x256x128 [3, 0, 2, 1] (Host.dotGeneral (F := ℐ) (φ₁ := .f32) (φ₂ := .f32) dot_S64x4x256x128_S64x64x4x128_S4x128x256x64_0_1_2_0_13_23 none
    (V m c main_v40 : Vec ℐ S64x4x256x128 .f32) (V m c main_v57 : Vec ℐ KS .f32)) transposes_S4x128x256x64_S64x4x256x128_3_0_2_1 := rfl
theorem v60_eq : V m c main_v60 = Host.dotGeneral (F := ℐ) (φ₁ := .f32) (φ₂ := .f32) dot_S64x4x256x128_S64x64x4x128_S64x4x256x64_3_3_2_1_01_02 none (V m c main_v59 : Vec ℐ S64x4x256x128 .f32) (V m c main_v24 : Vec ℐ KS .f32) := rfl
theorem v62_eq : V m c main_v62 = add VS (transpose VS [0, 3, 1, 2] (V m c main_v34 : Vec ℐ S64x4x256x64 .f32) transposes_S64x4x256x64_S64x64x4x256_0_3_1_2)
    (transpose VS [0, 3, 1, 2] (V m c main_v60 : Vec ℐ S64x4x256x64 .f32) transposes_S64x4x256x64_S64x64x4x256_0_3_1_2) := rfl
theorem v63_eq : V m c main_v63 = shapeCast S4096x1024 (V m c main_v62 : Vec ℐ VS .f32) shapeCasts_S64x64x4x256_S4096x1024 := rfl
theorem v65_eq : V m c main_v65 = shapeCast S4096x512 (V m c main_v19 : Vec ℐ KS .f32) shapeCasts_S64x64x4x128_S4096x512 := rfl
theorem v66_eq : V m c main_v66 = concatenate S4096x4224 1 [⟨S4096x3088, (V m c main_v0 : Vec ℐ S4096x3088 .f32)⟩, ⟨S4096x112, (V m c main_v64 : Vec ℐ S4096x112 .f32)⟩,
    ⟨S4096x512, (V m c main_v9 : Vec ℐ S4096x512 .f32)⟩, ⟨S4096x512, (V m c main_v65 : Vec ℐ S4096x512 .f32)⟩] concatenates_S4096x3088_S4096x112_S4096x512_S4096x512_S4096x4224_d1 := rfl
theorem v74_eq : V m c main_v74 = select (s := S16x4x64x4x4x64) (cmpi (s := S16x4x64x4x4x64) .eq (iotaInDim S16x4x64x4x4x64 32 1) (iotaInDim S16x4x64x4x4x64 32 4))
    (broadcastInDim S16x4x64x4x4x64 ![0, 1, 2, 3, 4, 5] bcast_S16x4x64x4x1x64_S16x4x64x4x4x64_0_1_2_3_4_5
      (shapeCast S16x4x64x4x1x64 (transpose S64x64x4x64 [0, 2, 1, 3] (V m c main_v33 : Vec ℐ S64x4x64x64 .f32) transposes_S64x4x64x64_S64x64x4x64_0_2_1_3) shapeCasts_S64x64x4x64_S16x4x64x4x1x64))
    (broadcastInDim S16x4x64x4x4x64 ![] bcast_S_S16x4x64x4x4x64 (constant (F := ℐ) S_ .f32 0x00000000#32)) := rfl
theorem v75_eq : V m c main_v75 = shapeCast S64x1024x128 (V m c main_v59 : Vec ℐ S64x4x256x128 .f32) shapeCasts_S64x4x256x128_S64x1024x128 := rfl
theorem v77_eq : V m c main_v77 = truncf (F := ℐ) (φ := .f32) .bf16 (shapeCast S4096x1024 (V m c main_v74 : Vec ℐ S16x4x64x4x4x64 .f32) shapeCasts_S16x4x64x4x4x64_S4096x1024) bitsLt_bf16_f32 := rfl
theorem v18_eq : V m c main_v18 = shapeCast KS (V m c main_v12 : Vec ℐ S4096x512 .f32) shapeCasts_S4096x512_S64x64x4x128 := rfl
theorem v12_eq : V m c main_v12 = Host.divf (F := ℐ) (φ := .f32) (V m c main_v10 : Vec ℐ S4096x512 .f32) (broadcastInDim S4096x512 ![] bcast_S_S4096x512 (constant (F := ℐ) S_ .f32 0x41800000#32)) := rfl

end Cert.GlaBwdIdeal.Entry

end
-- ==== Proof.GlaBlock.lean ====
/-
  One head of one tile of the gated linear attention's backward over exact arithmetic: every product and decay of the body, at an index, is
  the real formula of the chunk the row lies in.
-/
module

public import proofs.«01_k».proof.Proof.GlaBase

@[expose] public section

set_option maxRecDepth 16384

noncomputable section

namespace Cert.GlaBwdIdeal.Head

open Idealize.ShloMosaic Idealize.ShloMosaic.TcCoe Idealize.ShloMosaic.Tactic
open Cert.GlaBwdIdeal.Gen
open Cert.Gla

theorem mul_coe (a b : ℝ) : (a : EReal) * (b : EReal) = ((a * b : ℝ) : EReal) := (EReal.coe_mul a b).symm
theorem neg_coe (a : ℝ) : (0 : EReal) - (a : EReal) = ((-a : ℝ) : EReal) := by rw [zero_sub, EReal.coe_neg]
theorem zero_coe : (0 : EReal) = ((0 : ℝ) : EReal) := rfl

/-- A choice among four arrays by a row's chunk. -/
theorem pick_row {α : Type} (j : Fin 4) (t : Fin 64) (f : Fin 4 → Fin 64 → α) :
    (if h0 : (rw j t).val < 64 then f 0 ⟨(rw j t).val, h0⟩
    else if h1 : (rw j t).val - 64 < 64 then f 1 ⟨(rw j t).val - 64, h1⟩
      else if h2 : (rw j t).val - 64 - 64 < 64 then f 2 ⟨(rw j t).val - 64 - 64, h2⟩
        else f 3 ⟨(rw j t).val - 64 - 64 - 64, by omega⟩) = f j t := by
  have hv : (rw j t).val = 64 * j.val + t.val := rfl
  split_ifs with h0 h1 h2
  · exact congrArg₂ f (Fin.ext (show 0 = j.val by omega)) (Fin.ext (show (rw j t).val = t.val by omega))
  · exact congrArg₂ f (Fin.ext (show 1 = j.val by omega)) (Fin.ext (show (rw j t).val - 64 = t.val by omega))
  · exact congrArg₂ f (Fin.ext (show 2 = j.val by omega)) (Fin.ext (show (rw j t).val - 64 - 64 = t.val by omega))
  · exact congrArg₂ f (Fin.ext (show 3 = j.val by omega)) (Fin.ext (show (rw j t).val - 64 - 64 - 64 = t.val by omega))

section Tile
variable {h : Fin 4} {q k c : FVec Ideal S256x512 .f32} {v : FVec Ideal S256x1024 .f32} {d : FVec Ideal S256x256 .bf16}
  {sc : FVec Ideal S256x256 .bf16} {st : FVec Ideal S1x256x128 .f32} {ds : FVec Ideal S256x128 .f32}
  {Qr Kr Cr : Fin 4 → Fin 64 → Fin 128 → ℝ} {Vr Dr : Fin 4 → Fin 64 → Fin 256 → ℝ} {T Gr : Fin 256 → Fin 128 → ℝ}

/-- The head's columns of an array are the given reals. -/
def KCols (h : Fin 4) (x : FVec Ideal S256x512 .f32) (X : Fin 4 → Fin 64 → Fin 128 → ℝ) : Prop := ∀ j t e, x (ix2 (rw j t) (kcol h e)) = ((X j t e : ℝ) : EReal)
def VCols (h : Fin 4) (x : FVec Ideal S256x1024 .f32) (X : Fin 4 → Fin 64 → Fin 256 → ℝ) : Prop := ∀ j t w, x (ix2 (rw j t) (vcol h w)) = ((X j t w : ℝ) : EReal)
def Rows {e : FTy} {n : ℕ} (x : FVec Ideal ⟨2, ![256, n]⟩ e) (X : Fin 4 → Fin 64 → Fin n → ℝ) : Prop := ∀ j t w, x (ix2 (rw j t) w) = ((X j t w : ℝ) : EReal)
def Reals {e : FTy} {n k : ℕ} (x : FVec Ideal ⟨2, ![n, k]⟩ e) (X : Fin n → Fin k → ℝ) : Prop := ∀ i l, x (ix2 i l) = ((X i l : ℝ) : EReal)

variable (hq : KCols h q Qr) (hk : KCols h k Kr) (hc : KCols h c Cr) (hv : VCols h v Vr) (hd : Rows d Dr) (hds : Reals ds Gr)

/-! ### The decays -/

include hc in
theorem last_at (j : Fin 4) (e : Fin 128) : (lastOf j c : FVec Ideal S1x512 .f32) (ix2 0 (kcol h e)) = ((Cr j 63 e : ℝ) : EReal) := by
  pointwise [lastOf, isLast]
  have step : ∀ t : Fin 64, Scalar.select (IntOp.cmpi .eq (BitVec.ofNat 32 t.val) 63#32) (c (ix2 (rw j t) (kcol h e))) 0
      = ((if t = 63 then Cr j t e else 0 : ℝ) : EReal) := by
    intro t
    rw [show (63#32 : BitVec 32) = BitVec.ofNat 32 63 from rfl, eq_word _ _ (by omega) (by omega), hc, coe_ite, select_ite]
    exact if_congr (by omega) rfl rfl
  refine (Finset.sum_congr rfl fun t _ => step t).trans ?_
  rw [← coe_sum, Finset.sum_ite_eq' Finset.univ, if_pos (Finset.mem_univ _)]

include hc in
theorem decay_at (j : Fin 4) (e : Fin 128) : (decay j h c : FVec Ideal S1x128 .f32) (ix2 0 e) = ((Real.exp (Cr j 63 e) : ℝ) : EReal) := by
  pointwise [decay]
  rw [kcol_mk, last_at hc, Ideal.exp_coe]

theorem cat_rows (x : Fin 4 → FVec Ideal S64x512 .f32) (j : Fin 4) (t : Fin 64) (l : Fin 512) :
    concatenate S256x512 0 [⟨S64x512, x 0⟩, ⟨S64x512, x 1⟩, ⟨S64x512, x 2⟩, ⟨S64x512, x 3⟩]
      concatenates_S64x512_S64x512_S64x512_S64x512_S256x512_d0 (ix2 (rw j t) l) = x j (ix2 t l) := by
  pointwise []
  exact pick_row j t (fun j i => x j (ix2 i l))

theorem cat256_at (x : Fin 4 → FVec Ideal S64x256 .f32) (j : Fin 4) (t : Fin 64) (l : Fin 256) :
    cat256 (x 0) (x 1) (x 2) (x 3) (ix2 (rw j t) l) = x j (ix2 t l) := by
  pointwise [cat256]
  exact pick_row j t (fun j i => x j (ix2 i l))

theorem cat128_at (x : Fin 4 → FVec Ideal S64x128 .f32) (j : Fin 4) (t : Fin 64) (l : Fin 128) :
    cat128 (x 0) (x 1) (x 2) (x 3) (ix2 (rw j t) l) = x j (ix2 t l) := by
  pointwise [cat128]
  exact pick_row j t (fun j i => x j (ix2 i l))

include hc in
theorem rest_at (j : Fin 4) (t : Fin 64) (e : Fin 128) :
    (eRest c : FVec Ideal S256x512 .f32) (ix2 (rw j t) (kcol h e)) = ((Real.exp (Cr j 63 e - Cr j t e) : ℝ) : EReal) := by
  have hl : ∀ j, (lastRows j c : FVec Ideal S64x512 .f32) (ix2 t (kcol h e)) = ((Cr j 63 e : ℝ) : EReal) := by
    intro j
    pointwise [lastRows]
    exact last_at hc j e
  show Ideal.exp (concatenate S256x512 0 _ _ (ix2 (rw j t) (kcol h e)) - c (ix2 (rw j t) (kcol h e))) = _
  rw [cat_rows (fun j => lastRows j c), hl, hc, ← EReal.coe_sub, Ideal.exp_coe]

include hc in
theorem pos_at (j : Fin 4) (t : Fin 64) (e : Fin 128) :
    kcols h (ePos c : FVec Ideal S256x512 .f32) (ix2 (rw j t) e) = ((Real.exp (Cr j t e) : ℝ) : EReal) := by
  pointwise [kcols, ePos]
  rw [kcol_mk, hc, Ideal.exp_coe]

include hc in
theorem neg_at (j : Fin 4) (t : Fin 64) (e : Fin 128) :
    kcols h (eNeg c : FVec Ideal S256x512 .f32) (ix2 (rw j t) e) = ((Real.exp (-Cr j t e) : ℝ) : EReal) := by
  pointwise [kcols, eNeg]
  rw [kcol_mk, hc, neg_coe, Ideal.exp_coe]

/-! ### The decayed queries and keys -/

include hq hc in
theorem a_at (j : Fin 4) (t : Fin 64) (e : Fin 128) : (aB q c : FVec Ideal S256x512 .bf16) (ix2 (rw j t) (kcol h e)) = ((cA (Qr j) (Cr j) t e : ℝ) : EReal) := by
  pointwise [aB, ePos]
  rw [hq, hc, Ideal.exp_coe, mul_coe]; rfl

include hk hc in
theorem b_at (j : Fin 4) (t : Fin 64) (e : Fin 128) : (bB k c : FVec Ideal S256x512 .bf16) (ix2 (rw j t) (kcol h e)) = ((cB (Kr j) (Cr j) t e : ℝ) : EReal) := by
  pointwise [bB, eNeg]
  rw [hk, hc, neg_coe, Ideal.exp_coe, mul_coe]; rfl

include hq hc in
theorem cn_at (j : Fin 4) (t : Fin 64) (e : Fin 128) : (cnB q c : FVec Ideal S256x512 .bf16) (ix2 (rw j t) (kcol h e)) = ((cCN (Qr j) (Cr j) t e : ℝ) : EReal) := by
  pointwise [cnB, eNeg]
  rw [hq, hc, neg_coe, Ideal.exp_coe, mul_coe]; rfl

include hk hc in
theorem dp_at (j : Fin 4) (t : Fin 64) (e : Fin 128) : (dpB k c : FVec Ideal S256x512 .bf16) (ix2 (rw j t) (kcol h e)) = ((cDP (Kr j) (Cr j) t e : ℝ) : EReal) := by
  pointwise [dpB, ePos]
  rw [hk, hc, Ideal.exp_coe, mul_coe]; rfl

include hk hc in
theorem kd_at (j : Fin 4) (t : Fin 64) (e : Fin 128) : (kdB k c : FVec Ideal S256x512 .bf16) (ix2 (rw j t) (kcol h e)) = ((cKD (Kr j) (Cr j) t e : ℝ) : EReal) := by
  show (k (ix2 (rw j t) (kcol h e)) : EReal) * (eRest c : FVec Ideal S256x512 .f32) (ix2 (rw j t) (kcol h e)) = _
  rw [hk, rest_at hc, mul_coe]; rfl

/-! ### The gradient of the scores -/

include hv hd in
theorem dscores_at (j : Fin 4) (t : Fin 64) (i : Fin 4) (s : Fin 64) :
    (dscores h v d : FVec Ideal S256x256 .f32) (ix2 (rw j t) (rw i s)) = ((∑ w, Dr j t w * Vr i s w : ℝ) : EReal) := by
  pointwise [dscores, vB]
  simp only [vcol_mk, hd j t, hv i s, mul_coe, ← coe_sum]

include hv hd in
theorem dfwd_at (j : Fin 4) (t : Fin 64) (i : Fin 4) (s : Fin 64) :
    (dfwd h v d : FVec Ideal S256x256 .bf16) (ix2 (rw j t) (rw i s)) = ((if j = i then (if s ≤ t then cDS (Vr i) (Dr j) t s else 0) else 0 : ℝ) : EReal) := by
  pointwise [dfwd]
  rw [lower_eq, dscores_at hv hd, select_ite, zero_coe, ← coe_ite]
  by_cases hj : j = i <;> by_cases hs : s ≤ t <;> simp [hj, hs, cDS]

include hv hd in
theorem dbwd_at (j : Fin 4) (t : Fin 64) (i : Fin 4) (s : Fin 64) :
    (dbwd h v d : FVec Ideal S256x256 .bf16) (ix2 (rw j t) (rw i s)) = ((if j = i then (if t < s then cDS (Vr i) (Dr j) t s else 0) else 0 : ℝ) : EReal) := by
  pointwise [dbwd]
  rw [upper_eq, dscores_at hv hd, select_ite, zero_coe, ← coe_ite]
  by_cases hj : j = i <;> by_cases hs : t < s <;> simp [hj, hs, cDS]

theorem dvIn_at {SCr : Fin 4 → Fin 64 → Fin 64 → ℝ}
    (hsc : ∀ j t i s, sc (ix2 (rw j t) (rw i s)) = ((if j = i then SCr j t s else 0 : ℝ) : EReal)) (hd : Rows d Dr)
    (i : Fin 4) (s : Fin 64) (w : Fin 256) : (dvIn d sc : FVec Ideal S256x256 .f32) (ix2 (rw i s) w) = ((∑ t, SCr i t s * Dr i t w : ℝ) : EReal) := by
  pointwise [dvIn]
  rw [sum_rows]
  simp only [hsc, hd _ _ _, mul_coe, ← coe_sum]
  rw [sum_one i _ fun j hj t => by rw [if_neg hj, zero_mul]]
  simp only [if_true]

include hk hc hv hd in
theorem daIn_at (j : Fin 4) (t : Fin 64) (e : Fin 128) :
    (daIn h k c v d : FVec Ideal S256x128 .f32) (ix2 (rw j t) e) = ((∑ s, (if s ≤ t then cDS (Vr j) (Dr j) t s else 0) * cB (Kr j) (Cr j) s e : ℝ) : EReal) := by
  pointwise [daIn, kcols]
  rw [sum_rows]
  simp only [dfwd_at hv hd, kcol_mk, b_at hk hc, mul_coe, ← coe_sum]
  rw [sum_one j _ fun i hi s => by rw [if_neg (Ne.symm hi), zero_mul]]
  simp only [if_true]

include hq hc hv hd in
theorem db_at (j : Fin 4) (s : Fin 64) (e : Fin 128) :
    (dbOf h q c v d : FVec Ideal S256x128 .f32) (ix2 (rw j s) e) = ((cDB (Qr j) (Cr j) (Vr j) (Dr j) s e : ℝ) : EReal) := by
  pointwise [dbOf, kcols]
  rw [sum_rows]
  simp only [dfwd_at hv hd, kcol_mk, a_at hq hc, mul_coe, ← coe_sum]
  rw [sum_one j _ fun i hi s => by rw [if_neg hi, zero_mul]]
  simp only [if_true]; rfl

include hk hc hv hd in
theorem dcn_at (j : Fin 4) (t : Fin 64) (e : Fin 128) :
    (dcnOf h k c v d : FVec Ideal S256x128 .f32) (ix2 (rw j t) e) = ((cDCN (Kr j) (Cr j) (Vr j) (Dr j) t e : ℝ) : EReal) := by
  pointwise [dcnOf, kcols]
  rw [sum_rows]
  simp only [dbwd_at hv hd, kcol_mk, dp_at hk hc, mul_coe, ← coe_sum]
  rw [sum_one j _ fun i hi s => by rw [if_neg (Ne.symm hi), zero_mul]]
  simp only [if_true]; rfl

include hq hc hv hd in
theorem ddp_at (j : Fin 4) (s : Fin 64) (e : Fin 128) :
    (ddpOf h q c v d : FVec Ideal S256x128 .f32) (ix2 (rw j s) e) = ((cDDP (Qr j) (Cr j) (Vr j) (Dr j) s e : ℝ) : EReal) := by
  pointwise [ddpOf, kcols]
  rw [sum_rows]
  simp only [dbwd_at hv hd, kcol_mk, cn_at hq hc, mul_coe, ← coe_sum]
  rw [sum_one j _ fun i hi s => by rw [if_neg hi, zero_mul]]
  simp only [if_true]; rfl

/-! ### One chunk -/

include hk hc in
theorem dvRows_at {SCr : Fin 4 → Fin 64 → Fin 64 → ℝ} (j : Fin 4)
    (hsc : ∀ j t i s, sc (ix2 (rw j t) (rw i s)) = ((if j = i then SCr j t s else 0 : ℝ) : EReal)) (hd : Rows d Dr) (hds : Reals ds Gr)
    (s : Fin 64) (w : Fin 256) :
    (dvRows h k c d j sc ds : FVec Ideal S64x256 .f32) (ix2 s w)
      = ((∑ t, SCr j t s * Dr j t w + ∑ e, cKD (Kr j) (Cr j) s e * Gr w e : ℝ) : EReal) := by
  pointwise [dvRows]
  simp only [rw_mk, kcol_mk, dvIn_at hsc hd, kd_at hk hc, hds w _, mul_coe, ← coe_sum, ← EReal.coe_add]

include hk hc hv hd in
theorem daRows_at (j : Fin 4) (hst : ∀ w e, st (ix3 0 w e) = ((T w e : ℝ) : EReal)) (t : Fin 64) (e : Fin 128) :
    (daRows h k c v d j st : FVec Ideal S64x128 .f32) (ix2 t e) = ((cDA (Kr j) (Cr j) (Vr j) (Dr j) T t e : ℝ) : EReal) := by
  pointwise [daRows, doRows, stOf]
  simp only [rw_mk, daIn_at hk hc hv hd, hd j t _, hst, mul_coe, ← coe_sum, ← EReal.coe_add]
  rfl

include hc hv hds in
theorem dkdRows_at (j : Fin 4) (s : Fin 64) (e : Fin 128) :
    (dkdRows h c v j ds : FVec Ideal S64x128 .f32) (ix2 s e) = ((cDKD (Cr j) (Vr j) Gr s e : ℝ) : EReal) := by
  pointwise [dkdRows, vB]
  simp only [rw_mk, kcol_mk, vcol_mk, hv j s _, hds _ e, rest_at hc, mul_coe, ← coe_sum]
  rfl

include hk hc hv hds in
theorem dclRows_at (j : Fin 4) (hst : ∀ w e, st (ix3 0 w e) = ((T w e : ℝ) : EReal)) (t : Fin 64) (e : Fin 128) :
    (dclRows h k c v j st ds : FVec Ideal S64x128 .f32) (ix2 t e) = ((if t = 63 then cDCL (Kr j) (Cr j) (Vr j) T Gr e else 0 : ℝ) : EReal) := by
  pointwise [dclRows, isLast, stOf]
  rw [show (63#32 : BitVec 32) = BitVec.ofNat 32 63 from rfl, eq_word _ _ (by omega) (by omega), select_ite]
  simp only [rw_mk, kcol_mk, hk j _ e, dkdRows_at hc hv hds, decay_at hc, hst _ e, hds _ e, mul_coe, ← coe_sum, ← EReal.coe_add]
  rw [zero_coe, ← coe_ite]
  exact congrArg _ (if_congr (by omega) rfl rfl)

include hq hc hd hds in
theorem dsNext_at (j : Fin 4) : Reals (dsNext h q c d j ds : FVec Ideal S256x128 .f32) (cG (Qr j) (Cr j) (Dr j) Gr) := by
  intro w e
  pointwise [dsNext, doRows]
  simp only [rw_mk, kcol_mk, hd j _ w, hds w e, a_at hq hc, decay_at hc, mul_coe, ← coe_sum, ← EReal.coe_add]
  rfl

end Tile

end Cert.GlaBwdIdeal.Head
-- ==== Proof.GlaTile.lean ====
/-
  One head of one tile, put together: the norm's derivative, the gradients of queries, keys, values and log decays, and the state gradient
  before the tile, each the real formula of its chunk.
-/
module

public import proofs.«01_k».proof.Proof.GlaBlock

@[expose] public section

set_option maxRecDepth 16384

noncomputable section

namespace Cert.GlaBwdIdeal.Head

open Idealize.ShloMosaic Idealize.ShloMosaic.TcCoe Idealize.ShloMosaic.Tactic
open Cert.GlaBwdIdeal.Gen
open Cert.Gla

/-! ## The constants -/

theorem word_scale : Ideal.ofBits .f32 0x3DB504F3#32 = ((scale : ℝ) : EReal) := by
  simp [Ideal.ofBits, Ideal.ieee, -EReal.coe_mul]; norm_num [scale]
theorem word_256 : Ideal.ofBits .f32 0x43800000#32 = ((256 : ℝ) : EReal) := by
  simp [Ideal.ofBits, Ideal.ieee, -EReal.coe_mul]; norm_num
theorem word_16 : Ideal.ofBits .f32 0x41800000#32 = ((16 : ℝ) : EReal) := by
  simp [Ideal.ofBits, Ideal.ieee, -EReal.coe_mul]; norm_num
theorem word_eps : Ideal.ofBits .f32 0x358637BD#32 = ((8796093 / 8796093022208 : ℝ) : EReal) := by
  simp [Ideal.ofBits, Ideal.ieee, -EReal.coe_mul]; norm_num
theorem word_half : Ideal.ofBits .f32 0xBF000000#32 = ((-(1 / 2) : ℝ) : EReal) := by
  simp [Ideal.ofBits, Ideal.ieee, -EReal.coe_mul]; norm_num

theorem div_real (a b : ℝ) (h : b ≠ 0) : Ideal.div (a : EReal) (b : EReal) = ((a / b : ℝ) : EReal) := by
  rw [Ideal.div_coe h, ← EReal.coe_mul]; congr 1; ring

theorem rsqrt_pos (a : ℝ) (h : 0 < a) : Ideal.rsqrt (a : EReal) = (((Real.sqrt a)⁻¹ : ℝ) : EReal) := by
  rw [Ideal.rsqrt_coe, if_neg (not_lt.mpr h.le), if_neg h.ne']

section Norm
variable {h : Fin 4} {o don : FVec Ideal S256x1024 .f32} {hw : FVec Ideal S1x1024 .f32}
  {Or Nr : Fin 4 → Fin 64 → Fin 256 → ℝ} {W : Fin 256 → ℝ}

/-- A row's mean square, offset. -/
def msR (Or : Fin 4 → Fin 64 → Fin 256 → ℝ) (j : Fin 4) (t : Fin 64) : ℝ := (∑ w, Or j t w * Or j t w) / 256 + 8796093 / 8796093022208
def rsR (Or : Fin 4 → Fin 64 → Fin 256 → ℝ) (j : Fin 4) (t : Fin 64) : ℝ := (Real.sqrt (msR Or j t))⁻¹
def xhR (Or : Fin 4 → Fin 64 → Fin 256 → ℝ) (j : Fin 4) (t : Fin 64) (w : Fin 256) : ℝ := Or j t w * rsR Or j t
def doR (Or Nr : Fin 4 → Fin 64 → Fin 256 → ℝ) (W : Fin 256 → ℝ) (j : Fin 4) (t : Fin 64) (w : Fin 256) : ℝ :=
  rsR Or j t * (Nr j t w * W w - xhR Or j t w * ((∑ u, Nr j t u * W u * xhR Or j t u) / 256))

theorem msR_pos (Or : Fin 4 → Fin 64 → Fin 256 → ℝ) (j : Fin 4) (t : Fin 64) : 0 < msR Or j t := by
  have : 0 ≤ ∑ w, Or j t w * Or j t w := Finset.sum_nonneg fun w _ => mul_self_nonneg _
  unfold msR; positivity

variable (ho : VCols h o Or) (hn : VCols h don Nr) (hW : ∀ w, hw (ix2 0 (vcol h w)) = ((W w : ℝ) : EReal))

include ho in
theorem rstd_at (j : Fin 4) (t : Fin 64) : (rstd h o : FVec Ideal S256x1 .f32) (ix2 (rw j t) 0) = ((rsR Or j t : ℝ) : EReal) := by
  pointwise [rstd, vcols]
  simp only [vcol_mk, ho j t, mul_coe, ← coe_sum, word_256, word_eps, div_real _ _ (by norm_num : (256 : ℝ) ≠ 0), ← EReal.coe_add]
  exact rsqrt_pos _ (msR_pos Or j t)

include ho in
theorem xhat_at (j : Fin 4) (t : Fin 64) (w : Fin 256) : (xhat h o : FVec Ideal S256x256 .f32) (ix2 (rw j t) w) = ((xhR Or j t w : ℝ) : EReal) := by
  pointwise [xhat, vcols]
  rw [vcol_mk, ho, rstd_at ho, mul_coe]; rfl

include ho hW in
theorem on_at (j : Fin 4) (t : Fin 64) (w : Fin 256) : (onOf h o hw : FVec Ideal S256x256 .f32) (ix2 (rw j t) w) = ((xhR Or j t w * W w : ℝ) : EReal) := by
  pointwise [onOf]
  rw [vcol_mk, hW, xhat_at ho, mul_coe]

include ho hn in
theorem dhw_at (w : Fin 256) : (dhwOf h o don : FVec Ideal S1x256 .f32) (ix2 0 w) = ((∑ j, ∑ t, Nr j t w * xhR Or j t w : ℝ) : EReal) := by
  pointwise [dhwOf, vcols]
  rw [sum_rows]
  simp only [vcol_mk, hn _ _ w, xhat_at ho, mul_coe, ← coe_sum]

include ho hn hW in
theorem do_at : Rows (doOf h o don hw : FVec Ideal S256x256 .bf16) (doR Or Nr W) := by
  intro j t w
  pointwise [doOf, dxhat, vcols]
  simp only [vcol_mk, hn j t, hW, xhat_at ho, rstd_at ho, mul_coe, ← coe_sum, word_256, div_real _ _ (by norm_num : (256 : ℝ) ≠ 0), ← EReal.coe_sub]
  rfl
end Norm

section Chunks
variable {h : Fin 4} {q k c : FVec Ideal S256x512 .f32} {v : FVec Ideal S256x1024 .f32} {d : FVec Ideal S256x256 .bf16}
  {sc : FVec Ideal S256x256 .bf16} {st : Fin 4 → FVec Ideal S1x256x128 .f32} {ds : FVec Ideal S256x128 .f32}
  {Qr Kr Cr : Fin 4 → Fin 64 → Fin 128 → ℝ} {Vr Dr : Fin 4 → Fin 64 → Fin 256 → ℝ} {T Gr : Fin 4 → Fin 256 → Fin 128 → ℝ}
variable (hq : KCols h q Qr) (hk : KCols h k Kr) (hc : KCols h c Cr) (hv : VCols h v Vr) (hd : Rows d Dr)
  (hst : ∀ j w e, st j (ix3 0 w e) = ((T j w e : ℝ) : EReal)) (hds : Reals ds (Gr 3))
  (hG : ∀ i j : Fin 4, j.val = i.val + 1 → ∀ w e, Gr i w e = cG (Qr j) (Cr j) (Dr j) (Gr j) w e)

/-- The state gradient after each chunk of the tile. -/
def dsStep (h : Fin 4) (q c : FVec Ideal S256x512 .f32) (d : FVec Ideal S256x256 .bf16) (ds : FVec Ideal S256x128 .f32) (j : Fin 4) : FVec Ideal S256x128 .f32 :=
  ![ds0 h q c d ds, ds1 h q c d ds, ds2 h q c d ds, ds] j

include hq hc hd hG in
theorem next_at (i j : Fin 4) (hij : j.val = i.val + 1) {x : FVec Ideal S256x128 .f32} (hx : Reals x (Gr j)) : Reals (dsNext h q c d j x) (Gr i) := fun w e =>
  (dsNext_at hq hc hd hx j w e).trans (congrArg _ (hG i j hij w e).symm)

include hq hc hd hds hG in
theorem dsStep_at : ∀ j, Reals (dsStep h q c d ds j) (Gr j) := by
  have h2 : Reals (ds2 h q c d ds) (Gr 2) := next_at hq hc hd hG 2 3 rfl hds
  have h1 : Reals (ds1 h q c d ds) (Gr 1) := next_at hq hc hd hG 1 2 rfl h2
  have h0 : Reals (ds0 h q c d ds) (Gr 0) := next_at hq hc hd hG 0 1 rfl h1
  intro j
  fin_cases j
  · exact h0
  · exact h1
  · exact h2
  · exact hds

include hq hc hd hds hG in
theorem dsOut_at : Reals (dsOut h q c d ds) (cG (Qr 0) (Cr 0) (Dr 0) (Gr 0)) :=
  dsNext_at hq hc hd (dsStep_at hq hc hd hds hG 0) 0

include hq hk hc hd hds hG in
theorem dv_at (hsc : ∀ j t i s, sc (ix2 (rw j t) (rw i s)) = ((if j = i then cSC (Qr j) (Kr j) (Cr j) t s else 0 : ℝ) : EReal)) :
    Rows (dvOf h q k c d sc ds) (fun j => cDV (Qr j) (Kr j) (Cr j) (Dr j) (Gr j)) := by
  intro j s w
  show cat256 _ _ _ _ (ix2 (rw j s) w) = _
  refine (cat256_at (fun j => dvRows h k c d j sc (dsStep h q c d ds j)) j s w).trans ?_
  exact dvRows_at hk hc (SCr := fun j => cSC (Qr j) (Kr j) (Cr j)) j hsc hd (dsStep_at hq hc hd hds hG j) s w

include hk hc hv hd hst in
theorem da_at (j : Fin 4) (t : Fin 64) (e : Fin 128) :
    daOf h k c v d (st 0) (st 1) (st 2) (st 3) (ix2 (rw j t) e) = ((cDA (Kr j) (Cr j) (Vr j) (Dr j) (T j) t e : ℝ) : EReal) :=
  (cat128_at (fun j => daRows h k c v d j (st j)) j t e).trans (daRows_at hk hc hv hd j (hst j) t e)

include hq hc hv hd hds hG in
theorem dkd_at (j : Fin 4) (t : Fin 64) (e : Fin 128) :
    dkdOf h q c v d ds (ix2 (rw j t) e) = ((cDKD (Cr j) (Vr j) (Gr j) t e : ℝ) : EReal) :=
  (cat128_at (fun j => dkdRows h c v j (dsStep h q c d ds j)) j t e).trans (dkdRows_at hc hv (dsStep_at hq hc hd hds hG j) j t e)

include hq hk hc hv hd hst hds hG in
theorem dcl_at (j : Fin 4) (t : Fin 64) (e : Fin 128) :
    dclOf h q k c v d ds (st 0) (st 1) (st 2) (st 3) (ix2 (rw j t) e)
      = ((if t = 63 then cDCL (Kr j) (Cr j) (Vr j) (T j) (Gr j) e else 0 : ℝ) : EReal) :=
  (cat128_at (fun j => dclRows h k c v j (st j) (dsStep h q c d ds j)) j t e).trans
    (dclRows_at hk hc hv (dsStep_at hq hc hd hds hG j) j (hst j) t e)

include hk hc hv hd hst in
theorem dq_at : Rows (dqOf h k c v d (st 0) (st 1) (st 2) (st 3)) (fun j => cDQ (Kr j) (Cr j) (Vr j) (Dr j) (T j)) := by
  intro j t e
  pointwise [dqOf, qUp, qDown]
  simp only [da_at hk hc hv hd hst, dcn_at hk hc hv hd, pos_at hc, neg_at hc, word_scale, mul_coe, ← EReal.coe_add]
  rfl

include hq hc hv hd hds hG in
theorem dk_at : Rows (dkOf h q c v d ds) (fun j => cDK (Qr j) (Cr j) (Vr j) (Dr j) (Gr j)) := by
  intro j t e
  pointwise [dkOf, kUp, kDown]
  simp only [ddp_at hq hc hv hd, db_at hq hc hv hd, dkd_at hq hc hv hd hds hG, pos_at hc, neg_at hc, mul_coe, ← EReal.coe_add]
  rfl

include hq hk hc hv hd hst hds hG in
theorem dc_at : Rows (dcOf h q k c v d ds (st 0) (st 1) (st 2) (st 3))
    (fun j => cDC (Qr j) (Kr j) (Cr j) (Vr j) (Dr j) (T j) (Gr j)) := by
  intro j t e
  pointwise [dcOf, qUp, qDown, kUp, kDown, kcols]
  have e1 := pos_at hc j t e
  have e2 := neg_at hc j t e
  pointwise [kcols] at e1 e2
  simp only [kcol_mk] at e1 e2
  simp only [kcol_mk, e1, e2, hq j t e, hk j t e, da_at hk hc hv hd hst, dcn_at hk hc hv hd, ddp_at hq hc hv hd, db_at hq hc hv hd,
    dkd_at hq hc hv hd hds hG, dcl_at hq hk hc hv hd hst hds hG, mul_coe, ← EReal.coe_add, ← EReal.coe_sub]
  rfl
end Chunks

end Cert.GlaBwdIdeal.Head
-- ==== Proof.GlaScalar.lean ====
/-
  Scalars of the gated linear attention over exact arithmetic: the logistic function's logarithm as it is computed, and running sums within a chunk
  read off window sums.
-/
module

public import proofs.«01_k».proof.Proof.GlaBase
public import proofs.«01_k».proof.Proof.GlaTile
public import proofs.«01_k».proof.Proof.RevSum

@[expose] public section

set_option maxRecDepth 16384

noncomputable section

namespace Cert.Gla

open Idealize.ShloMosaic

/-- `max y 0 + log (1 + exp (-|y|))`, the way `log (1 + exp y)` is computed. -/
theorem softplus_real (y : ℝ) : max y 0 + Real.log (1 + Real.exp (-max y (-y))) = Real.log (1 + Real.exp y) := by
  rcases le_total 0 y with h | h
  · rw [max_eq_left h, max_eq_left (by linarith)]
    have e : 1 + Real.exp y = Real.exp y * (1 + Real.exp (-y)) := by rw [mul_add, ← Real.exp_add]; simp [add_comm]
    rw [e, Real.log_mul (Real.exp_pos _).ne' (by positivity), Real.log_exp]
  · rw [max_eq_right h, max_eq_right (by linarith), neg_neg, zero_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem log1p_coe (a : ℝ) (h : 0 < 1 + a) : Ideal.log1p (a : EReal) = ((Real.log (1 + a) : ℝ) : EReal) := by
  unfold Ideal.log1p
  rw [← EReal.coe_one, ← EReal.coe_add, Ideal.log_coe, if_neg (not_le.mpr h)]

/-- The same over exact arithmetic. -/
theorem softplus_coe (y : ℝ) :
    max (y : EReal) 0 + Ideal.log1p (Ideal.exp (-max (y : EReal) (-(y : EReal)))) = ((Real.log (1 + Real.exp y) : ℝ) : EReal) := by
  rw [← EReal.coe_zero, ← EReal.coe_neg, coe_max, coe_max, ← EReal.coe_neg, Ideal.exp_coe, log1p_coe _ (by positivity), ← EReal.coe_add, softplus_real]

theorem exp_sub_softplus (y : ℝ) : Real.exp (-y - Real.log (1 + Real.exp (-y))) = 1 - sgm y := by
  unfold sgm
  have h : (0 : ℝ) < 1 + Real.exp (-y) := by positivity
  rw [Real.exp_sub, Real.exp_log h]
  field_simp
  ring

/-! ## Running sums -/

theorem sum_upto {M : Type*} [AddCommMonoid M] (f : Fin 64 → M) (t : Fin 64) :
    ∑ k : Fin 64, (if h : 63 ≤ t.val + k.val then f ⟨t.val + k.val - 63, by omega⟩ else 0) = ∑ s, if s ≤ t then f s else 0 := by
  rw [← Finset.sum_filter]
  rw [Finset.sum_congr rfl fun k _ => show (if h : 63 ≤ t.val + k.val then f ⟨t.val + k.val - 63, by omega⟩ else 0)
    = if 63 ≤ t.val + k.val then f ⟨t.val + k.val - 63, by omega⟩ else 0 by split <;> rfl, ← Finset.sum_filter]
  refine Finset.sum_bij' (fun k _ => ⟨t.val + k.val - 63, by omega⟩) (fun s _ => ⟨(s.val + 63 - t.val) % 64, Nat.mod_lt _ (by norm_num)⟩) ?_ ?_ ?_ ?_ ?_
  · intro k hk
    simp only [Finset.mem_filter, Finset.mem_univ, true_and, Fin.le_def] at hk ⊢
    omega
  · intro s hs
    simp only [Finset.mem_filter, Finset.mem_univ, true_and, Fin.le_def] at hs ⊢
    omega
  · intro k hk
    simp only [Finset.mem_filter, Finset.mem_univ, true_and] at hk
    exact Fin.ext (by show (t.val + k.val - 63 + 63 - t.val) % 64 = k.val; omega)
  · intro s hs
    simp only [Finset.mem_filter, Finset.mem_univ, true_and, Fin.le_def] at hs
    exact Fin.ext (by show t.val + (s.val + 63 - t.val) % 64 - 63 = s.val; omega)
  · intro k _
    rfl

theorem sum_from {M : Type*} [AddCommMonoid M] (f : Fin 64 → M) (t : Fin 64) :
    ∑ k : Fin 64, (if h : t.val + k.val < 64 then f ⟨t.val + k.val, h⟩ else 0) = ∑ s, if t ≤ s then f s else 0 := by
  rw [← Finset.sum_filter]
  rw [Finset.sum_congr rfl fun k _ => show (if h : t.val + k.val < 64 then f ⟨t.val + k.val, h⟩ else 0)
    = if t.val + k.val < 64 then f ⟨(t.val + k.val) % 64, Nat.mod_lt _ (by norm_num)⟩ else 0 by
      split
      · rename_i h
        exact congrArg f (Fin.ext (Nat.mod_eq_of_lt h).symm)
      · rfl, ← Finset.sum_filter]
  refine Finset.sum_bij' (fun k _ => ⟨(t.val + k.val) % 64, Nat.mod_lt _ (by norm_num)⟩) (fun s _ => ⟨s.val - t.val, by omega⟩) ?_ ?_ ?_ ?_ ?_
  · intro k hk
    simp only [Finset.mem_filter, Finset.mem_univ, true_and, Fin.le_def] at hk ⊢
    omega
  · intro s hs
    simp only [Finset.mem_filter, Finset.mem_univ, true_and, Fin.le_def] at hs ⊢
    omega
  · intro k hk
    simp only [Finset.mem_filter, Finset.mem_univ, true_and] at hk
    exact Fin.ext (by show (t.val + k.val) % 64 - t.val = k.val; omega)
  · intro s hs
    simp only [Finset.mem_filter, Finset.mem_univ, true_and, Fin.le_def] at hs
    exact Fin.ext (by show (t.val + (s.val - t.val)) % 64 = s.val; omega)
  · intro k _
    rfl

end Cert.Gla

end
-- ==== Proof.GlaWindow.lean ====
/-
  The window sums of the gated linear attention at an index: running sums within a chunk, from its first row on or back from its last.
-/
module

public import proofs.«01_k».proof.Proof.GlaScalar

@[expose] public section

set_option maxRecDepth 16384

noncomputable section

namespace Cert.Gla

open Idealize.ShloMosaic
open Cert.PoolBwdRefIdeal.RevSum

abbrev Sh4 : Shape := ⟨4, ![64, 64, 4, 128]⟩
abbrev Sh5 : Shape := ⟨5, ![1, 64, 64, 4, 128]⟩

/-- The positions of a window along the rows. -/
def pos4 : Fin 64 ≃ (⟨4, ![1, 64, 1, 1]⟩ : Shape).Idx where
  toFun k := ix4 0 k 0 0
  invFun i := i 1
  left_inv k := rfl
  right_inv i := funext fun a => match a with
    | ⟨0, _⟩ => Fin.ext (by have h : (i 0).val < 1 := (i 0).isLt; show 0 = (i 0).val; omega)
    | ⟨1, _⟩ => rfl
    | ⟨2, _⟩ => Fin.ext (by have h : (i 2).val < 1 := (i 2).isLt; show 0 = (i 2).val; omega)
    | ⟨3, _⟩ => Fin.ext (by have h : (i 3).val < 1 := (i 3).isLt; show 0 = (i 3).val; omega)
@[inherit_doc pos4] def pos5 : Fin 64 ≃ (⟨5, ![1, 1, 64, 1, 1]⟩ : Shape).Idx where
  toFun k := ix5 0 0 k 0 0
  invFun i := i 2
  left_inv k := rfl
  right_inv i := funext fun a => match a with
    | ⟨0, _⟩ => Fin.ext (by have h : (i 0).val < 1 := (i 0).isLt; show 0 = (i 0).val; omega)
    | ⟨1, _⟩ => Fin.ext (by have h : (i 1).val < 1 := (i 1).isLt; show 0 = (i 1).val; omega)
    | ⟨2, _⟩ => rfl
    | ⟨3, _⟩ => Fin.ext (by have h : (i 3).val < 1 := (i 3).isLt; show 0 = (i 3).val; omega)
    | ⟨4, _⟩ => Fin.ext (by have h : (i 4).val < 1 := (i 4).isLt; show 0 = (i 4).val; omega)

theorem cum4 {u : Shape} (X : FVec Ideal Sh4 .f32) (v : u.Idx → Ideal .f32) (hw : Sh4.ReduceWindows ![1, 64, 1, 1] ![1, 1, 1, 1] ![0, 63, 0, 0] ![0, 0, 0, 0] Sh4)
    (hu : 0 < u.numel) (hv : v (Shape.Idx.first hu) = (0 : EReal)) (n t : Fin 64) (h : Fin 4) (e : Fin 128) :
    Host.reduceWindowAdd (F := Ideal) ![1, 64, 1, 1] ![1, 1, 1, 1] ![0, 63, 0, 0] ![0, 0, 0, 0] X v hw hu (ix4 n t h e)
      = ∑ s, if s ≤ t then (X (ix4 n s h e) : EReal) else 0 := by
  rw [windowAdd_eq, hv, zero_add, ← Equiv.sum_comp pos4, ← sum_upto]
  refine Finset.sum_congr rfl fun k _ => ?_
  by_cases q : 63 ≤ t.val + k.val
  · rw [dif_pos q, dif_pos]
    · exact congrArg X (funext fun a => Fin.ext (by match a with | ⟨0, _⟩ => show n.val * 1 + 0 - 0 = n.val; omega | ⟨1, _⟩ => show t.val * 1 + k.val - 63 = t.val + k.val - 63; omega | ⟨2, _⟩ => show h.val * 1 + 0 - 0 = h.val; omega | ⟨3, _⟩ => show e.val * 1 + 0 - 0 = e.val; omega))
    · intro a
      match a with
      | ⟨0, _⟩ => exact ⟨Nat.zero_le _, by have := n.isLt; show n.val * 1 + 0 - 0 < 64; omega⟩
      | ⟨1, _⟩ => exact ⟨by show 63 ≤ t.val * 1 + k.val; omega, by show t.val * 1 + k.val - 63 < 64; omega⟩
      | ⟨2, _⟩ => exact ⟨Nat.zero_le _, by have := h.isLt; show h.val * 1 + 0 - 0 < 4; omega⟩
      | ⟨3, _⟩ => exact ⟨Nat.zero_le _, by have := e.isLt; show e.val * 1 + 0 - 0 < 128; omega⟩
  · rw [dif_neg q, dif_neg]
    intro hin
    have h1 := (hin 1).1
    change 63 ≤ t.val * 1 + k.val at h1
    omega

theorem cum5 {u : Shape} (X : FVec Ideal Sh5 .f32) (v : u.Idx → Ideal .f32) (hw : Sh5.ReduceWindows ![1, 1, 64, 1, 1] ![1, 1, 1, 1, 1] ![0, 0, 63, 0, 0] ![0, 0, 0, 0, 0] Sh5)
    (hu : 0 < u.numel) (hv : v (Shape.Idx.first hu) = (0 : EReal)) (n t : Fin 64) (h : Fin 4) (e : Fin 128) :
    Host.reduceWindowAdd (F := Ideal) ![1, 1, 64, 1, 1] ![1, 1, 1, 1, 1] ![0, 0, 63, 0, 0] ![0, 0, 0, 0, 0] X v hw hu (ix5 0 n t h e)
      = ∑ s, if s ≤ t then (X (ix5 0 n s h e) : EReal) else 0 := by
  rw [windowAdd_eq, hv, zero_add, ← Equiv.sum_comp pos5, ← sum_upto]
  refine Finset.sum_congr rfl fun k _ => ?_
  by_cases q : 63 ≤ t.val + k.val
  · rw [dif_pos q, dif_pos]
    · exact congrArg X (funext fun a => Fin.ext (by match a with | ⟨0, _⟩ => rfl | ⟨1, _⟩ => show n.val * 1 + 0 - 0 = n.val; omega | ⟨2, _⟩ => show t.val * 1 + k.val - 63 = t.val + k.val - 63; omega | ⟨3, _⟩ => show h.val * 1 + 0 - 0 = h.val; omega | ⟨4, _⟩ => show e.val * 1 + 0 - 0 = e.val; omega))
    · intro a
      match a with
      | ⟨0, _⟩ => exact ⟨Nat.zero_le _, by show 0 * 1 + 0 - 0 < 1; omega⟩
      | ⟨1, _⟩ => exact ⟨Nat.zero_le _, by have := n.isLt; show n.val * 1 + 0 - 0 < 64; omega⟩
      | ⟨2, _⟩ => exact ⟨by show 63 ≤ t.val * 1 + k.val; omega, by show t.val * 1 + k.val - 63 < 64; omega⟩
      | ⟨3, _⟩ => exact ⟨Nat.zero_le _, by have := h.isLt; show h.val * 1 + 0 - 0 < 4; omega⟩
      | ⟨4, _⟩ => exact ⟨Nat.zero_le _, by have := e.isLt; show e.val * 1 + 0 - 0 < 128; omega⟩
  · rw [dif_neg q, dif_neg]
    intro hin
    have h1 := (hin 2).1
    change 63 ≤ t.val * 1 + k.val at h1
    omega

theorem rev5 {u : Shape} (X : FVec Ideal Sh5 .f32) (v : u.Idx → Ideal .f32) (hw : Sh5.ReduceWindows ![1, 1, 64, 1, 1] ![1, 1, 1, 1, 1] ![0, 0, 0, 0, 0] ![0, 0, 63, 0, 0] Sh5)
    (hu : 0 < u.numel) (hv : v (Shape.Idx.first hu) = (0 : EReal)) (n t : Fin 64) (h : Fin 4) (e : Fin 128) :
    Host.reduceWindowAdd (F := Ideal) ![1, 1, 64, 1, 1] ![1, 1, 1, 1, 1] ![0, 0, 0, 0, 0] ![0, 0, 63, 0, 0] X v hw hu (ix5 0 n t h e)
      = ∑ s, if t ≤ s then (X (ix5 0 n s h e) : EReal) else 0 := by
  rw [windowAdd_eq, hv, zero_add, ← Equiv.sum_comp pos5, ← sum_from]
  refine Finset.sum_congr rfl fun k _ => ?_
  by_cases q : t.val + k.val < 64
  · rw [dif_pos q, dif_pos]
    · exact congrArg X (funext fun a => Fin.ext (by match a with | ⟨0, _⟩ => rfl | ⟨1, _⟩ => show n.val * 1 + 0 - 0 = n.val; omega | ⟨2, _⟩ => show t.val * 1 + k.val - 0 = t.val + k.val; omega | ⟨3, _⟩ => show h.val * 1 + 0 - 0 = h.val; omega | ⟨4, _⟩ => show e.val * 1 + 0 - 0 = e.val; omega))
    · intro a
      match a with
      | ⟨0, _⟩ => exact ⟨Nat.zero_le _, by show 0 * 1 + 0 - 0 < 1; omega⟩
      | ⟨1, _⟩ => exact ⟨Nat.zero_le _, by have := n.isLt; show n.val * 1 + 0 - 0 < 64; omega⟩
      | ⟨2, _⟩ => exact ⟨Nat.zero_le _, by show t.val * 1 + k.val - 0 < 64; omega⟩
      | ⟨3, _⟩ => exact ⟨Nat.zero_le _, by have := h.isLt; show h.val * 1 + 0 - 0 < 4; omega⟩
      | ⟨4, _⟩ => exact ⟨Nat.zero_le _, by have := e.isLt; show e.val * 1 + 0 - 0 < 128; omega⟩
  · rw [dif_neg q, dif_neg]
    intro hin
    have h1 := (hin 2).2
    change t.val * 1 + k.val - 0 < 64 at h1
    omega

end Cert.Gla

end
-- ==== Proof.GlaStep.lean ====
/-
  What one grid point of the gated linear attention's backward leaves, as functions of the blocks it reads.  The generated frame names the
  contents of every output buffer and carried scratch after a point by the stores of the body's run; here each is given as one term over the
  input blocks and what the point before left (`point`): the same term for the first point (from zeros), the middle points and the last one.
-/
module

public import proofs.«01_k».proof.Proof.GlaHead

@[expose] public section

set_option maxRecDepth 16384

noncomputable section

namespace Cert.GlaBwdIdeal.Step

open Idealize.ShloMosaic Idealize.ShloMosaic.TcCoe Idealize.ShloMosaic.Tactic
open Idealize.SL Idealize.SL.RA Idealize.SL.BI Idealize.SL.Sem
open Cert.GlaBwdIdeal.Gen Cert.GlaBwdIdeal.Head

variable {F : FTy → Type} [FloatOps F]

theorem in_sc (h : Fin 4) : ∀ a, (![0, 256 * h.val] : Fin 2 → Nat) a + S256x256.size a ≤ S256x1024.size a := by revert h; decide
theorem in_st (j h : Fin 4) : ∀ a, (![j.val, 256 * h.val, 0] : Fin 3 → Nat) a + S1x256x128.size a ≤ S4x1024x128.size a := by revert j h; decide
theorem in_ds (h : Fin 4) : ∀ a, (![256 * h.val, 0] : Fin 2 → Nat) a + S256x128.size a ≤ S1024x128.size a := by revert h; decide
theorem in_q (h : Fin 4) : ∀ a, (![0, 128 * h.val] : Fin 2 → Nat) a + S256x128.size a ≤ S256x3200.size a := by revert h; decide
theorem in_k (h : Fin 4) : ∀ a, (![0, 512 + 128 * h.val] : Fin 2 → Nat) a + S256x128.size a ≤ S256x3200.size a := by revert h; decide
theorem in_v (h : Fin 4) : ∀ a, (![0, 1024 + 256 * h.val] : Fin 2 → Nat) a + S256x256.size a ≤ S256x3200.size a := by revert h; decide

section Loads
variable (h j : Fin 4) (x1 : Vec F S256x4224 .f32) (x3 : Vec F S4x1024x128 .f32) (x4 : Vec F S256x1024 .bf16) (s0 : Vec F S1024x128 .f32)

/-- The scaled queries, keys, values, gates' logits and log decays of the tile's rows. -/
def qOf : FVec F S256x512 .f32 := k0_pay55 (View.ld x1 (Rect.unit ![0, 0] S256x512.size inb_S256x4224_S256x512_0_0))
@[inherit_doc qOf] def kOf : FVec F S256x512 .f32 := k0_pay48 (View.ld x1 (Rect.unit ![0, 512] S256x512.size inb_S256x4224_S256x512_0_512))
@[inherit_doc qOf] def vOf : FVec F S256x1024 .f32 := k0_pay49 (View.ld x1 (Rect.unit ![0, 1024] S256x1024.size inb_S256x4224_S256x1024_0_1024))
@[inherit_doc qOf] def zOf : FVec F S256x512 .f32 := k0_pay53 (View.ld x1 (Rect.unit ![0, 3200] S256x512.size inb_S256x4224_S256x512_0_3200))
@[inherit_doc qOf] def cOf : FVec F S256x512 .f32 := k0_pay54 (View.ld x1 (Rect.unit ![0, 3712] S256x512.size inb_S256x4224_S256x512_0_3712))
/-- The output gate's and the decay gate's inputs. -/
def gateIn : Vec F S256x1024 .f32 := View.ld x1 (Rect.unit ![0, 2048] S256x1024.size inb_S256x4224_S256x1024_0_2048)
@[inherit_doc gateIn] def lowOf : FVec F S256x128 .bf16 := k0_pay12 (View.ld x1 (Rect.unit ![0, 3072] S256x128.size inb_S256x4224_S256x128_0_3072))
/-- The head's state before a chunk, its score tile, and its carried state gradient. -/
def stAt : FVec F S1x256x128 .f32 := View.ld x3 (Rect.unit ![j.val, 256 * h.val, 0] S1x256x128.size (in_st j h))
@[inherit_doc stAt] def scAt : FVec F S256x256 .bf16 := View.ld x4 (Rect.unit ![0, 256 * h.val] S256x256.size (in_sc h))
@[inherit_doc stAt] def dsAt : FVec F S256x128 .f32 := View.ld s0 (Rect.unit ![256 * h.val, 0] S256x128.size (in_ds h))
end Loads

section Point
variable (h : Fin 4) (x0 : Vec F S256x1024 .f32) (x1 : Vec F S256x4224 .f32) (x2 : Vec F S256x1024 .f32) (x3 : Vec F S4x1024x128 .f32) (x4 : Vec F S256x1024 .bf16)
  (x5 : Vec F S128x512 .bf16) (x6 : Vec F S1x512 .f32) (x7 : Vec F S1x1024 .f32) (x8 : Vec F S1024x1024 .bf16)
  (z10 : Vec F S1x1024 .f32) (z11 : Vec F S128x512 .f32) (z12 : Vec F S1x512 .f32) (s0 : Vec F S1024x128 .f32) (s1 : Vec F S1024x1024 .f32)

/-- The cotangent of the normed heads. -/
def donOf : FVec F S256x1024 .f32 := k0_pay16 x0 x8 (gateIn x1)
/-- The cotangent of one head's output. -/
def doAt : FVec F S256x256 .bf16 := doOf h (k0_pay13 x2) (donOf x0 x1 x8) x7
def dvAt : FVec F S256x256 .bf16 := dvOf h (qOf x1) (kOf x1) (cOf x1) (doAt h x0 x1 x2 x7 x8) (scAt h x4) (dsAt h s0)
def dqAt : FVec F S256x128 .bf16 :=
  dqOf h (kOf x1) (cOf x1) (vOf x1) (doAt h x0 x1 x2 x7 x8) (stAt h 0 x3) (stAt h 1 x3) (stAt h 2 x3) (stAt h 3 x3)
def dkAt : FVec F S256x128 .bf16 := dkOf h (qOf x1) (cOf x1) (vOf x1) (doAt h x0 x1 x2 x7 x8) (dsAt h s0)
def dcAt : FVec F S256x128 .f32 :=
  dcOf h (qOf x1) (kOf x1) (cOf x1) (vOf x1) (doAt h x0 x1 x2 x7 x8) (dsAt h s0) (stAt h 0 x3) (stAt h 1 x3) (stAt h 2 x3) (stAt h 3 x3)
def dsNew : FVec F S256x128 .f32 :=
  shapeCast S256x128 (dsOut h (qOf x1) (cOf x1) (doAt h x0 x1 x2 x7 x8) (dsAt h s0)) shapeCasts_S256x128_S256x128

/-- All heads' gradient of the log decay inside the chunks. -/
def dcAll : FVec F S256x512 .f32 :=
  concatenate S256x512 1 [⟨S256x128, dcAt 0 x0 x1 x2 x3 x7 x8 s0⟩, ⟨S256x128, dcAt 1 x0 x1 x2 x3 x7 x8 s0⟩, ⟨S256x128, dcAt 2 x0 x1 x2 x3 x7 x8 s0⟩,
    ⟨S256x128, dcAt 3 x0 x1 x2 x3 x7 x8 s0⟩] concatenates_S256x128_S256x128_S256x128_S256x128_S256x512_d1
/-- … summed from each row to its chunk's end. -/
def scanOf : FVec F S256x512 .f32 :=
  k0_pay297 (dcAll x0 x1 x2 x3 x7 x8 s0) k0_pay294 k0_pay295 (dynamicRotate 0 255#32 none (dcAll x0 x1 x2 x3 x7 x8 s0) rotates_S256x512_d0)
    (FloatOps.ofBits .f32 0x00000000#32)
def dzbOf : FVec F S256x512 .bf16 := k0_pay299 (zOf x1) (scanOf x0 x1 x2 x3 x7 x8 s0)
def gateOf : FVec F S256x1024 .bf16 :=
  k0_pay46 (k0_pay10 x0 x8) (k0_pay11 (gateIn x1)) (k0_pay14 (gateIn x1)) (onOf 0 (k0_pay13 x2) x7) (onOf 1 (k0_pay13 x2) x7) (onOf 2 (k0_pay13 x2) x7)
    (onOf 3 (k0_pay13 x2) x7)

/-- One head's columns of `dproj`. -/
def headPieces : List (View.Piece (Elt F) S256x3200 .bf16) :=
  [⟨Rect.unit ![0, 512 + 128 * h.val] S256x128.size (in_k h), dkAt h x0 x1 x2 x7 x8 s0⟩,
    ⟨Rect.unit ![0, 128 * h.val] S256x128.size (in_q h), dqAt h x0 x1 x2 x3 x7 x8⟩,
    ⟨Rect.unit ![0, 1024 + 256 * h.val] S256x256.size (in_v h), dvAt h x0 x1 x2 x4 x7 x8 s0⟩]
/-- The block of `dproj` (last store first). -/
def dprojPieces : List (View.Piece (Elt F) S256x3200 .bf16) :=
  ⟨Rect.unit ![0, 3072] S256x128.size inb_S256x3200_S256x128_0_3072, k0_pay2 (dzbOf x0 x1 x2 x3 x7 x8 s0) x5⟩
    :: (headPieces 3 x0 x1 x2 x3 x4 x7 x8 s0 ++ (headPieces 2 x0 x1 x2 x3 x4 x7 x8 s0 ++ (headPieces 1 x0 x1 x2 x3 x4 x7 x8 s0
      ++ (headPieces 0 x0 x1 x2 x3 x4 x7 x8 s0 ++ [⟨Rect.unit ![0, 2048] S256x1024.size inb_S256x3200_S256x1024_0_2048, gateOf x0 x1 x2 x7 x8⟩]))))
/-- The four heads' carried state gradients. -/
def dsPieces : List (View.Piece (Elt F) S1024x128 .f32) :=
  [⟨Rect.unit ![256 * (3 : Fin 4).val, 0] S256x128.size (in_ds 3), dsNew 3 x0 x1 x2 x7 x8 s0⟩,
    ⟨Rect.unit ![256 * (2 : Fin 4).val, 0] S256x128.size (in_ds 2), dsNew 2 x0 x1 x2 x7 x8 s0⟩,
    ⟨Rect.unit ![256 * (1 : Fin 4).val, 0] S256x128.size (in_ds 1), dsNew 1 x0 x1 x2 x7 x8 s0⟩,
    ⟨Rect.unit ![256 * (0 : Fin 4).val, 0] S256x128.size (in_ds 0), dsNew 0 x0 x1 x2 x7 x8 s0⟩]
/-- The sum of the head norm's gradient so far. -/
def dhwSum : FVec F S1x1024 .f32 :=
  addf (shapeCast S1x1024 z10 shapeCasts_S1x1024_S1x1024) (concatenate S1x1024 1 [⟨S1x256, dhwOf 0 (k0_pay13 x2) (donOf x0 x1 x8)⟩,
    ⟨S1x256, dhwOf 1 (k0_pay13 x2) (donOf x0 x1 x8)⟩, ⟨S1x256, dhwOf 2 (k0_pay13 x2) (donOf x0 x1 x8)⟩,
    ⟨S1x256, dhwOf 3 (k0_pay13 x2) (donOf x0 x1 x8)⟩] concatenates_S1x256_S1x256_S1x256_S1x256_S1x1024_d1)
/-- The sums of the decay gate's two gradients so far. -/
def dgkwSum : FVec F S128x512 .f32 :=
  k0_pay1 (lowOf x1) (dzbOf x0 x1 x2 x3 x7 x8 s0) (k0_pay301 z11) (constant S128x512 .f32 0x00000000#32)
@[inherit_doc dgkwSum] def dgkbSum : FVec F S1x512 .f32 := k0_pay300 (zOf x1) (scanOf x0 x1 x2 x3 x7 x8 s0) z12
/-- The sum of the output weight's gradient so far. -/
def dwoutSum : FVec F S1024x1024 .f32 :=
  k0_pay44 (k0_pay9 x0) (k0_pay15 (gateIn x1)) (onOf 0 (k0_pay13 x2) x7) (onOf 1 (k0_pay13 x2) x7) (onOf 2 (k0_pay13 x2) x7)
    (onOf 3 (k0_pay13 x2) x7) s1

/-- What a point leaves: the block of `dproj`, the sums of the gradients of the head norm and of the decay gate's weight and bias so far, the
    carried state gradient, and the sum of the output weight's gradient so far. -/
def point : Vec F S256x3200 .bf16 × Vec F S1x1024 .f32 × Vec F S128x512 .f32 × Vec F S1x512 .f32 × Vec F S1024x128 .f32 × Vec F S1024x1024 .f32 :=
  (View.canon (dprojPieces x0 x1 x2 x3 x4 x5 x7 x8 s0), dhwSum x0 x1 x2 x8 z10, dgkwSum x0 x1 x2 x3 x7 x8 z11 s0, dgkbSum x0 x1 x2 x3 x7 x8 z12 s0,
    View.canon (dsPieces x0 x1 x2 x7 x8 s0), dwoutSum x0 x1 x2 x7 s1)

theorem dsPieces_cover (y : S1024x128.Idx) : ∃ p ∈ dsPieces x0 x1 x2 x7 x8 s0, y ∈ p.1.set :=
  View.cover_of_tiledL (dsPieces x0 x1 x2 x7 x8 s0) S256x128.size (by sl_kernel_rfl) y
end Point

/-- Later stores that hold an index decide what is there, whatever was stored before them. -/
theorem canon_append_left {S : Shape} {e : EltTy} (L L' : List (View.Piece (Elt F) S e)) (y : S.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      refine ih ?_
      obtain ⟨q, hq, hyq⟩ := h
      rcases List.mem_cons.mp hq with rfl | hq'
      · exact absurd hyq hm
      · exact ⟨q, hq', hyq⟩

theorem zeros2 : (![0, 0] : Fin 2 → Nat) = fun _ => 0 := funext fun a => by fin_cases a <;> rfl

section CaseB

variable (c : Dev nD) (i : grid0.Coords) (arg1 : Memref sig .tc .vmem S256x1024 .f32) (harg1 : arg1.IsWhole) (arg2 : Memref sig .tc .vmem S256x4224 .f32) (harg2 : arg2.IsWhole) (arg3 : Memref sig .tc .vmem S256x1024 .f32) (harg3 : arg3.IsWhole) (arg4 : Memref sig .tc .vmem S4x1024x128 .f32) (harg4 : arg4.IsWhole) (arg5 : Memref sig .tc .vmem S256x1024 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S256x3200 .bf16) (harg10 : arg10.IsWhole) (arg12 : Memref sig .tc .vmem S1x1024 .f32) (harg12 : arg12.IsWhole) (arg13 : Memref sig .tc .vmem S128x512 .f32) (harg13 : arg13.IsWhole) (arg14 : Memref sig .tc .vmem S1x512 .f32) (harg14 : arg14.IsWhole) (arg15 : Memref sig .tc .vmem S1024x128 .f32) (harg15 : arg15.IsWhole) (arg16 : Memref sig .tc .vmem S1024x1024 .f32) (harg16 : arg16.IsWhole) (arg17 : Memref sig .tc .vmem S1024x1024 .bf16) (harg17 : arg17.IsWhole) (hc0 : ¬cond0_0 i) (hc1 : ¬cond0_1 i)
  (x0 : Vec F S256x1024 .f32) (x1 : Vec F S256x4224 .f32) (x2 : Vec F S256x1024 .f32) (x3 : Vec F S4x1024x128 .f32) (x4 : Vec F S256x1024 .bf16) (x5 : Vec F S128x512 .bf16) (x6 : Vec F S1x512 .f32) (x7 : Vec F S1x1024 .f32) (x8 : Vec F S1024x1024 .bf16) (xo10 : Vec F S1x1024 .f32) (xo11 : Vec F S128x512 .f32) (xo12 : Vec F S1x512 .f32) (xs0 : Vec F S1024x128 .f32) (xs1 : Vec F S1024x1024 .f32)

theorem out0_B_9_eq : out0_B_9 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = View.canon (dprojPieces x0 x1 x2 x3 x4 x5 x7 x8 xs0) := by
  unfold out0_B_9; rw [View.read_writes_eq_canon _ _ _ (by exact fun _ => cover0_B_9 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rfl

theorem out0_B_10_eq : out0_B_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = dhwSum x0 x1 x2 x8 xo10 := by
  unfold out0_B_10; rw [View.read_writes_eq_canon _ _ _ (by exact fun _ => cover0_B_10 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rw [View.canon_unit_zero (S := S1x1024) zeros2]
  rfl

theorem out0_B_11_eq : out0_B_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = dgkwSum x0 x1 x2 x3 x7 x8 xo11 xs0 := by
  unfold out0_B_11; rw [View.read_writes_eq_canon _ _ _ (by exact fun _ => cover0_B_11 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rw [View.canon_unit_zero (S := S128x512) zeros2]
  rfl

theorem out0_B_12_eq : out0_B_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = dgkbSum x0 x1 x2 x3 x7 x8 xo12 xs0 := by
  unfold out0_B_12; rw [View.read_writes_eq_canon _ _ _ (by exact fun _ => cover0_B_12 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rw [View.canon_unit_zero (S := S1x512) zeros2]
  rfl

theorem sout0_B_0_eq : sout0_B_0 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = View.canon (dsPieces x0 x1 x2 x7 x8 xs0) := by
  unfold sout0_B_0; rw [View.read_writes_eq_canon _ _ _ (by exact fun _ => scover0_B_0 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rfl

theorem sout0_B_1_eq : sout0_B_1 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = dwoutSum x0 x1 x2 x7 xs1 := by
  unfold sout0_B_1; rw [View.read_writes_eq_canon _ _ _ (by exact fun _ => scover0_B_1 ..)]; unfold kernelRun0_B; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rw [View.canon_unit_zero (S := S1024x1024) zeros2]
  rfl

/-- A middle point. -/
theorem caseB :
    (out0_B_9 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      out0_B_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      out0_B_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      out0_B_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      sout0_B_0 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      sout0_B_1 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1) = point x0 x1 x2 x3 x4 x5 x7 x8 xo10 xo11 xo12 xs0 xs1 := by
  rw [out0_B_9_eq, out0_B_10_eq, out0_B_11_eq, out0_B_12_eq, sout0_B_0_eq, sout0_B_1_eq]
  rfl

end CaseB

section CaseC

variable (c : Dev nD) (i : grid0.Coords) (arg1 : Memref sig .tc .vmem S256x1024 .f32) (harg1 : arg1.IsWhole) (arg2 : Memref sig .tc .vmem S256x4224 .f32) (harg2 : arg2.IsWhole) (arg3 : Memref sig .tc .vmem S256x1024 .f32) (harg3 : arg3.IsWhole) (arg4 : Memref sig .tc .vmem S4x1024x128 .f32) (harg4 : arg4.IsWhole) (arg5 : Memref sig .tc .vmem S256x1024 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S256x3200 .bf16) (harg10 : arg10.IsWhole) (arg12 : Memref sig .tc .vmem S1x1024 .f32) (harg12 : arg12.IsWhole) (arg13 : Memref sig .tc .vmem S128x512 .f32) (harg13 : arg13.IsWhole) (arg14 : Memref sig .tc .vmem S1x512 .f32) (harg14 : arg14.IsWhole) (arg15 : Memref sig .tc .vmem S1024x128 .f32) (harg15 : arg15.IsWhole) (arg16 : Memref sig .tc .vmem S1024x1024 .f32) (harg16 : arg16.IsWhole) (arg17 : Memref sig .tc .vmem S1024x1024 .bf16) (harg17 : arg17.IsWhole) (hc0 : ¬cond0_0 i) (hc1 : cond0_1 i)
  (x0 : Vec F S256x1024 .f32) (x1 : Vec F S256x4224 .f32) (x2 : Vec F S256x1024 .f32) (x3 : Vec F S4x1024x128 .f32) (x4 : Vec F S256x1024 .bf16) (x5 : Vec F S128x512 .bf16) (x6 : Vec F S1x512 .f32) (x7 : Vec F S1x1024 .f32) (x8 : Vec F S1024x1024 .bf16) (xo10 : Vec F S1x1024 .f32) (xo11 : Vec F S128x512 .f32) (xo12 : Vec F S1x512 .f32) (xs0 : Vec F S1024x128 .f32) (xs1 : Vec F S1024x1024 .f32)

theorem out0_C_9_eq : out0_C_9 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = View.canon (dprojPieces x0 x1 x2 x3 x4 x5 x7 x8 xs0) := by
  unfold out0_C_9; rw [View.read_writes_eq_canon _ _ _ (by exact fun _ => cover0_C_9 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rfl

theorem out0_C_10_eq : out0_C_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = dhwSum x0 x1 x2 x8 xo10 := by
  unfold out0_C_10; rw [View.read_writes_eq_canon _ _ _ (by exact fun _ => cover0_C_10 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rw [View.canon_unit_zero (S := S1x1024) zeros2]
  rfl

theorem out0_C_11_eq : out0_C_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = dgkwSum x0 x1 x2 x3 x7 x8 xo11 xs0 := by
  unfold out0_C_11; rw [View.read_writes_eq_canon _ _ _ (by exact fun _ => cover0_C_11 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rw [View.canon_unit_zero (S := S128x512) zeros2]
  rfl

theorem out0_C_12_eq : out0_C_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = dgkbSum x0 x1 x2 x3 x7 x8 xo12 xs0 := by
  unfold out0_C_12; rw [View.read_writes_eq_canon _ _ _ (by exact fun _ => cover0_C_12 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rw [View.canon_unit_zero (S := S1x512) zeros2]
  rfl

theorem sout0_C_0_eq : sout0_C_0 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = View.canon (dsPieces x0 x1 x2 x7 x8 xs0) := by
  unfold sout0_C_0; rw [View.read_writes_eq_canon _ _ _ (by exact fun _ => scover0_C_0 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rfl

theorem sout0_C_1_eq : sout0_C_1 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1
    = dwoutSum x0 x1 x2 x7 xs1 := by
  unfold sout0_C_1; rw [View.read_writes_eq_canon _ _ _ (by exact fun _ => scover0_C_1 ..)]; unfold kernelRun0_C; dsimp only
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  rw [View.canon_unit_zero (S := S1024x1024) zeros2]
  rfl

/-- The last point. -/
theorem caseC :
    (out0_C_9 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      out0_C_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      out0_C_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      out0_C_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      sout0_C_0 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1,
      sout0_C_1 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8 xo10 xo11 xo12 xs0 xs1) = point x0 x1 x2 x3 x4 x5 x7 x8 xo10 xo11 xo12 xs0 xs1 := by
  rw [out0_C_9_eq, out0_C_10_eq, out0_C_11_eq, out0_C_12_eq, sout0_C_0_eq, sout0_C_1_eq]
  rfl

end CaseC

section CaseA

variable (c : Dev nD) (i : grid0.Coords) (arg1 : Memref sig .tc .vmem S256x1024 .f32) (harg1 : arg1.IsWhole) (arg2 : Memref sig .tc .vmem S256x4224 .f32) (harg2 : arg2.IsWhole) (arg3 : Memref sig .tc .vmem S256x1024 .f32) (harg3 : arg3.IsWhole) (arg4 : Memref sig .tc .vmem S4x1024x128 .f32) (harg4 : arg4.IsWhole) (arg5 : Memref sig .tc .vmem S256x1024 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S256x3200 .bf16) (harg10 : arg10.IsWhole) (arg12 : Memref sig .tc .vmem S1x1024 .f32) (harg12 : arg12.IsWhole) (arg13 : Memref sig .tc .vmem S128x512 .f32) (harg13 : arg13.IsWhole) (arg14 : Memref sig .tc .vmem S1x512 .f32) (harg14 : arg14.IsWhole) (arg15 : Memref sig .tc .vmem S1024x128 .f32) (harg15 : arg15.IsWhole) (arg16 : Memref sig .tc .vmem S1024x1024 .f32) (harg16 : arg16.IsWhole) (arg17 : Memref sig .tc .vmem S1024x1024 .bf16) (harg17 : arg17.IsWhole) (hc0 : cond0_0 i) (hc1 : ¬cond0_1 i)
  (x0 : Vec F S256x1024 .f32) (x1 : Vec F S256x4224 .f32) (x2 : Vec F S256x1024 .f32) (x3 : Vec F S4x1024x128 .f32) (x4 : Vec F S256x1024 .bf16) (x5 : Vec F S128x512 .bf16) (x6 : Vec F S1x512 .f32) (x7 : Vec F S1x1024 .f32) (x8 : Vec F S1024x1024 .bf16)

theorem out0_A_9_eq : out0_A_9 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8
    = View.canon (dprojPieces x0 x1 x2 x3 x4 x5 x7 x8 k0_pay4) := by
  unfold out0_A_9; rw [View.read_writes_eq_canon _ _ _ (by exact fun _ => cover0_A_9 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  repeat first
    | rw [View.readCov_unit_zero (S := S1024x1024) _ zeros2]
    | rw [View.readCov_unit_zero (S := S1x1024) _ zeros2]
    | rw [View.readCov_unit_zero (S := S1x512) _ zeros2]
    | rw [View.readCov_unit_zero (S := S128x512) _ zeros2]
    | rw [View.readCov_skip _ _ _ _ _ (by decide)]
    | rw [View.readCov_fill (s := S1024x128) _ _ _ _ _ (congrFun zeros2)]
  rfl

theorem out0_A_10_eq : out0_A_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8
    = dhwSum x0 x1 x2 x8 k0_pay6 := by
  unfold out0_A_10; rw [View.read_writes_eq_canon _ _ _ (by exact fun _ => cover0_A_10 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  repeat first
    | rw [View.readCov_unit_zero (S := S1024x1024) _ zeros2]
    | rw [View.readCov_unit_zero (S := S1x1024) _ zeros2]
    | rw [View.readCov_unit_zero (S := S1x512) _ zeros2]
    | rw [View.readCov_unit_zero (S := S128x512) _ zeros2]
    | rw [View.readCov_skip _ _ _ _ _ (by decide)]
    | rw [View.readCov_fill (s := S1024x128) _ _ _ _ _ (congrFun zeros2)]
  rw [View.canon_cons_unit_zero (S := S1x1024) zeros2]
  rfl

theorem out0_A_11_eq : out0_A_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8
    = dgkwSum x0 x1 x2 x3 x7 x8 k0_pay7 k0_pay4 := by
  unfold out0_A_11; rw [View.read_writes_eq_canon _ _ _ (by exact fun _ => cover0_A_11 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  repeat first
    | rw [View.readCov_unit_zero (S := S1024x1024) _ zeros2]
    | rw [View.readCov_unit_zero (S := S1x1024) _ zeros2]
    | rw [View.readCov_unit_zero (S := S1x512) _ zeros2]
    | rw [View.readCov_unit_zero (S := S128x512) _ zeros2]
    | rw [View.readCov_skip _ _ _ _ _ (by decide)]
    | rw [View.readCov_fill (s := S1024x128) _ _ _ _ _ (congrFun zeros2)]
  rw [View.canon_cons_unit_zero (S := S128x512) zeros2]
  rfl

theorem out0_A_12_eq : out0_A_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8
    = dgkbSum x0 x1 x2 x3 x7 x8 k0_pay8 k0_pay4 := by
  unfold out0_A_12; rw [View.read_writes_eq_canon _ _ _ (by exact fun _ => cover0_A_12 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  repeat first
    | rw [View.readCov_unit_zero (S := S1024x1024) _ zeros2]
    | rw [View.readCov_unit_zero (S := S1x1024) _ zeros2]
    | rw [View.readCov_unit_zero (S := S1x512) _ zeros2]
    | rw [View.readCov_unit_zero (S := S128x512) _ zeros2]
    | rw [View.readCov_skip _ _ _ _ _ (by decide)]
    | rw [View.readCov_fill (s := S1024x128) _ _ _ _ _ (congrFun zeros2)]
  rw [View.canon_cons_unit_zero (S := S1x512) zeros2]
  rfl

theorem sout0_A_0_eq : sout0_A_0 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8
    = View.canon (dsPieces x0 x1 x2 x7 x8 k0_pay4) := by
  unfold sout0_A_0; rw [View.read_writes_eq_canon _ _ _ (by exact fun _ => scover0_A_0 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  repeat first
    | rw [View.readCov_unit_zero (S := S1024x1024) _ zeros2]
    | rw [View.readCov_unit_zero (S := S1x1024) _ zeros2]
    | rw [View.readCov_unit_zero (S := S1x512) _ zeros2]
    | rw [View.readCov_unit_zero (S := S128x512) _ zeros2]
    | rw [View.readCov_skip _ _ _ _ _ (by decide)]
    | rw [View.readCov_fill (s := S1024x128) _ _ _ _ _ (congrFun zeros2)]
  funext y
  exact canon_append_left (dsPieces x0 x1 x2 x7 x8 k0_pay4) _ y (dsPieces_cover x0 x1 x2 x7 x8 k0_pay4 y)

theorem sout0_A_1_eq : sout0_A_1 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8
    = dwoutSum x0 x1 x2 x7 k0_pay5 := by
  unfold sout0_A_1; rw [View.read_writes_eq_canon _ _ _ (by exact fun _ => scover0_A_1 ..)]; unfold kernelRun0_A; dsimp only
  sl_unfold_words
  simp only [View.readAt_eq_ld, harg1.read_unread, harg2.read_unread, harg3.read_unread, harg4.read_unread, harg5.read_unread, harg6.read_unread, harg7.read_unread, harg8.read_unread, harg9.read_unread,
    View.ld_unit_zero (S := S256x1024) zeros2, View.ld_unit_zero (S := S128x512) zeros2, View.ld_unit_zero (S := S1x512) zeros2,
    View.ld_unit_zero (S := S1x1024) zeros2, View.ld_unit_zero (S := S1024x1024) zeros2]
  repeat first
    | rw [View.readCov_unit_zero (S := S1024x1024) _ zeros2]
    | rw [View.readCov_unit_zero (S := S1x1024) _ zeros2]
    | rw [View.readCov_unit_zero (S := S1x512) _ zeros2]
    | rw [View.readCov_unit_zero (S := S128x512) _ zeros2]
    | rw [View.readCov_skip _ _ _ _ _ (by decide)]
    | rw [View.readCov_fill (s := S1024x128) _ _ _ _ _ (congrFun zeros2)]
  rw [View.canon_cons_unit_zero (S := S1024x1024) zeros2]
  rfl

/-- The first point, from zeros. -/
theorem caseA :
    (out0_A_9 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8,
      out0_A_10 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8,
      out0_A_11 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8,
      out0_A_12 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8,
      sout0_A_0 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8,
      sout0_A_1 c i arg1 harg1 arg2 harg2 arg3 harg3 arg4 harg4 arg5 harg5 arg6 harg6 arg7 harg7 arg8 harg8 arg9 harg9 arg10 harg10 arg12 harg12 arg13 harg13 arg14 harg14 arg15 harg15 arg16 harg16 arg17 harg17 hc0 hc1 x0 x1 x2 x3 x4 x5 x6 x7 x8) = point x0 x1 x2 x3 x4 x5 x7 x8 k0_pay6 k0_pay7 k0_pay8 k0_pay4 k0_pay5 := by
  rw [out0_A_9_eq, out0_A_10_eq, out0_A_11_eq, out0_A_12_eq, sout0_A_0_eq, sout0_A_1_eq]
  rfl

end CaseA

end Cert.GlaBwdIdeal.Step

end
-- ==== Proof.GlaGrad.lean ====
/-
  The layer's five gradients over the reals, as sums over the chunks' rows.
-/
module

public import proofs.«01_k».proof.Proof.GlaModel

@[expose] public section

noncomputable section

namespace Cert.Gla

open scoped BigOperators

/-- A choice among four arrays side by side, by a column's array. -/
theorem pick_col {α : Type} (m : ℕ) (j : Fin 4) (t : Fin m) (i : ℕ) (hi : i = m * j.val + t.val) (hlt : i < m * 4) (f : Fin 4 → Fin m → α)
    (h3 : ¬ i < m → ¬ i - m < m → ¬ i - m - m < m → i - m - m - m < m) :
    (if h0 : i < m then f 0 ⟨i, h0⟩
    else if h1 : i - m < m then f 1 ⟨i - m, h1⟩
      else if h2 : i - m - m < m then f 2 ⟨i - m - m, h2⟩
        else f 3 ⟨i - m - m - m, h3 h0 h1 h2⟩) = f j t := by
  have ht := t.isLt
  have hj : m * j.val = 0 ∧ j.val = 0 ∨ m * j.val = m ∧ j.val = 1 ∨ m * j.val = m + m ∧ j.val = 2 ∨ m * j.val = m + m + m ∧ j.val = 3 := by
    fin_cases j <;> simp <;> omega
  split_ifs with h0 h1 h2
  · exact congrArg₂ f (Fin.ext (show 0 = j.val by omega)) (Fin.ext (show i = t.val by omega))
  · exact congrArg₂ f (Fin.ext (show 1 = j.val by omega)) (Fin.ext (show i - m = t.val by omega))
  · exact congrArg₂ f (Fin.ext (show 2 = j.val by omega)) (Fin.ext (show i - m - m = t.val by omega))
  · exact congrArg₂ f (Fin.ext (show 3 = j.val by omega)) (Fin.ext (show i - m - m - m = t.val by omega))

theorem kcol_cases (l : Fin 512) : ∃ h e, l = kcol h e :=
  ⟨⟨l.val / 128, by omega⟩, ⟨l.val % 128, by omega⟩, Fin.ext (by simp [kcol]; omega)⟩
theorem vcol_cases (l : Fin 1024) : ∃ h w, l = vcol h w :=
  ⟨⟨l.val / 256, by omega⟩, ⟨l.val % 256, by omega⟩, Fin.ext (by simp [vcol]; omega)⟩
theorem row_cases (r : Fin 4096) : ∃ n t, r = row n t :=
  ⟨⟨r.val / 64, by omega⟩, ⟨r.val % 64, by omega⟩, Fin.ext (by simp [row]; omega)⟩

theorem sum_kcol {M : Type*} [AddCommMonoid M] (f : Fin 512 → M) : ∑ l, f l = ∑ h : Fin 4, ∑ e : Fin 128, f (kcol h e) := by
  rw [← Fintype.sum_prod_type']
  refine (Fintype.sum_equiv (finProdFinEquiv (m := 4) (n := 128)) _ _ fun p => ?_).symm
  congr 1
  exact Fin.ext (by simp [kcol, finProdFinEquiv]; omega)

theorem sum_row {M : Type*} [AddCommMonoid M] (f : Fin 4096 → M) : ∑ l, f l = ∑ n : Fin 64, ∑ t : Fin 64, f (row n t) := by
  rw [← Fintype.sum_prod_type']
  refine (Fintype.sum_equiv (finProdFinEquiv (m := 64) (n := 64)) _ _ fun p => ?_).symm
  congr 1
  exact Fin.ext (by simp [row, finProdFinEquiv]; omega)

variable (x : Args)

/-- The decay gate's input and weight, padded with zeros to 128. -/
def lowP (r : Fin 4096) (i : Fin 128) : ℝ := if h : i.val < 16 then x.p r ⟨3072 + i.val, by omega⟩ else 0
@[inherit_doc lowP] def gwP (i : Fin 128) (l : Fin 512) : ℝ := if h : i.val < 16 then x.gw ⟨i.val, h⟩ l else 0

/-- The gradient of the decay gate's input. -/
def DLOW (n t : Fin 64) (i : Fin 128) : ℝ := ∑ h, ∑ e, DZ x n h t e * gwP x i (kcol h e)
/-- The normed and weighted output. -/
def ON (n : Fin 64) (h : Fin 4) (t : Fin 64) (w : Fin 256) : ℝ := XH x n h t w * x.hw w
/-- The gradient of the output gate's input. -/
def DGATE (n : Fin 64) (h : Fin 4) (t : Fin 64) (w : Fin 256) : ℝ :=
  DY x (row n t) (vcol h w) * ON x n h t w * (sgm (gate x (row n t) (vcol h w))
    * (1 + gate x (row n t) (vcol h w) * (1 - sgm (gate x (row n t) (vcol h w)))))

/-- One chunk's part of each weight's gradient. -/
def cHW (n : Fin 64) (h : Fin 4) (w : Fin 256) : ℝ := ∑ t, DON x (row n t) (vcol h w) * XH x n h t w
@[inherit_doc cHW] def cKW (n : Fin 64) (i : Fin 128) (h : Fin 4) (e : Fin 128) : ℝ := ∑ t, lowP x (row n t) i * DZ x n h t e
@[inherit_doc cHW] def cKB (n : Fin 64) (h : Fin 4) (e : Fin 128) : ℝ := ∑ t, DZ x n h t e
@[inherit_doc cHW] def cWO (n : Fin 64) (h : Fin 4) (w : Fin 256) (b : Fin 1024) : ℝ :=
  ∑ t, ON x n h t w * (gate x (row n t) (vcol h w) * sgm (gate x (row n t) (vcol h w))) * x.dh (row n t) b

/-- Sums over a stretch of a chunk's rows. -/
def part (n : ℕ) (f : Fin 64 → ℝ) (t : Fin 64) : ℝ := ∑ s : Fin 64, if t ≤ s ∧ s.val < t.val + n then f s else 0

theorem part_one (f : Fin 64 → ℝ) (t : Fin 64) : part 1 f t = f t := by
  unfold part
  rw [Finset.sum_congr rfl fun s _ => if_congr (show t ≤ s ∧ s.val < t.val + 1 ↔ s = t from ⟨fun ⟨a, b⟩ => Fin.ext (by have := Fin.le_def.mp a; omega), fun a => by subst a; exact ⟨le_rfl, by omega⟩⟩) rfl rfl]
  rw [Finset.sum_ite_eq' Finset.univ, if_pos (Finset.mem_univ _)]

theorem part_all (f : Fin 64 → ℝ) (t : Fin 64) : part 64 f t = ∑ s, if t ≤ s then f s else 0 :=
  Finset.sum_congr rfl fun s _ => if_congr ⟨fun a => a.1, fun a => ⟨a, by omega⟩⟩ rfl rfl

theorem part_double (n m : ℕ) (hm : m = 2 * n) (f : Fin 64 → ℝ) (t : Fin 64) :
    part m f t = part n f t + if h : t.val + n < 64 then part n f ⟨t.val + n, h⟩ else 0 := by
  subst hm
  split
  · next h =>
    unfold part
    rw [← Finset.sum_add_distrib]
    refine Finset.sum_congr rfl fun s _ => ?_
    simp only [Fin.le_def]
    split_ifs <;> first | omega | simp
  · next h =>
    rw [add_zero]
    exact Finset.sum_congr rfl fun s _ => if_congr ⟨fun a => ⟨a.1, by omega⟩, fun a => ⟨a.1, by omega⟩⟩ rfl rfl

/-- The rows of the gradient of the layer's input, by column. -/
structure DProj (n t : Fin 64) (f : Fin 3200 → EReal) : Prop where
  q : ∀ (h : Fin 4) (e : Fin 128), f ⟨128 * h.val + e.val, by omega⟩ = ((DQ x n h t e : ℝ) : EReal)
  k : ∀ (h : Fin 4) (e : Fin 128), f ⟨512 + 128 * h.val + e.val, by omega⟩ = ((DK x n h t e : ℝ) : EReal)
  v : ∀ (h : Fin 4) (w : Fin 256), f ⟨1024 + 256 * h.val + w.val, by omega⟩ = ((DV x n h t w : ℝ) : EReal)
  g : ∀ (h : Fin 4) (w : Fin 256), f ⟨2048 + (vcol h w).val, by omega⟩ = ((DGATE x n h t w : ℝ) : EReal)
  low : ∀ r : Fin 128, f ⟨3072 + r.val, by omega⟩ = ((DLOW x n t r : ℝ) : EReal)

/-- They determine it. -/
theorem DProj.ext {x} {n t : Fin 64} {f f' : Fin 3200 → EReal} (a : DProj x n t f) (b : DProj x n t f') (l : Fin 3200) : f l = f' l := by
  have hl := l.isLt
  by_cases c1 : l.val < 512
  · rw [show l = ⟨128 * (⟨l.val / 128, by omega⟩ : Fin 4).val + (⟨l.val % 128, by omega⟩ : Fin 128).val, by dsimp only; omega⟩ from Fin.ext (by dsimp only; omega), a.q, b.q]
  by_cases c2 : l.val < 1024
  · rw [show l = ⟨512 + 128 * (⟨(l.val - 512) / 128, by omega⟩ : Fin 4).val + (⟨(l.val - 512) % 128, by omega⟩ : Fin 128).val, by dsimp only; omega⟩ from Fin.ext (by dsimp only; omega), a.k, b.k]
  by_cases c3 : l.val < 2048
  · rw [show l = ⟨1024 + 256 * (⟨(l.val - 1024) / 256, by omega⟩ : Fin 4).val + (⟨(l.val - 1024) % 256, by omega⟩ : Fin 256).val, by dsimp only; omega⟩ from Fin.ext (by dsimp only; omega), a.v, b.v]
  by_cases c4 : l.val < 3072
  · obtain ⟨h, w, e⟩ := vcol_cases ⟨l.val - 2048, by omega⟩
    have e' := congrArg Fin.val e
    dsimp only at e'
    rw [show l = ⟨2048 + (vcol h w).val, by omega⟩ from Fin.ext (by dsimp only; omega), a.g, b.g]
  · rw [show l = ⟨3072 + (⟨l.val - 3072, by omega⟩ : Fin 128).val, by dsimp only; omega⟩ from Fin.ext (by dsimp only; omega), a.low, b.low]

/-- The five gradients. -/
structure Grads (a0 : Fin 4096 → Fin 3200 → EReal) (a1 : Fin 1024 → Fin 1024 → EReal) (a2 : Fin 1024 → EReal) (a3 : Fin 128 → Fin 512 → EReal)
    (a4 : Fin 512 → EReal) : Prop where
  proj : ∀ n t, DProj x n t (a0 (row n t))
  wo : ∀ h w b, a1 (vcol h w) b = ((∑ n, cWO x n h w b : ℝ) : EReal)
  hw : ∀ h w, a2 (vcol h w) = ((∑ n, cHW x n h w : ℝ) : EReal)
  kw : ∀ i h e, a3 i (kcol h e) = ((∑ n, cKW x n i h e : ℝ) : EReal)
  kb : ∀ h e, a4 (kcol h e) = ((∑ n, cKB x n h e : ℝ) : EReal)

/-- They determine the arrays. -/
theorem Grads.ext {x} {a0 b0 : Fin 4096 → Fin 3200 → EReal} {a1 b1 : Fin 1024 → Fin 1024 → EReal} {a2 b2 : Fin 1024 → EReal}
    {a3 b3 : Fin 128 → Fin 512 → EReal} {a4 b4 : Fin 512 → EReal} (a : Grads x a0 a1 a2 a3 a4) (b : Grads x b0 b1 b2 b3 b4) :
    (∀ r l, a0 r l = b0 r l) ∧ (∀ i l, a1 i l = b1 i l) ∧ (∀ l, a2 l = b2 l) ∧ (∀ i l, a3 i l = b3 i l) ∧ (∀ l, a4 l = b4 l) := by
  refine ⟨fun r l => ?_, fun i l => ?_, fun l => ?_, fun i l => ?_, fun l => ?_⟩
  · obtain ⟨n, t, rfl⟩ := row_cases r
    exact (a.proj n t).ext (b.proj n t) l
  · obtain ⟨h, w, rfl⟩ := vcol_cases i
    rw [a.wo, b.wo]
  · obtain ⟨h, w, rfl⟩ := vcol_cases l
    rw [a.hw, b.hw]
  · obtain ⟨h, e, rfl⟩ := kcol_cases l
    rw [a.kw, b.kw]
  · obtain ⟨h, e, rfl⟩ := kcol_cases l
    rw [a.kb, b.kb]

end Cert.Gla
-- ==== Proof.GlaPoint.lean ====
/-
  One grid point of the gated linear attention's backward over exact arithmetic: from blocks that hold a tile's rows of the inputs, of the
  saved values and of the carried state gradient, the point leaves the tile's rows of the gradients.
-/
module

public import proofs.«01_k».proof.Proof.GlaTile
public import proofs.«01_k».proof.Proof.GlaStep
public import proofs.«01_k».proof.Proof.GlaGrad
public import Idealize.ShloMosaic.Lib.Pipeline.ValueKit.Tiles

@[expose] public section

set_option maxRecDepth 16384

noncomputable section

namespace Cert.GlaBwdIdeal.Step

open Idealize.ShloMosaic Idealize.ShloMosaic.TcCoe Idealize.ShloMosaic.Tactic
open Cert.GlaBwdIdeal.Gen Cert.Gla Cert.GlaBwdIdeal.Head

abbrev ℐ := Idealize.ShloMosaic.Ideal

/-! ## Sums to a chunk's end by doubling -/

/-- One step of the doubling: add the row a given distance down, where it is in the chunk. -/
def stepOf (m a : BitVec 32) (y : FVec ℐ S256x512 .f32) : FVec ℐ S256x512 .f32 :=
  addf y (select (broadcastTo S256x512 (shapeCast S256x1 (cmpi .slt k0_pay294 (broadcast S256x1 m)) shapeCasts_S256x1_S256x1) broadcasts_S256x1_S256x512)
    (dynamicRotate 0 a none y rotates_S256x512_d0) (broadcast S256x512 (Scalar.ofBits .f32 0x00000000#32)))

theorem low_bits : ∀ (j : Fin 4) (t : Fin 64), IntOp.andi (BitVec.ofNat 32 (rw j t).val) 63#32 = BitVec.ofNat 32 t.val := by decide +kernel

theorem stepOf_at {y : FVec ℐ S256x512 .f32} {l : Fin 512} {Y : Fin 4 → Fin 64 → ℝ} (n n' m a : ℕ) (hn' : n' = 2 * n) (hn : n ≤ 32) (hm : m + n = 64)
    (ha : a + n = 256) (h : ∀ j t, y (ix2 (rw j t) l) = ((part n (Y j) t : ℝ) : EReal)) (j : Fin 4) (t : Fin 64) :
    stepOf (BitVec.ofNat 32 m) (BitVec.ofNat 32 a) y (ix2 (rw j t) l) = ((part n' (Y j) t : ℝ) : EReal) := by
  have hrot : ∀ p : t.val + n < 64, dynamicRotate 0 (BitVec.ofNat 32 a) none y rotates_S256x512_d0 (ix2 (rw j t) l) = y (ix2 (rw j ⟨t.val + n, p⟩) l) := by
    intro p
    rw [Pointwise.dynamicRotate_apply]
    congr 1
    funext b
    fin_cases b
    · refine Fin.ext ?_
      show (64 * j.val + t.val + 256 - ((BitVec.ofNat 32 a).toNat + 0) % 256) % 256 = 64 * j.val + (t.val + n)
      rw [BitVec.toNat_ofNat, Nat.mod_eq_of_lt (show a < 2 ^ 32 by omega)]
      omega
    · rfl
  have hcond : broadcastTo S256x512 (shapeCast S256x1 (cmpi .slt k0_pay294 (broadcast S256x1 (BitVec.ofNat 32 m))) shapeCasts_S256x1_S256x1)
      broadcasts_S256x1_S256x512 (ix2 (rw j t) l) = if t.val + n < 64 then 1#1 else 0#1 := by
    pointwise [k0_pay294]
    rw [low_bits, lt_word _ _ (by omega) (by omega)]
    exact if_congr (by omega) rfl rfl
  show y _ + Scalar.select (broadcastTo S256x512 (shapeCast S256x1 (cmpi .slt k0_pay294 (broadcast S256x1 (BitVec.ofNat 32 m))) shapeCasts_S256x1_S256x1)
      broadcasts_S256x1_S256x512 (ix2 (rw j t) l)) (dynamicRotate 0 (BitVec.ofNat 32 a) none y rotates_S256x512_d0 (ix2 (rw j t) l))
      (Ideal.ofBits .f32 0x00000000#32) = _
  rw [hcond, select_ite, h, part_double n n' hn']
  split
  · next p => rw [hrot p, h, ← EReal.coe_add]
  · rw [show Ideal.ofBits .f32 0x00000000#32 = ((0 : ℝ) : EReal) by simp [Ideal.ofBits, Ideal.ieee], ← EReal.coe_add]

/-! ## A tile -/

theorem sig_at (g : ℝ) : Ideal.div 1 (1 + Ideal.exp (0 - (g : EReal))) = ((sgm g : ℝ) : EReal) := by
  rw [neg_coe, Ideal.exp_coe, ← EReal.coe_one, ← EReal.coe_add, div_real _ _ (by positivity)]
  congr 1
  unfold sgm
  rw [one_div]

theorem word_inv16 : Ideal.ofBits .f32 0x3D800000#32 = ((1 / 16 : ℝ) : EReal) := by
  simp [Ideal.ofBits, Ideal.ieee, -EReal.coe_mul]; norm_num

/-- The blocks hold the chunks `N 0 … N 3`. -/
structure Tile (x : Args) (N : Fin 4 → Fin 64) (x0 : Vec ℐ S256x1024 .f32) (x1 : Vec ℐ S256x4224 .f32) (x2 : Vec ℐ S256x1024 .f32)
    (x3 : Vec ℐ S4x1024x128 .f32) (x4 : Vec ℐ S256x1024 .bf16) (x5 : Vec ℐ S128x512 .bf16) (x7 : Vec ℐ S1x1024 .f32)
    (x8 : Vec ℐ S1024x1024 .bf16) (s0 : Vec ℐ S1024x128 .f32) : Prop where
  dh : ∀ j t l, x0 (ix2 (rw j t) l) = ((x.dh (row (N j) t) l : ℝ) : EReal)
  p : ∀ j t (l : Fin 3088), x1 (ix2 (rw j t) ⟨l.val, by omega⟩) = ((x.p (row (N j) t) l : ℝ) : EReal)
  pad : ∀ j t (l : Fin 112), x1 (ix2 (rw j t) ⟨3088 + l.val, by omega⟩) = 0
  z : ∀ j t (l : Fin 512), x1 (ix2 (rw j t) ⟨3200 + l.val, by omega⟩) = ((Z x (row (N j) t) l : ℝ) : EReal)
  c : ∀ h j t e, x1 (ix2 (rw j t) ⟨3712 + (kcol h e).val, by omega⟩) = ((C x (N j) h t e : ℝ) : EReal)
  o : ∀ h, VCols h x2 fun j => O x (N j) h
  st : ∀ j h w e, x3 (ix3 j (vcol h w) e) = ((ST x (N j) h w e : ℝ) : EReal)
  sc : ∀ h j t i s, x4 (ix2 (rw j t) (vcol h (rw i s))) = ((if j = i then cSC (Q x (N j) h) (K x (N j) h) (C x (N j) h) t s else 0 : ℝ) : EReal)
  gw : Reals (e := .bf16) x5 (gwP x)
  hw : ∀ h w, x7 (ix2 0 (vcol h w)) = ((x.hw w : ℝ) : EReal)
  ow : Reals (e := .bf16) x8 x.ow
  ds : ∀ h w e, s0 (ix2 (vcol h w) e) = ((G x (N 3) h w e : ℝ) : EReal)
  next : ∀ i j : Fin 4, j.val = i.val + 1 → (N j).val = (N i).val + 1

section Read
variable {x : Args} {N : Fin 4 → Fin 64} {x0 : Vec ℐ S256x1024 .f32} {x1 : Vec ℐ S256x4224 .f32} {x2 : Vec ℐ S256x1024 .f32}
    {x3 : Vec ℐ S4x1024x128 .f32} {x4 : Vec ℐ S256x1024 .bf16} {x5 : Vec ℐ S128x512 .bf16} {x7 : Vec ℐ S1x1024 .f32}
    {x8 : Vec ℐ S1024x1024 .bf16} {s0 : Vec ℐ S1024x128 .f32}
variable (T : Tile x N x0 x1 x2 x3 x4 x5 x7 x8 s0)

include T in
theorem q_at (h : Fin 4) : KCols h (qOf x1) fun j => Q x (N j) h := by
  intro j t e
  have e1 : x1 (ix2 (rw j t) ⟨(kcol h e).val, by omega⟩) = _ := T.p j t ⟨128 * h.val + e.val, by omega⟩
  pointwise [qOf, k0_pay55]
  rw [e1, word_scale, mul_coe]; rfl

include T in
theorem k_at (h : Fin 4) : KCols h (kOf x1) fun j => K x (N j) h := by
  intro j t e
  pointwise [kOf, k0_pay48]
  exact T.p j t ⟨512 + (128 * h.val + e.val), by omega⟩

include T in
theorem v_at (h : Fin 4) : VCols h (vOf x1) fun j => V x (N j) h := by
  intro j t e
  pointwise [vOf, k0_pay49]
  exact T.p j t ⟨1024 + (256 * h.val + e.val), by omega⟩

include T in
theorem c_at (h : Fin 4) : KCols h (cOf x1) fun j => C x (N j) h := by
  intro j t e
  pointwise [cOf, k0_pay54]
  exact T.c h j t e

include T in
theorem z_at (j : Fin 4) (t : Fin 64) (l : Fin 512) : zOf x1 (ix2 (rw j t) l) = ((Z x (row (N j) t) l : ℝ) : EReal) := by
  pointwise [zOf, k0_pay53]
  exact T.z j t l

include T in
theorem gate_at (j : Fin 4) (t : Fin 64) (l : Fin 1024) : gateIn x1 (ix2 (rw j t) l) = ((gate x (row (N j) t) l : ℝ) : EReal) := by
  pointwise [gateIn]
  exact T.p j t ⟨2048 + l.val, by omega⟩

include T in
theorem low_at (j : Fin 4) (t : Fin 64) (i : Fin 128) : lowOf x1 (ix2 (rw j t) i) = ((lowP x (row (N j) t) i : ℝ) : EReal) := by
  pointwise [lowOf, k0_pay12]
  unfold lowP
  split
  · exact T.p j t ⟨3072 + i.val, by omega⟩
  · next hi =>
    have e : (⟨3072 + i.val, by omega⟩ : Fin 4224) = ⟨3088 + (⟨i.val - 16, by omega⟩ : Fin 112).val, by omega⟩ := Fin.ext (by simp only []; omega)
    exact (congrArg (fun l => x1 (ix2 (rw j t) l)) e).trans (T.pad j t ⟨i.val - 16, by omega⟩)

include T in
theorem st_at (h j : Fin 4) (w : Fin 256) (e : Fin 128) : stAt h j x3 (ix3 0 w e) = ((ST x (N j) h w e : ℝ) : EReal) :=
  (View.ld_unit_apply_of _ _ _ _ _ (ix3 j (vcol h w) e) fun a => by fin_cases a <;> simp [vcol]).trans (T.st j h w e)

include T in
theorem sc_at (h j : Fin 4) (t : Fin 64) (i : Fin 4) (s : Fin 64) :
    scAt h x4 (ix2 (rw j t) (rw i s)) = ((if j = i then cSC (Q x (N j) h) (K x (N j) h) (C x (N j) h) t s else 0 : ℝ) : EReal) :=
  (View.ld_unit_apply_of _ _ _ _ _ (ix2 (rw j t) (vcol h (rw i s))) fun a => by fin_cases a <;> simp [vcol]).trans (T.sc h j t i s)

include T in
theorem ds_at (h : Fin 4) : Reals (dsAt h s0) (G x (N 3) h) := fun w e =>
  (View.ld_unit_apply_of _ _ _ _ _ (ix2 (vcol h w) e) fun a => by fin_cases a <;> simp [vcol]).trans (T.ds h w e)

include T in
theorem don_at (h : Fin 4) : VCols h (donOf x0 x1 x8) fun j t w => DON x (row (N j) t) (vcol h w) := by
  intro j t w
  pointwise [donOf, k0_pay16, k0_pay10, k0_pay9, k0_pay15, k0_pay14, k0_pay11]
  simp only [T.dh j t, T.ow (vcol h w), gate_at T, sig_at, mul_coe, ← coe_sum]
  rfl

include T in
theorem o_at (h : Fin 4) : VCols h (k0_pay13 x2) fun j => O x (N j) h := by
  intro j t w
  pointwise [k0_pay13]
  exact T.o h j t w

include T in
theorem do_row (h : Fin 4) : Rows (doAt h x0 x1 x2 x7 x8) fun j => DO x (N j) h :=
  do_at (o_at T h) (don_at T h) (T.hw h)

include T in
theorem dv_row (h : Fin 4) : Rows (dvAt h x0 x1 x2 x4 x7 x8 s0) fun j => DV x (N j) h :=
  dv_at (q_at T h) (k_at T h) (c_at T h) (do_row T h) (Gr := fun j => G x (N j) h) (ds_at T h)
    (fun i j hij w e => G_step x _ _ (T.next i j hij) h w e) (sc_at T h)

include T in
theorem dq_row (h : Fin 4) : Rows (dqAt h x0 x1 x2 x3 x7 x8) fun j => DQ x (N j) h :=
  dq_at (st := fun j => stAt h j x3) (k_at T h) (c_at T h) (v_at T h) (do_row T h) (st_at T h)

include T in
theorem dk_row (h : Fin 4) : Rows (dkAt h x0 x1 x2 x7 x8 s0) fun j => DK x (N j) h :=
  dk_at (q_at T h) (c_at T h) (v_at T h) (do_row T h) (Gr := fun j => G x (N j) h) (ds_at T h)
    (fun i j hij w e => G_step x _ _ (T.next i j hij) h w e)

include T in
theorem dc_row (h : Fin 4) : Rows (dcAt h x0 x1 x2 x3 x7 x8 s0) fun j => DC x (N j) h :=
  dc_at (st := fun j => stAt h j x3) (q_at T h) (k_at T h) (c_at T h) (v_at T h) (do_row T h) (st_at T h) (Gr := fun j => G x (N j) h) (ds_at T h)
    (fun i j hij w e => G_step x _ _ (T.next i j hij) h w e)

include T in
theorem ds_new (h : Fin 4) (m : Fin 64) (hm : (N 0).val = m.val + 1) : Reals (dsNew h x0 x1 x2 x7 x8 s0) (G x m h) := by
  intro w e
  pointwise [dsNew]
  exact (dsOut_at (q_at T h) (c_at T h) (do_row T h) (Gr := fun j => G x (N j) h) (ds_at T h)
    (fun i j hij w e => G_step x _ _ (T.next i j hij) h w e) w e).trans (congrArg _ (G_step x m (N 0) hm h w e).symm)

/-! ## The decay's gradient -/

include T in
theorem dcAll_at (h j : Fin 4) (t : Fin 64) (e : Fin 128) : dcAll x0 x1 x2 x3 x7 x8 s0 (ix2 (rw j t) (kcol h e)) = ((DC x (N j) h t e : ℝ) : EReal) := by
  pointwise [dcAll]
  exact (pick_col 128 h e (kcol h e).val rfl (kcol h e).isLt (fun h e => dcAt h x0 x1 x2 x3 x7 x8 s0 (ix2 (rw j t) e)) (by have := (kcol h e).isLt; omega)).trans (dc_row T h j t e)

include T in
theorem scan_at (h j : Fin 4) (t : Fin 64) (e : Fin 128) :
    scanOf x0 x1 x2 x3 x7 x8 s0 (ix2 (rw j t) (kcol h e)) = ((∑ s, if t ≤ s then DC x (N j) h s e else 0 : ℝ) : EReal) := by
  rw [← part_all (fun s => DC x (N j) h s e)]
  have h1 : ∀ j t, dcAll x0 x1 x2 x3 x7 x8 s0 (ix2 (rw j t) (kcol h e)) = ((part 1 (fun s => DC x (N j) h s e) t : ℝ) : EReal) := fun j t => by
    rw [part_one, dcAll_at T]
  exact stepOf_at 32 64 32 224 rfl (by omega) rfl rfl (stepOf_at 16 32 48 240 rfl (by omega) rfl rfl (stepOf_at 8 16 56 248 rfl (by omega) rfl rfl
    (stepOf_at 4 8 60 252 rfl (by omega) rfl rfl (stepOf_at 2 4 62 254 rfl (by omega) rfl rfl (stepOf_at (Y := fun j s => DC x (N j) h s e) 1 2 63 255 rfl (by omega) rfl rfl h1))))) j t

include T in
theorem dz_at (h j : Fin 4) (t : Fin 64) (e : Fin 128) : dzbOf x0 x1 x2 x3 x7 x8 s0 (ix2 (rw j t) (kcol h e)) = ((DZ x (N j) h t e : ℝ) : EReal) := by
  pointwise [dzbOf, k0_pay299, k0_pay298]
  rw [scan_at T, z_at T, sig_at, word_inv16, mul_coe, ← EReal.coe_one, ← EReal.coe_sub, mul_coe]
  unfold DZ
  congr 1
  ring

include T in
theorem dlow_at (j : Fin 4) (t : Fin 64) (i : Fin 128) : k0_pay2 (dzbOf x0 x1 x2 x3 x7 x8 s0) x5 (ix2 (rw j t) i) = ((DLOW x (N j) t i : ℝ) : EReal) := by
  pointwise [k0_pay2]
  rw [sum_kcol]
  simp only [dz_at T, T.gw i, mul_coe, ← coe_sum]
  rfl

/-! ## The output gate's gradient -/

include T in
theorem on_pick (h j : Fin 4) (t : Fin 64) (w : Fin 256) : onOf h (k0_pay13 x2) x7 (ix2 (rw j t) w) = ((ON x (N j) h t w : ℝ) : EReal) :=
  on_at (o_at T h) (T.hw h) j t w

include T in
theorem dgate_at (h j : Fin 4) (t : Fin 64) (w : Fin 256) : gateOf x0 x1 x2 x7 x8 (ix2 (rw j t) (vcol h w)) = ((DGATE x (N j) h t w : ℝ) : EReal) := by
  pointwise [gateOf, k0_pay46, k0_pay10, k0_pay9, k0_pay43, k0_pay14, k0_pay11]
  rw [pick_col 256 h w (vcol h w).val rfl (vcol h w).isLt (fun h w => onOf h (k0_pay13 x2) x7 (ix2 (rw j t) w)) (by have := (vcol h w).isLt; omega)]
  simp only [T.dh j t, T.ow (vcol h w), gate_at T, sig_at, on_pick T, mul_coe, ← coe_sum]
  simp only [mul_coe, ← EReal.coe_one, ← EReal.coe_sub, ← EReal.coe_add]
  rfl

/-! ## The sums -/

variable {z10 : Vec ℐ S1x1024 .f32} {z11 : Vec ℐ S128x512 .f32} {z12 : Vec ℐ S1x512 .f32} {s1 : Vec ℐ S1024x1024 .f32} (y : ℝ)

include T in
theorem dhw_sum (h : Fin 4) (w : Fin 256) (hy : z10 (ix2 0 (vcol h w)) = (y : EReal)) :
    dhwSum x0 x1 x2 x8 z10 (ix2 0 (vcol h w)) = ((y + ∑ j, cHW x (N j) h w : ℝ) : EReal) := by
  pointwise [dhwSum]
  rw [pick_col 256 h w (vcol h w).val rfl (vcol h w).isLt (fun h w => dhwOf h (k0_pay13 x2) (donOf x0 x1 x8) (ix2 0 w)) (by have := (vcol h w).isLt; omega)]
  rw [hy, dhw_at (o_at T h) (don_at T h), ← EReal.coe_add]
  rfl

include T in
theorem dgkw_sum (i : Fin 128) (h : Fin 4) (e : Fin 128) (hy : z11 (ix2 i (kcol h e)) = (y : EReal)) :
    dgkwSum x0 x1 x2 x3 x7 x8 z11 s0 (ix2 i (kcol h e)) = ((y + ∑ j, cKW x (N j) i h e : ℝ) : EReal) := by
  pointwise [dgkwSum, k0_pay1, k0_pay301]
  rw [sum_rows, hy]
  simp only [low_at T, dz_at T, mul_coe, ← coe_sum, ← EReal.coe_add]
  rfl

include T in
theorem dgkb_sum (h : Fin 4) (e : Fin 128) (hy : z12 (ix2 0 (kcol h e)) = (y : EReal)) :
    dgkbSum x0 x1 x2 x3 x7 x8 z12 s0 (ix2 0 (kcol h e)) = ((y + ∑ j, cKB x (N j) h e : ℝ) : EReal) := by
  pointwise [dgkbSum, k0_pay300]
  show z12 (ix2 0 (kcol h e)) + ∑ r, dzbOf x0 x1 x2 x3 x7 x8 s0 (ix2 r (kcol h e)) = _
  rw [sum_rows, hy]
  simp only [dz_at T, ← coe_sum, ← EReal.coe_add]
  rfl

include T in
theorem dwout_sum (h : Fin 4) (w : Fin 256) (b : Fin 1024) (hy : s1 (ix2 (vcol h w) b) = (y : EReal)) :
    dwoutSum x0 x1 x2 x7 s1 (ix2 (vcol h w) b) = ((y + ∑ j, cWO x (N j) h w b : ℝ) : EReal) := by
  have pick : ∀ r, k0_pay43 (onOf 0 (k0_pay13 x2) x7) (onOf 1 (k0_pay13 x2) x7) (onOf 2 (k0_pay13 x2) x7) (onOf 3 (k0_pay13 x2) x7)
      (ix2 r (vcol h w)) = onOf h (k0_pay13 x2) x7 (ix2 r w) := fun r => by
    pointwise [k0_pay43]
    exact pick_col 256 h w (vcol h w).val rfl (vcol h w).isLt (fun h w => onOf h (k0_pay13 x2) x7 (ix2 r w)) (by have := (vcol h w).isLt; omega)
  pointwise [dwoutSum, k0_pay44, k0_pay9, k0_pay15, k0_pay14, k0_pay11]
  refine (congrArg (s1 (ix2 (vcol h w) b) + ·) (Finset.sum_congr rfl fun r _ => congrArg (· * _ * x0 (ix2 r b)) (pick r))).trans ?_
  rw [sum_rows, hy]
  simp only [T.dh _ _ b, gate_at T, sig_at, on_pick T, mul_coe, ← coe_sum, ← EReal.coe_add]
  rfl
end Read

end Cert.GlaBwdIdeal.Step
-- ==== Proof.GlaColumns.lean ====
/-
  The block of `dproj` a grid point stores, read at a column: queries, keys, values, output gate or decay gate, whichever the column is of.
-/
module

public import proofs.«01_k».proof.Proof.GlaPoint

@[expose] public section

set_option maxRecDepth 16384

noncomputable section

namespace Cert.GlaBwdIdeal.Step

open Idealize.ShloMosaic Idealize.ShloMosaic.TcCoe Idealize.ShloMosaic.Tactic
open Cert.GlaBwdIdeal.Gen Cert.Gla Cert.GlaBwdIdeal.Head

variable {x0 : Vec ℐ S256x1024 .f32} {x1 : Vec ℐ S256x4224 .f32} {x2 : Vec ℐ S256x1024 .f32}
    {x3 : Vec ℐ S4x1024x128 .f32} {x4 : Vec ℐ S256x1024 .bf16} {x5 : Vec ℐ S128x512 .bf16} {x7 : Vec ℐ S1x1024 .f32}
    {x8 : Vec ℐ S1024x1024 .bf16} {s0 : Vec ℐ S1024x128 .f32}

theorem head_mem (h : Fin 4) (p) (hp : p ∈ headPieces h x0 x1 x2 x3 x4 x7 x8 s0) : p ∈ dprojPieces x0 x1 x2 x3 x4 x5 x7 x8 s0 := by
  unfold dprojPieces
  simp only [List.mem_cons, List.mem_append]
  fin_cases h
  · exact Or.inr (Or.inr (Or.inr (Or.inr (Or.inl hp))))
  · exact Or.inr (Or.inr (Or.inr (Or.inl hp)))
  · exact Or.inr (Or.inr (Or.inl hp))
  · exact Or.inr (Or.inl hp)

theorem dproj_cover (i : Fin 256) (l : Fin 3200) : ∃ p ∈ dprojPieces x0 x1 x2 x3 x4 x5 x7 x8 s0, (ix2 i l : S256x3200.Idx) ∈ p.1.set := by
  have hl := l.isLt
  have hi := i.isLt
  by_cases c1 : l.val < 512
  · refine ⟨_, head_mem ⟨l.val / 128, by omega⟩ _ (by unfold headPieces; exact List.mem_cons_of_mem _ List.mem_cons_self), ?_⟩
    rw [Rect.mem_set_unit]; intro a
    fin_cases a <;> simp <;> omega
  by_cases c2 : l.val < 1024
  · refine ⟨_, head_mem ⟨(l.val - 512) / 128, by omega⟩ _ (by unfold headPieces; exact List.mem_cons_self), ?_⟩
    rw [Rect.mem_set_unit]; intro a
    fin_cases a <;> simp <;> omega
  by_cases c3 : l.val < 2048
  · refine ⟨_, head_mem ⟨(l.val - 1024) / 256, by omega⟩ _ (by unfold headPieces; exact List.mem_cons_of_mem _ (List.mem_cons_of_mem _ List.mem_cons_self)), ?_⟩
    rw [Rect.mem_set_unit]; intro a
    fin_cases a <;> simp <;> omega
  by_cases c4 : l.val < 3072
  · refine ⟨⟨Rect.unit ![0, 2048] S256x1024.size inb_S256x3200_S256x1024_0_2048, gateOf x0 x1 x2 x7 x8⟩, by unfold dprojPieces; simp, ?_⟩
    rw [Rect.mem_set_unit]; intro a
    fin_cases a <;> simp <;> omega
  · refine ⟨_, by unfold dprojPieces; exact List.mem_cons_self, ?_⟩
    rw [Rect.mem_set_unit]; intro a
    fin_cases a <;> simp <;> omega

/-- An index of a block of columns. -/
theorem idx_eq {n : ℕ} (i : Fin 256) (x : (⟨2, ![256, n]⟩ : Shape).Idx) (h : (i : ℕ) = 0 + (x 0 : ℕ)) : x = ix2 i ⟨(x 1).val, (x 1).isLt⟩ :=
  funext fun a => by
    fin_cases a
    · exact Fin.ext (h.trans (Nat.zero_add _)).symm
    · rfl

theorem dproj_at (i : Fin 256) (l : Fin 3200) (v : EReal)
    (hq : ∀ (h : Fin 4) (e : Fin 128), l.val = 128 * h.val + e.val → dqAt h x0 x1 x2 x3 x7 x8 (ix2 i e) = v)
    (hk : ∀ (h : Fin 4) (e : Fin 128), l.val = 512 + 128 * h.val + e.val → dkAt h x0 x1 x2 x7 x8 s0 (ix2 i e) = v)
    (hv : ∀ (h : Fin 4) (w : Fin 256), l.val = 1024 + 256 * h.val + w.val → dvAt h x0 x1 x2 x4 x7 x8 s0 (ix2 i w) = v)
    (hg : ∀ g : Fin 1024, l.val = 2048 + g.val → gateOf x0 x1 x2 x7 x8 (ix2 i g) = v)
    (hr : ∀ r : Fin 128, l.val = 3072 + r.val → k0_pay2 (dzbOf x0 x1 x2 x3 x7 x8 s0) x5 (ix2 i r) = v) :
    View.canon (dprojPieces x0 x1 x2 x3 x4 x5 x7 x8 s0) (ix2 i l) = v := by
  refine View.canon_eq_of_allAt _ _ _ (dproj_cover i l) ?_
  have head : ∀ (h : Fin 4) L, View.AllAt L (ix2 i l : S256x3200.Idx) v → View.AllAt (headPieces h x0 x1 x2 x3 x4 x7 x8 s0 ++ L) (ix2 i l) v := by
    intro h L hL
    exact View.allAt_cons_unit _ _ _ _ _ (fun x hx => (congrArg _ (idx_eq i x (hx 0))).trans (hk h ⟨(x 1).val, (x 1).isLt⟩ (hx 1)))
      (View.allAt_cons_unit _ _ _ _ _ (fun x hx => (congrArg _ (idx_eq i x (hx 0))).trans (hq h ⟨(x 1).val, (x 1).isLt⟩ (hx 1)))
        (View.allAt_cons_unit _ _ _ _ _ (fun x hx => (congrArg _ (idx_eq i x (hx 0))).trans (hv h ⟨(x 1).val, (x 1).isLt⟩ (hx 1))) hL))
  unfold dprojPieces
  exact View.allAt_cons_unit _ _ _ _ _ (fun x hx => (congrArg _ (idx_eq i x (hx 0))).trans (hr ⟨(x 1).val, (x 1).isLt⟩ (hx 1)))
    (head 3 _ (head 2 _ (head 1 _ (head 0 _
      (View.allAt_cons_unit _ _ _ _ _ (fun x hx => (congrArg _ (idx_eq i x (hx 0))).trans (hg ⟨(x 1).val, (x 1).isLt⟩ (hx 1))) (View.allAt_nil _ _))))))

variable {x : Args} {N : Fin 4 → Fin 64} (T : Tile x N x0 x1 x2 x3 x4 x5 x7 x8 s0)
include T

theorem dproj_tile (j : Fin 4) (t : Fin 64) :
    DProj x (N j) t fun l => View.canon (dprojPieces x0 x1 x2 x3 x4 x5 x7 x8 s0) (ix2 (rw j t) l) where
  q h e := dproj_at _ _ _
    (fun h' e' q => by
      dsimp only at q
      obtain rfl : h = h' := Fin.ext (by omega)
      obtain rfl : e = e' := Fin.ext (by omega)
      exact dq_row T h j t e)
    (fun h' e' q => by dsimp only at q; omega) (fun h' e' q => by dsimp only at q; omega) (fun g q => by dsimp only at q; omega) (fun g q => by dsimp only at q; omega)
  k h e := dproj_at _ _ _ (fun h' e' q => by dsimp only at q; omega)
    (fun h' e' q => by
      dsimp only at q
      obtain rfl : h = h' := Fin.ext (by omega)
      obtain rfl : e = e' := Fin.ext (by omega)
      exact dk_row T h j t e)
    (fun h' e' q => by dsimp only at q; omega) (fun g q => by dsimp only at q; omega) (fun g q => by dsimp only at q; omega)
  v h w := dproj_at _ _ _ (fun h' e' q => by dsimp only at q; omega) (fun h' e' q => by dsimp only at q; omega)
    (fun h' e' q => by
      dsimp only at q
      obtain rfl : h = h' := Fin.ext (by omega)
      obtain rfl : w = e' := Fin.ext (by omega)
      exact dv_row T h j t w)
    (fun g q => by dsimp only at q; omega) (fun g q => by dsimp only at q; omega)
  g h w := dproj_at _ _ _ (fun h' e' q => by dsimp only at q; omega) (fun h' e' q => by dsimp only at q; omega) (fun h' e' q => by dsimp only at q; omega)
    (fun g q => by
      dsimp only at q
      obtain rfl : vcol h w = g := Fin.ext (by omega)
      exact dgate_at T h j t w)
    (fun g q => by have := (vcol h w).isLt; dsimp only at q; omega)
  low r := dproj_at _ _ _ (fun h' e' q => by dsimp only at q; omega) (fun h' e' q => by dsimp only at q; omega) (fun h' e' q => by dsimp only at q; omega)
    (fun g q => by dsimp only at q; omega)
    (fun g q => by
      dsimp only at q
      obtain rfl : r = g := Fin.ext (by omega)
      exact dlow_at T j t r)

/-- The carried state gradient after the tile, the one before its first chunk. -/
theorem carried_at (m : Fin 64) (hm : (N 0).val = m.val + 1) (h : Fin 4) (w : Fin 256) (e : Fin 128) :
    View.canon (dsPieces x0 x1 x2 x7 x8 s0) (ix2 (vcol h w) e) = ((G x m h w e : ℝ) : EReal) := by
  refine View.canon_eq_of_allAt _ _ _ (dsPieces_cover x0 x1 x2 x7 x8 s0 _) ?_
  have piece : ∀ (h' : Fin 4) (y : S256x128.Idx), (∀ a, ((ix2 (vcol h w) e : S1024x128.Idx) a : ℕ) = (![256 * h'.val, 0] : Fin 2 → ℕ) a + (y a : ℕ)) →
      dsNew h' x0 x1 x2 x7 x8 s0 y = ((G x m h w e : ℝ) : EReal) := by
    intro h' y hy
    have q : 256 * h.val + w.val = 256 * h'.val + (y 0).val := hy 0
    have hb : (y 0).val < 256 := (y 0).isLt
    obtain rfl : h = h' := Fin.ext (by omega)
    rw [show y = ix2 w e from funext fun a => by
      fin_cases a
      · exact Fin.ext (show (y 0).val = w.val by omega)
      · exact Fin.ext ((hy 1).trans (Nat.zero_add _)).symm]
    exact ds_new T h m hm w e
  unfold dsPieces
  exact View.allAt_cons_unit _ _ _ _ _ (piece 3) (View.allAt_cons_unit _ _ _ _ _ (piece 2) (View.allAt_cons_unit _ _ _ _ _ (piece 1)
    (View.allAt_cons_unit _ _ _ _ _ (piece 0) (View.allAt_nil _ _))))

end Cert.GlaBwdIdeal.Step
-- ==== Proof.GlaLast.lean ====
/-
  The last grid point of the gated linear attention's backward, with what its copy out leaves named: after the body the output weight's
  gradient in HBM holds the rounded accumulator.  (The generated run of this case says of that array only that it is still held.)
-/
module

public import proofs.«01_k».proof.Proof.GlaStep

@[expose] public section

set_option maxRecDepth 16384

noncomputable section

namespace Cert.GlaBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.GlaBwdIdeal.Gen

variable {F : FTy → Type} [FloatOps F]

local notation "𝕄" => MT nD τ sig Unit (Elt F) ℕ (Pipeline.UD sig nD τ) ℕ

/-- What covering stores left, read back, is the canonical contents. -/
theorem read_canon {sp : Space} {S : Shape} {e : EltTy} (v : View sig .tc sp S e) (f) (L : List (View.Piece (Elt F) S e)) (size : Fin S.rank → ℕ)
    (hc : ∀ y, ∃ p ∈ L, y ∈ p.1.set) (X : Vec F S e) (h : View.canon L = X) : v.read (Elt F) (v.writes (Elt F) f L) = X :=
  (View.read_writes_eq_canon _ _ _ hc).trans h

set_option maxHeartbeats 3200000 in
/-- The body at the last point, on whole buffers. -/
theorem last_run (c : Dev nD) (i : grid0.Coords) (arg1 : Memref sig .tc .vmem S256x1024 .f32) (harg1 : arg1.IsWhole) (arg2 : Memref sig .tc .vmem S256x4224 .f32) (harg2 : arg2.IsWhole) (arg3 : Memref sig .tc .vmem S256x1024 .f32) (harg3 : arg3.IsWhole) (arg4 : Memref sig .tc .vmem S4x1024x128 .f32) (harg4 : arg4.IsWhole) (arg5 : Memref sig .tc .vmem S256x1024 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S256x3200 .bf16) (harg10 : arg10.IsWhole) (arg12 : Memref sig .tc .vmem S1x1024 .f32) (harg12 : arg12.IsWhole) (arg13 : Memref sig .tc .vmem S128x512 .f32) (harg13 : arg13.IsWhole) (arg14 : Memref sig .tc .vmem S1x512 .f32) (harg14 : arg14.IsWhole) (arg15 : Memref sig .tc .vmem S1024x128 .f32) (harg15 : arg15.IsWhole) (arg16 : Memref sig .tc .vmem S1024x1024 .f32) (harg16 : arg16.IsWhole) (arg17 : Memref sig .tc .vmem S1024x1024 .bf16) (harg17 : arg17.IsWhole) (hc0 : ¬cond0_0 i) (hc1 : cond0_1 i)
    (x0 : Vec F S256x1024 .f32) (x1 : Vec F S256x4224 .f32) (x2 : Vec F S256x1024 .f32) (x3 : Vec F S4x1024x128 .f32) (x4 : Vec F S256x1024 .bf16) (x5 : Vec F S128x512 .bf16) (x6 : Vec F S1x512 .f32) (x7 : Vec F S1x1024 .f32) (x8 : Vec F S1024x1024 .bf16) (xo10 : Vec F S1x1024 .f32) (xo11 : Vec F S128x512 .f32) (xo12 : Vec F S1x512 .f32) (xs0 : Vec F S1024x128 .f32) (xs1 : Vec F S1024x1024 .f32)
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ owns (c : Thread nD τ) arg12 fullShare xo10 ∗ owns (c : Thread nD τ) arg13 fullShare xo11 ∗ owns (c : Thread nD τ) arg14 fullShare xo12 ∗ owns (c : Thread nD τ) arg15 fullShare xs0 ∗ owns (c : Thread nD τ) arg16 fullShare xs1
        ∗ (∃ d, owns (c : Thread nD τ) arg17 fullShare d) ∗ semVal ((c : Thread nD τ), SemLoc.dma 19) 0
        ∗ (∃ f, hbPt0 c hbM0_0 f) ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
          ∗ owns (c : Thread nD τ) arg10 fullShare (point x0 x1 x2 x3 x4 x5 x7 x8 xo10 xo11 xo12 xs0 xs1).1
          ∗ owns (c : Thread nD τ) arg12 fullShare (point x0 x1 x2 x3 x4 x5 x7 x8 xo10 xo11 xo12 xs0 xs1).2.1
          ∗ owns (c : Thread nD τ) arg13 fullShare (point x0 x1 x2 x3 x4 x5 x7 x8 xo10 xo11 xo12 xs0 xs1).2.2.1
          ∗ owns (c : Thread nD τ) arg14 fullShare (point x0 x1 x2 x3 x4 x5 x7 x8 xo10 xo11 xo12 xs0 xs1).2.2.2.1
          ∗ owns (c : Thread nD τ) arg15 fullShare (point x0 x1 x2 x3 x4 x5 x7 x8 xo10 xo11 xo12 xs0 xs1).2.2.2.2.1
          ∗ owns (c : Thread nD τ) arg16 fullShare (point x0 x1 x2 x3 x4 x5 x7 x8 xo10 xo11 xo12 xs0 xs1).2.2.2.2.2
          ∗ (∃ d, owns (c : Thread nD τ) arg17 fullShare d) ∗ semVal ((c : Thread nD τ), SemLoc.dma 19) 0
          ∗ hbPt0 c hbM0_0 (k0_pay3 (point x0 x1 x2 x3 x4 x5 x7 x8 xo10 xo11 xo12 xs0 xs1).2.2.2.2.2)
          ∗ (∃ W', owes (c : Thread nD τ) 0 W')) -∗ K ⟨⟩))
      ⊢ wp frame (wpE (defs₀ (F := F)) Variants.none c none) Set.univ (cc0_gla_bwd i arg1 harg1 arg2 harg2 arg3 harg3 arg4 harg4 arg5 harg5 arg6 harg6 arg7 harg7 arg8 harg8 arg9 harg9 arg10 harg10 (Memref.whole main_v86_1) (Memref.isWhole_whole _)
          arg12 harg12 arg13 harg13 arg14 harg14 arg15 harg15 arg16 harg16 arg17 harg17 cc0_scoped0) K := by
  simp only [cc0_gla_bwd_eq_skeleton]; unfold cc0_gla_bwd_skel
  simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, ⟨%f10, %hf10, H10⟩, ⟨%f11, %hf11, H11⟩, ⟨%f12, %hf12, H12⟩, ⟨%fs0, %hfs0, HS0⟩,
    ⟨%fs1, %hfs1, HS1⟩, ⟨%ds2, %fs2, -, HS2⟩, Hq0, ⟨%fw0, Hh0⟩, HW, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg12.eq_unread hf10
  obtain rfl := harg13.eq_unread hf11
  obtain rfl := harg14.eq_unread hf12
  obtain rfl := harg15.eq_unread hfs0
  obtain rfl := harg16.eq_unread hfs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; sl_unfold_words
    refine read_canon (F := F) (S := S256x3200) _ _ _ S256x3200.size (View.cover_of_tiledBy (s := S256x3200) _ ![256, 128] (by sl_kernel_rfl)) _ ?_
    simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
        View.ld_unit_zero (S := S256x1024) zeros2, View.ld_unit_zero (S := S128x512) zeros2, View.ld_unit_zero (S := S1x512) zeros2,
        View.ld_unit_zero (S := S1x1024) zeros2, View.ld_unit_zero (S := S1024x1024) zeros2]; rfl
  isplitl [H10]
  · iexists _; isplitr; swap; · iexact H10
    ipureintro; sl_unfold_words
    refine read_canon (F := F) (S := S1x1024) _ _ _ S1x1024.size (View.cover_of_tiledL (s := S1x1024) _ S1x1024.size (by sl_kernel_rfl)) _ ?_
    simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
        View.ld_unit_zero (S := S256x1024) zeros2, View.ld_unit_zero (S := S128x512) zeros2, View.ld_unit_zero (S := S1x512) zeros2,
        View.ld_unit_zero (S := S1x1024) zeros2, View.ld_unit_zero (S := S1024x1024) zeros2]; rw [View.canon_unit_zero (S := S1x1024) zeros2]; rfl
  isplitl [H11]
  · iexists _; isplitr; swap; · iexact H11
    ipureintro; sl_unfold_words
    refine read_canon (F := F) (S := S128x512) _ _ _ S128x512.size (View.cover_of_tiledL (s := S128x512) _ S128x512.size (by sl_kernel_rfl)) _ ?_
    simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
        View.ld_unit_zero (S := S256x1024) zeros2, View.ld_unit_zero (S := S128x512) zeros2, View.ld_unit_zero (S := S1x512) zeros2,
        View.ld_unit_zero (S := S1x1024) zeros2, View.ld_unit_zero (S := S1024x1024) zeros2]; rw [View.canon_unit_zero (S := S128x512) zeros2]; rfl
  isplitl [H12]
  · iexists _; isplitr; swap; · iexact H12
    ipureintro; sl_unfold_words
    refine read_canon (F := F) (S := S1x512) _ _ _ S1x512.size (View.cover_of_tiledL (s := S1x512) _ S1x512.size (by sl_kernel_rfl)) _ ?_
    simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
        View.ld_unit_zero (S := S256x1024) zeros2, View.ld_unit_zero (S := S128x512) zeros2, View.ld_unit_zero (S := S1x512) zeros2,
        View.ld_unit_zero (S := S1x1024) zeros2, View.ld_unit_zero (S := S1024x1024) zeros2]; rw [View.canon_unit_zero (S := S1x512) zeros2]; rfl
  isplitl [HS0]
  · iexists _; isplitr; swap; · iexact HS0
    ipureintro; sl_unfold_words
    refine read_canon (F := F) (S := S1024x128) _ _ _ S1024x128.size (View.cover_of_tiledL (s := S1024x128) _ S256x128.size (by sl_kernel_rfl)) _ ?_
    simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
        View.ld_unit_zero (S := S256x1024) zeros2, View.ld_unit_zero (S := S128x512) zeros2, View.ld_unit_zero (S := S1x512) zeros2,
        View.ld_unit_zero (S := S1x1024) zeros2, View.ld_unit_zero (S := S1024x1024) zeros2]; rfl
  isplitl [HS1]
  · iexists _; isplitr; swap; · iexact HS1
    ipureintro; sl_unfold_words
    refine read_canon (F := F) (S := S1024x1024) _ _ _ S1024x1024.size (View.cover_of_tiledL (s := S1024x1024) _ S1024x1024.size (by sl_kernel_rfl)) _ ?_
    simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
        View.ld_unit_zero (S := S256x1024) zeros2, View.ld_unit_zero (S := S128x512) zeros2, View.ld_unit_zero (S := S1x512) zeros2,
        View.ld_unit_zero (S := S1x1024) zeros2, View.ld_unit_zero (S := S1024x1024) zeros2]; rw [View.canon_unit_zero (S := S1024x1024) zeros2]; rfl
  isplitl [HS2]
  · iexists _, _; isplitr; swap; · iexact HS2
    ipureintro; rfl
  isplitl [Hq0]; · iexact Hq0
  isplitl [Hh0]
  · rw [show k0_pay3 (point x0 x1 x2 x3 x4 x5 x7 x8 xo10 xo11 xo12 xs0 xs1).2.2.2.2.2 = View.write (Elt F) (Memref.whole main_v86_1).view fw0 ?w0 Finset.univ from ?h0]
    · iexact Hh0
    case h0 =>
      erw [View.write_whole_univ]
      sl_unfold_words
      symm
      refine read_canon (F := F) (S := S1024x1024) _ _ _ S1024x1024.size (View.cover_of_tiledL (s := S1024x1024) _ S1024x1024.size (by sl_kernel_rfl)) _ ?_
      simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, harg16.read_unread,
        View.ld_unit_zero (S := S256x1024) zeros2, View.ld_unit_zero (S := S128x512) zeros2, View.ld_unit_zero (S := S1x512) zeros2,
        View.ld_unit_zero (S := S1x1024) zeros2, View.ld_unit_zero (S := S1024x1024) zeros2]
      rw [View.readCov_unit_zero (S := S1024x1024) _ zeros2, View.canon_unit_zero (S := S1024x1024) zeros2]; rfl
  iexists _; iexact HW

end Cert.GlaBwdIdeal.Step

end
-- ==== Proof.GlaNamed.lean ====
/-
  The run of the gated linear attention's backward with all five results named: the four the pipeline writes back, and the output weight's
  gradient, which the last grid point copies out itself.
-/
module

public import proofs.«01_k».proof.Proof.GlaLast
public import Idealize.ShloMosaic.Lib.Pipeline.FrameValue

@[expose] public section

set_option maxRecDepth 16384

noncomputable section

namespace Cert.GlaBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.GlaBwdIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a point leaves is `point` -/

theorem outs_first (c : Dev nD) (t : Fin cfg0.N) (h0 : t.val % 16 = 0) (h1 : ¬t.val % 16 = 15) :
    outsAt0 m c t.val t.isLt = point (iblk m c 0 t) (iblk m c 1 t) (iblk m c 2 t) (iblk m c 3 t) (iblk m c 4 t) (iblk m c 5 t) (iblk m c 7 t) (iblk m c 8 t) k0_pay6 k0_pay7 k0_pay8 k0_pay4 k0_pay5 :=
  (outsAt0_A m c t h0 h1).trans (caseA ..)

/-- The point before's values. -/
abbrev prevOf (c : Dev nD) (t : Fin cfg0.N) := outsAt0 m c (t.val - 1) (Nat.lt_of_le_of_lt (Nat.sub_le _ _) t.isLt)

theorem outs_mid (c : Dev nD) (t : Fin cfg0.N) (h0 : ¬t.val % 16 = 0) (h1 : ¬t.val % 16 = 15) :
    outsAt0 m c t.val t.isLt = point (iblk m c 0 t) (iblk m c 1 t) (iblk m c 2 t) (iblk m c 3 t) (iblk m c 4 t) (iblk m c 5 t) (iblk m c 7 t) (iblk m c 8 t) (prevOf m c t).2.1 (prevOf m c t).2.2.1 (prevOf m c t).2.2.2.1 (prevOf m c t).2.2.2.2.1 (prevOf m c t).2.2.2.2.2 :=
  (outsAt0_B m c t h0 h1).trans (caseB ..)

theorem outs_last (c : Dev nD) (t : Fin cfg0.N) (h0 : ¬t.val % 16 = 0) (h1 : t.val % 16 = 15) :
    outsAt0 m c t.val t.isLt = point (iblk m c 0 t) (iblk m c 1 t) (iblk m c 2 t) (iblk m c 3 t) (iblk m c 4 t) (iblk m c 5 t) (iblk m c 7 t) (iblk m c 8 t) (prevOf m c t).2.1 (prevOf m c t).2.2.1 (prevOf m c t).2.2.2.1 (prevOf m c t).2.2.2.2.1 (prevOf m c t).2.2.2.2.2 :=
  (outsAt0_C m c t h0 h1).trans (caseC ..)

/-! ## The invariant with the copied array named after the last point -/

theorem lt_N : 15 < cfg0.N := lt_of_lt_of_eq (by omega : 15 < 16) (show cfg0.N = 16 from N_0).symm

/-- After the last point: the invariant, with the array the body copied out at the rounded accumulator. -/
def PhiEnd (c : Dev nD) : sProp 𝕄 :=
  iprop(iprop(owns (c : Thread nD τ) scM0_0 fullShare ((outsAt0 m c 15 lt_N).2.2.2.2.1) ∗ owns (c : Thread nD τ) scM0_1 fullShare ((outsAt0 m c 15 lt_N).2.2.2.2.2) ∗ (∃ d, owns (c : Thread nD τ) scM0_2 fullShare d)) ∗ (∃ r, prngReg c r) ∗ iprop(semVal ((c : Thread nD τ), SemLoc.dma 19) 0) ∗ iprop(emp)
    ∗ iprop(hbPt0 c hbM0_0 (k0_pay3 (outsAt0 m c 15 lt_N).2.2.2.2.2)))

/-- The invariant before position `n`: the generated one before the end. -/
def PhiN (c : Dev nD) (n : ℕ) (h : n ≤ cfg0.N) : sProp 𝕄 := if n = 16 then PhiEnd m c else PhiS m c n h

/-- The generated proof data, with this invariant. -/
def datsN (_ : Fin 1) (c : Dev nD) : Dat τ (Elt F) Unit ℕ (Pipeline.UD sig nD τ) ℕ cfg0 c :=
  { dats m 0 c with Φ := fun t => PhiN m c t.val (Nat.le_of_lt_succ t.isLt) }

theorem A_eqN (c : Dev nD) (w : Fin cfg0.W) : (datsN m 0 c).A w = V m c (Pipeline.arrRef spec0 w) := A_eq m c w

theorem before_eq (c : Dev nD) (w : Fin cfg0.W) (t : Fin cfg0.N) (d) : (datsN m 0 c).before w t d = (dats m 0 c).before w t d := by
  unfold Dat.before Dat.found Dat.kept; rfl

theorem after_eq (c : Dev nD) (w : Fin cfg0.W) (t : Fin cfg0.N) : (datsN m 0 c).after w t = (dats m 0 c).after w t := rfl

theorem Phi_castSucc (c : Dev nD) (t : Fin cfg0.N) : (datsN m 0 c).Φ t.castSucc = (dats m 0 c).Φ t.castSucc := by
  have hN : t.val < 16 := lt_of_lt_of_eq t.isLt (show cfg0.N = 16 from N_0)
  show PhiN m c t.val _ = _
  unfold PhiN; rw [if_neg (by omega)]; rfl

theorem Phi_succ (c : Dev nD) (t : Fin cfg0.N) (h : ¬ t.val = 15) : (datsN m 0 c).Φ t.succ = (dats m 0 c).Φ t.succ := by
  show PhiN m c (t.val + 1) _ = _
  unfold PhiN; rw [if_neg (by omega)]; rfl

theorem Phi_end (c : Dev nD) (t : Fin cfg0.N) (h : t.val = 15) : (datsN m 0 c).Φ t.succ = PhiEnd m c := by
  show PhiN m c (t.val + 1) _ = _
  unfold PhiN; rw [if_pos (by omega)]

/-- What the body returns at the last point. -/
def endPost (c : Dev nD) (t : Fin cfg0.N) : sProp 𝕄 :=
  iprop(PhiEnd m c ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 3200000 in
/-- The body at the last point. -/
theorem sound_last (c : Dev nD) (t : Fin cfg0.N) (ht : t.val = 15) :
    bodyPre m c t ⊢ wp frame (wpE (defs₀ (F := F)) Variants.none c none) Set.univ (bodyAt0 t) (fun _ => endPost m c t) := by
  have h0 : ¬t.val % 16 = 0 := by omega
  have h1 : t.val % 16 = 15 := by omega
  have hz : t.val ≠ 0 := by omega
  have e15 : outsAt0 m c 15 lt_N = point (iblk m c 0 t) (iblk m c 1 t) (iblk m c 2 t) (iblk m c 3 t) (iblk m c 4 t) (iblk m c 5 t) (iblk m c 7 t) (iblk m c 8 t) (prevOf m c t).2.1 (prevOf m c t).2.2.1 (prevOf m c t).2.2.2.1 (prevOf m c t).2.2.2.2.1 (prevOf m c t).2.2.2.2.2 := by
    rw [← outs_last m c t h0 h1]; congr 1; exact ht.symm
  unfold bodyPre endPost bodyAt0 PhiEnd
  simp only [before0_0, before0_1, before0_2, before0_3, before0_4, before0_5, before0_6, before0_7, before0_8]
  rw [after0_0, after0_1, after0_2, after0_3, after0_4, after0_5, after0_6, after0_7, after0_8, after0_9, after0_10, after0_11, after0_12]
  unfold Dat.owesAt Pipeline.owesWithin
  rw [show (dats m 0 c).owed t.castSucc = 0 from rfl, show (dats m 0 c).owed t.succ = 0 from rfl]
  rw [PhiS_castSucc m c t, PhiS_pos m c _ _ hz]
  simp only [before0_10_C m c t h0 h1, before0_11_C m c t h0 h1, before0_12_C m c t h0 h1]
  rw [outs_last m c t h0 h1, e15]
  iintro ⟨⟨⟨HS0, HS1, HS2⟩, Hg, Hq0, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (last_run c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (prevOf m c t).2.1 (prevOf m c t).2.2.1 (prevOf m c t).2.2.2.1 (prevOf m c t).2.2.2.2.1 (prevOf m c t).2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [HS0]; · iexact HS0
  isplitl [HS1]; · iexact HS1
  isplitl [HS2]; · iexact HS2
  isplitl [Hq0]; · iexact Hq0
  isplitl [Hh0]; · iexact Hh0
  isplitl [HW]; · iexact HW
  iintro ⟨H0, H1, H2, H3, H4, H5, H6, H7, H8, H9, H10, H11, H12, HS0, HS1, HS2, Hq0, Hh0, ⟨%W', HW'⟩⟩
  isplitl [HS0 HS1 HS2 Hg Hq0 Hh0]
  · isplitl [HS0 HS1 HS2]
    · isplitl [HS0]; · iexact HS0
      isplitl [HS1]; · iexact HS1
      iexact HS2
    isplitl [Hg]; · iexact Hg
    isplitl [Hq0]; · iexact Hq0
    isplitr; · iempintro
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem owes_eq (c : Dev nD) (t : Fin (cfg0.N + 1)) : (datsN m 0 c).owesAt () t = (dats m 0 c).owesAt () t := rfl

set_option maxHeartbeats 3200000 in
/-- The body obligation for the data with this invariant. -/
theorem body_obligationN (c : Dev nD) : BodyObligation (datsN (F := F) m 0 c) (defs₀ (F := F)) Variants.none () Set.univ := fun t => by
  rw [bigSep_W0, bigSep_W0, defs₀_row, Phi_castSucc]
  simp only [before_eq, after_eq]
  by_cases h : t.val = 15
  · rw [Phi_end m c t h]
    exact triple_restated (sound_last m c t h) rfl .rfl fun _ => .rfl
  · rw [Phi_succ m c t h]
    exact triple_restated (sound_body m c t) rfl .rfl fun _ => .rfl

/-- The contents of the buffers after the region, the copied one included. -/
def GN (c : Dev nD) : (b : Ref sig .tc) → Buf (Elt F) ((c.tc : Thread nD τ).loc b) :=
  Function.update (V m c) main_v86_1 (k0_pay3 (outsAt0 m c 15 lt_N).2.2.2.2.2)

theorem routed_eq (c : Dev nD) :
    (Pipeline.routed R0 c (GN m c) : sProp 𝕄) = iprop(hbPt0 c hbM0_0 (k0_pay3 (outsAt0 m c 15 lt_N).2.2.2.2.2)) := by
  unfold Pipeline.routed; rw [BI.bigSep_eq_bigSepL_of_eq [main_v86_1] (by decide) (by decide)]
  simp only [BI.bigSepL_singleton, GN, Function.update_self]

theorem hinN (c : Dev nD) : Pipeline.ΦDRG osem0 spec0 H0 R0 (V m) (V m) c ⊢ (datsN m 0 c).Φ 0 := by
  refine (Pipeline.ΦDRG_ΦDR osem0 spec0 H0 R0 (V m) (V m) c).trans ((hin m c).trans ?_)
  rw [show (datsN m 0 c).Φ 0 = (dats m 0 c).Φ 0 from by show PhiN m c 0 (Nat.zero_le _) = _; unfold PhiN; rw [if_neg (by omega)]; rfl]

theorem houtN (c : Dev nD) : (datsN m 0 c).Φ (Fin.last cfg0.N) ⊢ Pipeline.ΦDRG osem0 spec0 H0 R0 (V m) (GN m) c := by
  have e : (datsN m 0 c).Φ (Fin.last cfg0.N) = PhiEnd m c := by
    show PhiN m c (Fin.last cfg0.N).val (le_of_eq (Fin.val_last _)) = _
    unfold PhiN; rw [if_pos (by rw [Fin.val_last]; exact N_0)]
  rw [e, Pipeline.ΦDRG_eq, scopedRest0_eq, ownSems00_eq, hbmPts0_eq, routed_eq]
  unfold PhiEnd
  simp only [scM0_0, scM0_1, scM0_2, owns_whole]
  iintro ⟨⟨HS0, HS1, HS2⟩, Hg, Hq0, He, Hh0⟩
  isplitl [HS0 HS1 HS2]
  · isplitl [HS0]
    · iexists _; iexact HS0
    isplitl [HS1]
    · iexists _; iexact HS1
    iexact HS2
  isplitl [Hg]; · iexact Hg
  isplitl [Hq0]; · iexact Hq0
  isplitl [He]; · iexact He
  iexact Hh0

set_option backward.isDefEq.respectTransparency.types false in
/-- The launch, with every array after the run named. -/
theorem run_named : θ_run defs (onTc (τ := τ) (main (F := F))) (s₀ m ρ)
    (fun r => (Pipeline.FramePostRG cfgs (datsN m) 0 R0 (V m) (GN m)) r ∧ r.2.sem = fun _ => 0) :=
  Pipeline.θ_run_frame_dmaRG (Q' := _) cfgs (datsN m) (0 : Fin 1) launch0 osem0 defs₀ Variants.none ownSemFacts0 H0 R0 H0_sub R0_sub m ρ main
    (hbody := fun c => (body_obligationN m c).loose) (hshare := fun c => (datsN m 0 c).share_full fun _ => rfl)
    (howed := fun _ _ => rfl) (V := V m) (hmain := hmain m Variants.none) (hA := A_eqN m) (G := GN m)
    (hin := hinN m) (hout := houtN m)

theorem arr_eq (c : Dev nD) (w : Fin cfg0.W) (n : ℕ) : (datsN m 0 c).arrAt w n = (dats m 0 c).arrAt w n := by
  induction n with
  | zero => rfl
  | succ n ih => unfold Dat.arrAt; rw [ih]; rfl

set_option maxHeartbeats 1600000 in
/-- The five results after the run. -/
theorem run_results : θ_run defs (onTc (τ := τ) (main (F := F))) ⟨m, fun _ => 0, ρ⟩ fun r => ∀ c : Dev nD,
      r.2.mem ((c : Thread nD τ).loc main_v86_0) = (dats m 0 c).arrAt 9 cfg0.N
      ∧ r.2.mem ((c : Thread nD τ).loc main_v86_1) = k0_pay3 (outsAt0 m c 15 lt_N).2.2.2.2.2
      ∧ r.2.mem ((c : Thread nD τ).loc main_v86_2) = (dats m 0 c).arrAt 10 cfg0.N
      ∧ r.2.mem ((c : Thread nD τ).loc main_v86_3) = (dats m 0 c).arrAt 11 cfg0.N
      ∧ r.2.mem ((c : Thread nD τ).loc main_v86_4) = (dats m 0 c).arrAt 12 cfg0.N :=
  (θ_run defs _ _).mono (fun r h c => ⟨((h.1.toR c).1 9).trans (arr_eq m c 9 _),
      (h.1.written c (b := main_v86_1) (by decide)).trans (by unfold GN; rw [Function.update_self]),
      ((h.1.toR c).1 10).trans (arr_eq m c 10 _), ((h.1.toR c).1 11).trans (arr_eq m c 11 _), ((h.1.toR c).1 12).trans (arr_eq m c 12 _)⟩)
    (run_named m ρ)

end Cert.GlaBwdIdeal.Step

end
-- ==== Proof.GlaSweep.lean ====
/-
  What the five arrays of the gated linear attention's backward hold after the run, over exact arithmetic, when the arrays the region finds
  hold the layer's inputs and saved values.  Grid point `k` handles the chunks `4 (15 - k)` to `4 (15 - k) + 3`; what it carries to the next
  point is the gradient of the state before its first chunk, and the sums of the weights' gradients so far.
-/
module

public import proofs.«01_k».proof.Proof.GlaColumns
public import proofs.«01_k».proof.Proof.GlaNamed
public import Idealize.ShloMosaic.Lib.Pipeline.ValueKit

@[expose] public section

set_option maxRecDepth 16384

noncomputable section

namespace Cert.GlaBwdIdeal.Step

open Idealize.ShloMosaic Idealize.ShloMosaic.TcCoe
open Cert.GlaBwdIdeal.Gen Cert.Gla Cert.GlaBwdIdeal.Head

/-- The arrays hold the layer's inputs and saved values. -/
structure Saved (x : Args) (A0 : Vec ℐ S4096x1024 .f32) (A1 : Vec ℐ S4096x4224 .f32) (A2 : Vec ℐ S4096x1024 .f32)
    (A3 : Vec ℐ S64x1024x128 .f32) (A4 : Vec ℐ S4096x1024 .bf16) (A5 : Vec ℐ S128x512 .bf16) (A7 : Vec ℐ S1x1024 .f32)
    (A8 : Vec ℐ S1024x1024 .bf16) : Prop where
  dh : ∀ n t l, A0 (ix2 (row n t) l) = ((x.dh (row n t) l : ℝ) : EReal)
  p : ∀ n t (l : Fin 3088), A1 (ix2 (row n t) ⟨l.val, by omega⟩) = ((x.p (row n t) l : ℝ) : EReal)
  pad : ∀ n t (l : Fin 112), A1 (ix2 (row n t) ⟨3088 + l.val, by omega⟩) = 0
  z : ∀ n t (l : Fin 512), A1 (ix2 (row n t) ⟨3200 + l.val, by omega⟩) = ((Z x (row n t) l : ℝ) : EReal)
  c : ∀ h n t e, A1 (ix2 (row n t) ⟨3712 + (kcol h e).val, by omega⟩) = ((C x n h t e : ℝ) : EReal)
  o : ∀ h n t w, A2 (ix2 (row n t) (vcol h w)) = ((O x n h t w : ℝ) : EReal)
  st : ∀ n h w e, A3 (ix3 n (vcol h w) e) = ((ST x n h w e : ℝ) : EReal)
  sc : ∀ h n t (i : Fin 4) s, A4 (ix2 (row n t) (vcol h (rw i s))) = ((if n.val % 4 = i.val then cSC (Q x n h) (K x n h) (C x n h) t s else 0 : ℝ) : EReal)
  gw : ∀ i l, A5 (ix2 i l) = ((gwP x i l : ℝ) : EReal)
  hw : ∀ h w, A7 (ix2 0 (vcol h w)) = ((x.hw w : ℝ) : EReal)
  ow : ∀ i l, A8 (ix2 i l) = ((x.ow i l : ℝ) : EReal)

/-! ## The blocks a point reads -/

variable (m : (ℓ : Loc nD τ sig) → Buf (Elt ℐ) ℓ) (c : Dev nD)

/-- The chunks point `k` handles. -/
def chunk (k : ℕ) (j : Fin 4) : Fin 64 := ⟨4 * (15 - k) + j.val, by omega⟩

theorem idx_rows : ∀ t : Fin cfg0.N, win0_0.index t = ![15 - t.val, 0] ∧ win0_1.index t = ![15 - t.val, 0] ∧ win0_2.index t = ![15 - t.val, 0]
    ∧ win0_3.index t = ![15 - t.val, 0, 0] ∧ win0_4.index t = ![15 - t.val, 0] ∧ win0_9.index t = ![15 - t.val, 0] :=
  (by decide +kernel : ∀ t : Fin grid0.N, win0_0.index t = ![15 - t.val, 0] ∧ win0_1.index t = ![15 - t.val, 0] ∧ win0_2.index t = ![15 - t.val, 0]
    ∧ win0_3.index t = ![15 - t.val, 0, 0] ∧ win0_4.index t = ![15 - t.val, 0] ∧ win0_9.index t = ![15 - t.val, 0])
theorem idx_whole : ∀ t : Fin cfg0.N, win0_5.index t = ![0, 0] ∧ win0_7.index t = ![0, 0] ∧ win0_8.index t = ![0, 0] :=
  (by decide +kernel : ∀ t : Fin grid0.N, win0_5.index t = ![0, 0] ∧ win0_7.index t = ![0, 0] ∧ win0_8.index t = ![0, 0])

theorem blk0 (t : Fin cfg0.N) (j : Fin 4) (s : Fin 64) (l : Fin 1024) : iblk m c 0 t (ix2 (rw j s) l) = V m c main_arg5 (ix2 (row (chunk t.val j) s) l) := by
  have e := (idx_rows t).1
  blk_ext [iblk, row, rw, chunk, e]
theorem blk1 (t : Fin cfg0.N) (j : Fin 4) (s : Fin 64) (l : Fin 4224) : iblk m c 1 t (ix2 (rw j s) l) = V m c main_v66 (ix2 (row (chunk t.val j) s) l) := by
  have e := (idx_rows t).2.1
  blk_ext [iblk, row, rw, chunk, e]
theorem blk2 (t : Fin cfg0.N) (j : Fin 4) (s : Fin 64) (l : Fin 1024) : iblk m c 2 t (ix2 (rw j s) l) = V m c main_v63 (ix2 (row (chunk t.val j) s) l) := by
  have e := (idx_rows t).2.2.1
  blk_ext [iblk, row, rw, chunk, e]
theorem blk3 (t : Fin cfg0.N) (j : Fin 4) (l : Fin 1024) (q : Fin 128) : iblk m c 3 t (ix3 j l q) = V m c main_v75 (ix3 (chunk t.val j) l q) := by
  have e := (idx_rows t).2.2.2.1
  blk_ext [iblk, chunk, e]
theorem blk4 (t : Fin cfg0.N) (j : Fin 4) (s : Fin 64) (l : Fin 1024) : iblk m c 4 t (ix2 (rw j s) l) = V m c main_v77 (ix2 (row (chunk t.val j) s) l) := by
  have e := (idx_rows t).2.2.2.2.1
  blk_ext [iblk, row, rw, chunk, e]
theorem blk5 (t : Fin cfg0.N) (a : Fin 128) (l : Fin 512) : iblk m c 5 t (ix2 a l) = V m c main_v80 (ix2 a l) := by
  have e := (idx_whole t).1
  blk_ext [iblk, e]
theorem blk7 (t : Fin cfg0.N) (a : Fin 1) (l : Fin 1024) : iblk m c 7 t (ix2 a l) = V m c main_v83 (ix2 a l) := by
  have e := (idx_whole t).2.1
  blk_ext [iblk, e]
theorem blk8 (t : Fin cfg0.N) (a l : Fin 1024) : iblk m c 8 t (ix2 a l) = V m c main_v85 (ix2 a l) := by
  have e := (idx_whole t).2.2
  blk_ext [iblk, e]

variable {x : Args}

/-- What a point finds: the sums over the tiles before, and the gradient of the state after its last chunk. -/
structure Found (x : Args) (k : ℕ) (z10 : Vec ℐ S1x1024 .f32) (z11 : Vec ℐ S128x512 .f32) (z12 : Vec ℐ S1x512 .f32) (s0 : Vec ℐ S1024x128 .f32)
    (s1 : Vec ℐ S1024x1024 .f32) : Prop where
  hw : ∀ h w, z10 (ix2 0 (vcol h w)) = ((∑ i ∈ Finset.range k, ∑ j, cHW x (chunk i j) h w : ℝ) : EReal)
  kw : ∀ a h e, z11 (ix2 a (kcol h e)) = ((∑ i ∈ Finset.range k, ∑ j, cKW x (chunk i j) a h e : ℝ) : EReal)
  kb : ∀ h e, z12 (ix2 0 (kcol h e)) = ((∑ i ∈ Finset.range k, ∑ j, cKB x (chunk i j) h e : ℝ) : EReal)
  wo : ∀ h w b, s1 (ix2 (vcol h w) b) = ((∑ i ∈ Finset.range k, ∑ j, cWO x (chunk i j) h w b : ℝ) : EReal)
  ds : k < 16 → ∀ h w e, s0 (ix2 (vcol h w) e) = ((G x (chunk k 3) h w e : ℝ) : EReal)

theorem found_first : Found x 0 (k0_pay6 (F := ℐ)) (k0_pay7 (F := ℐ)) (k0_pay8 (F := ℐ)) (k0_pay4 (F := ℐ)) (k0_pay5 (F := ℐ)) where
  hw h w := by pointwise [k0_pay6]; rw [Finset.sum_range_zero]; rfl
  kw a h e := by pointwise [k0_pay7]; rw [Finset.sum_range_zero]; rfl
  kb h e := by pointwise [k0_pay8]; rw [Finset.sum_range_zero]; rfl
  wo h w b := by pointwise [k0_pay5]; rw [Finset.sum_range_zero]; rfl
  ds _ h w e := by
    rw [show chunk 0 3 = 63 from rfl, G_last]
    pointwise [k0_pay4]; rfl

variable (S : Saved x (V m c main_arg5) (V m c main_v66) (V m c main_v63) (V m c main_v75) (V m c main_v77) (V m c main_v80) (V m c main_v83) (V m c main_v85))

include S in
theorem tile (t : Fin cfg0.N) (s0 : Vec ℐ S1024x128 .f32) (hs : ∀ h w e, s0 (ix2 (vcol h w) e) = ((G x (chunk t.val 3) h w e : ℝ) : EReal)) :
    Tile x (chunk t.val) (iblk m c 0 t) (iblk m c 1 t) (iblk m c 2 t) (iblk m c 3 t) (iblk m c 4 t) (iblk m c 5 t) (iblk m c 7 t) (iblk m c 8 t) s0 where
  dh j s l := (blk0 m c t j s l).trans (S.dh _ _ _)
  p j s l := (blk1 m c t j s _).trans (S.p _ _ _)
  pad j s l := (blk1 m c t j s _).trans (S.pad _ _ _)
  z j s l := (blk1 m c t j s _).trans (S.z _ _ _)
  c h j s e := (blk1 m c t j s _).trans (S.c _ _ _ _)
  o h j s w := (blk2 m c t j s _).trans (S.o _ _ _ _)
  st j h w e := (blk3 m c t j _ _).trans (S.st _ _ _ _)
  sc h j s i r := (blk4 m c t j s _).trans ((S.sc _ _ _ _ _).trans (congrArg _ (if_congr (by
    have := i.isLt; have := j.isLt; have : (chunk t.val j).val = 4 * (15 - t.val) + j.val := rfl
    exact ⟨fun q => Fin.ext (by omega), fun q => by subst q; omega⟩) rfl rfl)))
  gw i l := (blk5 m c t _ _).trans (S.gw _ _)
  hw h w := (blk7 m c t _ _).trans (S.hw _ _)
  ow i l := (blk8 m c t _ _).trans (S.ow _ _)
  ds := hs
  next i j hij := by show 4 * (15 - t.val) + j.val = 4 * (15 - t.val) + i.val + 1; omega

theorem lt16 (t : Fin cfg0.N) : t.val < 16 := lt_of_lt_of_eq t.isLt (show cfg0.N = 16 from N_0)

/-- A point's six values. -/
abbrev pointAt (t : Fin cfg0.N) (z10 : Vec ℐ S1x1024 .f32) (z11 : Vec ℐ S128x512 .f32) (z12 : Vec ℐ S1x512 .f32) (s0 : Vec ℐ S1024x128 .f32)
    (s1 : Vec ℐ S1024x1024 .f32) :=
  point (iblk m c 0 t) (iblk m c 1 t) (iblk m c 2 t) (iblk m c 3 t) (iblk m c 4 t) (iblk m c 5 t) (iblk m c 7 t) (iblk m c 8 t) z10 z11 z12 s0 s1

include S in
theorem found_next (t : Fin cfg0.N) {z10 z11 z12 s0 s1} (H : Found x t.val z10 z11 z12 s0 s1) :
    Found x (t.val + 1) (pointAt m c t z10 z11 z12 s0 s1).2.1 (pointAt m c t z10 z11 z12 s0 s1).2.2.1 (pointAt m c t z10 z11 z12 s0 s1).2.2.2.1
      (pointAt m c t z10 z11 z12 s0 s1).2.2.2.2.1 (pointAt m c t z10 z11 z12 s0 s1).2.2.2.2.2 := by
  have T := tile m c S t s0 (H.ds (lt16 t))
  exact {
    hw := fun h w => by rw [Finset.sum_range_succ]; exact dhw_sum T _ h w (H.hw h w)
    kw := fun a h e => by rw [Finset.sum_range_succ]; exact dgkw_sum T _ a h e (H.kw a h e)
    kb := fun h e => by rw [Finset.sum_range_succ]; exact dgkb_sum T _ h e (H.kb h e)
    wo := fun h w b => by rw [Finset.sum_range_succ]; exact dwout_sum T _ h w b (H.wo h w b)
    ds := fun hk h w e => carried_at T (chunk (t.val + 1) 3)
      (show 4 * (15 - t.val) + 0 = 4 * (15 - (t.val + 1)) + 3 + 1 by omega) h w e }

include S in
theorem outs_found (k : ℕ) : ∀ t : Fin cfg0.N, t.val = k → ∃ z10 z11 z12 s0 s1, outsAt0 m c t.val t.isLt = pointAt m c t z10 z11 z12 s0 s1
    ∧ Found x t.val z10 z11 z12 s0 s1 := by
  induction k with
  | zero =>
    intro t ht
    refine ⟨_, _, _, _, _, outs_first m c t (by omega) (by omega), ?_⟩
    rw [ht]; exact found_first
  | succ k ih =>
    intro t ht
    have hlt := lt16 t
    obtain ⟨z10, z11, z12, s0, s1, e, H⟩ := ih ⟨k, by omega⟩ rfl
    have N := found_next m c S _ H
    rw [← e] at N
    have hp : outsAt0 m c k (by omega) = prevOf m c t := by
      unfold prevOf; congr 1; omega
    dsimp only at N
    rw [hp, ← ht] at N
    by_cases h1 : t.val % 16 = 15
    · exact ⟨_, _, _, _, _, outs_last m c t (by omega) h1, N⟩
    · exact ⟨_, _, _, _, _, outs_mid m c t (by omega) h1, N⟩

include S in
theorem outs_dproj (t : Fin cfg0.N) (j : Fin 4) (s : Fin 64) :
    DProj x (chunk t.val j) s fun l => (outsAt0 m c t.val t.isLt).1 (ix2 (rw j s) l) := by
  obtain ⟨z10, z11, z12, s0, s1, e, H⟩ := outs_found m c S t.val t rfl
  rw [e]
  exact dproj_tile (tile m c S t s0 (H.ds (lt16 t))) j s

/-- The sum over the points and their chunks is the sum over all chunks. -/
theorem sum_chunks (f : Fin 64 → ℝ) : ∑ i ∈ Finset.range 16, ∑ j, f (chunk i j) = ∑ n, f n := by
  rw [Finset.sum_range]
  let eqv : Fin 16 × Fin 4 ≃ Fin 64 := finProdFinEquiv.trans (finCongr (by norm_num))
  have e : ∀ k : Fin 16, ∑ j, f (chunk k.val j) = ∑ j, f (eqv (k.rev, j)) := fun k => Finset.sum_congr rfl fun j _ => congrArg f (Fin.ext (by
    have := k.isLt
    show 4 * (15 - k.val) + j.val = j.val + 4 * (16 - (k.val + 1))
    omega))
  rw [Finset.sum_congr rfl fun k _ => e k]
  refine (Equiv.sum_comp Fin.revPerm fun k : Fin 16 => ∑ j, f (eqv (k, j))).trans ?_
  exact (Fintype.sum_prod_type fun p : Fin 16 × Fin 4 => f (eqv p)).symm.trans (Equiv.sum_comp eqv f)

include S in
/-- The sums after the last point. -/
theorem outs_sums (t : Fin cfg0.N) (ht : t.val = 15) :
    (∀ h w, (outsAt0 m c t.val t.isLt).2.1 (ix2 0 (vcol h w)) = ((∑ n, cHW x n h w : ℝ) : EReal))
    ∧ (∀ a h e, (outsAt0 m c t.val t.isLt).2.2.1 (ix2 a (kcol h e)) = ((∑ n, cKW x n a h e : ℝ) : EReal))
    ∧ (∀ h e, (outsAt0 m c t.val t.isLt).2.2.2.1 (ix2 0 (kcol h e)) = ((∑ n, cKB x n h e : ℝ) : EReal))
    ∧ (∀ h w b, (outsAt0 m c t.val t.isLt).2.2.2.2.2 (ix2 (vcol h w) b) = ((∑ n, cWO x n h w b : ℝ) : EReal)) := by
  obtain ⟨z10, z11, z12, s0, s1, e, H⟩ := outs_found m c S t.val t rfl
  have N := found_next m c S _ H
  rw [← e] at N
  have e16 : 16 = t.val + 1 := by omega
  refine ⟨fun h w => ?_, fun a h e => ?_, fun h e => ?_, fun h w b => ?_⟩
  · rw [← sum_chunks, e16]; exact N.hw h w
  · rw [← sum_chunks, e16]; exact N.kw a h e
  · rw [← sum_chunks, e16]; exact N.kb h e
  · rw [← sum_chunks, e16]; exact N.wo h w b

/-! ## The arrays after the run -/

theorem outs_congr {k k' : ℕ} (e : k = k') (hk : k < cfg0.N) (hk' : k' < cfg0.N) (i j : S256x3200.Idx) (h : i = j) :
    (outsAt0 m c k hk).1 i = (outsAt0 m c k' hk').1 j := by subst e; rw [h]

/-- The gradient of the layer's input, row by row as the points leave it. -/
def dpV : Vec ℐ S4096x3200 .bf16 := fun i =>
  (outsAt0 m c (15 - (i 0).val / 256) (lt_of_lt_of_eq (by omega) (show cfg0.N = 16 from N_0).symm)).1 (ix2 ⟨(i 0).val % 256, by omega⟩ (i 1))

theorem arr9 : (dats m 0 c).arrAt 9 cfg0.N = dpV m c := by
  refine (dats m 0 c).arrAt_eq_of_covers 9 _ (by decide +kernel) fun t hf y => ?_
  rw [after0_9]
  have e := (idx_rows t).2.2.2.2.2
  have hlt := lt16 t
  have hy : (y 0).val < 256 := (y 0).isLt
  unfold dpV
  refine outs_congr m c ?_ _ _ _ _ ?_
  · blk_simp [e]
    omega
  · blk_ext [e]

include S in
/-- … which are the gradients of the columns. -/
theorem dproj_final (n t : Fin 64) : DProj x n t fun l => (dats m 0 c).arrAt 9 cfg0.N (ix2 (row n t) l) := by
  have hk : 15 - n.val / 4 < cfg0.N := lt_of_lt_of_eq (by omega) (show cfg0.N = 16 from N_0).symm
  have D := outs_dproj m c S ⟨15 - n.val / 4, hk⟩ ⟨n.val % 4, by omega⟩ t
  rw [show chunk (15 - n.val / 4) ⟨n.val % 4, by omega⟩ = n from Fin.ext (by show 4 * (15 - (15 - n.val / 4)) + n.val % 4 = n.val; omega)] at D
  have e : (fun l => (dats m 0 c).arrAt 9 cfg0.N (ix2 (row n t) l)) = fun l => (outsAt0 m c (15 - n.val / 4) hk).1 (ix2 (rw ⟨n.val % 4, by omega⟩ t) l) := by
    funext l
    rw [arr9]
    refine outs_congr m c ?_ _ _ _ _ ?_
    · show 15 - (64 * n.val + t.val) / 256 = 15 - n.val / 4
      omega
    · exact congrArg (fun a => ix2 a l) (Fin.ext (show (64 * n.val + t.val) % 256 = 64 * (n.val % 4) + t.val by omega))
  rw [e]
  exact D

theorem arr10 : (dats m 0 c).arrAt 10 cfg0.N = (outsAt0 m c t0_15.val t0_15.isLt).2.1 := by
  refine (dats m 0 c).arrAt_eq_of_after_last 10 t0_15 (by decide +kernel) _ fun j => ?_
  rw [after0_10]
  refine congrArg (outsAt0 m c t0_15.val t0_15.isLt).2.1 ?_
  blk_ext []

theorem arr11 : (dats m 0 c).arrAt 11 cfg0.N = (outsAt0 m c t0_15.val t0_15.isLt).2.2.1 := by
  refine (dats m 0 c).arrAt_eq_of_after_last 11 t0_15 (by decide +kernel) _ fun j => ?_
  rw [after0_11]
  refine congrArg (outsAt0 m c t0_15.val t0_15.isLt).2.2.1 ?_
  blk_ext []

theorem arr12 : (dats m 0 c).arrAt 12 cfg0.N = (outsAt0 m c t0_15.val t0_15.isLt).2.2.2.1 := by
  refine (dats m 0 c).arrAt_eq_of_after_last 12 t0_15 (by decide +kernel) _ fun j => ?_
  rw [after0_12]
  refine congrArg (outsAt0 m c t0_15.val t0_15.isLt).2.2.2.1 ?_
  blk_ext []

include S in
theorem dwout_final (k : ℕ) (hk : k < cfg0.N) (e : k = 15) (h : Fin 4) (w : Fin 256) (b : Fin 1024) :
    k0_pay3 (outsAt0 m c k hk).2.2.2.2.2 (ix2 (vcol h w) b) = ((∑ n, cWO x n h w b : ℝ) : EReal) := by
  pointwise [k0_pay3]
  exact (outs_sums m c S ⟨k, hk⟩ e).2.2.2 h w b

include S in
theorem dhw_final (h : Fin 4) (w : Fin 256) : (dats m 0 c).arrAt 10 cfg0.N (ix2 0 (vcol h w)) = ((∑ n, cHW x n h w : ℝ) : EReal) := by
  rw [arr10]; exact (outs_sums m c S t0_15 rfl).1 h w
include S in
theorem dgkw_final (i : Fin 128) (h : Fin 4) (e : Fin 128) : (dats m 0 c).arrAt 11 cfg0.N (ix2 i (kcol h e)) = ((∑ n, cKW x n i h e : ℝ) : EReal) := by
  rw [arr11]; exact (outs_sums m c S t0_15 rfl).2.1 i h e
include S in
theorem dgkb_final (h : Fin 4) (e : Fin 128) : (dats m 0 c).arrAt 12 cfg0.N (ix2 0 (kcol h e)) = ((∑ n, cKB x n h e : ℝ) : EReal) := by
  rw [arr12]; exact (outs_sums m c S t0_15 rfl).2.2.1 h e

include S in
/-- The five arrays after the run are the layer's gradients. -/
theorem grads_final : Grads x (fun r l => (dats m 0 c).arrAt 9 cfg0.N (ix2 r l)) (fun i b => k0_pay3 (outsAt0 m c 15 lt_N).2.2.2.2.2 (ix2 i b))
    (fun l => (dats m 0 c).arrAt 10 cfg0.N (ix2 0 l)) (fun i l => (dats m 0 c).arrAt 11 cfg0.N (ix2 i l))
    (fun l => (dats m 0 c).arrAt 12 cfg0.N (ix2 0 l)) :=
  ⟨dproj_final m c S, dwout_final m c S 15 lt_N rfl, dhw_final m c S, dgkw_final m c S, dgkb_final m c S⟩

end Cert.GlaBwdIdeal.Step

end
-- ==== Proof.GlaReads.lean ====
/-
  The arrays the region of the gated linear attention's backward finds, at an index, over exact arithmetic and of real arguments: the layer's
  inputs, its log decays, states, outputs and scores.
-/
module

public import proofs.«01_k».proof.Proof.GlaEntry
public import proofs.«01_k».proof.Proof.GlaWindow
public import proofs.«01_k».proof.Proof.GlaSweep

@[expose] public section

set_option maxRecDepth 16384
set_option maxHeartbeats 1600000

noncomputable section

namespace Cert.GlaBwdIdeal.Entry

open Idealize.ShloMosaic Idealize.ShloMosaic.TcCoe
open Cert.GlaBwdIdeal.Gen Cert.Gla Cert.GlaBwdIdeal.Head

/-- The arguments are the layer's inputs and the cotangent. -/
structure Inputs (x : Args) (a0 : Vec ℐ S1x4096x3088 .f32) (a1 : Vec ℐ S1x16x512 .f32) (a2 : Vec ℐ S1x512 .f32) (a3 : Vec ℐ S1x256 .f32)
    (a4 : Vec ℐ S1x1024x1024 .f32) (a5 : Vec ℐ S4096x1024 .f32) : Prop where
  p : ∀ r l, a0 (ix3 0 r l) = ((x.p r l : ℝ) : EReal)
  gw : ∀ i l, a1 (ix3 0 i l) = ((x.gw i l : ℝ) : EReal)
  gb : ∀ l, a2 (ix2 0 l) = ((x.gb l : ℝ) : EReal)
  hw : ∀ w, a3 (ix2 0 w) = ((x.hw w : ℝ) : EReal)
  ow : ∀ i l, a4 (ix3 0 i l) = ((x.ow i l : ℝ) : EReal)
  dh : ∀ r l, a5 (ix2 r l) = ((x.dh r l : ℝ) : EReal)

variable (m : (ℓ : Loc nD τ sig) → Buf (Elt ℐ) ℓ) (c : Dev nD) {x : Args}
variable (I : Inputs x (a0V m c) (a1V m c) (a2V m c) (a3V m c) (a4V m c) (a5V m c))

/-! ## The operations, at an index -/

section Reads

theorem flat_v (X : Vec ℐ S64x64x4x256 .f32) (n t : Fin 64) (h : Fin 4) (w : Fin 256) :
    shapeCast S4096x1024 X shapeCasts_S64x64x4x256_S4096x1024 (ix2 (row n t) (vcol h w)) = X (ix4 n t h w) := by
  pointwise [row, vcol]

theorem flat_k (X : Vec ℐ S64x64x4x128 .f32) (n t : Fin 64) (h : Fin 4) (e : Fin 128) :
    shapeCast S4096x512 X shapeCasts_S64x64x4x128_S4096x512 (ix2 (row n t) (kcol h e)) = X (ix4 n t h e) := by
  pointwise [row, kcol]

theorem flat_s (X : Vec ℐ S64x4x256x128 .f32) (n : Fin 64) (h : Fin 4) (w : Fin 256) (e : Fin 128) :
    shapeCast S64x1024x128 X shapeCasts_S64x4x256x128_S64x1024x128 (ix3 n (vcol h w) e) = X (ix4 n h w e) := by
  pointwise [vcol]

theorem row_mk (n t : Fin 64) (p : n.val * 64 + t.val < 4096) : (⟨n.val * 64 + t.val, p⟩ : Fin 4096) = row n t :=
  Fin.ext (by show n.val * 64 + t.val = 64 * n.val + t.val; omega)
theorem kcol_mk' (h : Fin 4) (e : Fin 128) (p : h.val * 128 + e.val < 512) : (⟨h.val * 128 + e.val, p⟩ : Fin 512) = kcol h e :=
  Fin.ext (by show h.val * 128 + e.val = 128 * h.val + e.val; omega)
theorem vcol_mk' (h : Fin 4) (w : Fin 256) (p : h.val * 256 + w.val < 1024) : (⟨h.val * 256 + w.val, p⟩ : Fin 1024) = vcol h w :=
  Fin.ext (by show h.val * 256 + w.val = 256 * h.val + w.val; omega)

theorem split_k (X : Vec ℐ S4096x512 .f32) (n t : Fin 64) (h : Fin 4) (e : Fin 128) :
    shapeCast S64x64x4x128 X shapeCasts_S4096x512_S64x64x4x128 (ix4 n t h e) = X (ix2 (row n t) (kcol h e)) := by
  pointwise
  rw [row_mk, kcol_mk']

/-- Scores placed in the columns of their chunk's place in the tile. -/
def placed (X : Vec ℐ S64x4x64x64 .f32) : Vec ℐ S16x4x64x4x4x64 .f32 :=
  select (s := S16x4x64x4x4x64) (cmpi (s := S16x4x64x4x4x64) .eq (iotaInDim S16x4x64x4x4x64 32 1) (iotaInDim S16x4x64x4x4x64 32 4))
    (broadcastInDim S16x4x64x4x4x64 ![0, 1, 2, 3, 4, 5] bcast_S16x4x64x4x1x64_S16x4x64x4x4x64_0_1_2_3_4_5
      (shapeCast S16x4x64x4x1x64 (transpose S64x64x4x64 [0, 2, 1, 3] X transposes_S64x4x64x64_S64x64x4x64_0_2_1_3) shapeCasts_S64x64x4x64_S16x4x64x4x1x64))
    (broadcastInDim S16x4x64x4x4x64 ![] bcast_S_S16x4x64x4x4x64 (constant (F := ℐ) S_ .f32 0x00000000#32))

theorem placed_at (X : Vec ℐ S64x4x64x64 .f32) (n t : Fin 64) (h : Fin 4) (i : Fin 4) (s : Fin 64) :
    truncf (F := ℐ) (φ := .f32) .bf16 (shapeCast S4096x1024 (placed X) shapeCasts_S16x4x64x4x4x64_S4096x1024) bitsLt_bf16_f32
      (ix2 (row n t) (vcol h (rw i s))) = if n.val % 4 = i.val then X (ix4 n h t s) else (0 : EReal) := by
  pointwise [row, vcol, rw, placed]
  have e : (64 * n.val + t.val) / 64 % 4 = n.val % 4 := by omega
  rw [e, eq_word _ _ (by omega) (by omega), select_ite]

theorem logSig_at (z : Vec ℐ S4096x512 .f32) (r : Fin 4096) (l : Fin 512) (y : ℝ) (hz : z (ix2 r l) = (y : EReal)) :
    logSig z (ix2 r l) = ((-Real.log (1 + Real.exp (-y)) : ℝ) : EReal) := by
  pointwise [logSig]
  rw [hz, if_neg (by simp), ← EReal.coe_neg]
  exact (congrArg Neg.neg (softplus_coe (-y))).trans (EReal.coe_neg _).symm

/-- The log decays between two chunks. -/
def between (L : Vec ℐ S64x1x4x128 .f32) : Vec ℐ S64x64x64x4x128 .f32 :=
  select (s := S64x64x64x4x128)
    (andi (s := S64x64x64x4x128) (cmpi (s := S64x64x64x4x128) .slt (iotaInDim S64x64x64x4x128 32 1) (iotaInDim S64x64x64x4x128 32 2))
      (cmpi (s := S64x64x64x4x128) .slt (iotaInDim S64x64x64x4x128 32 2) (iotaInDim S64x64x64x4x128 32 0)))
    (broadcastInDim S64x64x64x4x128 ![2, 3, 4] bcast_S64x4x128_S64x64x64x4x128_2_3_4 (shapeCast S64x4x128 L shapeCasts_S64x1x4x128_S64x4x128))
    (broadcastInDim S64x64x64x4x128 ![] bcast_S_S64x64x64x4x128 (constant (F := ℐ) S_ .f32 0x00000000#32))

theorem andi_ite (P R : Prop) [Decidable P] [Decidable R] :
    IntOp.andi (if P then 1#1 else 0#1) (if R then 1#1 else 0#1) = if P ∧ R then 1#1 else 0#1 := by
  by_cases p : P <;> by_cases r : R <;> simp [p, r, IntOp.andi]

theorem between_at (L : Vec ℐ S64x1x4x128 .f32) (y : Fin 64 → ℝ) (h : Fin 4) (e : Fin 128) (hL : ∀ j, L (ix4 j 0 h e) = (y j : EReal)) (n t : Fin 64) :
    Host.reduceAdd (F := ℐ) (φ := .f32) (between L) (constant (F := ℐ) S_ .f32 0x00000000#32) reducesTo_S64x64x64x4x128_S64x64x4x128_d2 h_S_ (ix4 n t h e)
      = ((∑ j, if t < j ∧ j < n then y j else 0 : ℝ) : EReal) := by
  pointwise [between]
  rw [coe_sum]
  refine Finset.sum_congr rfl fun j _ => ?_
  rw [lt_word _ _ (by omega) (by omega), lt_word _ _ (by omega) (by omega), andi_ite, select_ite, hL, coe_ite]
  rfl

theorem kept_at (X : Vec ℐ S64x64x4x128 .f32) (n t : Fin 64) (h : Fin 4) (e : Fin 128) (y : ℝ) (hX : X (ix4 n t h e) = (y : EReal)) :
    select (s := KS) (cmpi (s := KS) .sgt (iotaInDim KS 32 0) (iotaInDim KS 32 1))
      (expo KS X) (broadcastInDim KS ![] bcast_S_S64x64x4x128 (constant (F := ℐ) S_ .f32 0x00000000#32)) (ix4 n t h e)
      = ((if t < n then Real.exp y else 0 : ℝ) : EReal) := by
  pointwise
  rw [gt_word _ _ (by omega) (by omega), select_ite, hX, coe_ite]
  rfl

theorem scores_at (X Y : Vec ℐ KS .f32) (n : Fin 64) (h : Fin 4) (a b : Fin 64 → Fin 128 → ℝ)
    (hX : ∀ t e, X (ix4 n t h e) = (a t e : EReal)) (hY : ∀ t e, Y (ix4 n t h e) = (b t e : EReal)) (t s : Fin 64) :
    Host.dotGeneral (F := ℐ) (φ₁ := .f32) (φ₂ := .f32) dot_S64x64x4x128_S64x64x4x128_S64x4x64x64_3_3_1_1_02_02 none X Y (ix4 n h t s)
      = ((∑ e, a t e * b s e : ℝ) : EReal) := by
  pointwise
  simp only [hX, hY, mul_coe, ← coe_sum]

theorem masked_at (X Y : Vec ℐ S64x4x64x64 .f32) (n : Fin 64) (h : Fin 4) (t s : Fin 64) (a b : ℝ)
    (hX : X (ix4 n h t s) = (a : EReal)) (hY : Y (ix4 n h t s) = (b : EReal)) :
    select (s := S64x4x64x64) (cmpi (s := S64x4x64x64) .sge (iotaInDim S64x4x64x64 32 2) (iotaInDim S64x4x64x64 32 3)) X Y (ix4 n h t s)
      = ((if s ≤ t then a else b : ℝ) : EReal) := by
  pointwise
  rw [ge_word _ _ (by omega) (by omega), select_ite, hX, hY, coe_ite]
  rfl

theorem mul_at (X Y : Vec ℐ KS .f32) (i : KS.Idx) (a b : ℝ) (hX : X i = (a : EReal)) (hY : Y i = (b : EReal)) : mul KS X Y i = ((a * b : ℝ) : EReal) :=
  (congrArg₂ (fun (u w : EReal) => u * w) hX hY).trans (mul_coe a b)
theorem exp_at (X : Vec ℐ KS .f32) (i : KS.Idx) (a : ℝ) (hX : X i = (a : EReal)) : expo KS X i = ((Real.exp a : ℝ) : EReal) :=
  (congrArg Ideal.exp hX).trans (Ideal.exp_coe a)
theorem neg_at (X : Vec ℐ KS .f32) (i : KS.Idx) (a : ℝ) (hX : X i = (a : EReal)) : neg KS X i = ((-a : ℝ) : EReal) :=
  (congrArg (fun u : EReal => -u) hX).trans (EReal.coe_neg a).symm

theorem left_at (X Y : Vec ℐ KS .f32) (n t : Fin 64) (h : Fin 4) (e : Fin 128) (k : ℝ) (cum : Fin 64 → ℝ) (hX : X (ix4 n t h e) = (k : EReal))
    (hY : ∀ s, Y (ix4 n s h e) = (cum s : EReal)) :
    mul KS X (expo KS (subf (F := ℐ) (φ := .f32) (s := KS) (broadcastInDim KS ![0, 1, 2, 3] bcast_S64x1x4x128_S64x64x4x128_0_1_2_3
      (extractStridedSlice S64x1x4x128 ![0, 63, 0, 0] Y slices_S64x64x4x128_S64x1x4x128_0_63_0_0)) Y)) (ix4 n t h e)
      = ((k * Real.exp (cum 63 - cum t) : ℝ) : EReal) := by
  refine mul_at _ _ _ _ _ hX (exp_at _ _ _ ?_)
  pointwise
  have e63 := hY 63
  have et := hY t
  exact (congrArg₂ (fun (u w : EReal) => u - w) e63 et).trans (EReal.coe_sub _ _).symm

theorem last_at (Y : Vec ℐ KS .f32) (n : Fin 64) (h : Fin 4) (e : Fin 128) :
    extractStridedSlice S64x1x4x128 ![0, 63, 0, 0] Y slices_S64x64x4x128_S64x1x4x128_0_63_0_0 (ix4 n 0 h e) = Y (ix4 n 63 h e) := by
  pointwise

theorem added_at (X : Vec ℐ VS .f32) (Y : Vec ℐ KS .f32) (n : Fin 64) (h : Fin 4) (a : Fin 64 → Fin 256 → ℝ) (b : Fin 64 → Fin 128 → ℝ)
    (hX : ∀ t w, X (ix4 n t h w) = (a t w : EReal)) (hY : ∀ t e, Y (ix4 n t h e) = (b t e : EReal)) (w : Fin 256) (e : Fin 128) :
    Host.dotGeneral (F := ℐ) (φ₁ := .f32) (φ₂ := .f32) dot_S64x64x4x256_S64x64x4x128_S64x4x256x128_1_1_3_3_02_02 none X Y (ix4 n h w e)
      = ((∑ t, a t w * b t e : ℝ) : EReal) := by
  pointwise
  simp only [hX, hY, mul_coe, ← coe_sum]

theorem states_at (X : Vec ℐ S64x4x256x128 .f32) (Y : Vec ℐ KS .f32) (n : Fin 64) (h : Fin 4) (w : Fin 256) (e : Fin 128) (a b : Fin 64 → ℝ)
    (hX : ∀ j, X (ix4 j h w e) = (a j : EReal)) (hY : ∀ j, Y (ix4 n j h e) = (b j : EReal)) :
    transpose S64x4x256x128 [3, 0, 2, 1] (Host.dotGeneral (F := ℐ) (φ₁ := .f32) (φ₂ := .f32) dot_S64x4x256x128_S64x64x4x128_S4x128x256x64_0_1_2_0_13_23 none X Y)
      transposes_S4x128x256x64_S64x4x256x128_3_0_2_1 (ix4 n h w e) = ((∑ j, b j * a j : ℝ) : EReal) := by
  pointwise
  simp only [hX, hY, mul_coe, ← coe_sum, mul_comm]

theorem outs_at (X : Vec ℐ VS .f32) (A : Vec ℐ S64x4x64x64 .f32) (S : Vec ℐ S64x4x256x128 .f32) (Y : Vec ℐ KS .f32) (n t : Fin 64) (h : Fin 4) (w : Fin 256)
    (v a : Fin 64 → ℝ) (s y : Fin 128 → ℝ) (hX : ∀ j, X (ix4 n j h w) = (v j : EReal)) (hA : ∀ j, A (ix4 n h t j) = (a j : EReal))
    (hS : ∀ e, S (ix4 n h w e) = (s e : EReal)) (hY : ∀ e, Y (ix4 n t h e) = (y e : EReal)) :
    add VS (transpose VS [0, 3, 1, 2] (Host.dotGeneral (F := ℐ) (φ₁ := .f32) (φ₂ := .f32) dot_S64x64x4x256_S64x4x64x64_S64x4x256x64_1_3_3_2_02_01 none X A) transposes_S64x4x256x64_S64x64x4x256_0_3_1_2)
      (transpose VS [0, 3, 1, 2] (Host.dotGeneral (F := ℐ) (φ₁ := .f32) (φ₂ := .f32) dot_S64x4x256x128_S64x64x4x128_S64x4x256x64_3_3_2_1_01_02 none S Y) transposes_S64x4x256x64_S64x64x4x256_0_3_1_2)
      (ix4 n t h w) = ((∑ j, a j * v j + ∑ e, y e * s e : ℝ) : EReal) := by
  pointwise
  simp only [hX, hA, hS, hY, mul_coe, ← coe_sum, ← EReal.coe_add, mul_comm]

end Reads

end Cert.GlaBwdIdeal.Entry

end
-- ==== Proof.GlaStages.lean ====
/-
  Of real arguments the arrays the region finds hold the layer's inputs and saved values.
-/
module

public import proofs.«01_k».proof.Proof.GlaReads

@[expose] public section

set_option maxRecDepth 16384
set_option maxHeartbeats 800000

noncomputable section

namespace Cert.GlaBwdIdeal.Entry

open Idealize.ShloMosaic Idealize.ShloMosaic.TcCoe
open Cert.GlaBwdIdeal.Gen Cert.Gla Cert.GlaBwdIdeal.Head

variable (m : (ℓ : Loc nD τ sig) → Buf (Elt ℐ) ℓ) (c : Dev nD) {x : Args}

theorem word_zero : Ideal.ofBits .f32 0x00000000#32 = 0 := by
  simp [Ideal.ofBits, Ideal.ieee, -EReal.coe_mul]

/-! ## Of the arguments -/

theorem v0_raw (r : Fin 4096) (l : Fin 3088) : (Gen.V m c main_v0 : Vec ℐ S4096x3088 .f32) (ix2 r l) = a0V m c (ix3 0 r l) := by
  unfold Gen.V
  after_reads_at
  try rfl
theorem v64_raw (r : Fin 4096) (l : Fin 112) : (Gen.V m c main_v64 : Vec ℐ S4096x112 .f32) (ix2 r l) = (0 : EReal) := by
  unfold Gen.V
  after_reads_at
  try rfl
theorem v9_raw (r : Fin 4096) (l : Fin 512) : (Gen.V m c main_v9 : Vec ℐ S4096x512 .f32) (ix2 r l)
    = (∑ i : Fin 16, a0V m c (ix3 0 r ⟨3072 + i.val, by omega⟩) * a1V m c (ix3 0 i l) + a2V m c (ix2 0 l) : EReal) := by
  unfold Gen.V
  after_reads_at
  try rfl
theorem v15_raw (n t : Fin 64) (h : Fin 4) (e : Fin 128) : (Gen.V m c main_v15 : Vec ℐ KS .f32) (ix4 n t h e)
    = (a0V m c (ix3 0 ⟨n.val * 64 + t.val, by omega⟩ ⟨h.val * 128 + e.val, by omega⟩) * Ideal.ofBits .f32 0x3DB504F3#32 : EReal) := by
  unfold Gen.V
  after_reads_at
  try rfl
theorem v16_raw (n t : Fin 64) (h : Fin 4) (e : Fin 128) : (Gen.V m c main_v16 : Vec ℐ KS .f32) (ix4 n t h e)
    = a0V m c (ix3 0 ⟨n.val * 64 + t.val, by omega⟩ ⟨512 + (h.val * 128 + e.val), by omega⟩) := by
  unfold Gen.V
  after_reads_at
  try rfl
theorem v17_raw (n t : Fin 64) (h : Fin 4) (w : Fin 256) : (Gen.V m c main_v17 : Vec ℐ VS .f32) (ix4 n t h w)
    = a0V m c (ix3 0 ⟨n.val * 64 + t.val, by omega⟩ ⟨1024 + (h.val * 256 + w.val), by omega⟩) := by
  unfold Gen.V
  after_reads_at
  try rfl
theorem v80_raw (i : Fin 128) (l : Fin 512) : (Gen.V m c main_v80 : Vec ℐ S128x512 .bf16) (ix2 i l)
    = (if q : i.val < 16 then (a1V m c (ix3 0 ⟨i.val, q⟩ l) : EReal) else 0) := by
  unfold Gen.V
  after_reads_at
  refine dite_congr rfl (fun _ => rfl) fun _ => ?_
  show (((0#32).toInt : ℝ) : EReal) = 0
  simp
theorem v83_raw (h : Fin 4) (w : Fin 256) : (Gen.V m c main_v83 : Vec ℐ S1x1024 .f32) (ix2 0 (vcol h w)) = a3V m c (ix2 0 w) := by
  unfold Gen.V vcol
  after_reads_at
  try rfl
theorem v85_raw (i l : Fin 1024) : (Gen.V m c main_v85 : Vec ℐ S1024x1024 .bf16) (ix2 i l) = a4V m c (ix3 0 i l) := by
  unfold Gen.V
  after_reads_at
  try rfl
theorem arg5_raw (r : Fin 4096) (l : Fin 1024) : (Gen.V m c main_arg5 : Vec ℐ S4096x1024 .f32) (ix2 r l) = a5V m c (ix2 r l) := by
  unfold Gen.V
  after_reads_at
  try rfl

/-! ## Of real arguments -/

variable (I : Inputs x (a0V m c) (a1V m c) (a2V m c) (a3V m c) (a4V m c) (a5V m c))
include I

theorem v9_at (r : Fin 4096) (l : Fin 512) : (Gen.V m c main_v9 : Vec ℐ S4096x512 .f32) (ix2 r l) = ((Z x r l : ℝ) : EReal) := by
  rw [v9_raw]
  simp only [I.p, I.gw, I.gb, mul_coe, ← coe_sum, ← EReal.coe_add]
  rfl
theorem v12_at (r : Fin 4096) (l : Fin 512) : (Gen.V m c main_v12 : Vec ℐ S4096x512 .f32) (ix2 r l) = ((LD x r l : ℝ) : EReal) := by
  have e := logSig_at (Gen.V m c main_v9) r l _ (v9_at m c I r l)
  rw [← v10_eq] at e
  rw [v12_eq]
  show Ideal.div ((Gen.V m c main_v10 : Vec ℐ S4096x512 .f32) (ix2 r l)) (Ideal.ofBits .f32 0x41800000#32) = _
  rw [e, word_16]
  exact (div_real _ 16 (by norm_num)).trans (by rw [LD, neg_div])
theorem v15_at (n t : Fin 64) (h : Fin 4) (e : Fin 128) : (Gen.V m c main_v15 : Vec ℐ KS .f32) (ix4 n t h e) = ((Q x n h t e : ℝ) : EReal) := by
  rw [v15_raw, I.p, word_scale, mul_coe]
  unfold Q
  rw [row_mk]
  exact congrArg (fun l => ((x.p (row n t) l * scale : ℝ) : EReal)) (Fin.ext (by show h.val * 128 + e.val = 128 * h.val + e.val; omega))
theorem v16_at (n t : Fin 64) (h : Fin 4) (e : Fin 128) : (Gen.V m c main_v16 : Vec ℐ KS .f32) (ix4 n t h e) = ((K x n h t e : ℝ) : EReal) := by
  rw [v16_raw, I.p]
  unfold K
  rw [row_mk]
  exact congrArg (fun l => ((x.p (row n t) l : ℝ) : EReal)) (Fin.ext (by show 512 + (h.val * 128 + e.val) = 512 + (128 * h.val + e.val); omega))
theorem v17_at (n t : Fin 64) (h : Fin 4) (w : Fin 256) : (Gen.V m c main_v17 : Vec ℐ VS .f32) (ix4 n t h w) = ((Cert.Gla.V x n h t w : ℝ) : EReal) := by
  rw [v17_raw, I.p]
  unfold Cert.Gla.V
  rw [row_mk]
  exact congrArg (fun l => ((x.p (row n t) l : ℝ) : EReal)) (Fin.ext (by show 1024 + (h.val * 256 + w.val) = 1024 + (256 * h.val + w.val); omega))
theorem v19_at (n t : Fin 64) (h : Fin 4) (e : Fin 128) : (Gen.V m c main_v19 : Vec ℐ KS .f32) (ix4 n t h e) = ((C x n h t e : ℝ) : EReal) := by
  rw [v19_eq]
  refine (cum4 _ _ _ _ word_zero n t h e).trans ?_
  unfold C
  rw [coe_sum]
  refine Finset.sum_congr rfl fun s _ => ?_
  rw [coe_ite, v18_eq, split_k, v12_at m c I]
  rfl

theorem v24_at (n t : Fin 64) (h : Fin 4) (e : Fin 128) : (Gen.V m c main_v24 : Vec ℐ KS .f32) (ix4 n t h e) = ((cA (Q x n h) (C x n h) t e : ℝ) : EReal) := by
  rw [v24_eq]
  exact mul_at _ _ _ _ _ (v15_at m c I n t h e) (exp_at _ _ _ (v19_at m c I n t h e))
theorem v25_at (n t : Fin 64) (h : Fin 4) (e : Fin 128) : (Gen.V m c main_v25 : Vec ℐ KS .f32) (ix4 n t h e) = ((cB (K x n h) (C x n h) t e : ℝ) : EReal) := by
  rw [v25_eq]
  exact mul_at _ _ _ _ _ (v16_at m c I n t h e) (exp_at _ _ _ (neg_at _ _ _ (v19_at m c I n t h e)))
theorem v27_at (n t : Fin 64) (h : Fin 4) (e : Fin 128) : (Gen.V m c main_v27 : Vec ℐ KS .f32) (ix4 n t h e) = ((cCN (Q x n h) (C x n h) t e : ℝ) : EReal) := by
  rw [v27_eq]
  exact mul_at _ _ _ _ _ (v15_at m c I n t h e) (exp_at _ _ _ (neg_at _ _ _ (v19_at m c I n t h e)))
theorem v28_at (n t : Fin 64) (h : Fin 4) (e : Fin 128) : (Gen.V m c main_v28 : Vec ℐ KS .f32) (ix4 n t h e) = ((cDP (K x n h) (C x n h) t e : ℝ) : EReal) := by
  rw [v28_eq]
  exact mul_at _ _ _ _ _ (v16_at m c I n t h e) (exp_at _ _ _ (v19_at m c I n t h e))
theorem v33_at (n : Fin 64) (h : Fin 4) (t s : Fin 64) : (Gen.V m c main_v33 : Vec ℐ S64x4x64x64 .f32) (ix4 n h t s)
    = ((cSC (Q x n h) (K x n h) (C x n h) t s : ℝ) : EReal) := by
  rw [v33_eq]
  refine masked_at _ _ n h t s _ _ ?_ ?_
  · rw [v26_eq]
    exact scores_at _ _ n h _ _ (fun t e => v24_at m c I n t h e) (fun t e => v25_at m c I n t h e) t s
  · rw [v29_eq]
    exact scores_at _ _ n h _ _ (fun t e => v27_at m c I n t h e) (fun t e => v28_at m c I n t h e) t s
theorem v39_at (n t : Fin 64) (h : Fin 4) (e : Fin 128) : (Gen.V m c main_v39 : Vec ℐ KS .f32) (ix4 n t h e) = ((cKD (K x n h) (C x n h) t e : ℝ) : EReal) := by
  rw [v39_eq, v20_eq]
  exact left_at _ _ n t h e _ (fun s => C x n h s e) (v16_at m c I n t h e) (fun s => v19_at m c I n s h e)
theorem v40_at (n : Fin 64) (h : Fin 4) (w : Fin 256) (e : Fin 128) : (Gen.V m c main_v40 : Vec ℐ S64x4x256x128 .f32) (ix4 n h w e)
    = ((cAdd (K x n h) (C x n h) (Cert.Gla.V x n h) w e : ℝ) : EReal) := by
  rw [v40_eq]
  exact added_at _ _ n h _ _ (fun t w => v17_at m c I n t h w) (fun t e => v39_at m c I n t h e) w e
theorem v57_at (n k : Fin 64) (h : Fin 4) (e : Fin 128) : (Gen.V m c main_v57 : Vec ℐ KS .f32) (ix4 n k h e) = ((kept x n k h e : ℝ) : EReal) := by
  rw [v57_eq]
  refine kept_at _ n k h e _ ?_
  rw [v51_eq, v50_eq]
  refine between_at _ (fun j => C x j h 63 e) h e (fun j => ?_) n k
  rw [v20_eq, last_at]
  exact v19_at m c I j 63 h e
theorem v59_at (n : Fin 64) (h : Fin 4) (w : Fin 256) (e : Fin 128) : (Gen.V m c main_v59 : Vec ℐ S64x4x256x128 .f32) (ix4 n h w e)
    = ((ST x n h w e : ℝ) : EReal) := by
  rw [v59_eq]
  exact states_at _ _ n h w e (fun j => cAdd (K x j h) (C x j h) (Cert.Gla.V x j h) w e) (fun j => kept x n j h e)
    (fun j => v40_at m c I j h w e) (fun j => v57_at m c I n j h e)
theorem v62_at (n t : Fin 64) (h : Fin 4) (w : Fin 256) : (Gen.V m c main_v62 : Vec ℐ VS .f32) (ix4 n t h w) = ((O x n h t w : ℝ) : EReal) := by
  rw [v62_eq, v34_eq, v60_eq]
  exact outs_at _ _ _ _ n t h w (fun j => Cert.Gla.V x n h j w) (fun j => cSC (Q x n h) (K x n h) (C x n h) t j) (fun e => ST x n h w e)
    (fun e => cA (Q x n h) (C x n h) t e) (fun j => v17_at m c I n j h w) (fun j => v33_at m c I n h t j) (fun e => v59_at m c I n h w e) (fun e => v24_at m c I n t h e)

/-! ## The rows' columns -/

theorem rows_at (X : Vec ℐ S4096x3088 .f32) (Y : Vec ℐ S4096x112 .f32) (W L : Vec ℐ S4096x512 .f32) (r : Fin 4096) (l : Fin 4224) :
    (concatenate S4096x4224 1 [⟨S4096x3088, X⟩, ⟨S4096x112, Y⟩, ⟨S4096x512, W⟩, ⟨S4096x512, L⟩] concatenates_S4096x3088_S4096x112_S4096x512_S4096x512_S4096x4224_d1 : Vec ℐ S4096x4224 .f32) (ix2 r l)
      = (if p : l.val < 3088 then (X (ix2 r ⟨l.val, p⟩) : EReal) else if q : l.val - 3088 < 112 then Y (ix2 r ⟨l.val - 3088, q⟩)
        else if s : l.val - 3088 - 112 < 512 then W (ix2 r ⟨l.val - 3088 - 112, s⟩) else L (ix2 r ⟨l.val - 3088 - 112 - 512, by omega⟩)) := by
  pointwise

/-- The arrays the region finds, of real arguments. -/
theorem saved : Step.Saved x (Gen.V m c main_arg5) (Gen.V m c main_v66) (Gen.V m c main_v63) (Gen.V m c main_v75) (Gen.V m c main_v77)
    (Gen.V m c main_v80) (Gen.V m c main_v83) (Gen.V m c main_v85) where
  dh n t l := (arg5_raw m c (row n t) l).trans (I.dh _ l)
  p n t l := by
    rw [v66_eq, rows_at m c I, dif_pos (show l.val < 3088 from l.isLt)]
    exact (v0_raw m c _ _).trans (I.p _ _)
  pad n t l := by
    have := l.isLt
    rw [v66_eq, rows_at m c I, dif_neg (by show ¬3088 + l.val < 3088; omega), dif_pos (by show 3088 + l.val - 3088 < 112; omega)]
    exact v64_raw m c _ _
  z n t l := by
    have := l.isLt
    rw [v66_eq, rows_at m c I, dif_neg (by show ¬3200 + l.val < 3088; omega), dif_neg (by show ¬3200 + l.val - 3088 < 112; omega),
      dif_pos (by show 3200 + l.val - 3088 - 112 < 512; omega), v9_at m c I]
    exact congrArg (fun i => ((Z x (row n t) i : ℝ) : EReal)) (Fin.ext (by show 3200 + l.val - 3088 - 112 = l.val; omega))
  c h n t e := by
    have := (kcol h e).isLt
    rw [v66_eq, rows_at m c I, dif_neg (by show ¬3712 + (kcol h e).val < 3088; omega), dif_neg (by show ¬3712 + (kcol h e).val - 3088 < 112; omega),
      dif_neg (by show ¬3712 + (kcol h e).val - 3088 - 112 < 512; omega), v65_eq]
    refine Eq.trans ?_ ((flat_k (Gen.V m c main_v19) n t h e).trans (v19_at m c I n t h e))
    exact congrArg (fun i => shapeCast S4096x512 (Gen.V m c main_v19 : Vec ℐ KS .f32) shapeCasts_S64x64x4x128_S4096x512 (ix2 (row n t) i))
      (Fin.ext (by show 3712 + (kcol h e).val - 3088 - 112 - 512 = (kcol h e).val; omega))
  o h n t w := by
    rw [v63_eq]
    exact (flat_v (Gen.V m c main_v62) n t h w).trans (v62_at m c I n t h w)
  st n h w e := by
    rw [v75_eq]
    exact (flat_s (Gen.V m c main_v59) n h w e).trans (v59_at m c I n h w e)
  sc h n t i s := by
    rw [v77_eq, v74_eq]
    refine (placed_at (Gen.V m c main_v33) n t h i s).trans ?_
    rw [v33_at m c I, coe_ite]
    rfl
  gw i l := by
    rw [v80_raw]
    unfold gwP
    split
    · exact I.gw _ l
    · rfl
  hw h w := (v83_raw m c h w).trans (I.hw w)
  ow i l := (v85_raw m c i l).trans (I.ow i l)

end Cert.GlaBwdIdeal.Entry

end
-- ==== Proof.GlaRank6.lean ====
/-
  Sums of an array of rank six at an index: over one inner axis, and over the three outermost; and sums over axes of one element.
-/
module

public import Idealize.ShloMosaic.Lib.Pointwise
public import Idealize.ShloMosaic.Lib.ValueIdx

@[expose] public section

set_option maxRecDepth 16384

noncomputable section

namespace Cert.Gla

open Idealize.ShloMosaic Idealize.ShloMosaic.TcCoe
open scoped BigOperators

abbrev Sh6 : Shape := ⟨6, ![1, 64, 64, 64, 4, 128]⟩

/-- Over the third inner axis. -/
theorem total_d3 (r : Sh6.ReducesTo [3] ⟨5, ![1, 64, 64, 4, 128]⟩) (v : Sh6.Idx → EReal) (i : EReal) (n m : Fin 64) (h : Fin 4) (e : Fin 128) :
    Ideal.hostReduceAdd r v i (ix5 0 n m h e) = i + ∑ j, v (ix6 0 n m j h e) := by
  refine congrArg (i + ·) (Finset.sum_filter_eq_sum_of_fiber _ (fun j : Fin 64 => (ix6 0 n m j h e : Sh6.Idx)) (fun _ _ q => congrFun q 3) ?_ v)
  intro b
  constructor
  · intro q
    refine ⟨b 3, funext fun a => Fin.ext ?_⟩
    match a with
    | ⟨0, _⟩ => exact (congrArg Fin.val (congrFun q ⟨0, by decide⟩)).symm
    | ⟨1, _⟩ => exact (congrArg Fin.val (congrFun q ⟨1, by decide⟩)).symm
    | ⟨2, _⟩ => exact (congrArg Fin.val (congrFun q ⟨2, by decide⟩)).symm
    | ⟨3, _⟩ => rfl
    | ⟨4, _⟩ => exact (congrArg Fin.val (congrFun q ⟨3, by decide⟩)).symm
    | ⟨5, _⟩ => exact (congrArg Fin.val (congrFun q ⟨4, by decide⟩)).symm
  · rintro ⟨j, rfl⟩
    refine funext fun a => Fin.ext ?_
    match a with
    | ⟨0, _⟩ => rfl
    | ⟨1, _⟩ => rfl
    | ⟨2, _⟩ => rfl
    | ⟨3, _⟩ => rfl
    | ⟨4, _⟩ => rfl

/-- Over the three outermost axes. -/
theorem total_d012 (r : Sh6.ReducesTo [0, 1, 2] ⟨3, ![64, 4, 128]⟩) (v : Sh6.Idx → EReal) (i : EReal) (j : Fin 64) (h : Fin 4) (e : Fin 128) :
    Ideal.hostReduceAdd r v i (ix3 j h e) = i + ∑ n, ∑ m, v (ix6 0 n m j h e) := by
  rw [← Fintype.sum_prod_type' (f := fun n m : Fin 64 => v (ix6 0 n m j h e))]
  refine congrArg (i + ·) (Finset.sum_filter_eq_sum_of_fiber _ (fun k : Fin 64 × Fin 64 => (ix6 0 k.1 k.2 j h e : Sh6.Idx))
    (fun _ _ q => Prod.ext (congrFun q 1) (congrFun q 2)) ?_ v)
  intro b
  constructor
  · intro q
    refine ⟨(b 1, b 2), funext fun a => Fin.ext ?_⟩
    match a with
    | ⟨0, _⟩ => have hb : (b 0).val < 1 := (b 0).isLt; show 0 = (b 0).val; omega
    | ⟨1, _⟩ => rfl
    | ⟨2, _⟩ => rfl
    | ⟨3, _⟩ => exact (congrArg Fin.val (congrFun q ⟨0, by decide⟩)).symm
    | ⟨4, _⟩ => exact (congrArg Fin.val (congrFun q ⟨1, by decide⟩)).symm
    | ⟨5, _⟩ => exact (congrArg Fin.val (congrFun q ⟨2, by decide⟩)).symm
  · rintro ⟨k, rfl⟩
    refine funext fun a => Fin.ext ?_
    match a with
    | ⟨0, _⟩ => rfl
    | ⟨1, _⟩ => rfl
    | ⟨2, _⟩ => rfl

/-- Over axes of one element, the sum is the element. -/
theorem total_one {s t : Shape} {axes : List (Fin s.rank)} (r : s.ReducesTo axes t) (v : s.Idx → EReal) (i : EReal) (j : t.Idx) (b : s.Idx)
    (hb : ∀ a, r.drop a = j ↔ b = a) : Ideal.hostReduceAdd r v i j = i + v b := by
  refine congrArg (i + ·) ((Finset.sum_filter_eq_sum_of_fiber _ (fun _ : Fin 1 => b) (fun _ _ _ => Subsingleton.elim _ _) (fun a => ?_) v).trans (Fin.sum_univ_one _))
  rw [hb]
  exact ⟨fun e => ⟨0, e⟩, fun ⟨_, e⟩ => e⟩

theorem total_heads (r : (⟨4, ![1, 1, 4, 256]⟩ : Shape).ReducesTo [0, 1] ⟨2, ![4, 256]⟩) (v : (⟨4, ![1, 1, 4, 256]⟩ : Shape).Idx → EReal) (i : EReal) (h : Fin 4)
    (w : Fin 256) : Ideal.hostReduceAdd r v i (ix2 h w) = i + v (ix4 0 0 h w) := by
  refine total_one r v i _ _ fun a => ⟨fun q => funext fun d => Fin.ext ?_, ?_⟩
  · match d with
    | ⟨0, _⟩ => have hb : (a 0).val < 1 := (a 0).isLt; show 0 = (a 0).val; omega
    | ⟨1, _⟩ => have hb : (a 1).val < 1 := (a 1).isLt; show 0 = (a 1).val; omega
    | ⟨2, _⟩ => exact (congrArg Fin.val (congrFun q ⟨0, by decide⟩)).symm
    | ⟨3, _⟩ => exact (congrArg Fin.val (congrFun q ⟨1, by decide⟩)).symm
  · rintro rfl
    refine funext fun a => Fin.ext ?_
    match a with
    | ⟨0, _⟩ => rfl
    | ⟨1, _⟩ => rfl

theorem total_row {b : ℕ} (r : (⟨3, ![1, 1, b]⟩ : Shape).ReducesTo [0, 1] ⟨1, ![b]⟩) (v : (⟨3, ![1, 1, b]⟩ : Shape).Idx → EReal) (i : EReal) (l : Fin b) :
    Ideal.hostReduceAdd r v i (ix1 l) = i + v (ix3 0 0 l) := by
  refine total_one r v i _ _ fun a => ⟨fun q => funext fun d => Fin.ext ?_, ?_⟩
  · match d with
    | ⟨0, _⟩ => have hb : (a 0).val < 1 := (a 0).isLt; show 0 = (a 0).val; omega
    | ⟨1, _⟩ => have hb : (a 1).val < 1 := (a 1).isLt; show 0 = (a 1).val; omega
    | ⟨2, _⟩ => exact (congrArg Fin.val (congrFun q ⟨0, Nat.one_pos⟩)).symm
  · rintro rfl
    refine funext fun a => Fin.ext ?_
    match a with
    | ⟨0, _⟩ => rfl

theorem total_ends (r : (⟨4, ![1, 4096, 4, 1]⟩ : Shape).ReducesTo [0, 3] ⟨2, ![4096, 4]⟩) (v : (⟨4, ![1, 4096, 4, 1]⟩ : Shape).Idx → EReal) (i : EReal) (k : Fin 4096)
    (h : Fin 4) : Ideal.hostReduceAdd r v i (ix2 k h) = i + v (ix4 0 k h 0) := by
  refine total_one r v i _ _ fun a => ⟨fun q => funext fun d => Fin.ext ?_, ?_⟩
  · match d with
    | ⟨0, _⟩ => have hb : (a 0).val < 1 := (a 0).isLt; show 0 = (a 0).val; omega
    | ⟨1, _⟩ => exact (congrArg Fin.val (congrFun q ⟨0, by decide⟩)).symm
    | ⟨2, _⟩ => exact (congrArg Fin.val (congrFun q ⟨1, by decide⟩)).symm
    | ⟨3, _⟩ => have hb : (a 3).val < 1 := (a 3).isLt; show 0 = (a 3).val; omega
  · rintro rfl
    refine funext fun a => Fin.ext ?_
    match a with
    | ⟨0, _⟩ => rfl
    | ⟨1, _⟩ => rfl

theorem total_outer (r : (⟨6, ![1, 1, 1, 64, 4, 128]⟩ : Shape).ReducesTo [0, 1, 2] ⟨3, ![64, 4, 128]⟩) (v : (⟨6, ![1, 1, 1, 64, 4, 128]⟩ : Shape).Idx → EReal)
    (i : EReal) (j : Fin 64) (h : Fin 4) (e : Fin 128) : Ideal.hostReduceAdd r v i (ix3 j h e) = i + v (ix6 0 0 0 j h e) := by
  refine total_one r v i _ _ fun a => ⟨fun q => funext fun d => Fin.ext ?_, ?_⟩
  · match d with
    | ⟨0, _⟩ => have hb : (a 0).val < 1 := (a 0).isLt; show 0 = (a 0).val; omega
    | ⟨1, _⟩ => have hb : (a 1).val < 1 := (a 1).isLt; show 0 = (a 1).val; omega
    | ⟨2, _⟩ => have hb : (a 2).val < 1 := (a 2).isLt; show 0 = (a 2).val; omega
    | ⟨3, _⟩ => exact (congrArg Fin.val (congrFun q ⟨0, by decide⟩)).symm
    | ⟨4, _⟩ => exact (congrArg Fin.val (congrFun q ⟨1, by decide⟩)).symm
    | ⟨5, _⟩ => exact (congrArg Fin.val (congrFun q ⟨2, by decide⟩)).symm
  · rintro rfl
    refine funext fun a => Fin.ext ?_
    match a with
    | ⟨0, _⟩ => rfl
    | ⟨1, _⟩ => rfl
    | ⟨2, _⟩ => rfl

end Cert.Gla
-- ==== Proof.GlaRefForward.lean ====
/-
  The forward lines of the gated linear attention's reference at an index, of real arguments: inputs, log decays, scores, states and outputs.
-/
module

public import proofs.«01_k».proof.Proof.GlaGrad
public import proofs.«01_k».proof.Proof.GlaTile
public import proofs.«01_k».proof.Proof.GlaWindow
public import proofs.«01_k».proof.Proof.GlaRank6
public import proofs.«01_k».proof.Proof.Gen.GlaBwdRefIdeal.Read
public import Idealize.ShloMosaic.Lib.Pointwise

@[expose] public section

set_option maxRecDepth 16384
set_option maxHeartbeats 800000

noncomputable section

namespace Cert.GlaBwdRefIdeal.Stages

open Idealize.ShloMosaic Idealize.ShloMosaic.TcCoe Cert.GlaBwdRefIdeal Cert.GlaBwdRefIdeal.Gen
open Cert.GlaBwdRefIdeal.Read Cert.Gla
open Cert.GlaBwdIdeal.Head (mul_coe coe_sum coe_ite select_ite bool_word ge_word lt_word gt_word eq_word div_real rsqrt_pos word_scale word_256 word_16 word_eps word_half)
open scoped BigOperators

/-- The arguments are the layer's inputs and the cotangent. -/
structure Inputs (x : Args) (a0 : Vec Ideal S1x4096x3088 .f32) (a1 : Vec Ideal S1x16x512 .f32) (a2 : Vec Ideal S1x512 .f32) (a3 : Vec Ideal S1x256 .f32)
    (a4 : Vec Ideal S1x1024x1024 .f32) (a5 : Vec Ideal S4096x1024 .f32) : Prop where
  p : ∀ r l, a0 (ix3 0 r l) = ((x.p r l : ℝ) : EReal)
  gw : ∀ i l, a1 (ix3 0 i l) = ((x.gw i l : ℝ) : EReal)
  gb : ∀ l, a2 (ix2 0 l) = ((x.gb l : ℝ) : EReal)
  hw : ∀ w, a3 (ix2 0 w) = ((x.hw w : ℝ) : EReal)
  ow : ∀ i l, a4 (ix3 0 i l) = ((x.ow i l : ℝ) : EReal)
  dh : ∀ r l, a5 (ix2 r l) = ((x.dh r l : ℝ) : EReal)

theorem row_mk (n t : Fin 64) (p : n.val * 64 + t.val < 4096) : (⟨n.val * 64 + t.val, p⟩ : Fin 4096) = row n t :=
  Fin.ext (by show n.val * 64 + t.val = 64 * n.val + t.val; omega)
theorem kcol_mk (h : Fin 4) (e : Fin 128) (p : h.val * 128 + e.val < 512) : (⟨h.val * 128 + e.val, p⟩ : Fin 512) = kcol h e :=
  Fin.ext (by show h.val * 128 + e.val = 128 * h.val + e.val; omega)
theorem vcol_mk (h : Fin 4) (w : Fin 256) (p : h.val * 256 + w.val < 1024) : (⟨h.val * 256 + w.val, p⟩ : Fin 1024) = vcol h w :=
  Fin.ext (by show h.val * 256 + w.val = 256 * h.val + w.val; omega)
theorem word_zero : Ideal.ofBits .f32 0x00000000#32 = 0 := by
  simp [Ideal.ofBits, Ideal.ieee, -EReal.coe_mul]
theorem word_inf : Ideal.ofBits .f32 0x7F800000#32 = ⊤ := by
  simp [Ideal.ofBits, Ideal.ieee]
theorem andi_ite (P R : Prop) [Decidable P] [Decidable R] :
    IntOp.andi (if P then 1#1 else 0#1) (if R then 1#1 else 0#1) = if P ∧ R then 1#1 else 0#1 := by
  by_cases p : P <;> by_cases r : R <;> simp [p, r, IntOp.andi]

variable {x : Args} {x0 : Vec Ideal S1x4096x3088 .f32} {x1 : Vec Ideal S1x16x512 .f32} {x2 : Vec Ideal S1x512 .f32} {x3 : Vec Ideal S1x256 .f32}
  {x4 : Vec Ideal S1x1024x1024 .f32} {x5 : Vec Ideal S4096x1024 .f32} (I : Inputs x x0 x1 x2 x3 x4 x5)
include I

/-! ## The inputs and the log decays -/

theorem v16_at (r : Fin 4096) (l : Fin 512) : val_main_v16 (F := Ideal) x0 x1 x2 (ix3 0 r l) = ((Z x r l : ℝ) : EReal) := by
  pointwise [val_main_v16, val_main_v15, val_main_v14, val_main_v13, val_main_v12, val_main_v6, val_main_v5]
  simp only [I.p, I.gw, I.gb, mul_coe, ← coe_sum, ← EReal.coe_add]
  rfl

theorem soft_at (r : Fin 4096) (l : Fin 512) : val_main_call0_v1_0 (F := Ideal) x0 x1 x2 (ix3 0 r l) = ((Real.log (1 + Real.exp (-Z x r l)) : ℝ) : EReal) := by
  pointwise [val_main_call0_v1_0, val_main_call0_call0_v4, val_main_call0_call0_v6, val_main_call0_call0_v11, val_main_call0_call0_v1, val_main_call0_call0_v10,
    val_main_call0_call0_v9, val_main_call0_call0_v8, val_main_call0_call0_v7, val_main_call0_call0_v3, val_main_call0_call0_v0, val_main_call0_call0_v2,
    val_main_call0_call0_v5, val_main_call0_call0_cst, val_main_call0_v0]
  rw [v16_at I, if_neg (by simp), ← EReal.coe_neg]
  exact softplus_coe _

theorem slope_at (r : Fin 4096) (l : Fin 512) : val_main_v17_1 (F := Ideal) x0 x1 x2 (ix3 0 r l) = ((1 - sgm (Z x r l) : ℝ) : EReal) := by
  have e := soft_at I r l
  have z := v16_at I r l
  pointwise [val_main_v17_1, val_main_call0_call0_v21, val_main_call0_call0_v16, val_main_call0_call0_v20, val_main_call0_call0_v14, val_main_call0_call0_v15,
    val_main_call0_call0_v18, val_main_call0_call0_v19, val_main_call0_call0_v13, val_main_call0_call0_v17, val_main_call0_call0_cst_0, val_main_call0_call0_cst_1,
    val_main_call0_call0_cst_2, val_main_call0_call0_cst_3, val_main_call0_v0]
  rw [e, z, ← EReal.coe_neg]
  rw [word_inf, if_neg (EReal.coe_ne_top _), if_neg (EReal.coe_ne_top _), ← EReal.coe_sub, Ideal.exp_coe, exp_sub_softplus]

theorem v25_at (n t : Fin 64) (h : Fin 4) (e : Fin 128) : val_main_v25 (F := Ideal) x0 x1 x2 (ix5 0 n t h e) = ((LD x (row n t) (kcol h e) : ℝ) : EReal) := by
  pointwise [val_main_v25, val_main_v19, val_main_v18, val_main_cst, val_main_v17_0]
  rw [row_mk, kcol_mk, soft_at I, word_16, ← EReal.coe_neg, div_real _ 16 (by norm_num), LD, neg_div]

theorem v26_at (n t : Fin 64) (h : Fin 4) (e : Fin 128) : val_main_v26 (F := Ideal) x0 x1 x2 (ix5 0 n t h e) = ((C x n h t e : ℝ) : EReal) := by
  unfold val_main_v26
  refine (cum5 _ _ _ _ word_zero n t h e).trans ?_
  unfold C
  rw [coe_sum]
  refine Finset.sum_congr rfl fun s _ => ?_
  rw [coe_ite, v25_at I]
  rfl

theorem v22_at (n t : Fin 64) (h : Fin 4) (e : Fin 128) : val_main_v22 (F := Ideal) x0 (ix5 0 n t h e) = ((Q x n h t e : ℝ) : EReal) := by
  pointwise [val_main_v22, val_main_v20, val_main_v8, val_main_v21, val_main_cst_0]
  rw [row_mk, I.p, word_scale, mul_coe]
  exact congrArg (fun l => ((x.p (row n t) l * scale : ℝ) : EReal)) (Fin.ext (by show h.val * 128 + e.val = 128 * h.val + e.val; omega))

theorem v23_at (n t : Fin 64) (h : Fin 4) (e : Fin 128) : val_main_v23 (F := Ideal) x0 (ix5 0 n t h e) = ((K x n h t e : ℝ) : EReal) := by
  pointwise [val_main_v23, val_main_v9]
  rw [row_mk, I.p]
  exact congrArg (fun l => ((x.p (row n t) l : ℝ) : EReal)) (Fin.ext (by show 512 + (h.val * 128 + e.val) = 512 + (128 * h.val + e.val); omega))

theorem v24_at (n t : Fin 64) (h : Fin 4) (w : Fin 256) : val_main_v24 (F := Ideal) x0 (ix5 0 n t h w) = ((V x n h t w : ℝ) : EReal) := by
  pointwise [val_main_v24, val_main_v10]
  rw [row_mk, I.p]
  exact congrArg (fun l => ((x.p (row n t) l : ℝ) : EReal)) (Fin.ext (by show 1024 + (h.val * 256 + w.val) = 1024 + (256 * h.val + w.val); omega))

/-! ## Scores -/

theorem v28_at (n t : Fin 64) (h : Fin 4) (e : Fin 128) : val_main_v28 (F := Ideal) x0 x1 x2 (ix5 0 n t h e) = ((Real.exp (C x n h t e) : ℝ) : EReal) := by
  pointwise [val_main_v28]
  rw [v26_at I, Ideal.exp_coe]
theorem v30_at (n t : Fin 64) (h : Fin 4) (e : Fin 128) : val_main_v30 (F := Ideal) x0 x1 x2 (ix5 0 n t h e) = ((Real.exp (-C x n h t e) : ℝ) : EReal) := by
  pointwise [val_main_v30, val_main_v29]
  rw [v26_at I, ← EReal.coe_neg, Ideal.exp_coe]
theorem v31_at (n t : Fin 64) (h : Fin 4) (e : Fin 128) : val_main_v31 (F := Ideal) x0 x1 x2 (ix5 0 n t h e) = ((cA (Q x n h) (C x n h) t e : ℝ) : EReal) := by
  pointwise [val_main_v31]
  rw [v22_at I, v28_at I, mul_coe]
  rfl
theorem v46_at (n t : Fin 64) (h : Fin 4) (e : Fin 128) : val_main_v46 (F := Ideal) x0 x1 x2 (ix5 0 n t h e) = ((cA (Q x n h) (C x n h) t e : ℝ) : EReal) := by
  pointwise [val_main_v46]
  rw [v22_at I, v28_at I, mul_coe]
  rfl
theorem v32_at (n t : Fin 64) (h : Fin 4) (e : Fin 128) : val_main_v32 (F := Ideal) x0 x1 x2 (ix5 0 n t h e) = ((cB (K x n h) (C x n h) t e : ℝ) : EReal) := by
  pointwise [val_main_v32]
  rw [v23_at I, v30_at I, mul_coe]
  rfl
theorem v34_at (n t : Fin 64) (h : Fin 4) (e : Fin 128) : val_main_v34 (F := Ideal) x0 x1 x2 (ix5 0 n t h e) = ((cCN (Q x n h) (C x n h) t e : ℝ) : EReal) := by
  pointwise [val_main_v34]
  rw [v22_at I, v30_at I, mul_coe]
  rfl
theorem v35_at (n t : Fin 64) (h : Fin 4) (e : Fin 128) : val_main_v35 (F := Ideal) x0 x1 x2 (ix5 0 n t h e) = ((cDP (K x n h) (C x n h) t e : ℝ) : EReal) := by
  pointwise [val_main_v35]
  rw [v23_at I, v28_at I, mul_coe]
  rfl

omit I in
theorem lower_at (n : Fin 64) (h : Fin 4) (t s : Fin 64) : val_main_v43_1 (F := Ideal) (ix5 0 n h t s) = if s ≤ t then 1#1 else 0#1 := by
  pointwise [val_main_v43_1, val_main_v42, val_main_v40, val_main_v41, val_main_v38, val_main_v39, val_main_v37]
  rw [ge_word _ _ (by omega) (by omega)]
  rfl

theorem v43_at (n : Fin 64) (h : Fin 4) (t s : Fin 64) : val_main_v43_0 (F := Ideal) x0 x1 x2 (ix5 0 n h t s)
    = ((cSC (Q x n h) (K x n h) (C x n h) t s : ℝ) : EReal) := by
  have e1 : val_main_v33 (F := Ideal) x0 x1 x2 (ix5 0 n h t s) = ((∑ e, cA (Q x n h) (C x n h) t e * cB (K x n h) (C x n h) s e : ℝ) : EReal) := by
    pointwise [val_main_v33]
    simp only [v31_at I, v32_at I, mul_coe, ← coe_sum]
  have e2 : val_main_v36 (F := Ideal) x0 x1 x2 (ix5 0 n h t s) = ((∑ e, cCN (Q x n h) (C x n h) t e * cDP (K x n h) (C x n h) s e : ℝ) : EReal) := by
    pointwise [val_main_v36]
    simp only [v34_at I, v35_at I, mul_coe, ← coe_sum]
  pointwise [val_main_v43_0]
  rw [lower_at, select_ite, e1, e2, ← coe_ite]
  rfl

/-! ## States -/

theorem last_at (n : Fin 64) (h : Fin 4) (e : Fin 128) : val_main_v27 (F := Ideal) x0 x1 x2 (ix5 0 n 0 h e) = ((C x n h 63 e : ℝ) : EReal) := by
  pointwise [val_main_v27]
  exact v26_at I n 63 h e

theorem v49_at (n t : Fin 64) (h : Fin 4) (e : Fin 128) : val_main_v49 (F := Ideal) x0 x1 x2 (ix5 0 n t h e) = ((Real.exp (C x n h 63 e - C x n h t e) : ℝ) : EReal) := by
  pointwise [val_main_v49, val_main_v48, val_main_v47]
  rw [last_at I, v26_at I, ← EReal.coe_sub, Ideal.exp_coe]
theorem v50_at (n t : Fin 64) (h : Fin 4) (e : Fin 128) : val_main_v50 (F := Ideal) x0 x1 x2 (ix5 0 n t h e) = ((cKD (K x n h) (C x n h) t e : ℝ) : EReal) := by
  pointwise [val_main_v50]
  rw [v23_at I, v49_at I, mul_coe]
  rfl

theorem v51_at (n : Fin 64) (h : Fin 4) (e : Fin 128) (w : Fin 256) : val_main_v51 (F := Ideal) x0 x1 x2 (ix5 0 n h e w)
    = ((cAdd (K x n h) (C x n h) (V x n h) w e : ℝ) : EReal) := by
  pointwise [val_main_v51]
  simp only [v50_at I, v24_at I, mul_coe, ← coe_sum, mul_comm (cKD _ _ _ _)]
  rfl

omit I in
theorem between_at (n k j : Fin 64) (h : Fin 4) (e : Fin 128) : val_main_v68_1 (F := Ideal) (ix6 0 n k j h e) = if k < j ∧ j < n then 1#1 else 0#1 := by
  pointwise [val_main_v68_1, val_main_v66, val_main_v65, val_main_v64, val_main_v63, val_main_v62, val_main_v61, val_main_v60, val_main_v59, val_main_v58, val_main_v57,
    val_main_v56, val_main_v55, val_main_v54, val_main_v53]
  rw [lt_word _ _ (by omega) (by omega), lt_word _ _ (by omega) (by omega), andi_ite]
  rfl

theorem v68_at (n k j : Fin 64) (h : Fin 4) (e : Fin 128) : val_main_v68_0 (F := Ideal) x0 x1 x2 (ix6 0 n k j h e)
    = ((if k < j ∧ j < n then C x j h 63 e else 0 : ℝ) : EReal) := by
  pointwise [val_main_v68_0, val_main_call3_v2, val_main_v67, val_main_v52, val_main_call3_v3, val_main_call3_v0, val_main_cst_1]
  show Scalar.select _ _ (Ideal.ofBits .f32 0x00000000#32) = _
  rw [between_at, last_at I, select_ite, word_zero, coe_ite]
  rfl

theorem v76_at (n k : Fin 64) (h : Fin 4) (e : Fin 128) : val_main_v76 (F := Ideal) x0 x1 x2 (ix5 0 n k h e)
    = ((Real.exp (∑ j, if k < j ∧ j < n then C x j h 63 e else 0) : ℝ) : EReal) := by
  pointwise [val_main_v76, val_main_v69, val_main_cst_2]
  refine (congrArg Ideal.exp (total_d3 _ _ _ n k h e)).trans ?_
  simp only [v68_at I, ← coe_sum, zero_add]
  rfl

omit I in
theorem later_at (n k : Fin 64) (h : Fin 4) (e : Fin 128) : val_main_v77_1 (F := Ideal) (ix5 0 n k h e) = if k < n then 1#1 else 0#1 := by
  pointwise [val_main_v77_1, val_main_v75, val_main_v74, val_main_v73, val_main_v72, val_main_v71, val_main_v70, val_main_v53]
  rw [gt_word _ _ (by omega) (by omega)]
  rfl

theorem v77_at (n k : Fin 64) (h : Fin 4) (e : Fin 128) : val_main_v77_0 (F := Ideal) x0 x1 x2 (ix5 0 n k h e) = ((kept x n k h e : ℝ) : EReal) := by
  pointwise [val_main_v77_0, val_main_call4_v2, val_main_call4_v0, val_main_cst_3]
  show Scalar.select _ _ (Ideal.ofBits .f32 0x00000000#32) = _
  rw [later_at, select_ite, v76_at I, word_zero]
  unfold kept
  rw [coe_ite]
  rfl

theorem v79_at (n : Fin 64) (h : Fin 4) (e : Fin 128) (w : Fin 256) : val_main_v79 (F := Ideal) x0 x1 x2 (ix5 0 n h e w) = ((ST x n h w e : ℝ) : EReal) := by
  pointwise [val_main_v79, val_main_v78]
  simp only [v51_at I, v77_at I, mul_coe, ← coe_sum, mul_comm (cAdd _ _ _ _ _)]
  rfl

/-! ## Outputs -/

theorem v83_at (n t : Fin 64) (h : Fin 4) (w : Fin 256) : val_main_v83 (F := Ideal) x0 x1 x2 (ix4 0 (row n t) h w) = ((O x n h t w : ℝ) : EReal) := by
  pointwise [val_main_v83, val_main_v82, val_main_v81, val_main_v80, val_main_v45, val_main_v44, row]
  simp only [v24_at I, v43_at I, v79_at I, v46_at I, mul_coe, ← coe_sum, ← EReal.coe_add, mul_comm (V _ _ _ _ _), mul_comm (ST _ _ _ _ _)]
  rfl

end Cert.GlaBwdRefIdeal.Stages

end
-- ==== Proof.GlaRefHead.lean ====
/-
  The reference's lines from the outputs on at an index: the norm, the gate, the output weight, and the cotangent of the outputs.
-/
module

public import proofs.«01_k».proof.Proof.GlaRefForward

@[expose] public section

set_option maxRecDepth 16384
set_option maxHeartbeats 800000

noncomputable section

namespace Cert.GlaBwdRefIdeal.Stages

open Idealize.ShloMosaic Idealize.ShloMosaic.TcCoe Cert.GlaBwdRefIdeal Cert.GlaBwdRefIdeal.Gen
open Cert.GlaBwdRefIdeal.Read Cert.Gla
open Cert.GlaBwdIdeal.Head (mul_coe coe_sum coe_ite select_ite bool_word ge_word lt_word gt_word eq_word div_real rsqrt_pos word_scale word_256 word_16 word_eps word_half)
open scoped BigOperators

theorem ms_pos (x : Args) (n : Fin 64) (h : Fin 4) (t : Fin 64) : 0 < ms x n h t :=
  add_pos_of_nonneg_of_pos (div_nonneg (Finset.sum_nonneg fun w _ => mul_self_nonneg _) (by norm_num)) (by norm_num)

theorem rs_sq (x : Args) (n : Fin 64) (h : Fin 4) (t : Fin 64) : rs x n h t / ms x n h t = rs x n h t * (rs x n h t * rs x n h t) := by
  have e : rs x n h t * rs x n h t = (ms x n h t)⁻¹ := by
    unfold rs
    rw [← mul_inv, Real.mul_self_sqrt (ms_pos x n h t).le]
  rw [e, div_eq_mul_inv]

variable {x : Args} {x0 : Vec Ideal S1x4096x3088 .f32} {x1 : Vec Ideal S1x16x512 .f32} {x2 : Vec Ideal S1x512 .f32} {x3 : Vec Ideal S1x256 .f32}
  {x4 : Vec Ideal S1x1024x1024 .f32} {x5 : Vec Ideal S4096x1024 .f32} (I : Inputs x x0 x1 x2 x3 x4 x5)
include I

/-! ## The norm -/

theorem v90_at (n t : Fin 64) (h : Fin 4) : val_main_v90 (F := Ideal) x0 x1 x2 (ix4 0 (row n t) h 0) = ((ms x n h t : ℝ) : EReal) := by
  pointwise [val_main_v90, val_main_v89, val_main_v88, val_main_v87, val_main_v86, val_main_v85, val_main_v84, val_main_cst_4, val_main_cst_5, val_main_cst_6]
  simp only [v83_at I, mul_coe, ← coe_sum, zero_add]
  rw [word_256, word_eps, div_real _ 256 (by norm_num), ← EReal.coe_add]
  rfl

theorem v91_at (n t : Fin 64) (h : Fin 4) : val_main_v91 (F := Ideal) x0 x1 x2 (ix4 0 (row n t) h 0) = ((rs x n h t : ℝ) : EReal) := by
  pointwise [val_main_v91]
  rw [v90_at I, rsqrt_pos _ (ms_pos x n h t)]
  rfl

theorem v94_at (n t : Fin 64) (h : Fin 4) : val_main_v94 (F := Ideal) x0 x1 x2 (ix4 0 (row n t) h 0) = ((-(1 / 2) * (rs x n h t / ms x n h t) : ℝ) : EReal) := by
  pointwise [val_main_v94, val_main_v93, val_main_v92, val_main_cst_7]
  rw [v90_at I, v91_at I, word_half, div_real _ _ (ms_pos x n h t).ne', mul_coe]

theorem v96_at (n t : Fin 64) (h : Fin 4) (w : Fin 256) : val_main_v96 (F := Ideal) x0 x1 x2 (ix4 0 (row n t) h w) = ((XH x n h t w : ℝ) : EReal) := by
  pointwise [val_main_v96, val_main_v95]
  rw [v83_at I, v91_at I, mul_coe]
  rfl

theorem v97_at (h : Fin 4) (w : Fin 256) : val_main_v97 (F := Ideal) x3 (ix4 0 0 h w) = ((x.hw w : ℝ) : EReal) := by
  pointwise [val_main_v97, val_main_v4, val_main_v3, val_main_v2, val_main_v1, val_main_v0]
  exact I.hw w

theorem v100_at (n t : Fin 64) (h : Fin 4) (w : Fin 256) : val_main_v100 (F := Ideal) x0 x1 x2 x3 (ix3 0 (row n t) (vcol h w)) = ((ON x n h t w : ℝ) : EReal) := by
  pointwise [val_main_v100, val_main_v99, val_main_v98, vcol]
  rw [v96_at I, v97_at I, mul_coe]
  rfl

/-! ## The gate and the output weight -/

theorem v11_at (r : Fin 4096) (l : Fin 1024) : val_main_v11 (F := Ideal) x0 (ix3 0 r l) = ((gate x r l : ℝ) : EReal) := by
  pointwise [val_main_v11]
  exact I.p _ _

theorem sgm_at (r : Fin 4096) (l : Fin 1024) : val_main_v101_2 (F := Ideal) x0 (ix3 0 r l) = ((sgm (gate x r l) : ℝ) : EReal) := by
  pointwise [val_main_v101_2, val_main_call5_v4, val_main_call5_v3, val_main_call5_v2, val_main_call5_v1, val_main_call5_v0, val_main_call5_cst, val_main_call5_cst_0]
  rw [v11_at I, ← EReal.coe_neg, Ideal.exp_coe, ← EReal.coe_one, ← EReal.coe_add, div_real _ _ (by positivity), one_div]
  rfl

theorem v101_at (r : Fin 4096) (l : Fin 1024) : val_main_v101_0 (F := Ideal) x0 (ix3 0 r l) = ((gate x r l * sgm (gate x r l) : ℝ) : EReal) := by
  pointwise [val_main_v101_0]
  rw [v11_at I, sgm_at I, mul_coe]

theorem bend_at (r : Fin 4096) (l : Fin 1024) : val_main_v101_1 (F := Ideal) x0 (ix3 0 r l) = ((sgm (gate x r l) * (1 - sgm (gate x r l)) : ℝ) : EReal) := by
  pointwise [val_main_v101_1, val_main_call5_v7, val_main_call5_v6, val_main_call5_cst_1]
  rw [sgm_at I, ← EReal.coe_one, ← EReal.coe_sub, mul_coe]

theorem v107_at (r : Fin 4096) (l : Fin 1024) : val_main_v107 (F := Ideal) x4 x5 (ix3 0 r l) = ((DY x r l : ℝ) : EReal) := by
  pointwise [val_main_v107, val_main_v104, val_main_v7]
  simp only [I.dh, I.ow, mul_coe, ← coe_sum]
  rfl

theorem v109_at (r : Fin 4096) (l : Fin 1024) : val_main_v109 (F := Ideal) x0 x4 x5 (ix3 0 r l) = ((DON x r l : ℝ) : EReal) := by
  pointwise [val_main_v109]
  rw [v107_at I, v101_at I, mul_coe]
  rfl

theorem v110_at (n t : Fin 64) (h : Fin 4) (w : Fin 256) :
    val_main_v110 (F := Ideal) x0 x1 x2 x3 x4 x5 (ix3 0 (row n t) (vcol h w)) = ((DGATE x n h t w : ℝ) : EReal) := by
  pointwise [val_main_v110, val_main_call6_v0, val_main_call6_v1, val_main_call6_v2, val_main_v108]
  rw [v100_at I, v107_at I, v11_at I, sgm_at I, bend_at I, mul_coe, mul_coe, mul_coe, mul_coe, ← EReal.coe_add]
  exact congrArg _ (by unfold DGATE; ring)

theorem v106_at (h : Fin 4) (w : Fin 256) (b : Fin 1024) : val_main_v106 (F := Ideal) x0 x1 x2 x3 x5 (ix2 (vcol h w) b) = ((∑ n, cWO x n h w b : ℝ) : EReal) := by
  pointwise [val_main_v106, val_main_v105, val_main_v104, val_main_v102]
  rw [Fin.sum_univ_one, sum_row]
  simp only [v100_at I, v101_at I, I.dh, mul_coe, ← coe_sum]
  exact congrArg _ (Finset.sum_congr rfl fun n _ => Finset.sum_congr rfl fun t _ => mul_comm _ _)

theorem v111_at (n t : Fin 64) (h : Fin 4) (w : Fin 256) : val_main_v111 (F := Ideal) x0 x4 x5 (ix4 0 (row n t) h w) = ((DON x (row n t) (vcol h w) : ℝ) : EReal) := by
  pointwise [val_main_v111]
  rw [vcol_mk, v109_at I]

theorem v113_at (h : Fin 4) (w : Fin 256) : val_main_v113 (F := Ideal) x0 x1 x2 x4 x5 (ix3 0 h w) = ((∑ n, cHW x n h w : ℝ) : EReal) := by
  pointwise [val_main_v113, val_main_v112, val_main_cst_8]
  rw [sum_row]
  simp only [v96_at I, v111_at I, mul_coe, ← coe_sum, zero_add]
  exact congrArg _ (Finset.sum_congr rfl fun n _ => Finset.sum_congr rfl fun t _ => mul_comm _ _)

theorem v117_at (h : Fin 4) (w : Fin 256) : val_main_v117 (F := Ideal) x0 x1 x2 x4 x5 (ix2 h w) = ((∑ n, cHW x n h w : ℝ) : EReal) := by
  pointwise [val_main_v117, val_main_cst_9]
  refine (total_heads _ _ _ h w).trans ?_
  pointwise [val_main_v114]
  rw [v113_at I]

/-! ## The cotangent of the outputs -/

theorem v116_at (n t : Fin 64) (h : Fin 4) (w : Fin 256) :
    val_main_v116 (F := Ideal) x0 x3 x4 x5 (ix4 0 (row n t) h w) = ((DON x (row n t) (vcol h w) * x.hw w : ℝ) : EReal) := by
  pointwise [val_main_v116, val_main_v115]
  rw [v111_at I, v97_at I, mul_coe]

theorem v125_at (n t : Fin 64) (h : Fin 4) : val_main_v125 (F := Ideal) x0 x1 x2 x3 x4 x5 (ix4 0 (row n t) h 0)
    = (((∑ u, O x n h t u * (DON x (row n t) (vcol h u) * x.hw u)) * (-(1 / 2) * (rs x n h t / ms x n h t)) / 256 : ℝ) : EReal) := by
  pointwise [val_main_v125, val_main_v124, val_main_v123, val_main_v120, val_main_v119, val_main_v118, val_main_cst_10, val_main_cst_11]
  simp only [v83_at I, v116_at I, v94_at I, mul_coe, ← coe_sum, zero_add]
  rw [word_256, div_real _ 256 (by norm_num)]

theorem v128_at (n t : Fin 64) (h : Fin 4) (w : Fin 256) : val_main_v128 (F := Ideal) x0 x1 x2 x3 x4 x5 (ix4 0 (row n t) h w)
    = (((∑ u, O x n h t u * (DON x (row n t) (vcol h u) * x.hw u)) * (-(1 / 2) * (rs x n h t / ms x n h t)) / 256 : ℝ) : EReal) := by
  pointwise [val_main_v128, val_main_v127, val_main_v126, val_main_cst_12]
  refine (total_ends _ _ _ (row n t) h).trans ?_
  rw [v125_at I, zero_add]

theorem v133_at (n t : Fin 64) (h : Fin 4) (w : Fin 256) :
    val_main_v133 (F := Ideal) x0 x1 x2 x3 x4 x5 (ix5 0 n t h w) = ((DO x n h t w : ℝ) : EReal) := by
  pointwise [val_main_v133, val_main_v132, val_main_v131, val_main_v130, val_main_v129, val_main_v122, val_main_v121]
  rw [row_mk, v83_at I, v128_at I, v116_at I, v91_at I, mul_coe, mul_coe, mul_coe, ← EReal.coe_add, ← EReal.coe_add]
  refine congrArg _ ?_
  rw [rs_sq]
  unfold DO XH
  rw [show (∑ u, DON x (row n t) (vcol h u) * x.hw u * (O x n h t u * rs x n h t))
    = (∑ u, O x n h t u * (DON x (row n t) (vcol h u) * x.hw u)) * rs x n h t from by
      rw [Finset.sum_mul]; exact Finset.sum_congr rfl fun u _ => by ring]
  ring

end Cert.GlaBwdRefIdeal.Stages

end
-- ==== Proof.GlaRefState.lean ====
/-
  The reference's gradients of the states at an index, and of each chunk's whole log decay.
-/
module

public import proofs.«01_k».proof.Proof.GlaRefHead

@[expose] public section

set_option maxRecDepth 16384
set_option maxHeartbeats 800000

noncomputable section

namespace Cert.GlaBwdRefIdeal.Stages

open Idealize.ShloMosaic Idealize.ShloMosaic.TcCoe Cert.GlaBwdRefIdeal Cert.GlaBwdRefIdeal.Gen
open Cert.GlaBwdRefIdeal.Read Cert.Gla
open Cert.GlaBwdIdeal.Head (mul_coe coe_sum coe_ite select_ite bool_word ge_word lt_word gt_word eq_word div_real rsqrt_pos word_scale word_256 word_16 word_eps word_half)
open scoped BigOperators

/-- What is kept from one chunk to a later one is what is kept up to a chunk between them, through it, and from it on. -/
theorem kept_through (x : Args) (n m j : Fin 64) (h : Fin 4) (e : Fin 128) (P : ℝ) :
    (if m < j ∧ j < n then (if m < n then P else 0) * Real.exp (∑ i, if m < i ∧ i < n then C x i h 63 e else 0) else 0)
      = Real.exp (C x j h 63 e) * kept x j m h e * (kept x n j h e * P) := by
  unfold kept
  by_cases a : m < j
  · by_cases b : j < n
    · rw [if_pos ⟨a, b⟩, if_pos (a.trans b), if_pos a, if_pos b]
      have s : (∑ i, if m < i ∧ i < n then C x i h 63 e else 0)
          = C x j h 63 e + (∑ i, if m < i ∧ i < j then C x i h 63 e else 0) + ∑ i, if j < i ∧ i < n then C x i h 63 e else 0 := by
        rw [show C x j h 63 e = ∑ i, if i = j then C x i h 63 e else 0 from by rw [Finset.sum_ite_eq' Finset.univ, if_pos (Finset.mem_univ _)],
          ← Finset.sum_add_distrib, ← Finset.sum_add_distrib]
        refine Finset.sum_congr rfl fun i _ => ?_
        rcases lt_trichotomy i j with q | q | q
        · rw [if_neg (ne_of_lt q), if_neg (show ¬(j < i ∧ i < n) from fun c => lt_asymm q c.1)]
          simp only [q, q.trans b, and_true, zero_add, add_zero]
        · subst q
          simp [a, b]
        · rw [if_neg (ne_of_gt q), if_neg (show ¬(m < i ∧ i < j) from fun c => lt_asymm q c.2)]
          simp only [q, a.trans q, true_and, zero_add]
      rw [s, Real.exp_add, Real.exp_add]
      ring
    · rw [if_neg (fun c => b c.2), if_neg b]; ring
  · rw [if_neg (fun c => a c.1), if_neg a]; ring

/-- The sum over pairs of chunks, by the state they pass through. -/
theorem pair_sums (E : ℝ) (a b : Fin 64 → ℝ) (p q : Fin 64 → Fin 256 → ℝ) :
    ∑ n, ∑ m, E * a m * (b n * ∑ w, q n w * p m w) = E * ∑ w, (∑ m, a m * p m w) * ∑ n, b n * q n w := by
  simp only [Finset.sum_mul, Finset.mul_sum]
  refine Eq.trans ?_ Finset.sum_comm
  refine Finset.sum_congr rfl fun n _ => ?_
  rw [Finset.sum_comm]
  exact Finset.sum_congr rfl fun w _ => Finset.sum_congr rfl fun m _ => by ring

variable {x : Args} {x0 : Vec Ideal S1x4096x3088 .f32} {x1 : Vec Ideal S1x16x512 .f32} {x2 : Vec Ideal S1x512 .f32} {x3 : Vec Ideal S1x256 .f32}
  {x4 : Vec Ideal S1x1024x1024 .f32} {x5 : Vec Ideal S4096x1024 .f32} (I : Inputs x x0 x1 x2 x3 x4 x5)
include I

theorem v136_at (n t : Fin 64) (h : Fin 4) (e : Fin 128) :
    val_main_v136 (F := Ideal) x0 x1 x2 x3 x4 x5 (ix5 0 n t h e) = ((∑ w, DO x n h t w * ST x n h w e : ℝ) : EReal) := by
  pointwise [val_main_v136, val_main_v135, val_main_v134]
  simp only [v133_at I, v79_at I, mul_coe, ← coe_sum]

theorem v138_at (n : Fin 64) (h : Fin 4) (e : Fin 128) (w : Fin 256) :
    val_main_v138 (F := Ideal) x0 x1 x2 x3 x4 x5 (ix5 0 n h e w) = ((cIn (Q x n h) (C x n h) (DO x n h) w e : ℝ) : EReal) := by
  pointwise [val_main_v138, val_main_v137, val_main_v134]
  simp only [v133_at I, v46_at I, mul_coe, ← coe_sum]
  rfl

theorem v141_at (n m : Fin 64) (h : Fin 4) (e : Fin 128) : val_main_v141 (F := Ideal) x0 x1 x2 x3 x4 x5 (ix5 0 n m h e)
    = ((∑ w, cIn (Q x n h) (C x n h) (DO x n h) w e * cAdd (K x m h) (C x m h) (V x m h) w e : ℝ) : EReal) := by
  pointwise [val_main_v141, val_main_v140, val_main_v139]
  simp only [v138_at I, v51_at I, mul_coe, ← coe_sum]

theorem v143_at (n : Fin 64) (h : Fin 4) (e : Fin 128) (w : Fin 256) :
    val_main_v143 (F := Ideal) x0 x1 x2 x3 x4 x5 (ix5 0 n h e w) = ((G x n h w e : ℝ) : EReal) := by
  pointwise [val_main_v143, val_main_v142, val_main_v139]
  simp only [v138_at I, v77_at I, mul_coe, ← coe_sum]
  exact congrArg _ (Finset.sum_congr rfl fun m _ => mul_comm _ _)

theorem v145_at (n m : Fin 64) (h : Fin 4) (e : Fin 128) : val_main_v145 (F := Ideal) x0 x1 x2 x3 x4 x5 (ix5 0 n m h e)
    = (((if m < n then ∑ w, cIn (Q x n h) (C x n h) (DO x n h) w e * cAdd (K x m h) (C x m h) (V x m h) w e else 0)
      * Real.exp (∑ j, if m < j ∧ j < n then C x j h 63 e else 0) : ℝ) : EReal) := by
  pointwise [val_main_v145, val_main_v144, val_main_call7_v0, val_main_call7_cst]
  rw [later_at, v141_at I, v76_at I, select_ite, mul_coe, ← EReal.coe_zero, ← coe_ite, ite_mul, zero_mul]

theorem call8_at (n m j : Fin 64) (h : Fin 4) (e : Fin 128) : val_main_call8_v1 (F := Ideal) x0 x1 x2 x3 x4 x5 (ix6 0 n m j h e)
    = ((Real.exp (C x j h 63 e) * kept x j m h e
      * (kept x n j h e * ∑ w, cIn (Q x n h) (C x n h) (DO x n h) w e * cAdd (K x m h) (C x m h) (V x m h) w e) : ℝ) : EReal) := by
  pointwise [val_main_call8_v1, val_main_v146, val_main_call8_v0, val_main_call8_cst]
  rw [between_at, v145_at I, select_ite, ← EReal.coe_zero, ← coe_ite, kept_through]

theorem v150_at (j : Fin 64) (h : Fin 4) (e : Fin 128) : val_main_v150 (F := Ideal) x0 x1 x2 x3 x4 x5 (ix5 0 j 0 h e)
    = ((Real.exp (C x j h 63 e) * ∑ w, ST x j h w e * G x j h w e : ℝ) : EReal) := by
  pointwise [val_main_v150, val_main_v149, val_main_v148, val_main_cst_13]
  refine (total_outer _ _ _ j h e).trans ?_
  pointwise [val_main_v147, val_main_call8_v2, val_main_call8_cst_0]
  rw [total_d012]
  simp only [call8_at I, ← coe_sum, zero_add]
  refine congrArg _ ?_
  exact pair_sums _ _ _ _ _

theorem v152_at (n t : Fin 64) (h : Fin 4) (w : Fin 256) : val_main_v152 (F := Ideal) x0 x1 x2 x3 x4 x5 (ix5 0 n t h w)
    = ((∑ e, cKD (K x n h) (C x n h) t e * G x n h w e : ℝ) : EReal) := by
  pointwise [val_main_v152, val_main_v151]
  simp only [v143_at I, v50_at I, mul_coe, ← coe_sum]
  exact congrArg _ (Finset.sum_congr rfl fun e _ => mul_comm _ _)

theorem v154_at (n t : Fin 64) (h : Fin 4) (e : Fin 128) : val_main_v154 (F := Ideal) x0 x1 x2 x3 x4 x5 (ix5 0 n t h e)
    = ((∑ w, V x n h t w * G x n h w e : ℝ) : EReal) := by
  pointwise [val_main_v154, val_main_v153]
  simp only [v143_at I, v24_at I, mul_coe, ← coe_sum]
  exact congrArg _ (Finset.sum_congr rfl fun w _ => mul_comm _ _)

theorem v156_at (n t : Fin 64) (h : Fin 4) (e : Fin 128) : val_main_v156 (F := Ideal) x0 x1 x2 x3 x4 x5 (ix5 0 n t h e)
    = ((cDKD (C x n h) (V x n h) (G x n h) t e : ℝ) : EReal) := by
  pointwise [val_main_v156]
  rw [v154_at I, v49_at I, mul_coe]
  rfl

theorem v157_at (n t : Fin 64) (h : Fin 4) (e : Fin 128) : val_main_v157 (F := Ideal) x0 x1 x2 x3 x4 x5 (ix5 0 n t h e)
    = ((cDKD (C x n h) (V x n h) (G x n h) t e * K x n h t e : ℝ) : EReal) := by
  pointwise [val_main_v157, val_main_v155]
  rw [v154_at I, v49_at I, v23_at I, mul_coe, mul_coe]
  exact congrArg _ (by unfold cDKD; ring)

theorem v161_at (n : Fin 64) (h : Fin 4) (e : Fin 128) : val_main_v161 (F := Ideal) x0 x1 x2 x3 x4 x5 (ix5 0 n 0 h e)
    = ((cDCL (K x n h) (C x n h) (V x n h) (ST x n h) (G x n h) e : ℝ) : EReal) := by
  pointwise [val_main_v161, val_main_v159, val_main_v158, val_main_cst_14]
  simp only [v150_at I, v157_at I, ← coe_sum, zero_add, ← EReal.coe_add]
  exact congrArg _ (add_comm _ _)

end Cert.GlaBwdRefIdeal.Stages

end
-- ==== Proof.GlaRefChunk.lean ====
/-
  The reference's gradients within a chunk at an index: queries, keys, values, log decays, and the logit of the decay.
-/
module

public import proofs.«01_k».proof.Proof.GlaRefState

@[expose] public section

set_option maxRecDepth 16384
set_option maxHeartbeats 800000

noncomputable section

namespace Cert.GlaBwdRefIdeal.Stages

open Idealize.ShloMosaic Idealize.ShloMosaic.TcCoe Cert.GlaBwdRefIdeal Cert.GlaBwdRefIdeal.Gen
open Cert.GlaBwdRefIdeal.Read Cert.Gla
open Cert.GlaBwdIdeal.Head (mul_coe coe_sum coe_ite select_ite bool_word ge_word lt_word gt_word eq_word div_real rsqrt_pos word_scale word_256 word_16 word_eps word_half)
open scoped BigOperators

variable {x : Args} {x0 : Vec Ideal S1x4096x3088 .f32} {x1 : Vec Ideal S1x16x512 .f32} {x2 : Vec Ideal S1x512 .f32} {x3 : Vec Ideal S1x256 .f32}
  {x4 : Vec Ideal S1x1024x1024 .f32} {x5 : Vec Ideal S4096x1024 .f32} (I : Inputs x x0 x1 x2 x3 x4 x5)
include I

/-! ## The gradient of the scores, and what each of their factors gets of it -/

theorem v165_at (n : Fin 64) (h : Fin 4) (t s : Fin 64) :
    val_main_v165 (F := Ideal) x0 x1 x2 x3 x4 x5 (ix5 0 n h t s) = ((cDS (V x n h) (DO x n h) t s : ℝ) : EReal) := by
  pointwise [val_main_v165, val_main_v164]
  simp only [v133_at I, v24_at I, mul_coe, ← coe_sum]
  rfl

theorem low_at (n : Fin 64) (h : Fin 4) (t s : Fin 64) :
    val_main_v169_0 (F := Ideal) x0 x1 x2 x3 x4 x5 (ix5 0 n h t s) = ((if s ≤ t then cDS (V x n h) (DO x n h) t s else 0 : ℝ) : EReal) := by
  pointwise [val_main_v169_0, val_main_call9_v0, val_main_call9_cst]
  rw [lower_at, v165_at I, select_ite, ← EReal.coe_zero, ← coe_ite]

theorem high_at (n : Fin 64) (h : Fin 4) (t s : Fin 64) :
    val_main_v169_1 (F := Ideal) x0 x1 x2 x3 x4 x5 (ix5 0 n h t s) = ((if t < s then cDS (V x n h) (DO x n h) t s else 0 : ℝ) : EReal) := by
  pointwise [val_main_v169_1, val_main_call9_v0, val_main_call9_cst]
  rw [lower_at, v165_at I, select_ite, ← EReal.coe_zero, ← coe_ite]
  refine congrArg _ ?_
  by_cases q : s ≤ t
  · rw [if_pos q, if_neg (not_lt.mpr q)]
  · rw [if_neg q, if_pos (not_le.mp q)]

theorem v168_at (n t : Fin 64) (h : Fin 4) (w : Fin 256) : val_main_v168 (F := Ideal) x0 x1 x2 x3 x4 x5 (ix5 0 n t h w) = ((DV x n h t w : ℝ) : EReal) := by
  pointwise [val_main_v168, val_main_v167, val_main_v166, val_main_v164]
  simp only [v152_at I, v133_at I, v43_at I, mul_coe, ← coe_sum, ← EReal.coe_add]
  refine congrArg _ ((add_comm _ _).trans ?_)
  unfold DV cDV
  congr 1
  exact Finset.sum_congr rfl fun s _ => mul_comm _ _

theorem v171_at (n s : Fin 64) (h : Fin 4) (e : Fin 128) : val_main_v171 (F := Ideal) x0 x1 x2 x3 x4 x5 (ix5 0 n s h e)
    = ((cDDP (Q x n h) (C x n h) (V x n h) (DO x n h) s e : ℝ) : EReal) := by
  pointwise [val_main_v171, val_main_v170]
  simp only [high_at I, v34_at I, mul_coe, ← coe_sum]
  rfl

theorem v173_at (n t : Fin 64) (h : Fin 4) (e : Fin 128) : val_main_v173 (F := Ideal) x0 x1 x2 x3 x4 x5 (ix5 0 n t h e)
    = ((cDCN (K x n h) (C x n h) (V x n h) (DO x n h) t e : ℝ) : EReal) := by
  pointwise [val_main_v173, val_main_v172]
  simp only [high_at I, v35_at I, mul_coe, ← coe_sum]
  rfl

theorem v182_at (n s : Fin 64) (h : Fin 4) (e : Fin 128) : val_main_v182 (F := Ideal) x0 x1 x2 x3 x4 x5 (ix5 0 n s h e)
    = ((cDB (Q x n h) (C x n h) (V x n h) (DO x n h) s e : ℝ) : EReal) := by
  pointwise [val_main_v182, val_main_v181]
  simp only [low_at I, v31_at I, mul_coe, ← coe_sum]
  rfl

theorem v184_at (n t : Fin 64) (h : Fin 4) (e : Fin 128) : val_main_v184 (F := Ideal) x0 x1 x2 x3 x4 x5 (ix5 0 n t h e)
    = ((cDA (K x n h) (C x n h) (V x n h) (DO x n h) (ST x n h) t e - ∑ w, DO x n h t w * ST x n h w e : ℝ) : EReal) := by
  pointwise [val_main_v184, val_main_v183]
  simp only [low_at I, v32_at I, mul_coe, ← coe_sum]
  exact congrArg _ (by unfold cDA; rw [add_sub_cancel_right])

/-! ## Queries, keys and log decays -/

theorem v205_at (n t : Fin 64) (h : Fin 4) (e : Fin 128) : val_main_v205 (F := Ideal) x0 x1 x2 x3 x4 x5 (ix5 0 n t h e) = ((DQ x n h t e : ℝ) : EReal) := by
  pointwise [val_main_v205, val_main_v204, val_main_v192, val_main_v191, val_main_v180, val_main_v179, val_main_v163, val_main_cst_16]
  rw [v136_at I, v28_at I, v173_at I, v30_at I, v184_at I, word_scale, mul_coe, mul_coe, mul_coe, ← EReal.coe_add, ← EReal.coe_add, mul_coe]
  exact congrArg _ (by unfold DQ cDQ; ring)

theorem v188_at (n t : Fin 64) (h : Fin 4) (e : Fin 128) : val_main_v188 (F := Ideal) x0 x1 x2 x3 x4 x5 (ix5 0 n t h e) = ((DK x n h t e : ℝ) : EReal) := by
  pointwise [val_main_v188, val_main_v187, val_main_v177, val_main_v176]
  rw [v156_at I, v171_at I, v28_at I, v182_at I, v30_at I, mul_coe, mul_coe, ← EReal.coe_add, ← EReal.coe_add]
  exact congrArg _ (by unfold DK cDK; ring)

theorem v198_at (n t : Fin 64) (h : Fin 4) (e : Fin 128) : val_main_v198 (F := Ideal) x0 x1 x2 x3 x4 x5 (ix5 0 n t h e)
    = ((if t = 63 then cDCL (K x n h) (C x n h) (V x n h) (ST x n h) (G x n h) e else 0 : ℝ) : EReal) := by
  pointwise [val_main_v198, val_main_cst_15]
  by_cases q : t = 63
  · subst q
    rw [if_pos rfl, dif_pos (by decide)]
    exact v161_at I n h e
  · rw [if_neg q, dif_neg (by have := Fin.val_ne_of_ne q; have : t.val ≠ 63 := this; omega)]
    rfl

theorem v199_at (n t : Fin 64) (h : Fin 4) (e : Fin 128) : val_main_v199 (F := Ideal) x0 x1 x2 x3 x4 x5 (ix5 0 n t h e) = ((DC x n h t e : ℝ) : EReal) := by
  pointwise [val_main_v199, val_main_v197, val_main_v196, val_main_v195, val_main_v194, val_main_v193, val_main_v190, val_main_v189, val_main_v186, val_main_v185,
    val_main_v178, val_main_v175, val_main_v174, val_main_v162, val_main_v160]
  rw [v198_at I, v157_at I, v136_at I, v28_at I, v30_at I, v171_at I, v173_at I, v182_at I, v184_at I, v22_at I, v23_at I]
  simp only [mul_coe, ← EReal.coe_add, ← EReal.coe_neg]
  exact congrArg _ (by unfold DC cDC; ring)

/-! ## The logit of the decay -/

theorem v209_at (n t : Fin 64) (h : Fin 4) (e : Fin 128) :
    val_main_v209 (F := Ideal) x0 x1 x2 x3 x4 x5 (ix3 0 (row n t) (kcol h e)) = ((DZ x n h t e : ℝ) : EReal) := by
  have r : val_main_v200 (F := Ideal) x0 x1 x2 x3 x4 x5 (ix5 0 n t h e) = ((∑ s, if t ≤ s then DC x n h s e else 0 : ℝ) : EReal) := by
    refine (rev5 (val_main_v199 (F := Ideal) x0 x1 x2 x3 x4 x5) _ _ _ word_zero n t h e).trans ?_
    simp only [v199_at I, ← EReal.coe_zero, ← coe_ite, ← coe_sum]
  have q : val_main_v201 (F := Ideal) x0 x1 x2 x3 x4 x5 (ix3 0 (row n t) (kcol h e)) = ((∑ s, if t ≤ s then DC x n h s e else 0 : ℝ) : EReal) := by
    rw [← r]
    pointwise [val_main_v201, row, kcol]
  pointwise [val_main_v209, val_main_call11_v1, val_main_call11_v0, val_main_v208, val_main_v207, val_main_cst_17]
  rw [q, slope_at I, word_16, div_real _ 16 (by norm_num), ← EReal.coe_neg, mul_coe, ← EReal.coe_neg]
  exact congrArg _ (by unfold DZ; ring)

end Cert.GlaBwdRefIdeal.Stages

end
-- ==== Proof.GlaRefResults.lean ====
/-
  The results of the reference: the gradients of the layer's input and of its weights.
-/
module

public import proofs.«01_k».proof.Proof.GlaRefChunk

@[expose] public section

set_option maxRecDepth 16384
set_option maxHeartbeats 800000

noncomputable section

namespace Cert.GlaBwdRefIdeal.Stages

open Idealize.ShloMosaic Idealize.ShloMosaic.TcCoe Cert.GlaBwdRefIdeal Cert.GlaBwdRefIdeal.Gen
open Cert.GlaBwdRefIdeal.Read Cert.Gla
open Cert.GlaBwdIdeal.Head (mul_coe coe_sum coe_ite select_ite bool_word ge_word lt_word gt_word eq_word div_real rsqrt_pos word_scale word_256 word_16 word_eps word_half)
open scoped BigOperators

variable {x : Args} {x0 : Vec Ideal S1x4096x3088 .f32} {x1 : Vec Ideal S1x16x512 .f32} {x2 : Vec Ideal S1x512 .f32} {x3 : Vec Ideal S1x256 .f32}
  {x4 : Vec Ideal S1x1024x1024 .f32} {x5 : Vec Ideal S4096x1024 .f32} (I : Inputs x x0 x1 x2 x3 x4 x5)
include I

/-! ## The gradient of the layer's input, by column -/

theorem v206_at (n t : Fin 64) (h : Fin 4) (e : Fin 128) : val_main_v206 (F := Ideal) x0 x1 x2 x3 x4 x5 (ix3 0 (row n t) (kcol h e)) = ((DQ x n h t e : ℝ) : EReal) := by
  pointwise [val_main_v206, row, kcol]
  exact v205_at I n t h e

theorem v203_at (n t : Fin 64) (h : Fin 4) (e : Fin 128) : val_main_v203 (F := Ideal) x0 x1 x2 x3 x4 x5 (ix3 0 (row n t) (kcol h e)) = ((DK x n h t e : ℝ) : EReal) := by
  pointwise [val_main_v203, row, kcol]
  exact v188_at I n t h e

theorem v202_at (n t : Fin 64) (h : Fin 4) (w : Fin 256) : val_main_v202 (F := Ideal) x0 x1 x2 x3 x4 x5 (ix3 0 (row n t) (vcol h w)) = ((DV x n h t w : ℝ) : EReal) := by
  pointwise [val_main_v202, row, vcol]
  exact v168_at I n t h w

theorem v215_at (n t : Fin 64) (i : Fin 16) : val_main_v215 (F := Ideal) x0 x1 x2 x3 x4 x5 (ix3 0 (row n t) i)
    = ((∑ h, ∑ e, DZ x n h t e * x.gw i (kcol h e) : ℝ) : EReal) := by
  pointwise [val_main_v215, val_main_v5]
  rw [sum_kcol]
  simp only [v209_at I, I.gw, mul_coe, ← coe_sum]

omit I in
theorem pad_zero : (FloatOps.sitofp FTy.bf16 0#32 : Ideal .bf16) = (0 : EReal) := by
  show (((0#32).toInt : ℝ) : EReal) = 0
  simp

omit I in
theorem pad_zero' : (FloatOps.sitofp FTy.f32 0#32 : Ideal .f32) = (0 : EReal) := by
  show (((0#32).toInt : ℝ) : EReal) = 0
  simp

theorem projs (n t : Fin 64) : DProj x n t fun l => val_main_v219 (F := Ideal) x0 x1 x2 x3 x4 x5 (ix2 (row n t) l) where
  q h e := by
    pointwise [val_main_v219, val_main_call12_v0, val_main_c, val_main_v218, val_main_v217, val_main_v216]
    rw [dif_pos (by omega), dif_pos (show 128 * h.val + e.val < 512 by omega)]
    exact v206_at I n t h e
  k h e := by
    pointwise [val_main_v219, val_main_call12_v0, val_main_c, val_main_v218, val_main_v217, val_main_v216]
    rw [dif_pos (by omega), dif_neg (by omega), dif_pos (by omega)]
    exact (congrArg (fun l => val_main_v203 (F := Ideal) x0 x1 x2 x3 x4 x5 (ix3 0 (row n t) l)) (Fin.ext (by show 512 + 128 * h.val + e.val - 512 = 128 * h.val + e.val; omega))).trans (v203_at I n t h e)
  v h w := by
    pointwise [val_main_v219, val_main_call12_v0, val_main_c, val_main_v218, val_main_v217, val_main_v216]
    rw [dif_pos (by omega), dif_neg (by omega), dif_neg (by omega), dif_pos (by omega)]
    exact (congrArg (fun l => val_main_v202 (F := Ideal) x0 x1 x2 x3 x4 x5 (ix3 0 (row n t) l)) (Fin.ext (by show 1024 + 256 * h.val + w.val - 512 - 512 = 256 * h.val + w.val; omega))).trans (v202_at I n t h w)
  g h w := by
    have l := (vcol h w).isLt
    pointwise [val_main_v219, val_main_call12_v0, val_main_c, val_main_v218, val_main_v217, val_main_v216]
    rw [dif_pos (by omega), dif_neg (by omega), dif_neg (by omega), dif_neg (by omega), dif_pos (by omega)]
    exact (congrArg (fun l => val_main_v110 (F := Ideal) x0 x1 x2 x3 x4 x5 (ix3 0 (row n t) l)) (Fin.ext (by show 2048 + (vcol h w).val - 512 - 512 - 1024 = (vcol h w).val; omega))).trans (v110_at I n t h w)
  low r := by
    pointwise [val_main_v219, val_main_call12_v0, val_main_c, val_main_v218, val_main_v217, val_main_v216]
    by_cases q : r.val < 16
    · rw [dif_pos (by omega), dif_neg (by omega), dif_neg (by omega), dif_neg (by omega), dif_neg (by omega)]
      refine (congrArg (fun l => val_main_v215 (F := Ideal) x0 x1 x2 x3 x4 x5 (ix3 0 (row n t) l)) (Fin.ext (by show 3072 + r.val - 512 - 512 - 1024 - 1024 = r.val; omega))).trans
        ((v215_at I n t ⟨r.val, q⟩).trans (congrArg _ ?_))
      unfold DLOW gwP
      simp only [dif_pos q]
    · rw [dif_neg (fun c => q (by omega)), pad_zero]
      unfold DLOW gwP
      simp only [dif_neg q, mul_zero, Finset.sum_const_zero, EReal.coe_zero]

/-! ## The gradients of the weights -/

theorem v212_at (h : Fin 4) (e : Fin 128) : val_main_v212 (F := Ideal) x0 x1 x2 x3 x4 x5 (ix1 (kcol h e)) = ((∑ n, cKB x n h e : ℝ) : EReal) := by
  pointwise [val_main_v212, val_main_cst_19]
  refine (total_row _ _ _ (kcol h e)).trans ?_
  pointwise [val_main_v211, val_main_v210, val_main_cst_18]
  rw [sum_row]
  simp only [v209_at I, ← coe_sum, zero_add]
  rfl

theorem v213_at (h : Fin 4) (e : Fin 128) (i : Fin 16) : val_main_v213 (F := Ideal) x0 x1 x2 x3 x4 x5 (ix2 (kcol h e) i)
    = ((∑ n, ∑ t, x.p (row n t) ⟨3072 + i.val, by omega⟩ * DZ x n h t e : ℝ) : EReal) := by
  pointwise [val_main_v213, val_main_v12]
  rw [Fin.sum_univ_one, sum_row]
  simp only [v209_at I, I.p, mul_coe, ← coe_sum]
  exact congrArg _ (Finset.sum_congr rfl fun n _ => Finset.sum_congr rfl fun t _ => mul_comm _ _)

theorem grads : Grads x (fun r l => val_main_v219 (F := Ideal) x0 x1 x2 x3 x4 x5 (ix2 r l)) (fun i b => val_main_v221 (F := Ideal) x0 x1 x2 x3 x5 (ix2 i b))
    (fun l => val_main_v222 (F := Ideal) x0 x1 x2 x4 x5 (ix2 0 l)) (fun i l => val_main_v220 (F := Ideal) x0 x1 x2 x3 x4 x5 (ix2 i l))
    (fun l => val_main_v223 (F := Ideal) x0 x1 x2 x3 x4 x5 (ix2 0 l)) where
  proj n t := projs I n t
  wo h w b := by
    pointwise [val_main_v221]
    exact v106_at I h w b
  hw h w := by
    pointwise [val_main_v222, vcol]
    exact v117_at I h w
  kw i h e := by
    pointwise [val_main_v220, val_main_call13_v0, val_main_c_20, val_main_v214]
    by_cases q : i.val < 16
    · rw [dif_pos q, v213_at I]
      unfold cKW lowP
      simp only [dif_pos q]
    · rw [dif_neg q, pad_zero']
      unfold cKW lowP
      simp only [dif_neg q, zero_mul, Finset.sum_const_zero, EReal.coe_zero]
  kb h e := by
    pointwise [val_main_v223]
    exact v212_at I h e

end Cert.GlaBwdRefIdeal.Stages

end
-- ==== Proof.GlaEquation.lean ====
/-
  The equation: where the arguments are numbers, the gated linear attention's backward call leaves the reference's five results.
-/
module

public import proofs.«01_k».proof.Proof.GlaStages
public import proofs.«01_k».proof.Proof.GlaSweep
public import proofs.«01_k».proof.Proof.GlaRefResults
public import proofs.«01_k».proof.Proof.Finite
public import proofs.«01_k».proof.Proof.Gen.Pre_finite2

@[expose] public section

set_option maxRecDepth 16384

noncomputable section

namespace Cert.GlaBwdIdeal.Entry

open Idealize.ShloMosaic Idealize.ShloMosaic.TcCoe Cert.GlaBwdIdeal Cert.GlaBwdIdeal.Gen
open Cert.GlaBwdRefIdeal.Read Cert.Gla
open Cert.PoolBwdRefIdeal.RefValue (real_of_test)
open Cert.PoolBwdRefIdeal.RevSum (IsReal)

/-- Arrays that pass the precondition hold numbers. -/
theorem reals_of_pre (a0 : Vec ℐ S1x4096x3088 .f32) (a1 : Vec ℐ S1x16x512 .f32) (a2 : Vec ℐ S1x512 .f32) (a3 : Vec ℐ S1x256 .f32)
    (a4 : Vec ℐ S1x1024x1024 .f32) (a5 : Vec ℐ S4096x1024 .f32) (h : Cert.Pre_finite2.fn (F := ℐ) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have e := congrFun h (Shape.Idx.first Cert.Pre_finite2.Facts.h_S_)
  dsimp only [Cert.Pre_finite2.fn, Cert.Pre_finite2.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_test a0 _ i (Host.reduce_andi_all _ _ _ _ _ e0 i), fun i => real_of_test a1 _ i (Host.reduce_andi_all _ _ _ _ _ e1 i),
    fun i => real_of_test a2 _ i (Host.reduce_andi_all _ _ _ _ _ e2 i), fun i => real_of_test a3 _ i (Host.reduce_andi_all _ _ _ _ _ e3 i),
    fun i => real_of_test a4 _ i (Host.reduce_andi_all _ _ _ _ _ e4 i), fun i => real_of_test a5 _ i (Host.reduce_andi_all _ _ _ _ _ e5 i)⟩

/-- The numbers that arrays hold. -/
def argsOf (a0 : Vec ℐ S1x4096x3088 .f32) (a1 : Vec ℐ S1x16x512 .f32) (a2 : Vec ℐ S1x512 .f32) (a3 : Vec ℐ S1x256 .f32) (a4 : Vec ℐ S1x1024x1024 .f32)
    (a5 : Vec ℐ S4096x1024 .f32) : Args where
  p r l := EReal.toReal (a0 (ix3 0 r l))
  gw i l := EReal.toReal (a1 (ix3 0 i l))
  gb l := EReal.toReal (a2 (ix2 0 l))
  hw w := EReal.toReal (a3 (ix2 0 w))
  ow i l := EReal.toReal (a4 (ix3 0 i l))
  dh r l := EReal.toReal (a5 (ix2 r l))

theorem toReal_of {y : EReal} (h : IsReal y) : y = ((EReal.toReal y : ℝ) : EReal) := by
  obtain ⟨r, rfl⟩ := h
  rw [EReal.toReal_coe]

theorem inputs_of (a0 : Vec ℐ S1x4096x3088 .f32) (a1 : Vec ℐ S1x16x512 .f32) (a2 : Vec ℐ S1x512 .f32) (a3 : Vec ℐ S1x256 .f32) (a4 : Vec ℐ S1x1024x1024 .f32)
    (a5 : Vec ℐ S4096x1024 .f32) (h : Cert.Pre_finite2.fn (F := ℐ) a0 a1 a2 a3 a4 a5 = fun _ => 1#1) :
    Inputs (argsOf a0 a1 a2 a3 a4 a5) a0 a1 a2 a3 a4 a5 := by
  obtain ⟨h0, h1, h2, h3, h4, h5⟩ := reals_of_pre a0 a1 a2 a3 a4 a5 h
  exact ⟨fun r l => toReal_of (h0 _), fun i l => toReal_of (h1 _), fun l => toReal_of (h2 _), fun w => toReal_of (h3 _), fun i l => toReal_of (h4 _),
    fun r l => toReal_of (h5 _)⟩

/-- Arrays of two axes are equal where they are equal at each index. -/
theorem ext2 {α : Type} {a b : ℕ} (X Y : (⟨2, ![a, b]⟩ : Shape).Idx → α) (h : ∀ r l, X (ix2 r l) = Y (ix2 r l)) : X = Y :=
  funext fun i => by rw [eq_ix2 i]; exact h _ _
theorem ext_line {α : Type} {b : ℕ} (X Y : (⟨2, ![1, b]⟩ : Shape).Idx → α) (h : ∀ l, X (ix2 0 l) = Y (ix2 0 l)) : X = Y :=
  ext2 X Y fun r l => by rw [show r = 0 from Fin.ext (by omega)]; exact h l

variable (m : (ℓ : Loc nD τ sig) → Buf (Elt ℐ) ℓ) (c : Dev nD)

/-- The five results, where the precondition holds. -/
theorem results_eq (h : Cert.Pre_finite2.fn (F := ℐ) (a0V m c) (a1V m c) (a2V m c) (a3V m c) (a4V m c) (a5V m c) = fun _ => 1#1) :
    (dats m 0 c).arrAt 9 cfg0.N = val_main_v219 (F := ℐ) (a0V m c) (a1V m c) (a2V m c) (a3V m c) (a4V m c) (a5V m c)
    ∧ k0_pay3 (outsAt0 m c 15 Step.lt_N).2.2.2.2.2 = val_main_v221 (F := ℐ) (a0V m c) (a1V m c) (a2V m c) (a3V m c) (a5V m c)
    ∧ (dats m 0 c).arrAt 10 cfg0.N = val_main_v222 (F := ℐ) (a0V m c) (a1V m c) (a2V m c) (a4V m c) (a5V m c)
    ∧ (dats m 0 c).arrAt 11 cfg0.N = val_main_v220 (F := ℐ) (a0V m c) (a1V m c) (a2V m c) (a3V m c) (a4V m c) (a5V m c)
    ∧ (dats m 0 c).arrAt 12 cfg0.N = val_main_v223 (F := ℐ) (a0V m c) (a1V m c) (a2V m c) (a3V m c) (a4V m c) (a5V m c) := by
  have I := inputs_of _ _ _ _ _ _ h
  have k := Step.grads_final m c (saved m c I)
  have r := Cert.GlaBwdRefIdeal.Stages.grads ⟨I.p, I.gw, I.gb, I.hw, I.ow, I.dh⟩
  obtain ⟨e0, e1, e2, e3, e4⟩ := Grads.ext k r
  exact ⟨ext2 _ _ e0, ext2 _ _ e1, ext_line _ _ e2, ext2 _ _ e3, ext_line _ _ e4⟩

end Cert.GlaBwdIdeal.Entry

end
-- ==== Proof.InPoint.lean ====
/-
  What one grid point of the first layer's input product backward does: the buffers it finds and leaves, at the first point, in the middle
  and at the last point, where the accumulated gradient of the input map is rounded and copied out in four pieces.
-/
module

public import proofs.«01_k».proof.Proof.Gen.PoolInBwdIdeal.Frame
public import proofs.«01_k».proof.Proof.Gen.PoolInBwdIdeal.Skeleton
public import Idealize.ShloMosaic.Lib.Pipeline.ReadBack
public import Idealize.ShloMosaic.Lib.Pipeline.FrameValue

@[expose] public section

set_option maxRecDepth 16384

noncomputable section

namespace Cert.PoolInBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.PoolInBwdIdeal.Gen

variable {F : FTy → Type} [FloatOps F]

local notation "𝕄" => MT nD τ sig Unit (Elt F) ℕ (Pipeline.UD sig nD τ) ℕ

/-! ## The cases of the body, and the buffers it is run on -/

/-- The body resets what it accumulates. -/
abbrev first (i : grid0.Coords) : Prop := (Scalar.cmpi .ne (Scalar.extui (Scalar.cmpi .eq (BitVec.ofNat 32 (i 0).val) 0#32)) 0#32) = 1#1
/-- The body copies the weight's gradient out. -/
abbrev last (i : grid0.Coords) : Prop := (Scalar.cmpi .ne (Scalar.extui (Scalar.cmpi .eq (BitVec.ofNat 32 (i 0).val) 7#32)) 0#32) = 1#1

theorem first_iff : ∀ t : Fin cfg0.N, first (grid0.coords t) ↔ t.val = 0 :=
  (by decide +kernel : ∀ t : Fin grid0.N, first (grid0.coords t) ↔ t.val = 0)
theorem last_iff : ∀ t : Fin cfg0.N, last (grid0.coords t) ↔ t.val = 7 :=
  (by decide +kernel : ∀ t : Fin grid0.N, last (grid0.coords t) ↔ t.val = 7)

/-- The accumulator of the weight's gradient, and the rounded rows on their way out. -/
abbrev accM : Memref sig .tc .vmem S1024x2048 .f32 := Memref.whole cc0_scratch0
@[inherit_doc accM] abbrev stageM : Memref sig .tc .vmem S1024x2048 .bf16 := Memref.whole cc0_scratch1
/-- The weight's gradient in HBM. -/
abbrev outM : Memref sig .tc .hbm S1024x2048 .bf16 := Memref.whole main_v4_1

/-- What a buffer holds, and that it is held. -/
abbrev Held (c : Dev nD) {sp : Space} {S : Shape} {e : EltTy} (M : Memref sig .tc sp S e) : Type := Buf (Elt F) (M.view.loc (c : Thread nD τ))
@[inherit_doc Held] abbrev held (c : Dev nD) {sp : Space} {S : Shape} {e : EltTy} (M : Memref sig .tc sp S e) (f : Held (F := F) c M) : sProp 𝕄 :=
  M.view.loc (c : Thread nD τ) ↦{fullShare} f

/-- The semaphores of the four copies out, at zero. -/
def sems (c : Dev nD) : sProp 𝕄 :=
  iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0)

/-! ## What a point leaves -/

/-- The rows of the input's gradient the point writes. -/
abbrev dxOf (x0 : Vec F S512x2048 .bf16) (x1 : Vec F S512x1024 .f32) (x2 : Vec F S1x1024 .f32) (x3 : Vec F S1024x2048 .bf16) (x4 : Vec F S512x1024 .f32) : Vec F S512x1024 .f32 :=
  k0_pay2 (k0_pay9 x0 x3) (k0_pay11 x1) (k0_pay12 x1) (k0_pay13 x2) x4

/-- The norm weight's gradient so far, over what the point before left. -/
abbrev dnOf (x0 : Vec F S512x2048 .bf16) (x1 : Vec F S512x1024 .f32) (x3 : Vec F S1024x2048 .bf16) (z : Vec F S1x1024 .f32) : Vec F S1x1024 .f32 :=
  k0_pay1 (k0_pay15 z) (k0_pay16 x0 x3 x1)

/-- The input map's gradient so far, over what the point before left. -/
abbrev accOf (x0 : Vec F S512x2048 .bf16) (x1 : Vec F S512x1024 .f32) (x2 : Vec F S1x1024 .f32) (s : Vec F S1024x2048 .f32) : Vec F S1024x2048 .f32 :=
  k0_pay14 x0 x1 x2 s

/-- A read of what covering stores left is the canonical contents, which an equation names. -/
theorem read_eq {sp : Space} {S : Shape} {e : EltTy} (v : View sig .tc sp S e) (f) (L : List (View.Piece (Elt F) S e)) (size : Fin S.rank → ℕ)
    (hc : ∀ y, ∃ p ∈ L, y ∈ p.1.set) (X : Vec F S e) (h : View.canon L = X) : v.read (Elt F) (v.writes (Elt F) f L) = X := by
  rw [View.read_writes_eq_canon _ _ _ hc]; exact h

/-- An accumulator rounded. -/
abbrev rounded (a : Vec F S1024x2048 .f32) : Vec F S1024x2048 .bf16 := truncf .bf16 a bitsLt_bf16_f32

theorem zeros2 : (![0, 0] : Fin 2 → ℕ) = fun _ => 0 := funext fun a => by fin_cases a <;> rfl

set_option maxHeartbeats 1600000 in
/-- The body at the first point: it starts from zeros. -/
theorem first_run (c : Dev nD) (i : grid0.Coords) (arg1 : Memref sig .tc .vmem S512x2048 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (arg8 : Memref sig .tc .vmem S1x1024 .f32) (harg8 : arg8.IsWhole) (arg9 : Memref sig .tc .vmem S1024x2048 .f32) (harg9 : arg9.IsWhole) (arg10 : Memref sig .tc .vmem S1024x2048 .bf16) (harg10 : arg10.IsWhole) (hc0 : first i) (hc1 : ¬last i)
    (x0 : Vec F S512x2048 .bf16) (x1 : Vec F S512x1024 .f32) (x2 : Vec F S1x1024 .f32) (x3 : Vec F S1024x2048 .bf16) (x4 : Vec F S512x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dxOf x0 x1 x2 x3 x4)
          ∗ owns (c : Thread nD τ) arg8 fullShare (dnOf x0 x1 x3 (k0_pay8 (F := F))) ∗ owns (c : Thread nD τ) arg9 fullShare (accOf x0 x1 x2 (k0_pay7 (F := F)))) -∗ K ⟨⟩))
      ⊢ wp frame (wpE (defs₀ (F := F)) Variants.none c none) Set.univ (cc0_pool_in_bwd i arg1 harg1 arg2 harg2 arg3 harg3 arg4 harg4 arg5 harg5 arg6 harg6 (Memref.whole main_v4_1) (Memref.isWhole_whole _) arg8 harg8 arg9 harg9 arg10 harg10 cc0_scratch2) K := by
  simp only [cc0_pool_in_bwd_eq_skeleton]; unfold cc0_pool_in_bwd_skel
  simp only [k0_part3_eq_skeleton, k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; sl_unfold_words
    refine read_eq (F := F) (S := S512x1024) _ _ _ S512x1024.size (View.cover_of_tiledL (s := S512x1024) _ S512x1024.size (by sl_kernel_rfl)) _ ?_
    simp only [View.readAt_eq_ld, harg1.read_unread, harg2.read_unread, harg3.read_unread, harg4.read_unread, harg5.read_unread, harg8.read_unread, harg9.read_unread, View.ld_unit_zero (S := S512x2048) zeros2, View.ld_unit_zero (S := S512x1024) zeros2, View.ld_unit_zero (S := S1x1024) zeros2, View.ld_unit_zero (S := S1024x2048) zeros2, View.readCov_unit_zero (S := S1x1024) _ zeros2, View.readCov_unit_zero (S := S1024x2048) _ zeros2]
    rw [View.canon_cons_unit_zero (S := S512x1024) zeros2]
  isplitl [H6]
  · iexists _; isplitr; swap; · iexact H6
    ipureintro; sl_unfold_words
    refine read_eq (F := F) (S := S1x1024) _ _ _ S1x1024.size (View.cover_of_tiledL (s := S1x1024) _ S1x1024.size (by sl_kernel_rfl)) _ ?_
    simp only [View.readAt_eq_ld, harg1.read_unread, harg2.read_unread, harg3.read_unread, harg4.read_unread, harg5.read_unread, harg8.read_unread, harg9.read_unread, View.ld_unit_zero (S := S512x2048) zeros2, View.ld_unit_zero (S := S512x1024) zeros2, View.ld_unit_zero (S := S1x1024) zeros2, View.ld_unit_zero (S := S1024x2048) zeros2, View.readCov_unit_zero (S := S1x1024) _ zeros2, View.readCov_unit_zero (S := S1024x2048) _ zeros2]
    rw [View.canon_cons_unit_zero (S := S1x1024) zeros2]
  iexists _; isplitr; swap; · iexact HS0
  ipureintro; sl_unfold_words
  refine read_eq (F := F) (S := S1024x2048) _ _ _ S1024x2048.size (View.cover_of_tiledL (s := S1024x2048) _ S1024x2048.size (by sl_kernel_rfl)) _ ?_
  simp only [View.readAt_eq_ld, harg1.read_unread, harg2.read_unread, harg3.read_unread, harg4.read_unread, harg5.read_unread, harg8.read_unread, harg9.read_unread, View.ld_unit_zero (S := S512x2048) zeros2, View.ld_unit_zero (S := S512x1024) zeros2, View.ld_unit_zero (S := S1x1024) zeros2, View.ld_unit_zero (S := S1024x2048) zeros2, View.readCov_unit_zero (S := S1x1024) _ zeros2, View.readCov_unit_zero (S := S1024x2048) _ zeros2]
  rw [View.canon_cons_unit_zero (S := S1024x2048) zeros2]

set_option maxHeartbeats 1600000 in
/-- The body at a point in the middle. -/
theorem mid_run (c : Dev nD) (i : grid0.Coords) (arg1 : Memref sig .tc .vmem S512x2048 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (arg8 : Memref sig .tc .vmem S1x1024 .f32) (harg8 : arg8.IsWhole) (arg9 : Memref sig .tc .vmem S1024x2048 .f32) (harg9 : arg9.IsWhole) (arg10 : Memref sig .tc .vmem S1024x2048 .bf16) (harg10 : arg10.IsWhole) (hc0 : ¬first i) (hc1 : ¬last i)
    (x0 : Vec F S512x2048 .bf16) (x1 : Vec F S512x1024 .f32) (x2 : Vec F S1x1024 .f32) (x3 : Vec F S1024x2048 .bf16) (x4 : Vec F S512x1024 .f32) (z : Vec F S1x1024 .f32) (s : Vec F S1024x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (owns (c : Thread nD τ) arg8 fullShare z) ∗ (owns (c : Thread nD τ) arg9 fullShare s)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dxOf x0 x1 x2 x3 x4)
          ∗ owns (c : Thread nD τ) arg8 fullShare (dnOf x0 x1 x3 z) ∗ owns (c : Thread nD τ) arg9 fullShare (accOf x0 x1 x2 s)) -∗ K ⟨⟩))
      ⊢ wp frame (wpE (defs₀ (F := F)) Variants.none c none) Set.univ (cc0_pool_in_bwd i arg1 harg1 arg2 harg2 arg3 harg3 arg4 harg4 arg5 harg5 arg6 harg6 (Memref.whole main_v4_1) (Memref.isWhole_whole _) arg8 harg8 arg9 harg9 arg10 harg10 cc0_scratch2) K := by
  simp only [cc0_pool_in_bwd_eq_skeleton]; unfold cc0_pool_in_bwd_skel
  simp only [k0_part3_eq_skeleton, k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf6; obtain rfl := harg9.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; sl_unfold_words
    refine read_eq (F := F) (S := S512x1024) _ _ _ S512x1024.size (View.cover_of_tiledL (s := S512x1024) _ S512x1024.size (by sl_kernel_rfl)) _ ?_
    simp only [View.readAt_eq_ld, harg1.read_unread, harg2.read_unread, harg3.read_unread, harg4.read_unread, harg5.read_unread, harg8.read_unread, harg9.read_unread, View.ld_unit_zero (S := S512x2048) zeros2, View.ld_unit_zero (S := S512x1024) zeros2, View.ld_unit_zero (S := S1x1024) zeros2, View.ld_unit_zero (S := S1024x2048) zeros2, View.readCov_unit_zero (S := S1x1024) _ zeros2, View.readCov_unit_zero (S := S1024x2048) _ zeros2]
    rw [View.canon_cons_unit_zero (S := S512x1024) zeros2]
  isplitl [H6]
  · iexists _; isplitr; swap; · iexact H6
    ipureintro; sl_unfold_words
    refine read_eq (F := F) (S := S1x1024) _ _ _ S1x1024.size (View.cover_of_tiledL (s := S1x1024) _ S1x1024.size (by sl_kernel_rfl)) _ ?_
    simp only [View.readAt_eq_ld, harg1.read_unread, harg2.read_unread, harg3.read_unread, harg4.read_unread, harg5.read_unread, harg8.read_unread, harg9.read_unread, View.ld_unit_zero (S := S512x2048) zeros2, View.ld_unit_zero (S := S512x1024) zeros2, View.ld_unit_zero (S := S1x1024) zeros2, View.ld_unit_zero (S := S1024x2048) zeros2, View.readCov_unit_zero (S := S1x1024) _ zeros2, View.readCov_unit_zero (S := S1024x2048) _ zeros2]
    rw [View.canon_cons_unit_zero (S := S1x1024) zeros2]
  iexists _; isplitr; swap; · iexact HS0
  ipureintro; sl_unfold_words
  refine read_eq (F := F) (S := S1024x2048) _ _ _ S1024x2048.size (View.cover_of_tiledL (s := S1024x2048) _ S1024x2048.size (by sl_kernel_rfl)) _ ?_
  simp only [View.readAt_eq_ld, harg1.read_unread, harg2.read_unread, harg3.read_unread, harg4.read_unread, harg5.read_unread, harg8.read_unread, harg9.read_unread, View.ld_unit_zero (S := S512x2048) zeros2, View.ld_unit_zero (S := S512x1024) zeros2, View.ld_unit_zero (S := S1x1024) zeros2, View.ld_unit_zero (S := S1024x2048) zeros2, View.readCov_unit_zero (S := S1x1024) _ zeros2, View.readCov_unit_zero (S := S1024x2048) _ zeros2]
  rw [View.canon_cons_unit_zero (S := S1024x2048) zeros2]

end Cert.PoolInBwdIdeal.Step

end
-- ==== Proof.InBlock.lean ====
/-
  One grid point of the first layer's input product backward, read at an index over exact arithmetic: a row's factor `(mean x² + eps)^(-1/2)`, the
  cotangent `dp · wᵀ` of the normalized rows, the gradient of the rows, and the two sums over the point's rows.
-/
module

public import proofs.«01_k».proof.Proof.InPoint
public import Idealize.ShloMosaic.Lib.Pointwise
public import Idealize.ShloMosaic.Lib.Pipeline.ValueKit.Tiles

@[expose] public section

set_option maxRecDepth 16384

noncomputable section

namespace Cert.PoolInBwdIdeal.Step

open Idealize.ShloMosaic Idealize.ShloMosaic.TcCoe
open Cert.PoolInBwdIdeal.Gen
open scoped BigOperators

/-- The factor of a row. -/
def fac (x : Fin 1024 → EReal) : EReal :=
  Ideal.rsqrt (Ideal.div (∑ k, x k * x k) (Ideal.ofBits .f32 0x44800000#32) + Ideal.ofBits .f32 0x358637BD#32)

/-- The gradient of a row `x`, of the cotangent `d` of its normalized and weighted row. -/
def rowGrad (x w d : Fin 1024 → EReal) (l : Fin 1024) : EReal :=
  fac x * (d l * w l - x l * fac x * Ideal.div (∑ k, d k * w k * (x k * fac x)) (Ideal.ofBits .f32 0x44800000#32))

variable (x0 : Vec Ideal S512x2048 .bf16) (x1 : Vec Ideal S512x1024 .f32) (x2 : Vec Ideal S1x1024 .f32) (x3 : Vec Ideal S1024x2048 .bf16)
  (x4 : Vec Ideal S512x1024 .f32)

/-- The cotangent of the normalized and weighted rows. -/
def cotB (r : Fin 512) (l : Fin 1024) : EReal := ∑ k : Fin 2048, x0 (ix2 r k) * x3 (ix2 l k)

theorem pay9_apply (r : Fin 512) (l : Fin 1024) : k0_pay9 x0 x3 (ix2 r l) = cotB x0 x3 r l := by
  pointwise [k0_pay9, cotB]

theorem pay11_apply (r : Fin 512) : k0_pay11 x1 (ix2 r 0) = fac fun k => x1 (ix2 r k) := by
  pointwise [k0_pay11, k0_pay10, fac]

theorem pay12_apply (r : Fin 512) (l : Fin 1024) : k0_pay12 x1 (ix2 r l) = x1 (ix2 r l) * fac fun k => x1 (ix2 r k) := by
  pointwise [k0_pay12, k0_pay10, pay11_apply]

theorem dx_apply (r : Fin 512) (l : Fin 1024) :
    dxOf x0 x1 x2 x3 x4 (ix2 r l) = rowGrad (fun k => x1 (ix2 r k)) (fun k => x2 (ix2 0 k)) (cotB x0 x3 r) l + x4 (ix2 r l) := by
  pointwise [dxOf, k0_pay2, k0_pay13, pay9_apply, pay11_apply, pay12_apply, rowGrad]

theorem dn_apply (z : Vec Ideal S1x1024 .f32) (l : Fin 1024) :
    dnOf x0 x1 x3 z (ix2 0 l) = z (ix2 0 l) + ∑ r : Fin 512, cotB x0 x3 r l * (x1 (ix2 r l) * fac fun k => x1 (ix2 r k)) := by
  pointwise [dnOf, k0_pay1, k0_pay15, k0_pay16, pay9_apply, pay12_apply]

theorem acc_apply (s : Vec Ideal S1024x2048 .f32) (l : Fin 1024) (j : Fin 2048) :
    accOf x0 x1 x2 s (ix2 l j) = s (ix2 l j) + ∑ r : Fin 512, (x1 (ix2 r l) * fac fun k => x1 (ix2 r k)) * x2 (ix2 0 l) * x0 (ix2 r j) := by
  pointwise [accOf, k0_pay14, k0_pay13, pay12_apply]

theorem zero_dn (l : Fin 1024) : k0_pay8 (F := Ideal) (ix2 0 l) = 0 := by pointwise [k0_pay8]
theorem zero_acc (l : Fin 1024) (j : Fin 2048) : k0_pay7 (F := Ideal) (ix2 l j) = 0 := by pointwise [k0_pay7]

end Cert.PoolInBwdIdeal.Step

end
-- ==== Proof.InLast.lean ====
/-
  The last grid point of the first layer's input product backward: the accumulated gradient of the input map, rounded, copied out in four pieces.
-/
module

public import proofs.«01_k».proof.Proof.InPoint
public import Idealize.ShloMosaic.Lib.Pipeline.ValueKit.Tiles

@[expose] public section

set_option maxRecDepth 16384

noncomputable section

namespace Cert.PoolInBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.PoolInBwdIdeal.Gen

variable {F : FTy → Type} [FloatOps F]

local notation "𝕄" => MT nD τ sig Unit (Elt F) ℕ (Pipeline.UD sig nD τ) ℕ

/-- What a copy reads of the rows just stored: the store. -/
theorem staged (v : View sig .tc .vmem S1024x2048 .bf16) (f) (R : Rect S1024x2048) (w : R.shape.Idx → Elt F .bf16) (L : List (View.Piece (Elt F) S1024x2048 .bf16)) :
    (v.slice R).read (Elt F) (v.writes (Elt F) f (⟨R, w⟩ :: L)) = w := by
  funext x
  exact View.read_slice_write_emb (v := v) R (v.writes (Elt F) f L) w (Finset.mem_univ x)

/-- Rows of what one store over the whole accumulator left. -/
theorem rows_of (v : View sig .tc .vmem S1024x2048 .f32) (a : Vec F S1024x2048 .f32) (R : Rect S1024x2048) :
    v.readCov [(⟨Rect.unit ![0, 0] S1024x2048.size inb_S1024x2048_S1024x2048_0_0, a⟩ : View.Piece (Elt F) S1024x2048 .f32)] R.toLoadRect
      = fun x => a (R.emb x) := by
  rw [View.readCov_eq_canon_ld _ _ _ (View.cover_of_tiledL (s := S1024x2048) _ S1024x2048.size (by sl_kernel_rfl)), View.canon_cons_unit_zero (S := S1024x2048) zeros2]
  rfl

/-- The output holds, piece by piece, the rounded accumulator. -/
theorem out_eq (fw : outM.view.ty.Contents (Elt F)) (L : List (View.Piece (Elt F) S1024x2048 .bf16)) (a : Vec F S1024x2048 .bf16)
    (hc : ∀ y, ∃ p ∈ L, y ∈ p.1.set) (h : ∀ p ∈ L, p.2 = fun x => a (p.1.emb x)) : outM.view.writes (Elt F) fw L = a := by
  have hr := View.read_writes_eq_canon outM.view fw L hc
  refine Eq.trans (hr : _) (funext fun y => View.canon_eq_of_allAt L y _ (hc y) fun p hp x hx => ?_)
  rw [h p hp]
  exact congrArg a hx

set_option maxHeartbeats 1600000 in set_option sl_exec.dmaWindow true in set_option sl_exec.dmaWindowSet true in
/-- The body at the last point, the rounded accumulator copied out by rows. -/
theorem last_run (c : Dev nD) (i : grid0.Coords) (arg1 : Memref sig .tc .vmem S512x2048 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S512x1024 .f32) (harg5 : arg5.IsWhole) (arg6 : Memref sig .tc .vmem S512x1024 .f32) (harg6 : arg6.IsWhole) (arg8 : Memref sig .tc .vmem S1x1024 .f32) (harg8 : arg8.IsWhole) (arg9 : Memref sig .tc .vmem S1024x2048 .f32) (harg9 : arg9.IsWhole) (arg10 : Memref sig .tc .vmem S1024x2048 .bf16) (harg10 : arg10.IsWhole) (hc0 : ¬first i) (hc1 : last i) (hd01 : Disjoint (((Memref.whole main_v4_1).slice (Rect.unit (s := S1024x2048) ![256, 0] S256x2048.size inb_S1024x2048_S256x2048_256_0) (fun _ => rfl))).view.set (((Memref.whole main_v4_1).slice (Rect.unit (s := S1024x2048) ![0, 0] S256x2048.size inb_S1024x2048_S256x2048_0_0) (fun _ => rfl))).view.set) (hd02 : Disjoint (((Memref.whole main_v4_1).slice (Rect.unit (s := S1024x2048) ![512, 0] S256x2048.size inb_S1024x2048_S256x2048_512_0) (fun _ => rfl))).view.set (((Memref.whole main_v4_1).slice (Rect.unit (s := S1024x2048) ![0, 0] S256x2048.size inb_S1024x2048_S256x2048_0_0) (fun _ => rfl))).view.set) (hd12 : Disjoint (((Memref.whole main_v4_1).slice (Rect.unit (s := S1024x2048) ![512, 0] S256x2048.size inb_S1024x2048_S256x2048_512_0) (fun _ => rfl))).view.set (((Memref.whole main_v4_1).slice (Rect.unit (s := S1024x2048) ![256, 0] S256x2048.size inb_S1024x2048_S256x2048_256_0) (fun _ => rfl))).view.set) (hd03 : Disjoint (((Memref.whole main_v4_1).slice (Rect.unit (s := S1024x2048) ![768, 0] S256x2048.size inb_S1024x2048_S256x2048_768_0) (fun _ => rfl))).view.set (((Memref.whole main_v4_1).slice (Rect.unit (s := S1024x2048) ![0, 0] S256x2048.size inb_S1024x2048_S256x2048_0_0) (fun _ => rfl))).view.set) (hd13 : Disjoint (((Memref.whole main_v4_1).slice (Rect.unit (s := S1024x2048) ![768, 0] S256x2048.size inb_S1024x2048_S256x2048_768_0) (fun _ => rfl))).view.set (((Memref.whole main_v4_1).slice (Rect.unit (s := S1024x2048) ![256, 0] S256x2048.size inb_S1024x2048_S256x2048_256_0) (fun _ => rfl))).view.set) (hd23 : Disjoint (((Memref.whole main_v4_1).slice (Rect.unit (s := S1024x2048) ![768, 0] S256x2048.size inb_S1024x2048_S256x2048_768_0) (fun _ => rfl))).view.set (((Memref.whole main_v4_1).slice (Rect.unit (s := S1024x2048) ![512, 0] S256x2048.size inb_S1024x2048_S256x2048_512_0) (fun _ => rfl))).view.set)
    (x0 : Vec F S512x2048 .bf16) (x1 : Vec F S512x1024 .f32) (x2 : Vec F S1x1024 .f32) (x3 : Vec F S1024x2048 .bf16) (x4 : Vec F S512x1024 .f32) (z : Vec F S1x1024 .f32) (s : Vec F S1024x2048 .f32) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (owns (c : Thread nD τ) arg8 fullShare z) ∗ (owns (c : Thread nD τ) arg9 fullShare s)
        ∗ (∃ d, owns (c : Thread nD τ) arg10 fullShare d) ∗ sems c ∗ (∃ f, held c outM f) ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dxOf x0 x1 x2 x3 x4)
          ∗ owns (c : Thread nD τ) arg8 fullShare (dnOf x0 x1 x3 z) ∗ owns (c : Thread nD τ) arg9 fullShare (accOf x0 x1 x2 s)
          ∗ (∃ d, owns (c : Thread nD τ) arg10 fullShare d) ∗ sems c ∗ held c outM (rounded (accOf x0 x1 x2 s)) ∗ (∃ W', owes (c : Thread nD τ) 0 W')) -∗ K ⟨⟩))
      ⊢ wp frame (wpE (defs₀ (F := F)) Variants.none c none) Set.univ (cc0_pool_in_bwd i arg1 harg1 arg2 harg2 arg3 harg3 arg4 harg4 arg5 harg5 arg6 harg6 (Memref.whole main_v4_1) (Memref.isWhole_whole _) arg8 harg8 arg9 harg9 arg10 harg10 cc0_scratch2) K := by
  simp only [cc0_pool_in_bwd_eq_skeleton]; unfold cc0_pool_in_bwd_skel
  simp only [k0_part3_eq_skeleton, k0_part2_eq_skeleton, k0_part1_eq_skeleton]
  unfold owns sems
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%ds1, %fs1, -, HS1⟩, ⟨Hq0, Hq1, Hq2, Hq3⟩, ⟨%fw0, Hh0⟩, HW, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf6; obtain rfl := harg9.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; sl_unfold_words
    refine read_eq (F := F) (S := S512x1024) _ _ _ S512x1024.size (View.cover_of_tiledL (s := S512x1024) _ S512x1024.size (by sl_kernel_rfl)) _ ?_
    simp only [View.readAt_eq_ld, harg1.read_unread, harg2.read_unread, harg3.read_unread, harg4.read_unread, harg5.read_unread, harg8.read_unread, harg9.read_unread, View.ld_unit_zero (S := S512x2048) zeros2, View.ld_unit_zero (S := S512x1024) zeros2, View.ld_unit_zero (S := S1x1024) zeros2, View.ld_unit_zero (S := S1024x2048) zeros2, View.readCov_unit_zero (S := S1x1024) _ zeros2, View.readCov_unit_zero (S := S1024x2048) _ zeros2]
    rw [View.canon_cons_unit_zero (S := S512x1024) zeros2]
  isplitl [H6]
  · iexists _; isplitr; swap; · iexact H6
    ipureintro; sl_unfold_words
    refine read_eq (F := F) (S := S1x1024) _ _ _ S1x1024.size (View.cover_of_tiledL (s := S1x1024) _ S1x1024.size (by sl_kernel_rfl)) _ ?_
    simp only [View.readAt_eq_ld, harg1.read_unread, harg2.read_unread, harg3.read_unread, harg4.read_unread, harg5.read_unread, harg8.read_unread, harg9.read_unread, View.ld_unit_zero (S := S512x2048) zeros2, View.ld_unit_zero (S := S512x1024) zeros2, View.ld_unit_zero (S := S1x1024) zeros2, View.ld_unit_zero (S := S1024x2048) zeros2, View.readCov_unit_zero (S := S1x1024) _ zeros2, View.readCov_unit_zero (S := S1024x2048) _ zeros2]
    rw [View.canon_cons_unit_zero (S := S1x1024) zeros2]
  isplitl [HS0]
  · iexists _; isplitr; swap; · iexact HS0
    ipureintro; sl_unfold_words
    refine read_eq (F := F) (S := S1024x2048) _ _ _ S1024x2048.size (View.cover_of_tiledL (s := S1024x2048) _ S1024x2048.size (by sl_kernel_rfl)) _ ?_
    simp only [View.readAt_eq_ld, harg1.read_unread, harg2.read_unread, harg3.read_unread, harg4.read_unread, harg5.read_unread, harg8.read_unread, harg9.read_unread, View.ld_unit_zero (S := S512x2048) zeros2, View.ld_unit_zero (S := S512x1024) zeros2, View.ld_unit_zero (S := S1x1024) zeros2, View.ld_unit_zero (S := S1024x2048) zeros2, View.readCov_unit_zero (S := S1x1024) _ zeros2, View.readCov_unit_zero (S := S1024x2048) _ zeros2]
    rw [View.canon_cons_unit_zero (S := S1024x2048) zeros2]
  isplitl [HS1]
  · iexists _, _; isplitr; swap; · iexact HS1
    ipureintro; rfl
  isplitl [Hq0 Hq1 Hq2 Hq3]
  · isplitl [Hq0]; · iexact Hq0
    isplitl [Hq1]; · iexact Hq1
    isplitl [Hq2]; · iexact Hq2
    iexact Hq3
  isplitl [Hh0]
  · rw [out_eq _ _ (rounded (accOf x0 x1 x2 s)) (View.cover_of_tiledL (s := S1024x2048) _ S256x2048.size (by sl_kernel_rfl)) ?hp]
    · iexact Hh0
    case hp =>
      sl_unfold_words
      simp only [List.forall_mem_cons, List.not_mem_nil, false_imp_iff, implies_true, and_true, View.readAt_eq_ld, harg1.read_unread, harg2.read_unread, harg3.read_unread, harg9.read_unread, View.ld_unit_zero (S := S512x2048) zeros2, View.ld_unit_zero (S := S512x1024) zeros2, View.ld_unit_zero (S := S1x1024) zeros2, View.ld_unit_zero (S := S1024x2048) zeros2, rows_of]
      refine ⟨?_, ?_, ?_, ?_⟩ <;> exact (staged arg10.view _ _ _ _).trans ((shapeCast_self _ _).trans (congrArg (fun a => truncf .bf16 a bitsLt_bf16_f32) (rows_of arg9.view _ _)))
  iexists _; iexact HW

end Cert.PoolInBwdIdeal.Step

end
-- ==== Proof.InNamed.lean ====
/-
  The launch of the first layer's input product backward: what is carried from point to point, the body at every point, and the run with all
  three results named.
-/
module

public import proofs.«01_k».proof.Proof.InLast
public import proofs.«01_k».proof.Proof.Gen.PoolInBwdIdeal.Launch
public import proofs.«01_k».proof.Proof.Gen.PoolInBwdIdeal.Points
public import proofs.«01_k».proof.Proof.Gen.PoolInBwdIdeal.Frame

@[expose] public section

set_option maxRecDepth 16384

noncomputable section

namespace Cert.PoolInBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.PoolInBwdIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The set-up of the launch -/

/-- The host lines, then the call. -/
theorem enters (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

/-- The call's own semaphores: one for each piece copied out. -/
abbrev ownSem : Fin 4 → SemLoc sig := fun j => (![SemLoc.dma 11, SemLoc.dma 12, SemLoc.dma 13, SemLoc.dma 14] : Fin 4 → SemLoc sig) j
theorem ownSem_facts : Pipeline.OwnSemFacts spec0 ownSem := by decide
theorem ownSems_eq (c : Dev nD) :
    (Pipeline.ownSems0 (Ix := Unit) (Name := ℕ) (U := Pipeline.UD sig nD τ) (Lvl := ℕ) (Val := Elt F) (τ := τ) ownSem c : sProp 𝕄) = sems c := by
  rw [Pipeline.ownSems0_eq_of_list c ownSem [0, 1, 2, 3] (by decide) (by decide)]; rfl

/-- The arrays in HBM the body only reads: none. -/
def readArrays : Finset (Ref sig .tc) := {}
/-- The array in HBM the body writes. -/
def wroteArrays : Finset (Ref sig .tc) := {main_v4_1}
theorem readArrays_sub : readArrays ⊆ Pipeline.restRefs sig spec0 := by decide
theorem wroteArrays_sub : wroteArrays ⊆ Pipeline.restRefs sig spec0 \ readArrays := by decide
theorem readArrays_eq (c : Dev nD) :
    (bigSep readArrays (fun b => ((c : Thread nD τ).loc b) ↦{fullShare} V m c b) : sProp 𝕄) = iprop(emp) := by
  rw [BI.bigSep_eq_bigSepL_of_eq [] (by decide) (by decide)]; rfl
theorem routed_eq (c : Dev nD) (G : (b : Ref sig .tc) → Buf (Elt F) ((c : Thread nD τ).loc b)) :
    (Pipeline.routed wroteArrays c G : sProp 𝕄) = held c outM (G main_v4_1) := by
  unfold Pipeline.routed; rw [BI.bigSep_eq_bigSepL_of_eq [main_v4_1] (by decide) (by decide)]; rfl

/-! ## What is carried from point to point -/

/-- What a point leaves in the two accumulators, over what the point before left. -/
abbrev over (c : Dev nD) (t : Fin cfg0.N) (p : Vec F S1x1024 .f32 × Vec F S1024x2048 .f32) : Vec F S1x1024 .f32 × Vec F S1024x2048 .f32 :=
  (dnOf (iblk m c 0 t) (iblk m c 1 t) (iblk m c 3 t) p.1, accOf (iblk m c 0 t) (iblk m c 1 t) (iblk m c 2 t) p.2)

/-- The two accumulators after each point. -/
def left (c : Dev nD) : (n : ℕ) → n < cfg0.N → Vec F S1x1024 .f32 × Vec F S1024x2048 .f32
  | 0, h => over m c ⟨0, h⟩ (k0_pay8, k0_pay7)
  | n + 1, h => over m c ⟨n + 1, h⟩ (left c n (Nat.lt_of_succ_lt h))

theorem left_first (c : Dev nD) (t : Fin cfg0.N) (h : t.val = 0) : left m c t.val t.isLt = over m c t (k0_pay8, k0_pay7) := by
  obtain ⟨n, hn⟩ := t; subst h; rfl

theorem left_next (c : Dev nD) (t : Fin cfg0.N) (h : t.val ≠ 0) :
    left m c t.val t.isLt = over m c t (left m c (t.val - 1) (Nat.lt_of_le_of_lt (Nat.sub_le _ _) t.isLt)) := by
  obtain ⟨n, hn⟩ := t
  cases n with
  | zero => exact absurd rfl h
  | succ n => rfl

/-- The array written by the copies: anything before the last point, the rounded accumulator after it. -/
def outAt (c : Dev nD) (n : ℕ) (h : n < cfg0.N) : sProp 𝕄 :=
  if n = 7 then held c outM (rounded (left m c n h).2) else iprop(∃ f, held c outM f)

/-- What is held between points beside the windows. -/
def Phi (c : Dev nD) : (n : ℕ) → n ≤ cfg0.N → sProp 𝕄
  | 0, _ => iprop(iprop((∃ d, owns (c : Thread nD τ) accM fullShare d) ∗ (∃ d, owns (c : Thread nD τ) stageM fullShare d)) ∗ (∃ r, prngReg c r) ∗ sems c ∗ iprop(emp) ∗ (∃ f, held c outM f))
  | n + 1, h => iprop(iprop(owns (c : Thread nD τ) accM fullShare (left m c n h).2 ∗ (∃ d, owns (c : Thread nD τ) stageM fullShare d)) ∗ (∃ r, prngReg c r) ∗ sems c ∗ iprop(emp) ∗ outAt m c n h)

theorem Phi_first (c : Dev nD) (n : ℕ) (h : n ≤ cfg0.N) (hz : n = 0) :
    Phi m c n h = iprop(iprop((∃ d, owns (c : Thread nD τ) accM fullShare d) ∗ (∃ d, owns (c : Thread nD τ) stageM fullShare d)) ∗ (∃ r, prngReg c r) ∗ sems c ∗ iprop(emp) ∗ (∃ f, held c outM f)) := by
  subst hz; rfl

theorem Phi_succ (c : Dev nD) (n : ℕ) (h : n + 1 ≤ cfg0.N) :
    Phi m c (n + 1) h = iprop(iprop(owns (c : Thread nD τ) accM fullShare (left m c n h).2 ∗ (∃ d, owns (c : Thread nD τ) stageM fullShare d)) ∗ (∃ r, prngReg c r) ∗ sems c ∗ iprop(emp) ∗ outAt m c n h) := rfl

theorem Phi_next (c : Dev nD) (n : ℕ) (h : n ≤ cfg0.N) (hz : n ≠ 0) (h8 : n ≠ 8) :
    Phi m c n h = iprop(iprop(owns (c : Thread nD τ) accM fullShare (left m c (n - 1) (by omega)).2 ∗ (∃ d, owns (c : Thread nD τ) stageM fullShare d)) ∗ (∃ r, prngReg c r) ∗ sems c ∗ iprop(emp) ∗ (∃ f, held c outM f)) := by
  cases n with
  | zero => exact absurd rfl hz
  | succ n => rw [Phi_succ]; unfold outAt; rw [if_neg (by omega)]; rfl

/-- The data of the pipeline: what the windows and what is between points hold. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxOf (iblk m c 0 t) (iblk m c 1 t) (iblk m c 2 t) (iblk m c 3 t) (iblk m c 4 t)
    | ⟨6, _⟩ => (left m c t.val t.isLt).1
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

/-- The body leaves an input's block in place. -/
theorem after_0 (c : Dev nD) (t : Fin cfg0.N) : (dats m 0 c).after 0 t = iblk m c 0 t := by dsimp only [dats]
@[inherit_doc after_0] theorem after_1 (c : Dev nD) (t : Fin cfg0.N) : (dats m 0 c).after 1 t = iblk m c 1 t := by dsimp only [dats]
@[inherit_doc after_0] theorem after_2 (c : Dev nD) (t : Fin cfg0.N) : (dats m 0 c).after 2 t = iblk m c 2 t := by dsimp only [dats]
@[inherit_doc after_0] theorem after_3 (c : Dev nD) (t : Fin cfg0.N) : (dats m 0 c).after 3 t = iblk m c 3 t := by dsimp only [dats]
@[inherit_doc after_0] theorem after_4 (c : Dev nD) (t : Fin cfg0.N) : (dats m 0 c).after 4 t = iblk m c 4 t := by dsimp only [dats]
theorem after_dx (c : Dev nD) (t : Fin cfg0.N) :
    (dats m 0 c).after 5 t = dxOf (iblk m c 0 t) (iblk m c 1 t) (iblk m c 2 t) (iblk m c 3 t) (iblk m c 4 t) := by dsimp only [dats]
theorem after_dn (c : Dev nD) (t : Fin cfg0.N) : (dats m 0 c).after 6 t = (left m c t.val t.isLt).1 := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
@[inherit_doc before_0] theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
@[inherit_doc before_0] theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
@[inherit_doc before_0] theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
@[inherit_doc before_0] theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The accumulated window holds what the point before left. -/
theorem before_dn (c : Dev nD) (t : Fin cfg0.N) (h : t.val ≠ 0) (d) :
    (dats m 0 c).before 6 t d = (left m c (t.val - 1) (Nat.lt_of_le_of_lt (Nat.sub_le _ _) t.isLt)).1 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-- The four pieces of the output lie apart. -/
theorem apart (o o' : Fin 2 → ℕ) (h : ∀ a, o a + S256x2048.size a ≤ S1024x2048.size a) (h' : ∀ a, o' a + S256x2048.size a ≤ S1024x2048.size a)
    (hd : LoadRect.disj (Rect.unit (s := S1024x2048) o S256x2048.size h) (Rect.unit (s := S1024x2048) o' S256x2048.size h').toLoadRect = true) :
    Disjoint (outM.slice (Rect.unit (s := S1024x2048) o S256x2048.size h) (fun _ => rfl)).view.set (outM.slice (Rect.unit (s := S1024x2048) o' S256x2048.size h') (fun _ => rfl)).view.set :=
  View.disjoint_slice_of_disj outM.view _ _ hd

/-! ## The body at every point -/

/-- What the body is called with at a point, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def handsBack (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 3200000 in
theorem sound (c : Dev nD) (t : Fin cfg0.N) :
    given m c t ⊢ wp frame (wpE (defs₀ (F := F)) Variants.none c none) Set.univ (bodyAt0 t) (fun _ => handsBack m c t) := by
  have hN : t.val < 8 := lt_of_lt_of_eq t.isLt (show cfg0.N = 8 from N_0)
  unfold given handsBack bodyAt0
  simp only [before_0, before_1, before_2, before_3, before_4]
  rw [after_0, after_1, after_2, after_3, after_4, after_dx, after_dn]
  unfold Dat.owesAt Pipeline.owesWithin
  rw [show (dats m 0 c).owed t.castSucc = 0 from rfl, show (dats m 0 c).owed t.succ = 0 from rfl,
    show (dats m 0 c).Φ t.castSucc = Phi m c t.val (Nat.le_of_lt t.isLt) from rfl,
    show (dats m 0 c).Φ t.succ = Phi m c (t.val + 1) t.isLt from rfl]
  by_cases hz : t.val = 0
  · rw [Phi_first m c _ _ hz, Phi_next m c _ _ (by omega) (by omega)]
    simp only [Nat.add_sub_cancel]
    rw [left_first m c t hz]
    iintro ⟨⟨⟨HS0, HS1⟩, Hg, Hq, -, Hh⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (first_run c (grid0.coords t) _ _ _ _ _ _ _ _ _ _ _ _ _ _ _ _ _ _ ((first_iff t).mpr hz) (fun h => by have := (last_iff t).mp h; omega) (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 HS1 Hg Hq Hh]
    · isplitl [HS0 HS1]
      · isplitl [HS0]; · iexact HS0
        iexact HS1
      isplitl [Hg]; · iexact Hg
      isplitl [Hq]; · iexact Hq
      isplitr; · iempintro
      iexact Hh
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6
  · rw [Phi_next m c t.val _ hz (by omega), left_next m c t hz]
    simp only [before_dn m c t hz]
    by_cases h7 : t.val = 7
    · rw [Phi_succ]; unfold outAt
      rw [if_pos h7, left_next m c t hz]
      iintro ⟨⟨⟨HS0, HS1⟩, Hg, Hq, -, Hh⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (last_run c (grid0.coords t) _ _ _ _ _ _ _ _ _ _ _ _ _ _ _ _ _ _ (fun h => hz ((first_iff t).mp h)) ((last_iff t).mpr h7) (apart _ _ _ _ (by decide +kernel)) (apart _ _ _ _ (by decide +kernel)) (apart _ _ _ _ (by decide +kernel)) (apart _ _ _ _ (by decide +kernel)) (apart _ _ _ _ (by decide +kernel)) (apart _ _ _ _ (by decide +kernel)) (iblk m c 0 t) (iblk m c 1 t) (iblk m c 2 t) (iblk m c 3 t) (iblk m c 4 t) _ _ W _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [Hq]; · iexact Hq
      isplitl [Hh]; · iexact Hh
      isplitl [HW]; · iexact HW
      iintro ⟨H0, H1, H2, H3, H4, H5, H6, HS0, HS1, Hq, Hh, ⟨%W', HW⟩⟩
      isplitl [HS0 HS1 Hg Hq Hh]
      · isplitl [HS0 HS1]
        · isplitl [HS0]; · iexact HS0
          iexact HS1
        isplitl [Hg]; · iexact Hg
        isplitl [Hq]; · iexact Hq
        isplitr; · iempintro
        iexact Hh
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      iexact H6
    · rw [Phi_next m c (t.val + 1) _ (by omega) (by omega)]
      simp only [Nat.add_sub_cancel]
      rw [left_next m c t hz]
      iintro ⟨⟨⟨HS0, HS1⟩, Hg, Hq, -, Hh⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (mid_run c (grid0.coords t) _ _ _ _ _ _ _ _ _ _ _ _ _ _ _ _ _ _ (fun h => hz ((first_iff t).mp h)) (fun h => h7 ((last_iff t).mp h)) (iblk m c 0 t) (iblk m c 1 t) (iblk m c 2 t) (iblk m c 3 t) (iblk m c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, H5, H6, HS0⟩
      isplitl [HS0 HS1 Hg Hq Hh]
      · isplitl [HS0 HS1]
        · isplitl [HS0]; · iexact HS0
          iexact HS1
        isplitl [Hg]; · iexact Hg
        isplitl [Hq]; · iexact Hq
        isplitr; · iempintro
        iexact Hh
      isplitl [HW]
      · iexists W; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      iexact H6

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The run -/

theorem lt_N : 7 < cfg0.N := lt_of_lt_of_eq (by omega : 7 < 8) (show cfg0.N = 8 from N_0).symm

/-- The buffers after the call, the copied-out array at the rounded accumulator. -/
def ending (c : Dev nD) : (b : Ref sig .tc) → Buf (Elt F) ((c.tc : Thread nD τ).loc b) :=
  Function.update (V m c) main_v4_1 (rounded (left m c 7 lt_N).2)

theorem enter (c : Dev nD) : Pipeline.ΦDRG ownSem spec0 readArrays wroteArrays (V m) (V m) c ⊢ (dats m 0 c).Φ 0 := by
  rw [show (dats m 0 c).Φ 0 = Phi m c 0 (Nat.zero_le _) from rfl, Phi_first m c 0 _ rfl, Pipeline.ΦDRG_eq, scopedRest0_eq, ownSems_eq, readArrays_eq, routed_eq]
  simp only [accM, stageM, owns_whole]
  iintro ⟨⟨HS0, HS1⟩, Hg, Hq, He, Hh⟩
  isplitl [HS0 HS1]
  · isplitl [HS0]; · iexact HS0
    iexact HS1
  isplitl [Hg]; · iexact Hg
  isplitl [Hq]; · iexact Hq
  isplitl [He]; · iexact He
  iexists _; iexact Hh

theorem leave (c : Dev nD) : (dats m 0 c).Φ (Fin.last cfg0.N) ⊢ Pipeline.ΦDRG ownSem spec0 readArrays wroteArrays (V m) (ending m) c := by
  rw [show (dats m 0 c).Φ (Fin.last cfg0.N) = Phi m c (7 + 1) (le_of_eq (show cfg0.N = 8 from N_0).symm) from by
      show Phi m c (Fin.last cfg0.N).val _ = _
      congr 1,
    Phi_succ, Pipeline.ΦDRG_eq, scopedRest0_eq, ownSems_eq, readArrays_eq, routed_eq]
  unfold outAt ending
  rw [if_pos rfl, Function.update_self]
  simp only [accM, stageM, owns_whole]
  iintro ⟨⟨HS0, HS1⟩, Hg, Hq, He, Hh⟩
  isplitl [HS0 HS1]
  · isplitl [HS0]; · iexists _; iexact HS0
    iexact HS1
  isplitl [Hg]; · iexact Hg
  isplitl [Hq]; · iexact Hq
  isplitl [He]; · iexact He
  iexact Hh

set_option backward.isDefEq.respectTransparency.types false in
/-- The launch, with every array after the run named. -/
theorem run_named : θ_run defs (onTc (τ := τ) (main (F := F))) (s₀ m ρ)
    (fun r => (Pipeline.FramePostRG cfgs (dats m) 0 wroteArrays (V m) (ending m)) r ∧ r.2.sem = fun _ => 0) :=
  Pipeline.θ_run_frame_dmaRG (Q' := _) cfgs (dats m) (0 : Fin 1) launch0 ownSem defs₀ Variants.none ownSem_facts readArrays wroteArrays readArrays_sub wroteArrays_sub m ρ main
    (hbody := fun c => (obligation m c).loose) (hshare := fun c => (dats m 0 c).share_full fun _ => rfl)
    (howed := fun _ _ => rfl) (V := V m) (hmain := enters m Variants.none) (hA := A_eq m) (G := ending m)
    (hin := enter m) (hout := leave m)

/-- The three results after the run. -/
theorem run_results : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = rounded (left m c 7 lt_N).2
      ∧ r.2.mem ((c : Thread nD τ).loc main_v4_2) = (dats m 0 c).arrAt 6 cfg0.N :=
  (θ_run defs _ _).mono (fun r h c => ⟨(h.1.toR c).1 5,
      (h.1.written c (b := main_v4_1) (by decide)).trans (by unfold ending; rw [Function.update_self]),
      (h.1.toR c).1 6⟩)
    (run_named m ρ)

/-- The run ends with the arguments unchanged and every semaphore at zero. -/
theorem run_quiescent : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).1 0).trans (((dats m 0 c).arrAt_in 0 rfl _).trans ((A_eq m c 0).trans (V_main_arg3 m c))),
      ((h.1.toR c).1 4).trans (((dats m 0 c).arrAt_in 4 rfl _).trans ((A_eq m c 4).trans (V_main_arg4 m c)))⟩, h.2⟩) (run_named m ρ)

end Cert.PoolInBwdIdeal.Step

end
-- ==== Proof.InSweep.lean ====
/-
  What the three arrays of the first layer's input product backward hold after the run, over exact arithmetic, in terms of the call's arguments.
  Grid point `t` handles the 512 rows from `512 t` on.
-/
module

public import proofs.«01_k».proof.Proof.InBlock
public import proofs.«01_k».proof.Proof.InNamed
public import Idealize.ShloMosaic.Lib.Pipeline.ValueKit
public import Idealize.ShloMosaic.Lib.StableHlo.ReadAt

@[expose] public section

set_option maxRecDepth 16384

noncomputable section

namespace Cert.PoolInBwdIdeal.Step

open Idealize.ShloMosaic Idealize.ShloMosaic.TcCoe Idealize.ShloMosaic.Tactic Idealize.SL.Sem
open Cert.PoolInBwdIdeal.Gen
open scoped BigOperators

/-! ## The arrays, of the arguments -/

section Arrays
variable (a0 : Vec Ideal S1x4096x1024 .f32) (a1 : Vec Ideal S2x1024 .f32) (a2 : Vec Ideal S1x1024x2048 .f32) (a3 : Vec Ideal S4096x2048 .bf16)
  (a4 : Vec Ideal S4096x1024 .f32)

/-- The cotangent of the normalized and weighted rows. -/
def cotA (n : Fin 4096) (l : Fin 1024) : EReal := ∑ k : Fin 2048, a3 (ix2 n k) * a2 (ix3 0 l k)
/-- The factor of a row. -/
def facA (n : Fin 4096) : EReal := fac fun k => a0 (ix3 0 n k)
/-- The gradient of the rows. -/
def dxA : Vec Ideal S4096x1024 .f32 := fun i =>
  rowGrad (fun k => a0 (ix3 0 (i 0) k)) (fun k => a1 (ix2 0 k)) (cotA a2 a3 (i 0)) (i 1) + a4 (ix2 (i 0) (i 1))
/-- The gradient of the product's weight. -/
def dwA : Vec Ideal S1024x2048 .bf16 := fun i =>
  ∑ n : Fin 4096, a0 (ix3 0 n (i 0)) * facA a0 n * a1 (ix2 0 (i 0)) * a3 (ix2 n (i 1))
/-- The gradient of the norm's weight. -/
def dnA : Vec Ideal S1x1024 .f32 := fun i => ∑ n : Fin 4096, cotA a2 a3 n (i 1) * (a0 (ix3 0 n (i 1)) * facA a0 n)
end Arrays

variable (m : (ℓ : Loc nD τ sig) → Buf (Elt Ideal) ℓ) (c : Dev nD)

/-! The five arguments, as launched. -/
abbrev a0V : Vec Ideal S1x4096x1024 .f32 := m ((c : Thread nD τ).loc main_arg0)
abbrev a1V : Vec Ideal S2x1024 .f32 := m ((c : Thread nD τ).loc main_arg1)
abbrev a2V : Vec Ideal S1x1024x2048 .f32 := m ((c : Thread nD τ).loc main_arg2)
abbrev a3V : Vec Ideal S4096x2048 .bf16 := m ((c : Thread nD τ).loc main_arg3)
abbrev a4V : Vec Ideal S4096x1024 .f32 := m ((c : Thread nD τ).loc main_arg4)

/-! ## The blocks a point reads -/

theorem v0_at (n : Fin 4096) (l : Fin 1024) : (V m c main_v0 : Vec Ideal S4096x1024 .f32) (ix2 n l) = a0V m c (ix3 0 n l) := by
  unfold V
  after_reads_at
theorem v1_at (l : Fin 1024) : (V m c main_v1 : Vec Ideal S1x1024 .f32) (ix2 0 l) = a1V m c (ix2 0 l) := by
  unfold V
  after_reads_at
theorem v3_at (l : Fin 1024) (k : Fin 2048) : (V m c main_v3 : Vec Ideal S1024x2048 .bf16) (ix2 l k) = a2V m c (ix3 0 l k) := by
  unfold V
  after_reads_at

/-- Row `r` of the block point `t` handles. -/
def rowOf (t : Fin cfg0.N) (r : Fin 512) : Fin 4096 :=
  ⟨t.val * 512 + r.val, by have := lt_of_lt_of_eq t.isLt (show cfg0.N = 8 from N_0); omega⟩

theorem idx_moving : ∀ t : Fin cfg0.N, win0_0.index t = ![t.val, 0] ∧ win0_1.index t = ![t.val, 0] ∧ win0_4.index t = ![t.val, 0]
    ∧ win0_5.index t = ![t.val, 0] :=
  (by decide +kernel : ∀ t : Fin grid0.N, win0_0.index t = ![t.val, 0] ∧ win0_1.index t = ![t.val, 0] ∧ win0_4.index t = ![t.val, 0]
    ∧ win0_5.index t = ![t.val, 0])
theorem idx_fixed : ∀ t : Fin cfg0.N, win0_2.index t = ![0, 0] ∧ win0_3.index t = ![0, 0] :=
  (by decide +kernel : ∀ t : Fin grid0.N, win0_2.index t = ![0, 0] ∧ win0_3.index t = ![0, 0])

theorem blk0 (t : Fin cfg0.N) (r : Fin 512) (k : Fin 2048) : iblk m c 0 t (ix2 r k) = a3V m c (ix2 (rowOf t r) k) := by
  refine Eq.trans ?_ (congrFun (V_main_arg3 m c) _)
  have e := (idx_moving t).1
  blk_ext [iblk, rowOf, e]
theorem blk1 (t : Fin cfg0.N) (r : Fin 512) (l : Fin 1024) : iblk m c 1 t (ix2 r l) = a0V m c (ix3 0 (rowOf t r) l) := by
  refine Eq.trans ?_ (v0_at m c _ _)
  have e := (idx_moving t).2.1
  blk_ext [iblk, rowOf, e]
theorem blk2 (t : Fin cfg0.N) (l : Fin 1024) : iblk m c 2 t (ix2 0 l) = a1V m c (ix2 0 l) := by
  refine Eq.trans ?_ (v1_at m c _)
  have e := (idx_fixed t).1
  blk_ext [iblk, e]
theorem blk3 (t : Fin cfg0.N) (l : Fin 1024) (k : Fin 2048) : iblk m c 3 t (ix2 l k) = a2V m c (ix3 0 l k) := by
  refine Eq.trans ?_ (v3_at m c _ _)
  have e := (idx_fixed t).2
  blk_ext [iblk, e]
theorem blk4 (t : Fin cfg0.N) (r : Fin 512) (l : Fin 1024) : iblk m c 4 t (ix2 r l) = a4V m c (ix2 (rowOf t r) l) := by
  refine Eq.trans ?_ (congrFun (V_main_arg4 m c) _)
  have e := (idx_moving t).2.2.1
  blk_ext [iblk, rowOf, e]

theorem cot_blk (t : Fin cfg0.N) (r : Fin 512) (l : Fin 1024) :
    cotB (iblk m c 0 t) (iblk m c 3 t) r l = cotA (a2V m c) (a3V m c) (rowOf t r) l :=
  Finset.sum_congr rfl fun k _ => congrArg₂ (fun x y : EReal => x * y) (blk0 m c t r k) (blk3 m c t l k)
theorem row_blk (t : Fin cfg0.N) (r : Fin 512) : (fun k => iblk m c 1 t (ix2 r k)) = fun k => a0V m c (ix3 0 (rowOf t r) k) :=
  funext fun k => blk1 m c t r k

/-! ## The gradient of the rows -/

theorem dx_point (t : Fin cfg0.N) (r : Fin 512) (l : Fin 1024) :
    dxOf (iblk m c 0 t) (iblk m c 1 t) (iblk m c 2 t) (iblk m c 3 t) (iblk m c 4 t) (ix2 r l)
      = dxA (a0V m c) (a1V m c) (a2V m c) (a3V m c) (a4V m c) (ix2 (rowOf t r) l) := by
  rw [dx_apply, row_blk, blk4, show (fun k => iblk m c 2 t (ix2 0 k)) = fun k => a1V m c (ix2 0 k) from funext fun k => blk2 m c t k,
    show cotB (iblk m c 0 t) (iblk m c 3 t) r = cotA (a2V m c) (a3V m c) (rowOf t r) from funext fun k => cot_blk m c t r k]
  rfl

theorem arr_dx : (dats m 0 c).arrAt 5 cfg0.N = dxA (a0V m c) (a1V m c) (a2V m c) (a3V m c) (a4V m c) := by
  refine (dats m 0 c).arrAt_eq_of_covers 5 _ (by decide +kernel) fun t hf y => ?_
  rw [after_dx]
  have e := (idx_moving t).2.2.2
  refine Eq.trans (congrArg (dxOf (iblk m c 0 t) (iblk m c 1 t) (iblk m c 2 t) (iblk m c 3 t) (iblk m c 4 t)) ?_)
    ((dx_point m c t ⟨(y 0).val, (y 0).isLt⟩ ⟨(y 1).val, (y 1).isLt⟩).trans (congrArg (dxA (a0V m c) (a1V m c) (a2V m c) (a3V m c) (a4V m c)) ?_))
  · blk_ext []
  · blk_ext [rowOf, e]

/-! ## The sums over the points -/

/-- A value reset at the first point and added to at every other is, after the last, the sum over all rows. -/
theorem sum_left (X : Vec Ideal S1x1024 .f32 × Vec Ideal S1024x2048 .f32 → EReal) (term : Fin 4096 → EReal)
    (h0 : X (k0_pay8 (F := Ideal), k0_pay7 (F := Ideal)) = 0)
    (hs : ∀ (t : Fin cfg0.N) p, X (over m c t p) = X p + ∑ r : Fin 512, term (rowOf t r)) :
    X (left m c 7 lt_N) = ∑ n : Fin 4096, term n := by
  let g : ℕ → EReal := fun k => if h : k < cfg0.N then ∑ r : Fin 512, term (rowOf ⟨k, h⟩ r) else 0
  have hg : ∀ (k : ℕ) (h : k < cfg0.N), g k = ∑ r : Fin 512, term (rowOf ⟨k, h⟩ r) := fun k h => dif_pos h
  have key : ∀ (n : ℕ) (h : n < cfg0.N), X (left m c n h) = ∑ k ∈ Finset.range (n + 1), g k := by
    intro n
    induction n with
    | zero => exact fun h => by rw [left_first m c ⟨0, h⟩ rfl, hs, h0, zero_add, Finset.sum_range_one, hg 0 h]
    | succ n ih =>
      exact fun h => by
        rw [left_next m c ⟨n + 1, h⟩ (Nat.succ_ne_zero n), hs, Finset.sum_range_succ, hg (n + 1) h]
        exact congrArg (· + _) (ih (Nat.lt_of_succ_lt h))
  rw [key, Finset.sum_range g]
  let eqv : Fin 8 × Fin 512 ≃ Fin 4096 := finProdFinEquiv.trans (finCongr (by norm_num))
  have e : ∀ k : Fin 8, g k.val = ∑ r : Fin 512, term (eqv (k, r)) := fun k =>
    (hg _ (lt_of_lt_of_eq k.isLt (show cfg0.N = 8 from N_0).symm)).trans (Finset.sum_congr rfl fun r _ => congrArg term (Fin.ext (by
      show k.val * 512 + r.val = r.val + 512 * k.val
      omega)))
  rw [Finset.sum_congr rfl fun k _ => e k]
  exact (Fintype.sum_prod_type fun p : Fin 8 × Fin 512 => term (eqv p)).symm.trans (Equiv.sum_comp eqv term)

theorem sum_dn (l : Fin 1024) : (left m c 7 lt_N).1 (ix2 0 l) = dnA (a0V m c) (a2V m c) (a3V m c) (ix2 0 l) := by
  refine sum_left m c (fun p => p.1 (ix2 0 l)) (fun n => cotA (a2V m c) (a3V m c) n l * (a0V m c (ix3 0 n l) * facA (a0V m c) n))
    (zero_dn l) fun t p => ?_
  refine (dn_apply _ _ _ _ l).trans (congrArg (_ + ·) (Finset.sum_congr rfl fun r _ => ?_))
  rw [cot_blk, row_blk, blk1]
  rfl

theorem sum_dw (l : Fin 1024) (j : Fin 2048) : (left m c 7 lt_N).2 (ix2 l j) = dwA (a0V m c) (a1V m c) (a3V m c) (ix2 l j) := by
  refine sum_left m c (fun p => p.2 (ix2 l j)) (fun n => a0V m c (ix3 0 n l) * facA (a0V m c) n * a1V m c (ix2 0 l) * a3V m c (ix2 n j))
    (zero_acc l j) fun t p => ?_
  refine (acc_apply _ _ _ _ l j).trans (congrArg (_ + ·) (Finset.sum_congr rfl fun r _ => ?_))
  rw [row_blk, blk0, blk1, blk2]
  rfl

theorem arr_dn : (dats m 0 c).arrAt 6 cfg0.N = dnA (a0V m c) (a2V m c) (a3V m c) := by
  refine (dats m 0 c).arrAt_eq_of_after_last 6 t0_7 (by decide +kernel) _ fun j => ?_
  rw [after_dn]
  refine Eq.trans (congrArg (left m c t0_7.val t0_7.isLt).1 ?_) ((sum_dn m c ⟨(j 1).val, (j 1).isLt⟩).trans
    (congrArg (dnA (a0V m c) (a2V m c) (a3V m c)) ?_))
  · blk_ext []
  · blk_ext []

theorem end_dw : rounded (left m c 7 lt_N).2 = dwA (a0V m c) (a1V m c) (a3V m c) := by
  funext i
  idx_vars i
  exact sum_dw m c i0 i1

variable (ρ : Dev nD → PrngReg)

/-- The run, its three results of the arguments. -/
theorem run_sums : θ_run defs (onTc (τ := τ) (main (F := Ideal))) ⟨m, fun _ => 0, ρ⟩ fun r => ∀ c : Dev nD,
      r.2.mem ((c : Thread nD τ).loc main_v4_0) = dxA (a0V m c) (a1V m c) (a2V m c) (a3V m c) (a4V m c)
      ∧ r.2.mem ((c : Thread nD τ).loc main_v4_1) = dwA (a0V m c) (a1V m c) (a3V m c)
      ∧ r.2.mem ((c : Thread nD τ).loc main_v4_2) = dnA (a0V m c) (a2V m c) (a3V m c) :=
  (θ_run defs _ _).mono (fun r h c => ⟨(h c).1.trans (arr_dx m c), (h c).2.1.trans (end_dw m c), (h c).2.2.trans (arr_dn m c)⟩) (run_results m ρ)

end Cert.PoolInBwdIdeal.Step

end
-- ==== Proof.InRef.lean ====
/-
  What the reference of the first layer's input product computes, over exact arithmetic: its three results at an index, of the call's arguments.
-/
module

public import proofs.«01_k».proof.Proof.InSweep
public import proofs.«01_k».proof.Proof.GlaRank6
public import proofs.«01_k».proof.Proof.Gen.PoolInBwdRefIdeal.Read

@[expose] public section

set_option maxRecDepth 16384

noncomputable section

namespace Cert.PoolInBwdRefIdeal.RefValue

open Idealize.ShloMosaic Idealize.ShloMosaic.TcCoe Idealize.ShloMosaic.Tactic Cert.PoolInBwdRefIdeal Cert.PoolInBwdRefIdeal.Gen
open Cert.PoolInBwdRefIdeal.Read Cert.Gla
open Cert.PoolInBwdIdeal.Step (fac facA cotA dwA dnA)
open scoped BigOperators

variable (a0 : Vec Ideal S1x4096x1024 .f32) (a1 : Vec Ideal S2x1024 .f32) (a2 : Vec Ideal S1x1024x2048 .f32) (a3 : Vec Ideal S4096x2048 .bf16)
  (a4 : Vec Ideal S4096x1024 .f32)

/-- A row's mean square, offset. -/
def msA (n : Fin 4096) : EReal :=
  Ideal.div (∑ k, a0 (ix3 0 n k) * a0 (ix3 0 n k)) (Ideal.ofBits .f32 0x44800000#32) + Ideal.ofBits .f32 0x358637BD#32

/-- The factor of `x` in the derivative through a row's mean square. -/
def pull (n : Fin 4096) : EReal :=
  Ideal.div ((∑ k, a0 (ix3 0 n k) * (cotA a2 a3 n k * a1 (ix2 0 k))) * (Ideal.ofBits .f32 0xBF000000#32 * Ideal.div (facA a0 n) (msA a0 n)))
    (Ideal.ofBits .f32 0x44800000#32)

/-- A sum over two axes of size one is the initial value and one element. -/
theorem total_col (r : (⟨3, ![1, 4096, 1]⟩ : Shape).ReducesTo [0, 2] ⟨1, ![4096]⟩) (v : (⟨3, ![1, 4096, 1]⟩ : Shape).Idx → EReal) (i : EReal) (n : Fin 4096) :
    Ideal.hostReduceAdd r v i (ix1 n) = i + v (ix3 0 n 0) := by
  refine total_one r v i _ _ fun a => ⟨fun q => funext fun d => Fin.ext ?_, ?_⟩
  · match d with
    | ⟨0, _⟩ => have hb : (a 0).val < 1 := (a 0).isLt; show 0 = (a 0).val; omega
    | ⟨1, _⟩ => exact (congrArg Fin.val (congrFun q ⟨0, by decide⟩)).symm
    | ⟨2, _⟩ => have hb : (a 2).val < 1 := (a 2).isLt; show 0 = (a 2).val; omega
  · rintro rfl
    refine funext fun a => Fin.ext ?_
    match a with
    | ⟨0, _⟩ => rfl

theorem v9_at (n : Fin 4096) : val_main_v9 (F := Ideal) a0 (ix3 0 n 0) = msA a0 n := by
  pointwise [val_main_v9, val_main_v8, val_main_v7, val_main_v6, val_main_v5, val_main_v4, val_main_v3, val_main_cst, val_main_cst_0, val_main_cst_1, msA]

theorem v10_at (n : Fin 4096) : val_main_v10 (F := Ideal) a0 (ix3 0 n 0) = facA a0 n := by
  pointwise [val_main_v10, v9_at]
  rfl

theorem v15_at (n : Fin 4096) (l : Fin 1024) : val_main_v15 (F := Ideal) a0 (ix3 0 n l) = a0 (ix3 0 n l) * facA a0 n := by
  pointwise [val_main_v15, val_main_v14, v10_at]

theorem v18_at (n : Fin 4096) (l : Fin 1024) : val_main_v18 (F := Ideal) a0 a1 (ix3 0 n l) = a0 (ix3 0 n l) * facA a0 n * a1 (ix2 0 l) := by
  pointwise [val_main_v18, v15_at, val_main_v17, val_main_v16, val_main_v1, val_main_v0]

theorem v25_at (n : Fin 4096) (l : Fin 1024) : val_main_v25 (F := Ideal) a2 a3 (ix3 0 n l) = cotA a2 a3 n l := by
  pointwise [val_main_v25, val_main_v21, val_main_v20, val_main_v2, cotA]

theorem v30_at (n : Fin 4096) (l : Fin 1024) : val_main_v30 (F := Ideal) a1 a2 a3 (ix3 0 n l) = cotA a2 a3 n l * a1 (ix2 0 l) := by
  pointwise [val_main_v30, v25_at, val_main_v29, val_main_v16, val_main_v1, val_main_v0]

theorem v40_at (n : Fin 4096) : val_main_v40 (F := Ideal) a0 a1 a2 a3 (ix3 0 n 0) = pull a0 a1 a2 a3 n := by
  pointwise [val_main_v40, val_main_v39, val_main_v38, val_main_v34, val_main_v33, val_main_v32, val_main_v13, val_main_v12, val_main_v11, v9_at, v10_at, v30_at,
    val_main_cst_2, val_main_cst_5, val_main_cst_6, pull]

theorem v41_at (n : Fin 4096) : val_main_v41 (F := Ideal) a0 a1 a2 a3 (ix1 n) = pull a0 a1 a2 a3 n := by
  pointwise [val_main_v41, val_main_cst_7]
  refine (total_col _ _ _ n).trans ?_
  rw [v40_at, zero_add]

theorem dx_ref (n : Fin 4096) (l : Fin 1024) : val_main_v48 (F := Ideal) a0 a1 a2 a3 a4 (ix2 n l)
    = a4 (ix2 n l) + cotA a2 a3 n l * a1 (ix2 0 l) * facA a0 n + a0 (ix3 0 n l) * pull a0 a1 a2 a3 n + pull a0 a1 a2 a3 n * a0 (ix3 0 n l) := by
  pointwise [val_main_v48, val_main_v47, val_main_v46, val_main_v45, val_main_v44, val_main_v43, val_main_v42, v41_at, val_main_v37, val_main_v36, val_main_v35,
    v10_at, v30_at, val_main_v22]

theorem dw_ref : val_main_v49 (F := Ideal) a0 a1 a3 = dwA a0 a1 a3 := by
  funext i
  idx_vars i
  pointwise [val_main_v49, val_main_v24, val_main_v23, val_main_v21, val_main_v20, dwA]
  rw [Fin.sum_univ_one]
  exact Finset.sum_congr rfl fun n _ => (congrArg (_ * ·) (v18_at a0 a1 n i0)).trans (mul_comm _ _)

theorem v28_at (l : Fin 1024) : val_main_v28 (F := Ideal) a0 a2 a3 (ix3 0 0 l) = dnA a0 a2 a3 (ix2 0 l) := by
  pointwise [val_main_v28, val_main_v27, val_main_v26, v15_at, v25_at, val_main_cst_3, dnA]
  exact Finset.sum_congr rfl fun n _ => mul_comm _ _

theorem dn_ref : val_main_v50 (F := Ideal) a0 a2 a3 = dnA a0 a2 a3 := by
  funext i
  idx_vars i
  pointwise [val_main_v50, val_main_v31, val_main_cst_4]
  refine (total_row _ _ _ i1).trans ?_
  rw [v28_at, zero_add, Fin.fin_one_eq_zero i0]

end Cert.PoolInBwdRefIdeal.RefValue

end
-- ==== Proof.InEquation.lean ====
/-
  The equation of the first layer's input product backward: where the arguments are numbers, the gradient of a row as the kernel writes it is the
  derivative of the reference's forward lines.  The derivative of `(mean x² + eps)^(-1/2)` is `-1/2` times that over `mean x² + eps`, which is its
  cube; the other two gradients are the same sums on both sides.
-/
module

public import proofs.«01_k».proof.Proof.InRef
public import proofs.«01_k».proof.Proof.GlaTile
public import proofs.«01_k».proof.Proof.Finite
public import proofs.«01_k».proof.Proof.Gen.Pre_finite3

@[expose] public section

set_option maxRecDepth 16384

noncomputable section

namespace Cert.PoolInBwdRefIdeal.RefValue

open Idealize.ShloMosaic Idealize.ShloMosaic.TcCoe Idealize.ShloMosaic.Tactic Cert.PoolInBwdRefIdeal Cert.PoolInBwdRefIdeal.Gen
open Cert.PoolInBwdRefIdeal.Read
open Cert.PoolInBwdIdeal.Step (fac facA cotA dxA rowGrad)
open Cert.PoolBwdRefIdeal.RefValue (real_of_test)
open Cert.PoolBwdRefIdeal.RevSum (IsReal)
open Cert.GlaBwdIdeal.Head (mul_coe coe_sum div_real rsqrt_pos word_eps word_half)
open scoped BigOperators

/-- Arrays that pass the precondition hold numbers; the cotangent that is only added needs none. -/
theorem reals_of_pre (a0 : Vec Ideal S1x4096x1024 .f32) (a1 : Vec Ideal S2x1024 .f32) (a2 : Vec Ideal S1x1024x2048 .f32)
    (a3 : Vec Ideal S4096x2048 .bf16) (a4 : Vec Ideal S4096x1024 .f32) (h : Cert.Pre_finite3.fn (F := Ideal) a0 a1 a2 a3 a4 = fun _ => 1#1) :
    (∀ i, IsReal (a0 i)) ∧ (∀ i, IsReal (a1 i)) ∧ (∀ i, IsReal (a2 i)) ∧ (∀ i, IsReal (a3 i)) := by
  have e := congrFun h (Shape.Idx.first Cert.Pre_finite3.Facts.h_S_)
  dsimp only [Cert.Pre_finite3.fn, Cert.Pre_finite3.fn_part1] at e
  obtain ⟨e, e3⟩ := IntOp.andi_eq_one.1 e
  obtain ⟨e, e2⟩ := IntOp.andi_eq_one.1 e
  obtain ⟨e0, e1⟩ := IntOp.andi_eq_one.1 e
  exact ⟨fun i => real_of_test a0 _ i (Host.reduce_andi_all _ _ _ _ _ e0 i), fun i => real_of_test a1 _ i (Host.reduce_andi_all _ _ _ _ _ e1 i),
    fun i => real_of_test a2 _ i (Host.reduce_andi_all _ _ _ _ _ e2 i), fun i => real_of_test a3 _ i (Host.reduce_andi_all _ _ _ _ _ e3 i)⟩

theorem word_1024 : Ideal.ofBits .f32 0x44800000#32 = ((1024 : ℝ) : EReal) := by
  simp [Ideal.ofBits, Ideal.ieee, -EReal.coe_mul]; norm_num

/-- The factor of `x` in the derivative through a row's mean square. -/
def pullOf (x w d : Fin 1024 → EReal) : EReal :=
  Ideal.div ((∑ k, x k * (d k * w k)) * (Ideal.ofBits .f32 0xBF000000#32
      * Ideal.div (fac x) (Ideal.div (∑ k, x k * x k) (Ideal.ofBits .f32 0x44800000#32) + Ideal.ofBits .f32 0x358637BD#32)))
    (Ideal.ofBits .f32 0x44800000#32)

/-! ## A row of numbers -/

section Row
variable (x w d : Fin 1024 → ℝ)

/-- A row's mean square, offset. -/
def msR : ℝ := (∑ k, x k * x k) / 1024 + 8796093 / 8796093022208
/-- The row's factor. -/
def facR : ℝ := (Real.sqrt (msR x))⁻¹

/-- The factor of `x` in the derivative through the mean square. -/
def pullR : ℝ := (∑ k, x k * (d k * w k)) * (-(1 / 2) * (facR x / msR x)) / 1024

theorem msR_pos : 0 < msR x :=
  add_pos_of_nonneg_of_pos (div_nonneg (Finset.sum_nonneg fun k _ => mul_self_nonneg _) (by norm_num)) (by norm_num)

theorem facR_cube : facR x / msR x = facR x * (facR x * facR x) := by
  have e : facR x * facR x = (msR x)⁻¹ := by
    unfold facR
    rw [← mul_inv, Real.mul_self_sqrt (msR_pos x).le]
  rw [e, div_eq_mul_inv]

theorem ms_coe : Ideal.div (∑ k, (x k : EReal) * (x k : EReal)) (Ideal.ofBits .f32 0x44800000#32) + Ideal.ofBits .f32 0x358637BD#32
    = ((msR x : ℝ) : EReal) := by
  simp only [mul_coe, ← coe_sum]
  rw [word_1024, word_eps, div_real _ _ (by norm_num), ← EReal.coe_add]
  rfl

theorem fac_coe : fac (fun k => (x k : EReal)) = ((facR x : ℝ) : EReal) := by
  unfold fac
  rw [ms_coe, rsqrt_pos _ (msR_pos x)]
  rfl

theorem rowGrad_coe (l : Fin 1024) : rowGrad (fun k => (x k : EReal)) (fun k => (w k : EReal)) (fun k => (d k : EReal)) l
    = ((facR x * (d l * w l - x l * facR x * ((∑ k, d k * w k * (x k * facR x)) / 1024)) : ℝ) : EReal) := by
  unfold rowGrad
  simp only [fac_coe, mul_coe, ← coe_sum]
  rw [word_1024, div_real _ _ (by norm_num), mul_coe, ← EReal.coe_sub, mul_coe]

theorem pull_coe : pullOf (fun k => (x k : EReal)) (fun k => (w k : EReal)) (fun k => (d k : EReal)) = ((pullR x w d : ℝ) : EReal) := by
  unfold pullOf
  rw [ms_coe, fac_coe, div_real _ _ (msR_pos x).ne', word_half]
  simp only [mul_coe, ← coe_sum]
  rw [word_1024, div_real _ _ (by norm_num)]
  rfl

/-- The derivative of the normalized row, of numbers. -/
theorem row_eq (l : Fin 1024) : facR x * (d l * w l - x l * facR x * ((∑ k, d k * w k * (x k * facR x)) / 1024))
    = d l * w l * facR x + (x l * pullR x w d + pullR x w d * x l) := by
  unfold pullR
  rw [facR_cube, show (∑ k, d k * w k * (x k * facR x)) = (∑ k, x k * (d k * w k)) * facR x from by
    rw [Finset.sum_mul]; exact Finset.sum_congr rfl fun k _ => by ring]
  ring
end Row

/-! ## The gradient of the rows -/

/-- A row's gradient and a residual, as the kernel adds them, are the terms of the derivative, as the reference adds them. -/
theorem grad_eq (x w d : Fin 1024 → EReal) (v : EReal) (hx : ∀ k, IsReal (x k)) (hw : ∀ k, IsReal (w k)) (hd : ∀ k, IsReal (d k)) (l : Fin 1024) :
    rowGrad x w d l + v = v + d l * w l * fac x + x l * pullOf x w d + pullOf x w d * x l := by
  choose x' ex using hx
  choose w' ew using hw
  choose d' ed using hd
  obtain rfl := funext ex
  obtain rfl := funext ew
  obtain rfl := funext ed
  rw [rowGrad_coe, row_eq, pull_coe, fac_coe]
  dsimp only
  rw [mul_coe, mul_coe, mul_coe, mul_coe, add_assoc, add_assoc, add_comm, ← EReal.coe_add, ← EReal.coe_add]

/-- A sum of products of numbers is a number. -/
theorem real_dot {n : ℕ} (f g : Fin n → EReal) (hf : ∀ k, IsReal (f k)) (hg : ∀ k, IsReal (g k)) : IsReal (∑ k, f k * g k) := by
  choose f' ef using hf
  choose g' eg using hg
  exact ⟨∑ k, f' k * g' k, by simp only [ef, eg, mul_coe, ← coe_sum]⟩

/-- The gradient of the rows, as the kernel leaves it, is the reference's. -/
theorem dx_eq (a0 : Vec Ideal S1x4096x1024 .f32) (a1 : Vec Ideal S2x1024 .f32) (a2 : Vec Ideal S1x1024x2048 .f32)
    (a3 : Vec Ideal S4096x2048 .bf16) (a4 : Vec Ideal S4096x1024 .f32)
    (h0 : ∀ i, IsReal (a0 i)) (h1 : ∀ i, IsReal (a1 i)) (h2 : ∀ i, IsReal (a2 i)) (h3 : ∀ i, IsReal (a3 i)) :
    dxA a0 a1 a2 a3 a4 = val_main_v48 (F := Ideal) a0 a1 a2 a3 a4 := by
  funext i
  idx_vars i
  rw [dx_ref]
  exact grad_eq _ _ _ _ (fun _ => h0 _) (fun _ => h1 _) (fun _ => real_dot _ _ (fun _ => h3 _) fun _ => h2 _) _

end Cert.PoolInBwdRefIdeal.RefValue

end
-- ==== Proof.InFrame.lean ====
/-
  The frame of the first layer's input product backward at the chip's words: the program is, letter for letter, the one whose run
  Proof/InNamed.lean gives for any float values.
-/
module

public import proofs.«01_k».proof.Defs
public import proofs.«01_k».proof.Proof.InNamed
public import proofs.«01_k».proof.Proof.Gen.PoolInBwd

@[expose] public section

set_option maxRecDepth 65536

noncomputable section

namespace Cert.Proof

open Idealize.ShloMosaic Idealize.ShloMosaic.TcCoe Idealize.SL.Sem

/-- The two frames say the same, the one program's text being the other's. -/
theorem in_words_eq : Cert.quiescent_PoolInBwd (hPoolInBwd := Cert.PoolInBwd.Gen.facts)
    = ∀ (m : (ℓ : Loc Cert.PoolInBwdIdeal.nD Cert.PoolInBwdIdeal.τ Cert.PoolInBwdIdeal.sig) → Buf (Elt Bits) ℓ) (g : Dev Cert.PoolInBwdIdeal.nD → PrngReg),
      Cert.Pre_PoolInBwd m → θ_run (Cert.PoolInBwdIdeal.defs (F := Bits)) (onTc (τ := Cert.PoolInBwdIdeal.τ) (Cert.PoolInBwdIdeal.main (F := Bits)))
        ⟨m, fun _ => 0, g⟩ (fun r => (∀ c : Dev Cert.PoolInBwdIdeal.nD,
          r.2.mem ((c.tc : Thread Cert.PoolInBwdIdeal.nD Cert.PoolInBwdIdeal.τ).loc Cert.PoolInBwdIdeal.main_arg0) = m ((c.tc : Thread _ _).loc Cert.PoolInBwdIdeal.main_arg0)
          ∧ r.2.mem ((c.tc : Thread Cert.PoolInBwdIdeal.nD Cert.PoolInBwdIdeal.τ).loc Cert.PoolInBwdIdeal.main_arg1) = m ((c.tc : Thread _ _).loc Cert.PoolInBwdIdeal.main_arg1)
          ∧ r.2.mem ((c.tc : Thread Cert.PoolInBwdIdeal.nD Cert.PoolInBwdIdeal.τ).loc Cert.PoolInBwdIdeal.main_arg2) = m ((c.tc : Thread _ _).loc Cert.PoolInBwdIdeal.main_arg2)
          ∧ r.2.mem ((c.tc : Thread Cert.PoolInBwdIdeal.nD Cert.PoolInBwdIdeal.τ).loc Cert.PoolInBwdIdeal.main_arg3) = m ((c.tc : Thread _ _).loc Cert.PoolInBwdIdeal.main_arg3)
          ∧ r.2.mem ((c.tc : Thread Cert.PoolInBwdIdeal.nD Cert.PoolInBwdIdeal.τ).loc Cert.PoolInBwdIdeal.main_arg4) = m ((c.tc : Thread _ _).loc Cert.PoolInBwdIdeal.main_arg4))
          ∧ r.2.sem = fun _ => 0) := by
  sl_kernel_rfl

/-- The first layer's input product backward, its frame at the chip's words: the same run as over exact arithmetic. -/
theorem frame_in : Cert.quiescent_PoolInBwd (hPoolInBwd := Cert.PoolInBwd.Gen.facts) :=
  in_words_eq.mpr fun m g _ => Cert.PoolInBwdIdeal.Step.run_quiescent (F := Bits) m g

end Cert.Proof

end
-- ==== Proof.GlaInPoint.lean ====
/-
  What one grid point of the second layer's input product backward does: the buffers it finds and leaves, at the first point, in the middle
  and at the last point, where the accumulated gradient of the input map is rounded and relaid by rows of 128 lanes and copied out in four pieces.
-/
module

public import proofs.«01_k».proof.Proof.Gen.GlaInBwdIdeal.Frame
public import proofs.«01_k».proof.Proof.Gen.GlaInBwdIdeal.Skeleton
public import Idealize.ShloMosaic.Lib.Pipeline.ReadBack
public import Idealize.ShloMosaic.Lib.Pipeline.FrameValue

@[expose] public section

set_option maxRecDepth 16384

noncomputable section

namespace Cert.GlaInBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.GlaInBwdIdeal.Gen

variable {F : FTy → Type} [FloatOps F]

local notation "𝕄" => MT nD τ sig Unit (Elt F) ℕ (Pipeline.UD sig nD τ) ℕ

/-! ## The cases of the body, and the buffers it is run on -/

/-- The body resets what it accumulates. -/
abbrev first (i : grid0.Coords) : Prop := (Scalar.cmpi .ne (Scalar.extui (Scalar.cmpi .eq (BitVec.ofNat 32 (i 0).val) 0#32)) 0#32) = 1#1
/-- The body copies the weight's gradient out. -/
abbrev last (i : grid0.Coords) : Prop := (Scalar.cmpi .ne (Scalar.extui (Scalar.cmpi .eq (BitVec.ofNat 32 (i 0).val) 7#32)) 0#32) = 1#1

theorem first_iff : ∀ t : Fin cfg0.N, first (grid0.coords t) ↔ t.val = 0 :=
  (by decide +kernel : ∀ t : Fin grid0.N, first (grid0.coords t) ↔ t.val = 0)
theorem last_iff : ∀ t : Fin cfg0.N, last (grid0.coords t) ↔ t.val = 7 :=
  (by decide +kernel : ∀ t : Fin grid0.N, last (grid0.coords t) ↔ t.val = 7)

/-- The accumulator of the weight's gradient, the rounded lines on their way out, and the lines of one piece before they are rounded. -/
abbrev accM : Memref sig .tc .vmem S3200x1024 .f32 := Memref.whole cc0_scratch0
@[inherit_doc accM] abbrev stageM : Memref sig .tc .vmem S24704x128 .bf16 := Memref.whole cc0_scratch1
@[inherit_doc accM] abbrev linesM : Memref sig .tc .vmem S6208x128 .f32 := Memref.whole cc0_scratch2
/-- The weight's gradient in HBM. -/
abbrev outM : Memref sig .tc .hbm S24704x128 .bf16 := Memref.whole main_v6_1

/-- What a buffer holds, and that it is held. -/
abbrev Held (c : Dev nD) {sp : Space} {S : Shape} {e : EltTy} (M : Memref sig .tc sp S e) : Type := Buf (Elt F) (M.view.loc (c : Thread nD τ))
@[inherit_doc Held] abbrev held (c : Dev nD) {sp : Space} {S : Shape} {e : EltTy} (M : Memref sig .tc sp S e) (f : Held (F := F) c M) : sProp 𝕄 :=
  M.view.loc (c : Thread nD τ) ↦{fullShare} f

/-- The semaphores of the four copies out, at zero. -/
def sems (c : Dev nD) : sProp 𝕄 :=
  iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0)

/-! ## What a point leaves -/

/-- The weight's rows that fill whole tiles of lanes, and the rows after them. -/
abbrev top (x3 : Vec F S3088x1024 .bf16) : Vec F S3072x1024 .bf16 := View.ld x3 (Rect.unit (s := S3088x1024) ![0, 0] S3072x1024.size inb_S3088x1024_S3072x1024_0_0)
@[inherit_doc top] abbrev low (x3 : Vec F S3088x1024 .bf16) : Vec F S16x1024 .bf16 := View.ld x3 (Rect.unit (s := S3088x1024) ![3072, 0] S16x1024.size inb_S3088x1024_S16x1024_3072_0)

/-- The rows of the input's gradient the point writes. -/
abbrev dxOf (x0 : Vec F S512x3200 .bf16) (x1 : Vec F S512x1024 .f32) (x2 : Vec F S1x1024 .f32) (x3 : Vec F S3088x1024 .bf16) (x4 : Vec F S512x1024 .f32) : Vec F S512x1024 .f32 :=
  k0_pay3 (k0_pay43 x0 (top x3) (low x3)) (k0_pay45 x1) (k0_pay46 x1) (k0_pay47 x2) x4

/-- The norm weight's gradient so far, over what the point before left. -/
abbrev dnOf (x0 : Vec F S512x3200 .bf16) (x1 : Vec F S512x1024 .f32) (x3 : Vec F S3088x1024 .bf16) (z : Vec F S1x1024 .f32) : Vec F S1x1024 .f32 :=
  k0_pay2 (k0_pay43 x0 (top x3) (low x3)) (k0_pay46 x1) z

/-- The input map's gradient so far, over what the point before left. -/
abbrev accOf (x0 : Vec F S512x3200 .bf16) (x1 : Vec F S512x1024 .f32) (x2 : Vec F S1x1024 .f32) (s : Vec F S3200x1024 .f32) : Vec F S3200x1024 .f32 :=
  k0_pay1 (k0_pay48 x0 x1 x2 s)

/-- What the accumulators start from at a point: zeros at the first, what the point before left at the others. -/
def zStart (i : grid0.Coords) (z : Vec F S1x1024 .f32) : Vec F S1x1024 .f32 := if first i then k0_pay41 else z
@[inherit_doc zStart] def aStart (i : grid0.Coords) (s : Vec F S3200x1024 .f32) : Vec F S3200x1024 .f32 := if first i then k0_pay40 else s

/-- A read of what covering stores left is the canonical contents, which an equation names. -/
theorem read_eq {sp : Space} {S : Shape} {e : EltTy} (v : View sig .tc sp S e) (f) (L : List (View.Piece (Elt F) S e)) (size : Fin S.rank → ℕ)
    (hc : ∀ y, ∃ p ∈ L, y ∈ p.1.set) (X : Vec F S e) (h : View.canon L = X) : v.read (Elt F) (v.writes (Elt F) f L) = X := by
  rw [View.read_writes_eq_canon _ _ _ hc]; exact h

theorem zeros2 : (![0, 0] : Fin 2 → ℕ) = fun _ => 0 := funext fun a => by fin_cases a <;> rfl

set_option maxHeartbeats 1600000 in
/-- The body at a point before the last. -/
theorem step_run (c : Dev nD) (i : grid0.Coords) (arg1 : Memref sig .tc .vmem S512x3200 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S3088x1024 .bf16) (harg4 : arg4.IsWhole) (arg5 : Memref sig .tc .vmem S512x1024 .f32) (harg5 : arg5.IsWhole) (arg6 : Memref sig .tc .vmem S512x1024 .f32) (harg6 : arg6.IsWhole) (arg8 : Memref sig .tc .vmem S1x1024 .f32) (harg8 : arg8.IsWhole) (arg9 : Memref sig .tc .vmem S3200x1024 .f32) (harg9 : arg9.IsWhole) (arg10 : Memref sig .tc .vmem S24704x128 .bf16) (harg10 : arg10.IsWhole) (arg11 : Memref sig .tc .vmem S6208x128 .f32) (harg11 : arg11.IsWhole) (hc1 : ¬last i)
    (x0 : Vec F S512x3200 .bf16) (x1 : Vec F S512x1024 .f32) (x2 : Vec F S1x1024 .f32) (x3 : Vec F S3088x1024 .bf16) (x4 : Vec F S512x1024 .f32) (z : Vec F S1x1024 .f32) (s : Vec F S3200x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg8 fullShare z ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dxOf x0 x1 x2 x3 x4)
          ∗ owns (c : Thread nD τ) arg8 fullShare (dnOf x0 x1 x3 (zStart i z)) ∗ owns (c : Thread nD τ) arg9 fullShare (accOf x0 x1 x2 (aStart i s))) -∗ K ⟨⟩))
      ⊢ wp frame (wpE (defs₀ (F := F)) Variants.none c none) Set.univ (cc0_gla_in_bwd i arg1 harg1 arg2 harg2 arg3 harg3 arg4 harg4 arg5 harg5 arg6 harg6 (Memref.whole main_v6_1) (Memref.isWhole_whole _) arg8 harg8 arg9 harg9 arg10 harg10 arg11 harg11 cc0_scratch3) K := by
  simp only [cc0_gla_in_bwd_eq_skeleton]; unfold cc0_gla_in_bwd_skel
  simp only [k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf6; obtain rfl := harg9.eq_unread hfs0
  by_cases hc0 : first i
  all_goals
    first | rw [zStart, if_pos hc0, aStart, if_pos hc0] | rw [zStart, if_neg hc0, aStart, if_neg hc0]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; sl_unfold_words
      refine read_eq (F := F) (S := S512x1024) _ _ _ S512x1024.size (View.cover_of_tiledL (s := S512x1024) _ S512x1024.size (by sl_kernel_rfl)) _ ?_
      simp only [View.readAt_eq_ld, harg1.read_unread, harg2.read_unread, harg3.read_unread, harg4.read_unread, harg5.read_unread, harg8.read_unread, harg9.read_unread, View.ld_unit_zero (S := S512x3200) zeros2, View.ld_unit_zero (S := S512x1024) zeros2, View.ld_unit_zero (S := S1x1024) zeros2, View.ld_unit_zero (S := S3200x1024) zeros2, View.readCov_unit_zero (S := S1x1024) _ zeros2, View.readCov_unit_zero (S := S3200x1024) _ zeros2]
      rw [View.canon_cons_unit_zero (S := S512x1024) zeros2]
    isplitl [H6]
    · iexists _; isplitr; swap; · iexact H6
      ipureintro; sl_unfold_words
      refine read_eq (F := F) (S := S1x1024) _ _ _ S1x1024.size (View.cover_of_tiledL (s := S1x1024) _ S1x1024.size (by sl_kernel_rfl)) _ ?_
      simp only [View.readAt_eq_ld, harg1.read_unread, harg2.read_unread, harg3.read_unread, harg4.read_unread, harg5.read_unread, harg8.read_unread, harg9.read_unread, View.ld_unit_zero (S := S512x3200) zeros2, View.ld_unit_zero (S := S512x1024) zeros2, View.ld_unit_zero (S := S1x1024) zeros2, View.ld_unit_zero (S := S3200x1024) zeros2, View.readCov_unit_zero (S := S1x1024) _ zeros2, View.readCov_unit_zero (S := S3200x1024) _ zeros2]
      rw [View.canon_cons_unit_zero (S := S1x1024) zeros2]
    iexists _; isplitr; swap; · iexact HS0
    ipureintro; sl_unfold_words
    refine read_eq (F := F) (S := S3200x1024) _ _ _ S3200x1024.size (View.cover_of_tiledL (s := S3200x1024) _ S3200x1024.size (by sl_kernel_rfl)) _ ?_
    simp only [View.readAt_eq_ld, harg1.read_unread, harg2.read_unread, harg3.read_unread, harg4.read_unread, harg5.read_unread, harg8.read_unread, harg9.read_unread, View.ld_unit_zero (S := S512x3200) zeros2, View.ld_unit_zero (S := S512x1024) zeros2, View.ld_unit_zero (S := S1x1024) zeros2, View.ld_unit_zero (S := S3200x1024) zeros2, View.readCov_unit_zero (S := S1x1024) _ zeros2, View.readCov_unit_zero (S := S3200x1024) _ zeros2]
    rw [View.canon_cons_unit_zero (S := S3200x1024) zeros2]

end Cert.GlaInBwdIdeal.Step

end
-- ==== Proof.GlaInBlock.lean ====
/-
  One grid point of the second layer's input product backward, read at an index over exact arithmetic.  The product with the weight is taken in two
  pieces, the last one over columns past the weight's end, which meet zeros.
-/
module

public import proofs.«01_k».proof.Proof.GlaInPoint
public import proofs.«01_k».proof.Proof.InBlock
public import Idealize.ShloMosaic.Lib.Pointwise
public import Idealize.ShloMosaic.Lib.Pipeline.ValueKit

@[expose] public section

set_option maxRecDepth 16384

noncomputable section

namespace Cert.GlaInBwdIdeal.Step

open Idealize.ShloMosaic Idealize.ShloMosaic.TcCoe Idealize.ShloMosaic.Tactic
open Cert.GlaInBwdIdeal.Gen
open Cert.PoolInBwdIdeal.Step (fac rowGrad)
open scoped BigOperators

variable (x0 : Vec Ideal S512x3200 .bf16) (x1 : Vec Ideal S512x1024 .f32) (x2 : Vec Ideal S1x1024 .f32) (x3 : Vec Ideal S3088x1024 .bf16)
  (x4 : Vec Ideal S512x1024 .f32)

/-- A column of the weight, among the padded ones. -/
abbrev col (k : Fin 3088) : Fin 3200 := ⟨k.val, by omega⟩

/-- The cotangent of the normalized and weighted rows. -/
def cotB (r : Fin 512) (l : Fin 1024) : EReal := ∑ k : Fin 3088, x0 (ix2 r (col k)) * x3 (ix2 k l)

theorem top_at (k : Fin 3072) (l : Fin 1024) : top x3 (ix2 k l) = x3 (ix2 ⟨k.val, by omega⟩ l) := by
  refine View.ld_unit_apply_of _ _ _ _ _ _ fun a => ?_
  match a with
  | ⟨0, _⟩ => exact (Nat.zero_add _).symm
  | ⟨1, _⟩ => exact (Nat.zero_add _).symm
theorem low_at (k : Fin 16) (l : Fin 1024) : low x3 (ix2 k l) = x3 (ix2 ⟨3072 + k.val, by omega⟩ l) := by
  refine View.ld_unit_apply_of _ _ _ _ _ _ fun a => ?_
  match a with
  | ⟨0, _⟩ => rfl
  | ⟨1, _⟩ => exact (Nat.zero_add _).symm

/-- The two pieces, as read: the second piece's rows past the sixteenth are zero. -/
theorem pieces_at (v6 : Vec Ideal S3072x1024 .bf16) (v10 : Vec Ideal S16x1024 .bf16) (r : Fin 512) (l : Fin 1024) : k0_pay43 x0 v6 v10 (ix2 r l)
    = (∑ k : Fin 3072, x0 (ix2 r ⟨k.val, by omega⟩) * v6 (ix2 k l))
      + ∑ k : Fin 128, x0 (ix2 r ⟨3072 + k.val, by omega⟩) * (if h : k.val < 16 then v10 (ix2 ⟨k.val, h⟩ l) else 0) := by
  pointwise [k0_pay43, k0_pay42]

theorem pay43_apply (r : Fin 512) (l : Fin 1024) : k0_pay43 x0 (top x3) (low x3) (ix2 r l) = cotB x0 x3 r l := by
  rw [pieces_at]
  unfold cotB
  rw [Fin.sum_univ_add (a := 16) (b := 112), Fin.sum_univ_add (a := 3072) (b := 16)]
  refine congrArg₂ (· + ·) (Finset.sum_congr rfl fun k _ => congrArg (_ * ·) (top_at x3 k l)) ?_
  rw [Finset.sum_eq_zero (s := Finset.univ) (f := fun k : Fin 112 => _) fun k _ => ?_, add_zero]
  · exact Finset.sum_congr rfl fun k _ => congrArg (_ * ·) ((dif_pos k.isLt).trans (low_at x3 k l))
  · rw [dif_neg (by simp), mul_zero]

theorem pay45_apply (r : Fin 512) : k0_pay45 x1 (ix2 r 0) = fac fun k => x1 (ix2 r k) := by
  pointwise [k0_pay45, k0_pay44, fac]

theorem pay46_apply (r : Fin 512) (l : Fin 1024) : k0_pay46 x1 (ix2 r l) = x1 (ix2 r l) * fac fun k => x1 (ix2 r k) := by
  pointwise [k0_pay46, k0_pay44, pay45_apply]

theorem dx_apply (r : Fin 512) (l : Fin 1024) :
    dxOf x0 x1 x2 x3 x4 (ix2 r l) = rowGrad (fun k => x1 (ix2 r k)) (fun k => x2 (ix2 0 k)) (cotB x0 x3 r) l + x4 (ix2 r l) := by
  pointwise [dxOf, k0_pay3, k0_pay47, pay43_apply, pay45_apply, pay46_apply, rowGrad]

theorem dn_apply (z : Vec Ideal S1x1024 .f32) (l : Fin 1024) :
    dnOf x0 x1 x3 z (ix2 0 l) = z (ix2 0 l) + ∑ r : Fin 512, cotB x0 x3 r l * (x1 (ix2 r l) * fac fun k => x1 (ix2 r k)) := by
  pointwise [dnOf, k0_pay2, pay43_apply, pay46_apply]

theorem acc_apply (s : Vec Ideal S3200x1024 .f32) (j : Fin 3200) (l : Fin 1024) :
    accOf x0 x1 x2 s (ix2 j l) = s (ix2 j l) + ∑ r : Fin 512, x0 (ix2 r j) * ((x1 (ix2 r l) * fac fun k => x1 (ix2 r k)) * x2 (ix2 0 l)) := by
  pointwise [accOf, k0_pay1, k0_pay48, k0_pay42, k0_pay47, pay46_apply]

theorem zero_dn (l : Fin 1024) : k0_pay41 (F := Ideal) (ix2 0 l) = 0 := by pointwise [k0_pay41]
theorem zero_acc (j : Fin 3200) (l : Fin 1024) : k0_pay40 (F := Ideal) (ix2 j l) = 0 := by pointwise [k0_pay40]

end Cert.GlaInBwdIdeal.Step

end
-- ==== Proof.GlaInRelaid.lean ====
/-
  Relaying of the input map's gradient in the second layer's input product backward: the accumulated gradient of the input map, rounded, relaid by rows of 128 lanes and copied out in four pieces.
-/
module

public import proofs.«01_k».proof.Proof.GlaInPoint
public import Idealize.ShloMosaic.Lib.Pipeline.ValueKit.Tiles
public import Idealize.ShloMosaic.Lib.Pipeline.CanonAppend
public import Idealize.ShloMosaic.Lib.Pointwise

@[expose] public section

set_option maxRecDepth 16384

noncomputable section

namespace Cert.GlaInBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.GlaInBwdIdeal.Gen

variable {F : FTy → Type} [FloatOps F]

local notation "𝕄" => MT nD τ sig Unit (Elt F) ℕ (Pipeline.UD sig nD τ) ℕ

/-- Where a line of the relaid array comes from: its row, and its lane among the row's tiles of lanes. -/
def origin (y : S24704x128.Idx) : S3200x1024.Idx :=
  ix2 ⟨(y 0).val / 8, by have h : (y 0).val < 24704 := (y 0).isLt; omega⟩ ⟨128 * ((y 0).val % 8) + (y 1).val, by have h : (y 1).val < 128 := (y 1).isLt; omega⟩

/-- An accumulator relaid by rows of 128 lanes, and rounded. -/
def relaid (a : Vec F S3200x1024 .f32) : Vec F S24704x128 .bf16 := fun y => truncf .bf16 a bitsLt_bf16_f32 (origin y)

/-- The lanes of tile `j` of `n` of its rows. -/
def cut (a : Vec F S3200x1024 .f32) (lo n : ℕ) (h : lo + n ≤ 3200) (j : Fin 8) : Vec F ⟨2, ![n, 128]⟩ .f32 := fun x =>
  a (ix2 ⟨lo + (x 0).val, by have h' : (x 0).val < n := (x 0).isLt; omega⟩ ⟨128 * j.val + (x 1).val, by have h' : (x 1).val < 128 := (x 1).isLt; omega⟩)

/-- Rows of it in some of its lanes. -/
def box (a : Vec F S3200x1024 .f32) (o s : Fin 2 → ℕ) (h : ∀ b, o b + s b ≤ S3200x1024.size b) : Vec F ⟨2, s⟩ .f32 := fun x => a ((Rect.unit (s := S3200x1024) o s h).emb x)

/-- The lines of a piece of its rows, the eight tiles of a row one under another. -/
def lines (a : Vec F S3200x1024 .f32) (lo : ℕ) (h : lo + 776 ≤ 3200) : Vec F S6208x128 .f32 := fun y =>
  a (ix2 ⟨lo + (y 0).val / 8, by have h' : (y 0).val < 6208 := (y 0).isLt; omega⟩ ⟨128 * ((y 0).val % 8) + (y 1).val, by have h' : (y 1).val < 128 := (y 1).isLt; omega⟩)

/-- Every eighth line from line `j` on. -/
abbrev strip (n : ℕ) (hn : n ≤ 776) (j : Fin 8) : Rect S6208x128 where
  off := ![j.val, 0]
  size := ![n, 128]
  stride := ![8, 1]
  inb := by
    intro a; fin_cases a
    · show n = 0 ∨ j.val + 8 * (n - 1) < 6208; omega
    · exact Or.inr (show 0 + 1 * (128 - 1) < 128 by omega)
  stride_pos := spos_8_1

/-- The rows of tile `j` stored with stride eight are lines of the piece. -/
theorem strip_eq (a : Vec F S3200x1024 .f32) (lo n : ℕ) (hn : n ≤ 776) (h : lo + 776 ≤ 3200) (j : Fin 8) (x : (strip n hn j).shape.Idx) :
    cut a lo n (by omega) j x = lines a lo h ((strip n hn j).emb x) := by
  have e0 : (((strip n hn j).emb x) 0).val = j.val + 8 * (x 0).val := rfl
  have e1 : (((strip n hn j).emb x) 1).val = (x 1).val := (show _ = 0 + 1 * (x 1).val from rfl).trans (by omega)
  refine congrArg a (congrArg₂ ix2 (Fin.ext ?_) (Fin.ext ?_))
  · show lo + (x 0).val = lo + (((strip n hn j).emb x) 0).val / 8; rw [e0]; omega
  · show 128 * j.val + (x 1).val = 128 * ((((strip n hn j).emb x) 0).val % 8) + (((strip n hn j).emb x) 1).val; rw [e0, e1]; omega

/-- The strips' stores, newest first. -/
abbrev strips (a : Vec F S3200x1024 .f32) (lo n : ℕ) (hn : n ≤ 776) (h : lo + 776 ≤ 3200) : List (View.Piece (Elt F) S6208x128 .f32) :=
  [⟨strip n hn 7, cut a lo n (by omega) 7⟩, ⟨strip n hn 6, cut a lo n (by omega) 6⟩, ⟨strip n hn 5, cut a lo n (by omega) 5⟩, ⟨strip n hn 4, cut a lo n (by omega) 4⟩,
   ⟨strip n hn 3, cut a lo n (by omega) 3⟩, ⟨strip n hn 2, cut a lo n (by omega) 2⟩, ⟨strip n hn 1, cut a lo n (by omega) 1⟩, ⟨strip n hn 0, cut a lo n (by omega) 0⟩]

/-- After them the lines of those rows are the piece's, over whatever was stored before. -/
theorem strips_read (v : View sig .tc .vmem S6208x128 .f32) (f : v.ty.Contents (Elt F)) (a : Vec F S3200x1024 .f32) (lo n : ℕ) (hn : n ≤ 776) (h : lo + 776 ≤ 3200) (rest : List (View.Piece (Elt F) S6208x128 .f32))
    (y : S6208x128.Idx) (hy : (y 0).val < 8 * n) : v.read (Elt F) (v.writes (Elt F) f (strips a lo n hn h ++ rest)) y = lines a lo h y := by
  have hc : ∃ p ∈ strips a lo n hn h, y ∈ p.1.set := by
    have hm : ∀ j : Fin 8, (y 0).val % 8 = j.val → y ∈ (strip n hn j).set := fun j hj => (strip n hn j).mem_set.mpr fun b => by
      fin_cases b
      · exact ⟨(y 0).val / 8, show (y 0).val / 8 < n by omega, show (y 0).val = j.val + 8 * ((y 0).val / 8) by omega⟩
      · exact ⟨(y 1).val, (y 1).isLt, show (y 1).val = 0 + 1 * (y 1).val by omega⟩
    have hp : ∀ j : Fin 8, (⟨strip n hn j, cut a lo n (by omega) j⟩ : View.Piece (Elt F) S6208x128 .f32) ∈ strips a lo n hn h := fun j => by
      fin_cases j <;> simp [strips]
    exact ⟨_, hp ⟨(y 0).val % 8, by omega⟩, hm _ rfl⟩
  refine (View.read_writes_apply_eq_canon v f y _ ?_).trans (View.canon_append_of_pieces (lines a lo h) rest (strips a lo n hn h) ?_ y hc)
  · obtain ⟨p, hp, hy⟩ := hc; exact ⟨p, List.mem_append_left _ hp, hy⟩
  · simp only [strips, List.forall_mem_cons, List.not_mem_nil, false_imp_iff, implies_true, and_true]
    exact ⟨strip_eq a lo n hn h 7, strip_eq a lo n hn h 6, strip_eq a lo n hn h 5, strip_eq a lo n hn h 4, strip_eq a lo n hn h 3, strip_eq a lo n hn h 2,
      strip_eq a lo n hn h 1, strip_eq a lo n hn h 0⟩

/-- What a load reads of one store over the whole accumulator. -/
theorem box_of (v : View sig .tc .vmem S3200x1024 .f32) (a : Vec F S3200x1024 .f32) (o s : Fin 2 → ℕ) (h : ∀ b, o b + s b ≤ S3200x1024.size b) :
    v.readCov [(⟨Rect.unit ![0, 0] S3200x1024.size inb_S3200x1024_S3200x1024_0_0, a⟩ : View.Piece (Elt F) S3200x1024 .f32)] (Rect.unit (s := S3200x1024) o s h).toLoadRect
      = box a o s h := by
  rw [View.readCov_eq_canon', View.canon_cons_unit_zero (S := S3200x1024) zeros2]; rfl

/-- The lanes of a tile as such a load. -/
theorem box_eq (a : Vec F S3200x1024 .f32) (lo n l : ℕ) (h : lo + n ≤ 3200) (j : Fin 8) (hl : l = 128 * j.val) (hb : ∀ b, (![lo, l] : Fin 2 → ℕ) b + (![n, 128] : Fin 2 → ℕ) b ≤ S3200x1024.size b) :
    box a ![lo, l] ![n, 128] hb = cut a lo n h j := by
  subst hl
  funext x
  refine congrArg a (funext fun b => Fin.ext ?_)
  fin_cases b
  · show lo + 1 * (x 0).val = lo + (x 0).val; omega
  · show 128 * j.val + 1 * (x 1).val = 128 * j.val + (x 1).val; omega

/-- What a copy reads of the rows just stored: the store. -/
theorem staged (v : View sig .tc .vmem S24704x128 .bf16) (f) (R : Rect S24704x128) (w : R.shape.Idx → Elt F .bf16) (L : List (View.Piece (Elt F) S24704x128 .bf16)) :
    (v.slice R).read (Elt F) (v.writes (Elt F) f (⟨R, w⟩ :: L)) = w := by
  funext x
  exact View.read_slice_write_emb (v := v) R (v.writes (Elt F) f L) w (Finset.mem_univ x)

/-- One piece: the strips read back and rounded are its lines of the relaid array. -/
theorem piece_eq (v : View sig .tc .vmem S6208x128 .f32) (f : v.ty.Contents (Elt F)) (a : Vec F S3200x1024 .f32) (lo n N o : ℕ) (hn : n ≤ 776) (h : lo + 776 ≤ 3200) (hN : N = 8 * n) (ho : o = 8 * lo)
    {rest : List (View.Piece (Elt F) S6208x128 .f32)} {hb : ∀ b, (![0, 0] : Fin 2 → ℕ) b + (![N, 128] : Fin 2 → ℕ) b ≤ S6208x128.size b}
    {hb' : ∀ b, (![o, 0] : Fin 2 → ℕ) b + (![N, 128] : Fin 2 → ℕ) b ≤ S24704x128.size b} {w0 w1 w2 w3 w4 w5 w6 w7 : Vec F ⟨2, ![n, 128]⟩ .f32}
    (h0 : w0 = cut a lo n (by omega) 0) (h1 : w1 = cut a lo n (by omega) 1) (h2 : w2 = cut a lo n (by omega) 2) (h3 : w3 = cut a lo n (by omega) 3) (h4 : w4 = cut a lo n (by omega) 4) (h5 : w5 = cut a lo n (by omega) 5) (h6 : w6 = cut a lo n (by omega) 6) (h7 : w7 = cut a lo n (by omega) 7) :
    truncf .bf16 (View.ld (v.read (Elt F) (v.writes (Elt F) f (⟨strip n hn 7, w7⟩ :: ⟨strip n hn 6, w6⟩ :: ⟨strip n hn 5, w5⟩ :: ⟨strip n hn 4, w4⟩ :: ⟨strip n hn 3, w3⟩ :: ⟨strip n hn 2, w2⟩ :: ⟨strip n hn 1, w1⟩ :: ⟨strip n hn 0, w0⟩ :: rest))) (Rect.unit (s := S6208x128) ![0, 0] ![N, 128] hb) : Vec F ⟨2, ![N, 128]⟩ .f32) bitsLt_bf16_f32
      = fun x => relaid a ((Rect.unit (s := S24704x128) ![o, 0] ![N, 128] hb').emb x) := by
  subst hN ho h0 h1 h2 h3 h4 h5 h6 h7
  funext x
  have hx : (x 0).val < 8 * n := (x 0).isLt
  refine congrArg (FloatOps.truncf .bf16 bitsLt_bf16_f32) ((strips_read v f a lo n hn h rest ((Rect.unit (s := S6208x128) ![0, 0] ![8 * n, 128] hb).emb x) (show 0 + 1 * (x 0).val < 8 * n by omega)).trans ?_)
  refine congrArg a (congrArg₂ ix2 (Fin.ext ?_) (Fin.ext ?_))
  · show lo + (0 + 1 * (x 0).val) / 8 = (8 * lo + 1 * (x 0).val) / 8; omega
  · show 128 * ((0 + 1 * (x 0).val) % 8) + (0 + 1 * (x 1).val) = 128 * ((8 * lo + 1 * (x 0).val) % 8) + (0 + 1 * (x 1).val); omega

/-- The output holds, piece by piece, the relaid accumulator. -/
theorem out_eq (fw : outM.view.ty.Contents (Elt F)) (L : List (View.Piece (Elt F) S24704x128 .bf16)) (a : Vec F S24704x128 .bf16)
    (hc : ∀ y, ∃ p ∈ L, y ∈ p.1.set) (h : ∀ p ∈ L, p.2 = fun x => a (p.1.emb x)) : outM.view.writes (Elt F) fw L = a := by
  have hr := View.read_writes_eq_canon outM.view fw L hc
  refine Eq.trans (hr : _) (funext fun y => View.canon_eq_of_allAt L y _ (hc y) fun p hp x hx => ?_)
  rw [h p hp]
  exact congrArg a hx

end Cert.GlaInBwdIdeal.Step

end
-- ==== Proof.GlaInLast.lean ====
/-
  The last grid point of the second layer's input product backward: the accumulated gradient of the input map, rounded, relaid by rows of 128 lanes and copied out in four pieces.
-/
module

public import proofs.«01_k».proof.Proof.GlaInRelaid

@[expose] public section

set_option maxRecDepth 16384

noncomputable section

namespace Cert.GlaInBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.GlaInBwdIdeal.Gen

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body at the last point, the accumulator relaid, rounded and copied out by pieces. -/
theorem last_run (c : Dev nD) (i : grid0.Coords) (arg1 : Memref sig .tc .vmem S512x3200 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S3088x1024 .bf16) (harg4 : arg4.IsWhole) (arg5 : Memref sig .tc .vmem S512x1024 .f32) (harg5 : arg5.IsWhole) (arg6 : Memref sig .tc .vmem S512x1024 .f32) (harg6 : arg6.IsWhole) (arg8 : Memref sig .tc .vmem S1x1024 .f32) (harg8 : arg8.IsWhole) (arg9 : Memref sig .tc .vmem S3200x1024 .f32) (harg9 : arg9.IsWhole) (arg10 : Memref sig .tc .vmem S24704x128 .bf16) (harg10 : arg10.IsWhole) (arg11 : Memref sig .tc .vmem S6208x128 .f32) (harg11 : arg11.IsWhole) (hc0 : ¬first i) (hc1 : last i) (hd01 : Disjoint (((Memref.whole main_v6_1).slice (Rect.unit (s := S24704x128) ![6208, 0] S6208x128.size inb_S24704x128_S6208x128_6208_0) (fun _ => rfl))).view.set (((Memref.whole main_v6_1).slice (Rect.unit (s := S24704x128) ![0, 0] S6208x128.size inb_S24704x128_S6208x128_0_0) (fun _ => rfl))).view.set) (hd02 : Disjoint (((Memref.whole main_v6_1).slice (Rect.unit (s := S24704x128) ![12416, 0] S6208x128.size inb_S24704x128_S6208x128_12416_0) (fun _ => rfl))).view.set (((Memref.whole main_v6_1).slice (Rect.unit (s := S24704x128) ![0, 0] S6208x128.size inb_S24704x128_S6208x128_0_0) (fun _ => rfl))).view.set) (hd12 : Disjoint (((Memref.whole main_v6_1).slice (Rect.unit (s := S24704x128) ![12416, 0] S6208x128.size inb_S24704x128_S6208x128_12416_0) (fun _ => rfl))).view.set (((Memref.whole main_v6_1).slice (Rect.unit (s := S24704x128) ![6208, 0] S6208x128.size inb_S24704x128_S6208x128_6208_0) (fun _ => rfl))).view.set) (hd03 : Disjoint (((Memref.whole main_v6_1).slice (Rect.unit (s := S24704x128) ![18624, 0] S6080x128.size inb_S24704x128_S6080x128_18624_0) (fun _ => rfl))).view.set (((Memref.whole main_v6_1).slice (Rect.unit (s := S24704x128) ![0, 0] S6208x128.size inb_S24704x128_S6208x128_0_0) (fun _ => rfl))).view.set) (hd13 : Disjoint (((Memref.whole main_v6_1).slice (Rect.unit (s := S24704x128) ![18624, 0] S6080x128.size inb_S24704x128_S6080x128_18624_0) (fun _ => rfl))).view.set (((Memref.whole main_v6_1).slice (Rect.unit (s := S24704x128) ![6208, 0] S6208x128.size inb_S24704x128_S6208x128_6208_0) (fun _ => rfl))).view.set) (hd23 : Disjoint (((Memref.whole main_v6_1).slice (Rect.unit (s := S24704x128) ![18624, 0] S6080x128.size inb_S24704x128_S6080x128_18624_0) (fun _ => rfl))).view.set (((Memref.whole main_v6_1).slice (Rect.unit (s := S24704x128) ![12416, 0] S6208x128.size inb_S24704x128_S6208x128_12416_0) (fun _ => rfl))).view.set)
    (x0 : Vec F S512x3200 .bf16) (x1 : Vec F S512x1024 .f32) (x2 : Vec F S1x1024 .f32) (x3 : Vec F S3088x1024 .bf16) (x4 : Vec F S512x1024 .f32) (z : Vec F S1x1024 .f32) (s : Vec F S3200x1024 .f32) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg8 fullShare z ∗ owns (c : Thread nD τ) arg9 fullShare s
        ∗ (∃ d, owns (c : Thread nD τ) arg10 fullShare d) ∗ (∃ d, owns (c : Thread nD τ) arg11 fullShare d) ∗ sems c ∗ (∃ f, held c outM f) ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (dxOf x0 x1 x2 x3 x4)
          ∗ owns (c : Thread nD τ) arg8 fullShare (dnOf x0 x1 x3 z) ∗ owns (c : Thread nD τ) arg9 fullShare (accOf x0 x1 x2 s)
          ∗ (∃ d, owns (c : Thread nD τ) arg10 fullShare d) ∗ (∃ d, owns (c : Thread nD τ) arg11 fullShare d) ∗ sems c ∗ held c outM (relaid (accOf x0 x1 x2 s)) ∗ (∃ W', owes (c : Thread nD τ) 0 W')) -∗ K ⟨⟩))
      ⊢ wp frame (wpE (defs₀ (F := F)) Variants.none c none) Set.univ (cc0_gla_in_bwd i arg1 harg1 arg2 harg2 arg3 harg3 arg4 harg4 arg5 harg5 arg6 harg6 (Memref.whole main_v6_1) (Memref.isWhole_whole _) arg8 harg8 arg9 harg9 arg10 harg10 arg11 harg11 cc0_scratch3) K := by
  simp only [cc0_gla_in_bwd_eq_skeleton]; unfold cc0_gla_in_bwd_skel
  simp only [k0_part7_eq_skeleton, k0_part6_eq_skeleton, k0_part5_eq_skeleton, k0_part4_eq_skeleton, k0_part3_eq_skeleton, k0_part2_eq_skeleton, k0_part1_eq_skeleton]
  unfold owns sems
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%ds1, %fs1, -, HS1⟩, ⟨%ds2, %fs2, -, HS2⟩, ⟨Hq0, Hq1, Hq2, Hq3⟩, ⟨%fw0, Hh0⟩, HW, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hf6; obtain rfl := harg9.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; sl_unfold_words
    refine read_eq (F := F) (S := S512x1024) _ _ _ S512x1024.size (View.cover_of_tiledL (s := S512x1024) _ S512x1024.size (by sl_kernel_rfl)) _ ?_
    simp only [View.readAt_eq_ld, harg1.read_unread, harg2.read_unread, harg3.read_unread, harg4.read_unread, harg5.read_unread, harg8.read_unread, harg9.read_unread, View.ld_unit_zero (S := S512x3200) zeros2, View.ld_unit_zero (S := S512x1024) zeros2, View.ld_unit_zero (S := S1x1024) zeros2, View.ld_unit_zero (S := S3200x1024) zeros2, View.readCov_unit_zero (S := S1x1024) _ zeros2, View.readCov_unit_zero (S := S3200x1024) _ zeros2]
    rw [View.canon_cons_unit_zero (S := S512x1024) zeros2]
  isplitl [H6]
  · iexists _; isplitr; swap; · iexact H6
    ipureintro; sl_unfold_words
    refine read_eq (F := F) (S := S1x1024) _ _ _ S1x1024.size (View.cover_of_tiledL (s := S1x1024) _ S1x1024.size (by sl_kernel_rfl)) _ ?_
    simp only [View.readAt_eq_ld, harg1.read_unread, harg2.read_unread, harg3.read_unread, harg4.read_unread, harg5.read_unread, harg8.read_unread, harg9.read_unread, View.ld_unit_zero (S := S512x3200) zeros2, View.ld_unit_zero (S := S512x1024) zeros2, View.ld_unit_zero (S := S1x1024) zeros2, View.ld_unit_zero (S := S3200x1024) zeros2, View.readCov_unit_zero (S := S1x1024) _ zeros2, View.readCov_unit_zero (S := S3200x1024) _ zeros2]
    rw [View.canon_cons_unit_zero (S := S1x1024) zeros2]
  isplitl [HS0]
  · iexists _; isplitr; swap; · iexact HS0
    ipureintro; sl_unfold_words
    refine read_eq (F := F) (S := S3200x1024) _ _ _ S3200x1024.size (View.cover_of_tiledL (s := S3200x1024) _ S3200x1024.size (by sl_kernel_rfl)) _ ?_
    simp only [View.readAt_eq_ld, harg1.read_unread, harg2.read_unread, harg3.read_unread, harg4.read_unread, harg5.read_unread, harg8.read_unread, harg9.read_unread, View.ld_unit_zero (S := S512x3200) zeros2, View.ld_unit_zero (S := S512x1024) zeros2, View.ld_unit_zero (S := S1x1024) zeros2, View.ld_unit_zero (S := S3200x1024) zeros2, View.readCov_unit_zero (S := S1x1024) _ zeros2, View.readCov_unit_zero (S := S3200x1024) _ zeros2]
    rw [View.canon_cons_unit_zero (S := S3200x1024) zeros2]
  isplitl [HS1]
  · iexists _, _; isplitr; swap; · iexact HS1
    ipureintro; rfl
  isplitl [HS2]
  · iexists _, _; isplitr; swap; · iexact HS2
    ipureintro; rfl
  isplitl [Hq0 Hq1 Hq2 Hq3]
  · isplitl [Hq0]; · iexact Hq0
    isplitl [Hq1]; · iexact Hq1
    isplitl [Hq2]; · iexact Hq2
    iexact Hq3
  isplitl [Hh0]
  · rw [out_eq _ _ (relaid (accOf x0 x1 x2 s)) (View.cover_of_tiledBy _ ![64, 128] (by sl_kernel_rfl)) ?hp]
    · iexact Hh0
    case hp =>
      sl_unfold_words
      simp only [List.forall_mem_cons, List.not_mem_nil, false_imp_iff, implies_true, and_true, box_of, View.readAt_eq_ld, harg1.read_unread, harg2.read_unread, harg3.read_unread, harg4.read_unread, harg5.read_unread, harg8.read_unread, harg9.read_unread, View.ld_unit_zero (S := S512x3200) zeros2, View.ld_unit_zero (S := S512x1024) zeros2, View.ld_unit_zero (S := S1x1024) zeros2, View.ld_unit_zero (S := S3200x1024) zeros2, View.readCov_unit_zero (S := S1x1024) _ zeros2, View.readCov_unit_zero (S := S3200x1024) _ zeros2]
      simp only [accOf]
      generalize k0_pay1 (k0_pay48 x0 x1 x2 s) = A
      refine ⟨?_, ?_, ?_, ?_⟩ <;> refine (staged arg10.view _ _ _ _).trans ((shapeCast_self _ _).trans ?_)
      · refine piece_eq arg11.view fs2 A 2328 760 6080 18624 (by decide) (by decide) rfl rfl ?_ ?_ ?_ ?_ ?_ ?_ ?_ ?_ <;>
          exact (shapeCast_self _ _).trans ((box_of arg9.view A _ _ _).trans (box_eq A 2328 760 _ (by decide) _ (by rfl) _))
      · refine piece_eq arg11.view fs2 A 1552 776 6208 12416 (by decide) (by decide) rfl rfl ?_ ?_ ?_ ?_ ?_ ?_ ?_ ?_ <;>
          exact (shapeCast_self _ _).trans ((box_of arg9.view A _ _ _).trans (box_eq A 1552 776 _ (by decide) _ (by rfl) _))
      · refine piece_eq arg11.view fs2 A 776 776 6208 6208 (by decide) (by decide) rfl rfl ?_ ?_ ?_ ?_ ?_ ?_ ?_ ?_ <;>
          exact (shapeCast_self _ _).trans ((box_of arg9.view A _ _ _).trans (box_eq A 776 776 _ (by decide) _ (by rfl) _))
      · refine piece_eq arg11.view fs2 A 0 776 6208 0 (by decide) (by decide) rfl rfl ?_ ?_ ?_ ?_ ?_ ?_ ?_ ?_ <;>
          exact (shapeCast_self _ _).trans ((box_of arg9.view A _ _ _).trans (box_eq A 0 776 _ (by decide) _ (by rfl) _))
  iexists _; iexact HW

end Cert.GlaInBwdIdeal.Step

end
-- ==== Proof.GlaInNamed.lean ====
/-
  The launch of the second layer's input product backward: what is carried from point to point, the body at every point, and the run with all
  three results named.
-/
module

public import proofs.«01_k».proof.Proof.GlaInLast
public import proofs.«01_k».proof.Proof.Gen.GlaInBwdIdeal.Launch
public import proofs.«01_k».proof.Proof.Gen.GlaInBwdIdeal.Points
public import proofs.«01_k».proof.Proof.Gen.GlaInBwdIdeal.Frame

@[expose] public section

set_option maxRecDepth 16384

noncomputable section

namespace Cert.GlaInBwdIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.GlaInBwdIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The set-up of the launch -/

/-- The host lines, then the call. -/
theorem enters (𝒱 : Variants) : Pipeline.HMain (Ix := Unit) (Name := ℕ) (U := Pipeline.UD sig nD τ) (Lvl := ℕ) cfgs 0 defs₀ 𝒱 m (main (F := F)) (V m) :=
  Pipeline.hmain_prefixes cfgs 0 defs₀ 𝒱 m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The call's own semaphores: one for each piece copied out. -/
abbrev ownSem : Fin 4 → SemLoc sig := fun j => (![SemLoc.dma 11, SemLoc.dma 12, SemLoc.dma 13, SemLoc.dma 14] : Fin 4 → SemLoc sig) j
theorem ownSem_facts : Pipeline.OwnSemFacts spec0 ownSem := by decide
theorem ownSems_eq (c : Dev nD) :
    (Pipeline.ownSems0 (Ix := Unit) (Name := ℕ) (U := Pipeline.UD sig nD τ) (Lvl := ℕ) (Val := Elt F) (τ := τ) ownSem c : sProp 𝕄) = sems c := by
  rw [Pipeline.ownSems0_eq_of_list c ownSem [0, 1, 2, 3] (by decide) (by decide)]; rfl

/-- The arrays in HBM the body only reads: none. -/
def readArrays : Finset (Ref sig .tc) := {}
/-- The array in HBM the body writes. -/
def wroteArrays : Finset (Ref sig .tc) := {main_v6_1}
theorem readArrays_sub : readArrays ⊆ Pipeline.restRefs sig spec0 := by decide
theorem wroteArrays_sub : wroteArrays ⊆ Pipeline.restRefs sig spec0 \ readArrays := by decide
theorem readArrays_eq (c : Dev nD) :
    (bigSep readArrays (fun b => ((c : Thread nD τ).loc b) ↦{fullShare} V m c b) : sProp 𝕄) = iprop(emp) := by
  rw [BI.bigSep_eq_bigSepL_of_eq [] (by decide) (by decide)]; rfl
theorem routed_eq (c : Dev nD) (G : (b : Ref sig .tc) → Buf (Elt F) ((c : Thread nD τ).loc b)) :
    (Pipeline.routed wroteArrays c G : sProp 𝕄) = held c outM (G main_v6_1) := by
  unfold Pipeline.routed; rw [BI.bigSep_eq_bigSepL_of_eq [main_v6_1] (by decide) (by decide)]; rfl

/-! ## What is carried from point to point -/

/-- What a point leaves in the two accumulators, over what the point before left. -/
abbrev over (c : Dev nD) (t : Fin cfg0.N) (p : Vec F S1x1024 .f32 × Vec F S3200x1024 .f32) : Vec F S1x1024 .f32 × Vec F S3200x1024 .f32 :=
  (dnOf (iblk m c 0 t) (iblk m c 1 t) (iblk m c 3 t) p.1, accOf (iblk m c 0 t) (iblk m c 1 t) (iblk m c 2 t) p.2)

/-- The two accumulators after each point. -/
def left (c : Dev nD) : (n : ℕ) → n < cfg0.N → Vec F S1x1024 .f32 × Vec F S3200x1024 .f32
  | 0, h => over m c ⟨0, h⟩ (k0_pay41, k0_pay40)
  | n + 1, h => over m c ⟨n + 1, h⟩ (left c n (Nat.lt_of_succ_lt h))

theorem left_first (c : Dev nD) (t : Fin cfg0.N) (h : t.val = 0) : left m c t.val t.isLt = over m c t (k0_pay41, k0_pay40) := by
  obtain ⟨n, hn⟩ := t; subst h; rfl

theorem left_next (c : Dev nD) (t : Fin cfg0.N) (h : t.val ≠ 0) :
    left m c t.val t.isLt = over m c t (left m c (t.val - 1) (Nat.lt_of_le_of_lt (Nat.sub_le _ _) t.isLt)) := by
  obtain ⟨n, hn⟩ := t
  cases n with
  | zero => exact absurd rfl h
  | succ n => rfl

/-- One point's step, from what it starts with. -/
theorem left_step (c : Dev nD) (t : Fin cfg0.N) (z : Vec F S1x1024 .f32) (s : Vec F S3200x1024 .f32)
    (h : ∀ hz : t.val ≠ 0, (z, s) = left m c (t.val - 1) (Nat.lt_of_le_of_lt (Nat.sub_le _ _) t.isLt)) :
    left m c t.val t.isLt = over m c t (zStart (grid0.coords t) z, aStart (grid0.coords t) s) := by
  by_cases hz : t.val = 0
  · rw [left_first m c t hz, zStart, aStart, if_pos ((first_iff t).mpr hz), if_pos ((first_iff t).mpr hz)]
  · rw [left_next m c t hz, zStart, aStart, if_neg (fun h => hz ((first_iff t).mp h)), if_neg (fun h => hz ((first_iff t).mp h)), ← h hz]

/-- The accumulator of the input map's gradient between points: anything before the first, what the point before left otherwise. -/
def accAt (c : Dev nD) : (n : ℕ) → n ≤ cfg0.N → sProp 𝕄
  | 0, _ => iprop(∃ d, owns (c : Thread nD τ) accM fullShare d)
  | n + 1, h => owns (c : Thread nD τ) accM fullShare (left m c n h).2

theorem accAt_open (c : Dev nD) (n : ℕ) (h : n ≤ cfg0.N) (hn : n < cfg0.N) :
    accAt m c n h ⊢ iprop(∃ s, ⌜∀ hz : n ≠ 0, s = (left m c (n - 1) (Nat.lt_of_le_of_lt (Nat.sub_le _ _) hn)).2⌝ ∗ owns (c : Thread nD τ) accM fullShare s) := by
  cases n with
  | zero =>
    unfold accAt; iintro ⟨%d, H⟩; iexists d; isplitr; · ipureintro; exact fun hz => absurd rfl hz
    iexact H
  | succ n =>
    unfold accAt; iintro H; iexists _; isplitr; · ipureintro; exact fun _ => rfl
    iexact H

theorem lt_N : 7 < cfg0.N := lt_of_lt_of_eq (by omega : 7 < 8) (show cfg0.N = 8 from N_0).symm

/-- The array written by the copies: anything before the last point, the relaid accumulator after it. -/
def outAt (c : Dev nD) (n : ℕ) (h : n ≤ cfg0.N) : sProp 𝕄 :=
  if n = 8 then held c outM (relaid (left m c 7 lt_N).2) else iprop(∃ f, held c outM f)

/-- What is held between points beside the windows. -/
def Phi (c : Dev nD) (n : ℕ) (h : n ≤ cfg0.N) : sProp 𝕄 :=
  iprop(iprop(accAt m c n h ∗ (∃ d, owns (c : Thread nD τ) stageM fullShare d) ∗ (∃ d, owns (c : Thread nD τ) linesM fullShare d)) ∗ (∃ r, prngReg c r) ∗ sems c ∗ iprop(emp) ∗ outAt m c n h)

/-- The data of the pipeline: what the windows and what is between points hold. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxOf (iblk m c 0 t) (iblk m c 1 t) (iblk m c 2 t) (iblk m c 3 t) (iblk m c 4 t)
    | ⟨6, _⟩ => (left m c t.val t.isLt).1
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]

/-- The body leaves an input's block in place. -/
theorem after_0 (c : Dev nD) (t : Fin cfg0.N) : (dats m 0 c).after 0 t = iblk m c 0 t := by dsimp only [dats]
@[inherit_doc after_0] theorem after_1 (c : Dev nD) (t : Fin cfg0.N) : (dats m 0 c).after 1 t = iblk m c 1 t := by dsimp only [dats]
@[inherit_doc after_0] theorem after_2 (c : Dev nD) (t : Fin cfg0.N) : (dats m 0 c).after 2 t = iblk m c 2 t := by dsimp only [dats]
@[inherit_doc after_0] theorem after_3 (c : Dev nD) (t : Fin cfg0.N) : (dats m 0 c).after 3 t = iblk m c 3 t := by dsimp only [dats]
@[inherit_doc after_0] theorem after_4 (c : Dev nD) (t : Fin cfg0.N) : (dats m 0 c).after 4 t = iblk m c 4 t := by dsimp only [dats]
theorem after_dx (c : Dev nD) (t : Fin cfg0.N) :
    (dats m 0 c).after 5 t = dxOf (iblk m c 0 t) (iblk m c 1 t) (iblk m c 2 t) (iblk m c 3 t) (iblk m c 4 t) := by dsimp only [dats]
theorem after_dn (c : Dev nD) (t : Fin cfg0.N) : (dats m 0 c).after 6 t = (left m c t.val t.isLt).1 := by dsimp only [dats]

/-- An input's buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
@[inherit_doc before_0] theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
@[inherit_doc before_0] theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
@[inherit_doc before_0] theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
@[inherit_doc before_0] theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The accumulated window holds what the point before left. -/
theorem before_dn (c : Dev nD) (t : Fin cfg0.N) (h : t.val ≠ 0) (d) :
    (dats m 0 c).before 6 t d = (left m c (t.val - 1) (Nat.lt_of_le_of_lt (Nat.sub_le _ _) t.isLt)).1 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-- The four pieces of the output lie apart. -/
theorem apart (o o' s s' : Fin 2 → ℕ) (h : ∀ a, o a + s a ≤ S24704x128.size a) (h' : ∀ a, o' a + s' a ≤ S24704x128.size a)
    (hd : LoadRect.disj (Rect.unit (s := S24704x128) o s h) (Rect.unit (s := S24704x128) o' s' h').toLoadRect = true) :
    Disjoint (outM.slice (Rect.unit (s := S24704x128) o s h) (fun _ => rfl)).view.set (outM.slice (Rect.unit (s := S24704x128) o' s' h') (fun _ => rfl)).view.set :=
  View.disjoint_slice_of_disj outM.view _ _ hd

/-! ## The body at every point -/

/-- What the body is called with at a point, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def handsBack (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 3200000 in
theorem sound (c : Dev nD) (t : Fin cfg0.N) :
    given m c t ⊢ wp frame (wpE (defs₀ (F := F)) Variants.none c none) Set.univ (bodyAt0 t) (fun _ => handsBack m c t) := by
  have hN : t.val < 8 := lt_of_lt_of_eq t.isLt (show cfg0.N = 8 from N_0)
  unfold given handsBack bodyAt0
  simp only [before_0, before_1, before_2, before_3, before_4]
  rw [after_0, after_1, after_2, after_3, after_4, after_dx, after_dn]
  unfold Dat.owesAt Pipeline.owesWithin
  rw [show (dats m 0 c).owed t.castSucc = 0 from rfl, show (dats m 0 c).owed t.succ = 0 from rfl,
    show (dats m 0 c).Φ t.castSucc = Phi m c t.val (Nat.le_of_lt t.isLt) from rfl,
    show (dats m 0 c).Φ t.succ = Phi m c (t.val + 1) t.isLt from rfl]
  unfold Phi outAt
  rw [show accAt m c (t.val + 1) t.isLt = owns (c : Thread nD τ) accM fullShare (left m c t.val t.isLt).2 from rfl, if_neg (show t.val ≠ 8 by omega)]
  iintro ⟨⟨⟨HS0, HS1, HS2⟩, Hg, Hq, -, Hh⟩, ⟨%W, -, HW⟩, ⟨%d0, H0⟩, ⟨%d1, H1⟩, ⟨%d2, H2⟩, ⟨%d3, H3⟩, ⟨%d4, H4⟩, ⟨%d5, H5⟩, ⟨%d6, H6⟩⟩
  ihave HS0 := (accAt_open m c t.val (Nat.le_of_lt t.isLt) t.isLt) $$ HS0
  icases HS0 with ⟨%s, %hs, HS0⟩
  have hl := left_step m c t ((dats m 0 c).before 6 t d6) s (fun hz => Prod.ext (before_dn m c t hz d6) (hs hz))
  rw [hl]
  by_cases h7 : t.val = 7
  · have hz : ¬first (grid0.coords t) := fun h => by have := (first_iff t).mp h; omega
    rw [if_pos (show t.val + 1 = 8 by omega), show left m c 7 lt_N = left m c t.val t.isLt from by congr 1 <;> exact h7.symm, hl]
    simp only [zStart, aStart, if_neg hz]
    iapply (last_run c (grid0.coords t) _ _ _ _ _ _ _ _ _ _ _ _ _ _ _ _ _ _ _ _ hz ((last_iff t).mpr h7) (apart _ _ _ _ _ _ (by decide +kernel)) (apart _ _ _ _ _ _ (by decide +kernel)) (apart _ _ _ _ _ _ (by decide +kernel)) (apart _ _ _ _ _ _ (by decide +kernel)) (apart _ _ _ _ _ _ (by decide +kernel)) (apart _ _ _ _ _ _ (by decide +kernel)) (iblk m c 0 t) (iblk m c 1 t) (iblk m c 2 t) (iblk m c 3 t) (iblk m c 4 t) _ _ W _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HS1]; · iexact HS1
    isplitl [HS2]; · iexact HS2
    isplitl [Hq]; · iexact Hq
    isplitl [Hh]; · iexact Hh
    isplitl [HW]; · iexact HW
    iintro ⟨H0, H1, H2, H3, H4, H5, H6, HS0, HS1, HS2, Hq, Hh, ⟨%W', HW⟩⟩
    isplitl [HS0 HS1 HS2 Hg Hq Hh]
    · isplitl [HS0 HS1 HS2]
      · isplitl [HS0]; · iexact HS0
        isplitl [HS1]; · iexact HS1
        iexact HS2
      isplitl [Hg]; · iexact Hg
      isplitl [Hq]; · iexact Hq
      isplitr; · iempintro
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6
  · rw [if_neg (show t.val + 1 ≠ 8 by omega)]
    iapply (step_run c (grid0.coords t) _ _ _ _ _ _ _ _ _ _ _ _ _ _ _ _ _ _ _ _ (fun h => h7 ((last_iff t).mp h)) (iblk m c 0 t) (iblk m c 1 t) (iblk m c 2 t) (iblk m c 3 t) (iblk m c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 HS1 HS2 Hg Hq Hh]
    · isplitl [HS0 HS1 HS2]
      · isplitl [HS0]; · iexact HS0
        isplitl [HS1]; · iexact HS1
        iexact HS2
      isplitl [Hg]; · iexact Hg
      isplitl [Hq]; · iexact Hq
      isplitr; · iempintro
      iexact Hh
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The run -/

/-- The buffers after the call, the copied-out array at the relaid accumulator. -/
def ending (c : Dev nD) : (b : Ref sig .tc) → Buf (Elt F) ((c.tc : Thread nD τ).loc b) :=
  Function.update (V m c) main_v6_1 (relaid (left m c 7 lt_N).2)

theorem enter (c : Dev nD) : Pipeline.ΦDRG ownSem spec0 readArrays wroteArrays (V m) (V m) c ⊢ (dats m 0 c).Φ 0 := by
  rw [show (dats m 0 c).Φ 0 = Phi m c 0 (Nat.zero_le _) from rfl, Pipeline.ΦDRG_eq, scopedRest0_eq, ownSems_eq, readArrays_eq, routed_eq]
  unfold Phi outAt accAt
  rw [if_neg (by omega)]
  simp only [accM, stageM, linesM, owns_whole]
  iintro ⟨⟨HS0, HS1, HS2⟩, Hg, Hq, He, Hh⟩
  isplitl [HS0 HS1 HS2]
  · isplitl [HS0]; · iexact HS0
    isplitl [HS1]; · iexact HS1
    iexact HS2
  isplitl [Hg]; · iexact Hg
  isplitl [Hq]; · iexact Hq
  isplitl [He]; · iexact He
  iexists _; iexact Hh

theorem leave (c : Dev nD) : (dats m 0 c).Φ (Fin.last cfg0.N) ⊢ Pipeline.ΦDRG ownSem spec0 readArrays wroteArrays (V m) (ending m) c := by
  rw [show (dats m 0 c).Φ (Fin.last cfg0.N) = Phi m c (7 + 1) (le_of_eq (show cfg0.N = 8 from N_0).symm) from by
      show Phi m c (Fin.last cfg0.N).val _ = _
      congr 1,
    Pipeline.ΦDRG_eq, scopedRest0_eq, ownSems_eq, readArrays_eq, routed_eq]
  unfold Phi outAt ending accAt
  rw [if_pos rfl, Function.update_self]
  simp only [accM, stageM, linesM, owns_whole]
  iintro ⟨⟨HS0, HS1, HS2⟩, Hg, Hq, He, Hh⟩
  isplitl [HS0 HS1 HS2]
  · isplitl [HS0]; · iexists _; iexact HS0
    isplitl [HS1]; · iexact HS1
    iexact HS2
  isplitl [Hg]; · iexact Hg
  isplitl [Hq]; · iexact Hq
  isplitl [He]; · iexact He
  iexact Hh

set_option backward.isDefEq.respectTransparency.types false in
/-- The launch, with every array after the run named. -/
theorem run_named : θ_run defs (onTc (τ := τ) (main (F := F))) (s₀ m ρ)
    (fun r => (Pipeline.FramePostRG cfgs (dats m) 0 wroteArrays (V m) (ending m)) r ∧ r.2.sem = fun _ => 0) :=
  Pipeline.θ_run_frame_dmaRG (Q' := _) cfgs (dats m) (0 : Fin 1) launch0 ownSem defs₀ Variants.none ownSem_facts readArrays wroteArrays readArrays_sub wroteArrays_sub m ρ main
    (hbody := fun c => (obligation m c).loose) (hshare := fun c => (dats m 0 c).share_full fun _ => rfl)
    (howed := fun _ _ => rfl) (V := V m) (hmain := enters m Variants.none) (hA := A_eq m) (G := ending m)
    (hin := enter m) (hout := leave m)

/-- The three results after the run. -/
theorem run_results : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = relaid (left m c 7 lt_N).2
      ∧ r.2.mem ((c : Thread nD τ).loc main_v6_2) = (dats m 0 c).arrAt 6 cfg0.N :=
  (θ_run defs _ _).mono (fun r h c => ⟨(h.1.toR c).1 5,
      (h.1.written c (b := main_v6_1) (by decide)).trans (by unfold ending; rw [Function.update_self]),
      (h.1.toR c).1 6⟩)
    (run_named m ρ)

/-- The run ends with the arguments unchanged and every semaphore at zero. -/
theorem run_quiescent : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).1 4).trans (((dats m 0 c).arrAt_in 4 rfl _).trans ((A_eq m c 4).trans (V_main_arg4 m c)))⟩, h.2⟩) (run_named m ρ)

end Cert.GlaInBwdIdeal.Step

end
-- ==== Proof.GlaInSweep.lean ====
/-
  What the three arrays of the second layer's input product backward hold after the run, over exact arithmetic, in terms of the call's arguments.
  Grid point `t` handles the 512 rows from `512 t` on.
-/
module

public import proofs.«01_k».proof.Proof.GlaInBlock
public import proofs.«01_k».proof.Proof.GlaInNamed
public import Idealize.ShloMosaic.Lib.Pipeline.ValueKit
public import Idealize.ShloMosaic.Lib.StableHlo.ReadAt

@[expose] public section

set_option maxRecDepth 16384

noncomputable section

namespace Cert.GlaInBwdIdeal.Step

open Idealize.ShloMosaic Idealize.ShloMosaic.TcCoe Idealize.ShloMosaic.Tactic Idealize.SL.Sem
open Cert.GlaInBwdIdeal.Gen
open Cert.PoolInBwdIdeal.Step (fac rowGrad)
open scoped BigOperators

/-! ## The arrays, of the arguments -/

section Arrays
variable (a0 : Vec Ideal S1x4096x1024 .f32) (a1 : Vec Ideal S2x1024 .f32) (a2 : Vec Ideal S1x1024x3088 .f32) (a3 : Vec Ideal S4096x3088 .bf16)
  (a4 : Vec Ideal S4096x1024 .f32)

/-- The cotangent of the normalized and weighted rows. -/
def cotA (n : Fin 4096) (l : Fin 1024) : EReal := ∑ k : Fin 3088, a3 (ix2 n k) * a2 (ix3 0 l k)
/-- The factor of a row. -/
def facA (n : Fin 4096) : EReal := fac fun k => a0 (ix3 0 n k)
/-- The gradient of the rows. -/
def dxA : Vec Ideal S4096x1024 .f32 := fun i =>
  rowGrad (fun k => a0 (ix3 0 (i 0) k)) (fun k => a1 (ix2 1 k)) (cotA a2 a3 (i 0)) (i 1) + a4 (ix2 (i 0) (i 1))
/-- The gradient of the product's weight. -/
def dwAt (k : Fin 3088) (l : Fin 1024) : EReal := ∑ n : Fin 4096, a3 (ix2 n k) * (a0 (ix3 0 n l) * facA a0 n * a1 (ix2 1 l))
/-- The same, as the call returns it: transposed, a row of 1024 numbers being eight rows of 128. -/
def dwA : Vec Ideal S24704x128 .bf16 := fun i =>
  dwAt a0 a1 a3 ⟨(i 0).val / 8, by have h : (i 0).val < 24704 := (i 0).isLt; omega⟩
    ⟨128 * ((i 0).val % 8) + (i 1).val, by have h : (i 1).val < 128 := (i 1).isLt; omega⟩
/-- The gradient of the norm's weight. -/
def dnA : Vec Ideal S1x1024 .f32 := fun i => ∑ n : Fin 4096, cotA a2 a3 n (i 1) * (a0 (ix3 0 n (i 1)) * facA a0 n)
end Arrays

variable (m : (ℓ : Loc nD τ sig) → Buf (Elt Ideal) ℓ) (c : Dev nD)

/-! The five arguments, as launched. -/
abbrev a0V : Vec Ideal S1x4096x1024 .f32 := m ((c : Thread nD τ).loc main_arg0)
abbrev a1V : Vec Ideal S2x1024 .f32 := m ((c : Thread nD τ).loc main_arg1)
abbrev a2V : Vec Ideal S1x1024x3088 .f32 := m ((c : Thread nD τ).loc main_arg2)
abbrev a3V : Vec Ideal S4096x3088 .bf16 := m ((c : Thread nD τ).loc main_arg3)
abbrev a4V : Vec Ideal S4096x1024 .f32 := m ((c : Thread nD τ).loc main_arg4)

/-! ## The blocks a point reads -/

theorem v0_at (n : Fin 4096) (k : Fin 3088) : (V m c main_v0 : Vec Ideal S4096x3200 .bf16) (ix2 n (col k)) = a3V m c (ix2 n k) := by
  unfold V
  after_reads_at
theorem v1_at (n : Fin 4096) (l : Fin 1024) : (V m c main_v1 : Vec Ideal S4096x1024 .f32) (ix2 n l) = a0V m c (ix3 0 n l) := by
  unfold V
  after_reads_at
theorem v2_at (l : Fin 1024) : (V m c main_v2 : Vec Ideal S1x1024 .f32) (ix2 0 l) = a1V m c (ix2 1 l) := by
  unfold V
  after_reads_at
theorem v5_at (k : Fin 3088) (l : Fin 1024) : (V m c main_v5 : Vec Ideal S3088x1024 .bf16) (ix2 k l) = a2V m c (ix3 0 l k) := by
  unfold V
  after_reads_at

/-- Row `r` of the block point `t` handles. -/
def rowOf (t : Fin cfg0.N) (r : Fin 512) : Fin 4096 :=
  ⟨t.val * 512 + r.val, by have := lt_of_lt_of_eq t.isLt (show cfg0.N = 8 from N_0); omega⟩

theorem idx_moving : ∀ t : Fin cfg0.N, win0_0.index t = ![t.val, 0] ∧ win0_1.index t = ![t.val, 0] ∧ win0_4.index t = ![t.val, 0]
    ∧ win0_5.index t = ![t.val, 0] :=
  (by decide +kernel : ∀ t : Fin grid0.N, win0_0.index t = ![t.val, 0] ∧ win0_1.index t = ![t.val, 0] ∧ win0_4.index t = ![t.val, 0]
    ∧ win0_5.index t = ![t.val, 0])
theorem idx_fixed : ∀ t : Fin cfg0.N, win0_2.index t = ![0, 0] ∧ win0_3.index t = ![0, 0] :=
  (by decide +kernel : ∀ t : Fin grid0.N, win0_2.index t = ![0, 0] ∧ win0_3.index t = ![0, 0])

theorem blk0 (t : Fin cfg0.N) (r : Fin 512) (k : Fin 3088) : iblk m c 0 t (ix2 r (col k)) = a3V m c (ix2 (rowOf t r) k) := by
  refine Eq.trans ?_ (v0_at m c _ _)
  have e := (idx_moving t).1
  blk_ext [iblk, rowOf, e]
theorem blk1 (t : Fin cfg0.N) (r : Fin 512) (l : Fin 1024) : iblk m c 1 t (ix2 r l) = a0V m c (ix3 0 (rowOf t r) l) := by
  refine Eq.trans ?_ (v1_at m c _ _)
  have e := (idx_moving t).2.1
  blk_ext [iblk, rowOf, e]
theorem blk2 (t : Fin cfg0.N) (l : Fin 1024) : iblk m c 2 t (ix2 0 l) = a1V m c (ix2 1 l) := by
  refine Eq.trans ?_ (v2_at m c _)
  have e := (idx_fixed t).1
  blk_ext [iblk, e]
theorem blk3 (t : Fin cfg0.N) (k : Fin 3088) (l : Fin 1024) : iblk m c 3 t (ix2 k l) = a2V m c (ix3 0 l k) := by
  refine Eq.trans ?_ (v5_at m c _ _)
  have e := (idx_fixed t).2
  blk_ext [iblk, e]
theorem blk4 (t : Fin cfg0.N) (r : Fin 512) (l : Fin 1024) : iblk m c 4 t (ix2 r l) = a4V m c (ix2 (rowOf t r) l) := by
  refine Eq.trans ?_ (congrFun (V_main_arg4 m c) _)
  have e := (idx_moving t).2.2.1
  blk_ext [iblk, rowOf, e]

theorem cot_blk (t : Fin cfg0.N) (r : Fin 512) (l : Fin 1024) :
    cotB (iblk m c 0 t) (iblk m c 3 t) r l = cotA (a2V m c) (a3V m c) (rowOf t r) l :=
  Finset.sum_congr rfl fun k _ => congrArg₂ (fun x y : EReal => x * y) (blk0 m c t r k) (blk3 m c t k l)
theorem row_blk (t : Fin cfg0.N) (r : Fin 512) : (fun k => iblk m c 1 t (ix2 r k)) = fun k => a0V m c (ix3 0 (rowOf t r) k) :=
  funext fun k => blk1 m c t r k

/-! ## The gradient of the rows -/

theorem dx_point (t : Fin cfg0.N) (r : Fin 512) (l : Fin 1024) :
    dxOf (iblk m c 0 t) (iblk m c 1 t) (iblk m c 2 t) (iblk m c 3 t) (iblk m c 4 t) (ix2 r l)
      = dxA (a0V m c) (a1V m c) (a2V m c) (a3V m c) (a4V m c) (ix2 (rowOf t r) l) := by
  rw [dx_apply, row_blk, blk4, show (fun k => iblk m c 2 t (ix2 0 k)) = fun k => a1V m c (ix2 1 k) from funext fun k => blk2 m c t k,
    show cotB (iblk m c 0 t) (iblk m c 3 t) r = cotA (a2V m c) (a3V m c) (rowOf t r) from funext fun k => cot_blk m c t r k]
  rfl

theorem arr_dx : (dats m 0 c).arrAt 5 cfg0.N = dxA (a0V m c) (a1V m c) (a2V m c) (a3V m c) (a4V m c) := by
  refine (dats m 0 c).arrAt_eq_of_covers 5 _ (by decide +kernel) fun t hf y => ?_
  rw [after_dx]
  have e := (idx_moving t).2.2.2
  refine Eq.trans (congrArg (dxOf (iblk m c 0 t) (iblk m c 1 t) (iblk m c 2 t) (iblk m c 3 t) (iblk m c 4 t)) ?_)
    ((dx_point m c t ⟨(y 0).val, (y 0).isLt⟩ ⟨(y 1).val, (y 1).isLt⟩).trans (congrArg (dxA (a0V m c) (a1V m c) (a2V m c) (a3V m c) (a4V m c)) ?_))
  · blk_ext []
  · blk_ext [rowOf, e]

/-! ## The sums over the points -/

/-- A value reset at the first point and added to at every other is, after the last, the sum over all rows. -/
theorem sum_left (X : Vec Ideal S1x1024 .f32 × Vec Ideal S3200x1024 .f32 → EReal) (term : Fin 4096 → EReal)
    (h0 : X (k0_pay41 (F := Ideal), k0_pay40 (F := Ideal)) = 0)
    (hs : ∀ (t : Fin cfg0.N) p, X (over m c t p) = X p + ∑ r : Fin 512, term (rowOf t r)) :
    X (left m c 7 lt_N) = ∑ n : Fin 4096, term n := by
  let g : ℕ → EReal := fun k => if h : k < cfg0.N then ∑ r : Fin 512, term (rowOf ⟨k, h⟩ r) else 0
  have hg : ∀ (k : ℕ) (h : k < cfg0.N), g k = ∑ r : Fin 512, term (rowOf ⟨k, h⟩ r) := fun k h => dif_pos h
  have key : ∀ (n : ℕ) (h : n < cfg0.N), X (left m c n h) = ∑ k ∈ Finset.range (n + 1), g k := by
    intro n
    induction n with
    | zero => exact fun h => by rw [left_first m c ⟨0, h⟩ rfl, hs, h0, zero_add, Finset.sum_range_one, hg 0 h]
    | succ n ih =>
      exact fun h => by
        rw [left_next m c ⟨n + 1, h⟩ (Nat.succ_ne_zero n), hs, Finset.sum_range_succ, hg (n + 1) h]
        exact congrArg (· + _) (ih (Nat.lt_of_succ_lt h))
  rw [key, Finset.sum_range g]
  let eqv : Fin 8 × Fin 512 ≃ Fin 4096 := finProdFinEquiv.trans (finCongr (by norm_num))
  have e : ∀ k : Fin 8, g k.val = ∑ r : Fin 512, term (eqv (k, r)) := fun k =>
    (hg _ (lt_of_lt_of_eq k.isLt (show cfg0.N = 8 from N_0).symm)).trans (Finset.sum_congr rfl fun r _ => congrArg term (Fin.ext (by
      show k.val * 512 + r.val = r.val + 512 * k.val
      omega)))
  rw [Finset.sum_congr rfl fun k _ => e k]
  exact (Fintype.sum_prod_type fun p : Fin 8 × Fin 512 => term (eqv p)).symm.trans (Equiv.sum_comp eqv term)

theorem sum_dn (l : Fin 1024) : (left m c 7 lt_N).1 (ix2 0 l) = dnA (a0V m c) (a2V m c) (a3V m c) (ix2 0 l) := by
  refine sum_left m c (fun p => p.1 (ix2 0 l)) (fun n => cotA (a2V m c) (a3V m c) n l * (a0V m c (ix3 0 n l) * facA (a0V m c) n))
    (zero_dn l) fun t p => ?_
  refine (dn_apply _ _ _ _ l).trans (congrArg (_ + ·) (Finset.sum_congr rfl fun r _ => ?_))
  rw [cot_blk, row_blk, blk1]
  rfl

theorem sum_dw (k : Fin 3088) (l : Fin 1024) : (left m c 7 lt_N).2 (ix2 (col k) l) = dwAt (a0V m c) (a1V m c) (a3V m c) k l := by
  refine sum_left m c (fun p => p.2 (ix2 (col k) l)) (fun n => a3V m c (ix2 n k) * (a0V m c (ix3 0 n l) * facA (a0V m c) n * a1V m c (ix2 1 l)))
    (zero_acc (col k) l) fun t p => ?_
  refine (acc_apply _ _ _ _ _ l).trans (congrArg (_ + ·) (Finset.sum_congr rfl fun r _ => ?_))
  rw [row_blk, blk0, blk1, blk2]
  rfl

theorem arr_dn : (dats m 0 c).arrAt 6 cfg0.N = dnA (a0V m c) (a2V m c) (a3V m c) := by
  refine (dats m 0 c).arrAt_eq_of_after_last 6 t0_7 (by decide +kernel) _ fun j => ?_
  rw [after_dn]
  refine Eq.trans (congrArg (left m c t0_7.val t0_7.isLt).1 ?_) ((sum_dn m c ⟨(j 1).val, (j 1).isLt⟩).trans
    (congrArg (dnA (a0V m c) (a2V m c) (a3V m c)) ?_))
  · blk_ext []
  · blk_ext []

theorem relaid_at (a : Vec Ideal S3200x1024 .f32) (i : S24704x128.Idx) : relaid a i = a (origin i) := rfl

theorem end_dw : relaid (left m c 7 lt_N).2 = dwA (a0V m c) (a1V m c) (a3V m c) :=
  funext fun i => (relaid_at _ i).trans (sum_dw m c ⟨(i 0).val / 8, by have h : (i 0).val < 24704 := (i 0).isLt; omega⟩
    ⟨128 * ((i 0).val % 8) + (i 1).val, by have h : (i 1).val < 128 := (i 1).isLt; omega⟩)

variable (ρ : Dev nD → PrngReg)

/-- The run, its three results of the arguments. -/
theorem run_sums : θ_run defs (onTc (τ := τ) (main (F := Ideal))) ⟨m, fun _ => 0, ρ⟩ fun r => ∀ c : Dev nD,
      r.2.mem ((c : Thread nD τ).loc main_v6_0) = dxA (a0V m c) (a1V m c) (a2V m c) (a3V m c) (a4V m c)
      ∧ r.2.mem ((c : Thread nD τ).loc main_v6_1) = dwA (a0V m c) (a1V m c) (a3V m c)
      ∧ r.2.mem ((c : Thread nD τ).loc main_v6_2) = dnA (a0V m c) (a2V m c) (a3V m c) :=
  (θ_run defs _ _).mono (fun r h c => ⟨(h c).1.trans (arr_dx m c), (h c).2.1.trans (end_dw m c), (h c).2.2.trans (arr_dn m c)⟩) (run_results m ρ)

end Cert.GlaInBwdIdeal.Step

end
-- ==== Proof.GlaInRef.lean ====
/-
  What the reference of the second layer's input product computes, over exact arithmetic: its three results at an index, of the call's arguments.
-/
module

public import proofs.«01_k».proof.Proof.GlaInSweep
public import proofs.«01_k».proof.Proof.InEquation
public import proofs.«01_k».proof.Proof.Gen.GlaInBwdRefIdeal.Read

@[expose] public section

set_option maxRecDepth 16384

noncomputable section

namespace Cert.GlaInBwdRefIdeal.RefValue

open Idealize.ShloMosaic Idealize.ShloMosaic.TcCoe Idealize.ShloMosaic.Tactic Cert.GlaInBwdRefIdeal Cert.GlaInBwdRefIdeal.Gen
open Cert.GlaInBwdRefIdeal.Read Cert.Gla
open Cert.GlaInBwdIdeal.Step (facA cotA dwAt dwA dnA)
open Cert.PoolInBwdRefIdeal.RefValue (total_col pullOf)
open scoped BigOperators

variable (a0 : Vec Ideal S1x4096x1024 .f32) (a1 : Vec Ideal S2x1024 .f32) (a2 : Vec Ideal S1x1024x3088 .f32) (a3 : Vec Ideal S4096x3088 .bf16)
  (a4 : Vec Ideal S4096x1024 .f32)

/-- A row's mean square, offset. -/
def msA (n : Fin 4096) : EReal :=
  Ideal.div (∑ k, a0 (ix3 0 n k) * a0 (ix3 0 n k)) (Ideal.ofBits .f32 0x44800000#32) + Ideal.ofBits .f32 0x358637BD#32

/-- The factor of `x` in the derivative through a row's mean square. -/
def pull (n : Fin 4096) : EReal := pullOf (fun k => a0 (ix3 0 n k)) (fun k => a1 (ix2 1 k)) (cotA a2 a3 n)

theorem v9_at (n : Fin 4096) : val_main_v9 (F := Ideal) a0 (ix3 0 n 0) = msA a0 n := by
  pointwise [val_main_v9, val_main_v8, val_main_v7, val_main_v6, val_main_v5, val_main_v4, val_main_v3, val_main_cst, val_main_cst_0, val_main_cst_1, msA]

theorem v10_at (n : Fin 4096) : val_main_v10 (F := Ideal) a0 (ix3 0 n 0) = facA a0 n := by
  pointwise [val_main_v10, v9_at]
  rfl

theorem v15_at (n : Fin 4096) (l : Fin 1024) : val_main_v15 (F := Ideal) a0 (ix3 0 n l) = a0 (ix3 0 n l) * facA a0 n := by
  pointwise [val_main_v15, val_main_v14, v10_at]

theorem v18_at (n : Fin 4096) (l : Fin 1024) : val_main_v18 (F := Ideal) a0 a1 (ix3 0 n l) = a0 (ix3 0 n l) * facA a0 n * a1 (ix2 1 l) := by
  pointwise [val_main_v18, v15_at, val_main_v17, val_main_v16, val_main_v1, val_main_v0]

theorem v25_at (n : Fin 4096) (l : Fin 1024) : val_main_v25 (F := Ideal) a2 a3 (ix3 0 n l) = cotA a2 a3 n l := by
  pointwise [val_main_v25, val_main_v21, val_main_v20, val_main_v2, cotA]

theorem v30_at (n : Fin 4096) (l : Fin 1024) : val_main_v30 (F := Ideal) a1 a2 a3 (ix3 0 n l) = cotA a2 a3 n l * a1 (ix2 1 l) := by
  pointwise [val_main_v30, v25_at, val_main_v29, val_main_v16, val_main_v1, val_main_v0]

theorem v40_at (n : Fin 4096) : val_main_v40 (F := Ideal) a0 a1 a2 a3 (ix3 0 n 0) = pull a0 a1 a2 a3 n := by
  pointwise [val_main_v40, val_main_v39, val_main_v38, val_main_v34, val_main_v33, val_main_v32, val_main_v13, val_main_v12, val_main_v11, v9_at, v10_at, v30_at,
    val_main_cst_2, val_main_cst_5, val_main_cst_6, pull, pullOf]
  rfl

theorem v41_at (n : Fin 4096) : val_main_v41 (F := Ideal) a0 a1 a2 a3 (ix1 n) = pull a0 a1 a2 a3 n := by
  pointwise [val_main_v41, val_main_cst_7]
  refine (total_col _ _ _ n).trans ?_
  rw [v40_at, zero_add]

theorem dx_ref (n : Fin 4096) (l : Fin 1024) : val_main_v48 (F := Ideal) a0 a1 a2 a3 a4 (ix2 n l)
    = a4 (ix2 n l) + cotA a2 a3 n l * a1 (ix2 1 l) * facA a0 n + a0 (ix3 0 n l) * pull a0 a1 a2 a3 n + pull a0 a1 a2 a3 n * a0 (ix3 0 n l) := by
  pointwise [val_main_v48, val_main_v47, val_main_v46, val_main_v45, val_main_v44, val_main_v43, val_main_v42, v41_at, val_main_v37, val_main_v36, val_main_v35,
    v10_at, v30_at, val_main_v22]

theorem v50_at (k : Fin 3088) (l : Fin 1024) : val_main_v50 (F := Ideal) a0 a1 a3 (ix2 k l) = dwAt a0 a1 a3 k l := by
  pointwise [val_main_v50, val_main_v49, val_main_v24, val_main_v23, val_main_v21, val_main_v20, dwAt]
  rw [Fin.sum_univ_one]
  exact Finset.sum_congr rfl fun n _ => congrArg (_ * ·) (v18_at a0 a1 n l)

theorem dw_ref : val_main_v51 (F := Ideal) a0 a1 a3 = dwA a0 a1 a3 := by
  funext i
  rw [val_main_v51_apply]
  have h0 : (i 0).val < 24704 := (i 0).isLt
  have h1 : (i 1).val < 128 := (i 1).isLt
  refine Eq.trans (congrArg (val_main_v50 (F := Ideal) a0 a1 a3) (?_ : _ = ix2 (⟨(i 0).val / 8, by omega⟩ : Fin 3088) (⟨128 * ((i 0).val % 8) + (i 1).val, by omega⟩ : Fin 1024)))
    (v50_at a0 a1 a3 _ _)
  funext a
  match a with
  | ⟨0, _⟩ => exact Fin.ext (by show ((i 0).val * 128 + (i 1).val) / 1024 = (i 0).val / 8; omega)
  | ⟨1, _⟩ => exact Fin.ext (by show ((i 0).val * 128 + (i 1).val) % 1024 = 128 * ((i 0).val % 8) + (i 1).val; omega)

theorem v28_at (l : Fin 1024) : val_main_v28 (F := Ideal) a0 a2 a3 (ix3 0 0 l) = dnA a0 a2 a3 (ix2 0 l) := by
  pointwise [val_main_v28, val_main_v27, val_main_v26, v15_at, v25_at, val_main_cst_3, dnA]
  exact Finset.sum_congr rfl fun n _ => mul_comm _ _

theorem dn_ref : val_main_v52 (F := Ideal) a0 a2 a3 = dnA a0 a2 a3 := by
  funext i
  idx_vars i
  pointwise [val_main_v52, val_main_v31, val_main_cst_4]
  refine (total_row _ _ _ i1).trans ?_
  rw [v28_at, zero_add, Fin.fin_one_eq_zero i0]

end Cert.GlaInBwdRefIdeal.RefValue

end
-- ==== Proof.GlaInEquation.lean ====
/-
  The equation of the second layer's input product backward: the row's derivative is the one of Proof/InEquation.lean, at the norm's second weight row.
-/
module

public import proofs.«01_k».proof.Proof.GlaInRef
public import proofs.«01_k».proof.Proof.Gen.Pre_finite4

@[expose] public section

set_option maxRecDepth 16384

noncomputable section

namespace Cert.GlaInBwdRefIdeal.RefValue

open Idealize.ShloMosaic Idealize.ShloMosaic.TcCoe Idealize.ShloMosaic.Tactic Cert.GlaInBwdRefIdeal Cert.GlaInBwdRefIdeal.Gen
open Cert.GlaInBwdRefIdeal.Read
open Cert.GlaInBwdIdeal.Step (dxA)
open Cert.PoolBwdRefIdeal.RefValue (real_of_test)
open Cert.PoolBwdRefIdeal.RevSum (IsReal)
open Cert.PoolInBwdRefIdeal.RefValue (grad_eq real_dot)

/-- Arrays that pass the precondition hold numbers; the cotangent that is only added needs none. -/
theorem reals_of_pre (a0 : Vec Ideal S1x4096x1024 .f32) (a1 : Vec Ideal S2x1024 .f32) (a2 : Vec Ideal S1x1024x3088 .f32)
    (a3 : Vec Ideal S4096x3088 .bf16) (a4 : Vec Ideal S4096x1024 .f32) (h : Cert.Pre_finite4.fn (F := Ideal) a0 a1 a2 a3 a4 = fun _ => 1#1) :
    (∀ i, IsReal (a0 i)) ∧ (∀ i, IsReal (a1 i)) ∧ (∀ i, IsReal (a2 i)) ∧ (∀ i, IsReal (a3 i)) := by
  have e := congrFun h (Shape.Idx.first Cert.Pre_finite4.Facts.h_S_)
  dsimp only [Cert.Pre_finite4.fn, Cert.Pre_finite4.fn_part1] at e
  obtain ⟨e, e3⟩ := IntOp.andi_eq_one.1 e
  obtain ⟨e, e2⟩ := IntOp.andi_eq_one.1 e
  obtain ⟨e0, e1⟩ := IntOp.andi_eq_one.1 e
  exact ⟨fun i => real_of_test a0 _ i (Host.reduce_andi_all _ _ _ _ _ e0 i), fun i => real_of_test a1 _ i (Host.reduce_andi_all _ _ _ _ _ e1 i),
    fun i => real_of_test a2 _ i (Host.reduce_andi_all _ _ _ _ _ e2 i), fun i => real_of_test a3 _ i (Host.reduce_andi_all _ _ _ _ _ e3 i)⟩

/-- The gradient of the rows, as the kernel leaves it, is the reference's. -/
theorem dx_eq (a0 : Vec Ideal S1x4096x1024 .f32) (a1 : Vec Ideal S2x1024 .f32) (a2 : Vec Ideal S1x1024x3088 .f32)
    (a3 : Vec Ideal S4096x3088 .bf16) (a4 : Vec Ideal S4096x1024 .f32)
    (h0 : ∀ i, IsReal (a0 i)) (h1 : ∀ i, IsReal (a1 i)) (h2 : ∀ i, IsReal (a2 i)) (h3 : ∀ i, IsReal (a3 i)) :
    dxA a0 a1 a2 a3 a4 = val_main_v48 (F := Ideal) a0 a1 a2 a3 a4 := by
  funext i
  idx_vars i
  rw [dx_ref]
  exact grad_eq _ _ _ _ (fun _ => h0 _) (fun _ => h1 _) (fun _ => real_dot _ _ (fun _ => h3 _) fun _ => h2 _) _

end Cert.GlaInBwdRefIdeal.RefValue

end
-- ==== Proof.GlaInFrame.lean ====
/-
  The frame of the second layer's input product backward at the chip's words: the program is, letter for letter, the one whose run
  Proof/GlaInNamed.lean gives for any float values.
-/
module

public import proofs.«01_k».proof.Defs
public import proofs.«01_k».proof.Proof.GlaInNamed
public import proofs.«01_k».proof.Proof.Gen.GlaInBwd

@[expose] public section

set_option maxRecDepth 65536

noncomputable section

namespace Cert.Proof

open Idealize.ShloMosaic Idealize.ShloMosaic.TcCoe Idealize.SL.Sem

/-- The two frames say the same, the one program's text being the other's. -/
theorem gla_in_words_eq : Cert.quiescent_GlaInBwd (hGlaInBwd := Cert.GlaInBwd.Gen.facts)
    = ∀ (m : (ℓ : Loc Cert.GlaInBwdIdeal.nD Cert.GlaInBwdIdeal.τ Cert.GlaInBwdIdeal.sig) → Buf (Elt Bits) ℓ) (g : Dev Cert.GlaInBwdIdeal.nD → PrngReg),
      Cert.Pre_GlaInBwd m → θ_run (Cert.GlaInBwdIdeal.defs (F := Bits)) (onTc (τ := Cert.GlaInBwdIdeal.τ) (Cert.GlaInBwdIdeal.main (F := Bits)))
        ⟨m, fun _ => 0, g⟩ (fun r => (∀ c : Dev Cert.GlaInBwdIdeal.nD,
          r.2.mem ((c.tc : Thread Cert.GlaInBwdIdeal.nD Cert.GlaInBwdIdeal.τ).loc Cert.GlaInBwdIdeal.main_arg0) = m ((c.tc : Thread _ _).loc Cert.GlaInBwdIdeal.main_arg0)
          ∧ r.2.mem ((c.tc : Thread Cert.GlaInBwdIdeal.nD Cert.GlaInBwdIdeal.τ).loc Cert.GlaInBwdIdeal.main_arg1) = m ((c.tc : Thread _ _).loc Cert.GlaInBwdIdeal.main_arg1)
          ∧ r.2.mem ((c.tc : Thread Cert.GlaInBwdIdeal.nD Cert.GlaInBwdIdeal.τ).loc Cert.GlaInBwdIdeal.main_arg2) = m ((c.tc : Thread _ _).loc Cert.GlaInBwdIdeal.main_arg2)
          ∧ r.2.mem ((c.tc : Thread Cert.GlaInBwdIdeal.nD Cert.GlaInBwdIdeal.τ).loc Cert.GlaInBwdIdeal.main_arg3) = m ((c.tc : Thread _ _).loc Cert.GlaInBwdIdeal.main_arg3)
          ∧ r.2.mem ((c.tc : Thread Cert.GlaInBwdIdeal.nD Cert.GlaInBwdIdeal.τ).loc Cert.GlaInBwdIdeal.main_arg4) = m ((c.tc : Thread _ _).loc Cert.GlaInBwdIdeal.main_arg4))
          ∧ r.2.sem = fun _ => 0) := by
  sl_kernel_rfl

/-- The second layer's input product backward, its frame at the chip's words: the same run as over exact arithmetic. -/
theorem frame_gla_in : Cert.quiescent_GlaInBwd (hGlaInBwd := Cert.GlaInBwd.Gen.facts) :=
  gla_in_words_eq.mpr fun m g _ => Cert.GlaInBwdIdeal.Step.run_quiescent (F := Bits) m g

end Cert.Proof

end
-- ==== Proof.lean ====
module

public import proofs.«01_k».proof.Defs
public import proofs.«01_k».proof.Proof.Gen.PoolBwd
public import proofs.«01_k».proof.Proof.Gen.PoolBwd.Skeleton
public import proofs.«01_k».proof.Proof.Gen.PoolBwd.Launch
public import proofs.«01_k».proof.Proof.Gen.PoolBwd.Points
public import proofs.«01_k».proof.Proof.Gen.PoolBwd.Frame
public import proofs.«01_k».proof.Proof.Gen.PoolBwdIdeal
public import proofs.«01_k».proof.Proof.Gen.PoolBwdIdeal.Skeleton
public import proofs.«01_k».proof.Proof.Gen.PoolBwdIdeal.Launch
public import proofs.«01_k».proof.Proof.Gen.PoolBwdIdeal.Points
public import proofs.«01_k».proof.Proof.Gen.PoolBwdIdeal.Frame
public import proofs.«01_k».proof.Proof.Gen.PoolBwdRefIdeal
public import proofs.«01_k».proof.Proof.Gen.Pre_finite
public import proofs.«01_k».proof.Proof.Gen.GlaBwd
public import proofs.«01_k».proof.Proof.Gen.GlaBwd.Skeleton
public import proofs.«01_k».proof.Proof.Gen.GlaBwd.Launch
public import proofs.«01_k».proof.Proof.Gen.GlaBwd.Points
public import proofs.«01_k».proof.Proof.Gen.GlaBwd.Frame
public import proofs.«01_k».proof.Proof.Gen.GlaBwdIdeal
public import proofs.«01_k».proof.Proof.Gen.GlaBwdIdeal.Skeleton
public import proofs.«01_k».proof.Proof.Gen.GlaBwdIdeal.Launch
public import proofs.«01_k».proof.Proof.Gen.GlaBwdIdeal.Points
public import proofs.«01_k».proof.Proof.Gen.GlaBwdIdeal.Frame
public import proofs.«01_k».proof.Proof.Gen.GlaBwdRefIdeal
public import proofs.«01_k».proof.Proof.Gen.GlaBwdRefIdeal.Run
public import proofs.«01_k».proof.Proof.Gen.GlaBwdRefIdeal.Read
public import proofs.«01_k».proof.Proof.Gen.Pre_finite2
public import proofs.«01_k».proof.Proof.Gen.PoolInBwd
public import proofs.«01_k».proof.Proof.Gen.PoolInBwd.Launch
public import proofs.«01_k».proof.Proof.Gen.PoolInBwdIdeal
public import proofs.«01_k».proof.Proof.Gen.PoolInBwdIdeal.Skeleton
public import proofs.«01_k».proof.Proof.Gen.PoolInBwdIdeal.Launch
public import proofs.«01_k».proof.Proof.Gen.PoolInBwdIdeal.Points
public import proofs.«01_k».proof.Proof.Gen.PoolInBwdIdeal.Frame
public import proofs.«01_k».proof.Proof.Gen.PoolInBwdRefIdeal
public import proofs.«01_k».proof.Proof.Gen.PoolInBwdRefIdeal.Run
public import proofs.«01_k».proof.Proof.Gen.PoolInBwdRefIdeal.Read
public import proofs.«01_k».proof.Proof.Gen.Pre_finite3
public import proofs.«01_k».proof.Proof.Gen.GlaInBwd
public import proofs.«01_k».proof.Proof.Gen.GlaInBwd.Launch
public import proofs.«01_k».proof.Proof.Gen.GlaInBwdIdeal
public import proofs.«01_k».proof.Proof.Gen.GlaInBwdIdeal.Skeleton
public import proofs.«01_k».proof.Proof.Gen.GlaInBwdIdeal.Launch
public import proofs.«01_k».proof.Proof.Gen.GlaInBwdIdeal.Points
public import proofs.«01_k».proof.Proof.Gen.GlaInBwdIdeal.Frame
public import proofs.«01_k».proof.Proof.Gen.GlaInBwdRefIdeal
public import proofs.«01_k».proof.Proof.Gen.GlaInBwdRefIdeal.Run
public import proofs.«01_k».proof.Proof.Gen.GlaInBwdRefIdeal.Read
public import proofs.«01_k».proof.Proof.Gen.Pre_finite4
public import proofs.«01_k».proof.Proof.Gen.GlaBwdIdeal.Value
public import Idealize.ShloMosaic.Adequacy
public import Idealize.ShloMosaic.Init
public import proofs.«01_k».proof.Proof.Gen.PoolBwdIdeal.Value
public import proofs.«01_k».proof.Proof.Gen.PoolBwdRefIdeal.Run
public import proofs.«01_k».proof.Proof.Gen.PoolBwdRefIdeal.Read
public import proofs.«01_k».proof.Proof.Equation
public import proofs.«01_k».proof.Proof.GlaEquation
public import proofs.«01_k».proof.Proof.InEquation
public import proofs.«01_k».proof.Proof.InFrame
public import proofs.«01_k».proof.Proof.GlaInEquation
public import proofs.«01_k».proof.Proof.GlaInFrame

@[expose] public section

noncomputable section

namespace Cert.Proof

open Idealize.ShloMosaic Idealize.SL.Sem

/-- The reference's frame, over exact arithmetic: host operations alone, no counter. -/
theorem frame_ref : Cert.quiescent_PoolBwdRefIdeal (hPoolBwdRefIdeal := Cert.PoolBwdRefIdeal.Gen.facts) := fun m g _ =>
  (θ_run Cert.PoolBwdRefIdeal.defs _ _).mono (fun r h => ⟨fun c => (h c).2.2.2.2.2,
      Idealize.ShloMosaic.sem_eq_zero_of_no_sems (by decide) r.2⟩)
    (Cert.PoolBwdRefIdeal.Value.run (F := Ideal) m g)

open Cert.PoolBwdIdeal.Step Cert.PoolBwdRefIdeal.Read in
/-- The pooling backward's results are the derivative of the reference's forward lines, where the arguments are numbers. -/
theorem value : Cert.algebraic_PoolBwdIdeal_PoolBwdRefIdeal_pre_finite (hPoolBwdIdeal := Cert.PoolBwdIdeal.Gen.facts)
    (hPoolBwdRefIdeal := Cert.PoolBwdRefIdeal.Gen.facts) (hPre_finite := Cert.Pre_finite.Gen.facts) := by
  intro m g m' g' hpre hargs
  refine ⟨fun c => val_main_v171 (F := Ideal) (a0V m c) (a1V m c) (a2V m c) (a3V m c) (a4V m c) (a5V m c),
    fun c => val_main_v172 (F := Ideal) (a0V m c) (a1V m c) (a2V m c) (a3V m c) (a5V m c),
    fun c => val_main_v173 (F := Ideal) (a0V m c) (a3V m c) (a4V m c) (a5V m c),
    fun c => val_main_v174 (F := Ideal) (a0V m c) (a3V m c) (a4V m c) (a5V m c),
    fun c => val_main_v175 (F := Ideal) (a0V m c) (a1V m c) (a2V m c) (a4V m c) (a5V m c), ?_, ?_⟩
  · refine (θ_run Cert.PoolBwdIdeal.defs _ _).mono (fun r h c => ?_) (θ_run_and (run_sums m g) (Cert.PoolBwdIdeal.Gen.frame m g))
    obtain ⟨h0, h1, h2, h3, h4, h5⟩ := Cert.PoolBwdRefIdeal.RefValue.reals_of_pre _ _ _ _ _ _ (hpre c)
    obtain ⟨r0, r1, r2, r3, r4⟩ := h.1 c
    exact ⟨r0.trans (eq_dp m c h0 h1 h2 h3 h4 h5), r1.trans (eq_dwo m c), r2.trans (eq_dgw m c), r3.trans (eq_dgb m c),
      r4.trans (eq_dsc m c), h.2.1 c⟩
  · refine (θ_run Cert.PoolBwdRefIdeal.defs _ _).mono (fun r h c => ?_) (Cert.PoolBwdRefIdeal.Value.run (F := Ideal) m' g')
    obtain ⟨e0, e1, e2, e3, e4, e5⟩ := hargs c
    obtain ⟨r0, r1, r2, r3, r4, keep⟩ := h c
    have q0 := r0.trans (val_main_v171_eq (StableHlo.launchContents m' c))
    have q1 := r1.trans (val_main_v172_eq (StableHlo.launchContents m' c))
    have q2 := r2.trans (val_main_v173_eq (StableHlo.launchContents m' c))
    have q3 := r3.trans (val_main_v174_eq (StableHlo.launchContents m' c))
    have q4 := r4.trans (val_main_v175_eq (StableHlo.launchContents m' c))
    simp only [StableHlo.launchContents] at q0 q1 q2 q3 q4
    rw [e0, e1, e2, e3, e4, e5] at q0
    rw [e0, e1, e2, e3, e5] at q1
    rw [e0, e3, e4, e5] at q2 q3
    rw [e0, e1, e2, e4, e5] at q4
    exact ⟨q0, q1, q2, q3, q4, keep⟩

/-- The gated linear attention's reference, its frame: host operations alone, no counter. -/
theorem frame_ref2 : Cert.quiescent_GlaBwdRefIdeal (hGlaBwdRefIdeal := Cert.GlaBwdRefIdeal.Gen.facts) := fun m g _ =>
  (θ_run Cert.GlaBwdRefIdeal.defs _ _).mono (fun r h => ⟨fun c => (h c).2.2.2.2.2,
      Idealize.ShloMosaic.sem_eq_zero_of_no_sems (by decide) r.2⟩)
    (Cert.GlaBwdRefIdeal.Value.run (F := Ideal) m g)

open Cert.GlaBwdIdeal.Entry Cert.GlaBwdRefIdeal.Read in
/-- The gated linear attention's backward results are the derivative of the reference's forward lines, where the arguments are numbers. -/
theorem value2 : Cert.algebraic_GlaBwdIdeal_GlaBwdRefIdeal_pre_finite2 (hGlaBwdIdeal := Cert.GlaBwdIdeal.Gen.facts)
    (hGlaBwdRefIdeal := Cert.GlaBwdRefIdeal.Gen.facts) (hPre_finite2 := Cert.Pre_finite2.Gen.facts) := by
  intro m g m' g' hpre hargs
  refine ⟨fun c => val_main_v219 (F := Ideal) (a0V m c) (a1V m c) (a2V m c) (a3V m c) (a4V m c) (a5V m c),
    fun c => val_main_v221 (F := Ideal) (a0V m c) (a1V m c) (a2V m c) (a3V m c) (a5V m c),
    fun c => val_main_v222 (F := Ideal) (a0V m c) (a1V m c) (a2V m c) (a4V m c) (a5V m c),
    fun c => val_main_v220 (F := Ideal) (a0V m c) (a1V m c) (a2V m c) (a3V m c) (a4V m c) (a5V m c),
    fun c => val_main_v223 (F := Ideal) (a0V m c) (a1V m c) (a2V m c) (a3V m c) (a4V m c) (a5V m c), ?_, ?_⟩
  · refine (θ_run Cert.GlaBwdIdeal.defs _ _).mono (fun r h c => ?_) (θ_run_and (Cert.GlaBwdIdeal.Step.run_results m g) (Cert.GlaBwdIdeal.Gen.frame m g))
    obtain ⟨q0, q1, q2, q3, q4⟩ := results_eq m c (hpre c)
    obtain ⟨r0, r1, r2, r3, r4⟩ := h.1 c
    exact ⟨r0.trans q0, r1.trans q1, r2.trans q2, r3.trans q3, r4.trans q4, h.2.1 c⟩
  · refine (θ_run Cert.GlaBwdRefIdeal.defs _ _).mono (fun r h c => ?_) (Cert.GlaBwdRefIdeal.Value.run (F := Ideal) m' g')
    obtain ⟨e0, e1, e2, e3, e4, e5⟩ := hargs c
    obtain ⟨r0, r1, r2, r3, r4, keep⟩ := h c
    have q0 := r0.trans (val_main_v219_eq (StableHlo.launchContents m' c))
    have q1 := r1.trans (val_main_v221_eq (StableHlo.launchContents m' c))
    have q2 := r2.trans (val_main_v222_eq (StableHlo.launchContents m' c))
    have q3 := r3.trans (val_main_v220_eq (StableHlo.launchContents m' c))
    have q4 := r4.trans (val_main_v223_eq (StableHlo.launchContents m' c))
    simp only [StableHlo.launchContents] at q0 q1 q2 q3 q4
    rw [e0, e1, e2, e3, e4, e5] at q0 q3 q4
    rw [e0, e1, e2, e3, e5] at q1
    rw [e0, e1, e2, e4, e5] at q2
    exact ⟨q0, q1, q2, q3, q4, keep⟩

/-- The first layer's input product backward, its frame over exact arithmetic. -/
theorem frame_in_ideal : Cert.quiescent_PoolInBwdIdeal (hPoolInBwdIdeal := Cert.PoolInBwdIdeal.Gen.facts) := fun m g _ =>
  Cert.PoolInBwdIdeal.Step.run_quiescent (F := Ideal) m g

/-- The frame of the reference of the first layer's input product: host operations alone, no counter. -/
theorem frame_ref3 : Cert.quiescent_PoolInBwdRefIdeal (hPoolInBwdRefIdeal := Cert.PoolInBwdRefIdeal.Gen.facts) := fun m g _ =>
  (θ_run Cert.PoolInBwdRefIdeal.defs _ _).mono (fun r h => ⟨fun c => (h c).2.2.2,
      Idealize.ShloMosaic.sem_eq_zero_of_no_sems (by decide) r.2⟩)
    (Cert.PoolInBwdRefIdeal.Value.run (F := Ideal) m g)

open Cert.PoolInBwdIdeal.Step Cert.PoolInBwdRefIdeal.Read Cert.PoolInBwdRefIdeal.RefValue in
/-- The results of the first layer's input product backward are the derivative of the reference's forward lines, where the arguments that
are multiplied are numbers. -/
theorem value3 : Cert.algebraic_PoolInBwdIdeal_PoolInBwdRefIdeal_pre_finite3 (hPoolInBwdIdeal := Cert.PoolInBwdIdeal.Gen.facts)
    (hPoolInBwdRefIdeal := Cert.PoolInBwdRefIdeal.Gen.facts) (hPre_finite3 := Cert.Pre_finite3.Gen.facts) := by
  intro m g m' g' hpre hargs
  refine ⟨fun c => dxA (a0V m c) (a1V m c) (a2V m c) (a3V m c) (a4V m c), fun c => dwA (a0V m c) (a1V m c) (a3V m c),
    fun c => dnA (a0V m c) (a2V m c) (a3V m c), ?_, ?_⟩
  · exact (θ_run Cert.PoolInBwdIdeal.defs _ _).mono (fun r h c => ⟨(h.1 c).1, (h.1 c).2.1, (h.1 c).2.2, h.2.1 c⟩)
      (θ_run_and (run_sums m g) (run_quiescent m g))
  · refine (θ_run Cert.PoolInBwdRefIdeal.defs _ _).mono (fun r h c => ?_) (Cert.PoolInBwdRefIdeal.Value.run (F := Ideal) m' g')
    obtain ⟨h0, h1, h2, h3⟩ := reals_of_pre _ _ _ _ _ (hpre c)
    obtain ⟨e0, e1, e2, e3, e4⟩ := hargs c
    obtain ⟨r0, r1, r2, keep⟩ := h c
    have q0 := r0.trans (val_main_v48_eq m' c)
    have q1 := (r1.trans (val_main_v49_eq _ _ _)).trans (dw_ref _ _ _)
    have q2 := (r2.trans (val_main_v50_eq _ _ _)).trans (dn_ref _ _ _)
    rw [e0, e1, e2, e3, e4] at q0
    rw [e0, e1, e3] at q1
    rw [e0, e2, e3] at q2
    exact ⟨q0.trans (dx_eq _ _ _ _ _ h0 h1 h2 h3).symm, q1, q2, keep⟩

/-- The second layer's input product backward, its frame over exact arithmetic. -/
theorem frame_gla_in_ideal : Cert.quiescent_GlaInBwdIdeal (hGlaInBwdIdeal := Cert.GlaInBwdIdeal.Gen.facts) := fun m g _ =>
  Cert.GlaInBwdIdeal.Step.run_quiescent (F := Ideal) m g

/-- The frame of the reference of the second layer's input product: host operations alone, no counter. -/
theorem frame_ref4 : Cert.quiescent_GlaInBwdRefIdeal (hGlaInBwdRefIdeal := Cert.GlaInBwdRefIdeal.Gen.facts) := fun m g _ =>
  (θ_run Cert.GlaInBwdRefIdeal.defs _ _).mono (fun r h => ⟨fun c => (h c).2.2.2,
      Idealize.ShloMosaic.sem_eq_zero_of_no_sems (by decide) r.2⟩)
    (Cert.GlaInBwdRefIdeal.Value.run (F := Ideal) m g)

open Cert.GlaInBwdIdeal.Step Cert.GlaInBwdRefIdeal.Read Cert.GlaInBwdRefIdeal.RefValue in
/-- The results of the second layer's input product backward are the derivative of the reference's forward lines, where the arguments that
are multiplied are numbers. -/
theorem value4 : Cert.algebraic_GlaInBwdIdeal_GlaInBwdRefIdeal_pre_finite4 (hGlaInBwdIdeal := Cert.GlaInBwdIdeal.Gen.facts)
    (hGlaInBwdRefIdeal := Cert.GlaInBwdRefIdeal.Gen.facts) (hPre_finite4 := Cert.Pre_finite4.Gen.facts) := by
  intro m g m' g' hpre hargs
  refine ⟨fun c => dxA (a0V m c) (a1V m c) (a2V m c) (a3V m c) (a4V m c), fun c => dwA (a0V m c) (a1V m c) (a3V m c),
    fun c => dnA (a0V m c) (a2V m c) (a3V m c), ?_, ?_⟩
  · exact (θ_run Cert.GlaInBwdIdeal.defs _ _).mono (fun r h c => ⟨(h.1 c).1, (h.1 c).2.1, (h.1 c).2.2, h.2.1 c⟩)
      (θ_run_and (run_sums m g) (run_quiescent m g))
  · refine (θ_run Cert.GlaInBwdRefIdeal.defs _ _).mono (fun r h c => ?_) (Cert.GlaInBwdRefIdeal.Value.run (F := Ideal) m' g')
    obtain ⟨h0, h1, h2, h3⟩ := reals_of_pre _ _ _ _ _ (hpre c)
    obtain ⟨e0, e1, e2, e3, e4⟩ := hargs c
    obtain ⟨r0, r1, r2, keep⟩ := h c
    have q0 := r0.trans (val_main_v48_eq m' c)
    have q1 := (r1.trans (val_main_v51_eq _ _ _)).trans (dw_ref _ _ _)
    have q2 := (r2.trans (val_main_v52_eq _ _ _)).trans (dn_ref _ _ _)
    rw [e0, e1, e2, e3, e4] at q0
    rw [e0, e1, e3] at q1
    rw [e0, e2, e3] at q2
    exact ⟨q0.trans (dx_eq _ _ _ _ _ h0 h1 h2 h3).symm, q1, q2, keep⟩

theorem claim : Cert.Claim := ⟨Cert.PoolBwd.Gen.facts, Cert.PoolBwdIdeal.Gen.facts, Cert.PoolBwdRefIdeal.Gen.facts, Cert.GlaBwd.Gen.facts,
  Cert.GlaBwdIdeal.Gen.facts, Cert.GlaBwdRefIdeal.Gen.facts, Cert.PoolInBwd.Gen.facts, Cert.PoolInBwdIdeal.Gen.facts, Cert.PoolInBwdRefIdeal.Gen.facts,
  Cert.GlaInBwd.Gen.facts, Cert.GlaInBwdIdeal.Gen.facts, Cert.GlaInBwdRefIdeal.Gen.facts,
  Cert.Pre_finite.Gen.facts, Cert.Pre_finite2.Gen.facts, Cert.Pre_finite3.Gen.facts, Cert.Pre_finite4.Gen.facts,
  fun m g _ => Cert.PoolBwd.Gen.frame m g, fun m g _ => Cert.PoolBwdIdeal.Gen.frame m g, fun m g _ => Cert.PoolBwdIdeal.Gen.frame m g,
  frame_ref, fun m g _ => frame_ref m g trivial,
  fun m g _ => Cert.GlaBwd.Gen.frame m g, fun m g _ => Cert.GlaBwdIdeal.Gen.frame m g, fun m g _ => Cert.GlaBwdIdeal.Gen.frame m g,
  frame_ref2, fun m g _ => frame_ref2 m g trivial,
  frame_in, frame_in_ideal, fun m g _ => frame_in_ideal m g trivial, frame_ref3, fun m g _ => frame_ref3 m g trivial,
  frame_gla_in, frame_gla_in_ideal, fun m g _ => frame_gla_in_ideal m g trivial, frame_ref4, fun m g _ => frame_ref4 m g trivial,
  trivial, value, trivial, value2, trivial, value3, trivial, value4⟩

end Cert.Proof

end
